-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite [hPre_finite : Cert.Pre_finite.Facts] (m : (ℓ : Loc Cert.MixIdeal.nD Cert.MixIdeal.τ Cert.MixIdeal.sig) → Buf (Elt Ideal) ℓ) : Prop :=
  ∀ c : Dev Cert.MixIdeal.nD,
    (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6))).1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6))).2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6))).2.2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6))).2.2.2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6))).2.2.2.2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6))).2.2.2.2.2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6))).2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite [hPre_finite : Cert.Pre_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6))).1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6))).2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6))).2.2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6))).2.2.2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6))).2.2.2.2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6))).2.2.2.2.2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6))).2.2.2.2.2.2 = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Afwd (m : (ℓ : Loc Cert.Afwd.nD Cert.Afwd.τ Cert.Afwd.sig) → Buf (Elt Bits) ℓ) : Prop :=
  True

def Pre_AfwdIdeal (m : (ℓ : Loc Cert.AfwdIdeal.nD Cert.AfwdIdeal.τ Cert.AfwdIdeal.sig) → Buf (Elt Ideal) ℓ) : Prop :=
  True

def Pre_AfwdRefIdeal (m : (ℓ : Loc Cert.AfwdRefIdeal.nD Cert.AfwdRefIdeal.τ Cert.AfwdRefIdeal.sig) → Buf (Elt Ideal) ℓ) : Prop :=
  True

def Pre_Bproj (m : (ℓ : Loc Cert.Bproj.nD Cert.Bproj.τ Cert.Bproj.sig) → Buf (Elt Bits) ℓ) : Prop :=
  True

def Pre_BprojIdeal (m : (ℓ : Loc Cert.BprojIdeal.nD Cert.BprojIdeal.τ Cert.BprojIdeal.sig) → Buf (Elt Ideal) ℓ) : Prop :=
  True

def Pre_BprojRefIdeal (m : (ℓ : Loc Cert.BprojRefIdeal.nD Cert.BprojRefIdeal.τ Cert.BprojRefIdeal.sig) → Buf (Elt Ideal) ℓ) : Prop :=
  True

def Pre_Bgrad (m : (ℓ : Loc Cert.Bgrad.nD Cert.Bgrad.τ Cert.Bgrad.sig) → Buf (Elt Bits) ℓ) : Prop :=
  True

def Pre_BgradIdeal (m : (ℓ : Loc Cert.BgradIdeal.nD Cert.BgradIdeal.τ Cert.BgradIdeal.sig) → Buf (Elt Ideal) ℓ) : Prop :=
  True

def Pre_BgradIdeal_finite_bgrad [hPre_finite_bgrad : Cert.Pre_finite_bgrad.Facts] (m : (ℓ : Loc Cert.BgradIdeal.nD Cert.BgradIdeal.τ Cert.BgradIdeal.sig) → Buf (Elt Ideal) ℓ) : Prop :=
  ∀ c : Dev Cert.BgradIdeal.nD,
    (Cert.Pre_finite_bgrad.fn (F := Ideal) (m ((c.tc : Thread Cert.BgradIdeal.nD Cert.BgradIdeal.τ).loc Cert.BgradIdeal.main_arg0)) (m ((c.tc : Thread Cert.BgradIdeal.nD Cert.BgradIdeal.τ).loc Cert.BgradIdeal.main_arg1)) (m ((c.tc : Thread Cert.BgradIdeal.nD Cert.BgradIdeal.τ).loc Cert.BgradIdeal.main_arg2)) (m ((c.tc : Thread Cert.BgradIdeal.nD Cert.BgradIdeal.τ).loc Cert.BgradIdeal.main_arg3)) (m ((c.tc : Thread Cert.BgradIdeal.nD Cert.BgradIdeal.τ).loc Cert.BgradIdeal.main_arg4)) (m ((c.tc : Thread Cert.BgradIdeal.nD Cert.BgradIdeal.τ).loc Cert.BgradIdeal.main_arg5)) (m ((c.tc : Thread Cert.BgradIdeal.nD Cert.BgradIdeal.τ).loc Cert.BgradIdeal.main_arg6)) (m ((c.tc : Thread Cert.BgradIdeal.nD Cert.BgradIdeal.τ).loc Cert.BgradIdeal.main_arg7)) (m ((c.tc : Thread Cert.BgradIdeal.nD Cert.BgradIdeal.τ).loc Cert.BgradIdeal.main_arg8)) (m ((c.tc : Thread Cert.BgradIdeal.nD Cert.BgradIdeal.τ).loc Cert.BgradIdeal.main_arg9)) (m ((c.tc : Thread Cert.BgradIdeal.nD Cert.BgradIdeal.τ).loc Cert.BgradIdeal.main_arg10)) (m ((c.tc : Thread Cert.BgradIdeal.nD Cert.BgradIdeal.τ).loc Cert.BgradIdeal.main_arg11))).1 = (fun _ => 1#1)
    ∧ (Cert.Pre_finite_bgrad.fn (F := Ideal) (m ((c.tc : Thread Cert.BgradIdeal.nD Cert.BgradIdeal.τ).loc Cert.BgradIdeal.main_arg0)) (m ((c.tc : Thread Cert.BgradIdeal.nD Cert.BgradIdeal.τ).loc Cert.BgradIdeal.main_arg1)) (m ((c.tc : Thread Cert.BgradIdeal.nD Cert.BgradIdeal.τ).loc Cert.BgradIdeal.main_arg2)) (m ((c.tc : Thread Cert.BgradIdeal.nD Cert.BgradIdeal.τ).loc Cert.BgradIdeal.main_arg3)) (m ((c.tc : Thread Cert.BgradIdeal.nD Cert.BgradIdeal.τ).loc Cert.BgradIdeal.main_arg4)) (m ((c.tc : Thread Cert.BgradIdeal.nD Cert.BgradIdeal.τ).loc Cert.BgradIdeal.main_arg5)) (m ((c.tc : Thread Cert.BgradIdeal.nD Cert.BgradIdeal.τ).loc Cert.BgradIdeal.main_arg6)) (m ((c.tc : Thread Cert.BgradIdeal.nD Cert.BgradIdeal.τ).loc Cert.BgradIdeal.main_arg7)) (m ((c.tc : Thread Cert.BgradIdeal.nD Cert.BgradIdeal.τ).loc Cert.BgradIdeal.main_arg8)) (m ((c.tc : Thread Cert.BgradIdeal.nD Cert.BgradIdeal.τ).loc Cert.BgradIdeal.main_arg9)) (m ((c.tc : Thread Cert.BgradIdeal.nD Cert.BgradIdeal.τ).loc Cert.BgradIdeal.main_arg10)) (m ((c.tc : Thread Cert.BgradIdeal.nD Cert.BgradIdeal.τ).loc Cert.BgradIdeal.main_arg11))).2.1 = (fun _ => 1#1)
    ∧ (Cert.Pre_finite_bgrad.fn (F := Ideal) (m ((c.tc : Thread Cert.BgradIdeal.nD Cert.BgradIdeal.τ).loc Cert.BgradIdeal.main_arg0)) (m ((c.tc : Thread Cert.BgradIdeal.nD Cert.BgradIdeal.τ).loc Cert.BgradIdeal.main_arg1)) (m ((c.tc : Thread Cert.BgradIdeal.nD Cert.BgradIdeal.τ).loc Cert.BgradIdeal.main_arg2)) (m ((c.tc : Thread Cert.BgradIdeal.nD Cert.BgradIdeal.τ).loc Cert.BgradIdeal.main_arg3)) (m ((c.tc : Thread Cert.BgradIdeal.nD Cert.BgradIdeal.τ).loc Cert.BgradIdeal.main_arg4)) (m ((c.tc : Thread Cert.BgradIdeal.nD Cert.BgradIdeal.τ).loc Cert.BgradIdeal.main_arg5)) (m ((c.tc : Thread Cert.BgradIdeal.nD Cert.BgradIdeal.τ).loc Cert.BgradIdeal.main_arg6)) (m ((c.tc : Thread Cert.BgradIdeal.nD Cert.BgradIdeal.τ).loc Cert.BgradIdeal.main_arg7)) (m ((c.tc : Thread Cert.BgradIdeal.nD Cert.BgradIdeal.τ).loc Cert.BgradIdeal.main_arg8)) (m ((c.tc : Thread Cert.BgradIdeal.nD Cert.BgradIdeal.τ).loc Cert.BgradIdeal.main_arg9)) (m ((c.tc : Thread Cert.BgradIdeal.nD Cert.BgradIdeal.τ).loc Cert.BgradIdeal.main_arg10)) (m ((c.tc : Thread Cert.BgradIdeal.nD Cert.BgradIdeal.τ).loc Cert.BgradIdeal.main_arg11))).2.2.1 = (fun _ => 1#1)
    ∧ (Cert.Pre_finite_bgrad.fn (F := Ideal) (m ((c.tc : Thread Cert.BgradIdeal.nD Cert.BgradIdeal.τ).loc Cert.BgradIdeal.main_arg0)) (m ((c.tc : Thread Cert.BgradIdeal.nD Cert.BgradIdeal.τ).loc Cert.BgradIdeal.main_arg1)) (m ((c.tc : Thread Cert.BgradIdeal.nD Cert.BgradIdeal.τ).loc Cert.BgradIdeal.main_arg2)) (m ((c.tc : Thread Cert.BgradIdeal.nD Cert.BgradIdeal.τ).loc Cert.BgradIdeal.main_arg3)) (m ((c.tc : Thread Cert.BgradIdeal.nD Cert.BgradIdeal.τ).loc Cert.BgradIdeal.main_arg4)) (m ((c.tc : Thread Cert.BgradIdeal.nD Cert.BgradIdeal.τ).loc Cert.BgradIdeal.main_arg5)) (m ((c.tc : Thread Cert.BgradIdeal.nD Cert.BgradIdeal.τ).loc Cert.BgradIdeal.main_arg6)) (m ((c.tc : Thread Cert.BgradIdeal.nD Cert.BgradIdeal.τ).loc Cert.BgradIdeal.main_arg7)) (m ((c.tc : Thread Cert.BgradIdeal.nD Cert.BgradIdeal.τ).loc Cert.BgradIdeal.main_arg8)) (m ((c.tc : Thread Cert.BgradIdeal.nD Cert.BgradIdeal.τ).loc Cert.BgradIdeal.main_arg9)) (m ((c.tc : Thread Cert.BgradIdeal.nD Cert.BgradIdeal.τ).loc Cert.BgradIdeal.main_arg10)) (m ((c.tc : Thread Cert.BgradIdeal.nD Cert.BgradIdeal.τ).loc Cert.BgradIdeal.main_arg11))).2.2.2.1 = (fun _ => 1#1)
    ∧ (Cert.Pre_finite_bgrad.fn (F := Ideal) (m ((c.tc : Thread Cert.BgradIdeal.nD Cert.BgradIdeal.τ).loc Cert.BgradIdeal.main_arg0)) (m ((c.tc : Thread Cert.BgradIdeal.nD Cert.BgradIdeal.τ).loc Cert.BgradIdeal.main_arg1)) (m ((c.tc : Thread Cert.BgradIdeal.nD Cert.BgradIdeal.τ).loc Cert.BgradIdeal.main_arg2)) (m ((c.tc : Thread Cert.BgradIdeal.nD Cert.BgradIdeal.τ).loc Cert.BgradIdeal.main_arg3)) (m ((c.tc : Thread Cert.BgradIdeal.nD Cert.BgradIdeal.τ).loc Cert.BgradIdeal.main_arg4)) (m ((c.tc : Thread Cert.BgradIdeal.nD Cert.BgradIdeal.τ).loc Cert.BgradIdeal.main_arg5)) (m ((c.tc : Thread Cert.BgradIdeal.nD Cert.BgradIdeal.τ).loc Cert.BgradIdeal.main_arg6)) (m ((c.tc : Thread Cert.BgradIdeal.nD Cert.BgradIdeal.τ).loc Cert.BgradIdeal.main_arg7)) (m ((c.tc : Thread Cert.BgradIdeal.nD Cert.BgradIdeal.τ).loc Cert.BgradIdeal.main_arg8)) (m ((c.tc : Thread Cert.BgradIdeal.nD Cert.BgradIdeal.τ).loc Cert.BgradIdeal.main_arg9)) (m ((c.tc : Thread Cert.BgradIdeal.nD Cert.BgradIdeal.τ).loc Cert.BgradIdeal.main_arg10)) (m ((c.tc : Thread Cert.BgradIdeal.nD Cert.BgradIdeal.τ).loc Cert.BgradIdeal.main_arg11))).2.2.2.2.1 = (fun _ => 1#1)
    ∧ (Cert.Pre_finite_bgrad.fn (F := Ideal) (m ((c.tc : Thread Cert.BgradIdeal.nD Cert.BgradIdeal.τ).loc Cert.BgradIdeal.main_arg0)) (m ((c.tc : Thread Cert.BgradIdeal.nD Cert.BgradIdeal.τ).loc Cert.BgradIdeal.main_arg1)) (m ((c.tc : Thread Cert.BgradIdeal.nD Cert.BgradIdeal.τ).loc Cert.BgradIdeal.main_arg2)) (m ((c.tc : Thread Cert.BgradIdeal.nD Cert.BgradIdeal.τ).loc Cert.BgradIdeal.main_arg3)) (m ((c.tc : Thread Cert.BgradIdeal.nD Cert.BgradIdeal.τ).loc Cert.BgradIdeal.main_arg4)) (m ((c.tc : Thread Cert.BgradIdeal.nD Cert.BgradIdeal.τ).loc Cert.BgradIdeal.main_arg5)) (m ((c.tc : Thread Cert.BgradIdeal.nD Cert.BgradIdeal.τ).loc Cert.BgradIdeal.main_arg6)) (m ((c.tc : Thread Cert.BgradIdeal.nD Cert.BgradIdeal.τ).loc Cert.BgradIdeal.main_arg7)) (m ((c.tc : Thread Cert.BgradIdeal.nD Cert.BgradIdeal.τ).loc Cert.BgradIdeal.main_arg8)) (m ((c.tc : Thread Cert.BgradIdeal.nD Cert.BgradIdeal.τ).loc Cert.BgradIdeal.main_arg9)) (m ((c.tc : Thread Cert.BgradIdeal.nD Cert.BgradIdeal.τ).loc Cert.BgradIdeal.main_arg10)) (m ((c.tc : Thread Cert.BgradIdeal.nD Cert.BgradIdeal.τ).loc Cert.BgradIdeal.main_arg11))).2.2.2.2.2.1 = (fun _ => 1#1)
    ∧ (Cert.Pre_finite_bgrad.fn (F := Ideal) (m ((c.tc : Thread Cert.BgradIdeal.nD Cert.BgradIdeal.τ).loc Cert.BgradIdeal.main_arg0)) (m ((c.tc : Thread Cert.BgradIdeal.nD Cert.BgradIdeal.τ).loc Cert.BgradIdeal.main_arg1)) (m ((c.tc : Thread Cert.BgradIdeal.nD Cert.BgradIdeal.τ).loc Cert.BgradIdeal.main_arg2)) (m ((c.tc : Thread Cert.BgradIdeal.nD Cert.BgradIdeal.τ).loc Cert.BgradIdeal.main_arg3)) (m ((c.tc : Thread Cert.BgradIdeal.nD Cert.BgradIdeal.τ).loc Cert.BgradIdeal.main_arg4)) (m ((c.tc : Thread Cert.BgradIdeal.nD Cert.BgradIdeal.τ).loc Cert.BgradIdeal.main_arg5)) (m ((c.tc : Thread Cert.BgradIdeal.nD Cert.BgradIdeal.τ).loc Cert.BgradIdeal.main_arg6)) (m ((c.tc : Thread Cert.BgradIdeal.nD Cert.BgradIdeal.τ).loc Cert.BgradIdeal.main_arg7)) (m ((c.tc : Thread Cert.BgradIdeal.nD Cert.BgradIdeal.τ).loc Cert.BgradIdeal.main_arg8)) (m ((c.tc : Thread Cert.BgradIdeal.nD Cert.BgradIdeal.τ).loc Cert.BgradIdeal.main_arg9)) (m ((c.tc : Thread Cert.BgradIdeal.nD Cert.BgradIdeal.τ).loc Cert.BgradIdeal.main_arg10)) (m ((c.tc : Thread Cert.BgradIdeal.nD Cert.BgradIdeal.τ).loc Cert.BgradIdeal.main_arg11))).2.2.2.2.2.2.1 = (fun _ => 1#1)
    ∧ (Cert.Pre_finite_bgrad.fn (F := Ideal) (m ((c.tc : Thread Cert.BgradIdeal.nD Cert.BgradIdeal.τ).loc Cert.BgradIdeal.main_arg0)) (m ((c.tc : Thread Cert.BgradIdeal.nD Cert.BgradIdeal.τ).loc Cert.BgradIdeal.main_arg1)) (m ((c.tc : Thread Cert.BgradIdeal.nD Cert.BgradIdeal.τ).loc Cert.BgradIdeal.main_arg2)) (m ((c.tc : Thread Cert.BgradIdeal.nD Cert.BgradIdeal.τ).loc Cert.BgradIdeal.main_arg3)) (m ((c.tc : Thread Cert.BgradIdeal.nD Cert.BgradIdeal.τ).loc Cert.BgradIdeal.main_arg4)) (m ((c.tc : Thread Cert.BgradIdeal.nD Cert.BgradIdeal.τ).loc Cert.BgradIdeal.main_arg5)) (m ((c.tc : Thread Cert.BgradIdeal.nD Cert.BgradIdeal.τ).loc Cert.BgradIdeal.main_arg6)) (m ((c.tc : Thread Cert.BgradIdeal.nD Cert.BgradIdeal.τ).loc Cert.BgradIdeal.main_arg7)) (m ((c.tc : Thread Cert.BgradIdeal.nD Cert.BgradIdeal.τ).loc Cert.BgradIdeal.main_arg8)) (m ((c.tc : Thread Cert.BgradIdeal.nD Cert.BgradIdeal.τ).loc Cert.BgradIdeal.main_arg9)) (m ((c.tc : Thread Cert.BgradIdeal.nD Cert.BgradIdeal.τ).loc Cert.BgradIdeal.main_arg10)) (m ((c.tc : Thread Cert.BgradIdeal.nD Cert.BgradIdeal.τ).loc Cert.BgradIdeal.main_arg11))).2.2.2.2.2.2.2.1 = (fun _ => 1#1)
    ∧ (Cert.Pre_finite_bgrad.fn (F := Ideal) (m ((c.tc : Thread Cert.BgradIdeal.nD Cert.BgradIdeal.τ).loc Cert.BgradIdeal.main_arg0)) (m ((c.tc : Thread Cert.BgradIdeal.nD Cert.BgradIdeal.τ).loc Cert.BgradIdeal.main_arg1)) (m ((c.tc : Thread Cert.BgradIdeal.nD Cert.BgradIdeal.τ).loc Cert.BgradIdeal.main_arg2)) (m ((c.tc : Thread Cert.BgradIdeal.nD Cert.BgradIdeal.τ).loc Cert.BgradIdeal.main_arg3)) (m ((c.tc : Thread Cert.BgradIdeal.nD Cert.BgradIdeal.τ).loc Cert.BgradIdeal.main_arg4)) (m ((c.tc : Thread Cert.BgradIdeal.nD Cert.BgradIdeal.τ).loc Cert.BgradIdeal.main_arg5)) (m ((c.tc : Thread Cert.BgradIdeal.nD Cert.BgradIdeal.τ).loc Cert.BgradIdeal.main_arg6)) (m ((c.tc : Thread Cert.BgradIdeal.nD Cert.BgradIdeal.τ).loc Cert.BgradIdeal.main_arg7)) (m ((c.tc : Thread Cert.BgradIdeal.nD Cert.BgradIdeal.τ).loc Cert.BgradIdeal.main_arg8)) (m ((c.tc : Thread Cert.BgradIdeal.nD Cert.BgradIdeal.τ).loc Cert.BgradIdeal.main_arg9)) (m ((c.tc : Thread Cert.BgradIdeal.nD Cert.BgradIdeal.τ).loc Cert.BgradIdeal.main_arg10)) (m ((c.tc : Thread Cert.BgradIdeal.nD Cert.BgradIdeal.τ).loc Cert.BgradIdeal.main_arg11))).2.2.2.2.2.2.2.2.1 = (fun _ => 1#1)
    ∧ (Cert.Pre_finite_bgrad.fn (F := Ideal) (m ((c.tc : Thread Cert.BgradIdeal.nD Cert.BgradIdeal.τ).loc Cert.BgradIdeal.main_arg0)) (m ((c.tc : Thread Cert.BgradIdeal.nD Cert.BgradIdeal.τ).loc Cert.BgradIdeal.main_arg1)) (m ((c.tc : Thread Cert.BgradIdeal.nD Cert.BgradIdeal.τ).loc Cert.BgradIdeal.main_arg2)) (m ((c.tc : Thread Cert.BgradIdeal.nD Cert.BgradIdeal.τ).loc Cert.BgradIdeal.main_arg3)) (m ((c.tc : Thread Cert.BgradIdeal.nD Cert.BgradIdeal.τ).loc Cert.BgradIdeal.main_arg4)) (m ((c.tc : Thread Cert.BgradIdeal.nD Cert.BgradIdeal.τ).loc Cert.BgradIdeal.main_arg5)) (m ((c.tc : Thread Cert.BgradIdeal.nD Cert.BgradIdeal.τ).loc Cert.BgradIdeal.main_arg6)) (m ((c.tc : Thread Cert.BgradIdeal.nD Cert.BgradIdeal.τ).loc Cert.BgradIdeal.main_arg7)) (m ((c.tc : Thread Cert.BgradIdeal.nD Cert.BgradIdeal.τ).loc Cert.BgradIdeal.main_arg8)) (m ((c.tc : Thread Cert.BgradIdeal.nD Cert.BgradIdeal.τ).loc Cert.BgradIdeal.main_arg9)) (m ((c.tc : Thread Cert.BgradIdeal.nD Cert.BgradIdeal.τ).loc Cert.BgradIdeal.main_arg10)) (m ((c.tc : Thread Cert.BgradIdeal.nD Cert.BgradIdeal.τ).loc Cert.BgradIdeal.main_arg11))).2.2.2.2.2.2.2.2.2.1 = (fun _ => 1#1)
    ∧ (Cert.Pre_finite_bgrad.fn (F := Ideal) (m ((c.tc : Thread Cert.BgradIdeal.nD Cert.BgradIdeal.τ).loc Cert.BgradIdeal.main_arg0)) (m ((c.tc : Thread Cert.BgradIdeal.nD Cert.BgradIdeal.τ).loc Cert.BgradIdeal.main_arg1)) (m ((c.tc : Thread Cert.BgradIdeal.nD Cert.BgradIdeal.τ).loc Cert.BgradIdeal.main_arg2)) (m ((c.tc : Thread Cert.BgradIdeal.nD Cert.BgradIdeal.τ).loc Cert.BgradIdeal.main_arg3)) (m ((c.tc : Thread Cert.BgradIdeal.nD Cert.BgradIdeal.τ).loc Cert.BgradIdeal.main_arg4)) (m ((c.tc : Thread Cert.BgradIdeal.nD Cert.BgradIdeal.τ).loc Cert.BgradIdeal.main_arg5)) (m ((c.tc : Thread Cert.BgradIdeal.nD Cert.BgradIdeal.τ).loc Cert.BgradIdeal.main_arg6)) (m ((c.tc : Thread Cert.BgradIdeal.nD Cert.BgradIdeal.τ).loc Cert.BgradIdeal.main_arg7)) (m ((c.tc : Thread Cert.BgradIdeal.nD Cert.BgradIdeal.τ).loc Cert.BgradIdeal.main_arg8)) (m ((c.tc : Thread Cert.BgradIdeal.nD Cert.BgradIdeal.τ).loc Cert.BgradIdeal.main_arg9)) (m ((c.tc : Thread Cert.BgradIdeal.nD Cert.BgradIdeal.τ).loc Cert.BgradIdeal.main_arg10)) (m ((c.tc : Thread Cert.BgradIdeal.nD Cert.BgradIdeal.τ).loc Cert.BgradIdeal.main_arg11))).2.2.2.2.2.2.2.2.2.2 = (fun _ => 1#1)

def Pre_BgradRefIdeal (m : (ℓ : Loc Cert.BgradRefIdeal.nD Cert.BgradRefIdeal.τ Cert.BgradRefIdeal.sig) → Buf (Elt Ideal) ℓ) : Prop :=
  True

def Pre_BgradRefIdeal_finite_bgrad [hPre_finite_bgrad : Cert.Pre_finite_bgrad.Facts] (m : (ℓ : Loc Cert.BgradRefIdeal.nD Cert.BgradRefIdeal.τ Cert.BgradRefIdeal.sig) → Buf (Elt Ideal) ℓ) : Prop :=
  ∀ c : Dev Cert.BgradRefIdeal.nD,
    (Cert.Pre_finite_bgrad.fn (F := Ideal) (m ((c.tc : Thread Cert.BgradRefIdeal.nD Cert.BgradRefIdeal.τ).loc Cert.BgradRefIdeal.main_arg0)) (m ((c.tc : Thread Cert.BgradRefIdeal.nD Cert.BgradRefIdeal.τ).loc Cert.BgradRefIdeal.main_arg1)) (m ((c.tc : Thread Cert.BgradRefIdeal.nD Cert.BgradRefIdeal.τ).loc Cert.BgradRefIdeal.main_arg2)) (m ((c.tc : Thread Cert.BgradRefIdeal.nD Cert.BgradRefIdeal.τ).loc Cert.BgradRefIdeal.main_arg3)) (m ((c.tc : Thread Cert.BgradRefIdeal.nD Cert.BgradRefIdeal.τ).loc Cert.BgradRefIdeal.main_arg4)) (m ((c.tc : Thread Cert.BgradRefIdeal.nD Cert.BgradRefIdeal.τ).loc Cert.BgradRefIdeal.main_arg5)) (m ((c.tc : Thread Cert.BgradRefIdeal.nD Cert.BgradRefIdeal.τ).loc Cert.BgradRefIdeal.main_arg6)) (m ((c.tc : Thread Cert.BgradRefIdeal.nD Cert.BgradRefIdeal.τ).loc Cert.BgradRefIdeal.main_arg7)) (m ((c.tc : Thread Cert.BgradRefIdeal.nD Cert.BgradRefIdeal.τ).loc Cert.BgradRefIdeal.main_arg8)) (m ((c.tc : Thread Cert.BgradRefIdeal.nD Cert.BgradRefIdeal.τ).loc Cert.BgradRefIdeal.main_arg9)) (m ((c.tc : Thread Cert.BgradRefIdeal.nD Cert.BgradRefIdeal.τ).loc Cert.BgradRefIdeal.main_arg10)) (m ((c.tc : Thread Cert.BgradRefIdeal.nD Cert.BgradRefIdeal.τ).loc Cert.BgradRefIdeal.main_arg11))).1 = (fun _ => 1#1)
    ∧ (Cert.Pre_finite_bgrad.fn (F := Ideal) (m ((c.tc : Thread Cert.BgradRefIdeal.nD Cert.BgradRefIdeal.τ).loc Cert.BgradRefIdeal.main_arg0)) (m ((c.tc : Thread Cert.BgradRefIdeal.nD Cert.BgradRefIdeal.τ).loc Cert.BgradRefIdeal.main_arg1)) (m ((c.tc : Thread Cert.BgradRefIdeal.nD Cert.BgradRefIdeal.τ).loc Cert.BgradRefIdeal.main_arg2)) (m ((c.tc : Thread Cert.BgradRefIdeal.nD Cert.BgradRefIdeal.τ).loc Cert.BgradRefIdeal.main_arg3)) (m ((c.tc : Thread Cert.BgradRefIdeal.nD Cert.BgradRefIdeal.τ).loc Cert.BgradRefIdeal.main_arg4)) (m ((c.tc : Thread Cert.BgradRefIdeal.nD Cert.BgradRefIdeal.τ).loc Cert.BgradRefIdeal.main_arg5)) (m ((c.tc : Thread Cert.BgradRefIdeal.nD Cert.BgradRefIdeal.τ).loc Cert.BgradRefIdeal.main_arg6)) (m ((c.tc : Thread Cert.BgradRefIdeal.nD Cert.BgradRefIdeal.τ).loc Cert.BgradRefIdeal.main_arg7)) (m ((c.tc : Thread Cert.BgradRefIdeal.nD Cert.BgradRefIdeal.τ).loc Cert.BgradRefIdeal.main_arg8)) (m ((c.tc : Thread Cert.BgradRefIdeal.nD Cert.BgradRefIdeal.τ).loc Cert.BgradRefIdeal.main_arg9)) (m ((c.tc : Thread Cert.BgradRefIdeal.nD Cert.BgradRefIdeal.τ).loc Cert.BgradRefIdeal.main_arg10)) (m ((c.tc : Thread Cert.BgradRefIdeal.nD Cert.BgradRefIdeal.τ).loc Cert.BgradRefIdeal.main_arg11))).2.1 = (fun _ => 1#1)
    ∧ (Cert.Pre_finite_bgrad.fn (F := Ideal) (m ((c.tc : Thread Cert.BgradRefIdeal.nD Cert.BgradRefIdeal.τ).loc Cert.BgradRefIdeal.main_arg0)) (m ((c.tc : Thread Cert.BgradRefIdeal.nD Cert.BgradRefIdeal.τ).loc Cert.BgradRefIdeal.main_arg1)) (m ((c.tc : Thread Cert.BgradRefIdeal.nD Cert.BgradRefIdeal.τ).loc Cert.BgradRefIdeal.main_arg2)) (m ((c.tc : Thread Cert.BgradRefIdeal.nD Cert.BgradRefIdeal.τ).loc Cert.BgradRefIdeal.main_arg3)) (m ((c.tc : Thread Cert.BgradRefIdeal.nD Cert.BgradRefIdeal.τ).loc Cert.BgradRefIdeal.main_arg4)) (m ((c.tc : Thread Cert.BgradRefIdeal.nD Cert.BgradRefIdeal.τ).loc Cert.BgradRefIdeal.main_arg5)) (m ((c.tc : Thread Cert.BgradRefIdeal.nD Cert.BgradRefIdeal.τ).loc Cert.BgradRefIdeal.main_arg6)) (m ((c.tc : Thread Cert.BgradRefIdeal.nD Cert.BgradRefIdeal.τ).loc Cert.BgradRefIdeal.main_arg7)) (m ((c.tc : Thread Cert.BgradRefIdeal.nD Cert.BgradRefIdeal.τ).loc Cert.BgradRefIdeal.main_arg8)) (m ((c.tc : Thread Cert.BgradRefIdeal.nD Cert.BgradRefIdeal.τ).loc Cert.BgradRefIdeal.main_arg9)) (m ((c.tc : Thread Cert.BgradRefIdeal.nD Cert.BgradRefIdeal.τ).loc Cert.BgradRefIdeal.main_arg10)) (m ((c.tc : Thread Cert.BgradRefIdeal.nD Cert.BgradRefIdeal.τ).loc Cert.BgradRefIdeal.main_arg11))).2.2.1 = (fun _ => 1#1)
    ∧ (Cert.Pre_finite_bgrad.fn (F := Ideal) (m ((c.tc : Thread Cert.BgradRefIdeal.nD Cert.BgradRefIdeal.τ).loc Cert.BgradRefIdeal.main_arg0)) (m ((c.tc : Thread Cert.BgradRefIdeal.nD Cert.BgradRefIdeal.τ).loc Cert.BgradRefIdeal.main_arg1)) (m ((c.tc : Thread Cert.BgradRefIdeal.nD Cert.BgradRefIdeal.τ).loc Cert.BgradRefIdeal.main_arg2)) (m ((c.tc : Thread Cert.BgradRefIdeal.nD Cert.BgradRefIdeal.τ).loc Cert.BgradRefIdeal.main_arg3)) (m ((c.tc : Thread Cert.BgradRefIdeal.nD Cert.BgradRefIdeal.τ).loc Cert.BgradRefIdeal.main_arg4)) (m ((c.tc : Thread Cert.BgradRefIdeal.nD Cert.BgradRefIdeal.τ).loc Cert.BgradRefIdeal.main_arg5)) (m ((c.tc : Thread Cert.BgradRefIdeal.nD Cert.BgradRefIdeal.τ).loc Cert.BgradRefIdeal.main_arg6)) (m ((c.tc : Thread Cert.BgradRefIdeal.nD Cert.BgradRefIdeal.τ).loc Cert.BgradRefIdeal.main_arg7)) (m ((c.tc : Thread Cert.BgradRefIdeal.nD Cert.BgradRefIdeal.τ).loc Cert.BgradRefIdeal.main_arg8)) (m ((c.tc : Thread Cert.BgradRefIdeal.nD Cert.BgradRefIdeal.τ).loc Cert.BgradRefIdeal.main_arg9)) (m ((c.tc : Thread Cert.BgradRefIdeal.nD Cert.BgradRefIdeal.τ).loc Cert.BgradRefIdeal.main_arg10)) (m ((c.tc : Thread Cert.BgradRefIdeal.nD Cert.BgradRefIdeal.τ).loc Cert.BgradRefIdeal.main_arg11))).2.2.2.1 = (fun _ => 1#1)
    ∧ (Cert.Pre_finite_bgrad.fn (F := Ideal) (m ((c.tc : Thread Cert.BgradRefIdeal.nD Cert.BgradRefIdeal.τ).loc Cert.BgradRefIdeal.main_arg0)) (m ((c.tc : Thread Cert.BgradRefIdeal.nD Cert.BgradRefIdeal.τ).loc Cert.BgradRefIdeal.main_arg1)) (m ((c.tc : Thread Cert.BgradRefIdeal.nD Cert.BgradRefIdeal.τ).loc Cert.BgradRefIdeal.main_arg2)) (m ((c.tc : Thread Cert.BgradRefIdeal.nD Cert.BgradRefIdeal.τ).loc Cert.BgradRefIdeal.main_arg3)) (m ((c.tc : Thread Cert.BgradRefIdeal.nD Cert.BgradRefIdeal.τ).loc Cert.BgradRefIdeal.main_arg4)) (m ((c.tc : Thread Cert.BgradRefIdeal.nD Cert.BgradRefIdeal.τ).loc Cert.BgradRefIdeal.main_arg5)) (m ((c.tc : Thread Cert.BgradRefIdeal.nD Cert.BgradRefIdeal.τ).loc Cert.BgradRefIdeal.main_arg6)) (m ((c.tc : Thread Cert.BgradRefIdeal.nD Cert.BgradRefIdeal.τ).loc Cert.BgradRefIdeal.main_arg7)) (m ((c.tc : Thread Cert.BgradRefIdeal.nD Cert.BgradRefIdeal.τ).loc Cert.BgradRefIdeal.main_arg8)) (m ((c.tc : Thread Cert.BgradRefIdeal.nD Cert.BgradRefIdeal.τ).loc Cert.BgradRefIdeal.main_arg9)) (m ((c.tc : Thread Cert.BgradRefIdeal.nD Cert.BgradRefIdeal.τ).loc Cert.BgradRefIdeal.main_arg10)) (m ((c.tc : Thread Cert.BgradRefIdeal.nD Cert.BgradRefIdeal.τ).loc Cert.BgradRefIdeal.main_arg11))).2.2.2.2.1 = (fun _ => 1#1)
    ∧ (Cert.Pre_finite_bgrad.fn (F := Ideal) (m ((c.tc : Thread Cert.BgradRefIdeal.nD Cert.BgradRefIdeal.τ).loc Cert.BgradRefIdeal.main_arg0)) (m ((c.tc : Thread Cert.BgradRefIdeal.nD Cert.BgradRefIdeal.τ).loc Cert.BgradRefIdeal.main_arg1)) (m ((c.tc : Thread Cert.BgradRefIdeal.nD Cert.BgradRefIdeal.τ).loc Cert.BgradRefIdeal.main_arg2)) (m ((c.tc : Thread Cert.BgradRefIdeal.nD Cert.BgradRefIdeal.τ).loc Cert.BgradRefIdeal.main_arg3)) (m ((c.tc : Thread Cert.BgradRefIdeal.nD Cert.BgradRefIdeal.τ).loc Cert.BgradRefIdeal.main_arg4)) (m ((c.tc : Thread Cert.BgradRefIdeal.nD Cert.BgradRefIdeal.τ).loc Cert.BgradRefIdeal.main_arg5)) (m ((c.tc : Thread Cert.BgradRefIdeal.nD Cert.BgradRefIdeal.τ).loc Cert.BgradRefIdeal.main_arg6)) (m ((c.tc : Thread Cert.BgradRefIdeal.nD Cert.BgradRefIdeal.τ).loc Cert.BgradRefIdeal.main_arg7)) (m ((c.tc : Thread Cert.BgradRefIdeal.nD Cert.BgradRefIdeal.τ).loc Cert.BgradRefIdeal.main_arg8)) (m ((c.tc : Thread Cert.BgradRefIdeal.nD Cert.BgradRefIdeal.τ).loc Cert.BgradRefIdeal.main_arg9)) (m ((c.tc : Thread Cert.BgradRefIdeal.nD Cert.BgradRefIdeal.τ).loc Cert.BgradRefIdeal.main_arg10)) (m ((c.tc : Thread Cert.BgradRefIdeal.nD Cert.BgradRefIdeal.τ).loc Cert.BgradRefIdeal.main_arg11))).2.2.2.2.2.1 = (fun _ => 1#1)
    ∧ (Cert.Pre_finite_bgrad.fn (F := Ideal) (m ((c.tc : Thread Cert.BgradRefIdeal.nD Cert.BgradRefIdeal.τ).loc Cert.BgradRefIdeal.main_arg0)) (m ((c.tc : Thread Cert.BgradRefIdeal.nD Cert.BgradRefIdeal.τ).loc Cert.BgradRefIdeal.main_arg1)) (m ((c.tc : Thread Cert.BgradRefIdeal.nD Cert.BgradRefIdeal.τ).loc Cert.BgradRefIdeal.main_arg2)) (m ((c.tc : Thread Cert.BgradRefIdeal.nD Cert.BgradRefIdeal.τ).loc Cert.BgradRefIdeal.main_arg3)) (m ((c.tc : Thread Cert.BgradRefIdeal.nD Cert.BgradRefIdeal.τ).loc Cert.BgradRefIdeal.main_arg4)) (m ((c.tc : Thread Cert.BgradRefIdeal.nD Cert.BgradRefIdeal.τ).loc Cert.BgradRefIdeal.main_arg5)) (m ((c.tc : Thread Cert.BgradRefIdeal.nD Cert.BgradRefIdeal.τ).loc Cert.BgradRefIdeal.main_arg6)) (m ((c.tc : Thread Cert.BgradRefIdeal.nD Cert.BgradRefIdeal.τ).loc Cert.BgradRefIdeal.main_arg7)) (m ((c.tc : Thread Cert.BgradRefIdeal.nD Cert.BgradRefIdeal.τ).loc Cert.BgradRefIdeal.main_arg8)) (m ((c.tc : Thread Cert.BgradRefIdeal.nD Cert.BgradRefIdeal.τ).loc Cert.BgradRefIdeal.main_arg9)) (m ((c.tc : Thread Cert.BgradRefIdeal.nD Cert.BgradRefIdeal.τ).loc Cert.BgradRefIdeal.main_arg10)) (m ((c.tc : Thread Cert.BgradRefIdeal.nD Cert.BgradRefIdeal.τ).loc Cert.BgradRefIdeal.main_arg11))).2.2.2.2.2.2.1 = (fun _ => 1#1)
    ∧ (Cert.Pre_finite_bgrad.fn (F := Ideal) (m ((c.tc : Thread Cert.BgradRefIdeal.nD Cert.BgradRefIdeal.τ).loc Cert.BgradRefIdeal.main_arg0)) (m ((c.tc : Thread Cert.BgradRefIdeal.nD Cert.BgradRefIdeal.τ).loc Cert.BgradRefIdeal.main_arg1)) (m ((c.tc : Thread Cert.BgradRefIdeal.nD Cert.BgradRefIdeal.τ).loc Cert.BgradRefIdeal.main_arg2)) (m ((c.tc : Thread Cert.BgradRefIdeal.nD Cert.BgradRefIdeal.τ).loc Cert.BgradRefIdeal.main_arg3)) (m ((c.tc : Thread Cert.BgradRefIdeal.nD Cert.BgradRefIdeal.τ).loc Cert.BgradRefIdeal.main_arg4)) (m ((c.tc : Thread Cert.BgradRefIdeal.nD Cert.BgradRefIdeal.τ).loc Cert.BgradRefIdeal.main_arg5)) (m ((c.tc : Thread Cert.BgradRefIdeal.nD Cert.BgradRefIdeal.τ).loc Cert.BgradRefIdeal.main_arg6)) (m ((c.tc : Thread Cert.BgradRefIdeal.nD Cert.BgradRefIdeal.τ).loc Cert.BgradRefIdeal.main_arg7)) (m ((c.tc : Thread Cert.BgradRefIdeal.nD Cert.BgradRefIdeal.τ).loc Cert.BgradRefIdeal.main_arg8)) (m ((c.tc : Thread Cert.BgradRefIdeal.nD Cert.BgradRefIdeal.τ).loc Cert.BgradRefIdeal.main_arg9)) (m ((c.tc : Thread Cert.BgradRefIdeal.nD Cert.BgradRefIdeal.τ).loc Cert.BgradRefIdeal.main_arg10)) (m ((c.tc : Thread Cert.BgradRefIdeal.nD Cert.BgradRefIdeal.τ).loc Cert.BgradRefIdeal.main_arg11))).2.2.2.2.2.2.2.1 = (fun _ => 1#1)
    ∧ (Cert.Pre_finite_bgrad.fn (F := Ideal) (m ((c.tc : Thread Cert.BgradRefIdeal.nD Cert.BgradRefIdeal.τ).loc Cert.BgradRefIdeal.main_arg0)) (m ((c.tc : Thread Cert.BgradRefIdeal.nD Cert.BgradRefIdeal.τ).loc Cert.BgradRefIdeal.main_arg1)) (m ((c.tc : Thread Cert.BgradRefIdeal.nD Cert.BgradRefIdeal.τ).loc Cert.BgradRefIdeal.main_arg2)) (m ((c.tc : Thread Cert.BgradRefIdeal.nD Cert.BgradRefIdeal.τ).loc Cert.BgradRefIdeal.main_arg3)) (m ((c.tc : Thread Cert.BgradRefIdeal.nD Cert.BgradRefIdeal.τ).loc Cert.BgradRefIdeal.main_arg4)) (m ((c.tc : Thread Cert.BgradRefIdeal.nD Cert.BgradRefIdeal.τ).loc Cert.BgradRefIdeal.main_arg5)) (m ((c.tc : Thread Cert.BgradRefIdeal.nD Cert.BgradRefIdeal.τ).loc Cert.BgradRefIdeal.main_arg6)) (m ((c.tc : Thread Cert.BgradRefIdeal.nD Cert.BgradRefIdeal.τ).loc Cert.BgradRefIdeal.main_arg7)) (m ((c.tc : Thread Cert.BgradRefIdeal.nD Cert.BgradRefIdeal.τ).loc Cert.BgradRefIdeal.main_arg8)) (m ((c.tc : Thread Cert.BgradRefIdeal.nD Cert.BgradRefIdeal.τ).loc Cert.BgradRefIdeal.main_arg9)) (m ((c.tc : Thread Cert.BgradRefIdeal.nD Cert.BgradRefIdeal.τ).loc Cert.BgradRefIdeal.main_arg10)) (m ((c.tc : Thread Cert.BgradRefIdeal.nD Cert.BgradRefIdeal.τ).loc Cert.BgradRefIdeal.main_arg11))).2.2.2.2.2.2.2.2.1 = (fun _ => 1#1)
    ∧ (Cert.Pre_finite_bgrad.fn (F := Ideal) (m ((c.tc : Thread Cert.BgradRefIdeal.nD Cert.BgradRefIdeal.τ).loc Cert.BgradRefIdeal.main_arg0)) (m ((c.tc : Thread Cert.BgradRefIdeal.nD Cert.BgradRefIdeal.τ).loc Cert.BgradRefIdeal.main_arg1)) (m ((c.tc : Thread Cert.BgradRefIdeal.nD Cert.BgradRefIdeal.τ).loc Cert.BgradRefIdeal.main_arg2)) (m ((c.tc : Thread Cert.BgradRefIdeal.nD Cert.BgradRefIdeal.τ).loc Cert.BgradRefIdeal.main_arg3)) (m ((c.tc : Thread Cert.BgradRefIdeal.nD Cert.BgradRefIdeal.τ).loc Cert.BgradRefIdeal.main_arg4)) (m ((c.tc : Thread Cert.BgradRefIdeal.nD Cert.BgradRefIdeal.τ).loc Cert.BgradRefIdeal.main_arg5)) (m ((c.tc : Thread Cert.BgradRefIdeal.nD Cert.BgradRefIdeal.τ).loc Cert.BgradRefIdeal.main_arg6)) (m ((c.tc : Thread Cert.BgradRefIdeal.nD Cert.BgradRefIdeal.τ).loc Cert.BgradRefIdeal.main_arg7)) (m ((c.tc : Thread Cert.BgradRefIdeal.nD Cert.BgradRefIdeal.τ).loc Cert.BgradRefIdeal.main_arg8)) (m ((c.tc : Thread Cert.BgradRefIdeal.nD Cert.BgradRefIdeal.τ).loc Cert.BgradRefIdeal.main_arg9)) (m ((c.tc : Thread Cert.BgradRefIdeal.nD Cert.BgradRefIdeal.τ).loc Cert.BgradRefIdeal.main_arg10)) (m ((c.tc : Thread Cert.BgradRefIdeal.nD Cert.BgradRefIdeal.τ).loc Cert.BgradRefIdeal.main_arg11))).2.2.2.2.2.2.2.2.2.1 = (fun _ => 1#1)
    ∧ (Cert.Pre_finite_bgrad.fn (F := Ideal) (m ((c.tc : Thread Cert.BgradRefIdeal.nD Cert.BgradRefIdeal.τ).loc Cert.BgradRefIdeal.main_arg0)) (m ((c.tc : Thread Cert.BgradRefIdeal.nD Cert.BgradRefIdeal.τ).loc Cert.BgradRefIdeal.main_arg1)) (m ((c.tc : Thread Cert.BgradRefIdeal.nD Cert.BgradRefIdeal.τ).loc Cert.BgradRefIdeal.main_arg2)) (m ((c.tc : Thread Cert.BgradRefIdeal.nD Cert.BgradRefIdeal.τ).loc Cert.BgradRefIdeal.main_arg3)) (m ((c.tc : Thread Cert.BgradRefIdeal.nD Cert.BgradRefIdeal.τ).loc Cert.BgradRefIdeal.main_arg4)) (m ((c.tc : Thread Cert.BgradRefIdeal.nD Cert.BgradRefIdeal.τ).loc Cert.BgradRefIdeal.main_arg5)) (m ((c.tc : Thread Cert.BgradRefIdeal.nD Cert.BgradRefIdeal.τ).loc Cert.BgradRefIdeal.main_arg6)) (m ((c.tc : Thread Cert.BgradRefIdeal.nD Cert.BgradRefIdeal.τ).loc Cert.BgradRefIdeal.main_arg7)) (m ((c.tc : Thread Cert.BgradRefIdeal.nD Cert.BgradRefIdeal.τ).loc Cert.BgradRefIdeal.main_arg8)) (m ((c.tc : Thread Cert.BgradRefIdeal.nD Cert.BgradRefIdeal.τ).loc Cert.BgradRefIdeal.main_arg9)) (m ((c.tc : Thread Cert.BgradRefIdeal.nD Cert.BgradRefIdeal.τ).loc Cert.BgradRefIdeal.main_arg10)) (m ((c.tc : Thread Cert.BgradRefIdeal.nD Cert.BgradRefIdeal.τ).loc Cert.BgradRefIdeal.main_arg11))).2.2.2.2.2.2.2.2.2.2 = (fun _ => 1#1)

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixIdeal_pre_finite [hMixIdeal : Cert.MixIdeal.Facts] [hPre_finite : Cert.Pre_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_MixRefIdeal_pre_finite [hMixRefIdeal : Cert.MixRefIdeal.Facts] [hPre_finite : Cert.Pre_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7)
      ∧ r.2.mem ((c.tc : Thread Cert.Dx.nD Cert.Dx.τ).loc Cert.Dx.main_arg8) = m ((c.tc : Thread Cert.Dx.nD Cert.Dx.τ).loc Cert.Dx.main_arg8)
      ∧ r.2.mem ((c.tc : Thread Cert.Dx.nD Cert.Dx.τ).loc Cert.Dx.main_arg9) = m ((c.tc : Thread Cert.Dx.nD Cert.Dx.τ).loc Cert.Dx.main_arg9)
      ∧ r.2.mem ((c.tc : Thread Cert.Dx.nD Cert.Dx.τ).loc Cert.Dx.main_arg10) = m ((c.tc : Thread Cert.Dx.nD Cert.Dx.τ).loc Cert.Dx.main_arg10)
      ∧ r.2.mem ((c.tc : Thread Cert.Dx.nD Cert.Dx.τ).loc Cert.Dx.main_arg11) = m ((c.tc : Thread Cert.Dx.nD Cert.Dx.τ).loc Cert.Dx.main_arg11)
      ∧ r.2.mem ((c.tc : Thread Cert.Dx.nD Cert.Dx.τ).loc Cert.Dx.main_arg12) = m ((c.tc : Thread Cert.Dx.nD Cert.Dx.τ).loc Cert.Dx.main_arg12)
      ∧ r.2.mem ((c.tc : Thread Cert.Dx.nD Cert.Dx.τ).loc Cert.Dx.main_arg13) = m ((c.tc : Thread Cert.Dx.nD Cert.Dx.τ).loc Cert.Dx.main_arg13)
      ∧ r.2.mem ((c.tc : Thread Cert.Dx.nD Cert.Dx.τ).loc Cert.Dx.main_arg14) = m ((c.tc : Thread Cert.Dx.nD Cert.Dx.τ).loc Cert.Dx.main_arg14)
      ∧ r.2.mem ((c.tc : Thread Cert.Dx.nD Cert.Dx.τ).loc Cert.Dx.main_arg15) = m ((c.tc : Thread Cert.Dx.nD Cert.Dx.τ).loc Cert.Dx.main_arg15)
      ∧ r.2.mem ((c.tc : Thread Cert.Dx.nD Cert.Dx.τ).loc Cert.Dx.main_arg16) = m ((c.tc : Thread Cert.Dx.nD Cert.Dx.τ).loc Cert.Dx.main_arg16)
      ∧ r.2.mem ((c.tc : Thread Cert.Dx.nD Cert.Dx.τ).loc Cert.Dx.main_arg17) = m ((c.tc : Thread Cert.Dx.nD Cert.Dx.τ).loc Cert.Dx.main_arg17)
      ∧ r.2.mem ((c.tc : Thread Cert.Dx.nD Cert.Dx.τ).loc Cert.Dx.main_arg18) = m ((c.tc : Thread Cert.Dx.nD Cert.Dx.τ).loc Cert.Dx.main_arg18)
      ∧ r.2.mem ((c.tc : Thread Cert.Dx.nD Cert.Dx.τ).loc Cert.Dx.main_arg19) = m ((c.tc : Thread Cert.Dx.nD Cert.Dx.τ).loc Cert.Dx.main_arg19))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
      ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
      ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
      ∧ r.2.mem ((c.tc : Thread Cert.DxIdeal.nD Cert.DxIdeal.τ).loc Cert.DxIdeal.main_arg12) = m ((c.tc : Thread Cert.DxIdeal.nD Cert.DxIdeal.τ).loc Cert.DxIdeal.main_arg12)
      ∧ r.2.mem ((c.tc : Thread Cert.DxIdeal.nD Cert.DxIdeal.τ).loc Cert.DxIdeal.main_arg13) = m ((c.tc : Thread Cert.DxIdeal.nD Cert.DxIdeal.τ).loc Cert.DxIdeal.main_arg13)
      ∧ r.2.mem ((c.tc : Thread Cert.DxIdeal.nD Cert.DxIdeal.τ).loc Cert.DxIdeal.main_arg14) = m ((c.tc : Thread Cert.DxIdeal.nD Cert.DxIdeal.τ).loc Cert.DxIdeal.main_arg14)
      ∧ r.2.mem ((c.tc : Thread Cert.DxIdeal.nD Cert.DxIdeal.τ).loc Cert.DxIdeal.main_arg15) = m ((c.tc : Thread Cert.DxIdeal.nD Cert.DxIdeal.τ).loc Cert.DxIdeal.main_arg15)
      ∧ r.2.mem ((c.tc : Thread Cert.DxIdeal.nD Cert.DxIdeal.τ).loc Cert.DxIdeal.main_arg16) = m ((c.tc : Thread Cert.DxIdeal.nD Cert.DxIdeal.τ).loc Cert.DxIdeal.main_arg16)
      ∧ r.2.mem ((c.tc : Thread Cert.DxIdeal.nD Cert.DxIdeal.τ).loc Cert.DxIdeal.main_arg17) = m ((c.tc : Thread Cert.DxIdeal.nD Cert.DxIdeal.τ).loc Cert.DxIdeal.main_arg17)
      ∧ r.2.mem ((c.tc : Thread Cert.DxIdeal.nD Cert.DxIdeal.τ).loc Cert.DxIdeal.main_arg18) = m ((c.tc : Thread Cert.DxIdeal.nD Cert.DxIdeal.τ).loc Cert.DxIdeal.main_arg18)
      ∧ r.2.mem ((c.tc : Thread Cert.DxIdeal.nD Cert.DxIdeal.τ).loc Cert.DxIdeal.main_arg19) = m ((c.tc : Thread Cert.DxIdeal.nD Cert.DxIdeal.τ).loc Cert.DxIdeal.main_arg19))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8)
      ∧ r.2.mem ((c.tc : Thread Cert.DxRefIdeal.nD Cert.DxRefIdeal.τ).loc Cert.DxRefIdeal.main_arg9) = m ((c.tc : Thread Cert.DxRefIdeal.nD Cert.DxRefIdeal.τ).loc Cert.DxRefIdeal.main_arg9)
      ∧ r.2.mem ((c.tc : Thread Cert.DxRefIdeal.nD Cert.DxRefIdeal.τ).loc Cert.DxRefIdeal.main_arg10) = m ((c.tc : Thread Cert.DxRefIdeal.nD Cert.DxRefIdeal.τ).loc Cert.DxRefIdeal.main_arg10)
      ∧ r.2.mem ((c.tc : Thread Cert.DxRefIdeal.nD Cert.DxRefIdeal.τ).loc Cert.DxRefIdeal.main_arg11) = m ((c.tc : Thread Cert.DxRefIdeal.nD Cert.DxRefIdeal.τ).loc Cert.DxRefIdeal.main_arg11)
      ∧ r.2.mem ((c.tc : Thread Cert.DxRefIdeal.nD Cert.DxRefIdeal.τ).loc Cert.DxRefIdeal.main_arg12) = m ((c.tc : Thread Cert.DxRefIdeal.nD Cert.DxRefIdeal.τ).loc Cert.DxRefIdeal.main_arg12)
      ∧ r.2.mem ((c.tc : Thread Cert.DxRefIdeal.nD Cert.DxRefIdeal.τ).loc Cert.DxRefIdeal.main_arg13) = m ((c.tc : Thread Cert.DxRefIdeal.nD Cert.DxRefIdeal.τ).loc Cert.DxRefIdeal.main_arg13)
      ∧ r.2.mem ((c.tc : Thread Cert.DxRefIdeal.nD Cert.DxRefIdeal.τ).loc Cert.DxRefIdeal.main_arg14) = m ((c.tc : Thread Cert.DxRefIdeal.nD Cert.DxRefIdeal.τ).loc Cert.DxRefIdeal.main_arg14)
      ∧ r.2.mem ((c.tc : Thread Cert.DxRefIdeal.nD Cert.DxRefIdeal.τ).loc Cert.DxRefIdeal.main_arg15) = m ((c.tc : Thread Cert.DxRefIdeal.nD Cert.DxRefIdeal.τ).loc Cert.DxRefIdeal.main_arg15)
      ∧ r.2.mem ((c.tc : Thread Cert.DxRefIdeal.nD Cert.DxRefIdeal.τ).loc Cert.DxRefIdeal.main_arg16) = m ((c.tc : Thread Cert.DxRefIdeal.nD Cert.DxRefIdeal.τ).loc Cert.DxRefIdeal.main_arg16)
      ∧ r.2.mem ((c.tc : Thread Cert.DxRefIdeal.nD Cert.DxRefIdeal.τ).loc Cert.DxRefIdeal.main_arg17) = m ((c.tc : Thread Cert.DxRefIdeal.nD Cert.DxRefIdeal.τ).loc Cert.DxRefIdeal.main_arg17)
      ∧ r.2.mem ((c.tc : Thread Cert.DxRefIdeal.nD Cert.DxRefIdeal.τ).loc Cert.DxRefIdeal.main_arg18) = m ((c.tc : Thread Cert.DxRefIdeal.nD Cert.DxRefIdeal.τ).loc Cert.DxRefIdeal.main_arg18)
      ∧ r.2.mem ((c.tc : Thread Cert.DxRefIdeal.nD Cert.DxRefIdeal.τ).loc Cert.DxRefIdeal.main_arg19) = m ((c.tc : Thread Cert.DxRefIdeal.nD Cert.DxRefIdeal.τ).loc Cert.DxRefIdeal.main_arg19))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3))
      ∧ r.2.sem = fun _ => 0)

def quiescent_Afwd [hAfwd : Cert.Afwd.Facts] : Prop :=
  ∀ (m : (ℓ : Loc Cert.Afwd.nD Cert.Afwd.τ Cert.Afwd.sig) → Buf (Elt Bits) ℓ) (g : Dev Cert.Afwd.nD → PrngReg), Pre_Afwd m →
    θ_run (Cert.Afwd.defs (F := Bits)) (onTc (τ := Cert.Afwd.τ) (Cert.Afwd.main (F := Bits))) ⟨m, fun _ => 0, g⟩ (fun r => (∀ c : Dev Cert.Afwd.nD,
      r.2.mem ((c.tc : Thread Cert.Afwd.nD Cert.Afwd.τ).loc Cert.Afwd.main_arg0) = m ((c.tc : Thread Cert.Afwd.nD Cert.Afwd.τ).loc Cert.Afwd.main_arg0)
      ∧ r.2.mem ((c.tc : Thread Cert.Afwd.nD Cert.Afwd.τ).loc Cert.Afwd.main_arg1) = m ((c.tc : Thread Cert.Afwd.nD Cert.Afwd.τ).loc Cert.Afwd.main_arg1)
      ∧ r.2.mem ((c.tc : Thread Cert.Afwd.nD Cert.Afwd.τ).loc Cert.Afwd.main_arg2) = m ((c.tc : Thread Cert.Afwd.nD Cert.Afwd.τ).loc Cert.Afwd.main_arg2)
      ∧ r.2.mem ((c.tc : Thread Cert.Afwd.nD Cert.Afwd.τ).loc Cert.Afwd.main_arg3) = m ((c.tc : Thread Cert.Afwd.nD Cert.Afwd.τ).loc Cert.Afwd.main_arg3)
      ∧ r.2.mem ((c.tc : Thread Cert.Afwd.nD Cert.Afwd.τ).loc Cert.Afwd.main_arg4) = m ((c.tc : Thread Cert.Afwd.nD Cert.Afwd.τ).loc Cert.Afwd.main_arg4)
      ∧ r.2.mem ((c.tc : Thread Cert.Afwd.nD Cert.Afwd.τ).loc Cert.Afwd.main_arg5) = m ((c.tc : Thread Cert.Afwd.nD Cert.Afwd.τ).loc Cert.Afwd.main_arg5))
      ∧ r.2.sem = fun _ => 0)

def quiescent_AfwdIdeal [hAfwdIdeal : Cert.AfwdIdeal.Facts] : Prop :=
  ∀ (m : (ℓ : Loc Cert.AfwdIdeal.nD Cert.AfwdIdeal.τ Cert.AfwdIdeal.sig) → Buf (Elt Ideal) ℓ) (g : Dev Cert.AfwdIdeal.nD → PrngReg), Pre_AfwdIdeal m →
    θ_run (Cert.AfwdIdeal.defs (F := Ideal)) (onTc (τ := Cert.AfwdIdeal.τ) (Cert.AfwdIdeal.main (F := Ideal))) ⟨m, fun _ => 0, g⟩ (fun r => (∀ c : Dev Cert.AfwdIdeal.nD,
      r.2.mem ((c.tc : Thread Cert.AfwdIdeal.nD Cert.AfwdIdeal.τ).loc Cert.AfwdIdeal.main_arg0) = m ((c.tc : Thread Cert.AfwdIdeal.nD Cert.AfwdIdeal.τ).loc Cert.AfwdIdeal.main_arg0)
      ∧ r.2.mem ((c.tc : Thread Cert.AfwdIdeal.nD Cert.AfwdIdeal.τ).loc Cert.AfwdIdeal.main_arg1) = m ((c.tc : Thread Cert.AfwdIdeal.nD Cert.AfwdIdeal.τ).loc Cert.AfwdIdeal.main_arg1)
      ∧ r.2.mem ((c.tc : Thread Cert.AfwdIdeal.nD Cert.AfwdIdeal.τ).loc Cert.AfwdIdeal.main_arg2) = m ((c.tc : Thread Cert.AfwdIdeal.nD Cert.AfwdIdeal.τ).loc Cert.AfwdIdeal.main_arg2)
      ∧ r.2.mem ((c.tc : Thread Cert.AfwdIdeal.nD Cert.AfwdIdeal.τ).loc Cert.AfwdIdeal.main_arg3) = m ((c.tc : Thread Cert.AfwdIdeal.nD Cert.AfwdIdeal.τ).loc Cert.AfwdIdeal.main_arg3)
      ∧ r.2.mem ((c.tc : Thread Cert.AfwdIdeal.nD Cert.AfwdIdeal.τ).loc Cert.AfwdIdeal.main_arg4) = m ((c.tc : Thread Cert.AfwdIdeal.nD Cert.AfwdIdeal.τ).loc Cert.AfwdIdeal.main_arg4)
      ∧ r.2.mem ((c.tc : Thread Cert.AfwdIdeal.nD Cert.AfwdIdeal.τ).loc Cert.AfwdIdeal.main_arg5) = m ((c.tc : Thread Cert.AfwdIdeal.nD Cert.AfwdIdeal.τ).loc Cert.AfwdIdeal.main_arg5))
      ∧ r.2.sem = fun _ => 0)

def quiescent_AfwdRefIdeal [hAfwdRefIdeal : Cert.AfwdRefIdeal.Facts] : Prop :=
  ∀ (m : (ℓ : Loc Cert.AfwdRefIdeal.nD Cert.AfwdRefIdeal.τ Cert.AfwdRefIdeal.sig) → Buf (Elt Ideal) ℓ) (g : Dev Cert.AfwdRefIdeal.nD → PrngReg), Pre_AfwdRefIdeal m →
    θ_run (Cert.AfwdRefIdeal.defs (F := Ideal)) (onTc (τ := Cert.AfwdRefIdeal.τ) (Cert.AfwdRefIdeal.main (F := Ideal))) ⟨m, fun _ => 0, g⟩ (fun r => (∀ c : Dev Cert.AfwdRefIdeal.nD,
      r.2.mem ((c.tc : Thread Cert.AfwdRefIdeal.nD Cert.AfwdRefIdeal.τ).loc Cert.AfwdRefIdeal.main_arg0) = m ((c.tc : Thread Cert.AfwdRefIdeal.nD Cert.AfwdRefIdeal.τ).loc Cert.AfwdRefIdeal.main_arg0)
      ∧ r.2.mem ((c.tc : Thread Cert.AfwdRefIdeal.nD Cert.AfwdRefIdeal.τ).loc Cert.AfwdRefIdeal.main_arg1) = m ((c.tc : Thread Cert.AfwdRefIdeal.nD Cert.AfwdRefIdeal.τ).loc Cert.AfwdRefIdeal.main_arg1)
      ∧ r.2.mem ((c.tc : Thread Cert.AfwdRefIdeal.nD Cert.AfwdRefIdeal.τ).loc Cert.AfwdRefIdeal.main_arg2) = m ((c.tc : Thread Cert.AfwdRefIdeal.nD Cert.AfwdRefIdeal.τ).loc Cert.AfwdRefIdeal.main_arg2)
      ∧ r.2.mem ((c.tc : Thread Cert.AfwdRefIdeal.nD Cert.AfwdRefIdeal.τ).loc Cert.AfwdRefIdeal.main_arg3) = m ((c.tc : Thread Cert.AfwdRefIdeal.nD Cert.AfwdRefIdeal.τ).loc Cert.AfwdRefIdeal.main_arg3)
      ∧ r.2.mem ((c.tc : Thread Cert.AfwdRefIdeal.nD Cert.AfwdRefIdeal.τ).loc Cert.AfwdRefIdeal.main_arg4) = m ((c.tc : Thread Cert.AfwdRefIdeal.nD Cert.AfwdRefIdeal.τ).loc Cert.AfwdRefIdeal.main_arg4)
      ∧ r.2.mem ((c.tc : Thread Cert.AfwdRefIdeal.nD Cert.AfwdRefIdeal.τ).loc Cert.AfwdRefIdeal.main_arg5) = m ((c.tc : Thread Cert.AfwdRefIdeal.nD Cert.AfwdRefIdeal.τ).loc Cert.AfwdRefIdeal.main_arg5))
      ∧ r.2.sem = fun _ => 0)

def quiescent_Bproj [hBproj : Cert.Bproj.Facts] : Prop :=
  ∀ (m : (ℓ : Loc Cert.Bproj.nD Cert.Bproj.τ Cert.Bproj.sig) → Buf (Elt Bits) ℓ) (g : Dev Cert.Bproj.nD → PrngReg), Pre_Bproj m →
    θ_run (Cert.Bproj.defs (F := Bits)) (onTc (τ := Cert.Bproj.τ) (Cert.Bproj.main (F := Bits))) ⟨m, fun _ => 0, g⟩ (fun r => (∀ c : Dev Cert.Bproj.nD,
      r.2.mem ((c.tc : Thread Cert.Bproj.nD Cert.Bproj.τ).loc Cert.Bproj.main_arg0) = m ((c.tc : Thread Cert.Bproj.nD Cert.Bproj.τ).loc Cert.Bproj.main_arg0)
      ∧ r.2.mem ((c.tc : Thread Cert.Bproj.nD Cert.Bproj.τ).loc Cert.Bproj.main_arg1) = m ((c.tc : Thread Cert.Bproj.nD Cert.Bproj.τ).loc Cert.Bproj.main_arg1)
      ∧ r.2.mem ((c.tc : Thread Cert.Bproj.nD Cert.Bproj.τ).loc Cert.Bproj.main_arg2) = m ((c.tc : Thread Cert.Bproj.nD Cert.Bproj.τ).loc Cert.Bproj.main_arg2)
      ∧ r.2.mem ((c.tc : Thread Cert.Bproj.nD Cert.Bproj.τ).loc Cert.Bproj.main_arg3) = m ((c.tc : Thread Cert.Bproj.nD Cert.Bproj.τ).loc Cert.Bproj.main_arg3)
      ∧ r.2.mem ((c.tc : Thread Cert.Bproj.nD Cert.Bproj.τ).loc Cert.Bproj.main_arg4) = m ((c.tc : Thread Cert.Bproj.nD Cert.Bproj.τ).loc Cert.Bproj.main_arg4)
      ∧ r.2.mem ((c.tc : Thread Cert.Bproj.nD Cert.Bproj.τ).loc Cert.Bproj.main_arg5) = m ((c.tc : Thread Cert.Bproj.nD Cert.Bproj.τ).loc Cert.Bproj.main_arg5)
      ∧ r.2.mem ((c.tc : Thread Cert.Bproj.nD Cert.Bproj.τ).loc Cert.Bproj.main_arg6) = m ((c.tc : Thread Cert.Bproj.nD Cert.Bproj.τ).loc Cert.Bproj.main_arg6))
      ∧ r.2.sem = fun _ => 0)

def quiescent_BprojIdeal [hBprojIdeal : Cert.BprojIdeal.Facts] : Prop :=
  ∀ (m : (ℓ : Loc Cert.BprojIdeal.nD Cert.BprojIdeal.τ Cert.BprojIdeal.sig) → Buf (Elt Ideal) ℓ) (g : Dev Cert.BprojIdeal.nD → PrngReg), Pre_BprojIdeal m →
    θ_run (Cert.BprojIdeal.defs (F := Ideal)) (onTc (τ := Cert.BprojIdeal.τ) (Cert.BprojIdeal.main (F := Ideal))) ⟨m, fun _ => 0, g⟩ (fun r => (∀ c : Dev Cert.BprojIdeal.nD,
      r.2.mem ((c.tc : Thread Cert.BprojIdeal.nD Cert.BprojIdeal.τ).loc Cert.BprojIdeal.main_arg0) = m ((c.tc : Thread Cert.BprojIdeal.nD Cert.BprojIdeal.τ).loc Cert.BprojIdeal.main_arg0)
      ∧ r.2.mem ((c.tc : Thread Cert.BprojIdeal.nD Cert.BprojIdeal.τ).loc Cert.BprojIdeal.main_arg1) = m ((c.tc : Thread Cert.BprojIdeal.nD Cert.BprojIdeal.τ).loc Cert.BprojIdeal.main_arg1)
      ∧ r.2.mem ((c.tc : Thread Cert.BprojIdeal.nD Cert.BprojIdeal.τ).loc Cert.BprojIdeal.main_arg2) = m ((c.tc : Thread Cert.BprojIdeal.nD Cert.BprojIdeal.τ).loc Cert.BprojIdeal.main_arg2)
      ∧ r.2.mem ((c.tc : Thread Cert.BprojIdeal.nD Cert.BprojIdeal.τ).loc Cert.BprojIdeal.main_arg3) = m ((c.tc : Thread Cert.BprojIdeal.nD Cert.BprojIdeal.τ).loc Cert.BprojIdeal.main_arg3)
      ∧ r.2.mem ((c.tc : Thread Cert.BprojIdeal.nD Cert.BprojIdeal.τ).loc Cert.BprojIdeal.main_arg4) = m ((c.tc : Thread Cert.BprojIdeal.nD Cert.BprojIdeal.τ).loc Cert.BprojIdeal.main_arg4)
      ∧ r.2.mem ((c.tc : Thread Cert.BprojIdeal.nD Cert.BprojIdeal.τ).loc Cert.BprojIdeal.main_arg5) = m ((c.tc : Thread Cert.BprojIdeal.nD Cert.BprojIdeal.τ).loc Cert.BprojIdeal.main_arg5)
      ∧ r.2.mem ((c.tc : Thread Cert.BprojIdeal.nD Cert.BprojIdeal.τ).loc Cert.BprojIdeal.main_arg6) = m ((c.tc : Thread Cert.BprojIdeal.nD Cert.BprojIdeal.τ).loc Cert.BprojIdeal.main_arg6))
      ∧ r.2.sem = fun _ => 0)

def quiescent_BprojRefIdeal [hBprojRefIdeal : Cert.BprojRefIdeal.Facts] : Prop :=
  ∀ (m : (ℓ : Loc Cert.BprojRefIdeal.nD Cert.BprojRefIdeal.τ Cert.BprojRefIdeal.sig) → Buf (Elt Ideal) ℓ) (g : Dev Cert.BprojRefIdeal.nD → PrngReg), Pre_BprojRefIdeal m →
    θ_run (Cert.BprojRefIdeal.defs (F := Ideal)) (onTc (τ := Cert.BprojRefIdeal.τ) (Cert.BprojRefIdeal.main (F := Ideal))) ⟨m, fun _ => 0, g⟩ (fun r => (∀ c : Dev Cert.BprojRefIdeal.nD,
      r.2.mem ((c.tc : Thread Cert.BprojRefIdeal.nD Cert.BprojRefIdeal.τ).loc Cert.BprojRefIdeal.main_arg0) = m ((c.tc : Thread Cert.BprojRefIdeal.nD Cert.BprojRefIdeal.τ).loc Cert.BprojRefIdeal.main_arg0)
      ∧ r.2.mem ((c.tc : Thread Cert.BprojRefIdeal.nD Cert.BprojRefIdeal.τ).loc Cert.BprojRefIdeal.main_arg1) = m ((c.tc : Thread Cert.BprojRefIdeal.nD Cert.BprojRefIdeal.τ).loc Cert.BprojRefIdeal.main_arg1)
      ∧ r.2.mem ((c.tc : Thread Cert.BprojRefIdeal.nD Cert.BprojRefIdeal.τ).loc Cert.BprojRefIdeal.main_arg2) = m ((c.tc : Thread Cert.BprojRefIdeal.nD Cert.BprojRefIdeal.τ).loc Cert.BprojRefIdeal.main_arg2)
      ∧ r.2.mem ((c.tc : Thread Cert.BprojRefIdeal.nD Cert.BprojRefIdeal.τ).loc Cert.BprojRefIdeal.main_arg3) = m ((c.tc : Thread Cert.BprojRefIdeal.nD Cert.BprojRefIdeal.τ).loc Cert.BprojRefIdeal.main_arg3)
      ∧ r.2.mem ((c.tc : Thread Cert.BprojRefIdeal.nD Cert.BprojRefIdeal.τ).loc Cert.BprojRefIdeal.main_arg4) = m ((c.tc : Thread Cert.BprojRefIdeal.nD Cert.BprojRefIdeal.τ).loc Cert.BprojRefIdeal.main_arg4)
      ∧ r.2.mem ((c.tc : Thread Cert.BprojRefIdeal.nD Cert.BprojRefIdeal.τ).loc Cert.BprojRefIdeal.main_arg5) = m ((c.tc : Thread Cert.BprojRefIdeal.nD Cert.BprojRefIdeal.τ).loc Cert.BprojRefIdeal.main_arg5)
      ∧ r.2.mem ((c.tc : Thread Cert.BprojRefIdeal.nD Cert.BprojRefIdeal.τ).loc Cert.BprojRefIdeal.main_arg6) = m ((c.tc : Thread Cert.BprojRefIdeal.nD Cert.BprojRefIdeal.τ).loc Cert.BprojRefIdeal.main_arg6))
      ∧ r.2.sem = fun _ => 0)

def quiescent_Bgrad [hBgrad : Cert.Bgrad.Facts] : Prop :=
  ∀ (m : (ℓ : Loc Cert.Bgrad.nD Cert.Bgrad.τ Cert.Bgrad.sig) → Buf (Elt Bits) ℓ) (g : Dev Cert.Bgrad.nD → PrngReg), Pre_Bgrad m →
    θ_run (Cert.Bgrad.defs (F := Bits)) (onTc (τ := Cert.Bgrad.τ) (Cert.Bgrad.main (F := Bits))) ⟨m, fun _ => 0, g⟩ (fun r => (∀ c : Dev Cert.Bgrad.nD,
      r.2.mem ((c.tc : Thread Cert.Bgrad.nD Cert.Bgrad.τ).loc Cert.Bgrad.main_arg0) = m ((c.tc : Thread Cert.Bgrad.nD Cert.Bgrad.τ).loc Cert.Bgrad.main_arg0)
      ∧ r.2.mem ((c.tc : Thread Cert.Bgrad.nD Cert.Bgrad.τ).loc Cert.Bgrad.main_arg1) = m ((c.tc : Thread Cert.Bgrad.nD Cert.Bgrad.τ).loc Cert.Bgrad.main_arg1)
      ∧ r.2.mem ((c.tc : Thread Cert.Bgrad.nD Cert.Bgrad.τ).loc Cert.Bgrad.main_arg2) = m ((c.tc : Thread Cert.Bgrad.nD Cert.Bgrad.τ).loc Cert.Bgrad.main_arg2)
      ∧ r.2.mem ((c.tc : Thread Cert.Bgrad.nD Cert.Bgrad.τ).loc Cert.Bgrad.main_arg3) = m ((c.tc : Thread Cert.Bgrad.nD Cert.Bgrad.τ).loc Cert.Bgrad.main_arg3)
      ∧ r.2.mem ((c.tc : Thread Cert.Bgrad.nD Cert.Bgrad.τ).loc Cert.Bgrad.main_arg4) = m ((c.tc : Thread Cert.Bgrad.nD Cert.Bgrad.τ).loc Cert.Bgrad.main_arg4)
      ∧ r.2.mem ((c.tc : Thread Cert.Bgrad.nD Cert.Bgrad.τ).loc Cert.Bgrad.main_arg5) = m ((c.tc : Thread Cert.Bgrad.nD Cert.Bgrad.τ).loc Cert.Bgrad.main_arg5)
      ∧ r.2.mem ((c.tc : Thread Cert.Bgrad.nD Cert.Bgrad.τ).loc Cert.Bgrad.main_arg6) = m ((c.tc : Thread Cert.Bgrad.nD Cert.Bgrad.τ).loc Cert.Bgrad.main_arg6)
      ∧ r.2.mem ((c.tc : Thread Cert.Bgrad.nD Cert.Bgrad.τ).loc Cert.Bgrad.main_arg7) = m ((c.tc : Thread Cert.Bgrad.nD Cert.Bgrad.τ).loc Cert.Bgrad.main_arg7)
      ∧ r.2.mem ((c.tc : Thread Cert.Bgrad.nD Cert.Bgrad.τ).loc Cert.Bgrad.main_arg8) = m ((c.tc : Thread Cert.Bgrad.nD Cert.Bgrad.τ).loc Cert.Bgrad.main_arg8)
      ∧ r.2.mem ((c.tc : Thread Cert.Bgrad.nD Cert.Bgrad.τ).loc Cert.Bgrad.main_arg9) = m ((c.tc : Thread Cert.Bgrad.nD Cert.Bgrad.τ).loc Cert.Bgrad.main_arg9)
      ∧ r.2.mem ((c.tc : Thread Cert.Bgrad.nD Cert.Bgrad.τ).loc Cert.Bgrad.main_arg10) = m ((c.tc : Thread Cert.Bgrad.nD Cert.Bgrad.τ).loc Cert.Bgrad.main_arg10)
      ∧ r.2.mem ((c.tc : Thread Cert.Bgrad.nD Cert.Bgrad.τ).loc Cert.Bgrad.main_arg11) = m ((c.tc : Thread Cert.Bgrad.nD Cert.Bgrad.τ).loc Cert.Bgrad.main_arg11))
      ∧ r.2.sem = fun _ => 0)

def quiescent_BgradIdeal [hBgradIdeal : Cert.BgradIdeal.Facts] : Prop :=
  ∀ (m : (ℓ : Loc Cert.BgradIdeal.nD Cert.BgradIdeal.τ Cert.BgradIdeal.sig) → Buf (Elt Ideal) ℓ) (g : Dev Cert.BgradIdeal.nD → PrngReg), Pre_BgradIdeal m →
    θ_run (Cert.BgradIdeal.defs (F := Ideal)) (onTc (τ := Cert.BgradIdeal.τ) (Cert.BgradIdeal.main (F := Ideal))) ⟨m, fun _ => 0, g⟩ (fun r => (∀ c : Dev Cert.BgradIdeal.nD,
      r.2.mem ((c.tc : Thread Cert.BgradIdeal.nD Cert.BgradIdeal.τ).loc Cert.BgradIdeal.main_arg0) = m ((c.tc : Thread Cert.BgradIdeal.nD Cert.BgradIdeal.τ).loc Cert.BgradIdeal.main_arg0)
      ∧ r.2.mem ((c.tc : Thread Cert.BgradIdeal.nD Cert.BgradIdeal.τ).loc Cert.BgradIdeal.main_arg1) = m ((c.tc : Thread Cert.BgradIdeal.nD Cert.BgradIdeal.τ).loc Cert.BgradIdeal.main_arg1)
      ∧ r.2.mem ((c.tc : Thread Cert.BgradIdeal.nD Cert.BgradIdeal.τ).loc Cert.BgradIdeal.main_arg2) = m ((c.tc : Thread Cert.BgradIdeal.nD Cert.BgradIdeal.τ).loc Cert.BgradIdeal.main_arg2)
      ∧ r.2.mem ((c.tc : Thread Cert.BgradIdeal.nD Cert.BgradIdeal.τ).loc Cert.BgradIdeal.main_arg3) = m ((c.tc : Thread Cert.BgradIdeal.nD Cert.BgradIdeal.τ).loc Cert.BgradIdeal.main_arg3)
      ∧ r.2.mem ((c.tc : Thread Cert.BgradIdeal.nD Cert.BgradIdeal.τ).loc Cert.BgradIdeal.main_arg4) = m ((c.tc : Thread Cert.BgradIdeal.nD Cert.BgradIdeal.τ).loc Cert.BgradIdeal.main_arg4)
      ∧ r.2.mem ((c.tc : Thread Cert.BgradIdeal.nD Cert.BgradIdeal.τ).loc Cert.BgradIdeal.main_arg5) = m ((c.tc : Thread Cert.BgradIdeal.nD Cert.BgradIdeal.τ).loc Cert.BgradIdeal.main_arg5)
      ∧ r.2.mem ((c.tc : Thread Cert.BgradIdeal.nD Cert.BgradIdeal.τ).loc Cert.BgradIdeal.main_arg6) = m ((c.tc : Thread Cert.BgradIdeal.nD Cert.BgradIdeal.τ).loc Cert.BgradIdeal.main_arg6)
      ∧ r.2.mem ((c.tc : Thread Cert.BgradIdeal.nD Cert.BgradIdeal.τ).loc Cert.BgradIdeal.main_arg7) = m ((c.tc : Thread Cert.BgradIdeal.nD Cert.BgradIdeal.τ).loc Cert.BgradIdeal.main_arg7)
      ∧ r.2.mem ((c.tc : Thread Cert.BgradIdeal.nD Cert.BgradIdeal.τ).loc Cert.BgradIdeal.main_arg8) = m ((c.tc : Thread Cert.BgradIdeal.nD Cert.BgradIdeal.τ).loc Cert.BgradIdeal.main_arg8)
      ∧ r.2.mem ((c.tc : Thread Cert.BgradIdeal.nD Cert.BgradIdeal.τ).loc Cert.BgradIdeal.main_arg9) = m ((c.tc : Thread Cert.BgradIdeal.nD Cert.BgradIdeal.τ).loc Cert.BgradIdeal.main_arg9)
      ∧ r.2.mem ((c.tc : Thread Cert.BgradIdeal.nD Cert.BgradIdeal.τ).loc Cert.BgradIdeal.main_arg10) = m ((c.tc : Thread Cert.BgradIdeal.nD Cert.BgradIdeal.τ).loc Cert.BgradIdeal.main_arg10)
      ∧ r.2.mem ((c.tc : Thread Cert.BgradIdeal.nD Cert.BgradIdeal.τ).loc Cert.BgradIdeal.main_arg11) = m ((c.tc : Thread Cert.BgradIdeal.nD Cert.BgradIdeal.τ).loc Cert.BgradIdeal.main_arg11))
      ∧ r.2.sem = fun _ => 0)

def quiescent_BgradIdeal_pre_finite_bgrad [hBgradIdeal : Cert.BgradIdeal.Facts] [hPre_finite_bgrad : Cert.Pre_finite_bgrad.Facts] : Prop :=
  ∀ (m : (ℓ : Loc Cert.BgradIdeal.nD Cert.BgradIdeal.τ Cert.BgradIdeal.sig) → Buf (Elt Ideal) ℓ) (g : Dev Cert.BgradIdeal.nD → PrngReg), Pre_BgradIdeal_finite_bgrad m →
    θ_run (Cert.BgradIdeal.defs (F := Ideal)) (onTc (τ := Cert.BgradIdeal.τ) (Cert.BgradIdeal.main (F := Ideal))) ⟨m, fun _ => 0, g⟩ (fun r => (∀ c : Dev Cert.BgradIdeal.nD,
      r.2.mem ((c.tc : Thread Cert.BgradIdeal.nD Cert.BgradIdeal.τ).loc Cert.BgradIdeal.main_arg0) = m ((c.tc : Thread Cert.BgradIdeal.nD Cert.BgradIdeal.τ).loc Cert.BgradIdeal.main_arg0)
      ∧ r.2.mem ((c.tc : Thread Cert.BgradIdeal.nD Cert.BgradIdeal.τ).loc Cert.BgradIdeal.main_arg1) = m ((c.tc : Thread Cert.BgradIdeal.nD Cert.BgradIdeal.τ).loc Cert.BgradIdeal.main_arg1)
      ∧ r.2.mem ((c.tc : Thread Cert.BgradIdeal.nD Cert.BgradIdeal.τ).loc Cert.BgradIdeal.main_arg2) = m ((c.tc : Thread Cert.BgradIdeal.nD Cert.BgradIdeal.τ).loc Cert.BgradIdeal.main_arg2)
      ∧ r.2.mem ((c.tc : Thread Cert.BgradIdeal.nD Cert.BgradIdeal.τ).loc Cert.BgradIdeal.main_arg3) = m ((c.tc : Thread Cert.BgradIdeal.nD Cert.BgradIdeal.τ).loc Cert.BgradIdeal.main_arg3)
      ∧ r.2.mem ((c.tc : Thread Cert.BgradIdeal.nD Cert.BgradIdeal.τ).loc Cert.BgradIdeal.main_arg4) = m ((c.tc : Thread Cert.BgradIdeal.nD Cert.BgradIdeal.τ).loc Cert.BgradIdeal.main_arg4)
      ∧ r.2.mem ((c.tc : Thread Cert.BgradIdeal.nD Cert.BgradIdeal.τ).loc Cert.BgradIdeal.main_arg5) = m ((c.tc : Thread Cert.BgradIdeal.nD Cert.BgradIdeal.τ).loc Cert.BgradIdeal.main_arg5)
      ∧ r.2.mem ((c.tc : Thread Cert.BgradIdeal.nD Cert.BgradIdeal.τ).loc Cert.BgradIdeal.main_arg6) = m ((c.tc : Thread Cert.BgradIdeal.nD Cert.BgradIdeal.τ).loc Cert.BgradIdeal.main_arg6)
      ∧ r.2.mem ((c.tc : Thread Cert.BgradIdeal.nD Cert.BgradIdeal.τ).loc Cert.BgradIdeal.main_arg7) = m ((c.tc : Thread Cert.BgradIdeal.nD Cert.BgradIdeal.τ).loc Cert.BgradIdeal.main_arg7)
      ∧ r.2.mem ((c.tc : Thread Cert.BgradIdeal.nD Cert.BgradIdeal.τ).loc Cert.BgradIdeal.main_arg8) = m ((c.tc : Thread Cert.BgradIdeal.nD Cert.BgradIdeal.τ).loc Cert.BgradIdeal.main_arg8)
      ∧ r.2.mem ((c.tc : Thread Cert.BgradIdeal.nD Cert.BgradIdeal.τ).loc Cert.BgradIdeal.main_arg9) = m ((c.tc : Thread Cert.BgradIdeal.nD Cert.BgradIdeal.τ).loc Cert.BgradIdeal.main_arg9)
      ∧ r.2.mem ((c.tc : Thread Cert.BgradIdeal.nD Cert.BgradIdeal.τ).loc Cert.BgradIdeal.main_arg10) = m ((c.tc : Thread Cert.BgradIdeal.nD Cert.BgradIdeal.τ).loc Cert.BgradIdeal.main_arg10)
      ∧ r.2.mem ((c.tc : Thread Cert.BgradIdeal.nD Cert.BgradIdeal.τ).loc Cert.BgradIdeal.main_arg11) = m ((c.tc : Thread Cert.BgradIdeal.nD Cert.BgradIdeal.τ).loc Cert.BgradIdeal.main_arg11))
      ∧ r.2.sem = fun _ => 0)

def quiescent_BgradRefIdeal [hBgradRefIdeal : Cert.BgradRefIdeal.Facts] : Prop :=
  ∀ (m : (ℓ : Loc Cert.BgradRefIdeal.nD Cert.BgradRefIdeal.τ Cert.BgradRefIdeal.sig) → Buf (Elt Ideal) ℓ) (g : Dev Cert.BgradRefIdeal.nD → PrngReg), Pre_BgradRefIdeal m →
    θ_run (Cert.BgradRefIdeal.defs (F := Ideal)) (onTc (τ := Cert.BgradRefIdeal.τ) (Cert.BgradRefIdeal.main (F := Ideal))) ⟨m, fun _ => 0, g⟩ (fun r => (∀ c : Dev Cert.BgradRefIdeal.nD,
      r.2.mem ((c.tc : Thread Cert.BgradRefIdeal.nD Cert.BgradRefIdeal.τ).loc Cert.BgradRefIdeal.main_arg0) = m ((c.tc : Thread Cert.BgradRefIdeal.nD Cert.BgradRefIdeal.τ).loc Cert.BgradRefIdeal.main_arg0)
      ∧ r.2.mem ((c.tc : Thread Cert.BgradRefIdeal.nD Cert.BgradRefIdeal.τ).loc Cert.BgradRefIdeal.main_arg1) = m ((c.tc : Thread Cert.BgradRefIdeal.nD Cert.BgradRefIdeal.τ).loc Cert.BgradRefIdeal.main_arg1)
      ∧ r.2.mem ((c.tc : Thread Cert.BgradRefIdeal.nD Cert.BgradRefIdeal.τ).loc Cert.BgradRefIdeal.main_arg2) = m ((c.tc : Thread Cert.BgradRefIdeal.nD Cert.BgradRefIdeal.τ).loc Cert.BgradRefIdeal.main_arg2)
      ∧ r.2.mem ((c.tc : Thread Cert.BgradRefIdeal.nD Cert.BgradRefIdeal.τ).loc Cert.BgradRefIdeal.main_arg3) = m ((c.tc : Thread Cert.BgradRefIdeal.nD Cert.BgradRefIdeal.τ).loc Cert.BgradRefIdeal.main_arg3)
      ∧ r.2.mem ((c.tc : Thread Cert.BgradRefIdeal.nD Cert.BgradRefIdeal.τ).loc Cert.BgradRefIdeal.main_arg4) = m ((c.tc : Thread Cert.BgradRefIdeal.nD Cert.BgradRefIdeal.τ).loc Cert.BgradRefIdeal.main_arg4)
      ∧ r.2.mem ((c.tc : Thread Cert.BgradRefIdeal.nD Cert.BgradRefIdeal.τ).loc Cert.BgradRefIdeal.main_arg5) = m ((c.tc : Thread Cert.BgradRefIdeal.nD Cert.BgradRefIdeal.τ).loc Cert.BgradRefIdeal.main_arg5)
      ∧ r.2.mem ((c.tc : Thread Cert.BgradRefIdeal.nD Cert.BgradRefIdeal.τ).loc Cert.BgradRefIdeal.main_arg6) = m ((c.tc : Thread Cert.BgradRefIdeal.nD Cert.BgradRefIdeal.τ).loc Cert.BgradRefIdeal.main_arg6)
      ∧ r.2.mem ((c.tc : Thread Cert.BgradRefIdeal.nD Cert.BgradRefIdeal.τ).loc Cert.BgradRefIdeal.main_arg7) = m ((c.tc : Thread Cert.BgradRefIdeal.nD Cert.BgradRefIdeal.τ).loc Cert.BgradRefIdeal.main_arg7)
      ∧ r.2.mem ((c.tc : Thread Cert.BgradRefIdeal.nD Cert.BgradRefIdeal.τ).loc Cert.BgradRefIdeal.main_arg8) = m ((c.tc : Thread Cert.BgradRefIdeal.nD Cert.BgradRefIdeal.τ).loc Cert.BgradRefIdeal.main_arg8)
      ∧ r.2.mem ((c.tc : Thread Cert.BgradRefIdeal.nD Cert.BgradRefIdeal.τ).loc Cert.BgradRefIdeal.main_arg9) = m ((c.tc : Thread Cert.BgradRefIdeal.nD Cert.BgradRefIdeal.τ).loc Cert.BgradRefIdeal.main_arg9)
      ∧ r.2.mem ((c.tc : Thread Cert.BgradRefIdeal.nD Cert.BgradRefIdeal.τ).loc Cert.BgradRefIdeal.main_arg10) = m ((c.tc : Thread Cert.BgradRefIdeal.nD Cert.BgradRefIdeal.τ).loc Cert.BgradRefIdeal.main_arg10)
      ∧ r.2.mem ((c.tc : Thread Cert.BgradRefIdeal.nD Cert.BgradRefIdeal.τ).loc Cert.BgradRefIdeal.main_arg11) = m ((c.tc : Thread Cert.BgradRefIdeal.nD Cert.BgradRefIdeal.τ).loc Cert.BgradRefIdeal.main_arg11))
      ∧ r.2.sem = fun _ => 0)

def quiescent_BgradRefIdeal_pre_finite_bgrad [hBgradRefIdeal : Cert.BgradRefIdeal.Facts] [hPre_finite_bgrad : Cert.Pre_finite_bgrad.Facts] : Prop :=
  ∀ (m : (ℓ : Loc Cert.BgradRefIdeal.nD Cert.BgradRefIdeal.τ Cert.BgradRefIdeal.sig) → Buf (Elt Ideal) ℓ) (g : Dev Cert.BgradRefIdeal.nD → PrngReg), Pre_BgradRefIdeal_finite_bgrad m →
    θ_run (Cert.BgradRefIdeal.defs (F := Ideal)) (onTc (τ := Cert.BgradRefIdeal.τ) (Cert.BgradRefIdeal.main (F := Ideal))) ⟨m, fun _ => 0, g⟩ (fun r => (∀ c : Dev Cert.BgradRefIdeal.nD,
      r.2.mem ((c.tc : Thread Cert.BgradRefIdeal.nD Cert.BgradRefIdeal.τ).loc Cert.BgradRefIdeal.main_arg0) = m ((c.tc : Thread Cert.BgradRefIdeal.nD Cert.BgradRefIdeal.τ).loc Cert.BgradRefIdeal.main_arg0)
      ∧ r.2.mem ((c.tc : Thread Cert.BgradRefIdeal.nD Cert.BgradRefIdeal.τ).loc Cert.BgradRefIdeal.main_arg1) = m ((c.tc : Thread Cert.BgradRefIdeal.nD Cert.BgradRefIdeal.τ).loc Cert.BgradRefIdeal.main_arg1)
      ∧ r.2.mem ((c.tc : Thread Cert.BgradRefIdeal.nD Cert.BgradRefIdeal.τ).loc Cert.BgradRefIdeal.main_arg2) = m ((c.tc : Thread Cert.BgradRefIdeal.nD Cert.BgradRefIdeal.τ).loc Cert.BgradRefIdeal.main_arg2)
      ∧ r.2.mem ((c.tc : Thread Cert.BgradRefIdeal.nD Cert.BgradRefIdeal.τ).loc Cert.BgradRefIdeal.main_arg3) = m ((c.tc : Thread Cert.BgradRefIdeal.nD Cert.BgradRefIdeal.τ).loc Cert.BgradRefIdeal.main_arg3)
      ∧ r.2.mem ((c.tc : Thread Cert.BgradRefIdeal.nD Cert.BgradRefIdeal.τ).loc Cert.BgradRefIdeal.main_arg4) = m ((c.tc : Thread Cert.BgradRefIdeal.nD Cert.BgradRefIdeal.τ).loc Cert.BgradRefIdeal.main_arg4)
      ∧ r.2.mem ((c.tc : Thread Cert.BgradRefIdeal.nD Cert.BgradRefIdeal.τ).loc Cert.BgradRefIdeal.main_arg5) = m ((c.tc : Thread Cert.BgradRefIdeal.nD Cert.BgradRefIdeal.τ).loc Cert.BgradRefIdeal.main_arg5)
      ∧ r.2.mem ((c.tc : Thread Cert.BgradRefIdeal.nD Cert.BgradRefIdeal.τ).loc Cert.BgradRefIdeal.main_arg6) = m ((c.tc : Thread Cert.BgradRefIdeal.nD Cert.BgradRefIdeal.τ).loc Cert.BgradRefIdeal.main_arg6)
      ∧ r.2.mem ((c.tc : Thread Cert.BgradRefIdeal.nD Cert.BgradRefIdeal.τ).loc Cert.BgradRefIdeal.main_arg7) = m ((c.tc : Thread Cert.BgradRefIdeal.nD Cert.BgradRefIdeal.τ).loc Cert.BgradRefIdeal.main_arg7)
      ∧ r.2.mem ((c.tc : Thread Cert.BgradRefIdeal.nD Cert.BgradRefIdeal.τ).loc Cert.BgradRefIdeal.main_arg8) = m ((c.tc : Thread Cert.BgradRefIdeal.nD Cert.BgradRefIdeal.τ).loc Cert.BgradRefIdeal.main_arg8)
      ∧ r.2.mem ((c.tc : Thread Cert.BgradRefIdeal.nD Cert.BgradRefIdeal.τ).loc Cert.BgradRefIdeal.main_arg9) = m ((c.tc : Thread Cert.BgradRefIdeal.nD Cert.BgradRefIdeal.τ).loc Cert.BgradRefIdeal.main_arg9)
      ∧ r.2.mem ((c.tc : Thread Cert.BgradRefIdeal.nD Cert.BgradRefIdeal.τ).loc Cert.BgradRefIdeal.main_arg10) = m ((c.tc : Thread Cert.BgradRefIdeal.nD Cert.BgradRefIdeal.τ).loc Cert.BgradRefIdeal.main_arg10)
      ∧ r.2.mem ((c.tc : Thread Cert.BgradRefIdeal.nD Cert.BgradRefIdeal.τ).loc Cert.BgradRefIdeal.main_arg11) = m ((c.tc : Thread Cert.BgradRefIdeal.nD Cert.BgradRefIdeal.τ).loc Cert.BgradRefIdeal.main_arg11))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18)
      ∧ r.2.mem ((c.tc : Thread Cert.Small.nD Cert.Small.τ).loc Cert.Small.main_arg19) = m ((c.tc : Thread Cert.Small.nD Cert.Small.τ).loc Cert.Small.main_arg19)
      ∧ r.2.mem ((c.tc : Thread Cert.Small.nD Cert.Small.τ).loc Cert.Small.main_arg20) = m ((c.tc : Thread Cert.Small.nD Cert.Small.τ).loc Cert.Small.main_arg20)
      ∧ r.2.mem ((c.tc : Thread Cert.Small.nD Cert.Small.τ).loc Cert.Small.main_arg21) = m ((c.tc : Thread Cert.Small.nD Cert.Small.τ).loc Cert.Small.main_arg21)
      ∧ r.2.mem ((c.tc : Thread Cert.Small.nD Cert.Small.τ).loc Cert.Small.main_arg22) = m ((c.tc : Thread Cert.Small.nD Cert.Small.τ).loc Cert.Small.main_arg22)
      ∧ r.2.mem ((c.tc : Thread Cert.Small.nD Cert.Small.τ).loc Cert.Small.main_arg23) = m ((c.tc : Thread Cert.Small.nD Cert.Small.τ).loc Cert.Small.main_arg23)
      ∧ r.2.mem ((c.tc : Thread Cert.Small.nD Cert.Small.τ).loc Cert.Small.main_arg24) = m ((c.tc : Thread Cert.Small.nD Cert.Small.τ).loc Cert.Small.main_arg24))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
      ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
      ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
      ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
      ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16)
      ∧ r.2.mem ((c.tc : Thread Cert.SmallRefIdeal.nD Cert.SmallRefIdeal.τ).loc Cert.SmallRefIdeal.main_arg17) = m ((c.tc : Thread Cert.SmallRefIdeal.nD Cert.SmallRefIdeal.τ).loc Cert.SmallRefIdeal.main_arg17)
      ∧ r.2.mem ((c.tc : Thread Cert.SmallRefIdeal.nD Cert.SmallRefIdeal.τ).loc Cert.SmallRefIdeal.main_arg18) = m ((c.tc : Thread Cert.SmallRefIdeal.nD Cert.SmallRefIdeal.τ).loc Cert.SmallRefIdeal.main_arg18)
      ∧ r.2.mem ((c.tc : Thread Cert.SmallRefIdeal.nD Cert.SmallRefIdeal.τ).loc Cert.SmallRefIdeal.main_arg19) = m ((c.tc : Thread Cert.SmallRefIdeal.nD Cert.SmallRefIdeal.τ).loc Cert.SmallRefIdeal.main_arg19)
      ∧ r.2.mem ((c.tc : Thread Cert.SmallRefIdeal.nD Cert.SmallRefIdeal.τ).loc Cert.SmallRefIdeal.main_arg20) = m ((c.tc : Thread Cert.SmallRefIdeal.nD Cert.SmallRefIdeal.τ).loc Cert.SmallRefIdeal.main_arg20)
      ∧ r.2.mem ((c.tc : Thread Cert.SmallRefIdeal.nD Cert.SmallRefIdeal.τ).loc Cert.SmallRefIdeal.main_arg21) = m ((c.tc : Thread Cert.SmallRefIdeal.nD Cert.SmallRefIdeal.τ).loc Cert.SmallRefIdeal.main_arg21)
      ∧ r.2.mem ((c.tc : Thread Cert.SmallRefIdeal.nD Cert.SmallRefIdeal.τ).loc Cert.SmallRefIdeal.main_arg22) = m ((c.tc : Thread Cert.SmallRefIdeal.nD Cert.SmallRefIdeal.τ).loc Cert.SmallRefIdeal.main_arg22)
      ∧ r.2.mem ((c.tc : Thread Cert.SmallRefIdeal.nD Cert.SmallRefIdeal.τ).loc Cert.SmallRefIdeal.main_arg23) = m ((c.tc : Thread Cert.SmallRefIdeal.nD Cert.SmallRefIdeal.τ).loc Cert.SmallRefIdeal.main_arg23)
      ∧ r.2.mem ((c.tc : Thread Cert.SmallRefIdeal.nD Cert.SmallRefIdeal.τ).loc Cert.SmallRefIdeal.main_arg24) = m ((c.tc : Thread Cert.SmallRefIdeal.nD Cert.SmallRefIdeal.τ).loc Cert.SmallRefIdeal.main_arg24))
      ∧ r.2.sem = fun _ => 0)

def preserves_Mix_MixIdeal : Prop :=
  True

def algebraic_MixIdeal_MixRefIdeal_pre_finite [hMixIdeal : Cert.MixIdeal.Facts] [hMixRefIdeal : Cert.MixRefIdeal.Facts] [hPre_finite : Cert.Pre_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v45_0)) (v1 : (c : Dev Cert.MixIdeal.nD) → Buf (Elt Ideal) ((c.tc : Thread Cert.MixIdeal.nD Cert.MixIdeal.τ).loc Cert.MixIdeal.main_v45_1)) (v2 : (c : Dev Cert.MixIdeal.nD) → Buf (Elt Ideal) ((c.tc : Thread Cert.MixIdeal.nD Cert.MixIdeal.τ).loc Cert.MixIdeal.main_v45_2)) (v3 : (c : Dev Cert.MixIdeal.nD) → Buf (Elt Ideal) ((c.tc : Thread Cert.MixIdeal.nD Cert.MixIdeal.τ).loc Cert.MixIdeal.main_v45_3)) (v4 : (c : Dev Cert.MixIdeal.nD) → Buf (Elt Ideal) ((c.tc : Thread Cert.MixIdeal.nD Cert.MixIdeal.τ).loc Cert.MixIdeal.main_v45_4)) (v5 : (c : Dev Cert.MixIdeal.nD) → Buf (Elt Ideal) ((c.tc : Thread Cert.MixIdeal.nD Cert.MixIdeal.τ).loc Cert.MixIdeal.main_v45_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v45_0) = v0 c
          ∧ r.2.mem ((c.tc : Thread Cert.MixIdeal.nD Cert.MixIdeal.τ).loc Cert.MixIdeal.main_v45_1) = v1 c
          ∧ r.2.mem ((c.tc : Thread Cert.MixIdeal.nD Cert.MixIdeal.τ).loc Cert.MixIdeal.main_v45_2) = v2 c
          ∧ r.2.mem ((c.tc : Thread Cert.MixIdeal.nD Cert.MixIdeal.τ).loc Cert.MixIdeal.main_v45_3) = v3 c
          ∧ r.2.mem ((c.tc : Thread Cert.MixIdeal.nD Cert.MixIdeal.τ).loc Cert.MixIdeal.main_v45_4) = v4 c
          ∧ r.2.mem ((c.tc : Thread Cert.MixIdeal.nD Cert.MixIdeal.τ).loc Cert.MixIdeal.main_v45_5) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v99) = v0 c
          ∧ r.2.mem ((c.tc : Thread Cert.MixRefIdeal.nD Cert.MixRefIdeal.τ).loc Cert.MixRefIdeal.main_v100) = v1 c
          ∧ r.2.mem ((c.tc : Thread Cert.MixRefIdeal.nD Cert.MixRefIdeal.τ).loc Cert.MixRefIdeal.main_v65) = v2 c
          ∧ r.2.mem ((c.tc : Thread Cert.MixRefIdeal.nD Cert.MixRefIdeal.τ).loc Cert.MixRefIdeal.main_v102) = v3 c
          ∧ r.2.mem ((c.tc : Thread Cert.MixRefIdeal.nD Cert.MixRefIdeal.τ).loc Cert.MixRefIdeal.main_v71) = v4 c
          ∧ r.2.mem ((c.tc : Thread Cert.MixRefIdeal.nD Cert.MixRefIdeal.τ).loc Cert.MixRefIdeal.main_v68) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)
      ∧ m' ((c.tc : Thread Cert.DxRefIdeal.nD Cert.DxRefIdeal.τ).loc Cert.DxRefIdeal.main_arg8) = m ((c.tc : Thread Cert.DxIdeal.nD Cert.DxIdeal.τ).loc Cert.DxIdeal.main_arg8)
      ∧ m' ((c.tc : Thread Cert.DxRefIdeal.nD Cert.DxRefIdeal.τ).loc Cert.DxRefIdeal.main_arg9) = m ((c.tc : Thread Cert.DxIdeal.nD Cert.DxIdeal.τ).loc Cert.DxIdeal.main_arg9)
      ∧ m' ((c.tc : Thread Cert.DxRefIdeal.nD Cert.DxRefIdeal.τ).loc Cert.DxRefIdeal.main_arg10) = m ((c.tc : Thread Cert.DxIdeal.nD Cert.DxIdeal.τ).loc Cert.DxIdeal.main_arg10)
      ∧ m' ((c.tc : Thread Cert.DxRefIdeal.nD Cert.DxRefIdeal.τ).loc Cert.DxRefIdeal.main_arg11) = m ((c.tc : Thread Cert.DxIdeal.nD Cert.DxIdeal.τ).loc Cert.DxIdeal.main_arg11)
      ∧ m' ((c.tc : Thread Cert.DxRefIdeal.nD Cert.DxRefIdeal.τ).loc Cert.DxRefIdeal.main_arg12) = m ((c.tc : Thread Cert.DxIdeal.nD Cert.DxIdeal.τ).loc Cert.DxIdeal.main_arg12)
      ∧ m' ((c.tc : Thread Cert.DxRefIdeal.nD Cert.DxRefIdeal.τ).loc Cert.DxRefIdeal.main_arg13) = m ((c.tc : Thread Cert.DxIdeal.nD Cert.DxIdeal.τ).loc Cert.DxIdeal.main_arg13)
      ∧ m' ((c.tc : Thread Cert.DxRefIdeal.nD Cert.DxRefIdeal.τ).loc Cert.DxRefIdeal.main_arg14) = m ((c.tc : Thread Cert.DxIdeal.nD Cert.DxIdeal.τ).loc Cert.DxIdeal.main_arg14)
      ∧ m' ((c.tc : Thread Cert.DxRefIdeal.nD Cert.DxRefIdeal.τ).loc Cert.DxRefIdeal.main_arg15) = m ((c.tc : Thread Cert.DxIdeal.nD Cert.DxIdeal.τ).loc Cert.DxIdeal.main_arg15)
      ∧ m' ((c.tc : Thread Cert.DxRefIdeal.nD Cert.DxRefIdeal.τ).loc Cert.DxRefIdeal.main_arg16) = m ((c.tc : Thread Cert.DxIdeal.nD Cert.DxIdeal.τ).loc Cert.DxIdeal.main_arg16)
      ∧ m' ((c.tc : Thread Cert.DxRefIdeal.nD Cert.DxRefIdeal.τ).loc Cert.DxRefIdeal.main_arg17) = m ((c.tc : Thread Cert.DxIdeal.nD Cert.DxIdeal.τ).loc Cert.DxIdeal.main_arg17)
      ∧ m' ((c.tc : Thread Cert.DxRefIdeal.nD Cert.DxRefIdeal.τ).loc Cert.DxRefIdeal.main_arg18) = m ((c.tc : Thread Cert.DxIdeal.nD Cert.DxIdeal.τ).loc Cert.DxIdeal.main_arg18)
      ∧ m' ((c.tc : Thread Cert.DxRefIdeal.nD Cert.DxRefIdeal.τ).loc Cert.DxRefIdeal.main_arg19) = m ((c.tc : Thread Cert.DxIdeal.nD Cert.DxIdeal.τ).loc Cert.DxIdeal.main_arg19)) →
    ∃ (v0 : (c : Dev Cert.DxIdeal.nD) → Buf (Elt Ideal) ((c.tc : Thread Cert.DxIdeal.nD Cert.DxIdeal.τ).loc Cert.DxIdeal.main_v3_0)) (v1 : (c : Dev Cert.DxIdeal.nD) → Buf (Elt Ideal) ((c.tc : Thread Cert.DxIdeal.nD Cert.DxIdeal.τ).loc Cert.DxIdeal.main_v3_1)) (v2 : (c : Dev Cert.DxIdeal.nD) → Buf (Elt Ideal) ((c.tc : Thread Cert.DxIdeal.nD Cert.DxIdeal.τ).loc Cert.DxIdeal.main_v3_2)) (v3 : (c : Dev Cert.DxIdeal.nD) → Buf (Elt Ideal) ((c.tc : Thread Cert.DxIdeal.nD Cert.DxIdeal.τ).loc Cert.DxIdeal.main_v3_3)) (v4 : (c : Dev Cert.DxIdeal.nD) → Buf (Elt Ideal) ((c.tc : Thread Cert.DxIdeal.nD Cert.DxIdeal.τ).loc Cert.DxIdeal.main_v3_4)) (v5 : (c : Dev Cert.DxIdeal.nD) → Buf (Elt Ideal) ((c.tc : Thread Cert.DxIdeal.nD Cert.DxIdeal.τ).loc Cert.DxIdeal.main_v3_5)) (v6 : (c : Dev Cert.DxIdeal.nD) → Buf (Elt Ideal) ((c.tc : Thread Cert.DxIdeal.nD Cert.DxIdeal.τ).loc Cert.DxIdeal.main_v3_6)) (v7 : (c : Dev Cert.DxIdeal.nD) → Buf (Elt Ideal) ((c.tc : Thread Cert.DxIdeal.nD Cert.DxIdeal.τ).loc Cert.DxIdeal.main_v3_7)) (v8 : (c : Dev Cert.DxIdeal.nD) → Buf (Elt Ideal) ((c.tc : Thread Cert.DxIdeal.nD Cert.DxIdeal.τ).loc Cert.DxIdeal.main_v3_8)) (v9 : (c : Dev Cert.DxIdeal.nD) → Buf (Elt Ideal) ((c.tc : Thread Cert.DxIdeal.nD Cert.DxIdeal.τ).loc Cert.DxIdeal.main_v3_9)) (v10 : (c : Dev Cert.DxIdeal.nD) → Buf (Elt Ideal) ((c.tc : Thread Cert.DxIdeal.nD Cert.DxIdeal.τ).loc Cert.DxIdeal.main_v3_10)) (v11 : (c : Dev Cert.DxIdeal.nD) → Buf (Elt Ideal) ((c.tc : Thread Cert.DxIdeal.nD Cert.DxIdeal.τ).loc Cert.DxIdeal.main_v3_11)) (v12 : (c : Dev Cert.DxIdeal.nD) → Buf (Elt Ideal) ((c.tc : Thread Cert.DxIdeal.nD Cert.DxIdeal.τ).loc Cert.DxIdeal.main_v3_12)) (v13 : (c : Dev Cert.DxIdeal.nD) → Buf (Elt Ideal) ((c.tc : Thread Cert.DxIdeal.nD Cert.DxIdeal.τ).loc Cert.DxIdeal.main_v3_13)) (v14 : (c : Dev Cert.DxIdeal.nD) → Buf (Elt Ideal) ((c.tc : Thread Cert.DxIdeal.nD Cert.DxIdeal.τ).loc Cert.DxIdeal.main_v3_14)) (v15 : (c : Dev Cert.DxIdeal.nD) → Buf (Elt Ideal) ((c.tc : Thread Cert.DxIdeal.nD Cert.DxIdeal.τ).loc Cert.DxIdeal.main_v3_15)) (v16 : (c : Dev Cert.DxIdeal.nD) → Buf (Elt Ideal) ((c.tc : Thread Cert.DxIdeal.nD Cert.DxIdeal.τ).loc Cert.DxIdeal.main_v3_16)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v3_0) = v0 c
          ∧ r.2.mem ((c.tc : Thread Cert.DxIdeal.nD Cert.DxIdeal.τ).loc Cert.DxIdeal.main_v3_1) = v1 c
          ∧ r.2.mem ((c.tc : Thread Cert.DxIdeal.nD Cert.DxIdeal.τ).loc Cert.DxIdeal.main_v3_2) = v2 c
          ∧ r.2.mem ((c.tc : Thread Cert.DxIdeal.nD Cert.DxIdeal.τ).loc Cert.DxIdeal.main_v3_3) = v3 c
          ∧ r.2.mem ((c.tc : Thread Cert.DxIdeal.nD Cert.DxIdeal.τ).loc Cert.DxIdeal.main_v3_4) = v4 c
          ∧ r.2.mem ((c.tc : Thread Cert.DxIdeal.nD Cert.DxIdeal.τ).loc Cert.DxIdeal.main_v3_5) = v5 c
          ∧ r.2.mem ((c.tc : Thread Cert.DxIdeal.nD Cert.DxIdeal.τ).loc Cert.DxIdeal.main_v3_6) = v6 c
          ∧ r.2.mem ((c.tc : Thread Cert.DxIdeal.nD Cert.DxIdeal.τ).loc Cert.DxIdeal.main_v3_7) = v7 c
          ∧ r.2.mem ((c.tc : Thread Cert.DxIdeal.nD Cert.DxIdeal.τ).loc Cert.DxIdeal.main_v3_8) = v8 c
          ∧ r.2.mem ((c.tc : Thread Cert.DxIdeal.nD Cert.DxIdeal.τ).loc Cert.DxIdeal.main_v3_9) = v9 c
          ∧ r.2.mem ((c.tc : Thread Cert.DxIdeal.nD Cert.DxIdeal.τ).loc Cert.DxIdeal.main_v3_10) = v10 c
          ∧ r.2.mem ((c.tc : Thread Cert.DxIdeal.nD Cert.DxIdeal.τ).loc Cert.DxIdeal.main_v3_11) = v11 c
          ∧ r.2.mem ((c.tc : Thread Cert.DxIdeal.nD Cert.DxIdeal.τ).loc Cert.DxIdeal.main_v3_12) = v12 c
          ∧ r.2.mem ((c.tc : Thread Cert.DxIdeal.nD Cert.DxIdeal.τ).loc Cert.DxIdeal.main_v3_13) = v13 c
          ∧ r.2.mem ((c.tc : Thread Cert.DxIdeal.nD Cert.DxIdeal.τ).loc Cert.DxIdeal.main_v3_14) = v14 c
          ∧ r.2.mem ((c.tc : Thread Cert.DxIdeal.nD Cert.DxIdeal.τ).loc Cert.DxIdeal.main_v3_15) = v15 c
          ∧ r.2.mem ((c.tc : Thread Cert.DxIdeal.nD Cert.DxIdeal.τ).loc Cert.DxIdeal.main_v3_16) = v16 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
          ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
          ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
          ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
          ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
          ∧ r.2.mem ((c.tc : Thread Cert.DxIdeal.nD Cert.DxIdeal.τ).loc Cert.DxIdeal.main_arg12) = m ((c.tc : Thread Cert.DxIdeal.nD Cert.DxIdeal.τ).loc Cert.DxIdeal.main_arg12)
          ∧ r.2.mem ((c.tc : Thread Cert.DxIdeal.nD Cert.DxIdeal.τ).loc Cert.DxIdeal.main_arg13) = m ((c.tc : Thread Cert.DxIdeal.nD Cert.DxIdeal.τ).loc Cert.DxIdeal.main_arg13)
          ∧ r.2.mem ((c.tc : Thread Cert.DxIdeal.nD Cert.DxIdeal.τ).loc Cert.DxIdeal.main_arg14) = m ((c.tc : Thread Cert.DxIdeal.nD Cert.DxIdeal.τ).loc Cert.DxIdeal.main_arg14)
          ∧ r.2.mem ((c.tc : Thread Cert.DxIdeal.nD Cert.DxIdeal.τ).loc Cert.DxIdeal.main_arg15) = m ((c.tc : Thread Cert.DxIdeal.nD Cert.DxIdeal.τ).loc Cert.DxIdeal.main_arg15)
          ∧ r.2.mem ((c.tc : Thread Cert.DxIdeal.nD Cert.DxIdeal.τ).loc Cert.DxIdeal.main_arg16) = m ((c.tc : Thread Cert.DxIdeal.nD Cert.DxIdeal.τ).loc Cert.DxIdeal.main_arg16)
          ∧ r.2.mem ((c.tc : Thread Cert.DxIdeal.nD Cert.DxIdeal.τ).loc Cert.DxIdeal.main_arg17) = m ((c.tc : Thread Cert.DxIdeal.nD Cert.DxIdeal.τ).loc Cert.DxIdeal.main_arg17)
          ∧ r.2.mem ((c.tc : Thread Cert.DxIdeal.nD Cert.DxIdeal.τ).loc Cert.DxIdeal.main_arg18) = m ((c.tc : Thread Cert.DxIdeal.nD Cert.DxIdeal.τ).loc Cert.DxIdeal.main_arg18)
          ∧ r.2.mem ((c.tc : Thread Cert.DxIdeal.nD Cert.DxIdeal.τ).loc Cert.DxIdeal.main_arg19) = m ((c.tc : Thread Cert.DxIdeal.nD Cert.DxIdeal.τ).loc Cert.DxIdeal.main_arg19))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v8) = v0 c
          ∧ r.2.mem ((c.tc : Thread Cert.DxRefIdeal.nD Cert.DxRefIdeal.τ).loc Cert.DxRefIdeal.main_arg5) = v1 c
          ∧ r.2.mem ((c.tc : Thread Cert.DxRefIdeal.nD Cert.DxRefIdeal.τ).loc Cert.DxRefIdeal.main_v32) = v2 c
          ∧ r.2.mem ((c.tc : Thread Cert.DxRefIdeal.nD Cert.DxRefIdeal.τ).loc Cert.DxRefIdeal.main_v13) = v3 c
          ∧ r.2.mem ((c.tc : Thread Cert.DxRefIdeal.nD Cert.DxRefIdeal.τ).loc Cert.DxRefIdeal.main_v19) = v4 c
          ∧ r.2.mem ((c.tc : Thread Cert.DxRefIdeal.nD Cert.DxRefIdeal.τ).loc Cert.DxRefIdeal.main_arg9) = v5 c
          ∧ r.2.mem ((c.tc : Thread Cert.DxRefIdeal.nD Cert.DxRefIdeal.τ).loc Cert.DxRefIdeal.main_v56) = v6 c
          ∧ r.2.mem ((c.tc : Thread Cert.DxRefIdeal.nD Cert.DxRefIdeal.τ).loc Cert.DxRefIdeal.main_v37) = v7 c
          ∧ r.2.mem ((c.tc : Thread Cert.DxRefIdeal.nD Cert.DxRefIdeal.τ).loc Cert.DxRefIdeal.main_v43) = v8 c
          ∧ r.2.mem ((c.tc : Thread Cert.DxRefIdeal.nD Cert.DxRefIdeal.τ).loc Cert.DxRefIdeal.main_arg13) = v9 c
          ∧ r.2.mem ((c.tc : Thread Cert.DxRefIdeal.nD Cert.DxRefIdeal.τ).loc Cert.DxRefIdeal.main_v80) = v10 c
          ∧ r.2.mem ((c.tc : Thread Cert.DxRefIdeal.nD Cert.DxRefIdeal.τ).loc Cert.DxRefIdeal.main_v61) = v11 c
          ∧ r.2.mem ((c.tc : Thread Cert.DxRefIdeal.nD Cert.DxRefIdeal.τ).loc Cert.DxRefIdeal.main_v67) = v12 c
          ∧ r.2.mem ((c.tc : Thread Cert.DxRefIdeal.nD Cert.DxRefIdeal.τ).loc Cert.DxRefIdeal.main_arg17) = v13 c
          ∧ r.2.mem ((c.tc : Thread Cert.DxRefIdeal.nD Cert.DxRefIdeal.τ).loc Cert.DxRefIdeal.main_v104) = v14 c
          ∧ r.2.mem ((c.tc : Thread Cert.DxRefIdeal.nD Cert.DxRefIdeal.τ).loc Cert.DxRefIdeal.main_v85) = v15 c
          ∧ r.2.mem ((c.tc : Thread Cert.DxRefIdeal.nD Cert.DxRefIdeal.τ).loc Cert.DxRefIdeal.main_v91) = v16 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7)
          ∧ r.2.mem ((c.tc : Thread Cert.DxRefIdeal.nD Cert.DxRefIdeal.τ).loc Cert.DxRefIdeal.main_arg8) = m' ((c.tc : Thread Cert.DxRefIdeal.nD Cert.DxRefIdeal.τ).loc Cert.DxRefIdeal.main_arg8)
          ∧ r.2.mem ((c.tc : Thread Cert.DxRefIdeal.nD Cert.DxRefIdeal.τ).loc Cert.DxRefIdeal.main_arg9) = m' ((c.tc : Thread Cert.DxRefIdeal.nD Cert.DxRefIdeal.τ).loc Cert.DxRefIdeal.main_arg9)
          ∧ r.2.mem ((c.tc : Thread Cert.DxRefIdeal.nD Cert.DxRefIdeal.τ).loc Cert.DxRefIdeal.main_arg10) = m' ((c.tc : Thread Cert.DxRefIdeal.nD Cert.DxRefIdeal.τ).loc Cert.DxRefIdeal.main_arg10)
          ∧ r.2.mem ((c.tc : Thread Cert.DxRefIdeal.nD Cert.DxRefIdeal.τ).loc Cert.DxRefIdeal.main_arg11) = m' ((c.tc : Thread Cert.DxRefIdeal.nD Cert.DxRefIdeal.τ).loc Cert.DxRefIdeal.main_arg11)
          ∧ r.2.mem ((c.tc : Thread Cert.DxRefIdeal.nD Cert.DxRefIdeal.τ).loc Cert.DxRefIdeal.main_arg12) = m' ((c.tc : Thread Cert.DxRefIdeal.nD Cert.DxRefIdeal.τ).loc Cert.DxRefIdeal.main_arg12)
          ∧ r.2.mem ((c.tc : Thread Cert.DxRefIdeal.nD Cert.DxRefIdeal.τ).loc Cert.DxRefIdeal.main_arg13) = m' ((c.tc : Thread Cert.DxRefIdeal.nD Cert.DxRefIdeal.τ).loc Cert.DxRefIdeal.main_arg13)
          ∧ r.2.mem ((c.tc : Thread Cert.DxRefIdeal.nD Cert.DxRefIdeal.τ).loc Cert.DxRefIdeal.main_arg14) = m' ((c.tc : Thread Cert.DxRefIdeal.nD Cert.DxRefIdeal.τ).loc Cert.DxRefIdeal.main_arg14)
          ∧ r.2.mem ((c.tc : Thread Cert.DxRefIdeal.nD Cert.DxRefIdeal.τ).loc Cert.DxRefIdeal.main_arg15) = m' ((c.tc : Thread Cert.DxRefIdeal.nD Cert.DxRefIdeal.τ).loc Cert.DxRefIdeal.main_arg15)
          ∧ r.2.mem ((c.tc : Thread Cert.DxRefIdeal.nD Cert.DxRefIdeal.τ).loc Cert.DxRefIdeal.main_arg16) = m' ((c.tc : Thread Cert.DxRefIdeal.nD Cert.DxRefIdeal.τ).loc Cert.DxRefIdeal.main_arg16)
          ∧ r.2.mem ((c.tc : Thread Cert.DxRefIdeal.nD Cert.DxRefIdeal.τ).loc Cert.DxRefIdeal.main_arg17) = m' ((c.tc : Thread Cert.DxRefIdeal.nD Cert.DxRefIdeal.τ).loc Cert.DxRefIdeal.main_arg17)
          ∧ r.2.mem ((c.tc : Thread Cert.DxRefIdeal.nD Cert.DxRefIdeal.τ).loc Cert.DxRefIdeal.main_arg18) = m' ((c.tc : Thread Cert.DxRefIdeal.nD Cert.DxRefIdeal.τ).loc Cert.DxRefIdeal.main_arg18)
          ∧ r.2.mem ((c.tc : Thread Cert.DxRefIdeal.nD Cert.DxRefIdeal.τ).loc Cert.DxRefIdeal.main_arg19) = m' ((c.tc : Thread Cert.DxRefIdeal.nD Cert.DxRefIdeal.τ).loc Cert.DxRefIdeal.main_arg19))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)) →
    ∃ (v0 : (c : Dev Cert.WinIdeal.nD) → Buf (Elt Ideal) ((c.tc : Thread Cert.WinIdeal.nD Cert.WinIdeal.τ).loc Cert.WinIdeal.main_v4)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v4) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v11) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3))

def preserves_Afwd_AfwdIdeal : Prop :=
  True

def algebraic_AfwdIdeal_AfwdRefIdeal [hAfwdIdeal : Cert.AfwdIdeal.Facts] [hAfwdRefIdeal : Cert.AfwdRefIdeal.Facts] : Prop :=
  ∀ (m : (ℓ : Loc Cert.AfwdIdeal.nD Cert.AfwdIdeal.τ Cert.AfwdIdeal.sig) → Buf (Elt Ideal) ℓ) (g : Dev Cert.AfwdIdeal.nD → PrngReg)
    (m' : (ℓ : Loc Cert.AfwdRefIdeal.nD Cert.AfwdRefIdeal.τ Cert.AfwdRefIdeal.sig) → Buf (Elt Ideal) ℓ) (g' : Dev Cert.AfwdRefIdeal.nD → PrngReg), Pre_AfwdIdeal m →
    (∀ c : Dev Cert.AfwdIdeal.nD,
      m' ((c.tc : Thread Cert.AfwdRefIdeal.nD Cert.AfwdRefIdeal.τ).loc Cert.AfwdRefIdeal.main_arg0) = m ((c.tc : Thread Cert.AfwdIdeal.nD Cert.AfwdIdeal.τ).loc Cert.AfwdIdeal.main_arg0)
      ∧ m' ((c.tc : Thread Cert.AfwdRefIdeal.nD Cert.AfwdRefIdeal.τ).loc Cert.AfwdRefIdeal.main_arg1) = m ((c.tc : Thread Cert.AfwdIdeal.nD Cert.AfwdIdeal.τ).loc Cert.AfwdIdeal.main_arg1)
      ∧ m' ((c.tc : Thread Cert.AfwdRefIdeal.nD Cert.AfwdRefIdeal.τ).loc Cert.AfwdRefIdeal.main_arg2) = m ((c.tc : Thread Cert.AfwdIdeal.nD Cert.AfwdIdeal.τ).loc Cert.AfwdIdeal.main_arg2)
      ∧ m' ((c.tc : Thread Cert.AfwdRefIdeal.nD Cert.AfwdRefIdeal.τ).loc Cert.AfwdRefIdeal.main_arg3) = m ((c.tc : Thread Cert.AfwdIdeal.nD Cert.AfwdIdeal.τ).loc Cert.AfwdIdeal.main_arg3)
      ∧ m' ((c.tc : Thread Cert.AfwdRefIdeal.nD Cert.AfwdRefIdeal.τ).loc Cert.AfwdRefIdeal.main_arg4) = m ((c.tc : Thread Cert.AfwdIdeal.nD Cert.AfwdIdeal.τ).loc Cert.AfwdIdeal.main_arg4)
      ∧ m' ((c.tc : Thread Cert.AfwdRefIdeal.nD Cert.AfwdRefIdeal.τ).loc Cert.AfwdRefIdeal.main_arg5) = m ((c.tc : Thread Cert.AfwdIdeal.nD Cert.AfwdIdeal.τ).loc Cert.AfwdIdeal.main_arg5)) →
    ∃ (v0 : (c : Dev Cert.AfwdIdeal.nD) → Buf (Elt Ideal) ((c.tc : Thread Cert.AfwdIdeal.nD Cert.AfwdIdeal.τ).loc Cert.AfwdIdeal.main_v7_0)) (v1 : (c : Dev Cert.AfwdIdeal.nD) → Buf (Elt Ideal) ((c.tc : Thread Cert.AfwdIdeal.nD Cert.AfwdIdeal.τ).loc Cert.AfwdIdeal.main_v7_1)) (v2 : (c : Dev Cert.AfwdIdeal.nD) → Buf (Elt Ideal) ((c.tc : Thread Cert.AfwdIdeal.nD Cert.AfwdIdeal.τ).loc Cert.AfwdIdeal.main_v7_2)) (v3 : (c : Dev Cert.AfwdIdeal.nD) → Buf (Elt Ideal) ((c.tc : Thread Cert.AfwdIdeal.nD Cert.AfwdIdeal.τ).loc Cert.AfwdIdeal.main_v7_3)) (v4 : (c : Dev Cert.AfwdIdeal.nD) → Buf (Elt Ideal) ((c.tc : Thread Cert.AfwdIdeal.nD Cert.AfwdIdeal.τ).loc Cert.AfwdIdeal.main_v7_4)) (v5 : (c : Dev Cert.AfwdIdeal.nD) → Buf (Elt Ideal) ((c.tc : Thread Cert.AfwdIdeal.nD Cert.AfwdIdeal.τ).loc Cert.AfwdIdeal.main_v7_5)),
      θ_run (Cert.AfwdIdeal.defs (F := Ideal)) (onTc (τ := Cert.AfwdIdeal.τ) (Cert.AfwdIdeal.main (F := Ideal))) ⟨m, fun _ => 0, g⟩ (fun r => ∀ c : Dev Cert.AfwdIdeal.nD,
          r.2.mem ((c.tc : Thread Cert.AfwdIdeal.nD Cert.AfwdIdeal.τ).loc Cert.AfwdIdeal.main_v7_0) = v0 c
          ∧ r.2.mem ((c.tc : Thread Cert.AfwdIdeal.nD Cert.AfwdIdeal.τ).loc Cert.AfwdIdeal.main_v7_1) = v1 c
          ∧ r.2.mem ((c.tc : Thread Cert.AfwdIdeal.nD Cert.AfwdIdeal.τ).loc Cert.AfwdIdeal.main_v7_2) = v2 c
          ∧ r.2.mem ((c.tc : Thread Cert.AfwdIdeal.nD Cert.AfwdIdeal.τ).loc Cert.AfwdIdeal.main_v7_3) = v3 c
          ∧ r.2.mem ((c.tc : Thread Cert.AfwdIdeal.nD Cert.AfwdIdeal.τ).loc Cert.AfwdIdeal.main_v7_4) = v4 c
          ∧ r.2.mem ((c.tc : Thread Cert.AfwdIdeal.nD Cert.AfwdIdeal.τ).loc Cert.AfwdIdeal.main_v7_5) = v5 c
          ∧ r.2.mem ((c.tc : Thread Cert.AfwdIdeal.nD Cert.AfwdIdeal.τ).loc Cert.AfwdIdeal.main_arg0) = m ((c.tc : Thread Cert.AfwdIdeal.nD Cert.AfwdIdeal.τ).loc Cert.AfwdIdeal.main_arg0)
          ∧ r.2.mem ((c.tc : Thread Cert.AfwdIdeal.nD Cert.AfwdIdeal.τ).loc Cert.AfwdIdeal.main_arg1) = m ((c.tc : Thread Cert.AfwdIdeal.nD Cert.AfwdIdeal.τ).loc Cert.AfwdIdeal.main_arg1)
          ∧ r.2.mem ((c.tc : Thread Cert.AfwdIdeal.nD Cert.AfwdIdeal.τ).loc Cert.AfwdIdeal.main_arg2) = m ((c.tc : Thread Cert.AfwdIdeal.nD Cert.AfwdIdeal.τ).loc Cert.AfwdIdeal.main_arg2)
          ∧ r.2.mem ((c.tc : Thread Cert.AfwdIdeal.nD Cert.AfwdIdeal.τ).loc Cert.AfwdIdeal.main_arg3) = m ((c.tc : Thread Cert.AfwdIdeal.nD Cert.AfwdIdeal.τ).loc Cert.AfwdIdeal.main_arg3)
          ∧ r.2.mem ((c.tc : Thread Cert.AfwdIdeal.nD Cert.AfwdIdeal.τ).loc Cert.AfwdIdeal.main_arg4) = m ((c.tc : Thread Cert.AfwdIdeal.nD Cert.AfwdIdeal.τ).loc Cert.AfwdIdeal.main_arg4)
          ∧ r.2.mem ((c.tc : Thread Cert.AfwdIdeal.nD Cert.AfwdIdeal.τ).loc Cert.AfwdIdeal.main_arg5) = m ((c.tc : Thread Cert.AfwdIdeal.nD Cert.AfwdIdeal.τ).loc Cert.AfwdIdeal.main_arg5))
      ∧ θ_run (Cert.AfwdRefIdeal.defs (F := Ideal)) (onTc (τ := Cert.AfwdRefIdeal.τ) (Cert.AfwdRefIdeal.main (F := Ideal))) ⟨m', fun _ => 0, g'⟩ (fun r => ∀ c : Dev Cert.AfwdRefIdeal.nD,
          r.2.mem ((c.tc : Thread Cert.AfwdRefIdeal.nD Cert.AfwdRefIdeal.τ).loc Cert.AfwdRefIdeal.main_v42) = v0 c
          ∧ r.2.mem ((c.tc : Thread Cert.AfwdRefIdeal.nD Cert.AfwdRefIdeal.τ).loc Cert.AfwdRefIdeal.main_v43) = v1 c
          ∧ r.2.mem ((c.tc : Thread Cert.AfwdRefIdeal.nD Cert.AfwdRefIdeal.τ).loc Cert.AfwdRefIdeal.main_v44) = v2 c
          ∧ r.2.mem ((c.tc : Thread Cert.AfwdRefIdeal.nD Cert.AfwdRefIdeal.τ).loc Cert.AfwdRefIdeal.main_v45) = v3 c
          ∧ r.2.mem ((c.tc : Thread Cert.AfwdRefIdeal.nD Cert.AfwdRefIdeal.τ).loc Cert.AfwdRefIdeal.main_v17) = v4 c
          ∧ r.2.mem ((c.tc : Thread Cert.AfwdRefIdeal.nD Cert.AfwdRefIdeal.τ).loc Cert.AfwdRefIdeal.main_v46) = v5 c
          ∧ r.2.mem ((c.tc : Thread Cert.AfwdRefIdeal.nD Cert.AfwdRefIdeal.τ).loc Cert.AfwdRefIdeal.main_arg0) = m' ((c.tc : Thread Cert.AfwdRefIdeal.nD Cert.AfwdRefIdeal.τ).loc Cert.AfwdRefIdeal.main_arg0)
          ∧ r.2.mem ((c.tc : Thread Cert.AfwdRefIdeal.nD Cert.AfwdRefIdeal.τ).loc Cert.AfwdRefIdeal.main_arg1) = m' ((c.tc : Thread Cert.AfwdRefIdeal.nD Cert.AfwdRefIdeal.τ).loc Cert.AfwdRefIdeal.main_arg1)
          ∧ r.2.mem ((c.tc : Thread Cert.AfwdRefIdeal.nD Cert.AfwdRefIdeal.τ).loc Cert.AfwdRefIdeal.main_arg2) = m' ((c.tc : Thread Cert.AfwdRefIdeal.nD Cert.AfwdRefIdeal.τ).loc Cert.AfwdRefIdeal.main_arg2)
          ∧ r.2.mem ((c.tc : Thread Cert.AfwdRefIdeal.nD Cert.AfwdRefIdeal.τ).loc Cert.AfwdRefIdeal.main_arg3) = m' ((c.tc : Thread Cert.AfwdRefIdeal.nD Cert.AfwdRefIdeal.τ).loc Cert.AfwdRefIdeal.main_arg3)
          ∧ r.2.mem ((c.tc : Thread Cert.AfwdRefIdeal.nD Cert.AfwdRefIdeal.τ).loc Cert.AfwdRefIdeal.main_arg4) = m' ((c.tc : Thread Cert.AfwdRefIdeal.nD Cert.AfwdRefIdeal.τ).loc Cert.AfwdRefIdeal.main_arg4)
          ∧ r.2.mem ((c.tc : Thread Cert.AfwdRefIdeal.nD Cert.AfwdRefIdeal.τ).loc Cert.AfwdRefIdeal.main_arg5) = m' ((c.tc : Thread Cert.AfwdRefIdeal.nD Cert.AfwdRefIdeal.τ).loc Cert.AfwdRefIdeal.main_arg5))

def preserves_Bproj_BprojIdeal : Prop :=
  True

def algebraic_BprojIdeal_BprojRefIdeal [hBprojIdeal : Cert.BprojIdeal.Facts] [hBprojRefIdeal : Cert.BprojRefIdeal.Facts] : Prop :=
  ∀ (m : (ℓ : Loc Cert.BprojIdeal.nD Cert.BprojIdeal.τ Cert.BprojIdeal.sig) → Buf (Elt Ideal) ℓ) (g : Dev Cert.BprojIdeal.nD → PrngReg)
    (m' : (ℓ : Loc Cert.BprojRefIdeal.nD Cert.BprojRefIdeal.τ Cert.BprojRefIdeal.sig) → Buf (Elt Ideal) ℓ) (g' : Dev Cert.BprojRefIdeal.nD → PrngReg), Pre_BprojIdeal m →
    (∀ c : Dev Cert.BprojIdeal.nD,
      m' ((c.tc : Thread Cert.BprojRefIdeal.nD Cert.BprojRefIdeal.τ).loc Cert.BprojRefIdeal.main_arg0) = m ((c.tc : Thread Cert.BprojIdeal.nD Cert.BprojIdeal.τ).loc Cert.BprojIdeal.main_arg0)
      ∧ m' ((c.tc : Thread Cert.BprojRefIdeal.nD Cert.BprojRefIdeal.τ).loc Cert.BprojRefIdeal.main_arg1) = m ((c.tc : Thread Cert.BprojIdeal.nD Cert.BprojIdeal.τ).loc Cert.BprojIdeal.main_arg1)
      ∧ m' ((c.tc : Thread Cert.BprojRefIdeal.nD Cert.BprojRefIdeal.τ).loc Cert.BprojRefIdeal.main_arg2) = m ((c.tc : Thread Cert.BprojIdeal.nD Cert.BprojIdeal.τ).loc Cert.BprojIdeal.main_arg2)
      ∧ m' ((c.tc : Thread Cert.BprojRefIdeal.nD Cert.BprojRefIdeal.τ).loc Cert.BprojRefIdeal.main_arg3) = m ((c.tc : Thread Cert.BprojIdeal.nD Cert.BprojIdeal.τ).loc Cert.BprojIdeal.main_arg3)
      ∧ m' ((c.tc : Thread Cert.BprojRefIdeal.nD Cert.BprojRefIdeal.τ).loc Cert.BprojRefIdeal.main_arg4) = m ((c.tc : Thread Cert.BprojIdeal.nD Cert.BprojIdeal.τ).loc Cert.BprojIdeal.main_arg4)
      ∧ m' ((c.tc : Thread Cert.BprojRefIdeal.nD Cert.BprojRefIdeal.τ).loc Cert.BprojRefIdeal.main_arg5) = m ((c.tc : Thread Cert.BprojIdeal.nD Cert.BprojIdeal.τ).loc Cert.BprojIdeal.main_arg5)
      ∧ m' ((c.tc : Thread Cert.BprojRefIdeal.nD Cert.BprojRefIdeal.τ).loc Cert.BprojRefIdeal.main_arg6) = m ((c.tc : Thread Cert.BprojIdeal.nD Cert.BprojIdeal.τ).loc Cert.BprojIdeal.main_arg6)) →
    ∃ (v0 : (c : Dev Cert.BprojIdeal.nD) → Buf (Elt Ideal) ((c.tc : Thread Cert.BprojIdeal.nD Cert.BprojIdeal.τ).loc Cert.BprojIdeal.main_v4_0)) (v1 : (c : Dev Cert.BprojIdeal.nD) → Buf (Elt Ideal) ((c.tc : Thread Cert.BprojIdeal.nD Cert.BprojIdeal.τ).loc Cert.BprojIdeal.main_v4_1)) (v2 : (c : Dev Cert.BprojIdeal.nD) → Buf (Elt Ideal) ((c.tc : Thread Cert.BprojIdeal.nD Cert.BprojIdeal.τ).loc Cert.BprojIdeal.main_v4_2)) (v3 : (c : Dev Cert.BprojIdeal.nD) → Buf (Elt Ideal) ((c.tc : Thread Cert.BprojIdeal.nD Cert.BprojIdeal.τ).loc Cert.BprojIdeal.main_v4_3)) (v4 : (c : Dev Cert.BprojIdeal.nD) → Buf (Elt Ideal) ((c.tc : Thread Cert.BprojIdeal.nD Cert.BprojIdeal.τ).loc Cert.BprojIdeal.main_v4_4)) (v5 : (c : Dev Cert.BprojIdeal.nD) → Buf (Elt Ideal) ((c.tc : Thread Cert.BprojIdeal.nD Cert.BprojIdeal.τ).loc Cert.BprojIdeal.main_v4_5)),
      θ_run (Cert.BprojIdeal.defs (F := Ideal)) (onTc (τ := Cert.BprojIdeal.τ) (Cert.BprojIdeal.main (F := Ideal))) ⟨m, fun _ => 0, g⟩ (fun r => ∀ c : Dev Cert.BprojIdeal.nD,
          r.2.mem ((c.tc : Thread Cert.BprojIdeal.nD Cert.BprojIdeal.τ).loc Cert.BprojIdeal.main_v4_0) = v0 c
          ∧ r.2.mem ((c.tc : Thread Cert.BprojIdeal.nD Cert.BprojIdeal.τ).loc Cert.BprojIdeal.main_v4_1) = v1 c
          ∧ r.2.mem ((c.tc : Thread Cert.BprojIdeal.nD Cert.BprojIdeal.τ).loc Cert.BprojIdeal.main_v4_2) = v2 c
          ∧ r.2.mem ((c.tc : Thread Cert.BprojIdeal.nD Cert.BprojIdeal.τ).loc Cert.BprojIdeal.main_v4_3) = v3 c
          ∧ r.2.mem ((c.tc : Thread Cert.BprojIdeal.nD Cert.BprojIdeal.τ).loc Cert.BprojIdeal.main_v4_4) = v4 c
          ∧ r.2.mem ((c.tc : Thread Cert.BprojIdeal.nD Cert.BprojIdeal.τ).loc Cert.BprojIdeal.main_v4_5) = v5 c
          ∧ r.2.mem ((c.tc : Thread Cert.BprojIdeal.nD Cert.BprojIdeal.τ).loc Cert.BprojIdeal.main_arg0) = m ((c.tc : Thread Cert.BprojIdeal.nD Cert.BprojIdeal.τ).loc Cert.BprojIdeal.main_arg0)
          ∧ r.2.mem ((c.tc : Thread Cert.BprojIdeal.nD Cert.BprojIdeal.τ).loc Cert.BprojIdeal.main_arg1) = m ((c.tc : Thread Cert.BprojIdeal.nD Cert.BprojIdeal.τ).loc Cert.BprojIdeal.main_arg1)
          ∧ r.2.mem ((c.tc : Thread Cert.BprojIdeal.nD Cert.BprojIdeal.τ).loc Cert.BprojIdeal.main_arg2) = m ((c.tc : Thread Cert.BprojIdeal.nD Cert.BprojIdeal.τ).loc Cert.BprojIdeal.main_arg2)
          ∧ r.2.mem ((c.tc : Thread Cert.BprojIdeal.nD Cert.BprojIdeal.τ).loc Cert.BprojIdeal.main_arg3) = m ((c.tc : Thread Cert.BprojIdeal.nD Cert.BprojIdeal.τ).loc Cert.BprojIdeal.main_arg3)
          ∧ r.2.mem ((c.tc : Thread Cert.BprojIdeal.nD Cert.BprojIdeal.τ).loc Cert.BprojIdeal.main_arg4) = m ((c.tc : Thread Cert.BprojIdeal.nD Cert.BprojIdeal.τ).loc Cert.BprojIdeal.main_arg4)
          ∧ r.2.mem ((c.tc : Thread Cert.BprojIdeal.nD Cert.BprojIdeal.τ).loc Cert.BprojIdeal.main_arg5) = m ((c.tc : Thread Cert.BprojIdeal.nD Cert.BprojIdeal.τ).loc Cert.BprojIdeal.main_arg5)
          ∧ r.2.mem ((c.tc : Thread Cert.BprojIdeal.nD Cert.BprojIdeal.τ).loc Cert.BprojIdeal.main_arg6) = m ((c.tc : Thread Cert.BprojIdeal.nD Cert.BprojIdeal.τ).loc Cert.BprojIdeal.main_arg6))
      ∧ θ_run (Cert.BprojRefIdeal.defs (F := Ideal)) (onTc (τ := Cert.BprojRefIdeal.τ) (Cert.BprojRefIdeal.main (F := Ideal))) ⟨m', fun _ => 0, g'⟩ (fun r => ∀ c : Dev Cert.BprojRefIdeal.nD,
          r.2.mem ((c.tc : Thread Cert.BprojRefIdeal.nD Cert.BprojRefIdeal.τ).loc Cert.BprojRefIdeal.main_v21) = v0 c
          ∧ r.2.mem ((c.tc : Thread Cert.BprojRefIdeal.nD Cert.BprojRefIdeal.τ).loc Cert.BprojRefIdeal.main_v17) = v1 c
          ∧ r.2.mem ((c.tc : Thread Cert.BprojRefIdeal.nD Cert.BprojRefIdeal.τ).loc Cert.BprojRefIdeal.main_v34) = v2 c
          ∧ r.2.mem ((c.tc : Thread Cert.BprojRefIdeal.nD Cert.BprojRefIdeal.τ).loc Cert.BprojRefIdeal.main_v35) = v3 c
          ∧ r.2.mem ((c.tc : Thread Cert.BprojRefIdeal.nD Cert.BprojRefIdeal.τ).loc Cert.BprojRefIdeal.main_v39) = v4 c
          ∧ r.2.mem ((c.tc : Thread Cert.BprojRefIdeal.nD Cert.BprojRefIdeal.τ).loc Cert.BprojRefIdeal.main_v43) = v5 c
          ∧ r.2.mem ((c.tc : Thread Cert.BprojRefIdeal.nD Cert.BprojRefIdeal.τ).loc Cert.BprojRefIdeal.main_arg0) = m' ((c.tc : Thread Cert.BprojRefIdeal.nD Cert.BprojRefIdeal.τ).loc Cert.BprojRefIdeal.main_arg0)
          ∧ r.2.mem ((c.tc : Thread Cert.BprojRefIdeal.nD Cert.BprojRefIdeal.τ).loc Cert.BprojRefIdeal.main_arg1) = m' ((c.tc : Thread Cert.BprojRefIdeal.nD Cert.BprojRefIdeal.τ).loc Cert.BprojRefIdeal.main_arg1)
          ∧ r.2.mem ((c.tc : Thread Cert.BprojRefIdeal.nD Cert.BprojRefIdeal.τ).loc Cert.BprojRefIdeal.main_arg2) = m' ((c.tc : Thread Cert.BprojRefIdeal.nD Cert.BprojRefIdeal.τ).loc Cert.BprojRefIdeal.main_arg2)
          ∧ r.2.mem ((c.tc : Thread Cert.BprojRefIdeal.nD Cert.BprojRefIdeal.τ).loc Cert.BprojRefIdeal.main_arg3) = m' ((c.tc : Thread Cert.BprojRefIdeal.nD Cert.BprojRefIdeal.τ).loc Cert.BprojRefIdeal.main_arg3)
          ∧ r.2.mem ((c.tc : Thread Cert.BprojRefIdeal.nD Cert.BprojRefIdeal.τ).loc Cert.BprojRefIdeal.main_arg4) = m' ((c.tc : Thread Cert.BprojRefIdeal.nD Cert.BprojRefIdeal.τ).loc Cert.BprojRefIdeal.main_arg4)
          ∧ r.2.mem ((c.tc : Thread Cert.BprojRefIdeal.nD Cert.BprojRefIdeal.τ).loc Cert.BprojRefIdeal.main_arg5) = m' ((c.tc : Thread Cert.BprojRefIdeal.nD Cert.BprojRefIdeal.τ).loc Cert.BprojRefIdeal.main_arg5)
          ∧ r.2.mem ((c.tc : Thread Cert.BprojRefIdeal.nD Cert.BprojRefIdeal.τ).loc Cert.BprojRefIdeal.main_arg6) = m' ((c.tc : Thread Cert.BprojRefIdeal.nD Cert.BprojRefIdeal.τ).loc Cert.BprojRefIdeal.main_arg6))

def preserves_Bgrad_BgradIdeal : Prop :=
  True

def algebraic_BgradIdeal_BgradRefIdeal_pre_finite_bgrad [hBgradIdeal : Cert.BgradIdeal.Facts] [hBgradRefIdeal : Cert.BgradRefIdeal.Facts] [hPre_finite_bgrad : Cert.Pre_finite_bgrad.Facts] : Prop :=
  ∀ (m : (ℓ : Loc Cert.BgradIdeal.nD Cert.BgradIdeal.τ Cert.BgradIdeal.sig) → Buf (Elt Ideal) ℓ) (g : Dev Cert.BgradIdeal.nD → PrngReg)
    (m' : (ℓ : Loc Cert.BgradRefIdeal.nD Cert.BgradRefIdeal.τ Cert.BgradRefIdeal.sig) → Buf (Elt Ideal) ℓ) (g' : Dev Cert.BgradRefIdeal.nD → PrngReg), Pre_BgradIdeal_finite_bgrad m →
    (∀ c : Dev Cert.BgradIdeal.nD,
      m' ((c.tc : Thread Cert.BgradRefIdeal.nD Cert.BgradRefIdeal.τ).loc Cert.BgradRefIdeal.main_arg0) = m ((c.tc : Thread Cert.BgradIdeal.nD Cert.BgradIdeal.τ).loc Cert.BgradIdeal.main_arg0)
      ∧ m' ((c.tc : Thread Cert.BgradRefIdeal.nD Cert.BgradRefIdeal.τ).loc Cert.BgradRefIdeal.main_arg1) = m ((c.tc : Thread Cert.BgradIdeal.nD Cert.BgradIdeal.τ).loc Cert.BgradIdeal.main_arg1)
      ∧ m' ((c.tc : Thread Cert.BgradRefIdeal.nD Cert.BgradRefIdeal.τ).loc Cert.BgradRefIdeal.main_arg2) = m ((c.tc : Thread Cert.BgradIdeal.nD Cert.BgradIdeal.τ).loc Cert.BgradIdeal.main_arg2)
      ∧ m' ((c.tc : Thread Cert.BgradRefIdeal.nD Cert.BgradRefIdeal.τ).loc Cert.BgradRefIdeal.main_arg3) = m ((c.tc : Thread Cert.BgradIdeal.nD Cert.BgradIdeal.τ).loc Cert.BgradIdeal.main_arg3)
      ∧ m' ((c.tc : Thread Cert.BgradRefIdeal.nD Cert.BgradRefIdeal.τ).loc Cert.BgradRefIdeal.main_arg4) = m ((c.tc : Thread Cert.BgradIdeal.nD Cert.BgradIdeal.τ).loc Cert.BgradIdeal.main_arg4)
      ∧ m' ((c.tc : Thread Cert.BgradRefIdeal.nD Cert.BgradRefIdeal.τ).loc Cert.BgradRefIdeal.main_arg5) = m ((c.tc : Thread Cert.BgradIdeal.nD Cert.BgradIdeal.τ).loc Cert.BgradIdeal.main_arg5)
      ∧ m' ((c.tc : Thread Cert.BgradRefIdeal.nD Cert.BgradRefIdeal.τ).loc Cert.BgradRefIdeal.main_arg6) = m ((c.tc : Thread Cert.BgradIdeal.nD Cert.BgradIdeal.τ).loc Cert.BgradIdeal.main_arg6)
      ∧ m' ((c.tc : Thread Cert.BgradRefIdeal.nD Cert.BgradRefIdeal.τ).loc Cert.BgradRefIdeal.main_arg7) = m ((c.tc : Thread Cert.BgradIdeal.nD Cert.BgradIdeal.τ).loc Cert.BgradIdeal.main_arg7)
      ∧ m' ((c.tc : Thread Cert.BgradRefIdeal.nD Cert.BgradRefIdeal.τ).loc Cert.BgradRefIdeal.main_arg8) = m ((c.tc : Thread Cert.BgradIdeal.nD Cert.BgradIdeal.τ).loc Cert.BgradIdeal.main_arg8)
      ∧ m' ((c.tc : Thread Cert.BgradRefIdeal.nD Cert.BgradRefIdeal.τ).loc Cert.BgradRefIdeal.main_arg9) = m ((c.tc : Thread Cert.BgradIdeal.nD Cert.BgradIdeal.τ).loc Cert.BgradIdeal.main_arg9)
      ∧ m' ((c.tc : Thread Cert.BgradRefIdeal.nD Cert.BgradRefIdeal.τ).loc Cert.BgradRefIdeal.main_arg10) = m ((c.tc : Thread Cert.BgradIdeal.nD Cert.BgradIdeal.τ).loc Cert.BgradIdeal.main_arg10)
      ∧ m' ((c.tc : Thread Cert.BgradRefIdeal.nD Cert.BgradRefIdeal.τ).loc Cert.BgradRefIdeal.main_arg11) = m ((c.tc : Thread Cert.BgradIdeal.nD Cert.BgradIdeal.τ).loc Cert.BgradIdeal.main_arg11)) →
    ∃ (v0 : (c : Dev Cert.BgradIdeal.nD) → Buf (Elt Ideal) ((c.tc : Thread Cert.BgradIdeal.nD Cert.BgradIdeal.τ).loc Cert.BgradIdeal.main_v20_0)) (v1 : (c : Dev Cert.BgradIdeal.nD) → Buf (Elt Ideal) ((c.tc : Thread Cert.BgradIdeal.nD Cert.BgradIdeal.τ).loc Cert.BgradIdeal.main_v20_1)) (v2 : (c : Dev Cert.BgradIdeal.nD) → Buf (Elt Ideal) ((c.tc : Thread Cert.BgradIdeal.nD Cert.BgradIdeal.τ).loc Cert.BgradIdeal.main_v20_2)) (v3 : (c : Dev Cert.BgradIdeal.nD) → Buf (Elt Ideal) ((c.tc : Thread Cert.BgradIdeal.nD Cert.BgradIdeal.τ).loc Cert.BgradIdeal.main_v20_3)) (v4 : (c : Dev Cert.BgradIdeal.nD) → Buf (Elt Ideal) ((c.tc : Thread Cert.BgradIdeal.nD Cert.BgradIdeal.τ).loc Cert.BgradIdeal.main_v20_4)),
      θ_run (Cert.BgradIdeal.defs (F := Ideal)) (onTc (τ := Cert.BgradIdeal.τ) (Cert.BgradIdeal.main (F := Ideal))) ⟨m, fun _ => 0, g⟩ (fun r => ∀ c : Dev Cert.BgradIdeal.nD,
          r.2.mem ((c.tc : Thread Cert.BgradIdeal.nD Cert.BgradIdeal.τ).loc Cert.BgradIdeal.main_v20_0) = v0 c
          ∧ r.2.mem ((c.tc : Thread Cert.BgradIdeal.nD Cert.BgradIdeal.τ).loc Cert.BgradIdeal.main_v20_1) = v1 c
          ∧ r.2.mem ((c.tc : Thread Cert.BgradIdeal.nD Cert.BgradIdeal.τ).loc Cert.BgradIdeal.main_v20_2) = v2 c
          ∧ r.2.mem ((c.tc : Thread Cert.BgradIdeal.nD Cert.BgradIdeal.τ).loc Cert.BgradIdeal.main_v20_3) = v3 c
          ∧ r.2.mem ((c.tc : Thread Cert.BgradIdeal.nD Cert.BgradIdeal.τ).loc Cert.BgradIdeal.main_v20_4) = v4 c
          ∧ r.2.mem ((c.tc : Thread Cert.BgradIdeal.nD Cert.BgradIdeal.τ).loc Cert.BgradIdeal.main_arg0) = m ((c.tc : Thread Cert.BgradIdeal.nD Cert.BgradIdeal.τ).loc Cert.BgradIdeal.main_arg0)
          ∧ r.2.mem ((c.tc : Thread Cert.BgradIdeal.nD Cert.BgradIdeal.τ).loc Cert.BgradIdeal.main_arg1) = m ((c.tc : Thread Cert.BgradIdeal.nD Cert.BgradIdeal.τ).loc Cert.BgradIdeal.main_arg1)
          ∧ r.2.mem ((c.tc : Thread Cert.BgradIdeal.nD Cert.BgradIdeal.τ).loc Cert.BgradIdeal.main_arg2) = m ((c.tc : Thread Cert.BgradIdeal.nD Cert.BgradIdeal.τ).loc Cert.BgradIdeal.main_arg2)
          ∧ r.2.mem ((c.tc : Thread Cert.BgradIdeal.nD Cert.BgradIdeal.τ).loc Cert.BgradIdeal.main_arg3) = m ((c.tc : Thread Cert.BgradIdeal.nD Cert.BgradIdeal.τ).loc Cert.BgradIdeal.main_arg3)
          ∧ r.2.mem ((c.tc : Thread Cert.BgradIdeal.nD Cert.BgradIdeal.τ).loc Cert.BgradIdeal.main_arg4) = m ((c.tc : Thread Cert.BgradIdeal.nD Cert.BgradIdeal.τ).loc Cert.BgradIdeal.main_arg4)
          ∧ r.2.mem ((c.tc : Thread Cert.BgradIdeal.nD Cert.BgradIdeal.τ).loc Cert.BgradIdeal.main_arg5) = m ((c.tc : Thread Cert.BgradIdeal.nD Cert.BgradIdeal.τ).loc Cert.BgradIdeal.main_arg5)
          ∧ r.2.mem ((c.tc : Thread Cert.BgradIdeal.nD Cert.BgradIdeal.τ).loc Cert.BgradIdeal.main_arg6) = m ((c.tc : Thread Cert.BgradIdeal.nD Cert.BgradIdeal.τ).loc Cert.BgradIdeal.main_arg6)
          ∧ r.2.mem ((c.tc : Thread Cert.BgradIdeal.nD Cert.BgradIdeal.τ).loc Cert.BgradIdeal.main_arg7) = m ((c.tc : Thread Cert.BgradIdeal.nD Cert.BgradIdeal.τ).loc Cert.BgradIdeal.main_arg7)
          ∧ r.2.mem ((c.tc : Thread Cert.BgradIdeal.nD Cert.BgradIdeal.τ).loc Cert.BgradIdeal.main_arg8) = m ((c.tc : Thread Cert.BgradIdeal.nD Cert.BgradIdeal.τ).loc Cert.BgradIdeal.main_arg8)
          ∧ r.2.mem ((c.tc : Thread Cert.BgradIdeal.nD Cert.BgradIdeal.τ).loc Cert.BgradIdeal.main_arg9) = m ((c.tc : Thread Cert.BgradIdeal.nD Cert.BgradIdeal.τ).loc Cert.BgradIdeal.main_arg9)
          ∧ r.2.mem ((c.tc : Thread Cert.BgradIdeal.nD Cert.BgradIdeal.τ).loc Cert.BgradIdeal.main_arg10) = m ((c.tc : Thread Cert.BgradIdeal.nD Cert.BgradIdeal.τ).loc Cert.BgradIdeal.main_arg10)
          ∧ r.2.mem ((c.tc : Thread Cert.BgradIdeal.nD Cert.BgradIdeal.τ).loc Cert.BgradIdeal.main_arg11) = m ((c.tc : Thread Cert.BgradIdeal.nD Cert.BgradIdeal.τ).loc Cert.BgradIdeal.main_arg11))
      ∧ θ_run (Cert.BgradRefIdeal.defs (F := Ideal)) (onTc (τ := Cert.BgradRefIdeal.τ) (Cert.BgradRefIdeal.main (F := Ideal))) ⟨m', fun _ => 0, g'⟩ (fun r => ∀ c : Dev Cert.BgradRefIdeal.nD,
          r.2.mem ((c.tc : Thread Cert.BgradRefIdeal.nD Cert.BgradRefIdeal.τ).loc Cert.BgradRefIdeal.main_v101) = v0 c
          ∧ r.2.mem ((c.tc : Thread Cert.BgradRefIdeal.nD Cert.BgradRefIdeal.τ).loc Cert.BgradRefIdeal.main_v75) = v1 c
          ∧ r.2.mem ((c.tc : Thread Cert.BgradRefIdeal.nD Cert.BgradRefIdeal.τ).loc Cert.BgradRefIdeal.main_v72) = v2 c
          ∧ r.2.mem ((c.tc : Thread Cert.BgradRefIdeal.nD Cert.BgradRefIdeal.τ).loc Cert.BgradRefIdeal.main_v105) = v3 c
          ∧ r.2.mem ((c.tc : Thread Cert.BgradRefIdeal.nD Cert.BgradRefIdeal.τ).loc Cert.BgradRefIdeal.main_v106) = v4 c
          ∧ r.2.mem ((c.tc : Thread Cert.BgradRefIdeal.nD Cert.BgradRefIdeal.τ).loc Cert.BgradRefIdeal.main_arg0) = m' ((c.tc : Thread Cert.BgradRefIdeal.nD Cert.BgradRefIdeal.τ).loc Cert.BgradRefIdeal.main_arg0)
          ∧ r.2.mem ((c.tc : Thread Cert.BgradRefIdeal.nD Cert.BgradRefIdeal.τ).loc Cert.BgradRefIdeal.main_arg1) = m' ((c.tc : Thread Cert.BgradRefIdeal.nD Cert.BgradRefIdeal.τ).loc Cert.BgradRefIdeal.main_arg1)
          ∧ r.2.mem ((c.tc : Thread Cert.BgradRefIdeal.nD Cert.BgradRefIdeal.τ).loc Cert.BgradRefIdeal.main_arg2) = m' ((c.tc : Thread Cert.BgradRefIdeal.nD Cert.BgradRefIdeal.τ).loc Cert.BgradRefIdeal.main_arg2)
          ∧ r.2.mem ((c.tc : Thread Cert.BgradRefIdeal.nD Cert.BgradRefIdeal.τ).loc Cert.BgradRefIdeal.main_arg3) = m' ((c.tc : Thread Cert.BgradRefIdeal.nD Cert.BgradRefIdeal.τ).loc Cert.BgradRefIdeal.main_arg3)
          ∧ r.2.mem ((c.tc : Thread Cert.BgradRefIdeal.nD Cert.BgradRefIdeal.τ).loc Cert.BgradRefIdeal.main_arg4) = m' ((c.tc : Thread Cert.BgradRefIdeal.nD Cert.BgradRefIdeal.τ).loc Cert.BgradRefIdeal.main_arg4)
          ∧ r.2.mem ((c.tc : Thread Cert.BgradRefIdeal.nD Cert.BgradRefIdeal.τ).loc Cert.BgradRefIdeal.main_arg5) = m' ((c.tc : Thread Cert.BgradRefIdeal.nD Cert.BgradRefIdeal.τ).loc Cert.BgradRefIdeal.main_arg5)
          ∧ r.2.mem ((c.tc : Thread Cert.BgradRefIdeal.nD Cert.BgradRefIdeal.τ).loc Cert.BgradRefIdeal.main_arg6) = m' ((c.tc : Thread Cert.BgradRefIdeal.nD Cert.BgradRefIdeal.τ).loc Cert.BgradRefIdeal.main_arg6)
          ∧ r.2.mem ((c.tc : Thread Cert.BgradRefIdeal.nD Cert.BgradRefIdeal.τ).loc Cert.BgradRefIdeal.main_arg7) = m' ((c.tc : Thread Cert.BgradRefIdeal.nD Cert.BgradRefIdeal.τ).loc Cert.BgradRefIdeal.main_arg7)
          ∧ r.2.mem ((c.tc : Thread Cert.BgradRefIdeal.nD Cert.BgradRefIdeal.τ).loc Cert.BgradRefIdeal.main_arg8) = m' ((c.tc : Thread Cert.BgradRefIdeal.nD Cert.BgradRefIdeal.τ).loc Cert.BgradRefIdeal.main_arg8)
          ∧ r.2.mem ((c.tc : Thread Cert.BgradRefIdeal.nD Cert.BgradRefIdeal.τ).loc Cert.BgradRefIdeal.main_arg9) = m' ((c.tc : Thread Cert.BgradRefIdeal.nD Cert.BgradRefIdeal.τ).loc Cert.BgradRefIdeal.main_arg9)
          ∧ r.2.mem ((c.tc : Thread Cert.BgradRefIdeal.nD Cert.BgradRefIdeal.τ).loc Cert.BgradRefIdeal.main_arg10) = m' ((c.tc : Thread Cert.BgradRefIdeal.nD Cert.BgradRefIdeal.τ).loc Cert.BgradRefIdeal.main_arg10)
          ∧ r.2.mem ((c.tc : Thread Cert.BgradRefIdeal.nD Cert.BgradRefIdeal.τ).loc Cert.BgradRefIdeal.main_arg11) = m' ((c.tc : Thread Cert.BgradRefIdeal.nD Cert.BgradRefIdeal.τ).loc Cert.BgradRefIdeal.main_arg11))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg1) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)
      ∧ m' ((c.tc : Thread Cert.SmallRefIdeal.nD Cert.SmallRefIdeal.τ).loc Cert.SmallRefIdeal.main_arg13) = m ((c.tc : Thread Cert.SmallIdeal.nD Cert.SmallIdeal.τ).loc Cert.SmallIdeal.main_arg13)
      ∧ m' ((c.tc : Thread Cert.SmallRefIdeal.nD Cert.SmallRefIdeal.τ).loc Cert.SmallRefIdeal.main_arg14) = m ((c.tc : Thread Cert.SmallIdeal.nD Cert.SmallIdeal.τ).loc Cert.SmallIdeal.main_arg14)
      ∧ m' ((c.tc : Thread Cert.SmallRefIdeal.nD Cert.SmallRefIdeal.τ).loc Cert.SmallRefIdeal.main_arg15) = m ((c.tc : Thread Cert.SmallIdeal.nD Cert.SmallIdeal.τ).loc Cert.SmallIdeal.main_arg15)
      ∧ m' ((c.tc : Thread Cert.SmallRefIdeal.nD Cert.SmallRefIdeal.τ).loc Cert.SmallRefIdeal.main_arg16) = m ((c.tc : Thread Cert.SmallIdeal.nD Cert.SmallIdeal.τ).loc Cert.SmallIdeal.main_arg16)
      ∧ m' ((c.tc : Thread Cert.SmallRefIdeal.nD Cert.SmallRefIdeal.τ).loc Cert.SmallRefIdeal.main_arg17) = m ((c.tc : Thread Cert.SmallIdeal.nD Cert.SmallIdeal.τ).loc Cert.SmallIdeal.main_arg17)
      ∧ m' ((c.tc : Thread Cert.SmallRefIdeal.nD Cert.SmallRefIdeal.τ).loc Cert.SmallRefIdeal.main_arg18) = m ((c.tc : Thread Cert.SmallIdeal.nD Cert.SmallIdeal.τ).loc Cert.SmallIdeal.main_arg18)
      ∧ m' ((c.tc : Thread Cert.SmallRefIdeal.nD Cert.SmallRefIdeal.τ).loc Cert.SmallRefIdeal.main_arg19) = m ((c.tc : Thread Cert.SmallIdeal.nD Cert.SmallIdeal.τ).loc Cert.SmallIdeal.main_arg19)
      ∧ m' ((c.tc : Thread Cert.SmallRefIdeal.nD Cert.SmallRefIdeal.τ).loc Cert.SmallRefIdeal.main_arg20) = m ((c.tc : Thread Cert.SmallIdeal.nD Cert.SmallIdeal.τ).loc Cert.SmallIdeal.main_arg20)
      ∧ m' ((c.tc : Thread Cert.SmallRefIdeal.nD Cert.SmallRefIdeal.τ).loc Cert.SmallRefIdeal.main_arg21) = m ((c.tc : Thread Cert.SmallIdeal.nD Cert.SmallIdeal.τ).loc Cert.SmallIdeal.main_arg21)
      ∧ m' ((c.tc : Thread Cert.SmallRefIdeal.nD Cert.SmallRefIdeal.τ).loc Cert.SmallRefIdeal.main_arg22) = m ((c.tc : Thread Cert.SmallIdeal.nD Cert.SmallIdeal.τ).loc Cert.SmallIdeal.main_arg22)
      ∧ m' ((c.tc : Thread Cert.SmallRefIdeal.nD Cert.SmallRefIdeal.τ).loc Cert.SmallRefIdeal.main_arg23) = m ((c.tc : Thread Cert.SmallIdeal.nD Cert.SmallIdeal.τ).loc Cert.SmallIdeal.main_arg23)
      ∧ m' ((c.tc : Thread Cert.SmallRefIdeal.nD Cert.SmallRefIdeal.τ).loc Cert.SmallRefIdeal.main_arg24) = m ((c.tc : Thread Cert.SmallIdeal.nD Cert.SmallIdeal.τ).loc Cert.SmallIdeal.main_arg24)) →
    ∃ (v0 : (c : Dev Cert.SmallIdeal.nD) → Buf (Elt Ideal) ((c.tc : Thread Cert.SmallIdeal.nD Cert.SmallIdeal.τ).loc Cert.SmallIdeal.main_v1_0)) (v1 : (c : Dev Cert.SmallIdeal.nD) → Buf (Elt Ideal) ((c.tc : Thread Cert.SmallIdeal.nD Cert.SmallIdeal.τ).loc Cert.SmallIdeal.main_v1_1)) (v2 : (c : Dev Cert.SmallIdeal.nD) → Buf (Elt Ideal) ((c.tc : Thread Cert.SmallIdeal.nD Cert.SmallIdeal.τ).loc Cert.SmallIdeal.main_v1_2)) (v3 : (c : Dev Cert.SmallIdeal.nD) → Buf (Elt Ideal) ((c.tc : Thread Cert.SmallIdeal.nD Cert.SmallIdeal.τ).loc Cert.SmallIdeal.main_v1_3)) (v4 : (c : Dev Cert.SmallIdeal.nD) → Buf (Elt Ideal) ((c.tc : Thread Cert.SmallIdeal.nD Cert.SmallIdeal.τ).loc Cert.SmallIdeal.main_v1_4)) (v5 : (c : Dev Cert.SmallIdeal.nD) → Buf (Elt Ideal) ((c.tc : Thread Cert.SmallIdeal.nD Cert.SmallIdeal.τ).loc Cert.SmallIdeal.main_v1_5)) (v6 : (c : Dev Cert.SmallIdeal.nD) → Buf (Elt Ideal) ((c.tc : Thread Cert.SmallIdeal.nD Cert.SmallIdeal.τ).loc Cert.SmallIdeal.main_v1_6)) (v7 : (c : Dev Cert.SmallIdeal.nD) → Buf (Elt Ideal) ((c.tc : Thread Cert.SmallIdeal.nD Cert.SmallIdeal.τ).loc Cert.SmallIdeal.main_v1_7)) (v8 : (c : Dev Cert.SmallIdeal.nD) → Buf (Elt Ideal) ((c.tc : Thread Cert.SmallIdeal.nD Cert.SmallIdeal.τ).loc Cert.SmallIdeal.main_v1_8)) (v9 : (c : Dev Cert.SmallIdeal.nD) → Buf (Elt Ideal) ((c.tc : Thread Cert.SmallIdeal.nD Cert.SmallIdeal.τ).loc Cert.SmallIdeal.main_v1_9)) (v10 : (c : Dev Cert.SmallIdeal.nD) → Buf (Elt Ideal) ((c.tc : Thread Cert.SmallIdeal.nD Cert.SmallIdeal.τ).loc Cert.SmallIdeal.main_v1_10)) (v11 : (c : Dev Cert.SmallIdeal.nD) → Buf (Elt Ideal) ((c.tc : Thread Cert.SmallIdeal.nD Cert.SmallIdeal.τ).loc Cert.SmallIdeal.main_v1_11)) (v12 : (c : Dev Cert.SmallIdeal.nD) → Buf (Elt Ideal) ((c.tc : Thread Cert.SmallIdeal.nD Cert.SmallIdeal.τ).loc Cert.SmallIdeal.main_v1_12)) (v13 : (c : Dev Cert.SmallIdeal.nD) → Buf (Elt Ideal) ((c.tc : Thread Cert.SmallIdeal.nD Cert.SmallIdeal.τ).loc Cert.SmallIdeal.main_v1_13)) (v14 : (c : Dev Cert.SmallIdeal.nD) → Buf (Elt Ideal) ((c.tc : Thread Cert.SmallIdeal.nD Cert.SmallIdeal.τ).loc Cert.SmallIdeal.main_v1_14)) (v15 : (c : Dev Cert.SmallIdeal.nD) → Buf (Elt Ideal) ((c.tc : Thread Cert.SmallIdeal.nD Cert.SmallIdeal.τ).loc Cert.SmallIdeal.main_v1_15)) (v16 : (c : Dev Cert.SmallIdeal.nD) → Buf (Elt Ideal) ((c.tc : Thread Cert.SmallIdeal.nD Cert.SmallIdeal.τ).loc Cert.SmallIdeal.main_v1_16)) (v17 : (c : Dev Cert.SmallIdeal.nD) → Buf (Elt Ideal) ((c.tc : Thread Cert.SmallIdeal.nD Cert.SmallIdeal.τ).loc Cert.SmallIdeal.main_v1_17)) (v18 : (c : Dev Cert.SmallIdeal.nD) → Buf (Elt Ideal) ((c.tc : Thread Cert.SmallIdeal.nD Cert.SmallIdeal.τ).loc Cert.SmallIdeal.main_v1_18)) (v19 : (c : Dev Cert.SmallIdeal.nD) → Buf (Elt Ideal) ((c.tc : Thread Cert.SmallIdeal.nD Cert.SmallIdeal.τ).loc Cert.SmallIdeal.main_v1_19)) (v20 : (c : Dev Cert.SmallIdeal.nD) → Buf (Elt Ideal) ((c.tc : Thread Cert.SmallIdeal.nD Cert.SmallIdeal.τ).loc Cert.SmallIdeal.main_v1_20)) (v21 : (c : Dev Cert.SmallIdeal.nD) → Buf (Elt Ideal) ((c.tc : Thread Cert.SmallIdeal.nD Cert.SmallIdeal.τ).loc Cert.SmallIdeal.main_v1_21)) (v22 : (c : Dev Cert.SmallIdeal.nD) → Buf (Elt Ideal) ((c.tc : Thread Cert.SmallIdeal.nD Cert.SmallIdeal.τ).loc Cert.SmallIdeal.main_v1_22)) (v23 : (c : Dev Cert.SmallIdeal.nD) → Buf (Elt Ideal) ((c.tc : Thread Cert.SmallIdeal.nD Cert.SmallIdeal.τ).loc Cert.SmallIdeal.main_v1_23)) (v24 : (c : Dev Cert.SmallIdeal.nD) → Buf (Elt Ideal) ((c.tc : Thread Cert.SmallIdeal.nD Cert.SmallIdeal.τ).loc Cert.SmallIdeal.main_v1_24)) (v25 : (c : Dev Cert.SmallIdeal.nD) → Buf (Elt Ideal) ((c.tc : Thread Cert.SmallIdeal.nD Cert.SmallIdeal.τ).loc Cert.SmallIdeal.main_v1_25)) (v26 : (c : Dev Cert.SmallIdeal.nD) → Buf (Elt Ideal) ((c.tc : Thread Cert.SmallIdeal.nD Cert.SmallIdeal.τ).loc Cert.SmallIdeal.main_v1_26)) (v27 : (c : Dev Cert.SmallIdeal.nD) → Buf (Elt Ideal) ((c.tc : Thread Cert.SmallIdeal.nD Cert.SmallIdeal.τ).loc Cert.SmallIdeal.main_v1_27)) (v28 : (c : Dev Cert.SmallIdeal.nD) → Buf (Elt Ideal) ((c.tc : Thread Cert.SmallIdeal.nD Cert.SmallIdeal.τ).loc Cert.SmallIdeal.main_v1_28)) (v29 : (c : Dev Cert.SmallIdeal.nD) → Buf (Elt Ideal) ((c.tc : Thread Cert.SmallIdeal.nD Cert.SmallIdeal.τ).loc Cert.SmallIdeal.main_v1_29)) (v30 : (c : Dev Cert.SmallIdeal.nD) → Buf (Elt Ideal) ((c.tc : Thread Cert.SmallIdeal.nD Cert.SmallIdeal.τ).loc Cert.SmallIdeal.main_v1_30)) (v31 : (c : Dev Cert.SmallIdeal.nD) → Buf (Elt Ideal) ((c.tc : Thread Cert.SmallIdeal.nD Cert.SmallIdeal.τ).loc Cert.SmallIdeal.main_v1_31)) (v32 : (c : Dev Cert.SmallIdeal.nD) → Buf (Elt Ideal) ((c.tc : Thread Cert.SmallIdeal.nD Cert.SmallIdeal.τ).loc Cert.SmallIdeal.main_v1_32)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1_0) = v0 c
          ∧ r.2.mem ((c.tc : Thread Cert.SmallIdeal.nD Cert.SmallIdeal.τ).loc Cert.SmallIdeal.main_v1_1) = v1 c
          ∧ r.2.mem ((c.tc : Thread Cert.SmallIdeal.nD Cert.SmallIdeal.τ).loc Cert.SmallIdeal.main_v1_2) = v2 c
          ∧ r.2.mem ((c.tc : Thread Cert.SmallIdeal.nD Cert.SmallIdeal.τ).loc Cert.SmallIdeal.main_v1_3) = v3 c
          ∧ r.2.mem ((c.tc : Thread Cert.SmallIdeal.nD Cert.SmallIdeal.τ).loc Cert.SmallIdeal.main_v1_4) = v4 c
          ∧ r.2.mem ((c.tc : Thread Cert.SmallIdeal.nD Cert.SmallIdeal.τ).loc Cert.SmallIdeal.main_v1_5) = v5 c
          ∧ r.2.mem ((c.tc : Thread Cert.SmallIdeal.nD Cert.SmallIdeal.τ).loc Cert.SmallIdeal.main_v1_6) = v6 c
          ∧ r.2.mem ((c.tc : Thread Cert.SmallIdeal.nD Cert.SmallIdeal.τ).loc Cert.SmallIdeal.main_v1_7) = v7 c
          ∧ r.2.mem ((c.tc : Thread Cert.SmallIdeal.nD Cert.SmallIdeal.τ).loc Cert.SmallIdeal.main_v1_8) = v8 c
          ∧ r.2.mem ((c.tc : Thread Cert.SmallIdeal.nD Cert.SmallIdeal.τ).loc Cert.SmallIdeal.main_v1_9) = v9 c
          ∧ r.2.mem ((c.tc : Thread Cert.SmallIdeal.nD Cert.SmallIdeal.τ).loc Cert.SmallIdeal.main_v1_10) = v10 c
          ∧ r.2.mem ((c.tc : Thread Cert.SmallIdeal.nD Cert.SmallIdeal.τ).loc Cert.SmallIdeal.main_v1_11) = v11 c
          ∧ r.2.mem ((c.tc : Thread Cert.SmallIdeal.nD Cert.SmallIdeal.τ).loc Cert.SmallIdeal.main_v1_12) = v12 c
          ∧ r.2.mem ((c.tc : Thread Cert.SmallIdeal.nD Cert.SmallIdeal.τ).loc Cert.SmallIdeal.main_v1_13) = v13 c
          ∧ r.2.mem ((c.tc : Thread Cert.SmallIdeal.nD Cert.SmallIdeal.τ).loc Cert.SmallIdeal.main_v1_14) = v14 c
          ∧ r.2.mem ((c.tc : Thread Cert.SmallIdeal.nD Cert.SmallIdeal.τ).loc Cert.SmallIdeal.main_v1_15) = v15 c
          ∧ r.2.mem ((c.tc : Thread Cert.SmallIdeal.nD Cert.SmallIdeal.τ).loc Cert.SmallIdeal.main_v1_16) = v16 c
          ∧ r.2.mem ((c.tc : Thread Cert.SmallIdeal.nD Cert.SmallIdeal.τ).loc Cert.SmallIdeal.main_v1_17) = v17 c
          ∧ r.2.mem ((c.tc : Thread Cert.SmallIdeal.nD Cert.SmallIdeal.τ).loc Cert.SmallIdeal.main_v1_18) = v18 c
          ∧ r.2.mem ((c.tc : Thread Cert.SmallIdeal.nD Cert.SmallIdeal.τ).loc Cert.SmallIdeal.main_v1_19) = v19 c
          ∧ r.2.mem ((c.tc : Thread Cert.SmallIdeal.nD Cert.SmallIdeal.τ).loc Cert.SmallIdeal.main_v1_20) = v20 c
          ∧ r.2.mem ((c.tc : Thread Cert.SmallIdeal.nD Cert.SmallIdeal.τ).loc Cert.SmallIdeal.main_v1_21) = v21 c
          ∧ r.2.mem ((c.tc : Thread Cert.SmallIdeal.nD Cert.SmallIdeal.τ).loc Cert.SmallIdeal.main_v1_22) = v22 c
          ∧ r.2.mem ((c.tc : Thread Cert.SmallIdeal.nD Cert.SmallIdeal.τ).loc Cert.SmallIdeal.main_v1_23) = v23 c
          ∧ r.2.mem ((c.tc : Thread Cert.SmallIdeal.nD Cert.SmallIdeal.τ).loc Cert.SmallIdeal.main_v1_24) = v24 c
          ∧ r.2.mem ((c.tc : Thread Cert.SmallIdeal.nD Cert.SmallIdeal.τ).loc Cert.SmallIdeal.main_v1_25) = v25 c
          ∧ r.2.mem ((c.tc : Thread Cert.SmallIdeal.nD Cert.SmallIdeal.τ).loc Cert.SmallIdeal.main_v1_26) = v26 c
          ∧ r.2.mem ((c.tc : Thread Cert.SmallIdeal.nD Cert.SmallIdeal.τ).loc Cert.SmallIdeal.main_v1_27) = v27 c
          ∧ r.2.mem ((c.tc : Thread Cert.SmallIdeal.nD Cert.SmallIdeal.τ).loc Cert.SmallIdeal.main_v1_28) = v28 c
          ∧ r.2.mem ((c.tc : Thread Cert.SmallIdeal.nD Cert.SmallIdeal.τ).loc Cert.SmallIdeal.main_v1_29) = v29 c
          ∧ r.2.mem ((c.tc : Thread Cert.SmallIdeal.nD Cert.SmallIdeal.τ).loc Cert.SmallIdeal.main_v1_30) = v30 c
          ∧ r.2.mem ((c.tc : Thread Cert.SmallIdeal.nD Cert.SmallIdeal.τ).loc Cert.SmallIdeal.main_v1_31) = v31 c
          ∧ r.2.mem ((c.tc : Thread Cert.SmallIdeal.nD Cert.SmallIdeal.τ).loc Cert.SmallIdeal.main_v1_32) = v32 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
          ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
          ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
          ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
          ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
          ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
          ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v2) = v0 c
          ∧ r.2.mem ((c.tc : Thread Cert.SmallRefIdeal.nD Cert.SmallRefIdeal.τ).loc Cert.SmallRefIdeal.main_v26) = v1 c
          ∧ r.2.mem ((c.tc : Thread Cert.SmallRefIdeal.nD Cert.SmallRefIdeal.τ).loc Cert.SmallRefIdeal.main_v7) = v2 c
          ∧ r.2.mem ((c.tc : Thread Cert.SmallRefIdeal.nD Cert.SmallRefIdeal.τ).loc Cert.SmallRefIdeal.main_v13) = v3 c
          ∧ r.2.mem ((c.tc : Thread Cert.SmallRefIdeal.nD Cert.SmallRefIdeal.τ).loc Cert.SmallRefIdeal.main_v29) = v4 c
          ∧ r.2.mem ((c.tc : Thread Cert.SmallRefIdeal.nD Cert.SmallRefIdeal.τ).loc Cert.SmallRefIdeal.main_v53) = v5 c
          ∧ r.2.mem ((c.tc : Thread Cert.SmallRefIdeal.nD Cert.SmallRefIdeal.τ).loc Cert.SmallRefIdeal.main_v34) = v6 c
          ∧ r.2.mem ((c.tc : Thread Cert.SmallRefIdeal.nD Cert.SmallRefIdeal.τ).loc Cert.SmallRefIdeal.main_v40) = v7 c
          ∧ r.2.mem ((c.tc : Thread Cert.SmallRefIdeal.nD Cert.SmallRefIdeal.τ).loc Cert.SmallRefIdeal.main_v54) = v8 c
          ∧ r.2.mem ((c.tc : Thread Cert.SmallRefIdeal.nD Cert.SmallRefIdeal.τ).loc Cert.SmallRefIdeal.main_v78) = v9 c
          ∧ r.2.mem ((c.tc : Thread Cert.SmallRefIdeal.nD Cert.SmallRefIdeal.τ).loc Cert.SmallRefIdeal.main_v59) = v10 c
          ∧ r.2.mem ((c.tc : Thread Cert.SmallRefIdeal.nD Cert.SmallRefIdeal.τ).loc Cert.SmallRefIdeal.main_v65) = v11 c
          ∧ r.2.mem ((c.tc : Thread Cert.SmallRefIdeal.nD Cert.SmallRefIdeal.τ).loc Cert.SmallRefIdeal.main_v79) = v12 c
          ∧ r.2.mem ((c.tc : Thread Cert.SmallRefIdeal.nD Cert.SmallRefIdeal.τ).loc Cert.SmallRefIdeal.main_v103) = v13 c
          ∧ r.2.mem ((c.tc : Thread Cert.SmallRefIdeal.nD Cert.SmallRefIdeal.τ).loc Cert.SmallRefIdeal.main_v84) = v14 c
          ∧ r.2.mem ((c.tc : Thread Cert.SmallRefIdeal.nD Cert.SmallRefIdeal.τ).loc Cert.SmallRefIdeal.main_v90) = v15 c
          ∧ r.2.mem ((c.tc : Thread Cert.SmallRefIdeal.nD Cert.SmallRefIdeal.τ).loc Cert.SmallRefIdeal.main_v104) = v16 c
          ∧ r.2.mem ((c.tc : Thread Cert.SmallRefIdeal.nD Cert.SmallRefIdeal.τ).loc Cert.SmallRefIdeal.main_v128) = v17 c
          ∧ r.2.mem ((c.tc : Thread Cert.SmallRefIdeal.nD Cert.SmallRefIdeal.τ).loc Cert.SmallRefIdeal.main_v109) = v18 c
          ∧ r.2.mem ((c.tc : Thread Cert.SmallRefIdeal.nD Cert.SmallRefIdeal.τ).loc Cert.SmallRefIdeal.main_v115) = v19 c
          ∧ r.2.mem ((c.tc : Thread Cert.SmallRefIdeal.nD Cert.SmallRefIdeal.τ).loc Cert.SmallRefIdeal.main_v129) = v20 c
          ∧ r.2.mem ((c.tc : Thread Cert.SmallRefIdeal.nD Cert.SmallRefIdeal.τ).loc Cert.SmallRefIdeal.main_v153) = v21 c
          ∧ r.2.mem ((c.tc : Thread Cert.SmallRefIdeal.nD Cert.SmallRefIdeal.τ).loc Cert.SmallRefIdeal.main_v134) = v22 c
          ∧ r.2.mem ((c.tc : Thread Cert.SmallRefIdeal.nD Cert.SmallRefIdeal.τ).loc Cert.SmallRefIdeal.main_v140) = v23 c
          ∧ r.2.mem ((c.tc : Thread Cert.SmallRefIdeal.nD Cert.SmallRefIdeal.τ).loc Cert.SmallRefIdeal.main_v155) = v24 c
          ∧ r.2.mem ((c.tc : Thread Cert.SmallRefIdeal.nD Cert.SmallRefIdeal.τ).loc Cert.SmallRefIdeal.main_v179) = v25 c
          ∧ r.2.mem ((c.tc : Thread Cert.SmallRefIdeal.nD Cert.SmallRefIdeal.τ).loc Cert.SmallRefIdeal.main_v160) = v26 c
          ∧ r.2.mem ((c.tc : Thread Cert.SmallRefIdeal.nD Cert.SmallRefIdeal.τ).loc Cert.SmallRefIdeal.main_v166) = v27 c
          ∧ r.2.mem ((c.tc : Thread Cert.SmallRefIdeal.nD Cert.SmallRefIdeal.τ).loc Cert.SmallRefIdeal.main_v181) = v28 c
          ∧ r.2.mem ((c.tc : Thread Cert.SmallRefIdeal.nD Cert.SmallRefIdeal.τ).loc Cert.SmallRefIdeal.main_v205) = v29 c
          ∧ r.2.mem ((c.tc : Thread Cert.SmallRefIdeal.nD Cert.SmallRefIdeal.τ).loc Cert.SmallRefIdeal.main_v186) = v30 c
          ∧ r.2.mem ((c.tc : Thread Cert.SmallRefIdeal.nD Cert.SmallRefIdeal.τ).loc Cert.SmallRefIdeal.main_v192) = v31 c
          ∧ r.2.mem ((c.tc : Thread Cert.SmallRefIdeal.nD Cert.SmallRefIdeal.τ).loc Cert.SmallRefIdeal.main_v206) = v32 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12)
          ∧ r.2.mem ((c.tc : Thread Cert.SmallRefIdeal.nD Cert.SmallRefIdeal.τ).loc Cert.SmallRefIdeal.main_arg13) = m' ((c.tc : Thread Cert.SmallRefIdeal.nD Cert.SmallRefIdeal.τ).loc Cert.SmallRefIdeal.main_arg13)
          ∧ r.2.mem ((c.tc : Thread Cert.SmallRefIdeal.nD Cert.SmallRefIdeal.τ).loc Cert.SmallRefIdeal.main_arg14) = m' ((c.tc : Thread Cert.SmallRefIdeal.nD Cert.SmallRefIdeal.τ).loc Cert.SmallRefIdeal.main_arg14)
          ∧ r.2.mem ((c.tc : Thread Cert.SmallRefIdeal.nD Cert.SmallRefIdeal.τ).loc Cert.SmallRefIdeal.main_arg15) = m' ((c.tc : Thread Cert.SmallRefIdeal.nD Cert.SmallRefIdeal.τ).loc Cert.SmallRefIdeal.main_arg15)
          ∧ r.2.mem ((c.tc : Thread Cert.SmallRefIdeal.nD Cert.SmallRefIdeal.τ).loc Cert.SmallRefIdeal.main_arg16) = m' ((c.tc : Thread Cert.SmallRefIdeal.nD Cert.SmallRefIdeal.τ).loc Cert.SmallRefIdeal.main_arg16)
          ∧ r.2.mem ((c.tc : Thread Cert.SmallRefIdeal.nD Cert.SmallRefIdeal.τ).loc Cert.SmallRefIdeal.main_arg17) = m' ((c.tc : Thread Cert.SmallRefIdeal.nD Cert.SmallRefIdeal.τ).loc Cert.SmallRefIdeal.main_arg17)
          ∧ r.2.mem ((c.tc : Thread Cert.SmallRefIdeal.nD Cert.SmallRefIdeal.τ).loc Cert.SmallRefIdeal.main_arg18) = m' ((c.tc : Thread Cert.SmallRefIdeal.nD Cert.SmallRefIdeal.τ).loc Cert.SmallRefIdeal.main_arg18)
          ∧ r.2.mem ((c.tc : Thread Cert.SmallRefIdeal.nD Cert.SmallRefIdeal.τ).loc Cert.SmallRefIdeal.main_arg19) = m' ((c.tc : Thread Cert.SmallRefIdeal.nD Cert.SmallRefIdeal.τ).loc Cert.SmallRefIdeal.main_arg19)
          ∧ r.2.mem ((c.tc : Thread Cert.SmallRefIdeal.nD Cert.SmallRefIdeal.τ).loc Cert.SmallRefIdeal.main_arg20) = m' ((c.tc : Thread Cert.SmallRefIdeal.nD Cert.SmallRefIdeal.τ).loc Cert.SmallRefIdeal.main_arg20)
          ∧ r.2.mem ((c.tc : Thread Cert.SmallRefIdeal.nD Cert.SmallRefIdeal.τ).loc Cert.SmallRefIdeal.main_arg21) = m' ((c.tc : Thread Cert.SmallRefIdeal.nD Cert.SmallRefIdeal.τ).loc Cert.SmallRefIdeal.main_arg21)
          ∧ r.2.mem ((c.tc : Thread Cert.SmallRefIdeal.nD Cert.SmallRefIdeal.τ).loc Cert.SmallRefIdeal.main_arg22) = m' ((c.tc : Thread Cert.SmallRefIdeal.nD Cert.SmallRefIdeal.τ).loc Cert.SmallRefIdeal.main_arg22)
          ∧ r.2.mem ((c.tc : Thread Cert.SmallRefIdeal.nD Cert.SmallRefIdeal.τ).loc Cert.SmallRefIdeal.main_arg23) = m' ((c.tc : Thread Cert.SmallRefIdeal.nD Cert.SmallRefIdeal.τ).loc Cert.SmallRefIdeal.main_arg23)
          ∧ r.2.mem ((c.tc : Thread Cert.SmallRefIdeal.nD Cert.SmallRefIdeal.τ).loc Cert.SmallRefIdeal.main_arg24) = m' ((c.tc : Thread Cert.SmallRefIdeal.nD Cert.SmallRefIdeal.τ).loc Cert.SmallRefIdeal.main_arg24))

def Claim : Prop :=
  ∃ (hMix : Cert.Mix.Facts) (hMixIdeal : Cert.MixIdeal.Facts) (hMixRefIdeal : Cert.MixRefIdeal.Facts) (hDx : Cert.Dx.Facts) (hDxIdeal : Cert.DxIdeal.Facts) (hDxRefIdeal : Cert.DxRefIdeal.Facts) (hWin : Cert.Win.Facts) (hWinIdeal : Cert.WinIdeal.Facts) (hWinRefIdeal : Cert.WinRefIdeal.Facts) (hAfwd : Cert.Afwd.Facts) (hAfwdIdeal : Cert.AfwdIdeal.Facts) (hAfwdRefIdeal : Cert.AfwdRefIdeal.Facts) (hBproj : Cert.Bproj.Facts) (hBprojIdeal : Cert.BprojIdeal.Facts) (hBprojRefIdeal : Cert.BprojRefIdeal.Facts) (hBgrad : Cert.Bgrad.Facts) (hBgradIdeal : Cert.BgradIdeal.Facts) (hBgradRefIdeal : Cert.BgradRefIdeal.Facts) (hAdam : Cert.Adam.Facts) (hAdamIdeal : Cert.AdamIdeal.Facts) (hAdamRefIdeal : Cert.AdamRefIdeal.Facts) (hSmall : Cert.Small.Facts) (hSmallIdeal : Cert.SmallIdeal.Facts) (hSmallRefIdeal : Cert.SmallRefIdeal.Facts) (hPre_finite : Cert.Pre_finite.Facts) (hPre_finite_bgrad : Cert.Pre_finite_bgrad.Facts),
    quiescent_Mix (hMix := hMix)
    ∧ quiescent_MixIdeal (hMixIdeal := hMixIdeal)
    ∧ quiescent_MixIdeal_pre_finite (hMixIdeal := hMixIdeal) (hPre_finite := hPre_finite)
    ∧ quiescent_MixRefIdeal (hMixRefIdeal := hMixRefIdeal)
    ∧ quiescent_MixRefIdeal_pre_finite (hMixRefIdeal := hMixRefIdeal) (hPre_finite := hPre_finite)
    ∧ quiescent_Dx (hDx := hDx)
    ∧ quiescent_DxIdeal (hDxIdeal := hDxIdeal)
    ∧ quiescent_DxRefIdeal (hDxRefIdeal := hDxRefIdeal)
    ∧ quiescent_Win (hWin := hWin)
    ∧ quiescent_WinIdeal (hWinIdeal := hWinIdeal)
    ∧ quiescent_WinRefIdeal (hWinRefIdeal := hWinRefIdeal)
    ∧ quiescent_Afwd (hAfwd := hAfwd)
    ∧ quiescent_AfwdIdeal (hAfwdIdeal := hAfwdIdeal)
    ∧ quiescent_AfwdRefIdeal (hAfwdRefIdeal := hAfwdRefIdeal)
    ∧ quiescent_Bproj (hBproj := hBproj)
    ∧ quiescent_BprojIdeal (hBprojIdeal := hBprojIdeal)
    ∧ quiescent_BprojRefIdeal (hBprojRefIdeal := hBprojRefIdeal)
    ∧ quiescent_Bgrad (hBgrad := hBgrad)
    ∧ quiescent_BgradIdeal (hBgradIdeal := hBgradIdeal)
    ∧ quiescent_BgradIdeal_pre_finite_bgrad (hBgradIdeal := hBgradIdeal) (hPre_finite_bgrad := hPre_finite_bgrad)
    ∧ quiescent_BgradRefIdeal (hBgradRefIdeal := hBgradRefIdeal)
    ∧ quiescent_BgradRefIdeal_pre_finite_bgrad (hBgradRefIdeal := hBgradRefIdeal) (hPre_finite_bgrad := hPre_finite_bgrad)
    ∧ quiescent_Adam (hAdam := hAdam)
    ∧ quiescent_AdamIdeal (hAdamIdeal := hAdamIdeal)
    ∧ quiescent_AdamRefIdeal (hAdamRefIdeal := hAdamRefIdeal)
    ∧ quiescent_Small (hSmall := hSmall)
    ∧ quiescent_SmallIdeal (hSmallIdeal := hSmallIdeal)
    ∧ quiescent_SmallRefIdeal (hSmallRefIdeal := hSmallRefIdeal)
    ∧ preserves_Mix_MixIdeal
    ∧ algebraic_MixIdeal_MixRefIdeal_pre_finite (hMixIdeal := hMixIdeal) (hMixRefIdeal := hMixRefIdeal) (hPre_finite := hPre_finite)
    ∧ preserves_Dx_DxIdeal
    ∧ algebraic_DxIdeal_DxRefIdeal (hDxIdeal := hDxIdeal) (hDxRefIdeal := hDxRefIdeal)
    ∧ preserves_Win_WinIdeal
    ∧ algebraic_WinIdeal_WinRefIdeal (hWinIdeal := hWinIdeal) (hWinRefIdeal := hWinRefIdeal)
    ∧ preserves_Afwd_AfwdIdeal
    ∧ algebraic_AfwdIdeal_AfwdRefIdeal (hAfwdIdeal := hAfwdIdeal) (hAfwdRefIdeal := hAfwdRefIdeal)
    ∧ preserves_Bproj_BprojIdeal
    ∧ algebraic_BprojIdeal_BprojRefIdeal (hBprojIdeal := hBprojIdeal) (hBprojRefIdeal := hBprojRefIdeal)
    ∧ preserves_Bgrad_BgradIdeal
    ∧ algebraic_BgradIdeal_BgradRefIdeal_pre_finite_bgrad (hBgradIdeal := hBgradIdeal) (hBgradRefIdeal := hBgradRefIdeal) (hPre_finite_bgrad := hPre_finite_bgrad)
    ∧ preserves_Adam_AdamIdeal
    ∧ algebraic_AdamIdeal_AdamRefIdeal (hAdamIdeal := hAdamIdeal) (hAdamRefIdeal := hAdamRefIdeal)
    ∧ preserves_Small_SmallIdeal
    ∧ algebraic_SmallIdeal_SmallRefIdeal (hSmallIdeal := hSmallIdeal) (hSmallRefIdeal := hSmallRefIdeal)
-- ==== Pre_finite.lean ====
abbrev S8192x6144 : Shape := ⟨2, ![8192, 6144]⟩
abbrev S1x2048 : Shape := ⟨2, ![1, 2048]⟩
abbrev S8x128x128 : Shape := ⟨3, ![8, 128, 128]⟩
abbrev S8x128 : Shape := ⟨2, ![8, 128]⟩
abbrev S2048x1024 : Shape := ⟨2, ![2048, 1024]⟩
abbrev S8192x1024 : Shape := ⟨2, ![8192, 1024]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8x128 .f32) (main_arg5 : FVec F S2048x1024 .f32) (main_arg6 : FVec F S8192x1024 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 :=
  let main_v16 : FVec F S8x128 .f32 := Host.absf main_arg4
  let main_cst_6 : FVec F S_ .f32 := constant S_ .f32 0x7F800000#32
  let main_v17 : FVec F S8x128 .f32 := broadcastInDim S8x128 ![] bcast_S_S8x128 main_cst_6
  let main_v18 : IVec S8x128 1 := cmpf .olt main_v16 main_v17
  let main_c_7 : IVec S_ 1 := constantI S_ 1 1#1
  let main_v19 : IVec S_ 1 := (fun x v => Host.reduce IntOp.andi x v reducesTo_S8x128_S_d0_1 h_S_) main_v18 main_c_7
  let main_v20 : FVec F S2048x1024 .f32 := Host.absf main_arg5
  let main_cst_8 : FVec F S_ .f32 := constant S_ .f32 0x7F800000#32
  let main_v21 : FVec F S2048x1024 .f32 := broadcastInDim S2048x1024 ![] bcast_S_S2048x1024 main_cst_8
  let main_v22 : IVec S2048x1024 1 := cmpf .olt main_v20 main_v21
  let main_c_9 : IVec S_ 1 := constantI S_ 1 1#1
  let main_v23 : IVec S_ 1 := (fun x v => Host.reduce IntOp.andi x v reducesTo_S2048x1024_S_d0_1 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  (main_v3, main_v7, main_v11, main_v15, main_v19, main_v23, main_v27)

def fn {F : FTy → Type} [FloatOps F] (main_arg0 : FVec F S8192x6144 .f32) (main_arg1 : FVec F S1x2048 .f32) (main_arg2 : FVec F S1x2048 .f32) (main_arg3 : FVec F S8x128x128 .f32) (main_arg4 : FVec F S8x128 .f32) (main_arg5 : FVec F S2048x1024 .f32) (main_arg6 : FVec F S8192x1024 .f32) : IVec S_ 1 × IVec S_ 1 × IVec S_ 1 × IVec S_ 1 × IVec S_ 1 × IVec S_ 1 × IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : FVec F S1x2048 .f32 := Host.absf main_arg2
  let main_cst_2 : FVec F S_ .f32 := constant S_ .f32 0x7F800000#32
  let main_v9 : FVec F S1x2048 .f32 := broadcastInDim S1x2048 ![] bcast_S_S1x2048 main_cst_2
  let main_v10 : IVec S1x2048 1 := cmpf .olt main_v8 main_v9
  let main_c_3 : IVec S_ 1 := constantI S_ 1 1#1
  let main_v11 : IVec S_ 1 := (fun x v => Host.reduce IntOp.andi x v reducesTo_S1x2048_S_d0_1 h_S_) main_v10 main_c_3
  let main_v12 : FVec F S8x128x128 .f32 := Host.absf main_arg3
  let main_cst_4 : FVec F S_ .f32 := constant S_ .f32 0x7F800000#32
  let main_v13 : FVec F S8x128x128 .f32 := broadcastInDim S8x128x128 ![] bcast_S_S8x128x128 main_cst_4
  let main_v14 : IVec S8x128x128 1 := cmpf .olt main_v12 main_v13
  let main_c_5 : IVec S_ 1 := constantI S_ 1 1#1
  let main_v15 : IVec S_ 1 := (fun x v => Host.reduce IntOp.andi x v reducesTo_S8x128x128_S_d0_1_2 h_S_) main_v14 main_c_5
  fn_part1 (F := F) main_arg4 main_arg5 main_arg6 main_v3 main_v7 main_v11 main_v15
-- ==== Pre_finite_bgrad.lean ====
abbrev S8192x1024 : Shape := ⟨2, ![8192, 1024]⟩
abbrev S1x1024 : Shape := ⟨2, ![1, 1024]⟩
abbrev S1024x2048 : Shape := ⟨2, ![1024, 2048]⟩
abbrev S1024x256 : Shape := ⟨2, ![1024, 256]⟩
abbrev S8192x256 : Shape := ⟨2, ![8192, 256]⟩
abbrev S16x128x256 : Shape := ⟨3, ![16, 128, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024x256 : S_.BroadcastsInDim S1024x256 (![] : Fin 0 → Fin S1024x256.rank)
  reducesTo_S1024x256_S_d0_1 : S1024x256.ReducesTo [0, 1] S_
  bcast_S_S8192x256 : S_.BroadcastsInDim S8192x256 (![] : Fin 0 → Fin S8192x256.rank)
  reducesTo_S8192x256_S_d0_1 : S8192x256.ReducesTo [0, 1] S_
  bcast_S_S16x128x256 : S_.BroadcastsInDim S16x128x256 (![] : Fin 0 → Fin S16x128x256.rank)
  reducesTo_S16x128x256_S_d0_1_2 : S16x128x256.ReducesTo [0, 1, 2] S_

variable [Facts]

def fn_part2 {F : FTy → Type} [FloatOps F] (main_arg9 : FVec F S8192x256 .f32) (main_arg10 : FVec F S16x128x256 .f32) (main_arg11 : FVec F S16x128x256 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 × IVec S_ 1 × IVec S_ 1 × IVec S_ 1 × IVec S_ 1 × IVec S_ 1 × IVec S_ 1 × IVec S_ 1 × IVec S_ 1 × IVec S_ 1 × IVec S_ 1 :=
  let main_v32 : FVec F S8192x256 .f32 := Host.absf main_arg9
  let main_cst_14 : FVec F S_ .f32 := constant S_ .f32 0x7F800000#32
  let main_v33 : FVec F S8192x256 .f32 := broadcastInDim S8192x256 ![] bcast_S_S8192x256 main_cst_14
  let main_v34 : IVec S8192x256 1 := cmpf .olt main_v32 main_v33
  let main_c_15 : IVec S_ 1 := constantI S_ 1 1#1
  let main_v35 : IVec S_ 1 := (fun x v => Host.reduce IntOp.andi x v reducesTo_S8192x256_S_d0_1 h_S_) main_v34 main_c_15
  let main_v36 : FVec F S16x128x256 .f32 := Host.absf main_arg10
  let main_cst_16 : FVec F S_ .f32 := constant S_ .f32 0x7F800000#32
  let main_v37 : FVec F S16x128x256 .f32 := broadcastInDim S16x128x256 ![] bcast_S_S16x128x256 main_cst_16
  let main_v38 : IVec S16x128x256 1 := cmpf .olt main_v36 main_v37
  let main_c_17 : IVec S_ 1 := constantI S_ 1 1#1
  let main_v39 : IVec S_ 1 := (fun x v => Host.reduce IntOp.andi x v reducesTo_S16x128x256_S_d0_1_2 h_S_) main_v38 main_c_17
  let main_v40 : FVec F S16x128x256 .f32 := Host.absf main_arg11
  let main_cst_18 : FVec F S_ .f32 := constant S_ .f32 0x7F800000#32
  let main_v41 : FVec F S16x128x256 .f32 := broadcastInDim S16x128x256 ![] bcast_S_S16x128x256 main_cst_18
  let main_v42 : IVec S16x128x256 1 := cmpf .olt main_v40 main_v41
  let main_c_19 : IVec S_ 1 := constantI S_ 1 1#1
  let main_v43 : IVec S_ 1 := (fun x v => Host.reduce IntOp.andi x v reducesTo_S16x128x256_S_d0_1_2 h_S_) main_v42 main_c_19
  (main_v3, main_v7, main_v11, main_v15, main_v19, main_v23, main_v27, main_v31, main_v35, main_v39, main_v43)

def fn_part1 {F : FTy → Type} [FloatOps F] (main_arg5 : FVec F S8192x1024 .f32) (main_arg6 : FVec F S8192x1024 .f32) (main_arg7 : FVec F S8192x1024 .f32) (main_arg8 : FVec F S8192x256 .f32) (main_arg9 : FVec F S8192x256 .f32) (main_arg10 : FVec F S16x128x256 .f32) (main_arg11 : FVec F S16x128x256 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 × IVec S_ 1 × IVec S_ 1 × IVec S_ 1 :=
  let main_v16 : FVec F S8192x1024 .f32 := Host.absf main_arg5
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : FVec F S8192x1024 .f32 := Host.absf main_arg6
  let main_cst_8 : FVec F S_ .f32 := constant S_ .f32 0x7F800000#32
  let main_v21 : FVec F S8192x1024 .f32 := broadcastInDim S8192x1024 ![] bcast_S_S8192x1024 main_cst_8
  let main_v22 : IVec S8192x1024 1 := cmpf .olt main_v20 main_v21
  let main_c_9 : IVec S_ 1 := constantI S_ 1 1#1
  let main_v23 : IVec S_ 1 := (fun x v => Host.reduce IntOp.andi x v reducesTo_S8192x1024_S_d0_1 h_S_) main_v22 main_c_9
  let main_v24 : FVec F S8192x1024 .f32 := Host.absf main_arg7
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : FVec F S8192x256 .f32 := Host.absf main_arg8
  let main_cst_12 : FVec F S_ .f32 := constant S_ .f32 0x7F800000#32
  let main_v29 : FVec F S8192x256 .f32 := broadcastInDim S8192x256 ![] bcast_S_S8192x256 main_cst_12
  let main_v30 : IVec S8192x256 1 := cmpf .olt main_v28 main_v29
  let main_c_13 : IVec S_ 1 := constantI S_ 1 1#1
  let main_v31 : IVec S_ 1 := (fun x v => Host.reduce IntOp.andi x v reducesTo_S8192x256_S_d0_1 h_S_) main_v30 main_c_13
  fn_part2 (F := F) main_arg9 main_arg10 main_arg11 main_v3 main_v7 main_v11 main_v15 main_v19 main_v23 main_v27 main_v31

def fn {F : FTy → Type} [FloatOps F] (main_arg0 : FVec F S8192x1024 .f32) (main_arg1 : FVec F S1x1024 .f32) (main_arg2 : FVec F S1x1024 .f32) (main_arg3 : FVec F S1024x2048 .f32) (main_arg4 : FVec F S1024x256 .f32) (main_arg5 : FVec F S8192x1024 .f32) (main_arg6 : FVec F S8192x1024 .f32) (main_arg7 : FVec F S8192x1024 .f32) (main_arg8 : FVec F S8192x256 .f32) (main_arg9 : FVec F S8192x256 .f32) (main_arg10 : FVec F S16x128x256 .f32) (main_arg11 : FVec F S16x128x256 .f32) : IVec S_ 1 × IVec S_ 1 × IVec S_ 1 × IVec S_ 1 × IVec S_ 1 × IVec S_ 1 × IVec S_ 1 × IVec S_ 1 × IVec S_ 1 × IVec S_ 1 × IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2048 .f32 := Host.absf main_arg3
  let main_cst_2 : FVec F S_ .f32 := constant S_ .f32 0x7F800000#32
  let main_v9 : FVec F S1024x2048 .f32 := broadcastInDim S1024x2048 ![] bcast_S_S1024x2048 main_cst_2
  let main_v10 : IVec S1024x2048 1 := cmpf .olt main_v8 main_v9
  let main_c_3 : IVec S_ 1 := constantI S_ 1 1#1
  let main_v11 : IVec S_ 1 := (fun x v => Host.reduce IntOp.andi x v reducesTo_S1024x2048_S_d0_1 h_S_) main_v10 main_c_3
  let main_v12 : FVec F S1024x256 .f32 := Host.absf main_arg4
  let main_cst_4 : FVec F S_ .f32 := constant S_ .f32 0x7F800000#32
  let main_v13 : FVec F S1024x256 .f32 := broadcastInDim S1024x256 ![] bcast_S_S1024x256 main_cst_4
  let main_v14 : IVec S1024x256 1 := cmpf .olt main_v12 main_v13
  let main_c_5 : IVec S_ 1 := constantI S_ 1 1#1
  let main_v15 : IVec S_ 1 := (fun x v => Host.reduce IntOp.andi x v reducesTo_S1024x256_S_d0_1 h_S_) main_v14 main_c_5
  fn_part1 (F := F) main_arg5 main_arg6 main_arg7 main_arg8 main_arg9 main_arg10 main_arg11 main_v3 main_v7 main_v11 main_v15
-- ==== Mix.lean ====
abbrev S8192x6144 : Shape := ⟨2, ![8192, 6144]⟩
abbrev S1x2048 : Shape := ⟨2, ![1, 2048]⟩
abbrev S8x128x128 : Shape := ⟨3, ![8, 128, 128]⟩
abbrev S8x128 : Shape := ⟨2, ![8, 128]⟩
abbrev S2048x1024 : Shape := ⟨2, ![2048, 1024]⟩
abbrev S8192x1024 : Shape := ⟨2, ![8192, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S64x128x8x256 : Shape := ⟨4, ![64, 128, 8, 256]⟩
abbrev S128x128 : Shape := ⟨2, ![128, 128]⟩
abbrev S8x64x256x128 : Shape := ⟨4, ![8, 64, 256, 128]⟩
abbrev S128x8 : Shape := ⟨2, ![128, 8]⟩
abbrev S128x8x1 : Shape := ⟨3, ![128, 8, 1]⟩
abbrev S1x128x8x1 : Shape := ⟨4, ![1, 128, 8, 1]⟩
abbrev S256x1024 : Shape := ⟨2, ![256, 1024]⟩
abbrev S256x2048 : Shape := ⟨2, ![256, 2048]⟩
abbrev S256x1 : Shape := ⟨2, ![256, 1]⟩
abbrev S256x6144 : Shape := ⟨2, ![256, 6144]⟩
abbrev S128x256 : Shape := ⟨2, ![128, 256]⟩
abbrev S256x256 : Shape := ⟨2, ![256, 256]⟩
abbrev S1x128x128 : Shape := ⟨3, ![1, 128, 128]⟩
abbrev S1x256 : Shape := ⟨2, ![1, 256]⟩
abbrev S128x1 : Shape := ⟨2, ![128, 1]⟩
abbrev S2048 : Shape := ⟨1, ![2048]⟩
abbrev S256 : Shape := ⟨1, ![256]⟩

abbrev nBuf : Space → Nat
  | .hbm => 85
  | .vmem => 27
  | .smem => 0
  | _ => 0

abbrev bufTy : (tb : Table) → Fin (tcTables nBuf tb) → BufTy
  | .hbm, ⟨0, _⟩ => ⟨S8192x6144, .f32⟩
  | .hbm, ⟨1, _⟩ => ⟨S1x2048, .f32⟩
  | .hbm, ⟨2, _⟩ => ⟨S1x2048, .f32⟩
  | .hbm, ⟨3, _⟩ => ⟨S8x128x128, .f32⟩
  | .hbm, ⟨4, _⟩ => ⟨S8x128, .f32⟩
  | .hbm, ⟨5, _⟩ => ⟨S2048x1024, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S64x128x8x256, .f32⟩
  | .hbm, ⟨36, _⟩ => ⟨S_, .i1⟩
  | .hbm, ⟨37, _⟩ => ⟨S128x128, .i1⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S128x128, .i1⟩
  | .hbm, ⟨44, _⟩ => ⟨S_, .i1⟩
  | .hbm, ⟨45, _⟩ => ⟨S128x128, .i1⟩
  | .hbm, ⟨46, _⟩ => ⟨S128x128, .i1⟩
  | .hbm, ⟨47, _⟩ => ⟨S_, .f32⟩
  | .hbm, ⟨48, _⟩ => ⟨S_, .f32⟩
  | .hbm, ⟨49, _⟩ => ⟨S8x128x128, .i1⟩
  | .hbm, ⟨50, _⟩ => ⟨S8x128x128, .f32⟩
  | .hbm, ⟨51, _⟩ => ⟨S8x128x128, .f32⟩
  | .hbm, ⟨52, _⟩ => ⟨S8x64x256x128, .f32⟩
  | .hbm, ⟨53, _⟩ => ⟨S64x128x8x256, .f32⟩
  | .hbm, ⟨54, _⟩ => ⟨S128x8, .f32⟩
  | .hbm, ⟨55, _⟩ => ⟨S128x8x1, .f32⟩
  | .hbm, ⟨56, _⟩ => ⟨S1x128x8x1, .f32⟩
  | .hbm, ⟨57, _⟩ => ⟨S64x128x8x256, .f32⟩
  | .hbm, ⟨58, _⟩ => ⟨S64x128x8x256, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .bf16⟩
  | .hbm, ⟨72, _⟩ => ⟨S8192x2048, .bf16⟩
  | .hbm, ⟨73, _⟩ => ⟨S8192x2048, .bf16⟩
  | .hbm, ⟨74, _⟩ => ⟨S8192x2048, .bf16⟩
  | .hbm, ⟨75, _⟩ => ⟨S2048x1024, .bf16⟩
  | .hbm, ⟨76, _⟩ => ⟨S128x8, .f32⟩
  | .hbm, ⟨77, _⟩ => ⟨S_, .f32⟩
  | .hbm, ⟨78, _⟩ => ⟨S8x128, .f32⟩
  | .hbm, ⟨79, _⟩ => ⟨S8192x6144, .bf16⟩
  | .hbm, ⟨80, _⟩ => ⟨S2048x1024, .bf16⟩
  | .hbm, ⟨81, _⟩ => ⟨S8x128x128, .f32⟩
  | .hbm, ⟨82, _⟩ => ⟨S128x128, .f32⟩
  | .hbm, ⟨83, _⟩ => ⟨S1x2048, .f32⟩
  | .hbm, ⟨84, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x1, .f32⟩
  | .local _ .vmem, ⟨11, _⟩ => ⟨S256x1, .f32⟩
  | .local _ .vmem, ⟨12, _⟩ => ⟨S2048x1024, .bf16⟩
  | .local _ .vmem, ⟨13, _⟩ => ⟨S1x2048, .f32⟩
  | .local _ .vmem, ⟨14, _⟩ => ⟨S1x2048, .f32⟩
  | .local _ .vmem, ⟨15, _⟩ => ⟨S8x128x128, .f32⟩
  | .local _ .vmem, ⟨16, _⟩ => ⟨S128x8, .f32⟩
  | .local _ .vmem, ⟨17, _⟩ => ⟨S8x128, .f32⟩
  | .local _ .vmem, ⟨18, _⟩ => ⟨S256x6144, .bf16⟩
  | .local _ .vmem, ⟨19, _⟩ => ⟨S256x6144, .bf16⟩
  | .local _ .vmem, ⟨20, _⟩ => ⟨S2048x1024, .bf16⟩
  | .local _ .vmem, ⟨21, _⟩ => ⟨S8x128x128, .f32⟩
  | .local _ .vmem, ⟨22, _⟩ => ⟨S128x128, .f32⟩
  | .local _ .vmem, ⟨23, _⟩ => ⟨S1x2048, .f32⟩
  | .local _ .vmem, ⟨24, _⟩ => ⟨S1x2048, .f32⟩
  | .local _ .vmem, ⟨25, _⟩ => ⟨S256x2048, .f32⟩
  | .local _ .vmem, ⟨26, _⟩ => ⟨S2048x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_v24 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_0 : Ref sig .tc := ⟨.hbm, 44, rfl⟩
abbrev main_call0_v5 : Ref sig .tc := ⟨.hbm, 45, rfl⟩
abbrev main_v25 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call2_v0 : Ref sig .tc := ⟨.hbm, 61, rfl⟩
abbrev main_call2_v1 : Ref sig .tc := ⟨.hbm, 62, rfl⟩
abbrev main_call2_cst : Ref sig .tc := ⟨.hbm, 63, rfl⟩
abbrev main_call2_v2 : Ref sig .tc := ⟨.hbm, 64, rfl⟩
abbrev main_call2_v3 : Ref sig .tc := ⟨.hbm, 65, rfl⟩
abbrev main_call2_cst_0 : Ref sig .tc := ⟨.hbm, 66, rfl⟩
abbrev main_call2_v4 : Ref sig .tc := ⟨.hbm, 67, rfl⟩
abbrev main_call2_v5 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_5 : Ref sig .tc := ⟨.hbm, 77, rfl⟩
abbrev main_v44 : Ref sig .tc := ⟨.hbm, 78, rfl⟩
abbrev main_v45_0 : Ref sig .tc := ⟨.hbm, 79, rfl⟩
abbrev main_v45_1 : Ref sig .tc := ⟨.hbm, 80, rfl⟩
abbrev main_v45_2 : Ref sig .tc := ⟨.hbm, 81, rfl⟩
abbrev main_v45_3 : Ref sig .tc := ⟨.hbm, 82, rfl⟩
abbrev main_v45_4 : Ref sig .tc := ⟨.hbm, 83, rfl⟩
abbrev main_v45_5 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v1063 : BitVec 1 := Scalar.cmpi .eq arg0 c31_i32
  let v1064 : BitVec 32 := Scalar.extui v1063
  let c0_i32_552 : BitVec 32 := 0#32
  let v1065 : BitVec 1 := Scalar.cmpi .ne v1064 c0_i32_552
  v1065

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x6144 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MixRefIdeal.lean ====
abbrev S8192x6144 : Shape := ⟨2, ![8192, 6144]⟩
abbrev S1x2048 : Shape := ⟨2, ![1, 2048]⟩
abbrev S8x128x128 : Shape := ⟨3, ![8, 128, 128]⟩
abbrev S8x128 : Shape := ⟨2, ![8, 128]⟩
abbrev S2048x1024 : Shape := ⟨2, ![2048, 1024]⟩
abbrev S8192x1024 : Shape := ⟨2, ![8192, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S64x128x8x256 : Shape := ⟨4, ![64, 128, 8, 256]⟩
abbrev S128x128 : Shape := ⟨2, ![128, 128]⟩
abbrev S8x64x256x128 : Shape := ⟨4, ![8, 64, 256, 128]⟩
abbrev S128x8 : Shape := ⟨2, ![128, 8]⟩
abbrev S128x8x1 : Shape := ⟨3, ![128, 8, 1]⟩
abbrev S1x128x8x1 : Shape := ⟨4, ![1, 128, 8, 1]⟩
abbrev S1024x2048 : Shape := ⟨2, ![1024, 2048]⟩
abbrev S2048 : Shape := ⟨1, ![2048]⟩

abbrev nBuf : Space → Nat
  | .hbm => 162
  | .vmem => 0
  | .smem => 0
  | _ => 0

abbrev hbmTy0_0 (i : Nat) : BufTy := match i % 128 with
  | 0 => ⟨S8192x6144, .f32⟩
  | 1 => ⟨S1x2048, .f32⟩
  | 2 => ⟨S1x2048, .f32⟩
  | 3 => ⟨S8x128x128, .f32⟩
  | 4 => ⟨S8x128, .f32⟩
  | 5 => ⟨S2048x1024, .f32⟩
  | 6 => ⟨S8192x1024, .f32⟩
  | 7 => ⟨S8192x2048, .f32⟩
  | 8 => ⟨S8192x2048, .f32⟩
  | 9 => ⟨S8192x2048, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S8192x2048, .f32⟩
  | 17 => ⟨S8192x2048, .f32⟩
  | 18 => ⟨S8192x2048, .f32⟩
  | 19 => ⟨S_, .f32⟩
  | 20 => ⟨S8192x2048, .f32⟩
  | 21 => ⟨S8192x2048, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S8192x2048, .f32⟩
  | 29 => ⟨S8192x2048, .f32⟩
  | 30 => ⟨S_, .f32⟩
  | 31 => ⟨S8192x1, .f32⟩
  | 32 => ⟨S8192x1, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x2048, .f32⟩
  | 39 => ⟨S8192x2048, .f32⟩
  | 40 => ⟨S8192x2048, .f32⟩
  | 41 => ⟨S8192x2048, .f32⟩
  | 42 => ⟨S8192x2048, .f32⟩
  | 43 => ⟨S8192x2048, .f32⟩
  | 44 => ⟨S64x128x8x256, .f32⟩
  | 45 => ⟨S_, .i1⟩
  | 46 => ⟨S128x128, .i1⟩
  | 47 => ⟨S128x128, .i32⟩
  | 48 => ⟨S_, .i32⟩
  | 49 => ⟨S128x128, .i32⟩
  | 50 => ⟨S128x128, .i32⟩
  | 51 => ⟨S128x128, .i32⟩
  | 52 => ⟨S128x128, .i1⟩
  | 53 => ⟨S_, .i1⟩
  | 54 => ⟨S128x128, .i1⟩
  | 55 => ⟨S128x128, .i1⟩
  | 56 => ⟨S_, .f32⟩
  | 57 => ⟨S8x128x128, .i1⟩
  | 58 => ⟨S8x128x128, .f32⟩
  | 59 => ⟨S8x128x128, .f32⟩
  | 60 => ⟨S_, .f32⟩
  | 61 => ⟨S8x128x128, .f32⟩
  | 62 => ⟨S8x64x256x128, .f32⟩
  | 63 => ⟨S64x128x8x256, .f32⟩
  | 64 => ⟨S128x8, .f32⟩
  | 65 => ⟨S128x8x1, .f32⟩
  | 66 => ⟨S1x128x8x1, .f32⟩
  | 67 => ⟨S64x128x8x256, .f32⟩
  | 68 => ⟨S64x128x8x256, .f32⟩
  | 69 => ⟨S8192x2048, .f32⟩
  | 70 => ⟨S8192x2048, .f32⟩
  | 71 => ⟨S8192x2048, .f32⟩
  | 72 => ⟨S8192x2048, .f32⟩
  | 73 => ⟨S_, .f32⟩
  | 74 => ⟨S8192x2048, .f32⟩
  | 75 => ⟨S8192x2048, .f32⟩
  | 76 => ⟨S_, .f32⟩
  | 77 => ⟨S8192x2048, .f32⟩
  | 78 => ⟨S8192x2048, .f32⟩
  | 79 => ⟨S_, .f32⟩
  | 80 => ⟨S8192x2048, .f32⟩
  | 81 => ⟨S8192x2048, .f32⟩
  | 82 => ⟨S8192x2048, .f32⟩
  | 83 => ⟨S8192x2048, .f32⟩
  | 84 => ⟨S8192x2048, .f32⟩
  | 85 => ⟨S8192x1024, .f32⟩
  | 86 => ⟨S1024x2048, .f32⟩
  | 87 => ⟨S2048x1024, .f32⟩
  | 88 => ⟨S8192x2048, .f32⟩
  | 89 => ⟨S8192x2048, .f32⟩
  | 90 => ⟨S8192x2048, .f32⟩
  | 91 => ⟨S8192x2048, .f32⟩
  | 92 => ⟨S8192x2048, .f32⟩
  | 93 => ⟨S8192x2048, .f32⟩
  | 94 => ⟨S8192x2048, .f32⟩
  | 95 => ⟨S8192x2048, .f32⟩
  | 96 => ⟨S8192x2048, .f32⟩
  | 97 => ⟨S64x128x8x256, .f32⟩
  | 98 => ⟨S_, .f32⟩
  | 99 => ⟨S128x8, .f32⟩
  | 100 => ⟨S1x128x8x1, .f32⟩
  | 101 => ⟨S_, .f32⟩
  | 102 => ⟨S128x8, .f32⟩
  | 103 => ⟨S128x8x1, .f32⟩
  | 104 => ⟨S_, .f32⟩
  | 105 => ⟨S128x8, .f32⟩
  | 106 => ⟨S8x128, .f32⟩
  | 107 => ⟨S8x64x256x128, .f32⟩
  | 108 => ⟨S8x128x128, .f32⟩
  | 109 => ⟨S8x64x256x128, .f32⟩
  | 110 => ⟨S64x128x8x256, .f32⟩
  | 111 => ⟨S_, .f32⟩
  | 112 => ⟨S8x128x128, .f32⟩
  | 113 => ⟨S8x128x128, .f32⟩
  | 114 => ⟨S8192x2048, .f32⟩
  | 115 => ⟨S_, .f32⟩
  | 116 => ⟨S2048, .f32⟩
  | 117 => ⟨S1x2048, .f32⟩
  | 118 => ⟨S8192x2048, .f32⟩
  | 119 => ⟨S_, .f32⟩
  | 120 => ⟨S2048, .f32⟩
  | 121 => ⟨S1x2048, .f32⟩
  | 122 => ⟨S8192x2048, .f32⟩
  | 123 => ⟨S8192x2048, .f32⟩
  | 124 => ⟨S8192x2048, .f32⟩
  | 125 => ⟨S_, .f32⟩
  | 126 => ⟨S8192, .f32⟩
  | 127 => ⟨S8192x1, .f32⟩
  | _ => ⟨S8192x6144, .f32⟩

abbrev hbmTy0_1 (i : Nat) : BufTy := match i % 128 with
  | 0 => ⟨S8192x2048, .f32⟩
  | 1 => ⟨S8192x2048, .f32⟩
  | 2 => ⟨S8192x1, .f32⟩
  | 3 => ⟨S8192x2048, .f32⟩
  | 4 => ⟨S_, .f32⟩
  | 5 => ⟨S8192, .f32⟩
  | 6 => ⟨S8192x1, .f32⟩
  | 7 => ⟨S_, .f32⟩
  | 8 => ⟨S8192x1, .f32⟩
  | 9 => ⟨S8192x1, .f32⟩
  | 10 => ⟨S_, .f32⟩
  | 11 => ⟨S8192, .f32⟩
  | 12 => ⟨S8192x2048, .f32⟩
  | 13 => ⟨S8192x2048, .f32⟩
  | 14 => ⟨S8192x2048, .f32⟩
  | 15 => ⟨S_, .f32⟩
  | 16 => ⟨S8192, .f32⟩
  | 17 => ⟨S8192x1, .f32⟩
  | 18 => ⟨S8192x2048, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192, .f32⟩
  | 25 => ⟨S8192x2048, .f32⟩
  | 26 => ⟨S8192x2048, .f32⟩
  | 27 => ⟨S8192x6144, .f32⟩
  | 28 => ⟨S8192x6144, .bf16⟩
  | 29 => ⟨S2048x1024, .bf16⟩
  | 30 => ⟨S128x8, .f32⟩
  | 31 => ⟨S_, .i32⟩
  | 32 => ⟨S_, .f32⟩
  | 33 => ⟨S128x128, .f32⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_v31 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_c_0 : Ref sig .tc := ⟨.hbm, 53, rfl⟩
abbrev main_call0_v5 : Ref sig .tc := ⟨.hbm, 54, rfl⟩
abbrev main_v32 : Ref sig .tc := ⟨.hbm, 55, rfl⟩
abbrev main_cst_6 : Ref sig .tc := ⟨.hbm, 56, rfl⟩
abbrev main_v33_1 : Ref sig .tc := ⟨.hbm, 57, rfl⟩
abbrev main_call1_v1 : Ref sig .tc := ⟨.hbm, 58, rfl⟩
abbrev main_v33_0 : Ref sig .tc := ⟨.hbm, 59, rfl⟩
abbrev main_call1_cst : Ref sig .tc := ⟨.hbm, 60, rfl⟩
abbrev main_v33_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_v43_2 : Ref sig .tc := ⟨.hbm, 78, rfl⟩
abbrev main_call2_cst_1 : Ref sig .tc := ⟨.hbm, 79, rfl⟩
abbrev main_call2_v6 : Ref sig .tc := ⟨.hbm, 80, rfl⟩
abbrev main_call2_v7 : Ref sig .tc := ⟨.hbm, 81, rfl⟩
abbrev main_v43_1 : Ref sig .tc := ⟨.hbm, 82, rfl⟩
abbrev main_v43_0 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_7 : Ref sig .tc := ⟨.hbm, 98, rfl⟩
abbrev main_v55 : Ref sig .tc := ⟨.hbm, 99, rfl⟩
abbrev main_v56 : Ref sig .tc := ⟨.hbm, 100, rfl⟩
abbrev main_cst_8 : Ref sig .tc := ⟨.hbm, 101, rfl⟩
abbrev main_v57 : Ref sig .tc := ⟨.hbm, 102, rfl⟩
abbrev main_v58 : Ref sig .tc := ⟨.hbm, 103, rfl⟩
abbrev main_cst_9 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_call4_cst : Ref sig .tc := ⟨.hbm, 111, rfl⟩
abbrev main_call4_v0 : Ref sig .tc := ⟨.hbm, 112, rfl⟩
abbrev main_v65 : Ref sig .tc := ⟨.hbm, 113, rfl⟩
abbrev main_v66 : Ref sig .tc := ⟨.hbm, 114, rfl⟩
abbrev main_cst_10 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_11 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_12 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_13 : Ref sig .tc := ⟨.hbm, 132, rfl⟩
abbrev main_v81 : Ref sig .tc := ⟨.hbm, 133, rfl⟩
abbrev main_v82 : Ref sig .tc := ⟨.hbm, 134, rfl⟩
abbrev main_cst_14 : Ref sig .tc := ⟨.hbm, 135, rfl⟩
abbrev main_v83 : Ref sig .tc := ⟨.hbm, 136, rfl⟩
abbrev main_v84 : Ref sig .tc := ⟨.hbm, 137, rfl⟩
abbrev main_cst_15 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_16 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_17 : Ref sig .tc := ⟨.hbm, 148, rfl⟩
abbrev main_v93 : Ref sig .tc := ⟨.hbm, 149, rfl⟩
abbrev main_v94 : Ref sig .tc := ⟨.hbm, 150, rfl⟩
abbrev main_cst_18 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_c_19 : Ref sig .tc := ⟨.hbm, 159, rfl⟩
abbrev main_call5_v0 : Ref sig .tc := ⟨.hbm, 160, rfl⟩
abbrev main_v102 : Ref sig .tc := ⟨.hbm, 161, rfl⟩

abbrev nD : Nat := 1
abbrev τ : Topo := Topo.v7x

variable {F : FTy → Type} [FloatOps F]
-- ==== Dx.lean ====
abbrev S8192x1024 : Shape := ⟨2, ![8192, 1024]⟩
abbrev S1024x6144 : Shape := ⟨2, ![1024, 6144]⟩
abbrev S8192x6144 : Shape := ⟨2, ![8192, 6144]⟩
abbrev S256x1024 : Shape := ⟨2, ![256, 1024]⟩
abbrev S1024x512 : Shape := ⟨2, ![1024, 512]⟩
abbrev S256x256 : Shape := ⟨2, ![256, 256]⟩
abbrev S512x1024 : Shape := ⟨2, ![512, 1024]⟩
abbrev S_ : Shape := ⟨0, ![]⟩
abbrev S8x128 : Shape := ⟨2, ![8, 128]⟩
abbrev S512x6144 : Shape := ⟨2, ![512, 6144]⟩
abbrev S16x1024 : Shape := ⟨2, ![16, 1024]⟩
abbrev S64x512 : Shape := ⟨2, ![64, 512]⟩
abbrev S16x256 : Shape := ⟨2, ![16, 256]⟩
abbrev S32x1024 : Shape := ⟨2, ![32, 1024]⟩

abbrev nBuf : Space → Nat
  | .hbm => 41
  | .vmem => 72
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x1024, .f32⟩
  | .hbm, ⟨3, _⟩ => ⟨S8192x6144, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S8192x6144, .bf16⟩
  | .hbm, ⟨21, _⟩ => ⟨S1024x6144, .bf16⟩
  | .hbm, ⟨22, _⟩ => ⟨S_, .f32⟩
  | .hbm, ⟨23, _⟩ => ⟨S8x128, .f32⟩
  | .hbm, ⟨24, _⟩ => ⟨S8192x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x6144, .bf16⟩
  | .local _ .vmem, ⟨3, _⟩ => ⟨S512x6144, .bf16⟩
  | .local _ .vmem, ⟨4, _⟩ => ⟨S1024x6144, .bf16⟩
  | .local _ .vmem, ⟨5, _⟩ => ⟨S8x128, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S16x256, .f32⟩
  | .local _ .vmem, ⟨23, _⟩ => ⟨S16x256, .f32⟩
  | .local _ .vmem, ⟨24, _⟩ => ⟨S16x256, .f32⟩
  | .local _ .vmem, ⟨25, _⟩ => ⟨S16x256, .f32⟩
  | .local _ .vmem, ⟨26, _⟩ => ⟨S16x256, .f32⟩
  | .local _ .vmem, ⟨27, _⟩ => ⟨S16x256, .f32⟩
  | .local _ .vmem, ⟨28, _⟩ => ⟨S16x256, .f32⟩
  | .local _ .vmem, ⟨29, _⟩ => ⟨S16x256, .f32⟩
  | .local _ .vmem, ⟨30, _⟩ => ⟨S32x1024, .f32⟩
  | .local _ .vmem, ⟨31, _⟩ => ⟨S32x1024, .f32⟩
  | .local _ .vmem, ⟨32, _⟩ => ⟨S32x1024, .f32⟩
  | .local _ .vmem, ⟨33, _⟩ => ⟨S32x1024, .f32⟩
  | .local _ .vmem, ⟨34, _⟩ => ⟨S32x1024, .f32⟩
  | .local _ .vmem, ⟨35, _⟩ => ⟨S32x1024, .f32⟩
  | .local _ .vmem, ⟨36, _⟩ => ⟨S32x1024, .f32⟩
  | .local _ .vmem, ⟨37, _⟩ => ⟨S32x1024, .f32⟩
  | .local _ .vmem, ⟨38, _⟩ => ⟨S512x1024, .f32⟩
  | .local _ .vmem, ⟨39, _⟩ => ⟨S512x1024, .f32⟩
  | .local _ .vmem, ⟨40, _⟩ => ⟨S16x1024, .f32⟩
  | .local _ .vmem, ⟨41, _⟩ => ⟨S16x1024, .f32⟩
  | .local _ .vmem, ⟨42, _⟩ => ⟨S16x1024, .f32⟩
  | .local _ .vmem, ⟨43, _⟩ => ⟨S16x1024, .f32⟩
  | .local _ .vmem, ⟨44, _⟩ => ⟨S16x1024, .f32⟩
  | .local _ .vmem, ⟨45, _⟩ => ⟨S16x1024, .f32⟩
  | .local _ .vmem, ⟨46, _⟩ => ⟨S16x1024, .f32⟩
  | .local _ .vmem, ⟨47, _⟩ => ⟨S16x1024, .f32⟩
  | .local _ .vmem, ⟨48, _⟩ => ⟨S64x512, .f32⟩
  | .local _ .vmem, ⟨49, _⟩ => ⟨S64x512, .f32⟩
  | .local _ .vmem, ⟨50, _⟩ => ⟨S64x512, .f32⟩
  | .local _ .vmem, ⟨51, _⟩ => ⟨S64x512, .f32⟩
  | .local _ .vmem, ⟨52, _⟩ => ⟨S64x512, .f32⟩
  | .local _ .vmem, ⟨53, _⟩ => ⟨S64x512, .f32⟩
  | .local _ .vmem, ⟨54, _⟩ => ⟨S64x512, .f32⟩
  | .local _ .vmem, ⟨55, _⟩ => ⟨S64x512, .f32⟩
  | .local _ .vmem, ⟨56, _⟩ => ⟨S16x256, .f32⟩
  | .local _ .vmem, ⟨57, _⟩ => ⟨S16x256, .f32⟩
  | .local _ .vmem, ⟨58, _⟩ => ⟨S16x256, .f32⟩
  | .local _ .vmem, ⟨59, _⟩ => ⟨S16x256, .f32⟩
  | .local _ .vmem, ⟨60, _⟩ => ⟨S16x256, .f32⟩
  | .local _ .vmem, ⟨61, _⟩ => ⟨S16x256, .f32⟩
  | .local _ .vmem, ⟨62, _⟩ => ⟨S16x256, .f32⟩
  | .local _ .vmem, ⟨63, _⟩ => ⟨S16x256, .f32⟩
  | .local _ .vmem, ⟨64, _⟩ => ⟨S32x1024, .f32⟩
  | .local _ .vmem, ⟨65, _⟩ => ⟨S32x1024, .f32⟩
  | .local _ .vmem, ⟨66, _⟩ => ⟨S32x1024, .f32⟩
  | .local _ .vmem, ⟨67, _⟩ => ⟨S32x1024, .f32⟩
  | .local _ .vmem, ⟨68, _⟩ => ⟨S32x1024, .f32⟩
  | .local _ .vmem, ⟨69, _⟩ => ⟨S32x1024, .f32⟩
  | .local _ .vmem, ⟨70, _⟩ => ⟨S32x1024, .f32⟩
  | .local _ .vmem, ⟨71, _⟩ => ⟨S32x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_v3_0 : Ref sig .tc := ⟨.hbm, 24, rfl⟩
abbrev main_v3_1 : Ref sig .tc := ⟨.hbm, 25, rfl⟩
abbrev main_v3_2 : Ref sig .tc := ⟨.hbm, 26, rfl⟩
abbrev main_v3_3 : Ref sig .tc := ⟨.hbm, 27, rfl⟩
abbrev main_v3_4 : Ref sig .tc := ⟨.hbm, 28, rfl⟩
abbrev main_v3_5 : Ref sig .tc := ⟨.hbm, 29, rfl⟩
abbrev main_v3_6 : Ref sig .tc := ⟨.hbm, 30, rfl⟩
abbrev main_v3_7 : Ref sig .tc := ⟨.hbm, 31, rfl⟩
abbrev main_v3_8 : Ref sig .tc := ⟨.hbm, 32, rfl⟩
abbrev main_v3_9 : Ref sig .tc := ⟨.hbm, 33, rfl⟩
abbrev main_v3_10 : Ref sig .tc := ⟨.hbm, 34, rfl⟩
abbrev main_v3_11 : Ref sig .tc := ⟨.hbm, 35, rfl⟩
abbrev main_v3_12 : Ref sig .tc := ⟨.hbm, 36, rfl⟩
abbrev main_v3_13 : Ref sig .tc := ⟨.hbm, 37, rfl⟩
abbrev main_v3_14 : Ref sig .tc := ⟨.hbm, 38, rfl⟩
abbrev main_v3_15 : Ref sig .tc := ⟨.hbm, 39, rfl⟩
abbrev main_v3_16 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_stg24_0 : Ref sig .tc := ⟨.vmem, 46, rfl⟩
abbrev cc0_stg24_1 : Ref sig .tc := ⟨.vmem, 47, rfl⟩
abbrev cc0_stg25_0 : Ref sig .tc := ⟨.vmem, 48, rfl⟩
abbrev cc0_stg25_1 : Ref sig .tc := ⟨.vmem, 49, rfl⟩
abbrev cc0_stg26_0 : Ref sig .tc := ⟨.vmem, 50, rfl⟩
abbrev cc0_stg26_1 : Ref sig .tc := ⟨.vmem, 51, rfl⟩
abbrev cc0_stg27_0 : Ref sig .tc := ⟨.vmem, 52, rfl⟩
abbrev cc0_stg27_1 : Ref sig .tc := ⟨.vmem, 53, rfl⟩
abbrev cc0_stg28_0 : Ref sig .tc := ⟨.vmem, 54, rfl⟩
abbrev cc0_stg28_1 : Ref sig .tc := ⟨.vmem, 55, rfl⟩
abbrev cc0_stg29_0 : Ref sig .tc := ⟨.vmem, 56, rfl⟩
abbrev cc0_stg29_1 : Ref sig .tc := ⟨.vmem, 57, rfl⟩
abbrev cc0_stg30_0 : Ref sig .tc := ⟨.vmem, 58, rfl⟩
abbrev cc0_stg30_1 : Ref sig .tc := ⟨.vmem, 59, rfl⟩
abbrev cc0_stg31_0 : Ref sig .tc := ⟨.vmem, 60, rfl⟩
abbrev cc0_stg31_1 : Ref sig .tc := ⟨.vmem, 61, rfl⟩
abbrev cc0_stg32_0 : Ref sig .tc := ⟨.vmem, 62, rfl⟩
abbrev cc0_stg32_1 : Ref sig .tc := ⟨.vmem, 63, rfl⟩
abbrev cc0_stg33_0 : Ref sig .tc := ⟨.vmem, 64, rfl⟩
abbrev cc0_stg33_1 : Ref sig .tc := ⟨.vmem, 65, rfl⟩
abbrev cc0_stg34_0 : Ref sig .tc := ⟨.vmem, 66, rfl⟩
abbrev cc0_stg34_1 : Ref sig .tc := ⟨.vmem, 67, rfl⟩
abbrev cc0_stg35_0 : Ref sig .tc := ⟨.vmem, 68, rfl⟩
abbrev cc0_stg35_1 : Ref sig .tc := ⟨.vmem, 69, rfl⟩
abbrev cc0_stg36_0 : Ref sig .tc := ⟨.vmem, 70, rfl⟩
abbrev cc0_stg36_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43
abbrev cc0_sem23_0 : DmaSem sig := 44
abbrev cc0_sem23_1 : DmaSem sig := 45
abbrev cc0_sem24_0 : DmaSem sig := 46
abbrev cc0_sem24_1 : DmaSem sig := 47
abbrev cc0_sem25_0 : DmaSem sig := 48
abbrev cc0_sem25_1 : DmaSem sig := 49
abbrev cc0_sem26_0 : DmaSem sig := 50
abbrev cc0_sem26_1 : DmaSem sig := 51
abbrev cc0_sem27_0 : DmaSem sig := 52
abbrev cc0_sem27_1 : DmaSem sig := 53
abbrev cc0_sem28_0 : DmaSem sig := 54
abbrev cc0_sem28_1 : DmaSem sig := 55
abbrev cc0_sem29_0 : DmaSem sig := 56
abbrev cc0_sem29_1 : DmaSem sig := 57
abbrev cc0_sem30_0 : DmaSem sig := 58
abbrev cc0_sem30_1 : DmaSem sig := 59
abbrev cc0_sem31_0 : DmaSem sig := 60
abbrev cc0_sem31_1 : DmaSem sig := 61
abbrev cc0_sem32_0 : DmaSem sig := 62
abbrev cc0_sem32_1 : DmaSem sig := 63
abbrev cc0_sem33_0 : DmaSem sig := 64
abbrev cc0_sem33_1 : DmaSem sig := 65
abbrev cc0_sem34_0 : DmaSem sig := 66
abbrev cc0_sem34_1 : DmaSem sig := 67
abbrev cc0_sem35_0 : DmaSem sig := 68
abbrev cc0_sem35_1 : DmaSem sig := 69
abbrev cc0_sem36_0 : DmaSem sig := 70
abbrev cc0_sem36_1 : DmaSem sig := 71

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S16x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S16x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S16x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S64x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S64x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S64x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S64x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S16x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S16x256 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S16x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S16x256 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S32x1024 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S32x1024 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S32x1024 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S32x1024 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]
-- ==== DxRefIdeal.lean ====
abbrev S8192x1024 : Shape := ⟨2, ![8192, 1024]⟩
abbrev S1024x6144 : Shape := ⟨2, ![1024, 6144]⟩
abbrev S8192x6144 : Shape := ⟨2, ![8192, 6144]⟩
abbrev S256x1024 : Shape := ⟨2, ![256, 1024]⟩
abbrev S1024x512 : Shape := ⟨2, ![1024, 512]⟩
abbrev S256x256 : Shape := ⟨2, ![256, 256]⟩
abbrev S512x1024 : Shape := ⟨2, ![512, 1024]⟩
abbrev S_ : Shape := ⟨0, ![]⟩
abbrev S6144x1024 : Shape := ⟨2, ![6144, 1024]⟩

abbrev nBuf : Space → Nat
  | .hbm => 163
  | .vmem => 0
  | .smem => 0
  | _ => 0

abbrev hbmTy0_0 (i : Nat) : BufTy := match i % 128 with
  | 0 => ⟨S8192x1024, .f32⟩
  | 1 => ⟨S1024x6144, .f32⟩
  | 2 => ⟨S8192x1024, .f32⟩
  | 3 => ⟨S8192x6144, .f32⟩
  | 4 => ⟨S256x1024, .f32⟩
  | 5 => ⟨S256x1024, .f32⟩
  | 6 => ⟨S256x1024, .f32⟩
  | 7 => ⟨S256x1024, .f32⟩
  | 8 => ⟨S1024x512, .f32⟩
  | 9 => ⟨S1024x512, .f32⟩
  | 10 => ⟨S1024x512, .f32⟩
  | 11 => ⟨S1024x512, .f32⟩
  | 12 => ⟨S256x256, .f32⟩
  | 13 => ⟨S256x256, .f32⟩
  | 14 => ⟨S256x256, .f32⟩
  | 15 => ⟨S256x256, .f32⟩
  | 16 => ⟨S512x1024, .f32⟩
  | 17 => ⟨S512x1024, .f32⟩
  | 18 => ⟨S512x1024, .f32⟩
  | 19 => ⟨S512x1024, .f32⟩
  | 20 => ⟨S_, .f32⟩
  | 21 => ⟨S8192x1024, .f32⟩
  | 22 => ⟨S8192x1024, .f32⟩
  | 23 => ⟨S8192x6144, .f32⟩
  | 24 => ⟨S6144x1024, .f32⟩
  | 25 => ⟨S1024x6144, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S_, .f32⟩
  | 32 => ⟨S256x1024, .f32⟩
  | 33 => ⟨S256x1024, .f32⟩
  | 34 => ⟨S_, .f32⟩
  | 35 => ⟨S256x1024, .f32⟩
  | 36 => ⟨S256x1024, .f32⟩
  | 37 => ⟨S256x1024, .f32⟩
  | 38 => ⟨S_, .f32⟩
  | 39 => ⟨S256x1024, .f32⟩
  | 40 => ⟨S256x1024, .f32⟩
  | 41 => ⟨S256x1024, .f32⟩
  | 42 => ⟨S_, .f32⟩
  | 43 => ⟨S256x1024, .f32⟩
  | 44 => ⟨S256x1024, .f32⟩
  | 45 => ⟨S256x1024, .f32⟩
  | 46 => ⟨S_, .f32⟩
  | 47 => ⟨S256x1024, .f32⟩
  | 48 => ⟨S256x1024, .f32⟩
  | 49 => ⟨S_, .f32⟩
  | 50 => ⟨S256x1024, .f32⟩
  | 51 => ⟨S256x1024, .f32⟩
  | 52 => ⟨S256x1024, .f32⟩
  | 53 => ⟨S_, .f32⟩
  | 54 => ⟨S256x1024, .f32⟩
  | 55 => ⟨S256x1024, .f32⟩
  | 56 => ⟨S256x1024, .f32⟩
  | 57 => ⟨S_, .f32⟩
  | 58 => ⟨S256x1024, .f32⟩
  | 59 => ⟨S256x1024, .f32⟩
  | 60 => ⟨S256x1024, .f32⟩
  | 61 => ⟨S_, .f32⟩
  | 62 => ⟨S256x1024, .f32⟩
  | 63 => ⟨S256x1024, .f32⟩
  | 64 => ⟨S_, .f32⟩
  | 65 => ⟨S1024x512, .f32⟩
  | 66 => ⟨S1024x512, .f32⟩
  | 67 => ⟨S_, .f32⟩
  | 68 => ⟨S1024x512, .f32⟩
  | 69 => ⟨S1024x512, .f32⟩
  | 70 => ⟨S1024x512, .f32⟩
  | 71 => ⟨S_, .f32⟩
  | 72 => ⟨S1024x512, .f32⟩
  | 73 => ⟨S1024x512, .f32⟩
  | 74 => ⟨S1024x512, .f32⟩
  | 75 => ⟨S_, .f32⟩
  | 76 => ⟨S1024x512, .f32⟩
  | 77 => ⟨S1024x512, .f32⟩
  | 78 => ⟨S1024x512, .f32⟩
  | 79 => ⟨S_, .f32⟩
  | 80 => ⟨S1024x512, .f32⟩
  | 81 => ⟨S1024x512, .f32⟩
  | 82 => ⟨S_, .f32⟩
  | 83 => ⟨S1024x512, .f32⟩
  | 84 => ⟨S1024x512, .f32⟩
  | 85 => ⟨S1024x512, .f32⟩
  | 86 => ⟨S_, .f32⟩
  | 87 => ⟨S1024x512, .f32⟩
  | 88 => ⟨S1024x512, .f32⟩
  | 89 => ⟨S1024x512, .f32⟩
  | 90 => ⟨S_, .f32⟩
  | 91 => ⟨S1024x512, .f32⟩
  | 92 => ⟨S1024x512, .f32⟩
  | 93 => ⟨S1024x512, .f32⟩
  | 94 => ⟨S_, .f32⟩
  | 95 => ⟨S1024x512, .f32⟩
  | 96 => ⟨S1024x512, .f32⟩
  | 97 => ⟨S_, .f32⟩
  | 98 => ⟨S256x256, .f32⟩
  | 99 => ⟨S256x256, .f32⟩
  | 100 => ⟨S_, .f32⟩
  | 101 => ⟨S256x256, .f32⟩
  | 102 => ⟨S256x256, .f32⟩
  | 103 => ⟨S256x256, .f32⟩
  | 104 => ⟨S_, .f32⟩
  | 105 => ⟨S256x256, .f32⟩
  | 106 => ⟨S256x256, .f32⟩
  | 107 => ⟨S256x256, .f32⟩
  | 108 => ⟨S_, .f32⟩
  | 109 => ⟨S256x256, .f32⟩
  | 110 => ⟨S256x256, .f32⟩
  | 111 => ⟨S256x256, .f32⟩
  | 112 => ⟨S_, .f32⟩
  | 113 => ⟨S256x256, .f32⟩
  | 114 => ⟨S256x256, .f32⟩
  | 115 => ⟨S_, .f32⟩
  | 116 => ⟨S256x256, .f32⟩
  | 117 => ⟨S256x256, .f32⟩
  | 118 => ⟨S256x256, .f32⟩
  | 119 => ⟨S_, .f32⟩
  | 120 => ⟨S256x256, .f32⟩
  | 121 => ⟨S256x256, .f32⟩
  | 122 => ⟨S256x256, .f32⟩
  | 123 => ⟨S_, .f32⟩
  | 124 => ⟨S256x256, .f32⟩
  | 125 => ⟨S256x256, .f32⟩
  | 126 => ⟨S256x256, .f32⟩
  | 127 => ⟨S_, .f32⟩
  | _ => ⟨S8192x1024, .f32⟩

abbrev hbmTy0_1 (i : Nat) : BufTy := match i % 128 with
  | 0 => ⟨S256x256, .f32⟩
  | 1 => ⟨S256x256, .f32⟩
  | 2 => ⟨S_, .f32⟩
  | 3 => ⟨S512x1024, .f32⟩
  | 4 => ⟨S512x1024, .f32⟩
  | 5 => ⟨S_, .f32⟩
  | 6 => ⟨S512x1024, .f32⟩
  | 7 => ⟨S512x1024, .f32⟩
  | 8 => ⟨S512x1024, .f32⟩
  | 9 => ⟨S_, .f32⟩
  | 10 => ⟨S512x1024, .f32⟩
  | 11 => ⟨S512x1024, .f32⟩
  | 12 => ⟨S512x1024, .f32⟩
  | 13 => ⟨S_, .f32⟩
  | 14 => ⟨S512x1024, .f32⟩
  | 15 => ⟨S512x1024, .f32⟩
  | 16 => ⟨S512x1024, .f32⟩
  | 17 => ⟨S_, .f32⟩
  | 18 => ⟨S512x1024, .f32⟩
  | 19 => ⟨S512x1024, .f32⟩
  | 20 => ⟨S_, .f32⟩
  | 21 => ⟨S512x1024, .f32⟩
  | 22 => ⟨S512x1024, .f32⟩
  | 23 => ⟨S512x1024, .f32⟩
  | 24 => ⟨S_, .f32⟩
  | 25 => ⟨S512x1024, .f32⟩
  | 26 => ⟨S512x1024, .f32⟩
  | 27 => ⟨S512x1024, .f32⟩
  | 28 => ⟨S_, .f32⟩
  | 29 => ⟨S512x1024, .f32⟩
  | 30 => ⟨S512x1024, .f32⟩
  | 31 => ⟨S512x1024, .f32⟩
  | 32 => ⟨S_, .f32⟩
  | 33 => ⟨S512x1024, .f32⟩
  | 34 => ⟨S512x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_5 : Ref sig .tc := ⟨.hbm, 46, rfl⟩
abbrev main_v20 : Ref sig .tc := ⟨.hbm, 47, rfl⟩
abbrev main_v21 : Ref sig .tc := ⟨.hbm, 48, rfl⟩
abbrev main_cst_6 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_7 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_8 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_9 : Ref sig .tc := ⟨.hbm, 61, rfl⟩
abbrev main_v31 : Ref sig .tc := ⟨.hbm, 62, rfl⟩
abbrev main_v32 : Ref sig .tc := ⟨.hbm, 63, rfl⟩
abbrev main_cst_10 : Ref sig .tc := ⟨.hbm, 64, rfl⟩
abbrev main_v33 : Ref sig .tc := ⟨.hbm, 65, rfl⟩
abbrev main_v34 : Ref sig .tc := ⟨.hbm, 66, rfl⟩
abbrev main_cst_11 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_12 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_13 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_14 : Ref sig .tc := ⟨.hbm, 79, rfl⟩
abbrev main_v44 : Ref sig .tc := ⟨.hbm, 80, rfl⟩
abbrev main_v45 : Ref sig .tc := ⟨.hbm, 81, rfl⟩
abbrev main_cst_15 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_16 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_17 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_18 : Ref sig .tc := ⟨.hbm, 94, rfl⟩
abbrev main_v55 : Ref sig .tc := ⟨.hbm, 95, rfl⟩
abbrev main_v56 : Ref sig .tc := ⟨.hbm, 96, rfl⟩
abbrev main_cst_19 : Ref sig .tc := ⟨.hbm, 97, rfl⟩
abbrev main_v57 : Ref sig .tc := ⟨.hbm, 98, rfl⟩
abbrev main_v58 : Ref sig .tc := ⟨.hbm, 99, rfl⟩
abbrev main_cst_20 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_21 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_22 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_23 : Ref sig .tc := ⟨.hbm, 112, rfl⟩
abbrev main_v68 : Ref sig .tc := ⟨.hbm, 113, rfl⟩
abbrev main_v69 : Ref sig .tc := ⟨.hbm, 114, rfl⟩
abbrev main_cst_24 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_25 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_26 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_27 : Ref sig .tc := ⟨.hbm, 127, rfl⟩
abbrev main_v79 : Ref sig .tc := ⟨.hbm, 128, rfl⟩
abbrev main_v80 : Ref sig .tc := ⟨.hbm, 129, rfl⟩
abbrev main_cst_28 : Ref sig .tc := ⟨.hbm, 130, rfl⟩
abbrev main_v81 : Ref sig .tc := ⟨.hbm, 131, rfl⟩
abbrev main_v82 : Ref sig .tc := ⟨.hbm, 132, rfl⟩
abbrev main_cst_29 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_30 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_31 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_32 : Ref sig .tc := ⟨.hbm, 145, rfl⟩
abbrev main_v92 : Ref sig .tc := ⟨.hbm, 146, rfl⟩
abbrev main_v93 : Ref sig .tc := ⟨.hbm, 147, rfl⟩
abbrev main_cst_33 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_34 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_35 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_36 : Ref sig .tc := ⟨.hbm, 160, rfl⟩
abbrev main_v103 : Ref sig .tc := ⟨.hbm, 161, rfl⟩
abbrev main_v104 : Ref sig .tc := ⟨.hbm, 162, rfl⟩

abbrev nD : Nat := 1
abbrev τ : Topo := Topo.v7x

variable {F : FTy → Type} [FloatOps F]
-- ==== Win.lean ====
abbrev S8192x1024 : Shape := ⟨2, ![8192, 1024]⟩
abbrev S1024x6144 : Shape := ⟨2, ![1024, 6144]⟩
abbrev S8192x6144 : Shape := ⟨2, ![8192, 6144]⟩
abbrev S1024x8192 : Shape := ⟨2, ![1024, 8192]⟩
abbrev S_ : Shape := ⟨0, ![]⟩
abbrev S8x128 : Shape := ⟨2, ![8, 128]⟩
abbrev S4x2x512x1536 : Shape := ⟨4, ![4, 2, 512, 1536]⟩
abbrev S1024x2048 : Shape := ⟨2, ![1024, 2048]⟩
abbrev S2048x1536 : Shape := ⟨2, ![2048, 1536]⟩
abbrev S1x2x512x1536 : Shape := ⟨4, ![1, 2, 512, 1536]⟩
abbrev S1024x1536 : Shape := ⟨2, ![1024, 1536]⟩
abbrev S512x1536 : Shape := ⟨2, ![512, 1536]⟩
abbrev S1x1x512x1536 : Shape := ⟨4, ![1, 1, 512, 1536]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x1024, .f32⟩
  | .hbm, ⟨3, _⟩ => ⟨S8192x6144, .f32⟩
  | .hbm, ⟨4, _⟩ => ⟨S1024x8192, .f32⟩
  | .hbm, ⟨5, _⟩ => ⟨S1024x8192, .bf16⟩
  | .hbm, ⟨6, _⟩ => ⟨S8192x6144, .bf16⟩
  | .hbm, ⟨7, _⟩ => ⟨S_, .f32⟩
  | .hbm, ⟨8, _⟩ => ⟨S8x128, .f32⟩
  | .hbm, ⟨9, _⟩ => ⟨S4x2x512x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S8x128, .f32⟩
  | .local _ .vmem, ⟨5, _⟩ => ⟨S1x2x512x1536, .bf16⟩
  | .local _ .vmem, ⟨6, _⟩ => ⟨S1x2x512x1536, .bf16⟩
  | .local _ .vmem, ⟨7, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WinRefIdeal.lean ====
abbrev S8192x1024 : Shape := ⟨2, ![8192, 1024]⟩
abbrev S1024x6144 : Shape := ⟨2, ![1024, 6144]⟩
abbrev S8192x6144 : Shape := ⟨2, ![8192, 6144]⟩
abbrev S_ : Shape := ⟨0, ![]⟩
abbrev S6144x1024 : Shape := ⟨2, ![6144, 1024]⟩
abbrev S2x512x4x1536 : Shape := ⟨4, ![2, 512, 4, 1536]⟩
abbrev S4x2x512x1536 : Shape := ⟨4, ![4, 2, 512, 1536]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x1024, .f32⟩
  | .hbm, ⟨3, _⟩ => ⟨S8192x6144, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x6144, .f32⟩
  | .hbm, ⟨8, _⟩ => ⟨S6144x1024, .f32⟩
  | .hbm, ⟨9, _⟩ => ⟨S1024x6144, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1024x6144, .bf16⟩
  | .hbm, ⟨16, _⟩ => ⟨S2x512x4x1536, .bf16⟩
  | .hbm, ⟨17, _⟩ => ⟨S4x2x512x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Afwd.lean ====
abbrev S8192x1024 : Shape := ⟨2, ![8192, 1024]⟩
abbrev S1024x6144 : Shape := ⟨2, ![1024, 6144]⟩
abbrev S1x2048 : Shape := ⟨2, ![1, 2048]⟩
abbrev S8x128x128 : Shape := ⟨3, ![8, 128, 128]⟩
abbrev S8x128 : Shape := ⟨2, ![8, 128]⟩
abbrev S1024x1536 : Shape := ⟨2, ![1024, 1536]⟩
abbrev S8192x1536 : Shape := ⟨2, ![8192, 1536]⟩
abbrev S128x8 : Shape := ⟨2, ![128, 8]⟩
abbrev S_ : Shape := ⟨0, ![]⟩
abbrev S1024x8192 : Shape := ⟨2, ![1024, 8192]⟩
abbrev S8192x2048 : Shape := ⟨2, ![8192, 2048]⟩
abbrev S8192x1 : Shape := ⟨2, ![8192, 1]⟩
abbrev S256x1024 : Shape := ⟨2, ![256, 1024]⟩
abbrev S256x1536 : Shape := ⟨2, ![256, 1536]⟩
abbrev S1024x256 : Shape := ⟨2, ![1024, 256]⟩
abbrev S256x2048 : Shape := ⟨2, ![256, 2048]⟩
abbrev S256x1 : Shape := ⟨2, ![256, 1]⟩
abbrev S256x6144 : Shape := ⟨2, ![256, 6144]⟩
abbrev S256 : Shape := ⟨1, ![256]⟩
abbrev S128x128 : Shape := ⟨2, ![128, 128]⟩
abbrev S1x128x128 : Shape := ⟨3, ![1, 128, 128]⟩
abbrev S128x256 : Shape := ⟨2, ![128, 256]⟩
abbrev S128x1 : Shape := ⟨2, ![128, 1]⟩

abbrev nBuf : Space → Nat
  | .hbm => 20
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S1x2048, .f32⟩
  | .hbm, ⟨3, _⟩ => ⟨S1x2048, .f32⟩
  | .hbm, ⟨4, _⟩ => ⟨S8x128x128, .f32⟩
  | .hbm, ⟨5, _⟩ => ⟨S8x128, .f32⟩
  | .hbm, ⟨6, _⟩ => ⟨S1024x1536, .f32⟩
  | .hbm, ⟨7, _⟩ => ⟨S8192x1024, .bf16⟩
  | .hbm, ⟨8, _⟩ => ⟨S1024x1536, .bf16⟩
  | .hbm, ⟨9, _⟩ => ⟨S8192x1536, .f32⟩
  | .hbm, ⟨10, _⟩ => ⟨S1024x6144, .bf16⟩
  | .hbm, ⟨11, _⟩ => ⟨S128x8, .f32⟩
  | .hbm, ⟨12, _⟩ => ⟨S_, .f32⟩
  | .hbm, ⟨13, _⟩ => ⟨S8x128, .f32⟩
  | .hbm, ⟨14, _⟩ => ⟨S1024x8192, .bf16⟩
  | .hbm, ⟨15, _⟩ => ⟨S8192x2048, .bf16⟩
  | .hbm, ⟨16, _⟩ => ⟨S8192x2048, .bf16⟩
  | .hbm, ⟨17, _⟩ => ⟨S8192x2048, .bf16⟩
  | .hbm, ⟨18, _⟩ => ⟨S8192x1, .f32⟩
  | .hbm, ⟨19, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S1024x6144, .bf16⟩
  | .local _ .vmem, ⟨3, _⟩ => ⟨S256x1536, .f32⟩
  | .local _ .vmem, ⟨4, _⟩ => ⟨S256x1536, .f32⟩
  | .local _ .vmem, ⟨5, _⟩ => ⟨S1x2048, .f32⟩
  | .local _ .vmem, ⟨6, _⟩ => ⟨S1x2048, .f32⟩
  | .local _ .vmem, ⟨7, _⟩ => ⟨S8x128x128, .f32⟩
  | .local _ .vmem, ⟨8, _⟩ => ⟨S128x8, .f32⟩
  | .local _ .vmem, ⟨9, _⟩ => ⟨S8x128, .f32⟩
  | .local _ .vmem, ⟨10, _⟩ => ⟨S1024x256, .bf16⟩
  | .local _ .vmem, ⟨11, _⟩ => ⟨S1024x256, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x1, .f32⟩
  | .local _ .vmem, ⟨19, _⟩ => ⟨S256x1, .f32⟩
  | .local _ .vmem, ⟨20, _⟩ => ⟨S256x2048, .bf16⟩
  | .local _ .vmem, ⟨21, _⟩ => ⟨S256x2048, .bf16⟩
  | .local _ .vmem, ⟨22, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== AfwdRefIdeal.lean ====
abbrev S8192x1024 : Shape := ⟨2, ![8192, 1024]⟩
abbrev S1024x6144 : Shape := ⟨2, ![1024, 6144]⟩
abbrev S1x2048 : Shape := ⟨2, ![1, 2048]⟩
abbrev S8x128x128 : Shape := ⟨3, ![8, 128, 128]⟩
abbrev S8x128 : Shape := ⟨2, ![8, 128]⟩
abbrev S8192x6144 : Shape := ⟨2, ![8192, 6144]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S64x128x8x256 : Shape := ⟨4, ![64, 128, 8, 256]⟩
abbrev S128x128 : Shape := ⟨2, ![128, 128]⟩
abbrev S8x64x256x128 : Shape := ⟨4, ![8, 64, 256, 128]⟩
abbrev S128x8 : Shape := ⟨2, ![128, 8]⟩
abbrev S128x8x1 : Shape := ⟨3, ![128, 8, 1]⟩
abbrev S1x128x8x1 : Shape := ⟨4, ![1, 128, 8, 1]⟩
abbrev S1024x8192 : Shape := ⟨2, ![1024, 8192]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S1x2048, .f32⟩
  | .hbm, ⟨3, _⟩ => ⟨S1x2048, .f32⟩
  | .hbm, ⟨4, _⟩ => ⟨S8x128x128, .f32⟩
  | .hbm, ⟨5, _⟩ => ⟨S8x128, .f32⟩
  | .hbm, ⟨6, _⟩ => ⟨S8192x6144, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S64x128x8x256, .f32⟩
  | .hbm, ⟨38, _⟩ => ⟨S_, .i1⟩
  | .hbm, ⟨39, _⟩ => ⟨S128x128, .i1⟩
  | .hbm, ⟨40, _⟩ => ⟨S128x128, .i32⟩
  | .hbm, ⟨41, _⟩ => ⟨S_, .i32⟩
  | .hbm, ⟨42, _⟩ => ⟨S128x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S_, .i1⟩
  | .hbm, ⟨47, _⟩ => ⟨S128x128, .i1⟩
  | .hbm, ⟨48, _⟩ => ⟨S128x128, .i1⟩
  | .hbm, ⟨49, _⟩ => ⟨S_, .f32⟩
  | .hbm, ⟨50, _⟩ => ⟨S8x128x128, .i1⟩
  | .hbm, ⟨51, _⟩ => ⟨S8x128x128, .f32⟩
  | .hbm, ⟨52, _⟩ => ⟨S8x128x128, .f32⟩
  | .hbm, ⟨53, _⟩ => ⟨S8x64x256x128, .f32⟩
  | .hbm, ⟨54, _⟩ => ⟨S64x128x8x256, .f32⟩
  | .hbm, ⟨55, _⟩ => ⟨S128x8, .f32⟩
  | .hbm, ⟨56, _⟩ => ⟨S128x8x1, .f32⟩
  | .hbm, ⟨57, _⟩ => ⟨S1x128x8x1, .f32⟩
  | .hbm, ⟨58, _⟩ => ⟨S64x128x8x256, .f32⟩
  | .hbm, ⟨59, _⟩ => ⟨S64x128x8x256, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S1024x8192, .f32⟩
  | .hbm, ⟨73, _⟩ => ⟨S1024x8192, .bf16⟩
  | .hbm, ⟨74, _⟩ => ⟨S8192x2048, .bf16⟩
  | .hbm, ⟨75, _⟩ => ⟨S8192x2048, .bf16⟩
  | .hbm, ⟨76, _⟩ => ⟨S8192x2048, .bf16⟩
  | .hbm, ⟨77, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_0 : Ref sig .tc := ⟨.hbm, 46, rfl⟩
abbrev main_call0_v5 : Ref sig .tc := ⟨.hbm, 47, rfl⟩
abbrev main_v28 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]
-- ==== Bproj.lean ====
abbrev S8192x1024 : Shape := ⟨2, ![8192, 1024]⟩
abbrev S8192x2048 : Shape := ⟨2, ![8192, 2048]⟩
abbrev S2048x1024 : Shape := ⟨2, ![2048, 1024]⟩
abbrev S1x1024 : Shape := ⟨2, ![1, 1024]⟩
abbrev S1024x2048 : Shape := ⟨2, ![1024, 2048]⟩
abbrev S1024x256 : Shape := ⟨2, ![1024, 256]⟩
abbrev S8192x1 : Shape := ⟨2, ![8192, 1]⟩
abbrev S8192x256 : Shape := ⟨2, ![8192, 256]⟩
abbrev S1024x1024 : Shape := ⟨2, ![1024, 1024]⟩
abbrev S1024x1 : Shape := ⟨2, ![1024, 1]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x128 : Shape := ⟨2, ![512, 128]⟩

abbrev nBuf : Space → Nat
  | .hbm => 17
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1024x2048, .f32⟩
  | .hbm, ⟨6, _⟩ => ⟨S1024x256, .f32⟩
  | .hbm, ⟨7, _⟩ => ⟨S8192x2048, .bf16⟩
  | .hbm, ⟨8, _⟩ => ⟨S2048x1024, .bf16⟩
  | .hbm, ⟨9, _⟩ => ⟨S1024x2048, .bf16⟩
  | .hbm, ⟨10, _⟩ => ⟨S1024x256, .bf16⟩
  | .hbm, ⟨11, _⟩ => ⟨S8192x1024, .f32⟩
  | .hbm, ⟨12, _⟩ => ⟨S8192x1, .f32⟩
  | .hbm, ⟨13, _⟩ => ⟨S8192x1024, .bf16⟩
  | .hbm, ⟨14, _⟩ => ⟨S8192x1024, .bf16⟩
  | .hbm, ⟨15, _⟩ => ⟨S8192x256, .bf16⟩
  | .hbm, ⟨16, _⟩ => ⟨S8192x256, .bf16⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x2048, .bf16⟩
  | .local _ .vmem, ⟨8, _⟩ => ⟨S1024x256, .bf16⟩
  | .local _ .vmem, ⟨9, _⟩ => ⟨S1024x1024, .f32⟩
  | .local _ .vmem, ⟨10, _⟩ => ⟨S1024x1024, .f32⟩
  | .local _ .vmem, ⟨11, _⟩ => ⟨S1024x1, .f32⟩
  | .local _ .vmem, ⟨12, _⟩ => ⟨S1024x1, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== BprojRefIdeal.lean ====
abbrev S8192x1024 : Shape := ⟨2, ![8192, 1024]⟩
abbrev S8192x2048 : Shape := ⟨2, ![8192, 2048]⟩
abbrev S2048x1024 : Shape := ⟨2, ![2048, 1024]⟩
abbrev S1x1024 : Shape := ⟨2, ![1, 1024]⟩
abbrev S1024x2048 : Shape := ⟨2, ![1024, 2048]⟩
abbrev S1024x256 : Shape := ⟨2, ![1024, 256]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S8192x128 : Shape := ⟨2, ![8192, 128]⟩
abbrev S8192x2x1x64 : Shape := ⟨4, ![8192, 2, 1, 64]⟩
abbrev S8192x2x2x64 : Shape := ⟨4, ![8192, 2, 2, 64]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1024x2048, .f32⟩
  | .hbm, ⟨6, _⟩ => ⟨S1024x256, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x2048, .f32⟩
  | .hbm, ⟨40, _⟩ => ⟨S8192x1024, .f32⟩
  | .hbm, ⟨41, _⟩ => ⟨S8192x1024, .f32⟩
  | .hbm, ⟨42, _⟩ => ⟨S8192x256, .f32⟩
  | .hbm, ⟨43, _⟩ => ⟨S8192x128, .f32⟩
  | .hbm, ⟨44, _⟩ => ⟨S8192x128, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S8192x1024, .bf16⟩
  | .hbm, ⟨50, _⟩ => ⟨S8192x2x1x64, .f32⟩
  | .hbm, ⟨51, _⟩ => ⟨S8192x2x2x64, .f32⟩
  | .hbm, ⟨52, _⟩ => ⟨S8192x256, .f32⟩
  | .hbm, ⟨53, _⟩ => ⟨S8192x256, .bf16⟩
  | .hbm, ⟨54, _⟩ => ⟨S8192x2x1x64, .f32⟩
  | .hbm, ⟨55, _⟩ => ⟨S8192x2x2x64, .f32⟩
  | .hbm, ⟨56, _⟩ => ⟨S8192x256, .f32⟩
  | .hbm, ⟨57, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Bgrad.lean ====
abbrev S8192x1024 : Shape := ⟨2, ![8192, 1024]⟩
abbrev S1x1024 : Shape := ⟨2, ![1, 1024]⟩
abbrev S1024x2048 : Shape := ⟨2, ![1024, 2048]⟩
abbrev S1024x256 : Shape := ⟨2, ![1024, 256]⟩
abbrev S8192x256 : Shape := ⟨2, ![8192, 256]⟩
abbrev S16x128x256 : Shape := ⟨3, ![16, 128, 256]⟩
abbrev S_ : Shape := ⟨0, ![]⟩
abbrev S8192 : Shape := ⟨1, ![8192]⟩
abbrev S8192x1 : Shape := ⟨2, ![8192, 1]⟩
abbrev S8x512x512 : Shape := ⟨3, ![8, 512, 512]⟩
abbrev S512x1024 : Shape := ⟨2, ![512, 1024]⟩
abbrev S512x1 : Shape := ⟨2, ![512, 1]⟩
abbrev S512x256 : Shape := ⟨2, ![512, 256]⟩
abbrev S1x128x256 : Shape := ⟨3, ![1, 128, 256]⟩
abbrev S512x128 : Shape := ⟨2, ![512, 128]⟩
abbrev S384x256 : Shape := ⟨2, ![384, 256]⟩
abbrev S128x256 : Shape := ⟨2, ![128, 256]⟩
abbrev S1024x1024 : Shape := ⟨2, ![1024, 1024]⟩
abbrev S1024 : Shape := ⟨1, ![1024]⟩
abbrev S512 : Shape := ⟨1, ![512]⟩
abbrev S512x512 : Shape := ⟨2, ![512, 512]⟩
abbrev S1x512x512 : Shape := ⟨3, ![1, 512, 512]⟩

abbrev nBuf : Space → Nat
  | .hbm => 42
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S1024x256, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x256, .f32⟩
  | .hbm, ⟨9, _⟩ => ⟨S8192x256, .f32⟩
  | .hbm, ⟨10, _⟩ => ⟨S16x128x256, .f32⟩
  | .hbm, ⟨11, _⟩ => ⟨S16x128x256, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .bf16⟩
  | .hbm, ⟨35, _⟩ => ⟨S1024x2048, .bf16⟩
  | .hbm, ⟨36, _⟩ => ⟨S1024x256, .bf16⟩
  | .hbm, ⟨37, _⟩ => ⟨S8192x1024, .f32⟩
  | .hbm, ⟨38, _⟩ => ⟨S1x1024, .f32⟩
  | .hbm, ⟨39, _⟩ => ⟨S1x1024, .f32⟩
  | .hbm, ⟨40, _⟩ => ⟨S8x512x512, .bf16⟩
  | .hbm, ⟨41, _⟩ => ⟨S1024x256, .bf16⟩
  | .local _ .vmem, ⟨0, _⟩ => ⟨S512x1024, .f32⟩
  | .local _ .vmem, ⟨1, _⟩ => ⟨S512x1024, .f32⟩
  | .local _ .vmem, ⟨2, _⟩ => ⟨S512x1, .f32⟩
  | .local _ .vmem, ⟨3, _⟩ => ⟨S512x1, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S1x128x256, .f32⟩
  | .local _ .vmem, ⟨17, _⟩ => ⟨S1x128x256, .f32⟩
  | .local _ .vmem, ⟨18, _⟩ => ⟨S1x128x256, .f32⟩
  | .local _ .vmem, ⟨19, _⟩ => ⟨S1x128x256, .f32⟩
  | .local _ .vmem, ⟨20, _⟩ => ⟨S1024x2048, .bf16⟩
  | .local _ .vmem, ⟨21, _⟩ => ⟨S1024x256, .bf16⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S1x1024, .f32⟩
  | .local _ .vmem, ⟨26, _⟩ => ⟨S8x512x512, .bf16⟩
  | .local _ .vmem, ⟨27, _⟩ => ⟨S1024x256, .bf16⟩
  | .local _ .vmem, ⟨28, _⟩ => ⟨S1024x2048, .f32⟩
  | .local _ .vmem, ⟨29, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev main_v20_3 : Ref sig .tc := ⟨.hbm, 40, rfl⟩
abbrev main_v20_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_75 : BitVec 32 := 15#32
  let v121 : BitVec 1 := Scalar.cmpi .eq arg0 c15_i32_75
  let v122 : BitVec 32 := Scalar.extui v121
  let c0_i32_76 : BitVec 32 := 0#32
  let v123 : BitVec 1 := Scalar.cmpi .ne v122 c0_i32_76
  v123

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c1_i32 : BitVec 32 := 1#32
  let v0 : BitVec 32 := Scalar.muli c1_i32 arg0
  let c0_i32 : BitVec 32 := 0#32
  let v1 : BitVec 32 := Scalar.addi v0 c0_i32
  let c1_i32_0 : BitVec 32 := 1#32
  let v2 : BitVec 32 := Scalar.addi v1 c1_i32_0
  let c15_i32 : BitVec 32 := 15#32
  let v3 : BitVec 32 := Scalar.minsi v2 c15_i32
  let c0_i32_1 : BitVec 32 := 0#32
  let c0_i32_2 : BitVec 32 := 0#32
  let c0_i32_3 : BitVec 32 := 0#32
  ![v3.toNat, c0_i32_1.toNat, c0_i32_2.toNat]

def cc0_transform_10 (i : grid0.Coords) : Fin 3 → Nat :=
  let arg0 : BitVec 32 := BitVec.ofNat 32 (i 0).val
  let c1_i32 : BitVec 32 := 1#32
  let v0 : BitVec 32 := Scalar.muli c1_i32 arg0
  let c0_i32 : BitVec 32 := 0#32
  let v1 : BitVec 32 := Scalar.addi v0 c0_i32
  let c1_i32_0 : BitVec 32 := 1#32
  let v2 : BitVec 32 := Scalar.addi v1 c1_i32_0
  let c15_i32 : BitVec 32 := 15#32
  let v3 : BitVec 32 := Scalar.minsi v2 c15_i32
  let c0_i32_1 : BitVec 32 := 0#32
  let c0_i32_2 : BitVec 32 := 0#32
  let c0_i32_3 : BitVec 32 := 0#32
  ![v3.toNat, c0_i32_1.toNat, c0_i32_2.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== BgradRefIdeal.lean ====
abbrev S8192x1024 : Shape := ⟨2, ![8192, 1024]⟩
abbrev S1x1024 : Shape := ⟨2, ![1, 1024]⟩
abbrev S1024x2048 : Shape := ⟨2, ![1024, 2048]⟩
abbrev S1024x256 : Shape := ⟨2, ![1024, 256]⟩
abbrev S8192x256 : Shape := ⟨2, ![8192, 256]⟩
abbrev S16x128x256 : Shape := ⟨3, ![16, 128, 256]⟩
abbrev S16x512x256 : Shape := ⟨3, ![16, 512, 256]⟩
abbrev S15x128x256 : Shape := ⟨3, ![15, 128, 256]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S8192x128 : Shape := ⟨2, ![8192, 128]⟩
abbrev S8192x2x1x64 : Shape := ⟨4, ![8192, 2, 1, 64]⟩
abbrev S8192x2x2x64 : Shape := ⟨4, ![8192, 2, 2, 64]⟩
abbrev S8192x2x64 : Shape := ⟨3, ![8192, 2, 64]⟩
abbrev S256x1024 : Shape := ⟨2, ![256, 1024]⟩
abbrev S2048x1024 : Shape := ⟨2, ![2048, 1024]⟩
abbrev S1024 : Shape := ⟨1, ![1024]⟩
abbrev S2x512x4x512 : Shape := ⟨4, ![2, 512, 4, 512]⟩
abbrev S4x2x512x512 : Shape := ⟨4, ![4, 2, 512, 512]⟩
abbrev S8x512x512 : Shape := ⟨3, ![8, 512, 512]⟩

abbrev nBuf : Space → Nat
  | .hbm => 143
  | .vmem => 0
  | .smem => 0
  | _ => 0

abbrev hbmTy0_0 (i : Nat) : BufTy := match i % 128 with
  | 0 => ⟨S8192x1024, .f32⟩
  | 1 => ⟨S1x1024, .f32⟩
  | 2 => ⟨S1x1024, .f32⟩
  | 3 => ⟨S1024x2048, .f32⟩
  | 4 => ⟨S1024x256, .f32⟩
  | 5 => ⟨S8192x1024, .f32⟩
  | 6 => ⟨S8192x1024, .f32⟩
  | 7 => ⟨S8192x1024, .f32⟩
  | 8 => ⟨S8192x256, .f32⟩
  | 9 => ⟨S8192x256, .f32⟩
  | 10 => ⟨S16x128x256, .f32⟩
  | 11 => ⟨S16x128x256, .f32⟩
  | 12 => ⟨S16x512x256, .f32⟩
  | 13 => ⟨S15x128x256, .f32⟩
  | 14 => ⟨S_, .i32⟩
  | 15 => ⟨S_, .f32⟩
  | 16 => ⟨S16x512x256, .f32⟩
  | 17 => ⟨S16x512x256, .f32⟩
  | 18 => ⟨S8192x256, .f32⟩
  | 19 => ⟨S16x512x256, .f32⟩
  | 20 => ⟨S15x128x256, .f32⟩
  | 21 => ⟨S_, .i32⟩
  | 22 => ⟨S_, .f32⟩
  | 23 => ⟨S16x512x256, .f32⟩
  | 24 => ⟨S16x512x256, .f32⟩
  | 25 => ⟨S8192x256, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S8192x1024, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S8192x1024, .f32⟩
  | 45 => ⟨S8192x1024, .f32⟩
  | 46 => ⟨S_, .f32⟩
  | 47 => ⟨S8192x1, .f32⟩
  | 48 => ⟨S8192x1, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x2048, .f32⟩
  | 61 => ⟨S8192x1024, .f32⟩
  | 62 => ⟨S8192x1024, .f32⟩
  | 63 => ⟨S8192x256, .f32⟩
  | 64 => ⟨S8192x128, .f32⟩
  | 65 => ⟨S8192x128, .f32⟩
  | 66 => ⟨S_, .f32⟩
  | 67 => ⟨S8192x1024, .f32⟩
  | 68 => ⟨S8192x1024, .f32⟩
  | 69 => ⟨S8192x2x1x64, .f32⟩
  | 70 => ⟨S8192x2x2x64, .f32⟩
  | 71 => ⟨S8192x256, .f32⟩
  | 72 => ⟨S8192x2x1x64, .f32⟩
  | 73 => ⟨S8192x2x2x64, .f32⟩
  | 74 => ⟨S8192x256, .f32⟩
  | 75 => ⟨S8192x2x2x64, .f32⟩
  | 76 => ⟨S_, .f32⟩
  | 77 => ⟨S8192x2x64, .f32⟩
  | 78 => ⟨S8192x2x1x64, .f32⟩
  | 79 => ⟨S8192x128, .f32⟩
  | 80 => ⟨S8192x2x2x64, .f32⟩
  | 81 => ⟨S_, .f32⟩
  | 82 => ⟨S8192x2x64, .f32⟩
  | 83 => ⟨S8192x2x1x64, .f32⟩
  | 84 => ⟨S8192x128, .f32⟩
  | 85 => ⟨S_, .f32⟩
  | 86 => ⟨S8192x1024, .f32⟩
  | 87 => ⟨S8192x1024, .f32⟩
  | 88 => ⟨S8192x256, .f32⟩
  | 89 => ⟨S256x1024, .f32⟩
  | 90 => ⟨S1024x256, .f32⟩
  | 91 => ⟨S8192x1024, .f32⟩
  | 92 => ⟨S8192x1024, .f32⟩
  | 93 => ⟨S8192x2048, .f32⟩
  | 94 => ⟨S2048x1024, .f32⟩
  | 95 => ⟨S1024x2048, .f32⟩
  | 96 => ⟨S8192x1024, .f32⟩
  | 97 => ⟨S8192x1024, .f32⟩
  | 98 => ⟨S_, .f32⟩
  | 99 => ⟨S1024, .f32⟩
  | 100 => ⟨S1x1024, .f32⟩
  | 101 => ⟨S8192x1024, .f32⟩
  | 102 => ⟨S_, .f32⟩
  | 103 => ⟨S1024, .f32⟩
  | 104 => ⟨S1x1024, .f32⟩
  | 105 => ⟨S8192x1024, .f32⟩
  | 106 => ⟨S8192x1024, .f32⟩
  | 107 => ⟨S8192x1024, .f32⟩
  | 108 => ⟨S_, .f32⟩
  | 109 => ⟨S8192, .f32⟩
  | 110 => ⟨S8192x1, .f32⟩
  | 111 => ⟨S8192x1024, .f32⟩
  | 112 => ⟨S8192x1024, .f32⟩
  | 113 => ⟨S8192x1, .f32⟩
  | 114 => ⟨S8192x1024, .f32⟩
  | 115 => ⟨S_, .f32⟩
  | 116 => ⟨S8192, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192, .f32⟩
  | 123 => ⟨S8192x1024, .f32⟩
  | 124 => ⟨S8192x1024, .f32⟩
  | 125 => ⟨S8192x1024, .f32⟩
  | 126 => ⟨S_, .f32⟩
  | 127 => ⟨S8192, .f32⟩
  | _ => ⟨S8192x1024, .f32⟩

abbrev hbmTy0_1 (i : Nat) : BufTy := match i % 128 with
  | 0 => ⟨S8192x1, .f32⟩
  | 1 => ⟨S8192x1024, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x1024, .f32⟩
  | 9 => ⟨S8192x1024, .f32⟩
  | 10 => ⟨S1024x2048, .bf16⟩
  | 11 => ⟨S2x512x4x512, .bf16⟩
  | 12 => ⟨S4x2x512x512, .bf16⟩
  | 13 => ⟨S8x512x512, .bf16⟩
  | 14 => ⟨S1024x256, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_call1_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_11 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_13 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_14 : Ref sig .tc := ⟨.hbm, 115, rfl⟩
abbrev main_v85 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_cst_16 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_17 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_18 : Ref sig .tc := ⟨.hbm, 131, rfl⟩
abbrev main_v97 : Ref sig .tc := ⟨.hbm, 132, rfl⟩
abbrev main_v98 : Ref sig .tc := ⟨.hbm, 133, rfl⟩
abbrev main_cst_19 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩

abbrev nD : Nat := 1
abbrev τ : Topo := Topo.v7x

variable {F : FTy → Type} [FloatOps F]
-- ==== Adam.lean ====
abbrev S1024x1536 : Shape := ⟨2, ![1024, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Small.lean ====
abbrev S1128x128 : Shape := ⟨2, ![1128, 128]⟩
abbrev S1x512 : Shape := ⟨2, ![1, 512]⟩
abbrev S1024x128 : Shape := ⟨2, ![1024, 128]⟩
abbrev S8x128 : Shape := ⟨2, ![8, 128]⟩
abbrev S1x16 : Shape := ⟨2, ![1, 16]⟩
abbrev S16x32 : Shape := ⟨2, ![16, 32]⟩
abbrev S2x1024 : Shape := ⟨2, ![2, 1024]⟩
abbrev S_ : Shape := ⟨0, ![]⟩
abbrev S1 : Shape := ⟨1, ![1]⟩
abbrev S1x1 : Shape := ⟨2, ![1, 1]⟩
abbrev S1x128 : Shape := ⟨2, ![1, 128]⟩
abbrev S1x1024 : Shape := ⟨2, ![1, 1024]⟩

abbrev nBuf : Space → Nat
  | .hbm => 60
  | .vmem => 58
  | .smem => 1
  | _ => 0

abbrev bufTy : (tb : Table) → Fin (tcTables nBuf tb) → BufTy
  | .hbm, ⟨0, _⟩ => ⟨S1128x128, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S1x16, .f32⟩
  | .hbm, ⟨14, _⟩ => ⟨S1x16, .f32⟩
  | .hbm, ⟨15, _⟩ => ⟨S1x16, .f32⟩
  | .hbm, ⟨16, _⟩ => ⟨S16x32, .f32⟩
  | .hbm, ⟨17, _⟩ => ⟨S16x32, .f32⟩
  | .hbm, ⟨18, _⟩ => ⟨S16x32, .f32⟩
  | .hbm, ⟨19, _⟩ => ⟨S2x1024, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S2x1024, .f32⟩
  | .hbm, ⟨24, _⟩ => ⟨S2x1024, .f32⟩
  | .hbm, ⟨25, _⟩ => ⟨S_, .i32⟩
  | .hbm, ⟨26, _⟩ => ⟨S1, .i32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1024x128, .f32⟩
  | .hbm, ⟨36, _⟩ => ⟨S1024x128, .f32⟩
  | .hbm, ⟨37, _⟩ => ⟨S1024x128, .f32⟩
  | .hbm, ⟨38, _⟩ => ⟨S1024x128, .f32⟩
  | .hbm, ⟨39, _⟩ => ⟨S8x128, .f32⟩
  | .hbm, ⟨40, _⟩ => ⟨S8x128, .f32⟩
  | .hbm, ⟨41, _⟩ => ⟨S8x128, .f32⟩
  | .hbm, ⟨42, _⟩ => ⟨S8x128, .f32⟩
  | .hbm, ⟨43, _⟩ => ⟨S1x16, .f32⟩
  | .hbm, ⟨44, _⟩ => ⟨S1x16, .f32⟩
  | .hbm, ⟨45, _⟩ => ⟨S1x16, .f32⟩
  | .hbm, ⟨46, _⟩ => ⟨S1x16, .f32⟩
  | .hbm, ⟨47, _⟩ => ⟨S16x32, .f32⟩
  | .hbm, ⟨48, _⟩ => ⟨S16x32, .f32⟩
  | .hbm, ⟨49, _⟩ => ⟨S16x32, .f32⟩
  | .hbm, ⟨50, _⟩ => ⟨S16x32, .f32⟩
  | .hbm, ⟨51, _⟩ => ⟨S2x1024, .f32⟩
  | .hbm, ⟨52, _⟩ => ⟨S2x1024, .f32⟩
  | .hbm, ⟨53, _⟩ => ⟨S2x1024, .f32⟩
  | .hbm, ⟨54, _⟩ => ⟨S2x1024, .f32⟩
  | .hbm, ⟨55, _⟩ => ⟨S2x1024, .f32⟩
  | .hbm, ⟨56, _⟩ => ⟨S2x1024, .f32⟩
  | .hbm, ⟨57, _⟩ => ⟨S2x1024, .f32⟩
  | .hbm, ⟨58, _⟩ => ⟨S2x1024, .f32⟩
  | .hbm, ⟨59, _⟩ => ⟨S1x1, .f32⟩
  | .local _ .vmem, ⟨0, _⟩ => ⟨S1128x128, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S1x16, .f32⟩
  | .local _ .vmem, ⟨14, _⟩ => ⟨S1x16, .f32⟩
  | .local _ .vmem, ⟨15, _⟩ => ⟨S1x16, .f32⟩
  | .local _ .vmem, ⟨16, _⟩ => ⟨S16x32, .f32⟩
  | .local _ .vmem, ⟨17, _⟩ => ⟨S16x32, .f32⟩
  | .local _ .vmem, ⟨18, _⟩ => ⟨S16x32, .f32⟩
  | .local _ .vmem, ⟨19, _⟩ => ⟨S2x1024, .f32⟩
  | .local _ .vmem, ⟨20, _⟩ => ⟨S2x1024, .f32⟩
  | .local _ .vmem, ⟨21, _⟩ => ⟨S2x1024, .f32⟩
  | .local _ .vmem, ⟨22, _⟩ => ⟨S2x1024, .f32⟩
  | .local _ .vmem, ⟨23, _⟩ => ⟨S2x1024, .f32⟩
  | .local _ .vmem, ⟨24, _⟩ => ⟨S2x1024, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S8x128, .f32⟩
  | .local _ .vmem, ⟨38, _⟩ => ⟨S8x128, .f32⟩
  | .local _ .vmem, ⟨39, _⟩ => ⟨S8x128, .f32⟩
  | .local _ .vmem, ⟨40, _⟩ => ⟨S8x128, .f32⟩
  | .local _ .vmem, ⟨41, _⟩ => ⟨S1x16, .f32⟩
  | .local _ .vmem, ⟨42, _⟩ => ⟨S1x16, .f32⟩
  | .local _ .vmem, ⟨43, _⟩ => ⟨S1x16, .f32⟩
  | .local _ .vmem, ⟨44, _⟩ => ⟨S1x16, .f32⟩
  | .local _ .vmem, ⟨45, _⟩ => ⟨S16x32, .f32⟩
  | .local _ .vmem, ⟨46, _⟩ => ⟨S16x32, .f32⟩
  | .local _ .vmem, ⟨47, _⟩ => ⟨S16x32, .f32⟩
  | .local _ .vmem, ⟨48, _⟩ => ⟨S16x32, .f32⟩
  | .local _ .vmem, ⟨49, _⟩ => ⟨S2x1024, .f32⟩
  | .local _ .vmem, ⟨50, _⟩ => ⟨S2x1024, .f32⟩
  | .local _ .vmem, ⟨51, _⟩ => ⟨S2x1024, .f32⟩
  | .local _ .vmem, ⟨52, _⟩ => ⟨S2x1024, .f32⟩
  | .local _ .vmem, ⟨53, _⟩ => ⟨S2x1024, .f32⟩
  | .local _ .vmem, ⟨54, _⟩ => ⟨S2x1024, .f32⟩
  | .local _ .vmem, ⟨55, _⟩ => ⟨S2x1024, .f32⟩
  | .local _ .vmem, ⟨56, _⟩ => ⟨S2x1024, .f32⟩
  | .local _ .vmem, ⟨57, _⟩ => ⟨S1x1, .f32⟩
  | .local _ .smem, ⟨0, _⟩ => ⟨S1, .i32⟩
  | _, _ => ⟨S1128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .smem, ⟨0, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1_0 : Ref sig .tc := ⟨.hbm, 27, rfl⟩
abbrev main_v1_1 : Ref sig .tc := ⟨.hbm, 28, rfl⟩
abbrev main_v1_2 : Ref sig .tc := ⟨.hbm, 29, rfl⟩
abbrev main_v1_3 : Ref sig .tc := ⟨.hbm, 30, rfl⟩
abbrev main_v1_4 : Ref sig .tc := ⟨.hbm, 31, rfl⟩
abbrev main_v1_5 : Ref sig .tc := ⟨.hbm, 32, rfl⟩
abbrev main_v1_6 : Ref sig .tc := ⟨.hbm, 33, rfl⟩
abbrev main_v1_7 : Ref sig .tc := ⟨.hbm, 34, rfl⟩
abbrev main_v1_8 : Ref sig .tc := ⟨.hbm, 35, rfl⟩
abbrev main_v1_9 : Ref sig .tc := ⟨.hbm, 36, rfl⟩
abbrev main_v1_10 : Ref sig .tc := ⟨.hbm, 37, rfl⟩
abbrev main_v1_11 : Ref sig .tc := ⟨.hbm, 38, rfl⟩
abbrev main_v1_12 : Ref sig .tc := ⟨.hbm, 39, rfl⟩
abbrev main_v1_13 : Ref sig .tc := ⟨.hbm, 40, rfl⟩
abbrev main_v1_14 : Ref sig .tc := ⟨.hbm, 41, rfl⟩
abbrev main_v1_15 : Ref sig .tc := ⟨.hbm, 42, rfl⟩
abbrev main_v1_16 : Ref sig .tc := ⟨.hbm, 43, rfl⟩
abbrev main_v1_17 : Ref sig .tc := ⟨.hbm, 44, rfl⟩
abbrev main_v1_18 : Ref sig .tc := ⟨.hbm, 45, rfl⟩
abbrev main_v1_19 : Ref sig .tc := ⟨.hbm, 46, rfl⟩
abbrev main_v1_20 : Ref sig .tc := ⟨.hbm, 47, rfl⟩
abbrev main_v1_21 : Ref sig .tc := ⟨.hbm, 48, rfl⟩
abbrev main_v1_22 : Ref sig .tc := ⟨.hbm, 49, rfl⟩
abbrev main_v1_23 : Ref sig .tc := ⟨.hbm, 50, rfl⟩
abbrev main_v1_24 : Ref sig .tc := ⟨.hbm, 51, rfl⟩
abbrev main_v1_25 : Ref sig .tc := ⟨.hbm, 52, rfl⟩
abbrev main_v1_26 : Ref sig .tc := ⟨.hbm, 53, rfl⟩
abbrev main_v1_27 : Ref sig .tc := ⟨.hbm, 54, rfl⟩
abbrev main_v1_28 : Ref sig .tc := ⟨.hbm, 55, rfl⟩
abbrev main_v1_29 : Ref sig .tc := ⟨.hbm, 56, rfl⟩
abbrev main_v1_30 : Ref sig .tc := ⟨.hbm, 57, rfl⟩
abbrev main_v1_31 : Ref sig .tc := ⟨.hbm, 58, rfl⟩
abbrev main_v1_32 : Ref sig .tc := ⟨.hbm, 59, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc0_stg20_0 : Ref sig .tc := ⟨.vmem, 19, rfl⟩
abbrev cc0_stg21_0 : Ref sig .tc := ⟨.vmem, 20, rfl⟩
abbrev cc0_stg22_0 : Ref sig .tc := ⟨.vmem, 21, rfl⟩
abbrev cc0_stg23_0 : Ref sig .tc := ⟨.vmem, 22, rfl⟩
abbrev cc0_stg24_0 : Ref sig .tc := ⟨.vmem, 23, rfl⟩
abbrev cc0_stg25_0 : Ref sig .tc := ⟨.vmem, 24, rfl⟩
abbrev cc0_stg26_0 : Ref sig .tc := ⟨.vmem, 25, rfl⟩
abbrev cc0_stg27_0 : Ref sig .tc := ⟨.vmem, 26, rfl⟩
abbrev cc0_stg28_0 : Ref sig .tc := ⟨.vmem, 27, rfl⟩
abbrev cc0_stg29_0 : Ref sig .tc := ⟨.vmem, 28, rfl⟩
abbrev cc0_stg30_0 : Ref sig .tc := ⟨.vmem, 29, rfl⟩
abbrev cc0_stg31_0 : Ref sig .tc := ⟨.vmem, 30, rfl⟩
abbrev cc0_stg32_0 : Ref sig .tc := ⟨.vmem, 31, rfl⟩
abbrev cc0_stg33_0 : Ref sig .tc := ⟨.vmem, 32, rfl⟩
abbrev cc0_stg34_0 : Ref sig .tc := ⟨.vmem, 33, rfl⟩
abbrev cc0_stg35_0 : Ref sig .tc := ⟨.vmem, 34, rfl⟩
abbrev cc0_stg36_0 : Ref sig .tc := ⟨.vmem, 35, rfl⟩
abbrev cc0_stg37_0 : Ref sig .tc := ⟨.vmem, 36, rfl⟩
abbrev cc0_stg38_0 : Ref sig .tc := ⟨.vmem, 37, rfl⟩
abbrev cc0_stg39_0 : Ref sig .tc := ⟨.vmem, 38, rfl⟩
abbrev cc0_stg40_0 : Ref sig .tc := ⟨.vmem, 39, rfl⟩
abbrev cc0_stg41_0 : Ref sig .tc := ⟨.vmem, 40, rfl⟩
abbrev cc0_stg42_0 : Ref sig .tc := ⟨.vmem, 41, rfl⟩
abbrev cc0_stg43_0 : Ref sig .tc := ⟨.vmem, 42, rfl⟩
abbrev cc0_stg44_0 : Ref sig .tc := ⟨.vmem, 43, rfl⟩
abbrev cc0_stg45_0 : Ref sig .tc := ⟨.vmem, 44, rfl⟩
abbrev cc0_stg46_0 : Ref sig .tc := ⟨.vmem, 45, rfl⟩
abbrev cc0_stg47_0 : Ref sig .tc := ⟨.vmem, 46, rfl⟩
abbrev cc0_stg48_0 : Ref sig .tc := ⟨.vmem, 47, rfl⟩
abbrev cc0_stg49_0 : Ref sig .tc := ⟨.vmem, 48, rfl⟩
abbrev cc0_stg50_0 : Ref sig .tc := ⟨.vmem, 49, rfl⟩
abbrev cc0_stg51_0 : Ref sig .tc := ⟨.vmem, 50, rfl⟩
abbrev cc0_stg52_0 : Ref sig .tc := ⟨.vmem, 51, rfl⟩
abbrev cc0_stg53_0 : Ref sig .tc := ⟨.vmem, 52, rfl⟩
abbrev cc0_stg54_0 : Ref sig .tc := ⟨.vmem, 53, rfl⟩
abbrev cc0_stg55_0 : Ref sig .tc := ⟨.vmem, 54, rfl⟩
abbrev cc0_stg56_0 : Ref sig .tc := ⟨.vmem, 55, rfl⟩
abbrev cc0_stg57_0 : Ref sig .tc := ⟨.vmem, 56, rfl⟩
abbrev cc0_stg58_0 : Ref sig .tc := ⟨.vmem, 57, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58

abbrev nD : Nat := 1
abbrev τ : Topo := Topo.v7x

variable {F : FTy → Type} [FloatOps F]

abbrev grid0 : Pipeline.Grid := .none

def k0_off1 (v2 : BitVec 32) (c0_i32_3 : BitVec 32) : Fin 2 → Nat :=
  let c1088_i32 : BitVec 32 := 1088#32
  let c4_i32 : BitVec 32 := 4#32
  let v3 : BitVec 32 := Scalar.muli v2 c4_i32
  let v4 : BitVec 32 := Scalar.addi c1088_i32 v3
  let c0_i32 : BitVec 32 := 0#32
  let v5 : BitVec 32 := Scalar.addi v4 c0_i32
  let v6 : BitVec 32 := Scalar.addi v5 c0_i32_3
  let v7 : Index := Scalar.indexCast v6
  let c0_4 : Index := 0#32
  ![v7.toNat, 0]

def k0_chk1 (v2 : BitVec 32) : Prop :=
  (∀ (r : Fin 4), ∀ a, (k0_off1 v2 (BitVec.ofNat 32 r.val)) a + S1x128.size a ≤ S1128x128.size a)
theorem k0_off1_inb : ∀ (v2 : BitVec 32) (k0_hw1 : k0_chk1 v2), ∀ (r : Fin 4), ∀ a, (k0_off1 v2 (BitVec.ofNat 32 r.val)) a + S1x128.size a ≤ S1128x128.size a := fun v2 k0_hw1 r => k0_hw1 r

def k0_off2 (v53 : BitVec 32) (c0_i32_36 : BitVec 32) : Fin 2 → Nat :=
  let c1104_i32 : BitVec 32 := 1104#32
  let c4_i32_34 : BitVec 32 := 4#32
  let v54 : BitVec 32 := Scalar.muli v53 c4_i32_34
  let v55 : BitVec 32 := Scalar.addi c1104_i32 v54
  let c0_i32_35 : BitVec 32 := 0#32
  let v56 : BitVec 32 := Scalar.addi v55 c0_i32_35
  let v57 : BitVec 32 := Scalar.addi v56 c0_i32_36
  let v58 : Index := Scalar.indexCast v57
  let c0_37 : Index := 0#32
  ![v58.toNat, 0]

def k0_chk2 (v53 : BitVec 32) : Prop :=
  (∀ (r : Fin 4), ∀ a, (k0_off2 v53 (BitVec.ofNat 32 r.val)) a + S1x128.size a ≤ S1128x128.size a)
theorem k0_off2_inb : ∀ (v53 : BitVec 32) (k0_hw2 : k0_chk2 v53), ∀ (r : Fin 4), ∀ a, (k0_off2 v53 (BitVec.ofNat 32 r.val)) a + S1x128.size a ≤ S1128x128.size a := fun v53 k0_hw2 r => k0_hw2 r

abbrev stage0_0 : Fin 1 → Memref sig .tc .vmem S1128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S16x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1024x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1024x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1024x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1024x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S8x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S8x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S8x128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S8x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x16 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x16 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x16 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x16 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S16x32 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S16x32 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S16x32 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S16x32 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S2x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S2x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S2x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S2x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S2x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S2x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S2x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S2x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))
-- ==== SmallRefIdeal.lean ====
abbrev S1128x128 : Shape := ⟨2, ![1128, 128]⟩
abbrev S1x512 : Shape := ⟨2, ![1, 512]⟩
abbrev S1024x128 : Shape := ⟨2, ![1024, 128]⟩
abbrev S8x128 : Shape := ⟨2, ![8, 128]⟩
abbrev S1x16 : Shape := ⟨2, ![1, 16]⟩
abbrev S16x32 : Shape := ⟨2, ![16, 32]⟩
abbrev S2x1024 : Shape := ⟨2, ![2, 1024]⟩
abbrev S16x128 : Shape := ⟨2, ![16, 128]⟩
abbrev S1x2048 : Shape := ⟨2, ![1, 2048]⟩
abbrev S_ : Shape := ⟨0, ![]⟩
abbrev S1x1 : Shape := ⟨2, ![1, 1]⟩

abbrev nBuf : Space → Nat
  | .hbm => 304
  | .vmem => 0
  | .smem => 0
  | _ => 0

abbrev hbmTy0_0 (i : Nat) : BufTy := match i % 128 with
  | 0 => ⟨S1128x128, .f32⟩
  | 1 => ⟨S1x512, .f32⟩
  | 2 => ⟨S1x512, .f32⟩
  | 3 => ⟨S1x512, .f32⟩
  | 4 => ⟨S1x512, .f32⟩
  | 5 => ⟨S1x512, .f32⟩
  | 6 => ⟨S1x512, .f32⟩
  | 7 => ⟨S1024x128, .f32⟩
  | 8 => ⟨S1024x128, .f32⟩
  | 9 => ⟨S1024x128, .f32⟩
  | 10 => ⟨S8x128, .f32⟩
  | 11 => ⟨S8x128, .f32⟩
  | 12 => ⟨S8x128, .f32⟩
  | 13 => ⟨S1x16, .f32⟩
  | 14 => ⟨S1x16, .f32⟩
  | 15 => ⟨S1x16, .f32⟩
  | 16 => ⟨S16x32, .f32⟩
  | 17 => ⟨S16x32, .f32⟩
  | 18 => ⟨S16x32, .f32⟩
  | 19 => ⟨S2x1024, .f32⟩
  | 20 => ⟨S2x1024, .f32⟩
  | 21 => ⟨S2x1024, .f32⟩
  | 22 => ⟨S2x1024, .f32⟩
  | 23 => ⟨S2x1024, .f32⟩
  | 24 => ⟨S2x1024, .f32⟩
  | 25 => ⟨S16x128, .f32⟩
  | 26 => ⟨S1x2048, .f32⟩
  | 27 => ⟨S1x512, .f32⟩
  | 28 => ⟨S_, .f32⟩
  | 29 => ⟨S1x512, .f32⟩
  | 30 => ⟨S1x512, .f32⟩
  | 31 => ⟨S_, .f32⟩
  | 32 => ⟨S1x512, .f32⟩
  | 33 => ⟨S1x512, .f32⟩
  | 34 => ⟨S1x512, .f32⟩
  | 35 => ⟨S_, .f32⟩
  | 36 => ⟨S1x512, .f32⟩
  | 37 => ⟨S1x512, .f32⟩
  | 38 => ⟨S1x512, .f32⟩
  | 39 => ⟨S_, .f32⟩
  | 40 => ⟨S1x512, .f32⟩
  | 41 => ⟨S1x512, .f32⟩
  | 42 => ⟨S1x512, .f32⟩
  | 43 => ⟨S_, .f32⟩
  | 44 => ⟨S1x512, .f32⟩
  | 45 => ⟨S1x512, .f32⟩
  | 46 => ⟨S_, .f32⟩
  | 47 => ⟨S1x512, .f32⟩
  | 48 => ⟨S1x512, .f32⟩
  | 49 => ⟨S1x512, .f32⟩
  | 50 => ⟨S_, .f32⟩
  | 51 => ⟨S1x512, .f32⟩
  | 52 => ⟨S1x512, .f32⟩
  | 53 => ⟨S1x512, .f32⟩
  | 54 => ⟨S_, .f32⟩
  | 55 => ⟨S1x512, .f32⟩
  | 56 => ⟨S1x512, .f32⟩
  | 57 => ⟨S1x512, .f32⟩
  | 58 => ⟨S_, .f32⟩
  | 59 => ⟨S1x512, .f32⟩
  | 60 => ⟨S1x512, .f32⟩
  | 61 => ⟨S16x128, .f32⟩
  | 62 => ⟨S1x2048, .f32⟩
  | 63 => ⟨S1x512, .f32⟩
  | 64 => ⟨S_, .f32⟩
  | 65 => ⟨S1x512, .f32⟩
  | 66 => ⟨S1x512, .f32⟩
  | 67 => ⟨S_, .f32⟩
  | 68 => ⟨S1x512, .f32⟩
  | 69 => ⟨S1x512, .f32⟩
  | 70 => ⟨S1x512, .f32⟩
  | 71 => ⟨S_, .f32⟩
  | 72 => ⟨S1x512, .f32⟩
  | 73 => ⟨S1x512, .f32⟩
  | 74 => ⟨S1x512, .f32⟩
  | 75 => ⟨S_, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S_, .f32⟩
  | 83 => ⟨S1x512, .f32⟩
  | 84 => ⟨S1x512, .f32⟩
  | 85 => ⟨S1x512, .f32⟩
  | 86 => ⟨S_, .f32⟩
  | 87 => ⟨S1x512, .f32⟩
  | 88 => ⟨S1x512, .f32⟩
  | 89 => ⟨S1x512, .f32⟩
  | 90 => ⟨S_, .f32⟩
  | 91 => ⟨S1x512, .f32⟩
  | 92 => ⟨S1x512, .f32⟩
  | 93 => ⟨S1x512, .f32⟩
  | 94 => ⟨S_, .f32⟩
  | 95 => ⟨S1x512, .f32⟩
  | 96 => ⟨S1x512, .f32⟩
  | 97 => ⟨S1024x128, .f32⟩
  | 98 => ⟨S_, .f32⟩
  | 99 => ⟨S1024x128, .f32⟩
  | 100 => ⟨S1024x128, .f32⟩
  | 101 => ⟨S_, .f32⟩
  | 102 => ⟨S1024x128, .f32⟩
  | 103 => ⟨S1024x128, .f32⟩
  | 104 => ⟨S1024x128, .f32⟩
  | 105 => ⟨S_, .f32⟩
  | 106 => ⟨S1024x128, .f32⟩
  | 107 => ⟨S1024x128, .f32⟩
  | 108 => ⟨S1024x128, .f32⟩
  | 109 => ⟨S_, .f32⟩
  | 110 => ⟨S1024x128, .f32⟩
  | 111 => ⟨S1024x128, .f32⟩
  | 112 => ⟨S1024x128, .f32⟩
  | 113 => ⟨S_, .f32⟩
  | 114 => ⟨S1024x128, .f32⟩
  | 115 => ⟨S1024x128, .f32⟩
  | 116 => ⟨S_, .f32⟩
  | 117 => ⟨S1024x128, .f32⟩
  | 118 => ⟨S1024x128, .f32⟩
  | 119 => ⟨S1024x128, .f32⟩
  | 120 => ⟨S_, .f32⟩
  | 121 => ⟨S1024x128, .f32⟩
  | 122 => ⟨S1024x128, .f32⟩
  | 123 => ⟨S1024x128, .f32⟩
  | 124 => ⟨S_, .f32⟩
  | 125 => ⟨S1024x128, .f32⟩
  | 126 => ⟨S1024x128, .f32⟩
  | 127 => ⟨S1024x128, .f32⟩
  | _ => ⟨S1128x128, .f32⟩

abbrev hbmTy0_1 (i : Nat) : BufTy := match i % 128 with
  | 0 => ⟨S_, .f32⟩
  | 1 => ⟨S1024x128, .f32⟩
  | 2 => ⟨S1024x128, .f32⟩
  | 3 => ⟨S8x128, .f32⟩
  | 4 => ⟨S_, .f32⟩
  | 5 => ⟨S8x128, .f32⟩
  | 6 => ⟨S8x128, .f32⟩
  | 7 => ⟨S_, .f32⟩
  | 8 => ⟨S8x128, .f32⟩
  | 9 => ⟨S8x128, .f32⟩
  | 10 => ⟨S8x128, .f32⟩
  | 11 => ⟨S_, .f32⟩
  | 12 => ⟨S8x128, .f32⟩
  | 13 => ⟨S8x128, .f32⟩
  | 14 => ⟨S8x128, .f32⟩
  | 15 => ⟨S_, .f32⟩
  | 16 => ⟨S8x128, .f32⟩
  | 17 => ⟨S8x128, .f32⟩
  | 18 => ⟨S8x128, .f32⟩
  | 19 => ⟨S_, .f32⟩
  | 20 => ⟨S8x128, .f32⟩
  | 21 => ⟨S8x128, .f32⟩
  | 22 => ⟨S_, .f32⟩
  | 23 => ⟨S8x128, .f32⟩
  | 24 => ⟨S8x128, .f32⟩
  | 25 => ⟨S8x128, .f32⟩
  | 26 => ⟨S_, .f32⟩
  | 27 => ⟨S8x128, .f32⟩
  | 28 => ⟨S8x128, .f32⟩
  | 29 => ⟨S8x128, .f32⟩
  | 30 => ⟨S_, .f32⟩
  | 31 => ⟨S8x128, .f32⟩
  | 32 => ⟨S8x128, .f32⟩
  | 33 => ⟨S8x128, .f32⟩
  | 34 => ⟨S_, .f32⟩
  | 35 => ⟨S8x128, .f32⟩
  | 36 => ⟨S8x128, .f32⟩
  | 37 => ⟨S1x16, .f32⟩
  | 38 => ⟨S_, .f32⟩
  | 39 => ⟨S1x16, .f32⟩
  | 40 => ⟨S1x16, .f32⟩
  | 41 => ⟨S_, .f32⟩
  | 42 => ⟨S1x16, .f32⟩
  | 43 => ⟨S1x16, .f32⟩
  | 44 => ⟨S1x16, .f32⟩
  | 45 => ⟨S_, .f32⟩
  | 46 => ⟨S1x16, .f32⟩
  | 47 => ⟨S1x16, .f32⟩
  | 48 => ⟨S1x16, .f32⟩
  | 49 => ⟨S_, .f32⟩
  | 50 => ⟨S1x16, .f32⟩
  | 51 => ⟨S1x16, .f32⟩
  | 52 => ⟨S1x16, .f32⟩
  | 53 => ⟨S_, .f32⟩
  | 54 => ⟨S1x16, .f32⟩
  | 55 => ⟨S1x16, .f32⟩
  | 56 => ⟨S_, .f32⟩
  | 57 => ⟨S1x16, .f32⟩
  | 58 => ⟨S1x16, .f32⟩
  | 59 => ⟨S1x16, .f32⟩
  | 60 => ⟨S_, .f32⟩
  | 61 => ⟨S1x16, .f32⟩
  | 62 => ⟨S1x16, .f32⟩
  | 63 => ⟨S1x16, .f32⟩
  | 64 => ⟨S_, .f32⟩
  | 65 => ⟨S1x16, .f32⟩
  | 66 => ⟨S1x16, .f32⟩
  | 67 => ⟨S1x16, .f32⟩
  | 68 => ⟨S_, .f32⟩
  | 69 => ⟨S1x16, .f32⟩
  | 70 => ⟨S1x16, .f32⟩
  | 71 => ⟨S16x32, .f32⟩
  | 72 => ⟨S_, .f32⟩
  | 73 => ⟨S16x32, .f32⟩
  | 74 => ⟨S16x32, .f32⟩
  | 75 => ⟨S_, .f32⟩
  | 76 => ⟨S16x32, .f32⟩
  | 77 => ⟨S16x32, .f32⟩
  | 78 => ⟨S16x32, .f32⟩
  | 79 => ⟨S_, .f32⟩
  | 80 => ⟨S16x32, .f32⟩
  | 81 => ⟨S16x32, .f32⟩
  | 82 => ⟨S16x32, .f32⟩
  | 83 => ⟨S_, .f32⟩
  | 84 => ⟨S16x32, .f32⟩
  | 85 => ⟨S16x32, .f32⟩
  | 86 => ⟨S16x32, .f32⟩
  | 87 => ⟨S_, .f32⟩
  | 88 => ⟨S16x32, .f32⟩
  | 89 => ⟨S16x32, .f32⟩
  | 90 => ⟨S_, .f32⟩
  | 91 => ⟨S16x32, .f32⟩
  | 92 => ⟨S16x32, .f32⟩
  | 93 => ⟨S16x32, .f32⟩
  | 94 => ⟨S_, .f32⟩
  | 95 => ⟨S16x32, .f32⟩
  | 96 => ⟨S16x32, .f32⟩
  | 97 => ⟨S16x32, .f32⟩
  | 98 => ⟨S_, .f32⟩
  | 99 => ⟨S16x32, .f32⟩
  | 100 => ⟨S16x32, .f32⟩
  | 101 => ⟨S16x32, .f32⟩
  | 102 => ⟨S_, .f32⟩
  | 103 => ⟨S16x32, .f32⟩
  | 104 => ⟨S16x32, .f32⟩
  | 105 => ⟨S16x128, .f32⟩
  | 106 => ⟨S2x1024, .f32⟩
  | 107 => ⟨S_, .f32⟩
  | 108 => ⟨S2x1024, .f32⟩
  | 109 => ⟨S2x1024, .f32⟩
  | 110 => ⟨S_, .f32⟩
  | 111 => ⟨S2x1024, .f32⟩
  | 112 => ⟨S2x1024, .f32⟩
  | 113 => ⟨S2x1024, .f32⟩
  | 114 => ⟨S_, .f32⟩
  | 115 => ⟨S2x1024, .f32⟩
  | 116 => ⟨S2x1024, .f32⟩
  | 117 => ⟨S2x1024, .f32⟩
  | 118 => ⟨S_, .f32⟩
  | 119 => ⟨S2x1024, .f32⟩
  | 120 => ⟨S2x1024, .f32⟩
  | 121 => ⟨S2x1024, .f32⟩
  | 122 => ⟨S_, .f32⟩
  | 123 => ⟨S2x1024, .f32⟩
  | 124 => ⟨S2x1024, .f32⟩
  | 125 => ⟨S_, .f32⟩
  | 126 => ⟨S2x1024, .f32⟩
  | 127 => ⟨S2x1024, .f32⟩
  | _ => ⟨S1128x128, .f32⟩

abbrev hbmTy0_2 (i : Nat) : BufTy := match i % 128 with
  | 0 => ⟨S2x1024, .f32⟩
  | 1 => ⟨S_, .f32⟩
  | 2 => ⟨S2x1024, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S16x128, .f32⟩
  | 13 => ⟨S2x1024, .f32⟩
  | 14 => ⟨S_, .f32⟩
  | 15 => ⟨S2x1024, .f32⟩
  | 16 => ⟨S2x1024, .f32⟩
  | 17 => ⟨S_, .f32⟩
  | 18 => ⟨S2x1024, .f32⟩
  | 19 => ⟨S2x1024, .f32⟩
  | 20 => ⟨S2x1024, .f32⟩
  | 21 => ⟨S_, .f32⟩
  | 22 => ⟨S2x1024, .f32⟩
  | 23 => ⟨S2x1024, .f32⟩
  | 24 => ⟨S2x1024, .f32⟩
  | 25 => ⟨S_, .f32⟩
  | 26 => ⟨S2x1024, .f32⟩
  | 27 => ⟨S2x1024, .f32⟩
  | 28 => ⟨S2x1024, .f32⟩
  | 29 => ⟨S_, .f32⟩
  | 30 => ⟨S2x1024, .f32⟩
  | 31 => ⟨S2x1024, .f32⟩
  | 32 => ⟨S_, .f32⟩
  | 33 => ⟨S2x1024, .f32⟩
  | 34 => ⟨S2x1024, .f32⟩
  | 35 => ⟨S2x1024, .f32⟩
  | 36 => ⟨S_, .f32⟩
  | 37 => ⟨S2x1024, .f32⟩
  | 38 => ⟨S2x1024, .f32⟩
  | 39 => ⟨S2x1024, .f32⟩
  | 40 => ⟨S_, .f32⟩
  | 41 => ⟨S2x1024, .f32⟩
  | 42 => ⟨S2x1024, .f32⟩
  | 43 => ⟨S2x1024, .f32⟩
  | 44 => ⟨S_, .f32⟩
  | 45 => ⟨S2x1024, .f32⟩
  | 46 => ⟨S2x1024, .f32⟩
  | 47 => ⟨S1x1, .f32⟩
  | _ => ⟨S1128x128, .f32⟩

abbrev hbmTy (i : Nat) : BufTy := match i / 128 with
  | 0 => hbmTy0_0 i
  | 1 => hbmTy0_1 i
  | 2 => hbmTy0_2 i
  | _ => ⟨S1128x128, .f32⟩

abbrev bufTy : (tb : Table) → Fin (tcTables nBuf tb) → BufTy
  | .hbm, ⟨i, _⟩ => hbmTy i
  | _, _ => ⟨S1128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_3 : Ref sig .tc := ⟨.hbm, 43, rfl⟩
abbrev main_v14 : Ref sig .tc := ⟨.hbm, 44, rfl⟩
abbrev main_v15 : Ref sig .tc := ⟨.hbm, 45, rfl⟩
abbrev main_cst_4 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_5 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_6 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_7 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_8 : Ref sig .tc := ⟨.hbm, 64, rfl⟩
abbrev main_v30 : Ref sig .tc := ⟨.hbm, 65, rfl⟩
abbrev main_v31 : Ref sig .tc := ⟨.hbm, 66, rfl⟩
abbrev main_cst_9 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_10 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_11 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_12 : Ref sig .tc := ⟨.hbm, 79, rfl⟩
abbrev main_v41 : Ref sig .tc := ⟨.hbm, 80, rfl⟩
abbrev main_v42 : Ref sig .tc := ⟨.hbm, 81, rfl⟩
abbrev main_cst_13 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_14 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_15 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_16 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_17 : Ref sig .tc := ⟨.hbm, 98, rfl⟩
abbrev main_v55 : Ref sig .tc := ⟨.hbm, 99, rfl⟩
abbrev main_v56 : Ref sig .tc := ⟨.hbm, 100, rfl⟩
abbrev main_cst_18 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_19 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_20 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_21 : Ref sig .tc := ⟨.hbm, 113, rfl⟩
abbrev main_v66 : Ref sig .tc := ⟨.hbm, 114, rfl⟩
abbrev main_v67 : Ref sig .tc := ⟨.hbm, 115, rfl⟩
abbrev main_cst_22 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_23 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_24 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_25 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_26 : Ref sig .tc := ⟨.hbm, 132, rfl⟩
abbrev main_v80 : Ref sig .tc := ⟨.hbm, 133, rfl⟩
abbrev main_v81 : Ref sig .tc := ⟨.hbm, 134, rfl⟩
abbrev main_cst_27 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_28 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_29 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_cst_30 : Ref sig .tc := ⟨.hbm, 147, rfl⟩
abbrev main_v91 : Ref sig .tc := ⟨.hbm, 148, rfl⟩
abbrev main_v92 : Ref sig .tc := ⟨.hbm, 149, rfl⟩
abbrev main_cst_31 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_cst_32 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_cst_33 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_34 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_cst_35 : Ref sig .tc := ⟨.hbm, 166, rfl⟩
abbrev main_v105 : Ref sig .tc := ⟨.hbm, 167, rfl⟩
abbrev main_v106 : Ref sig .tc := ⟨.hbm, 168, rfl⟩
abbrev main_cst_36 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_cst_37 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_38 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_cst_39 : Ref sig .tc := ⟨.hbm, 181, rfl⟩
abbrev main_v116 : Ref sig .tc := ⟨.hbm, 182, rfl⟩
abbrev main_v117 : Ref sig .tc := ⟨.hbm, 183, rfl⟩
abbrev main_cst_40 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_cst_41 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_cst_42 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_cst_43 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_cst_44 : Ref sig .tc := ⟨.hbm, 200, rfl⟩
abbrev main_v130 : Ref sig .tc := ⟨.hbm, 201, rfl⟩
abbrev main_v131 : Ref sig .tc := ⟨.hbm, 202, rfl⟩
abbrev main_cst_45 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_cst_46 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_cst_47 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_48 : Ref sig .tc := ⟨.hbm, 215, rfl⟩
abbrev main_v141 : Ref sig .tc := ⟨.hbm, 216, rfl⟩
abbrev main_v142 : Ref sig .tc := ⟨.hbm, 217, rfl⟩
abbrev main_cst_49 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_cst_50 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_cst_51 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_cst_52 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_cst_53 : Ref sig .tc := ⟨.hbm, 235, rfl⟩
abbrev main_v156 : Ref sig .tc := ⟨.hbm, 236, rfl⟩
abbrev main_v157 : Ref sig .tc := ⟨.hbm, 237, rfl⟩
abbrev main_cst_54 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_cst_55 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_cst_56 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_cst_57 : Ref sig .tc := ⟨.hbm, 250, rfl⟩
abbrev main_v167 : Ref sig .tc := ⟨.hbm, 251, rfl⟩
abbrev main_v168 : Ref sig .tc := ⟨.hbm, 252, rfl⟩
abbrev main_cst_58 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_cst_59 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_cst_60 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_cst_61 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_cst_62 : Ref sig .tc := ⟨.hbm, 270, rfl⟩
abbrev main_v182 : Ref sig .tc := ⟨.hbm, 271, rfl⟩
abbrev main_v183 : Ref sig .tc := ⟨.hbm, 272, rfl⟩
abbrev main_cst_63 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_cst_64 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_cst_65 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_cst_66 : Ref sig .tc := ⟨.hbm, 285, rfl⟩
abbrev main_v193 : Ref sig .tc := ⟨.hbm, 286, rfl⟩
abbrev main_v194 : Ref sig .tc := ⟨.hbm, 287, rfl⟩
abbrev main_cst_67 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_cst_68 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_cst_69 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_cst_70 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩

abbrev nD : Nat := 1
abbrev τ : Topo := Topo.v7x

variable {F : FTy → Type} [FloatOps F]
-- ==== Proof.MixTile.lean ====
/-
  One tile of the mixer's gradient: what the body of the kernel computes from the blocks of one grid point, for one
  chunk of 128 tokens and one group of 256 columns, as sums and products of the blocks' entries.
-/
module

public import proofs.«01_k».proof.Proof.Gen.MixIdeal.Skeleton
public import Idealize.ShloMosaic.Lib.Pointwise
public import Idealize.ShloMosaic.Lib.IdealHost
public import Idealize.ShloMosaic.Lib.WordCmp

@[expose] public section

set_option maxRecDepth 16384

noncomputable section

namespace Cert.MixTile

open Cert.MixIdeal Cert.MixIdeal.Gen Idealize.ShloMosaic Idealize.ShloMosaic.TcCoe Idealize.SL.Sem

/-- The gradient of the output projection's input, 256 tokens by the 256 columns of a group. -/
theorem dy_apply (dr : Vec Ideal S256x1024 .f32) (w : Vec Ideal S256x1024 .bf16) (r C : Fin 256) :
    k0_pay12 (F := Ideal) dr w (ix2 r C) = ∑ e : Fin 1024, dr (ix2 r e) * w (ix2 C e) := by
  unfold_payloads
  pointwise

/-- The comparison of two counters below 128, as the words the body compares. -/
theorem word_sge (t s : Fin 128) :
    IntOp.cmpi .sge (BitVec.ofNat 32 t.val) (BitVec.ofNat 32 s.val) = BitVec.ofBool (decide (s.val ≤ t.val)) := by
  have ht : (BitVec.ofNat 32 t.val).toNat = t.val := by simp; omega
  have hs : (BitVec.ofNat 32 s.val).toNat = s.val := by simp; omega
  rw [WordCmp.cmpi_sge_of_lt (by omega) (by omega), ht, hs]

theorem word_eq (g : Fin 8) (l : Fin 128) :
    IntOp.cmpi .eq (BitVec.ofNat 32 l.val) (BitVec.ofNat 32 g.val) = BitVec.ofBool (decide (l.val = g.val)) := by
  have ht : (BitVec.ofNat 32 l.val).toNat = l.val := by simp; omega
  have hs : (BitVec.ofNat 32 g.val).toNat = g.val := by simp; omega
  rw [WordCmp.cmpi_eq_eq_toNat, ht, hs]

theorem select_ofBool {α : Type} (p : Prop) [Decidable p] (a b : α) :
    Scalar.select (BitVec.ofBool (decide p)) a b = if p then a else b := by
  by_cases h : p <;> simp [Scalar.select, h]

/-- The lower triangle of a group's mixing matrix. -/
theorem low_apply (w : Vec Ideal S1x128x128 .f32) (t s : Fin 128) :
    k0_pay13 (F := Ideal) w (ix2 t s) = if s.val ≤ t.val then w (ix3 0 t s) else 0 := by
  unfold_payloads
  pointwise
  rw [word_sge, select_ofBool]

theorem vn_apply (v : Vec Ideal S128x256 .bf16) (lg lb : Vec Ideal S1x256 .f32) (t : Fin 128) (d : Fin 256) :
    k0_pay17 (F := Ideal) v lg lb (ix2 t d) = v (ix2 t d) * lg (ix2 0 d) + lb (ix2 0 d) := by
  unfold_payloads
  pointwise

theorem s_apply (L : FVec Ideal S128x128 .bf16) (v : Vec Ideal S128x256 .bf16) (lg lb : Vec Ideal S1x256 .f32)
    (b : Vec Ideal S128x1 .f32) (t : Fin 128) (d : Fin 256) :
    k0_pay18 (F := Ideal) L v lg lb b (ix2 t d)
      = (∑ s : Fin 128, L (ix2 t s) * (v (ix2 s d) * lg (ix2 0 d) + lb (ix2 0 d))) + b (ix2 t 0) := by
  unfold_payloads
  pointwise

theorem sz_apply (z : Vec Ideal S128x256 .bf16) (t : Fin 128) (d : Fin 256) :
    k0_pay21 (F := Ideal) z (ix2 t d) = z (ix2 t d) * Ideal.logistic (z (ix2 t d)) := by
  unfold_payloads
  pointwise

/-! The remaining values, from the chunk's rows `dy` of the projection's gradient. -/

variable (dy S : FVec Ideal S128x256 .f32) (u z : Vec Ideal S128x256 .bf16)

/-- The gated input's gradient times the other factor of the gate. -/
def tT : FVec Ideal S128x256 .f32 := mulf dy (extf .f32 (shapeCast S128x256 u shapeCasts_S128x256_S128x256) bitsLt_bf16_f32)

/-- The columns of `u` of the gradient. -/
def duT : FVec Ideal S128x256 .bf16 := truncf .bf16 (mulf dy (mulf S (k0_pay21 (F := Ideal) z))) bitsLt_bf16_f32

/-- The columns of `z` of the gradient. -/
def dzT : FVec Ideal S128x256 .bf16 :=
  truncf .bf16 (mulf (mulf (tT dy u) S) (mulf (k0_pay20 (F := Ideal) z)
    (addf (broadcast S128x256 (Scalar.ofBits .f32 0x3F800000#32))
      (mulf (k0_pay19 (F := Ideal) z) (subf (broadcast S128x256 (Scalar.ofBits .f32 0x3F800000#32)) (k0_pay20 (F := Ideal) z))))))
    bitsLt_bf16_f32

/-- The mixed values' gradient. -/
def dsT : FVec Ideal S128x256 .bf16 := truncf .bf16 (mulf (tT dy u) (k0_pay21 (F := Ideal) z)) bitsLt_bf16_f32

theorem du_apply (t : Fin 128) (d : Fin 256) :
    duT dy S z (ix2 t d) = dy (ix2 t d) * (S (ix2 t d) * (z (ix2 t d) * Ideal.logistic (z (ix2 t d)))) := by
  unfold duT
  unfold_payloads
  pointwise

theorem dz_apply (t : Fin 128) (d : Fin 256) :
    dzT dy S u z (ix2 t d) = dy (ix2 t d) * u (ix2 t d) * S (ix2 t d)
      * (Ideal.logistic (z (ix2 t d)) * (1 + z (ix2 t d) * (1 - Ideal.logistic (z (ix2 t d))))) := by
  unfold dzT tT
  unfold_payloads
  pointwise

theorem ds_apply (t : Fin 128) (d : Fin 256) :
    dsT dy u z (ix2 t d) = dy (ix2 t d) * u (ix2 t d) * (z (ix2 t d) * Ideal.logistic (z (ix2 t d))) := by
  unfold dsT tT
  unfold_payloads
  pointwise

theorem dvn_apply (L : FVec Ideal S128x128 .bf16) (ds : FVec Ideal S128x256 .bf16) (s : Fin 128) (d : Fin 256) :
    k0_pay28 (F := Ideal) L ds (ix2 s d) = ∑ t : Fin 128, L (ix2 t s) * ds (ix2 t d) := by
  unfold_payloads
  pointwise

/-- A group's product for the mixing matrix's and the bias's gradients, over the tile's two chunks. -/
def bothT (vn0 ds0 vn1 ds1 : FVec Ideal S128x256 .bf16) : FVec Ideal S128x256 .f32 :=
  addf (addf (broadcast S128x256 (Scalar.ofBits .f32 0x00000000#32))
      (matmul dot_S128x256_S256x256_S128x256_1_1_0_0_n_n none ds0
        (concatenate S256x256 0 [⟨S128x256, vn0⟩, ⟨S128x256, k0_pay10 (F := Ideal)⟩] concatenates_S128x256_S128x256_S256x256_d0)
        (constant S128x256 .f32 0x00000000#32)))
    (matmul dot_S128x256_S256x256_S128x256_1_1_0_0_n_n none ds1
      (concatenate S256x256 0 [⟨S128x256, vn1⟩, ⟨S128x256, k0_pay10 (F := Ideal)⟩] concatenates_S128x256_S128x256_S256x256_d0)
      (constant S128x256 .f32 0x00000000#32))

/-- The mixing matrix's gradient after one more tile. -/
def dwsT (b : FVec Ideal S128x256 .f32) (acc : Vec Ideal S1x128x128 .f32) : FVec Ideal S1x128x128 .f32 :=
  shapeCast S1x128x128 (addf (shapeCast S128x128 acc shapeCasts_S1x128x128_S128x128)
    (select (k0_pay9) (extractStridedSlice S128x128 ![0, 0] b slices_S128x256_o0_0_S128x128)
      (broadcast S128x128 (Scalar.ofBits .f32 0x00000000#32)))) shapeCasts_S128x128_S1x128x128

/-- Lane `g` of the bias's gradient. -/
def selT (g : BitVec 32) (b : FVec Ideal S128x256 .f32) (acc : FVec Ideal S128x128 .f32) : FVec Ideal S128x128 .f32 :=
  select (cmpi .eq (iota .tc S128x128 32 [1] iota_S128x128_d1_w32) (broadcast S128x128 g))
    (extractStridedSlice S128x128 ![0, 128] b slices_S128x256_o0_128_S128x128) acc

theorem dws_apply (vn0 ds0 vn1 ds1 : FVec Ideal S128x256 .bf16) (acc : Vec Ideal S1x128x128 .f32) (t s : Fin 128) :
    dwsT (bothT vn0 ds0 vn1 ds1) acc (ix3 0 t s) = acc (ix3 0 t s)
      + if s.val ≤ t.val then (∑ d : Fin 256, ds0 (ix2 t d) * vn0 (ix2 s d)) + ∑ d : Fin 256, ds1 (ix2 t d) * vn1 (ix2 s d)
        else 0 := by
  unfold dwsT bothT
  unfold_payloads
  pointwise
  rw [word_sge, select_ofBool]

theorem sel_apply (g : Fin 8) (vn0 ds0 vn1 ds1 : FVec Ideal S128x256 .bf16) (acc : FVec Ideal S128x128 .f32)
    (t l : Fin 128) :
    selT (BitVec.ofNat 32 g.val) (bothT vn0 ds0 vn1 ds1) acc (ix2 t l)
      = if l.val = g.val then (∑ d : Fin 256, ds0 (ix2 t d)) + ∑ d : Fin 256, ds1 (ix2 t d) else acc (ix2 t l) := by
  unfold selT bothT
  unfold_payloads
  pointwise
  rw [word_eq, select_ofBool]

/-- The output projection's gradient after one more tile, 256 rows of it. -/
theorem gw_apply (dr : Vec Ideal S256x1024 .f32) (acc : Vec Ideal S256x1024 .f32) (y : Vec Ideal S256x256 .bf16)
    (C : Fin 256) (e : Fin 1024) :
    k0_pay15 (F := Ideal) dr acc y (ix2 C e) = acc (ix2 C e) + ∑ r : Fin 256, y (ix2 r C) * dr (ix2 r e) := by
  unfold_payloads
  pointwise

theorem dg_apply (dvn : Vec Ideal S256x2048 .f32) (vh : Vec Ideal S256x2048 .bf16) (acc : Vec Ideal S1x2048 .f32)
    (C : Fin 2048) :
    k0_pay265 (F := Ideal) dvn vh acc (ix2 0 C) = acc (ix2 0 C) + ∑ r : Fin 256, dvn (ix2 r C) * vh (ix2 r C) := by
  unfold_payloads
  pointwise

theorem db_apply (dvn : Vec Ideal S256x2048 .f32) (acc : Vec Ideal S1x2048 .f32) (C : Fin 2048) :
    k0_pay268 (F := Ideal) (k0_pay266 (F := Ideal) acc) (k0_pay267 (F := Ideal) dvn) (ix2 0 C)
      = acc (ix2 0 C) + ∑ r : Fin 256, dvn (ix2 r C) := by
  unfold_payloads
  pointwise

/-- The gradient before the normalisation. -/
theorem dv_apply (dvn : Vec Ideal S256x2048 .f32) (vh : Vec Ideal S256x2048 .bf16) (lg : Vec Ideal S1x2048 .f32)
    (rv : Vec Ideal S256x1 .f32) (r : Fin 256) (C : Fin 2048) :
    k0_pay1 (F := Ideal) (k0_pay269 (F := Ideal) rv) (k0_pay270 (F := Ideal) dvn (k0_pay264 (F := Ideal) vh) lg) (ix2 r C)
      = rv (ix2 r 0) * (dvn (ix2 r C) * lg (ix2 0 C)
          - Ideal.div (∑ i : Fin 2048, dvn (ix2 r i) * lg (ix2 0 i)) (Ideal.ofBits .f32 0x45000000#32)
          - vh (ix2 r C) * Ideal.div (∑ i : Fin 2048, dvn (ix2 r i) * lg (ix2 0 i) * vh (ix2 r i)) (Ideal.ofBits .f32 0x45000000#32)) := by
  unfold_payloads
  pointwise

end Cert.MixTile
-- ==== Proof.MixBlock.lean ====
/-
  What one grid point of the mixer's gradient writes into its blocks: the stores of one tile, chunk by chunk and group
  by group, put together to the whole block.
-/
module

public import proofs.«01_k».proof.Proof.MixTile
public import proofs.«01_k».proof.Proof.Gen.MixIdeal.Frame
public import Idealize.ShloMosaic.Lib.Pipeline.ValueKit
public import Idealize.ShloMosaic.Lib.Pipeline.ReadBack
public import Idealize.ShloMosaic.Lib.Pipeline.CanonAppend

@[expose] public section

set_option maxRecDepth 16384

noncomputable section

namespace Cert.MixTile

open Cert.MixIdeal Cert.MixIdeal.Gen Idealize.ShloMosaic Idealize.ShloMosaic.TcCoe Idealize.SL.Sem

/-! ## Rows by chunk, columns by group -/

/-- Row `t` of chunk `k` of a tile. -/
def row (k : Fin 2) (t : Fin 128) : Fin 256 := ⟨128 * k.val + t.val, by omega⟩
/-- Column `d` of group `g`. -/
def col (g : Fin 8) (d : Fin 256) : Fin 2048 := ⟨256 * g.val + d.val, by omega⟩
/-- The chunk of a row, its place in it, the group of a column and its place in it. -/
def chunkOf (r : Fin 256) : Fin 2 := ⟨r.val / 128, by omega⟩
def tokenOf (r : Fin 256) : Fin 128 := ⟨r.val % 128, by omega⟩
def groupOf (C : Fin 2048) : Fin 8 := ⟨C.val / 256, by omega⟩
def laneOf (C : Fin 2048) : Fin 256 := ⟨C.val % 256, by omega⟩

@[simp] theorem chunkOf_row (k : Fin 2) (t : Fin 128) : chunkOf (row k t) = k := by
  apply Fin.ext; simp only [chunkOf, row]; omega
@[simp] theorem tokenOf_row (k : Fin 2) (t : Fin 128) : tokenOf (row k t) = t := by
  apply Fin.ext; simp only [tokenOf, row]; omega
@[simp] theorem groupOf_col (g : Fin 8) (d : Fin 256) : groupOf (col g d) = g := by
  apply Fin.ext; simp only [groupOf, col]; omega
@[simp] theorem laneOf_col (g : Fin 8) (d : Fin 256) : laneOf (col g d) = d := by
  apply Fin.ext; simp only [laneOf, col]; omega
theorem row_of (r : Fin 256) : row (chunkOf r) (tokenOf r) = r := by
  apply Fin.ext; simp only [chunkOf, tokenOf, row]; omega
theorem col_of (C : Fin 2048) : col (groupOf C) (laneOf C) = C := by
  apply Fin.ext; simp only [groupOf, laneOf, col]; omega

/-! ## The tile's values, from its blocks -/

variable (dr : Vec Ideal S256x1024 .f32) (u vh z y : Vec Ideal S256x2048 .bf16) (rv : Vec Ideal S256x1 .f32)
  (wo : Vec Ideal S2048x1024 .bf16) (lg lb : Vec Ideal S1x2048 .f32) (ws : Vec Ideal S8x128x128 .f32)
  (bs : Vec Ideal S128x8 .f32)

def DY (r : Fin 256) (C : Fin 2048) : EReal := ∑ e : Fin 1024, dr (ix2 r e) * wo (ix2 C e)
def LOW (g : Fin 8) (t s : Fin 128) : EReal := if s.val ≤ t.val then ws (ix3 g t s) else 0
def VN (r : Fin 256) (C : Fin 2048) : EReal := vh (ix2 r C) * lg (ix2 0 C) + lb (ix2 0 C)
def S (k : Fin 2) (t : Fin 128) (g : Fin 8) (d : Fin 256) : EReal :=
  (∑ s : Fin 128, LOW ws g t s * VN vh lg lb (row k s) (col g d)) + bs (ix2 t g)
def SZ (r : Fin 256) (C : Fin 2048) : EReal := z (ix2 r C) * Ideal.logistic (z (ix2 r C))
def DU (k : Fin 2) (t : Fin 128) (g : Fin 8) (d : Fin 256) : EReal :=
  DY dr wo (row k t) (col g d) * (S vh lg lb ws bs k t g d * SZ z (row k t) (col g d))
def DZ (k : Fin 2) (t : Fin 128) (g : Fin 8) (d : Fin 256) : EReal :=
  DY dr wo (row k t) (col g d) * u (ix2 (row k t) (col g d)) * S vh lg lb ws bs k t g d
    * (Ideal.logistic (z (ix2 (row k t) (col g d)))
      * (1 + z (ix2 (row k t) (col g d)) * (1 - Ideal.logistic (z (ix2 (row k t) (col g d))))))
def DS (r : Fin 256) (C : Fin 2048) : EReal := DY dr wo r C * u (ix2 r C) * SZ z r C
def DVN (k : Fin 2) (s : Fin 128) (g : Fin 8) (d : Fin 256) : EReal :=
  ∑ t : Fin 128, LOW ws g t s * DS dr u z wo (row k t) (col g d)
/-- The same by row and column. -/
def DVNB (r : Fin 256) (C : Fin 2048) : EReal := DVN dr u z wo ws (chunkOf r) (tokenOf r) (groupOf C) (laneOf C)
def DV (r : Fin 256) (C : Fin 2048) : EReal :=
  rv (ix2 r 0) * (DVNB dr u z wo ws r C * lg (ix2 0 C)
    - Ideal.div (∑ i : Fin 2048, DVNB dr u z wo ws r i * lg (ix2 0 i)) (Ideal.ofBits .f32 0x45000000#32)
    - vh (ix2 r C) * Ideal.div (∑ i : Fin 2048, DVNB dr u z wo ws r i * lg (ix2 0 i) * vh (ix2 r i)) (Ideal.ofBits .f32 0x45000000#32))

/-! ## The loads of a chunk and a group -/

theorem inbX (k : Fin 2) (g : Fin 8) (a : Fin 2) :
    (![128 * k.val, 256 * g.val] : Fin 2 → Nat) a + (![128, 256] : Fin 2 → Nat) a ≤ (![256, 2048] : Fin 2 → Nat) a := by
  fin_cases a
  · show 128 * k.val + 128 ≤ 256; omega
  · show 256 * g.val + 256 ≤ 2048; omega
theorem inbL (g : Fin 8) (a : Fin 2) :
    (![0, 256 * g.val] : Fin 2 → Nat) a + (![1, 256] : Fin 2 → Nat) a ≤ (![1, 2048] : Fin 2 → Nat) a := by
  fin_cases a
  · show 0 + 1 ≤ 1; omega
  · show 256 * g.val + 256 ≤ 2048; omega
theorem inbW (g : Fin 8) (a : Fin 2) :
    (![256 * g.val, 0] : Fin 2 → Nat) a + (![256, 1024] : Fin 2 → Nat) a ≤ (![2048, 1024] : Fin 2 → Nat) a := by
  fin_cases a
  · show 256 * g.val + 256 ≤ 2048; omega
  · show 0 + 1024 ≤ 1024; omega
theorem inbY (g : Fin 8) (a : Fin 2) :
    (![0, 256 * g.val] : Fin 2 → Nat) a + (![256, 256] : Fin 2 → Nat) a ≤ (![256, 2048] : Fin 2 → Nat) a := by
  fin_cases a
  · show 0 + 256 ≤ 256; omega
  · show 256 * g.val + 256 ≤ 2048; omega
theorem inbG (g : Fin 8) (a : Fin 3) :
    (![g.val, 0, 0] : Fin 3 → Nat) a + (![1, 128, 128] : Fin 3 → Nat) a ≤ (![8, 128, 128] : Fin 3 → Nat) a := by
  fin_cases a
  · show g.val + 1 ≤ 8; omega
  · show 0 + 128 ≤ 128; omega
  · show 0 + 128 ≤ 128; omega
theorem inbB (g : Fin 8) (a : Fin 2) :
    (![0, g.val] : Fin 2 → Nat) a + (![128, 1] : Fin 2 → Nat) a ≤ (![128, 8] : Fin 2 → Nat) a := by
  fin_cases a
  · show 0 + 128 ≤ 128; omega
  · show g.val + 1 ≤ 8; omega

def ldX (X : Vec Ideal S256x2048 .bf16) (k : Fin 2) (g : Fin 8) : Vec Ideal S128x256 .bf16 :=
  View.ld X (Rect.unit (s := S256x2048) ![128 * k.val, 256 * g.val] ![128, 256] (inbX k g))
def ldL (X : Vec Ideal S1x2048 .f32) (g : Fin 8) : Vec Ideal S1x256 .f32 :=
  View.ld X (Rect.unit (s := S1x2048) ![0, 256 * g.val] ![1, 256] (inbL g))
def ldW (X : Vec Ideal S2048x1024 .bf16) (g : Fin 8) : Vec Ideal S256x1024 .bf16 :=
  View.ld X (Rect.unit (s := S2048x1024) ![256 * g.val, 0] ![256, 1024] (inbW g))
def ldA (X : Vec Ideal S2048x1024 .f32) (g : Fin 8) : Vec Ideal S256x1024 .f32 :=
  View.ld X (Rect.unit (s := S2048x1024) ![256 * g.val, 0] ![256, 1024] (inbW g))
def ldY (X : Vec Ideal S256x2048 .bf16) (g : Fin 8) : Vec Ideal S256x256 .bf16 :=
  View.ld X (Rect.unit (s := S256x2048) ![0, 256 * g.val] ![256, 256] (inbY g))
def ldG (X : Vec Ideal S8x128x128 .f32) (g : Fin 8) : Vec Ideal S1x128x128 .f32 :=
  View.ld X (Rect.unit (s := S8x128x128) ![g.val, 0, 0] ![1, 128, 128] (inbG g))
def ldB (X : Vec Ideal S128x8 .f32) (g : Fin 8) : Vec Ideal S128x1 .f32 :=
  View.ld X (Rect.unit (s := S128x8) ![0, g.val] ![128, 1] (inbB g))

theorem ldX_apply (X : Vec Ideal S256x2048 .bf16) (k : Fin 2) (g : Fin 8) (t : Fin 128) (d : Fin 256) :
    ldX X k g (ix2 t d) = X (ix2 (row k t) (col g d)) :=
  View.ld_unit_apply_of X _ _ _ _ _ fun a => by fin_cases a <;> rfl
theorem ldL_apply (X : Vec Ideal S1x2048 .f32) (g : Fin 8) (d : Fin 256) : ldL X g (ix2 0 d) = X (ix2 0 (col g d)) :=
  View.ld_unit_apply_of X _ _ _ _ _ fun a => by fin_cases a <;> rfl
theorem ldW_apply (X : Vec Ideal S2048x1024 .bf16) (g : Fin 8) (d : Fin 256) (e : Fin 1024) :
    ldW X g (ix2 d e) = X (ix2 (col g d) e) :=
  View.ld_unit_apply_of X _ _ _ _ _ fun a => by fin_cases a; rfl; exact (Nat.zero_add _).symm
theorem ldA_apply (X : Vec Ideal S2048x1024 .f32) (g : Fin 8) (d : Fin 256) (e : Fin 1024) :
    ldA X g (ix2 d e) = X (ix2 (col g d) e) :=
  View.ld_unit_apply_of X _ _ _ _ _ fun a => by fin_cases a; rfl; exact (Nat.zero_add _).symm
theorem ldY_apply (X : Vec Ideal S256x2048 .bf16) (g : Fin 8) (r : Fin 256) (d : Fin 256) :
    ldY X g (ix2 r d) = X (ix2 r (col g d)) :=
  View.ld_unit_apply_of X _ _ _ _ _ fun a => by fin_cases a; exact (Nat.zero_add _).symm; rfl
theorem ldG_apply (X : Vec Ideal S8x128x128 .f32) (g : Fin 8) (t s : Fin 128) :
    ldG X g (ix3 0 t s) = X (ix3 g t s) :=
  View.ld_unit_apply_of X _ _ _ _ _ fun a => by
    fin_cases a; rfl; exact (Nat.zero_add _).symm; exact (Nat.zero_add _).symm
theorem ldB_apply (X : Vec Ideal S128x8 .f32) (g : Fin 8) (t : Fin 128) : ldB X g (ix2 t 0) = X (ix2 t g) :=
  View.ld_unit_apply_of X _ _ _ _ _ fun a => by fin_cases a; exact (Nat.zero_add _).symm; rfl

/-! ## The chunk's vectors -/

theorem slicesK (k : Fin 2) : S256x256.Slices ![128 * k.val, 0] S128x256 := by
  fin_cases k
  · exact slices_S256x256_o0_0_S128x256
  · exact slices_S256x256_o128_0_S128x256

/-- The rows of chunk `k` of the projection's gradient, group `g`. -/
def dyK (k : Fin 2) (g : Fin 8) : FVec Ideal S128x256 .f32 :=
  extractStridedSlice S128x256 ![128 * k.val, 0] (k0_pay12 (F := Ideal) dr (ldW wo g)) (slicesK k)
def lowK (g : Fin 8) : FVec Ideal S128x128 .bf16 := k0_pay13 (F := Ideal) (ldG ws g)
def sK (k : Fin 2) (g : Fin 8) : FVec Ideal S128x256 .f32 :=
  k0_pay18 (F := Ideal) (lowK ws g) (ldX vh k g) (ldL lg g) (ldL lb g) (ldB bs g)
def vnK (k : Fin 2) (g : Fin 8) : FVec Ideal S128x256 .bf16 := k0_pay17 (F := Ideal) (ldX vh k g) (ldL lg g) (ldL lb g)
def dsK (k : Fin 2) (g : Fin 8) : FVec Ideal S128x256 .bf16 := dsT (dyK dr wo k g) (ldX u k g) (ldX z k g)
def bothK (g : Fin 8) : FVec Ideal S128x256 .f32 :=
  bothT (vnK vh lg lb 0 g) (dsK dr u z wo 0 g) (vnK vh lg lb 1 g) (dsK dr u z wo 1 g)

theorem dyK_apply (k : Fin 2) (g : Fin 8) (t : Fin 128) (d : Fin 256) :
    dyK dr wo k g (ix2 t d) = DY dr wo (row k t) (col g d) := by
  have h : dyK dr wo k g (ix2 t d) = k0_pay12 (F := Ideal) dr (ldW wo g) (ix2 (row k t) d) := by
    unfold dyK
    fin_cases k
    · pointwise
      exact congrArg (fun r => k0_pay12 (F := Ideal) dr (ldW wo g) (ix2 r d)) (Fin.ext (by simp [row]))
    · pointwise
      rfl
  rw [h, dy_apply, DY]
  simp only [ldW_apply]

theorem lowK_apply (g : Fin 8) (t s : Fin 128) : lowK ws g (ix2 t s) = LOW ws g t s := by
  rw [lowK, low_apply, LOW, ldG_apply]

theorem vnK_apply (k : Fin 2) (g : Fin 8) (t : Fin 128) (d : Fin 256) :
    vnK vh lg lb k g (ix2 t d) = VN vh lg lb (row k t) (col g d) := by
  rw [vnK, vn_apply, VN, ldX_apply, ldL_apply, ldL_apply]

theorem sK_apply (k : Fin 2) (g : Fin 8) (t : Fin 128) (d : Fin 256) :
    sK vh lg lb ws bs k g (ix2 t d) = S vh lg lb ws bs k t g d := by
  rw [sK, s_apply, S]
  simp only [ldX_apply, ldL_apply, ldB_apply, lowK_apply, VN]

theorem dsK_apply (k : Fin 2) (g : Fin 8) (t : Fin 128) (d : Fin 256) :
    dsK dr u z wo k g (ix2 t d) = DS dr u z wo (row k t) (col g d) := by
  rw [dsK, ds_apply, DS, SZ]
  simp only [ldX_apply, dyK_apply]

/-! ## The stores -/

/-- A store through a unit rectangle agrees with the array `G` when it does at every one of its own coordinates. -/
theorem agree2 {e : EltTy} {A B a b : Nat} (off : Fin 2 → Nat) (inb : ∀ i, off i + (![a, b] : Fin 2 → Nat) i ≤ (![A, B] : Fin 2 → Nat) i)
    (w : (⟨2, ![a, b]⟩ : Shape).Idx → Elt Ideal e) (G : (⟨2, ![A, B]⟩ : Shape).Idx → Elt Ideal e)
    (h : ∀ (t : Fin a) (d : Fin b) (r : Fin A) (C : Fin B), r.val = off 0 + t.val → C.val = off 1 + d.val →
      w (ix2 t d) = G (ix2 r C)) :
    ∀ x : (Rect.unit (s := ⟨2, ![A, B]⟩) off ![a, b] inb).shape.Idx,
      w x = G ((Rect.unit (s := ⟨2, ![A, B]⟩) off ![a, b] inb).emb x) := by
  intro x
  rw [eq_ix2 (n0 := A) (n1 := B) ((Rect.unit (s := ⟨2, ![A, B]⟩) off ![a, b] inb).emb x), eq_ix2 (n0 := a) (n1 := b) x]
  refine h _ _ _ _ ?_ ?_
  · rw [Rect.emb_apply]; show off 0 + 1 * _ = _; rw [Nat.one_mul]; rfl
  · rw [Rect.emb_apply]; show off 1 + 1 * _ = _; rw [Nat.one_mul]; rfl

theorem agree3 {e : EltTy} {A B C a b c : Nat} (off : Fin 3 → Nat)
    (inb : ∀ i, off i + (![a, b, c] : Fin 3 → Nat) i ≤ (![A, B, C] : Fin 3 → Nat) i)
    (w : (⟨3, ![a, b, c]⟩ : Shape).Idx → Elt Ideal e) (G : (⟨3, ![A, B, C]⟩ : Shape).Idx → Elt Ideal e)
    (h : ∀ (x0 : Fin a) (x1 : Fin b) (x2 : Fin c) (y0 : Fin A) (y1 : Fin B) (y2 : Fin C), y0.val = off 0 + x0.val →
      y1.val = off 1 + x1.val → y2.val = off 2 + x2.val → w (ix3 x0 x1 x2) = G (ix3 y0 y1 y2)) :
    ∀ x : (Rect.unit (s := ⟨3, ![A, B, C]⟩) off ![a, b, c] inb).shape.Idx,
      w x = G ((Rect.unit (s := ⟨3, ![A, B, C]⟩) off ![a, b, c] inb).emb x) := by
  intro x
  rw [eq_ix3 (n0 := A) (n1 := B) (n2 := C) ((Rect.unit (s := ⟨3, ![A, B, C]⟩) off ![a, b, c] inb).emb x),
    eq_ix3 (n0 := a) (n1 := b) (n2 := c) x]
  refine h _ _ _ _ _ _ ?_ ?_ ?_
  · rw [Rect.emb_apply]; show off 0 + 1 * _ = _; rw [Nat.one_mul]; rfl
  · rw [Rect.emb_apply]; show off 1 + 1 * _ = _; rw [Nat.one_mul]; rfl
  · rw [Rect.emb_apply]; show off 2 + 1 * _ = _; rw [Nat.one_mul]; rfl

/-- The places a store reaches. -/
theorem mem2 {A B a b : Nat} (off : Fin 2 → Nat) (inb : ∀ i, off i + (![a, b] : Fin 2 → Nat) i ≤ (![A, B] : Fin 2 → Nat) i)
    (r : Fin A) (C : Fin B) (h0 : off 0 ≤ r.val ∧ r.val < off 0 + a) (h1 : off 1 ≤ C.val ∧ C.val < off 1 + b) :
    (ix2 r C : (⟨2, ![A, B]⟩ : Shape).Idx) ∈ (Rect.unit (s := ⟨2, ![A, B]⟩) off ![a, b] inb).set :=
  Rect.mem_set_unit.2 fun i => by fin_cases i; exact h0; exact h1
theorem mem3 {A B C a b c : Nat} (off : Fin 3 → Nat)
    (inb : ∀ i, off i + (![a, b, c] : Fin 3 → Nat) i ≤ (![A, B, C] : Fin 3 → Nat) i) (x : Fin A) (y : Fin B) (w : Fin C)
    (h0 : off 0 ≤ x.val ∧ x.val < off 0 + a) (h1 : off 1 ≤ y.val ∧ y.val < off 1 + b) (h2 : off 2 ≤ w.val ∧ w.val < off 2 + c) :
    (ix3 x y w : (⟨3, ![A, B, C]⟩ : Shape).Idx) ∈ (Rect.unit (s := ⟨3, ![A, B, C]⟩) off ![a, b, c] inb).set :=
  Rect.mem_set_unit.2 fun i => by fin_cases i; exact h0; exact h1; exact h2

/-- Stores that agree with one array and reach an index leave that array's element there, whatever was stored before. -/
theorem canon_agree {e : EltTy} {T : Shape} (L : List (View.Piece (Elt Ideal) T e)) (G : T.Idx → Elt Ideal e)
    (L' : List (View.Piece (Elt Ideal) T e)) (hL : ∀ p ∈ L, ∀ x : p.1.shape.Idx, p.2 x = G (p.1.emb x)) (i : T.Idx)
    (hi : ∃ p ∈ L, i ∈ p.1.set) : View.canon (L ++ L') i = G i :=
  View.canon_append_of_pieces G L' L hL i hi
theorem canon_agree' {e : EltTy} {T : Shape} (L : List (View.Piece (Elt Ideal) T e)) (G : T.Idx → Elt Ideal e)
    (hL : ∀ p ∈ L, ∀ x : p.1.shape.Idx, p.2 x = G (p.1.emb x)) (i : T.Idx) (hi : ∃ p ∈ L, i ∈ p.1.set) :
    View.canon L i = G i := by
  have := canon_agree L G [] hL i hi
  rwa [List.append_nil] at this

/-- Groups from the last to the first, in each the second chunk before the first: the order of the stores, latest
    first. -/
def order : List (Fin 8 × Fin 2) :=
  [(7, 1), (7, 0), (6, 1), (6, 0), (5, 1), (5, 0), (4, 1), (4, 0), (3, 1), (3, 0), (2, 1), (2, 0), (1, 1), (1, 0), (0, 1), (0, 0)]
theorem mem_order (p : Fin 8 × Fin 2) : p ∈ order := by revert p; decide
/-- The groups from the last to the first. -/
def groups : List (Fin 8) := [7, 6, 5, 4, 3, 2, 1, 0]
theorem mem_groups (g : Fin 8) : g ∈ groups := by revert g; decide

/-- A store of the gradient of the normalised values. -/
def dvnP (p : Fin 8 × Fin 2) : View.Piece (Elt Ideal) S256x2048 .f32 :=
  ⟨Rect.unit (s := S256x2048) ![128 * p.2.val, 256 * p.1.val] ![128, 256] (inbX p.2 p.1),
    k0_pay28 (F := Ideal) (lowK ws p.1) (dsK dr u z wo p.2 p.1)⟩

/-- The gradient of the normalised values, stored piece by piece and read back whole. -/
def dvnV : Vec Ideal S256x2048 .f32 :=
  (View.whole cc0_scratch0).readCov (order.map (dvnP dr u z wo ws))
    (Rect.unit (s := S256x2048) ![0, 0] ![256, 2048] inb_S256x2048_S256x2048_0_0).toLoadRect

theorem dvnV_apply (r : Fin 256) (C : Fin 2048) : dvnV dr u z wo ws (ix2 r C) = DVNB dr u z wo ws r C := by
  unfold dvnV
  rw [View.readCov_eq_canon']
  have e : (Rect.unit (s := S256x2048) ![0, 0] ![256, 2048] inb_S256x2048_S256x2048_0_0).toLoadRect.idx (ix2 r C) = ix2 r C := by
    funext a; fin_cases a <;> exact Fin.ext (by simp [Rect.toLoadRect, LoadRect.idx])
  show View.canon _ ((Rect.unit (s := S256x2048) ![0, 0] ![256, 2048] inb_S256x2048_S256x2048_0_0).toLoadRect.idx (ix2 r C)) = _
  rw [e]
  refine canon_agree' (e := .f32) (T := S256x2048) _ (fun i => DVNB dr u z wo ws (i 0) (i 1)) ?_ _ ?_
  · intro p hp
    obtain ⟨⟨g, k⟩, -, rfl⟩ := List.mem_map.1 hp
    refine agree2 (e := .f32) (A := 256) (B := 2048) (a := 128) (b := 256) ![128 * k.val, 256 * g.val] (inbX k g)
      (k0_pay28 (F := Ideal) (lowK ws g) (dsK dr u z wo k g)) (fun i => DVNB dr u z wo ws (i 0) (i 1)) fun t d r C hr hC => ?_
    obtain rfl : r = row k t := Fin.ext hr
    obtain rfl : C = col g d := Fin.ext hC
    show _ = DVNB dr u z wo ws (row k t) (col g d)
    rw [dvn_apply, DVNB, chunkOf_row, tokenOf_row, groupOf_col, laneOf_col, DVN]
    simp only [lowK_apply, dsK_apply]
  · refine ⟨_, List.mem_map_of_mem (mem_order (groupOf C, chunkOf r)), ?_⟩
    refine mem2 (A := 256) (B := 2048) (a := 128) (b := 256) ![128 * (r.val / 128), 256 * (C.val / 256)] (inbX (chunkOf r) (groupOf C)) r C ?_ ?_
    · show 128 * (r.val / 128) ≤ r.val ∧ r.val < 128 * (r.val / 128) + 128; omega
    · show 256 * (C.val / 256) ≤ C.val ∧ C.val < 256 * (C.val / 256) + 256; omega

/-! The gradient of the projection's three column ranges. -/

/-- The gradient block: columns of `u`, of `v` and of `z`. -/
def DP (r : Fin 256) (Q : Fin 6144) : EReal :=
  if h : Q.val < 2048 then DU dr vh z wo lg lb ws bs (chunkOf r) (tokenOf r) (groupOf ⟨Q.val, h⟩) (laneOf ⟨Q.val, h⟩)
  else if h' : Q.val < 4096 then DV dr u vh z rv wo lg ws r ⟨Q.val - 2048, by omega⟩
  else DZ dr u vh z wo lg lb ws bs (chunkOf r) (tokenOf r) (groupOf ⟨Q.val - 4096, by omega⟩) (laneOf ⟨Q.val - 4096, by omega⟩)

theorem inbU (k : Fin 2) (g : Fin 8) (a : Fin 2) :
    (![128 * k.val, 256 * g.val] : Fin 2 → Nat) a + (![128, 256] : Fin 2 → Nat) a ≤ (![256, 6144] : Fin 2 → Nat) a := by
  fin_cases a
  · show 128 * k.val + 128 ≤ 256; omega
  · show 256 * g.val + 256 ≤ 6144; omega
theorem inbZ (k : Fin 2) (g : Fin 8) (a : Fin 2) :
    (![128 * k.val, 4096 + 256 * g.val] : Fin 2 → Nat) a + (![128, 256] : Fin 2 → Nat) a ≤ (![256, 6144] : Fin 2 → Nat) a := by
  fin_cases a
  · show 128 * k.val + 128 ≤ 256; omega
  · show 4096 + 256 * g.val + 256 ≤ 6144; omega

def duP (p : Fin 8 × Fin 2) : View.Piece (Elt Ideal) S256x6144 .bf16 :=
  ⟨Rect.unit (s := S256x6144) ![128 * p.2.val, 256 * p.1.val] ![128, 256] (inbU p.2 p.1),
    duT (dyK dr wo p.2 p.1) (sK vh lg lb ws bs p.2 p.1) (ldX z p.2 p.1)⟩
def dzP (p : Fin 8 × Fin 2) : View.Piece (Elt Ideal) S256x6144 .bf16 :=
  ⟨Rect.unit (s := S256x6144) ![128 * p.2.val, 4096 + 256 * p.1.val] ![128, 256] (inbZ p.2 p.1),
    dzT (dyK dr wo p.2 p.1) (sK vh lg lb ws bs p.2 p.1) (ldX u p.2 p.1) (ldX z p.2 p.1)⟩
def dvP : View.Piece (Elt Ideal) S256x6144 .bf16 :=
  ⟨Rect.unit (s := S256x6144) ![0, 2048] ![256, 2048] inb_S256x6144_S256x2048_0_2048,
    k0_pay1 (F := Ideal) (k0_pay269 (F := Ideal) rv) (k0_pay270 (F := Ideal) (dvnV dr u z wo ws) (k0_pay264 (F := Ideal) vh) lg)⟩
/-- All stores of the gradient block, latest first. -/
def dpL : List (View.Piece (Elt Ideal) S256x6144 .bf16) :=
  dvP dr u vh z rv wo lg ws :: order.flatMap fun p => [dzP dr u vh z wo lg lb ws bs p, duP dr vh z wo lg lb ws bs p]

theorem dp_apply (r : Fin 256) (Q : Fin 6144) :
    View.canon (dpL dr u vh z rv wo lg lb ws bs) (ix2 r Q) = DP dr u vh z rv wo lg lb ws bs r Q := by
  refine canon_agree' (e := .bf16) (T := S256x6144) _ (fun i => DP dr u vh z rv wo lg lb ws bs (i 0) (i 1)) ?_ _ ?_
  · intro p hp
    rcases List.mem_cons.1 hp with rfl | hp
    · refine agree2 (e := .bf16) (A := 256) (B := 6144) (a := 256) (b := 2048) ![0, 2048] inb_S256x6144_S256x2048_0_2048
        (k0_pay1 (F := Ideal) (k0_pay269 (F := Ideal) rv) (k0_pay270 (F := Ideal) (dvnV dr u z wo ws) (k0_pay264 (F := Ideal) vh) lg))
        (fun i => DP dr u vh z rv wo lg lb ws bs (i 0) (i 1)) fun t d r C hr hC => ?_
      obtain rfl : r = t := Fin.ext (by simpa using hr)
      have hC : C.val = 2048 + d.val := hC
      have e : (⟨C.val - 2048, by omega⟩ : Fin 2048) = d := Fin.ext (by show C.val - 2048 = d.val; omega)
      show _ = DP dr u vh z rv wo lg lb ws bs r C
      rw [dv_apply, DP, dif_neg (by omega), dif_pos (by omega), DV, e]
      simp only [dvnV_apply]
    · obtain ⟨⟨g, k⟩, -, hp⟩ := List.mem_flatMap.1 hp
      rcases List.mem_cons.1 hp with rfl | hp
      · refine agree2 (e := .bf16) (A := 256) (B := 6144) (a := 128) (b := 256) ![128 * k.val, 4096 + 256 * g.val] (inbZ k g)
          (dzT (dyK dr wo k g) (sK vh lg lb ws bs k g) (ldX u k g) (ldX z k g))
          (fun i => DP dr u vh z rv wo lg lb ws bs (i 0) (i 1)) fun t d r C hr hC => ?_
        obtain rfl : r = row k t := Fin.ext hr
        have hC : C.val = 4096 + 256 * g.val + d.val := hC
        have e : (⟨C.val - 4096, by omega⟩ : Fin 2048) = col g d := Fin.ext (by show C.val - 4096 = 256 * g.val + d.val; omega)
        show _ = DP dr u vh z rv wo lg lb ws bs (row k t) C
        rw [dz_apply, DP, dif_neg (by omega), dif_neg (by omega), e, chunkOf_row, tokenOf_row, groupOf_col, laneOf_col, DZ]
        simp only [dyK_apply, sK_apply, ldX_apply]
      · obtain rfl := List.mem_singleton.1 hp
        refine agree2 (e := .bf16) (A := 256) (B := 6144) (a := 128) (b := 256) ![128 * k.val, 256 * g.val] (inbU k g)
          (duT (dyK dr wo k g) (sK vh lg lb ws bs k g) (ldX z k g))
          (fun i => DP dr u vh z rv wo lg lb ws bs (i 0) (i 1)) fun t d r C hr hC => ?_
        obtain rfl : r = row k t := Fin.ext hr
        have hC : C.val = 256 * g.val + d.val := hC
        have hl : C.val < 2048 := by omega
        have e : (⟨C.val, hl⟩ : Fin 2048) = col g d := Fin.ext hC
        show _ = DP dr u vh z rv wo lg lb ws bs (row k t) C
        rw [du_apply, DP, dif_pos hl, e, chunkOf_row, tokenOf_row, groupOf_col, laneOf_col, DU, SZ]
        simp only [dyK_apply, sK_apply, ldX_apply]
  · by_cases h : Q.val < 2048
    · refine ⟨_, List.mem_cons_of_mem _ (List.mem_flatMap.2 ⟨(groupOf ⟨Q.val, h⟩, chunkOf r), mem_order _,
        List.mem_cons_of_mem _ (List.mem_singleton.2 rfl)⟩), ?_⟩
      refine mem2 (A := 256) (B := 6144) (a := 128) (b := 256) ![128 * (r.val / 128), 256 * (Q.val / 256)]
        (inbU (chunkOf r) (groupOf ⟨Q.val, h⟩)) r Q ?_ ?_
      · show 128 * (r.val / 128) ≤ r.val ∧ r.val < 128 * (r.val / 128) + 128; omega
      · show 256 * (Q.val / 256) ≤ Q.val ∧ Q.val < 256 * (Q.val / 256) + 256; omega
    by_cases h' : Q.val < 4096
    · refine ⟨_, List.mem_cons_self, ?_⟩
      refine mem2 (A := 256) (B := 6144) (a := 256) (b := 2048) ![0, 2048] inb_S256x6144_S256x2048_0_2048 r Q ?_ ?_
      · show 0 ≤ r.val ∧ r.val < 0 + 256; omega
      · show 2048 ≤ Q.val ∧ Q.val < 2048 + 2048; omega
    · refine ⟨_, List.mem_cons_of_mem _ (List.mem_flatMap.2 ⟨(groupOf ⟨Q.val - 4096, by omega⟩, chunkOf r), mem_order _,
        List.mem_cons_self⟩), ?_⟩
      refine mem2 (A := 256) (B := 6144) (a := 128) (b := 256) ![128 * (r.val / 128), 4096 + 256 * ((Q.val - 4096) / 256)]
        (inbZ (chunkOf r) (groupOf ⟨Q.val - 4096, by omega⟩)) r Q ?_ ?_
      · show 128 * (r.val / 128) ≤ r.val ∧ r.val < 128 * (r.val / 128) + 128; omega
      · show 4096 + 256 * ((Q.val - 4096) / 256) ≤ Q.val ∧ Q.val < 4096 + 256 * ((Q.val - 4096) / 256) + 256; omega

/-! The sums that grow from tile to tile. -/

/-- One tile's part of the mixing matrix's gradient. -/
def TW (g : Fin 8) (t s : Fin 128) : EReal :=
  if s.val ≤ t.val then (∑ d : Fin 256, DS dr u z wo (row 0 t) (col g d) * VN vh lg lb (row 0 s) (col g d))
    + ∑ d : Fin 256, DS dr u z wo (row 1 t) (col g d) * VN vh lg lb (row 1 s) (col g d) else 0
/-- One tile's part of the mixing bias's gradient, of group `l`. -/
def TB (t l : Fin 128) : EReal :=
  if h : l.val < 8 then (∑ d : Fin 256, DS dr u z wo (row 0 t) (col ⟨l.val, h⟩ d)) + ∑ d : Fin 256, DS dr u z wo (row 1 t) (col ⟨l.val, h⟩ d)
  else 0
/-- One tile's part of the scale's and the shift's gradients. -/
def TG (C : Fin 2048) : EReal := ∑ r : Fin 256, DVNB dr u z wo ws r C * vh (ix2 r C)
def TS (C : Fin 2048) : EReal := ∑ r : Fin 256, DVNB dr u z wo ws r C
/-- One tile's part of the output projection's gradient. -/
def TO (C : Fin 2048) (e : Fin 1024) : EReal := ∑ r : Fin 256, y (ix2 r C) * dr (ix2 r e)

def dwsP (acc : Vec Ideal S8x128x128 .f32) (g : Fin 8) : View.Piece (Elt Ideal) S8x128x128 .f32 :=
  ⟨Rect.unit (s := S8x128x128) ![g.val, 0, 0] ![1, 128, 128] (inbG g), dwsT (bothK dr u vh z wo lg lb g) (ldG acc g)⟩
def gwP (acc : Vec Ideal S2048x1024 .f32) (g : Fin 8) : View.Piece (Elt Ideal) S2048x1024 .f32 :=
  ⟨Rect.unit (s := S2048x1024) ![256 * g.val, 0] ![256, 1024] (inbW g), k0_pay15 (F := Ideal) dr (ldA acc g) (ldY y g)⟩

theorem dws_block (acc : Vec Ideal S8x128x128 .f32) (L' : List (View.Piece (Elt Ideal) S8x128x128 .f32)) (g : Fin 8) (t s : Fin 128) :
    View.canon (groups.map (dwsP dr u vh z wo lg lb acc) ++ L') (ix3 g t s)
      = acc (ix3 g t s) + TW dr u vh z wo lg lb g t s := by
  refine canon_agree (e := .f32) (T := S8x128x128) _ (fun i => acc i + TW dr u vh z wo lg lb (i 0) (i 1) (i 2)) L' ?_ _ ?_
  · intro p hp
    obtain ⟨g, -, rfl⟩ := List.mem_map.1 hp
    refine agree3 (e := .f32) (A := 8) (B := 128) (C := 128) (a := 1) (b := 128) (c := 128) ![g.val, 0, 0] (inbG g)
      (dwsT (bothK dr u vh z wo lg lb g) (ldG acc g)) (fun i => acc i + TW dr u vh z wo lg lb (i 0) (i 1) (i 2))
      fun x0 x1 x2 y0 y1 y2 h0 h1 h2 => ?_
    obtain rfl : x0 = 0 := Fin.ext (by omega)
    obtain rfl : y0 = g := Fin.ext h0
    obtain rfl : y1 = x1 := Fin.ext (by simpa using h1)
    obtain rfl : y2 = x2 := Fin.ext (by simpa using h2)
    show _ = acc (ix3 y0 y1 y2) + TW dr u vh z wo lg lb y0 y1 y2
    rw [bothK, dws_apply, ldG_apply, TW]
    simp only [dsK_apply, vnK_apply]
  · refine ⟨_, List.mem_map_of_mem (mem_groups g), ?_⟩
    refine mem3 (A := 8) (B := 128) (C := 128) (a := 1) (b := 128) (c := 128) ![g.val, 0, 0] (inbG g) g t s ?_ ?_ ?_
    · show g.val ≤ g.val ∧ g.val < g.val + 1; omega
    · show 0 ≤ t.val ∧ t.val < 0 + 128; omega
    · show 0 ≤ s.val ∧ s.val < 0 + 128; omega

theorem gw_block (acc : Vec Ideal S2048x1024 .f32) (L' : List (View.Piece (Elt Ideal) S2048x1024 .f32)) (C : Fin 2048) (e : Fin 1024) :
    View.canon (groups.map (gwP dr y acc) ++ L') (ix2 C e) = acc (ix2 C e) + TO dr y C e := by
  refine canon_agree (e := .f32) (T := S2048x1024) _ (fun i => acc i + TO dr y (i 0) (i 1)) L' ?_ _ ?_
  · intro p hp
    obtain ⟨g, -, rfl⟩ := List.mem_map.1 hp
    refine agree2 (e := .f32) (A := 2048) (B := 1024) (a := 256) (b := 1024) ![256 * g.val, 0] (inbW g)
      (k0_pay15 (F := Ideal) dr (ldA acc g) (ldY y g)) (fun i => acc i + TO dr y (i 0) (i 1)) fun t d r C hr hC => ?_
    obtain rfl : r = col g t := Fin.ext hr
    obtain rfl : C = d := Fin.ext (by simpa using hC)
    show _ = acc (ix2 (col g t) C) + TO dr y (col g t) C
    rw [gw_apply, ldA_apply, TO]
    simp only [ldY_apply]
  · refine ⟨_, List.mem_map_of_mem (mem_groups (groupOf C)), ?_⟩
    refine mem2 (A := 2048) (B := 1024) (a := 256) (b := 1024) ![256 * (C.val / 256), 0] (inbW (groupOf C)) C e ?_ ?_
    · show 256 * (C.val / 256) ≤ C.val ∧ C.val < 256 * (C.val / 256) + 256; omega
    · show 0 ≤ e.val ∧ e.val < 0 + 1024; omega

/-- The lanes of the bias's gradient, set one after the other. -/
def selK (g : Fin 8) (acc : FVec Ideal S128x128 .f32) : FVec Ideal S128x128 .f32 :=
  selT (BitVec.ofNat 32 g.val) (bothK dr u vh z wo lg lb g) acc
def selV : FVec Ideal S128x128 .f32 :=
  groups.foldr (fun g acc => selK dr u vh z wo lg lb g acc) (broadcast S128x128 (Scalar.ofBits .f32 0x00000000#32))
def dbsT (acc : Vec Ideal S128x128 .f32) : FVec Ideal S128x128 .f32 :=
  addf (shapeCast S128x128 acc shapeCasts_S128x128_S128x128) (selV dr u vh z wo lg lb)

theorem selK_apply (g : Fin 8) (acc : FVec Ideal S128x128 .f32) (t l : Fin 128) :
    selK dr u vh z wo lg lb g acc (ix2 t l) = if l.val = g.val then TB dr u z wo t l else acc (ix2 t l) := by
  rw [selK, bothK, sel_apply]
  by_cases h : l.val = g.val
  · have e : (⟨l.val, by omega⟩ : Fin 8) = g := Fin.ext h
    rw [if_pos h, if_pos h, TB, dif_pos (by omega), e]
    simp only [dsK_apply]
  · rw [if_neg h, if_neg h]

theorem selV_apply (t l : Fin 128) : selV dr u vh z wo lg lb (ix2 t l) = TB dr u z wo t l := by
  have z0 : (broadcast S128x128 (Scalar.ofBits .f32 0x00000000#32) : FVec Ideal S128x128 .f32) (ix2 t l) = (0 : EReal) := Ideal.ofBits_zero_f32
  have key : ∀ L : List (Fin 8), L.foldr (fun g acc => selK dr u vh z wo lg lb g acc) (broadcast S128x128 (Scalar.ofBits .f32 0x00000000#32)) (ix2 t l)
      = if ∃ g ∈ L, l.val = g.val then TB dr u z wo t l else 0 := by
    intro L
    induction L with
    | nil => simpa using z0
    | cons g L ih =>
      show selK dr u vh z wo lg lb g _ (ix2 t l) = _
      rw [selK_apply, ih]
      by_cases h : l.val = g.val
      · rw [if_pos h, if_pos ⟨g, List.mem_cons_self, h⟩]
      · rw [if_neg h]
        simp only [List.mem_cons, exists_eq_or_imp, h, false_or]
  rw [selV, key]
  by_cases h : l.val < 8
  · rw [if_pos ⟨⟨l.val, h⟩, mem_groups _, rfl⟩]
  · rw [if_neg (fun ⟨g, _, hg⟩ => h (by omega)), TB, dif_neg h]

theorem dbs_block (acc : Vec Ideal S128x128 .f32) (t l : Fin 128) :
    dbsT dr u vh z wo lg lb acc (ix2 t l) = acc (ix2 t l) + TB dr u z wo t l := by
  rw [← selV_apply dr u vh z wo lg lb]
  unfold dbsT
  pointwise

theorem dg_block (acc : Vec Ideal S1x2048 .f32) (C : Fin 2048) :
    k0_pay265 (F := Ideal) (dvnV dr u z wo ws) vh acc (ix2 0 C) = acc (ix2 0 C) + TG dr u vh z wo ws C := by
  rw [dg_apply, TG]
  simp only [dvnV_apply]

theorem db_block (acc : Vec Ideal S1x2048 .f32) (C : Fin 2048) :
    k0_pay268 (F := Ideal) (k0_pay266 (F := Ideal) acc) (k0_pay267 (F := Ideal) (dvnV dr u z wo ws)) (ix2 0 C)
      = acc (ix2 0 C) + TS dr u z wo ws C := by
  rw [db_apply, TS]
  simp only [dvnV_apply]

end Cert.MixTile
-- ==== Proof.BgradTile.lean ====
/-
  The gradient of the second layer's projections and of the normalisation before them: the values, and one point of the
  call, which holds 512 tokens, as these values in its rows.
-/
module

public import proofs.«01_k».proof.Proof.Gen.BgradIdeal.Skeleton
public import proofs.«01_k».proof.Proof.MixBlock
public import Idealize.ShloMosaic.Lib.Pointwise
public import Idealize.ShloMosaic.Lib.IdealHost
public import Idealize.ShloMosaic.Lib.KernelVsHost

@[expose] public section

set_option maxRecDepth 16384

noncomputable section

namespace Cert.BgradTile

open Cert.BgradIdeal Cert.BgradIdeal.Gen Idealize.ShloMosaic Idealize.ShloMosaic.TcCoe Idealize.SL.Sem

/-! ## The values -/

section
variable (x : Vec Ideal S8192x1024 .f32) (g b : Vec Ideal S1x1024 .f32) (w : Vec Ideal S1024x2048 .f32) (wk : Vec Ideal S1024x256 .f32)
  (dr q z : Vec Ideal S8192x1024 .f32) (k v : Vec Ideal S8192x256 .f32) (ck cv : Vec Ideal S16x128x256 .f32)

/-- The width of a row, as the programs write it. -/
def HW : EReal := Ideal.ofBits .f32 0x44800000#32
/-- The row's mean, the centred value, the variance and the number added to it, the inverse root, the normalised value,
    the layer's input. -/
def HMU (R : Fin 8192) : EReal := Ideal.div (∑ i : Fin 1024, x (ix2 R i)) HW
def HC (R : Fin 8192) (e : Fin 1024) : EReal := x (ix2 R e) - HMU x R
def HE (R : Fin 8192) : EReal := Ideal.div (∑ i : Fin 1024, HC x R i * HC x R i) HW + Ideal.ofBits .f32 0x3727C5AC#32
def HR (R : Fin 8192) : EReal := Ideal.rsqrt (HE x R)
def HX (R : Fin 8192) (e : Fin 1024) : EReal := HC x R e * HR x R
def HH (R : Fin 8192) (e : Fin 1024) : EReal := HX x R e * g (ix2 0 e) + b (ix2 0 e)

/-- Row `r` of tile `n`. -/
def tileH (n : Fin 16) (r : Fin 512) : Fin 8192 := ⟨512 * n.val + r.val, by omega⟩
/-- A row of the first three chunks of a tile, of the last chunk, and the next tile. -/
def lo3 (r : Fin 384) : Fin 512 := ⟨r.val, by omega⟩
def hi1 (r : Fin 128) : Fin 512 := ⟨384 + r.val, by omega⟩
def nx (n : Fin 16) (h : n.val < 15) : Fin 16 := ⟨n.val + 1, by omega⟩

/-- The gradient of a doubled key or value array: in the last chunk of each tile but the last, with the next tile's part. -/
def HT (d : Vec Ideal S8192x256 .f32) (c : Vec Ideal S16x128x256 .f32) (R : Fin 8192) (C : Fin 256) : EReal :=
  if h : 384 ≤ R.val % 512 then
    d (ix2 R C) + (if h' : R.val / 512 < 15 then c (ix3 ⟨R.val / 512 + 1, by omega⟩ ⟨R.val % 512 - 384, by omega⟩ C) else 0)
  else d (ix2 R C)
/-- The two columns of the doubled array that hold a head's column. -/
def colA (j : Fin 128) : Fin 256 := ⟨128 * (j.val / 64) + j.val % 64, by omega⟩
def colB (j : Fin 128) : Fin 256 := ⟨128 * (j.val / 64) + j.val % 64 + 64, by omega⟩
def HF (d : Vec Ideal S8192x256 .f32) (c : Vec Ideal S16x128x256 .f32) (R : Fin 8192) (j : Fin 128) : EReal :=
  HT d c R (colA j) + HT d c R (colB j)
/-- The gradients of keys and values side by side, and of queries and gate. -/
def HKV (R : Fin 8192) (j : Fin 256) : EReal :=
  if h : j.val < 128 then HF k ck R ⟨j.val, h⟩ else HF v cv R ⟨j.val - 128, by omega⟩
def HQZ (R : Fin 8192) (d : Fin 2048) : EReal :=
  if h : d.val < 1024 then q (ix2 R ⟨d.val, h⟩) else z (ix2 R ⟨d.val - 1024, by omega⟩)
/-- The gradient of the layer's input. -/
def HD (R : Fin 8192) (e : Fin 1024) : EReal :=
  Ideal.ofBits .f32 0x3FB504F3#32 * dr (ix2 R e) + (∑ d : Fin 1024, q (ix2 R d) * w (ix2 e ⟨d.val, by omega⟩))
    + (∑ d : Fin 1024, z (ix2 R d) * w (ix2 e ⟨1024 + d.val, by omega⟩)) + ∑ j : Fin 256, HKV k v ck cv R j * wk (ix2 e j)
/-- The five results. -/
def H13 : Vec Ideal S8192x1024 .f32 := fun i =>
  HR x (i 0) * (HD w wk dr q z k v ck cv (i 0) (i 1) * g (ix2 0 (i 1))
    - Ideal.div (∑ e : Fin 1024, HD w wk dr q z k v ck cv (i 0) e * g (ix2 0 e)) HW
    - HX x (i 0) (i 1) * Ideal.div (∑ e : Fin 1024, HD w wk dr q z k v ck cv (i 0) e * g (ix2 0 e) * HX x (i 0) e) HW)
def H14 : Vec Ideal S1x1024 .f32 := fun i => ∑ R : Fin 8192, HD w wk dr q z k v ck cv R (i 1) * HX x R (i 1)
def H15 : Vec Ideal S1x1024 .f32 := fun i => ∑ R : Fin 8192, HD w wk dr q z k v ck cv R (i 1)
def HI (e : Fin 1024) (d : Fin 2048) : EReal := ∑ R : Fin 8192, HH x g b R e * HQZ q z R d
def H16 : Vec Ideal S8x512x512 .bf16 := fun i =>
  HI x g b q z ⟨512 * ((i 0).val % 2) + (i 1).val, by have : (i 1).val < 512 := (i 1).isLt; omega⟩
    ⟨512 * ((i 0).val / 2) + (i 2).val, by have : (i 2).val < 512 := (i 2).isLt; have : (i 0).val < 8 := (i 0).isLt; omega⟩
def H17 : Vec Ideal S1024x256 .bf16 := fun i => ∑ R : Fin 8192, HH x g b R (i 0) * HKV k v ck cv R (i 1)
end

/-! ## One point -/

/-- The rotation by half the lanes. -/
theorem roll_apply (u : FVec Ideal S512x128 .f32) (r : Fin 512) (j : Fin 128) :
    dynamicRotate 1 64#32 none u rotates_S512x128_d1 (ix2 r j) = u (ix2 r ⟨(j.val + 64) % 128, by omega⟩) :=
  dynamicRotate_apply _ _ _ _ _ _ fun a => by
    fin_cases a
    · rfl
    · show (j.val + 64) % 128 = (j.val + 128 - 64 % 128) % 128
      omega

theorem word_slt (j : Fin 128) : IntOp.cmpi .slt (BitVec.ofNat 32 j.val) 64#32 = BitVec.ofBool (decide (j.val < 64)) := by
  revert j; decide

theorem mask_apply (r : Fin 512) (j : Fin 128) : k0_pay16 (ix2 r j) = BitVec.ofBool (decide (j.val < 64)) := by
  rw [← word_slt]
  unfold_payloads
  pointwise

theorem last_slt (n : Fin 16) : Scalar.cmpi .slt (BitVec.ofNat 32 n.val) 15#32 = BitVec.ofBool (decide (n.val < 15)) := by
  revert n; decide

section
variable (d : Vec Ideal S8192x256 .f32) (c : Vec Ideal S16x128x256 .f32) (n : Fin 16) (i : grid0.Coords) (hi : (i 0).val = n.val)
  (a : Vec Ideal S384x256 .f32) (y : Vec Ideal S1x128x256 .f32) (e : Vec Ideal S128x256 .f32)
  (ha : ∀ (r : Fin 384) C, a (ix2 r C) = d (ix2 (tileH n (lo3 r)) C))
  (hy : ∀ (h : n.val < 15) (r : Fin 128) C, y (ix3 0 r C) = c (ix3 (nx n h) r C))
  (he : ∀ (r : Fin 128) C, e (ix2 r C) = d (ix2 (tileH n (hi1 r)) C))
include hi ha hy he

theorem sum_apply (r : Fin 512) (C : Fin 256) : k0_pay21 (F := Ideal) i a y e (ix2 r C) = HT d c (tileH n r) C := by
  unfold k0_pay21
  pointwise
  have hm : (512 * n.val + r.val) % 512 = r.val := by omega
  have hd : (512 * n.val + r.val) / 512 = n.val := by omega
  unfold HT
  simp only [tileH, hm, hd]
  by_cases h : r.val < 384
  · rw [dif_pos h, dif_neg (by omega)]
    exact ha _ _
  · rw [dif_neg h, dif_pos (by omega), he, hi, last_slt]
    have h1 : (tileH n (hi1 ⟨r.val - 384, by omega⟩)) = tileH n r := Fin.ext (by show 512 * n.val + (384 + (r.val - 384)) = 512 * n.val + r.val; omega)
    refine congrArg₂ (· + ·) (congrArg (fun R => d (ix2 R C)) h1) ((MixTile.select_ofBool _ _ _).trans ?_)
    by_cases h2 : n.val < 15
    · rw [if_pos h2, dif_pos h2]
      exact hy h2 _ _
    · rw [if_neg h2, dif_neg h2]

theorem fold0 (r : Fin 512) (j : Fin 128) (hj : j.val < 64) : k0_pay22 (F := Ideal) i a y e (ix2 r j) = HF d c (tileH n r) j := by
  have h := sum_apply d c n i hi a y e ha hy he
  unfold k0_pay22
  generalize k0_pay21 (F := Ideal) i a y e = p at h ⊢
  refine (congrArg (_ + ·) (roll_apply _ r j)).trans ?_
  pointwise
  rw [h, h, HF]
  refine congrArg₂ (· + ·) (congrArg (HT d c (tileH n r)) (Fin.ext ?_)) (congrArg (HT d c (tileH n r)) (Fin.ext ?_))
  · show j.val = 128 * (j.val / 64) + j.val % 64; omega
  · show (j.val + 64) % 128 = 128 * (j.val / 64) + j.val % 64 + 64; omega

theorem fold1 (r : Fin 512) (j : Fin 128) (hj : ¬j.val < 64) : k0_pay23 (F := Ideal) i a y e (ix2 r j) = HF d c (tileH n r) j := by
  have h := sum_apply d c n i hi a y e ha hy he
  unfold k0_pay23
  generalize k0_pay21 (F := Ideal) i a y e = p at h ⊢
  refine (congrArg (_ + ·) (roll_apply _ r j)).trans ?_
  pointwise
  rw [h, h, HF, add_comm]
  refine congrArg₂ (· + ·) (congrArg (HT d c (tileH n r)) (Fin.ext ?_)) (congrArg (HT d c (tileH n r)) (Fin.ext ?_))
  · show 128 + (j.val + 64) % 128 = 128 * (j.val / 64) + j.val % 64; omega
  · show 128 + j.val = 128 * (j.val / 64) + j.val % 64 + 64; omega

theorem fold_apply (r : Fin 512) (j : Fin 128) :
    select k0_pay16 (k0_pay22 (F := Ideal) i a y e) (k0_pay23 (F := Ideal) i a y e) (ix2 r j) = HF d c (tileH n r) j := by
  show Scalar.select (k0_pay16 (ix2 r j)) (k0_pay22 (F := Ideal) i a y e (ix2 r j)) (k0_pay23 (F := Ideal) i a y e (ix2 r j)) = _
  rw [mask_apply, MixTile.select_ofBool]
  split
  · exact fold0 d c n i hi a y e ha hy he r j (by assumption)
  · exact fold1 d c n i hi a y e ha hy he r j (by assumption)
end

/-- The gradients of keys and values of a tile, side by side. -/
def kvV (i : grid0.Coords) (a : Vec Ideal S384x256 .f32) (y : Vec Ideal S1x128x256 .f32) (e : Vec Ideal S128x256 .f32)
    (a' : Vec Ideal S384x256 .f32) (y' : Vec Ideal S1x128x256 .f32) (e' : Vec Ideal S128x256 .f32) : FVec Ideal S512x256 .bf16 :=
  k0_pay24 (F := Ideal) (BitVec.ofNat 32 (i 0).val) k0_pay16 (k0_pay22 (F := Ideal) i a y e) (k0_pay23 (F := Ideal) i a y e) a' y' e'

theorem kv_apply (k v : Vec Ideal S8192x256 .f32) (ck cv : Vec Ideal S16x128x256 .f32) (n : Fin 16) (i : grid0.Coords) (hi : (i 0).val = n.val)
    (a : Vec Ideal S384x256 .f32) (y : Vec Ideal S1x128x256 .f32) (e : Vec Ideal S128x256 .f32)
    (a' : Vec Ideal S384x256 .f32) (y' : Vec Ideal S1x128x256 .f32) (e' : Vec Ideal S128x256 .f32)
    (ha : ∀ (r : Fin 384) C, a (ix2 r C) = k (ix2 (tileH n (lo3 r)) C))
    (hy : ∀ (h : n.val < 15) (r : Fin 128) C, y (ix3 0 r C) = ck (ix3 (nx n h) r C))
    (he : ∀ (r : Fin 128) C, e (ix2 r C) = k (ix2 (tileH n (hi1 r)) C))
    (ha' : ∀ (r : Fin 384) C, a' (ix2 r C) = v (ix2 (tileH n (lo3 r)) C))
    (hy' : ∀ (h : n.val < 15) (r : Fin 128) C, y' (ix3 0 r C) = cv (ix3 (nx n h) r C))
    (he' : ∀ (r : Fin 128) C, e' (ix2 r C) = v (ix2 (tileH n (hi1 r)) C))
    (r : Fin 512) (j : Fin 256) : kvV i a y e a' y' e' (ix2 r j) = HKV k v ck cv (tileH n r) j := by
  have h0 := fold_apply k ck n i hi a y e ha hy he
  have h1 := fold_apply v cv n i hi a' y' e' ha' hy' he'
  have hs : kvV i a y e a' y' e' = truncf (F := Ideal) .bf16 (concatenate S512x256 1
    [⟨S512x128, select k0_pay16 (k0_pay22 (F := Ideal) i a y e) (k0_pay23 (F := Ideal) i a y e)⟩,
     ⟨S512x128, select k0_pay16 (k0_pay22 (F := Ideal) i a' y' e') (k0_pay23 (F := Ideal) i a' y' e')⟩]
      concatenates_S512x128_S512x128_S512x256_d1) bitsLt_bf16_f32 := rfl
  rw [hs]
  generalize select k0_pay16 (k0_pay22 (F := Ideal) i a y e) (k0_pay23 (F := Ideal) i a y e) = p at h0 ⊢
  generalize select k0_pay16 (k0_pay22 (F := Ideal) i a' y' e') (k0_pay23 (F := Ideal) i a' y' e') = p' at h1 ⊢
  pointwise
  simp only [h0, h1]
  rfl

section
variable (x : Vec Ideal S8192x1024 .f32) (g b : Vec Ideal S1x1024 .f32) (w : Vec Ideal S1024x2048 .f32) (wk : Vec Ideal S1024x256 .f32)
  (dr q z : Vec Ideal S8192x1024 .f32) (k v : Vec Ideal S8192x256 .f32) (ck cv : Vec Ideal S16x128x256 .f32) (n : Fin 16)

theorem h_apply (x0 : Vec Ideal S512x1024 .f32) (hx : ∀ r e, x0 (ix2 r e) = HX x (tileH n r) e) (r : Fin 512) (e : Fin 1024) :
    k0_pay18 (F := Ideal) x0 g b (ix2 r e) = HH x g b (tileH n r) e := by
  unfold k0_pay18 k0_pay17
  pointwise
  simp only [hx]
  rfl

theorem d_apply (kv : FVec Ideal S512x256 .bf16) (hkv : ∀ r j, kv (ix2 r j) = HKV k v ck cv (tileH n r) j)
    (d0 : Vec Ideal S512x1024 .f32) (q0 z0 : Vec Ideal S512x1024 .bf16) (w0 w1 : Vec Ideal S1024x1024 .bf16) (wk0 : Vec Ideal S1024x256 .bf16)
    (hd : ∀ r e, d0 (ix2 r e) = dr (ix2 (tileH n r) e)) (hq : ∀ r e, q0 (ix2 r e) = q (ix2 (tileH n r) e))
    (hz : ∀ r e, z0 (ix2 r e) = z (ix2 (tileH n r) e)) (hw0 : ∀ e d, w0 (ix2 e d) = w (ix2 e ⟨d.val, by omega⟩))
    (hw1 : ∀ e d, w1 (ix2 e d) = w (ix2 e ⟨1024 + d.val, by omega⟩)) (hk : ∀ e j, wk0 (ix2 e j) = wk (ix2 e j))
    (arg0 : BitVec 32) (v5 : IVec S512x128 1) (v30 v33 : FVec Ideal S512x128 .f32) (v35 : Vec Ideal S384x256 .f32)
    (v36 : Vec Ideal S1x128x256 .f32) (v41 : Vec Ideal S128x256 .f32)
    (hs : k0_pay24 (F := Ideal) arg0 v5 v30 v33 v35 v36 v41 = kv)
    (r : Fin 512) (e : Fin 1024) :
    k0_pay25 (F := Ideal) arg0 v5 (k0_pay19 (F := Ideal) q0) (k0_pay20 (F := Ideal) z0) v30 v33 v35 v36 v41 d0 w0 w1 wk0 (ix2 r e)
      = HD w wk dr q z k v ck cv (tileH n r) e := by
  unfold k0_pay25
  rw [hs]
  unfold k0_pay19 k0_pay20
  pointwise
  simp only [hkv, hd, hq, hz, hw0, hw1, hk]
  rfl

theorem in0_apply (h : FVec Ideal S512x1024 .bf16) (q0 : Vec Ideal S512x1024 .bf16) (hh : ∀ r e, h (ix2 r e) = HH x g b (tileH n r) e)
    (hq : ∀ r e, q0 (ix2 r e) = q (ix2 (tileH n r) e)) (acc : Vec Ideal S1024x1024 .f32) (e d : Fin 1024) :
    k0_pay26 (F := Ideal) h (k0_pay19 (F := Ideal) q0) acc (ix2 e d)
      = acc (ix2 e d) + ∑ r : Fin 512, HH x g b (tileH n r) e * q (ix2 (tileH n r) d) := by
  unfold k0_pay26 k0_pay19
  pointwise
  simp only [hh, hq]
theorem in1_apply (h : FVec Ideal S512x1024 .bf16) (q0 : Vec Ideal S512x1024 .bf16) (hh : ∀ r e, h (ix2 r e) = HH x g b (tileH n r) e)
    (hq : ∀ r e, q0 (ix2 r e) = z (ix2 (tileH n r) e)) (acc : Vec Ideal S1024x1024 .f32) (e d : Fin 1024) :
    k0_pay27 (F := Ideal) h (k0_pay20 (F := Ideal) q0) acc (ix2 e d)
      = acc (ix2 e d) + ∑ r : Fin 512, HH x g b (tileH n r) e * z (ix2 (tileH n r) d) := by
  unfold k0_pay27 k0_pay20
  pointwise
  simp only [hh, hq]
theorem inkv_apply (h : FVec Ideal S512x1024 .bf16) (kv : FVec Ideal S512x256 .bf16) (hh : ∀ r e, h (ix2 r e) = HH x g b (tileH n r) e)
    (hkv : ∀ r j, kv (ix2 r j) = HKV k v ck cv (tileH n r) j) (acc : Vec Ideal S1024x256 .f32) (e : Fin 1024) (j : Fin 256) :
    k0_pay28 (F := Ideal) h kv acc (ix2 e j)
      = acc (ix2 e j) + ∑ r : Fin 512, HH x g b (tileH n r) e * HKV k v ck cv (tileH n r) j := by
  unfold k0_pay28
  pointwise
  simp only [hh, hkv]
variable (x0 D : FVec Ideal S512x1024 .f32) (hx : ∀ r e, x0 (ix2 r e) = HX x (tileH n r) e)
  (hD : ∀ r e, D (ix2 r e) = HD w wk dr q z k v ck cv (tileH n r) e)
include hD in
theorem b_apply (acc : Vec Ideal S1x1024 .f32) (o : Fin 1) (e : Fin 1024) :
    k0_pay30 (F := Ideal) D acc (ix2 o e) = acc (ix2 o e) + ∑ r : Fin 512, HD w wk dr q z k v ck cv (tileH n r) e := by
  unfold k0_pay30
  pointwise
  simp only [hD]
include hx hD in
theorem g_apply (acc : Vec Ideal S1x1024 .f32) (o : Fin 1) (e : Fin 1024) :
    k0_pay29 (F := Ideal) (k0_pay17 (F := Ideal) x0) D acc (ix2 o e)
      = acc (ix2 o e) + ∑ r : Fin 512, HD w wk dr q z k v ck cv (tileH n r) e * HX x (tileH n r) e := by
  unfold k0_pay29 k0_pay17
  pointwise
  simp only [hD, hx]
include hx hD in
theorem r_apply (s0 : Vec Ideal S512x1 .f32) (hs : ∀ r o, s0 (ix2 r o) = HR x (tileH n r)) (r : Fin 512) (e : Fin 1024) :
    k0_pay1 (F := Ideal) (k0_pay17 (F := Ideal) x0) D g s0 (ix2 r e) = H13 x g w wk dr q z k v ck cv (ix2 (tileH n r) e) := by
  unfold k0_pay1 k0_pay17
  pointwise
  simp only [hD, hx, hs]
  rfl
end

theorem zero12 (e : Fin 1024) (d : Fin 2048) : k0_pay12 (F := Ideal) (ix2 e d) = (0 : EReal) := by unfold_payloads; pointwise
theorem zero13 (e : Fin 1024) (d : Fin 256) : k0_pay13 (F := Ideal) (ix2 e d) = (0 : EReal) := by unfold_payloads; pointwise
theorem zero14 (e : Fin 1) (d : Fin 1024) : k0_pay14 (F := Ideal) (ix2 e d) = (0 : EReal) := by unfold_payloads; pointwise
theorem zero15 (e : Fin 1) (d : Fin 1024) : k0_pay15 (F := Ideal) (ix2 e d) = (0 : EReal) := by unfold_payloads; pointwise

end Cert.BgradTile
-- ==== Proof.MixGlobal.lean ====
/-
  The mixer's gradient over the whole arrays: every result as sums and products of the arguments' entries, the chunk of
  128 tokens a row lies in and the group of 256 columns a column lies in written out.
-/
module

public import proofs.«01_k».proof.Proof.MixTile

@[expose] public section

noncomputable section

namespace Cert.MixGlobal

open Cert.MixIdeal Idealize.ShloMosaic Idealize.ShloMosaic.TcCoe Idealize.SL.Sem

/-- Row `t` of chunk `q`, the chunk of a row and its place in it; column `d` of group `g`, the group of a column and its
    place in it. -/
def rowG (q : Fin 64) (t : Fin 128) : Fin 8192 := ⟨128 * q.val + t.val, by omega⟩
def chk (R : Fin 8192) : Fin 64 := ⟨R.val / 128, by omega⟩
def tok (R : Fin 8192) : Fin 128 := ⟨R.val % 128, by omega⟩
def colG (g : Fin 8) (d : Fin 256) : Fin 2048 := ⟨256 * g.val + d.val, by omega⟩
def grp (C : Fin 2048) : Fin 8 := ⟨C.val / 256, by omega⟩
def lane (C : Fin 2048) : Fin 256 := ⟨C.val % 256, by omega⟩

@[simp] theorem chk_rowG (q : Fin 64) (t : Fin 128) : chk (rowG q t) = q := by
  apply Fin.ext; simp only [chk, rowG]; omega
@[simp] theorem tok_rowG (q : Fin 64) (t : Fin 128) : tok (rowG q t) = t := by
  apply Fin.ext; simp only [tok, rowG]; omega
@[simp] theorem grp_colG (g : Fin 8) (d : Fin 256) : grp (colG g d) = g := by
  apply Fin.ext; simp only [grp, colG]; omega
@[simp] theorem lane_colG (g : Fin 8) (d : Fin 256) : lane (colG g d) = d := by
  apply Fin.ext; simp only [lane, colG]; omega

variable (p : Vec Ideal S8192x6144 .f32) (lng lnb : Vec Ideal S1x2048 .f32) (ws : Vec Ideal S8x128x128 .f32)
  (bsp : Vec Ideal S8x128 .f32) (wo : Vec Ideal S2048x1024 .f32) (dr : Vec Ideal S8192x1024 .f32)

/-- The projection's three column ranges. -/
def GU (R : Fin 8192) (C : Fin 2048) : EReal := p (ix2 R ⟨C.val, by omega⟩)
def GV (R : Fin 8192) (C : Fin 2048) : EReal := p (ix2 R ⟨2048 + C.val, by omega⟩)
def GZ (R : Fin 8192) (C : Fin 2048) : EReal := p (ix2 R ⟨4096 + C.val, by omega⟩)
/-- The width of a row, as the programs write it. -/
def GW : EReal := Ideal.ofBits .f32 0x45000000#32
/-- Mean, centred value, variance with the small constant added, its inverse root, normalised value. -/
def GMU (R : Fin 8192) : EReal := Ideal.div (∑ i : Fin 2048, GV p R i) GW
def GC (R : Fin 8192) (C : Fin 2048) : EReal := GV p R C - GMU p R
def GE (R : Fin 8192) : EReal := Ideal.div (∑ i : Fin 2048, GC p R i * GC p R i) GW + Ideal.ofBits .f32 0x3727C5AC#32
def GR (R : Fin 8192) : EReal := Ideal.rsqrt (GE p R)
def GVH (R : Fin 8192) (C : Fin 2048) : EReal := GC p R C * GR p R
def GVN (R : Fin 8192) (C : Fin 2048) : EReal := GVH p R C * lng (ix2 0 C) + lnb (ix2 0 C)
/-- The lower triangle of a group's mixing matrix, the mixed value, the gate, the gated product. -/
def GLOW (g : Fin 8) (t s : Fin 128) : EReal := if s.val ≤ t.val then ws (ix3 g t s) else 0
def GS (R : Fin 8192) (C : Fin 2048) : EReal :=
  (∑ s : Fin 128, GLOW ws (grp C) (tok R) s * GVN p lng lnb (rowG (chk R) s) C) + bsp (ix2 (grp C) (tok R))
def GSZ (R : Fin 8192) (C : Fin 2048) : EReal := GZ p R C * Ideal.logistic (GZ p R C)
def GY (R : Fin 8192) (C : Fin 2048) : EReal := GU p R C * GS p lng lnb ws bsp R C * GSZ p R C
/-- The gradients: of the gated product, of the mixed value, of the three column ranges. -/
def GDY (R : Fin 8192) (C : Fin 2048) : EReal := ∑ e : Fin 1024, dr (ix2 R e) * wo (ix2 C e)
def GDS (R : Fin 8192) (C : Fin 2048) : EReal := GDY wo dr R C * GU p R C * GSZ p R C
def GDU (R : Fin 8192) (C : Fin 2048) : EReal := GDY wo dr R C * (GS p lng lnb ws bsp R C * GSZ p R C)
def GDZ (R : Fin 8192) (C : Fin 2048) : EReal :=
  GDY wo dr R C * GU p R C * GS p lng lnb ws bsp R C
    * (Ideal.logistic (GZ p R C) * (1 + GZ p R C * (1 - Ideal.logistic (GZ p R C))))
def GDVN (R : Fin 8192) (C : Fin 2048) : EReal :=
  ∑ t : Fin 128, GLOW ws (grp C) t (tok R) * GDS p wo dr (rowG (chk R) t) C
def GDV (R : Fin 8192) (C : Fin 2048) : EReal :=
  GR p R * (GDVN p ws wo dr R C * lng (ix2 0 C)
    - Ideal.div (∑ i : Fin 2048, GDVN p ws wo dr R i * lng (ix2 0 i)) GW
    - GVH p R C * Ideal.div (∑ i : Fin 2048, GDVN p ws wo dr R i * lng (ix2 0 i) * GVH p R i) GW)

/-- The six results. -/
def O0 : Vec Ideal S8192x6144 .bf16 := fun i =>
  if h : (i 1).val < 2048 then GDU p lng lnb ws bsp wo dr (i 0) ⟨(i 1).val, h⟩
  else if h' : (i 1).val < 4096 then GDV p lng ws wo dr (i 0) ⟨(i 1).val - 2048, by omega⟩
  else GDZ p lng lnb ws bsp wo dr (i 0) ⟨(i 1).val - 4096, by have : (i 1).val < 6144 := (i 1).isLt; omega⟩
def O1 : Vec Ideal S2048x1024 .bf16 := fun i => ∑ R : Fin 8192, GY p lng lnb ws bsp R (i 0) * dr (ix2 R (i 1))
def O2 : Vec Ideal S8x128x128 .f32 := fun i =>
  if (i 2).val ≤ (i 1).val then ∑ q : Fin 64, ∑ d : Fin 256,
    GDS p wo dr (rowG q (i 1)) (colG (i 0) d) * GVN p lng lnb (rowG q (i 2)) (colG (i 0) d) else 0
def O3 : Vec Ideal S128x128 .f32 := fun i =>
  if h : (i 1).val < 8 then ∑ q : Fin 64, ∑ d : Fin 256, GDS p wo dr (rowG q (i 0)) (colG ⟨(i 1).val, h⟩ d) else 0
def O4 : Vec Ideal S1x2048 .f32 := fun i => ∑ R : Fin 8192, GDVN p ws wo dr R (i 1) * GVH p R (i 1)
def O5 : Vec Ideal S1x2048 .f32 := fun i => ∑ R : Fin 8192, GDVN p ws wo dr R (i 1)

/-! ## Sums over rows, by tile and by chunk -/

/-- Row `r` of tile `n`. -/
def tileG (n : Fin 32) (r : Fin 256) : Fin 8192 := ⟨256 * n.val + r.val, by omega⟩

theorem sum_rows {M : Type} [AddCommMonoid M] (f : Fin 8192 → M) :
    ∑ R : Fin 8192, f R = ∑ n : Fin 32, ∑ r : Fin 256, f (tileG n r) := by
  rw [← Fintype.sum_prod_type' (f := fun (n : Fin 32) (r : Fin 256) => f (tileG n r))]
  refine (Fintype.sum_equiv (finProdFinEquiv (m := 32) (n := 256)) _ _ fun x => ?_).symm
  exact congrArg f (Fin.ext (by simp only [tileG, finProdFinEquiv]; show _ = x.2.val + 256 * x.1.val; omega))

theorem sum_chunks {M : Type} [AddCommMonoid M] (f : Fin 64 → M) :
    ∑ q : Fin 64, f q = ∑ n : Fin 32, (f ⟨2 * n.val, by omega⟩ + f ⟨2 * n.val + 1, by omega⟩) := by
  have h : ∀ n : Fin 32, f ⟨2 * n.val, by omega⟩ + f ⟨2 * n.val + 1, by omega⟩
      = ∑ k : Fin 2, f ⟨2 * n.val + k.val, by omega⟩ := fun n => by rw [Fin.sum_univ_two]; rfl
  simp only [h]
  rw [← Fintype.sum_prod_type' (f := fun (n : Fin 32) (k : Fin 2) => f ⟨2 * n.val + k.val, by omega⟩)]
  refine (Fintype.sum_equiv (finProdFinEquiv (m := 32) (n := 2)) _ _ fun x => ?_).symm
  exact congrArg f (Fin.ext (by simp only [finProdFinEquiv]; show _ = x.2.val + 2 * x.1.val; omega))

end Cert.MixGlobal
-- ==== Proof.MixStage.lean ====
/-
  The forward pass and the gradients as whole arrays, one named array after another in the order the reference
  computes them, and what each holds at an index.
-/
module

public import proofs.«01_k».proof.Proof.MixGlobal
public import proofs.«01_k».proof.Proof.Gen.MixRefIdeal.Run
public import Idealize.ShloMosaic.Lib.Pointwise

@[expose] public section

set_option maxRecDepth 16384

noncomputable section

namespace Cert.MixStage

open Cert.MixRefIdeal Cert.MixRefIdeal.Gen Cert.MixGlobal Idealize.ShloMosaic Idealize.ShloMosaic.TcCoe Idealize.SL.Sem

variable (p : FVec Ideal S8192x6144 .f32) (lng lnb : FVec Ideal S1x2048 .f32) (ws : FVec Ideal S8x128x128 .f32)
  (bsp : FVec Ideal S8x128 .f32) (wo : FVec Ideal S2048x1024 .f32) (dr : FVec Ideal S8192x1024 .f32)

def zero0 : FVec Ideal S_ .f32 := constant S_ .f32 0x00000000#32
def uE : FVec Ideal S8192x2048 .f32 := extractStridedSlice S8192x2048 ![0, 0] p slices_S8192x6144_S8192x2048_0_0
def vE : FVec Ideal S8192x2048 .f32 := extractStridedSlice S8192x2048 ![0, 2048] p slices_S8192x6144_S8192x2048_0_2048
def zE : FVec Ideal S8192x2048 .f32 := extractStridedSlice S8192x2048 ![0, 4096] p slices_S8192x6144_S8192x2048_0_4096
/-- The mean of each row of an array. -/
def meanE (x : FVec Ideal S8192x2048 .f32) : FVec Ideal S8192x1 .f32 :=
  Host.divf (broadcastInDim S8192x1 ![0] bcast_S8192_S8192x1_0
    (Host.reduceAdd x zero0 reducesTo_S8192x2048_S8192_d1 h_S_))
    (broadcastInDim S8192x1 ![] bcast_S_S8192x1 (constant S_ .f32 0x45000000#32))
/-- A column repeated along the rows. -/
def wide (x : FVec Ideal S8192x1 .f32) : FVec Ideal S8192x2048 .f32 :=
  broadcastInDim S8192x2048 ![0, 1] bcast_S8192x1_S8192x2048_0_1 x
def tall (x : FVec Ideal S1x2048 .f32) : FVec Ideal S8192x2048 .f32 :=
  broadcastInDim S8192x2048 ![0, 1] bcast_S1x2048_S8192x2048_0_1 x
def cE : FVec Ideal S8192x2048 .f32 := subf (vE p) (wide (meanE (vE p)))
def eE : FVec Ideal S8192x1 .f32 :=
  addf (meanE (mulf (cE p) (cE p))) (broadcastInDim S8192x1 ![] bcast_S_S8192x1 (constant S_ .f32 0x3727C5AC#32))
def rE : FVec Ideal S8192x1 .f32 := Host.rsqrt (eE p)
def vhE : FVec Ideal S8192x2048 .f32 := mulf (cE p) (wide (rE p))
def vnE : FVec Ideal S8192x2048 .f32 := addf (mulf (vhE p) (tall lng)) (tall lnb)
/-- Rows as chunks of tokens and columns as groups of lanes, and back. -/
def split (x : FVec Ideal S8192x2048 .f32) : FVec Ideal S64x128x8x256 .f32 :=
  shapeCast _ x shapeCasts_S8192x2048_S64x128x8x256
def join (x : FVec Ideal S64x128x8x256 .f32) : FVec Ideal S8192x2048 .f32 :=
  shapeCast _ x shapeCasts_S64x128x8x256_S8192x2048
/-- Where the second coordinate is at most the first. -/
def triE : Vec Ideal S8x128x128 .i1 :=
  broadcastInDim S8x128x128 ![1, 2] bcast_S128x128_S8x128x128_1_2
    (select (cmpi .sge (addi (iotaInDim S128x128 32 0)
        (broadcastInDim S128x128 ![] bcast_S_S128x128 (constantI S_ 32 0#32))) (iotaInDim S128x128 32 1))
      (broadcastInDim S128x128 ![] bcast_S_S128x128 (constantI S_ 1 1#1))
      (broadcastInDim S128x128 ![] bcast_S_S128x128 (constantI S_ 1 0#1)))
def lowE (x : FVec Ideal S8x128x128 .f32) : FVec Ideal S8x128x128 .f32 :=
  select triE x (broadcastInDim S8x128x128 ![] bcast_S_S8x128x128 zero0)
def sE : FVec Ideal S8192x2048 .f32 :=
  join (addf
    (transpose S64x128x8x256 [1, 3, 0, 2]
      (Host.dotGeneral dot_S64x128x8x256_S8x128x128_S8x64x256x128_1_2_03_1_2_0 none (split (vnE p lng lnb)) (lowE ws))
      transposes_S8x64x256x128_S64x128x8x256_1_3_0_2)
    (broadcastInDim S64x128x8x256 ![0, 1, 2, 3] bcast_S1x128x8x1_S64x128x8x256_0_1_2_3
      (broadcastInDim S1x128x8x1 ![1, 2, 3] bcast_S128x8x1_S1x128x8x1_1_2_3
        (broadcastInDim S128x8x1 ![0, 1] bcast_S128x8_S128x8x1_0_1
          (transpose S128x8 [1, 0] bsp transposes_S8x128_S128x8_1_0)))))
def oneE : FVec Ideal S8192x2048 .f32 :=
  broadcastInDim S8192x2048 ![] bcast_S_S8192x2048 (constant S_ .f32 0x3F800000#32)
def sgE : FVec Ideal S8192x2048 .f32 := Host.divf oneE (addf oneE (Host.exp (Host.negf (zE p))))
def szE : FVec Ideal S8192x2048 .f32 := mulf (zE p) (sgE p)
def usE : FVec Ideal S8192x2048 .f32 := mulf (uE p) (sE p lng lnb ws bsp)
def yE : FVec Ideal S8192x2048 .f32 := mulf (usE p lng lnb ws bsp) (szE p)

def dyE : FVec Ideal S8192x2048 .f32 :=
  Host.dotGeneral dot_S8192x1024_S2048x1024_S8192x2048_1_1_0_0_n_n none dr wo
def gateE : FVec Ideal S8192x2048 .f32 := mulf (dyE wo dr) (szE p)
def dsE : FVec Ideal S8192x2048 .f32 := mulf (uE p) (gateE p wo dr)
def duE : FVec Ideal S8192x2048 .f32 := mulf (gateE p wo dr) (sE p lng lnb ws bsp)
def dzE : FVec Ideal S8192x2048 .f32 :=
  addf (mulf (mulf (usE p lng lnb ws bsp) (dyE wo dr)) (sgE p))
    (mulf (mulf (zE p) (mulf (usE p lng lnb ws bsp) (dyE wo dr))) (mulf (sgE p) (subf oneE (sgE p))))
def dstE : FVec Ideal S8x64x256x128 .f32 :=
  transpose S8x64x256x128 [2, 0, 3, 1] (split (dsE p wo dr)) transposes_S64x128x8x256_S8x64x256x128_2_0_3_1
def dvnE : FVec Ideal S8192x2048 .f32 :=
  join (transpose S64x128x8x256 [1, 3, 0, 2]
    (Host.dotGeneral dot_S8x64x256x128_S8x128x128_S8x64x256x128_3_1_12_2_0_0 none (dstE p wo dr) (lowE ws))
    transposes_S8x64x256x128_S64x128x8x256_1_3_0_2)

theorem uE_apply (R : Fin 8192) (C : Fin 2048) : uE p (ix2 R C) = GU p R C := by
  pointwise [uE]
  rfl
theorem vE_apply (R : Fin 8192) (C : Fin 2048) : vE p (ix2 R C) = GV p R C := by
  pointwise [vE]
  rfl
theorem zE_apply (R : Fin 8192) (C : Fin 2048) : zE p (ix2 R C) = GZ p R C := by
  pointwise [zE]
  rfl
theorem meanE_apply (x : FVec Ideal S8192x2048 .f32) (R : Fin 8192) (o : Fin 1) :
    meanE x (ix2 R o) = Ideal.div (∑ i : Fin 2048, x (ix2 R i)) GW := by
  pointwise [meanE, zero0]
  rfl
theorem wide_apply (x : FVec Ideal S8192x1 .f32) (R : Fin 8192) (C : Fin 2048) : wide x (ix2 R C) = x (ix2 R 0) := by
  pointwise [wide]
theorem tall_apply (x : FVec Ideal S1x2048 .f32) (R : Fin 8192) (C : Fin 2048) : tall x (ix2 R C) = x (ix2 0 C) := by
  pointwise [tall]
theorem cE_apply (R : Fin 8192) (C : Fin 2048) : cE p (ix2 R C) = GC p R C := by
  show vE p (ix2 R C) - wide (meanE (vE p)) (ix2 R C) = _
  rw [wide_apply, meanE_apply, vE_apply]; simp only [vE_apply]; rfl
theorem eE_apply (R : Fin 8192) (o : Fin 1) : eE p (ix2 R o) = GE p R := by
  have h : eE p (ix2 R o) = meanE (mulf (cE p) (cE p)) (ix2 R o) + Ideal.ofBits .f32 0x3727C5AC#32 := by
    pointwise [eE]
  rw [h, meanE_apply]
  have k : ∀ i, mulf (cE p) (cE p) (ix2 R i) = GC p R i * GC p R i := fun i => by
    show cE p (ix2 R i) * cE p (ix2 R i) = _
    rw [cE_apply]
  simp only [k]; rfl
theorem rE_apply (R : Fin 8192) (o : Fin 1) : rE p (ix2 R o) = GR p R := by
  show Ideal.rsqrt (eE p (ix2 R o)) = _
  rw [eE_apply]; rfl
theorem vhE_apply (R : Fin 8192) (C : Fin 2048) : vhE p (ix2 R C) = GVH p R C := by
  show cE p (ix2 R C) * wide (rE p) (ix2 R C) = _
  rw [wide_apply, rE_apply, cE_apply]; rfl
theorem vnE_apply (R : Fin 8192) (C : Fin 2048) : vnE p lng lnb (ix2 R C) = GVN p lng lnb R C := by
  show vhE p (ix2 R C) * tall lng (ix2 R C) + tall lnb (ix2 R C) = _
  rw [tall_apply, tall_apply, vhE_apply]; rfl
theorem split_apply (x : FVec Ideal S8192x2048 .f32) (q : Fin 64) (t : Fin 128) (g : Fin 8) (d : Fin 256) :
    split x (ix4 q t g d) = x (ix2 (rowG q t) (colG g d)) := by
  pointwise [split]
  refine congrArg x ?_
  congr 1 <;> apply Fin.ext <;> simp only [rowG, colG] <;> omega
theorem join_apply (x : FVec Ideal S64x128x8x256 .f32) (R : Fin 8192) (C : Fin 2048) :
    join x (ix2 R C) = x (ix4 (chk R) (tok R) (grp C) (lane C)) := by
  pointwise [join]
  rfl
theorem colG_grp (C : Fin 2048) : colG (grp C) (lane C) = C := by
  apply Fin.ext; simp only [colG, grp, lane]; omega
theorem rowG_chk (R : Fin 8192) : rowG (chk R) (tok R) = R := by
  apply Fin.ext; simp only [rowG, chk, tok]; omega
theorem lowE_apply (x : FVec Ideal S8x128x128 .f32) (g : Fin 8) (t s : Fin 128) :
    lowE x (ix3 g t s) = GLOW x g t s := by
  pointwise [lowE, triE, zero0, GLOW]
  have h0 : IntOp.addi (BitVec.ofNat 32 t.val) 0#32 = BitVec.ofNat 32 t.val := BitVec.add_zero _
  rw [h0, MixTile.word_sge]
  by_cases h : s.val ≤ t.val <;> simp [h, Scalar.select]
theorem sE_apply (R : Fin 8192) (C : Fin 2048) : sE p lng lnb ws bsp (ix2 R C) = GS p lng lnb ws bsp R C := by
  rw [sE, join_apply]
  pointwise
  simp only [split_apply, lowE_apply, vnE_apply, colG_grp, GS, mul_comm (GVN _ _ _ _ _)]
theorem sgE_apply (R : Fin 8192) (C : Fin 2048) : sgE p (ix2 R C) = Ideal.logistic (GZ p R C) := by
  rw [← zE_apply]
  pointwise [sgE, oneE]
  rfl
theorem szE_apply (R : Fin 8192) (C : Fin 2048) : szE p (ix2 R C) = GSZ p R C := by
  show zE p (ix2 R C) * sgE p (ix2 R C) = _
  rw [zE_apply, sgE_apply]; rfl
theorem usE_apply (R : Fin 8192) (C : Fin 2048) :
    usE p lng lnb ws bsp (ix2 R C) = GU p R C * GS p lng lnb ws bsp R C := by
  show uE p (ix2 R C) * sE p lng lnb ws bsp (ix2 R C) = _
  rw [uE_apply, sE_apply]
theorem yE_apply (R : Fin 8192) (C : Fin 2048) : yE p lng lnb ws bsp (ix2 R C) = GY p lng lnb ws bsp R C := by
  show usE p lng lnb ws bsp (ix2 R C) * szE p (ix2 R C) = _
  rw [usE_apply, szE_apply]; rfl
theorem dyE_apply (R : Fin 8192) (C : Fin 2048) : dyE wo dr (ix2 R C) = GDY wo dr R C := by
  pointwise [dyE]
  rfl
theorem gateE_apply (R : Fin 8192) (C : Fin 2048) : gateE p wo dr (ix2 R C) = GDY wo dr R C * GSZ p R C := by
  show dyE wo dr (ix2 R C) * szE p (ix2 R C) = _
  rw [dyE_apply, szE_apply]
theorem dsE_apply (R : Fin 8192) (C : Fin 2048) : dsE p wo dr (ix2 R C) = GDS p wo dr R C := by
  show uE p (ix2 R C) * gateE p wo dr (ix2 R C) = _
  rw [uE_apply, gateE_apply, GDS, mul_right_comm, mul_comm]
theorem duE_apply (R : Fin 8192) (C : Fin 2048) :
    duE p lng lnb ws bsp wo dr (ix2 R C) = GDU p lng lnb ws bsp wo dr R C := by
  show gateE p wo dr (ix2 R C) * sE p lng lnb ws bsp (ix2 R C) = _
  rw [gateE_apply, sE_apply, GDU, mul_assoc, mul_comm (GSZ p R C)]
/-- The gradient of the gate's argument as the reference sums it. -/
theorem dzE_apply (R : Fin 8192) (C : Fin 2048) :
    dzE p lng lnb ws bsp wo dr (ix2 R C)
      = GU p R C * GS p lng lnb ws bsp R C * GDY wo dr R C * Ideal.logistic (GZ p R C)
        + GZ p R C * (GU p R C * GS p lng lnb ws bsp R C * GDY wo dr R C)
          * (Ideal.logistic (GZ p R C) * (1 - Ideal.logistic (GZ p R C))) := by
  have h : dzE p lng lnb ws bsp wo dr (ix2 R C)
      = usE p lng lnb ws bsp (ix2 R C) * dyE wo dr (ix2 R C) * sgE p (ix2 R C)
        + zE p (ix2 R C) * (usE p lng lnb ws bsp (ix2 R C) * dyE wo dr (ix2 R C))
          * (sgE p (ix2 R C) * (1 - sgE p (ix2 R C))) := by
    pointwise [dzE, oneE]
  rw [h, usE_apply, dyE_apply, sgE_apply, zE_apply]
theorem dvnE_apply (R : Fin 8192) (C : Fin 2048) : dvnE p ws wo dr (ix2 R C) = GDVN p ws wo dr R C := by
  rw [dvnE, join_apply]
  pointwise [dstE]
  simp only [split_apply, lowE_apply, dsE_apply, colG_grp, GDVN, mul_comm (GDS _ _ _ _ _)]

end Cert.MixStage
-- ==== Proof.MixMath.lean ====
/-
  The scalar mathematics of the gated spatial mixer's backward pass: sums of real numbers inside the extended reals, the
  gate's derivative, and the derivative of a layer normalisation in the two forms the kernel and the reference compute.
-/
module

public import Idealize.ShloMosaic.Lib.Pointwise
public import Idealize.ShloMosaic.Lib.IdealHost

@[expose] public section

noncomputable section

namespace Cert.MixMath

open Idealize.ShloMosaic

/-! ## Real numbers inside the extended reals -/

/-- A sum of real numbers, taken in the extended reals, is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two real numbers, the second not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The reciprocal square root of a positive real number. -/
theorem rsqrt_coe_pos (a : ℝ) (ha : 0 < a) : Ideal.rsqrt (a : EReal) = (((Real.sqrt a)⁻¹ : ℝ) : EReal) := by
  rw [Ideal.rsqrt_coe, if_neg (not_lt.mpr ha.le), if_neg ha.ne']

/-- The number of columns a row is normalised over, as the programs spell it. -/
theorem width_coe : Ideal.ofBits .f32 0x45000000#32 = ((2048 : ℝ) : EReal) := by
  simp [Ideal.ofBits, Ideal.ieee, -EReal.coe_mul]; norm_num

/-- Two, as the programs spell it. -/
theorem two_coe : Ideal.ofBits .f32 0x40000000#32 = ((2 : ℝ) : EReal) := by
  simp [Ideal.ofBits, Ideal.ieee, -EReal.coe_mul]; norm_num

/-- Minus one half, as the programs spell it. -/
theorem neg_half_coe : Ideal.ofBits .f32 0xBF000000#32 = ((-(1 / 2) : ℝ) : EReal) := by
  simp [Ideal.ofBits, Ideal.ieee, -EReal.coe_mul, -EReal.coe_neg]; norm_num

/-- The number added to a variance, a positive real. -/
theorem eps_coe : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

/-! ## The derivative of the gate -/

/-- The derivative of `z ↦ z · σ(z)`, with the common factor `σ` taken out (the kernel) and as the product rule leaves
    it (the reference), under a multiplier. -/
theorem gate_backward (t s z g : ℝ) : (t * s) * (g * (1 + z * (1 - g))) = (t * s) * g + (z * (t * s)) * (g * (1 - g)) := by
  ring

/-! ## The derivative of the normalisation -/

/-- The derivative of `v ↦ (v - mean v) · (var v + ε)^(-1/2)` against `w`: the kernel's form on the left, with the
    normalised row `c · r`; on the right the chain rule through the variance and the two means. Here `c` is the centred
    row, whose sum is zero, and `r² · e = 1`. -/
theorem norm_backward {ι : Type} [Fintype ι] (n : ℝ) (hn : n ≠ 0) (c w : ι → ℝ) (hc : ∑ j, c j = 0) (r e : ℝ)
    (he : r * r * e = 1) (i : ι) :
    r * ((w i - (∑ j, w j) / n) - (c i * r) * ((∑ j, w j * (c j * r)) / n))
      = (w i * r + (((∑ j, c j * w j) * (-(1 / 2) * (r / e))) / n) * (2 * c i))
        + ((∑ j, -(w j * r)) + ∑ j, -((((∑ k, c k * w k) * (-(1 / 2) * (r / e))) / n) * (2 * c j))) / n := by
  have he0 : e ≠ 0 := by rintro rfl; simp at he
  have h1 : ∑ j, w j * (c j * r) = r * ∑ j, c j * w j := by
    rw [Finset.mul_sum]; exact Finset.sum_congr rfl fun j _ => by ring
  have h2 : ∑ j, -(w j * r) = -(r * ∑ j, w j) := by
    rw [Finset.mul_sum, ← Finset.sum_neg_distrib]; exact Finset.sum_congr rfl fun j _ => by ring
  have h3 : ∀ K : ℝ, ∑ j, -(K * (2 * c j)) = 0 := fun K => by
    have : ∑ j, -(K * (2 * c j)) = -(K * 2) * ∑ j, c j := by
      rw [Finset.mul_sum]; exact Finset.sum_congr rfl fun j _ => by ring
    rw [this, hc, mul_zero]
  have hr : r / e = r * r * r := by
    field_simp
    calc r = r * (r * r * e) := by rw [he, mul_one]
      _ = _ := by ring
  rw [h1, h2, h3, hr]
  ring

/-- A row's entries less their mean sum to zero. -/
theorem sum_centred {ι : Type} [Fintype ι] (n : ℝ) (hn : n ≠ 0) (hcard : (Fintype.card ι : ℝ) = n) (v : ι → ℝ) :
    ∑ j, (v j - (∑ k, v k) / n) = 0 := by
  rw [Finset.sum_sub_distrib, Finset.sum_const, Finset.card_univ, nsmul_eq_mul, hcard]
  field_simp; ring

/-- The reciprocal square root, squared, times its argument. -/
theorem inv_sqrt_sq (e : ℝ) (he : 0 < e) : (Real.sqrt e)⁻¹ * (Real.sqrt e)⁻¹ * e = 1 := by
  have hs : Real.sqrt e ≠ 0 := (Real.sqrt_pos.mpr he).ne'
  field_simp
  rw [Real.sq_sqrt he.le]

end Cert.MixMath
-- ==== Proof.MixRef.lean ====
/-
  The reference's six results as arrays built of the named ones, and what each holds at an index: the gradient's closed
  form. Five of them hold it for every argument; the projection's gradient needs the arguments finite.
-/
module
public import proofs.«01_k».proof.Proof.MixStage
public import proofs.«01_k».proof.Proof.MixMath
@[expose] public section
set_option maxRecDepth 16384
noncomputable section
namespace Cert.MixRef
open Cert.MixRefIdeal Cert.MixRefIdeal.Gen Cert.MixRefIdeal.Value Cert.MixGlobal Cert.MixStage Idealize.ShloMosaic Idealize.ShloMosaic.TcCoe Idealize.SL.Sem

variable (p : FVec Ideal S8192x6144 .f32) (lng lnb : FVec Ideal S1x2048 .f32) (ws : FVec Ideal S8x128x128 .f32)
  (bsp : FVec Ideal S8x128 .f32) (wo : FVec Ideal S2048x1024 .f32) (dr : FVec Ideal S8192x1024 .f32)

/-- The sum of each row, of each column. -/
def rowSum (x : FVec Ideal S8192x2048 .f32) : FVec Ideal S8192 .f32 :=
  Host.reduceAdd x zero0 reducesTo_S8192x2048_S8192_d1 h_S_
def colSum (x : FVec Ideal S8192x2048 .f32) : FVec Ideal S1x2048 .f32 :=
  shapeCast _ (Host.reduceAdd x zero0 reducesTo_S8192x2048_S2048_d0 h_S_) shapeCasts_S2048_S1x2048
def tallSum (x : FVec Ideal S8192x2048 .f32) : FVec Ideal S8192x1 .f32 :=
  shapeCast _ (rowSum x) shapeCasts_S8192_S8192x1
def over (x : FVec Ideal S8192x1 .f32) : FVec Ideal S8192x1 .f32 :=
  Host.divf x (broadcastInDim S8192x1 ![] bcast_S_S8192x1 (constant S_ .f32 0x45000000#32))
def spread (x : FVec Ideal S8192x1 .f32) : FVec Ideal S8192x2048 .f32 :=
  broadcastInDim S8192x2048 ![0] bcast_S8192_S8192x2048_0 (Host.reduceAdd x zero0 reducesTo_S8192x1_S8192_d1 h_S_)

def gw : FVec Ideal S2048x1024 .bf16 :=
  truncf .bf16 (transpose S2048x1024 [1, 0]
    (Host.dotGeneral dot_S8192x1024_S8192x2048_S1024x2048_0_0_1_1_n_n none dr (yE p lng lnb ws bsp))
    transposes_S1024x2048_S2048x1024_1_0) bitsLt_bf16_f32
def dws : FVec Ideal S8x128x128 .f32 :=
  lowE (Host.dotGeneral dot_S8x64x256x128_S64x128x8x256_S8x128x128_12_03_3_1_0_2 none (dstE p wo dr)
    (split (vnE p lng lnb)))
def dbs : FVec Ideal S128x128 .f32 :=
  pad S128x128 ![0, 0] ![0, 120] ![0, 0]
    (transpose S128x8 [1, 0] (transpose S8x128 [1, 0]
      (Host.reduceAdd (broadcastInDim S128x8x1 ![0, 1] bcast_S128x8_S128x8x1_0_1
        (Host.reduceAdd (shapeCast _ (Host.reduceAdd (split (dsE p wo dr)) zero0 reducesTo_S64x128x8x256_S128x8_d0_3 h_S_)
          shapeCasts_S128x8_S1x128x8x1) zero0 reducesTo_S1x128x8x1_S128x8_d0_3 h_S_))
        zero0 reducesTo_S128x8x1_S128x8_d2 h_S_) transposes_S128x8_S8x128_1_0) transposes_S8x128_S128x8_1_0)
    (sitofp .f32 (constantI S_ 32 0#32)) pads_S128x8_S128x128_000_01200 h_S_
def dg : FVec Ideal S1x2048 .f32 := colSum (mulf (vhE p) (dvnE p ws wo dr))
def db : FVec Ideal S1x2048 .f32 := colSum (dvnE p ws wo dr)
/-- The gradient through the normalisation: the part through the inverse root, twice the centred values, and what the
    mean takes back. -/
def wE : FVec Ideal S8192x2048 .f32 := mulf (dvnE p ws wo dr) (tall lng)
def wrE : FVec Ideal S8192x2048 .f32 := mulf (wE p lng ws wo dr) (wide (rE p))
def rootE : FVec Ideal S8192x1 .f32 :=
  mulf (broadcastInDim S8192x1 ![] bcast_S_S8192x1 (constant S_ .f32 0xBF000000#32)) (Host.divf (rE p) (eE p))
def varE : FVec Ideal S8192x2048 .f32 :=
  mulf (spread (over (mulf (tallSum (mulf (cE p) (wE p lng ws wo dr))) (rootE p))))
    (mulf (broadcastInDim S8192x2048 ![] bcast_S_S8192x2048 (constant S_ .f32 0x40000000#32)) (cE p))
def dvE : FVec Ideal S8192x2048 .f32 :=
  addf (addf (wrE p lng ws wo dr) (varE p lng ws wo dr))
    (spread (over (addf (tallSum (Host.negf (wrE p lng ws wo dr))) (tallSum (Host.negf (varE p lng ws wo dr))))))
def dp : FVec Ideal S8192x6144 .bf16 :=
  truncf .bf16 (concatenate S8192x6144 1 [⟨S8192x2048, duE p lng lnb ws bsp wo dr⟩, ⟨S8192x2048, dvE p lng ws wo dr⟩,
    ⟨S8192x2048, dzE p lng lnb ws bsp wo dr⟩] concatenates_S8192x2048_S8192x2048_S8192x2048_S8192x6144_d1) bitsLt_bf16_f32

variable (m : (ℓ : Loc nD τ sig) → Buf (Elt Ideal) ℓ) (c : Dev nD)
set_option maxHeartbeats 4000000
theorem dp_eq : res_main_v99 m c = dp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
theorem gw_eq : res_main_v100 m c = gw (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) := rfl
theorem runs (ρ : Dev nD → PrngReg) : θ_run defs (onTc (τ := τ) (main (F := Ideal))) ⟨m, fun _ => 0, ρ⟩ fun r => ∀ c : Dev nD,
      r.2.mem ((c.tc : Thread nD τ).loc main_v65) = dws (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v102) = dbs (m ((c.tc : Thread nD τ).loc main_arg0)) (m ((c.tc : Thread nD τ).loc main_arg5)) (m ((c.tc : Thread nD τ).loc main_arg6))
      ∧ r.2.mem ((c.tc : Thread nD τ).loc main_v71) = dg (m ((c.tc : Thread nD τ).loc main_arg0))  (m ((c.tc : Thread nD τ).loc main_arg3)) (m ((c.tc : Thread nD τ).loc main_arg5)) (m ((c.tc : Thread nD τ).loc main_arg6))
      ∧ r.2.mem ((c.tc : Thread nD τ).loc main_v68) = db (m ((c.tc : Thread nD τ).loc main_arg0)) (m ((c.tc : Thread nD τ).loc main_arg3)) (m ((c.tc : Thread nD τ).loc main_arg5)) (m ((c.tc : Thread nD τ).loc main_arg6)) :=
  (θ_run defs _ _).mono (fun _ h c => ⟨(h c).2.2.1, (h c).2.2.2.1, (h c).2.2.2.2.1, (h c).2.2.2.2.2.1⟩) (run m ρ)

theorem gw_apply (C : Fin 2048) (e : Fin 1024) :
    gw p lng lnb ws bsp dr (ix2 C e) = O1 p lng lnb ws bsp dr (ix2 C e) := by
  pointwise [gw]
  simp only [yE_apply, mul_comm (dr _)]
  rfl

theorem dws_apply (g : Fin 8) (t s : Fin 128) :
    dws p lng lnb wo dr (ix3 g t s) = O2 p lng lnb wo dr (ix3 g t s) := by
  rw [dws, lowE_apply, GLOW]
  pointwise [dstE]
  simp only [split_apply, vnE_apply, dsE_apply]
  rfl

/-- A sum over the first and the last of four axes. -/
theorem sum_first_last {n0 n1 n2 n3 : Nat} (h : (⟨4, ![n0, n1, n2, n3]⟩ : Shape).ReducesTo [0, 3] ⟨2, ![n1, n2]⟩)
    (v : (⟨4, ![n0, n1, n2, n3]⟩ : Shape).Idx → EReal) (init : EReal) (a : Fin n1) (b : Fin n2) :
    Ideal.hostReduceAdd h v init (ix2 a b) = init + ∑ k0 : Fin n0, ∑ k1 : Fin n3, v (ix4 k0 a b k1) := by
  refine congrArg (init + ·) ?_
  refine (Finset.sum_filter_eq_sum_of_fiber _ (fun k : Fin n0 × Fin n3 => ix4 k.1 a b k.2)
    (fun _ _ e => Prod.ext (congrFun e 0) (congrFun e 3)) (fun i => ?_) v).trans (by simp only [Fintype.sum_prod_type])
  constructor
  · intro e
    refine ⟨(i 0, i 3), ?_⟩
    funext x; apply Fin.ext
    match x with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext x
    apply Fin.ext
    match x with
    | ⟨0, _⟩ => rfl
    | ⟨1, _⟩ => rfl

theorem dbs_apply (t l : Fin 128) : dbs p wo dr (ix2 t l) = O3 p wo dr (ix2 t l) := by
  pointwise [dbs, zero0]
  have hz : (FloatOps.sitofp (F := Ideal) FTy.f32 (0#32) : EReal) = 0 := by
    show ((((0#32 : BitVec 32).toInt : ℤ) : ℝ) : EReal) = 0
    simp
  rw [hz]
  show _ = if h : l.val < 8 then _ else _
  refine dite_congr rfl (fun h => ?_) fun _ => rfl
  simp only [sum_first_last]
  pointwise
  simp only [Fin.sum_univ_one]
  rw [sum_first_last, zero_add]
  simp only [split_apply, dsE_apply]

theorem colSum_apply (x : FVec Ideal S8192x2048 .f32) (C : Fin 2048) (o : Fin 1) :
    colSum x (ix2 o C) = ∑ R : Fin 8192, x (ix2 R C) := by
  pointwise [colSum, zero0]
theorem dg_apply (C : Fin 2048) (o : Fin 1) : dg p ws wo dr (ix2 o C) = O4 p ws wo dr (ix2 o C) := by
  rw [dg, colSum_apply]
  refine Finset.sum_congr rfl fun R _ => ?_
  show vhE p (ix2 R C) * dvnE p ws wo dr (ix2 R C) = _
  rw [vhE_apply, dvnE_apply, mul_comm]; rfl
theorem db_apply (C : Fin 2048) (o : Fin 1) : db p ws wo dr (ix2 o C) = O5 p ws wo dr (ix2 o C) := by
  rw [db, colSum_apply]
  exact Finset.sum_congr rfl fun R _ => dvnE_apply p ws wo dr R C

theorem tallSum_apply (x : FVec Ideal S8192x2048 .f32) (R : Fin 8192) (o : Fin 1) :
    tallSum x (ix2 R o) = ∑ C : Fin 2048, x (ix2 R C) := by
  pointwise [tallSum, rowSum, zero0]
theorem over_apply (x : FVec Ideal S8192x1 .f32) (R : Fin 8192) (o : Fin 1) :
    over x (ix2 R o) = Ideal.div (x (ix2 R o)) GW := by
  pointwise [over]
  rfl
theorem spread_apply (x : FVec Ideal S8192x1 .f32) (R : Fin 8192) (C : Fin 2048) : spread x (ix2 R C) = x (ix2 R 0) := by
  pointwise [spread, zero0]
  exact Fin.sum_univ_one _
theorem rootE_apply (R : Fin 8192) (o : Fin 1) :
    rootE p (ix2 R o) = Ideal.ofBits .f32 0xBF000000#32 * Ideal.div (GR p R) (GE p R) := by
  rw [← rE_apply p R o, ← eE_apply p R o]
  pointwise [rootE]
theorem wE_apply (R : Fin 8192) (C : Fin 2048) :
    wE p lng ws wo dr (ix2 R C) = GDVN p ws wo dr R C * lng (ix2 0 C) := by
  show dvnE p ws wo dr (ix2 R C) * tall lng (ix2 R C) = _
  rw [dvnE_apply, tall_apply]
theorem wrE_apply (R : Fin 8192) (C : Fin 2048) :
    wrE p lng ws wo dr (ix2 R C) = GDVN p ws wo dr R C * lng (ix2 0 C) * GR p R := by
  show wE p lng ws wo dr (ix2 R C) * wide (rE p) (ix2 R C) = _
  rw [wE_apply, wide_apply, rE_apply]
theorem varE_apply (R : Fin 8192) (C : Fin 2048) :
    varE p lng ws wo dr (ix2 R C)
      = Ideal.div ((∑ i : Fin 2048, GC p R i * (GDVN p ws wo dr R i * lng (ix2 0 i)))
          * (Ideal.ofBits .f32 0xBF000000#32 * Ideal.div (GR p R) (GE p R))) GW
        * (Ideal.ofBits .f32 0x40000000#32 * GC p R C) := by
  have h : varE p lng ws wo dr (ix2 R C)
      = spread (over (mulf (tallSum (mulf (cE p) (wE p lng ws wo dr))) (rootE p))) (ix2 R C)
        * (Ideal.ofBits .f32 0x40000000#32 * cE p (ix2 R C)) := by
    pointwise [varE]
  have k : ∀ i, mulf (cE p) (wE p lng ws wo dr) (ix2 R i) = GC p R i * (GDVN p ws wo dr R i * lng (ix2 0 i)) := fun i => by
    show cE p (ix2 R i) * wE p lng ws wo dr (ix2 R i) = _
    rw [cE_apply, wE_apply]
  have l : mulf (tallSum (mulf (cE p) (wE p lng ws wo dr))) (rootE p) (ix2 R 0)
      = tallSum (mulf (cE p) (wE p lng ws wo dr)) (ix2 R 0) * rootE p (ix2 R 0) := rfl
  rw [h, spread_apply, over_apply, l, tallSum_apply, rootE_apply, cE_apply]
  simp only [k]
theorem dvE_apply (R : Fin 8192) (C : Fin 2048) :
    dvE p lng ws wo dr (ix2 R C)
      = wrE p lng ws wo dr (ix2 R C) + varE p lng ws wo dr (ix2 R C)
        + Ideal.div ((∑ i : Fin 2048, -(wrE p lng ws wo dr (ix2 R i))) + ∑ i : Fin 2048, -(varE p lng ws wo dr (ix2 R i))) GW := by
  have h : dvE p lng ws wo dr (ix2 R C) = wrE p lng ws wo dr (ix2 R C) + varE p lng ws wo dr (ix2 R C)
        + spread (over (addf (tallSum (Host.negf (wrE p lng ws wo dr))) (tallSum (Host.negf (varE p lng ws wo dr))))) (ix2 R C) := rfl
  have l : addf (tallSum (Host.negf (wrE p lng ws wo dr))) (tallSum (Host.negf (varE p lng ws wo dr))) (ix2 R 0)
    = tallSum (Host.negf (wrE p lng ws wo dr)) (ix2 R 0) + tallSum (Host.negf (varE p lng ws wo dr)) (ix2 R 0) := rfl
  rw [h, spread_apply, over_apply, l, tallSum_apply, tallSum_apply]
  rfl

/-! ## The two parts that need real numbers -/

/-- A value that is a real number. -/
def Real' (x : EReal) : Prop := ∃ r : ℝ, x = (r : EReal)

theorem Real'.add {a b : EReal} (ha : Real' a) (hb : Real' b) : Real' (a + b) := by
  obtain ⟨x, rfl⟩ := ha; obtain ⟨y, rfl⟩ := hb; exact ⟨x + y, (EReal.coe_add x y).symm⟩
theorem Real'.sub {a b : EReal} (ha : Real' a) (hb : Real' b) : Real' (a - b) := by
  obtain ⟨x, rfl⟩ := ha; obtain ⟨y, rfl⟩ := hb; exact ⟨x - y, (EReal.coe_sub x y).symm⟩
theorem Real'.mul {a b : EReal} (ha : Real' a) (hb : Real' b) : Real' (a * b) := by
  obtain ⟨x, rfl⟩ := ha; obtain ⟨y, rfl⟩ := hb; exact ⟨x * y, (EReal.coe_mul x y).symm⟩
theorem Real'.sum {ι : Type} [Fintype ι] {f : ι → EReal} (h : ∀ i, Real' (f i)) : Real' (∑ i, f i) := by
  choose g hg using h
  exact ⟨∑ i, g i, by simp only [hg]; exact MixMath.sum_coe _ g⟩
theorem Real'.logistic {a : EReal} (ha : Real' a) : Real' (Ideal.logistic a) := by
  obtain ⟨x, rfl⟩ := ha; exact ⟨_, Ideal.logistic_coe x⟩

section
variable (hp : ∀ i, Real' (p i)) (hg : ∀ i, Real' (lng i)) (hb : ∀ i, Real' (lnb i)) (hw : ∀ i, Real' (ws i))
  (hs : ∀ i, Real' (bsp i)) (ho : ∀ i, Real' (wo i)) (hd : ∀ i, Real' (dr i))
include hp

theorem real_c (R : Fin 8192) : ∃ (v : Fin 2048 → ℝ), ∀ C, GC p R C = ((v C - (∑ k, v k) / 2048 : ℝ) : EReal) := by
  have h : ∀ C, Real' (GV p R C) := fun C => hp _
  choose v hv using h
  refine ⟨v, fun C => ?_⟩
  simp only [GC, GMU, hv]
  rw [MixMath.sum_coe, GW, MixMath.width_coe, MixMath.div_coe _ _ (by norm_num), ← EReal.coe_sub]

/-- The row normalised: centred values that sum to zero, and a positive number whose inverse root scales them. -/
theorem real_norm (R : Fin 8192) : ∃ (c : Fin 2048 → ℝ) (e : ℝ), 0 < e ∧ (∀ C, GC p R C = (c C : EReal)) ∧ ∑ C, c C = 0
    ∧ GE p R = (e : EReal) ∧ GR p R = (((Real.sqrt e)⁻¹ : ℝ) : EReal) := by
  obtain ⟨v, hv⟩ := real_c p hp R
  obtain ⟨ε, hε, he⟩ := MixMath.eps_coe
  set c : Fin 2048 → ℝ := fun C => v C - (∑ k, v k) / 2048 with hc
  have h1 : GE p R = (((∑ i, c i * c i) / 2048 + ε : ℝ) : EReal) := by
    simp only [GE, hv, ← EReal.coe_mul]
    rw [MixMath.sum_coe, GW, MixMath.width_coe, MixMath.div_coe _ _ (by norm_num), he, ← EReal.coe_add]
  have h0 : 0 < (∑ i, c i * c i) / 2048 + ε := by
    have : 0 ≤ ∑ i, c i * c i := Finset.sum_nonneg fun i _ => mul_self_nonneg _
    positivity
  refine ⟨c, _, h0, hv, MixMath.sum_centred 2048 (by norm_num) (by simp) v, h1, ?_⟩
  rw [GR, h1, MixMath.rsqrt_coe_pos _ h0]

include hg hb hw hs ho hd

theorem real_dy (R : Fin 8192) (C : Fin 2048) : Real' (GDY wo dr R C) := Real'.sum fun _ => (hd _).mul (ho _)
theorem real_low (g : Fin 8) (t s : Fin 128) : Real' (GLOW ws g t s) := by
  unfold GLOW; split
  · exact hw _
  · exact ⟨0, rfl⟩
theorem real_ds (R : Fin 8192) (C : Fin 2048) : Real' (GDS p wo dr R C) :=
  ((Real'.sum fun _ => (hd _).mul (ho _)).mul (hp _)).mul ((hp _).mul (hp _).logistic)
theorem real_s (R : Fin 8192) (C : Fin 2048) : Real' (GS p lng lnb ws bsp R C) := by
  refine Real'.add (Real'.sum fun s => Real'.mul (real_low p lng lnb ws bsp wo dr hp hg hb hw hs ho hd _ _ _) ?_) (hs _)
  obtain ⟨c, e, _, hc, _, _, hr⟩ := real_norm p hp (rowG (chk R) s)
  refine Real'.add (Real'.mul ?_ (hg _)) (hb _)
  exact Real'.mul ⟨_, hc _⟩ ⟨_, hr⟩
theorem real_dvn (R : Fin 8192) (C : Fin 2048) : Real' (GDVN p ws wo dr R C) :=
  Real'.sum fun _ => (real_low p lng lnb ws bsp wo dr hp hg hb hw hs ho hd _ _ _).mul
    (real_ds p lng lnb ws bsp wo dr hp hg hb hw hs ho hd _ _)

theorem dz_apply (R : Fin 8192) (C : Fin 2048) :
    dzE p lng lnb ws bsp wo dr (ix2 R C) = GDZ p lng lnb ws bsp wo dr R C := by
  rw [dzE_apply, GDZ]
  obtain ⟨y, hy⟩ := real_dy p lng lnb ws bsp wo dr hp hg hb hw hs ho hd R C
  obtain ⟨s, hs'⟩ := real_s p lng lnb ws bsp wo dr hp hg hb hw hs ho hd R C
  obtain ⟨u, hu⟩ : Real' (GU p R C) := hp _
  obtain ⟨z, hz⟩ : Real' (GZ p R C) := hp _
  obtain ⟨σ, hσ⟩ : Real' (Ideal.logistic (GZ p R C)) := (hp _).logistic
  rw [hσ, hy, hs', hu, hz]
  have := MixMath.gate_backward (y * u) s z σ
  have h1 : (1 : EReal) = ((1 : ℝ) : EReal) := rfl
  rw [h1]
  simp only [← EReal.coe_mul, ← EReal.coe_add, ← EReal.coe_sub]
  rw [this]
  congr 1; ring

theorem dv_apply (R : Fin 8192) (C : Fin 2048) :
    dvE p lng ws wo dr (ix2 R C) = GDV p lng ws wo dr R C := by
  rw [dvE_apply, GDV]
  simp only [wrE_apply, varE_apply, GVH]
  obtain ⟨c, e, he, hc, hc0, hE, hR⟩ := real_norm p hp R
  have h : ∀ i, Real' (GDVN p ws wo dr R i * lng (ix2 0 i)) := fun i =>
    (real_dvn p lng lnb ws bsp wo dr hp hg hb hw hs ho hd R i).mul (hg _)
  choose w hw' using h
  simp only [hw', hc, hE, hR, GW, MixMath.width_coe, MixMath.two_coe, MixMath.neg_half_coe]
  have d0 : (2048 : ℝ) ≠ 0 := by norm_num
  simp only [← EReal.coe_mul, ← EReal.coe_neg, MixMath.sum_coe, MixMath.div_coe _ _ d0, MixMath.div_coe _ _ he.ne',
    ← EReal.coe_add, ← EReal.coe_sub]
  exact congrArg _ (MixMath.norm_backward 2048 d0 c w hc0 _ e (MixMath.inv_sqrt_sq e he) C).symm

theorem dp_apply (R : Fin 8192) (Q : Fin 6144) :
    dp p lng lnb ws bsp wo dr (ix2 R Q) = O0 p lng lnb ws bsp wo dr (ix2 R Q) := by
  pointwise [dp]
  simp only [duE_apply, dv_apply p lng lnb ws bsp wo dr hp hg hb hw hs ho hd,
    dz_apply p lng lnb ws bsp wo dr hp hg hb hw hs ho hd]
  show _ = if h : Q.val < 2048 then _ else if h' : Q.val < 4096 then _ else _
  refine dite_congr rfl (fun _ => rfl) fun h => ?_
  by_cases h' : Q.val < 4096
  · rw [dif_pos h', dif_pos (by omega)]; rfl
  · rw [dif_neg h', dif_neg (by omega)]
    rfl
end

end Cert.MixRef
-- ==== Proof.BgradRef.lean ====
/-
  The reference's five results as arrays built one after another, and what each holds at an index. Four of them hold the
  closed form for every argument; the gradient through the normalisation needs the arguments finite.
-/
module

public import proofs.«01_k».proof.Proof.BgradTile
public import proofs.«01_k».proof.Proof.MixRef
public import proofs.«01_k».proof.Proof.Gen.BgradRefIdeal.Run

@[expose] public section

set_option maxRecDepth 16384

noncomputable section

namespace Cert.BgradRef

open Cert.BgradRefIdeal Cert.BgradRefIdeal.Gen Cert.BgradRefIdeal.Value Cert.BgradTile Idealize.ShloMosaic Idealize.ShloMosaic.TcCoe Idealize.SL.Sem
open Cert.MixRef (Real')

variable (x : FVec Ideal S8192x1024 .f32) (g b : FVec Ideal S1x1024 .f32) (w : FVec Ideal S1024x2048 .f32) (wk : FVec Ideal S1024x256 .f32)
  (dr q z : FVec Ideal S8192x1024 .f32) (k v : FVec Ideal S8192x256 .f32) (ck cv : FVec Ideal S16x128x256 .f32)

/-! ## Arrays -/

def zero0 : FVec Ideal S_ .f32 := constant S_ .f32 0x00000000#32
/-- The gradient of the doubled keys or values with the next tile's part. -/
def carryE (d : FVec Ideal S8192x256 .f32) (c : FVec Ideal S16x128x256 .f32) : FVec Ideal S8192x256 .f32 :=
  shapeCast _ (addf (shapeCast _ d shapeCasts_S8192x256_S16x512x256)
    (pad S16x512x256 ![0, 384, 0] ![1, 0, 0] ![0, 0, 0] (extractStridedSlice S15x128x256 ![1, 0, 0] c slices_S16x128x256_S15x128x256_1_0_0)
      (sitofp .f32 (constantI S_ 32 0#32)) pads_S15x128x256_S16x512x256_010_38400_000 h_S_)) shapeCasts_S16x512x256_S8192x256
/-- The two copies of a head's columns added. -/
def headE (d : FVec Ideal S8192x256 .f32) : FVec Ideal S8192x128 .f32 :=
  shapeCast _ (broadcastInDim S8192x2x1x64 ![0, 1, 3] bcast_S8192x2x64_S8192x2x1x64_0_1_3
    (Host.reduceAdd (shapeCast _ d shapeCasts_S8192x256_S8192x2x2x64) zero0 reducesTo_S8192x2x2x64_S8192x2x64_d2 h_S_))
    shapeCasts_S8192x2x1x64_S8192x128
/-- The mean of each row. -/
def meanE (y : FVec Ideal S8192x1024 .f32) : FVec Ideal S8192x1 .f32 :=
  Host.divf (broadcastInDim S8192x1 ![0] bcast_S8192_S8192x1_0 (Host.reduceAdd y zero0 reducesTo_S8192x1024_S8192_d1 h_S_))
    (broadcastInDim S8192x1 ![] bcast_S_S8192x1 (constant S_ .f32 0x44800000#32))
def wide (y : FVec Ideal S8192x1 .f32) : FVec Ideal S8192x1024 .f32 := broadcastInDim S8192x1024 ![0, 1] bcast_S8192x1_S8192x1024_0_1 y
def tall (y : FVec Ideal S1x1024 .f32) : FVec Ideal S8192x1024 .f32 := broadcastInDim S8192x1024 ![0, 1] bcast_S1x1024_S8192x1024_0_1 y
def cE : FVec Ideal S8192x1024 .f32 := subf x (wide (meanE x))
def eE : FVec Ideal S8192x1 .f32 :=
  addf (meanE (mulf (cE x) (cE x))) (broadcastInDim S8192x1 ![] bcast_S_S8192x1 (constant S_ .f32 0x3727C5AC#32))
def rE : FVec Ideal S8192x1 .f32 := Host.rsqrt (eE x)
def xE : FVec Ideal S8192x1024 .f32 := mulf (cE x) (wide (rE x))
def hE : FVec Ideal S8192x1024 .f32 := addf (mulf (xE x) (tall g)) (tall b)
/-- The gradients of keys and values, and of queries and gate, side by side. -/
def kvE : FVec Ideal S8192x256 .f32 :=
  concatenate S8192x256 1 [⟨S8192x128, headE (carryE k ck)⟩, ⟨S8192x128, headE (carryE v cv)⟩] concatenates_S8192x128_S8192x128_S8192x256_d1
def qzE : FVec Ideal S8192x2048 .f32 :=
  concatenate S8192x2048 1 [⟨S8192x1024, q⟩, ⟨S8192x1024, z⟩] concatenates_S8192x1024_S8192x1024_S8192x2048_d1
/-- The gradient of the layer's input. -/
def dE : FVec Ideal S8192x1024 .f32 :=
  addf (addf (mulf (broadcastInDim S8192x1024 ![] bcast_S_S8192x1024 (constant S_ .f32 0x3FB504F3#32)) dr)
      (Host.dotGeneral dot_S8192x256_S1024x256_S8192x1024_1_1_0_0_n_n none (kvE k v ck cv) wk))
    (Host.dotGeneral dot_S8192x2048_S1024x2048_S8192x1024_1_1_0_0_n_n none (qzE q z) w)
def colSum (y : FVec Ideal S8192x1024 .f32) : FVec Ideal S1x1024 .f32 :=
  shapeCast _ (Host.reduceAdd y zero0 reducesTo_S8192x1024_S1024_d0 h_S_) shapeCasts_S1024_S1x1024
def tallSum (y : FVec Ideal S8192x1024 .f32) : FVec Ideal S8192x1 .f32 :=
  shapeCast _ (Host.reduceAdd y zero0 reducesTo_S8192x1024_S8192_d1 h_S_) shapeCasts_S8192_S8192x1
def over (y : FVec Ideal S8192x1 .f32) : FVec Ideal S8192x1 .f32 :=
  Host.divf y (broadcastInDim S8192x1 ![] bcast_S_S8192x1 (constant S_ .f32 0x44800000#32))
def spread (y : FVec Ideal S8192x1 .f32) : FVec Ideal S8192x1024 .f32 :=
  broadcastInDim S8192x1024 ![0] bcast_S8192_S8192x1024_0 (Host.reduceAdd y zero0 reducesTo_S8192x1_S8192_d1 h_S_)

/-- The results but the first. -/
def dg : FVec Ideal S1x1024 .f32 := colSum (mulf (xE x) (dE w wk dr q z k v ck cv))
def db : FVec Ideal S1x1024 .f32 := colSum (dE w wk dr q z k v ck cv)
def parts : FVec Ideal S8x512x512 .bf16 :=
  shapeCast _ (transpose S4x2x512x512 [2, 0, 1, 3] (shapeCast _ (truncf .bf16 (transpose S1024x2048 [1, 0]
    (Host.dotGeneral dot_S8192x2048_S8192x1024_S2048x1024_0_0_1_1_n_n none (qzE q z) (hE x g b)) transposes_S2048x1024_S1024x2048_1_0) bitsLt_bf16_f32)
      shapeCasts_S1024x2048_S2x512x4x512) transposes_S2x512x4x512_S4x2x512x512_2_0_1_3) shapeCasts_S4x2x512x512_S8x512x512
def dkv : FVec Ideal S1024x256 .bf16 :=
  truncf .bf16 (transpose S1024x256 [1, 0]
    (Host.dotGeneral dot_S8192x256_S8192x1024_S256x1024_0_0_1_1_n_n none (kvE k v ck cv) (hE x g b)) transposes_S256x1024_S1024x256_1_0) bitsLt_bf16_f32

/-- The gradient through the normalisation, of a gradient `D` of the normalised row's image: the part through the inverse
    root, twice the centred values, and what the mean takes back. -/
def wE (D : FVec Ideal S8192x1024 .f32) : FVec Ideal S8192x1024 .f32 := mulf D (tall g)
def wrE (D : FVec Ideal S8192x1024 .f32) : FVec Ideal S8192x1024 .f32 := mulf (wE g D) (wide (rE x))
def rootE : FVec Ideal S8192x1 .f32 :=
  mulf (broadcastInDim S8192x1 ![] bcast_S_S8192x1 (constant S_ .f32 0xBF000000#32)) (Host.divf (rE x) (eE x))
def varE (D : FVec Ideal S8192x1024 .f32) : FVec Ideal S8192x1024 .f32 :=
  mulf (spread (over (mulf (tallSum (mulf (cE x) (wE g D))) (rootE x))))
    (mulf (broadcastInDim S8192x1024 ![] bcast_S_S8192x1024 (constant S_ .f32 0x40000000#32)) (cE x))
def normE (D : FVec Ideal S8192x1024 .f32) : FVec Ideal S8192x1024 .f32 :=
  addf (addf (wrE x g D) (varE x g D)) (spread (over (addf (tallSum (Host.negf (wrE x g D))) (tallSum (Host.negf (varE x g D))))))
def dx : FVec Ideal S8192x1024 .f32 := normE x g (dE w wk dr q z k v ck cv)

/-! ## The run -/

section
variable (m : (ℓ : Loc nD τ sig) → Buf (Elt Ideal) ℓ) (c : Dev nD)
set_option maxHeartbeats 4000000

theorem dx_run : res_main_v101 m c = dx (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl
theorem runs (ρ : Dev nD → PrngReg) : θ_run defs (onTc (τ := τ) (main (F := Ideal))) ⟨m, fun _ => 0, ρ⟩ fun r => ∀ c : Dev nD,
      r.2.mem ((c.tc : Thread nD τ).loc main_v75) = dg (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v72) = db (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v105) = parts (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))
      ∧ r.2.mem ((c.tc : Thread nD τ).loc main_v106) = dkv (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) :=
  (θ_run defs _ _).mono (fun _ h c => ⟨(h c).2.1, (h c).2.2.1, (h c).2.2.2.1, (h c).2.2.2.2.1⟩) (run m ρ)
end

/-! ## Elements -/

theorem carryE_apply (d : FVec Ideal S8192x256 .f32) (c : FVec Ideal S16x128x256 .f32) (R : Fin 8192) (C : Fin 256) :
    carryE d c (ix2 R C) = HT d c R C := by
  pointwise [carryE]
  have hz : (FloatOps.sitofp (F := Ideal) FTy.f32 (0#32) : EReal) = 0 := by
    show ((((0#32 : BitVec 32).toInt : ℤ) : ℝ) : EReal) = 0
    simp
  refine (congrArg (d (ix2 R C) + ·) (dite_congr (v := fun _ => (0 : EReal)) rfl (fun _ => rfl) fun _ => hz)).trans ?_
  unfold HT
  by_cases h : 384 ≤ R.val % 512
  · by_cases h' : R.val / 512 < 15
    · have p : R.val / 512 < 15 ∧ 384 ≤ R.val % 512 ∧ R.val % 512 - 384 < 128 := ⟨h', h, by omega⟩
      simp only [dif_pos h, dif_pos h', dif_pos p]
      exact congrArg (fun i : Fin 16 => d (ix2 R C) + c (ix3 i ⟨R.val % 512 - 384, by omega⟩ C)) (Fin.ext (Nat.add_comm _ _))
    · have p : ¬(R.val / 512 < 15 ∧ 384 ≤ R.val % 512 ∧ R.val % 512 - 384 < 128) := fun e => h' e.1
      simp only [dif_pos h, dif_neg h', dif_neg p]
  · have p : ¬(R.val / 512 < 15 ∧ 384 ≤ R.val % 512 ∧ R.val % 512 - 384 < 128) := fun e => h e.2.1
    simp only [dif_neg h, dif_neg p, add_zero]
theorem headE_apply (d : FVec Ideal S8192x256 .f32) (R : Fin 8192) (j : Fin 128) :
    headE d (ix2 R j) = d (ix2 R (colA j)) + d (ix2 R (colB j)) := by
  pointwise [headE, zero0]
  rw [Fin.sum_univ_two]
  refine congrArg₂ (· + ·) (congrArg (fun C => d (ix2 R C)) (Fin.ext ?_)) (congrArg (fun C => d (ix2 R C)) (Fin.ext ?_))
  · show j.val / 64 * 128 + 0 * 64 + j.val % 64 = 128 * (j.val / 64) + j.val % 64; omega
  · show j.val / 64 * 128 + 1 * 64 + j.val % 64 = 128 * (j.val / 64) + j.val % 64 + 64; omega
theorem meanE_apply (y : FVec Ideal S8192x1024 .f32) (R : Fin 8192) (o : Fin 1) :
    meanE y (ix2 R o) = Ideal.div (∑ i : Fin 1024, y (ix2 R i)) HW := by
  pointwise [meanE, zero0]
  rfl
theorem wide_apply (y : FVec Ideal S8192x1 .f32) (R : Fin 8192) (C : Fin 1024) : wide y (ix2 R C) = y (ix2 R 0) := by
  pointwise [wide]
theorem tall_apply (y : FVec Ideal S1x1024 .f32) (R : Fin 8192) (C : Fin 1024) : tall y (ix2 R C) = y (ix2 0 C) := by
  pointwise [tall]
theorem cE_apply (R : Fin 8192) (C : Fin 1024) : cE x (ix2 R C) = HC x R C := by
  show x (ix2 R C) - wide (meanE x) (ix2 R C) = _
  rw [wide_apply, meanE_apply]; rfl
theorem eE_apply (R : Fin 8192) (o : Fin 1) : eE x (ix2 R o) = HE x R := by
  have h : eE x (ix2 R o) = meanE (mulf (cE x) (cE x)) (ix2 R o) + Ideal.ofBits .f32 0x3727C5AC#32 := by
    pointwise [eE]
  rw [h, meanE_apply]
  have l : ∀ i, mulf (cE x) (cE x) (ix2 R i) = HC x R i * HC x R i := fun i => by
    show cE x (ix2 R i) * cE x (ix2 R i) = _
    rw [cE_apply]
  simp only [l]; rfl
theorem rE_apply (R : Fin 8192) (o : Fin 1) : rE x (ix2 R o) = HR x R := by
  show Ideal.rsqrt (eE x (ix2 R o)) = _
  rw [eE_apply]; rfl
theorem xE_apply (R : Fin 8192) (C : Fin 1024) : xE x (ix2 R C) = HX x R C := by
  show cE x (ix2 R C) * wide (rE x) (ix2 R C) = _
  rw [wide_apply, rE_apply, cE_apply]; rfl
theorem hE_apply (R : Fin 8192) (C : Fin 1024) : hE x g b (ix2 R C) = HH x g b R C := by
  show xE x (ix2 R C) * tall g (ix2 R C) + tall b (ix2 R C) = _
  rw [tall_apply, tall_apply, xE_apply]; rfl
theorem kvE_apply (R : Fin 8192) (j : Fin 256) : kvE k v ck cv (ix2 R j) = HKV k v ck cv R j := by
  pointwise [kvE]
  simp only [headE_apply, carryE_apply]
  rfl
theorem qzE_apply (R : Fin 8192) (j : Fin 2048) : qzE q z (ix2 R j) = HQZ q z R j := by
  pointwise [qzE]
  rfl
theorem sum_halves (f : Fin 2048 → EReal) :
    ∑ d, f d = (∑ d : Fin 1024, f ⟨d.val, by omega⟩) + ∑ d : Fin 1024, f ⟨1024 + d.val, by omega⟩ :=
  Fin.sum_univ_add (a := 1024) (b := 1024) f
theorem dE_apply (R : Fin 8192) (e : Fin 1024) : dE w wk dr q z k v ck cv (ix2 R e) = HD w wk dr q z k v ck cv R e := by
  have h : dE w wk dr q z k v ck cv (ix2 R e) = Ideal.ofBits .f32 0x3FB504F3#32 * dr (ix2 R e)
      + (∑ j : Fin 256, HKV k v ck cv R j * wk (ix2 e j)) + ∑ d : Fin 2048, HQZ q z R d * w (ix2 e d) := by
    pointwise [dE]
    simp only [kvE_apply, qzE_apply]
  have h0 : ∀ d : Fin 1024, HQZ q z R ⟨d.val, by omega⟩ = q (ix2 R d) := fun d => dif_pos d.isLt
  have h1 : ∀ d : Fin 1024, HQZ q z R ⟨1024 + d.val, by omega⟩ = z (ix2 R d) := fun d =>
    (dif_neg (by show ¬1024 + d.val < 1024; omega)).trans (congrArg (fun i => z (ix2 R i)) (Fin.ext (by show 1024 + d.val - 1024 = d.val; omega)))
  rw [h, sum_halves, HD]
  simp only [h0, h1]
  rw [add_right_comm, ← add_assoc (Ideal.ofBits .f32 0x3FB504F3#32 * dr (ix2 R e))]

theorem colSum_apply (y : FVec Ideal S8192x1024 .f32) (C : Fin 1024) (o : Fin 1) :
    colSum y (ix2 o C) = ∑ R : Fin 8192, y (ix2 R C) := by
  pointwise [colSum, zero0]
theorem dg_eq : dg x w wk dr q z k v ck cv = H14 x w wk dr q z k v ck cv := by
  funext i
  obtain ⟨o, C, rfl⟩ : ∃ (o : Fin 1) (C : Fin 1024), i = ix2 o C := ⟨i 0, i 1, eq_ix2 (n0 := 1) (n1 := 1024) i⟩
  rw [dg, colSum_apply]
  refine Finset.sum_congr rfl fun R _ => ?_
  show xE x (ix2 R C) * dE w wk dr q z k v ck cv (ix2 R C) = _
  rw [xE_apply, dE_apply, mul_comm]; rfl
theorem db_eq : db w wk dr q z k v ck cv = H15 w wk dr q z k v ck cv := by
  funext i
  obtain ⟨o, C, rfl⟩ : ∃ (o : Fin 1) (C : Fin 1024), i = ix2 o C := ⟨i 0, i 1, eq_ix2 (n0 := 1) (n1 := 1024) i⟩
  rw [db, colSum_apply]
  exact Finset.sum_congr rfl fun R _ => dE_apply w wk dr q z k v ck cv R C
theorem parts_eq : parts x g b q z = H16 x g b q z := by
  funext i
  obtain ⟨p, r, s, rfl⟩ : ∃ (p : Fin 8) (r s : Fin 512), i = ix3 p r s := ⟨i 0, i 1, i 2, eq_ix3 (n0 := 8) (n1 := 512) (n2 := 512) i⟩
  pointwise [parts]
  simp only [qzE_apply, hE_apply]
  have e : H16 x g b q z (ix3 p r s) = ∑ R : Fin 8192, HH x g b R ⟨512 * (p.val % 2) + r.val, by omega⟩ * HQZ q z R ⟨512 * (p.val / 2) + s.val, by omega⟩ := rfl
  rw [e]
  refine Finset.sum_congr rfl fun R _ => ?_
  rw [mul_comm]
  refine congrArg₂ (· * ·) (congrArg (HH x g b R) (Fin.ext ?_)) (congrArg (HQZ q z R) (Fin.ext ?_))
  · show p.val % 2 * 512 + r.val = 512 * (p.val % 2) + r.val; omega
  · show p.val / 2 * 512 + s.val = 512 * (p.val / 2) + s.val; omega
theorem dkv_eq : dkv x g b k v ck cv = H17 x g b k v ck cv := by
  funext i
  obtain ⟨e, j, rfl⟩ : ∃ (e : Fin 1024) (j : Fin 256), i = ix2 e j := ⟨i 0, i 1, eq_ix2 (n0 := 1024) (n1 := 256) i⟩
  pointwise [dkv]
  simp only [kvE_apply, hE_apply, mul_comm (HKV _ _ _ _ _ _)]
  rfl

theorem tallSum_apply (y : FVec Ideal S8192x1024 .f32) (R : Fin 8192) (o : Fin 1) :
    tallSum y (ix2 R o) = ∑ C : Fin 1024, y (ix2 R C) := by
  pointwise [tallSum, zero0]
theorem over_apply (y : FVec Ideal S8192x1 .f32) (R : Fin 8192) (o : Fin 1) : over y (ix2 R o) = Ideal.div (y (ix2 R o)) HW := by
  pointwise [over]
  rfl
theorem spread_apply (y : FVec Ideal S8192x1 .f32) (R : Fin 8192) (C : Fin 1024) : spread y (ix2 R C) = y (ix2 R 0) := by
  pointwise [spread, zero0]
  exact Fin.sum_univ_one _
theorem rootE_apply (R : Fin 8192) (o : Fin 1) :
    rootE x (ix2 R o) = Ideal.ofBits .f32 0xBF000000#32 * Ideal.div (HR x R) (HE x R) := by
  rw [← rE_apply x R o, ← eE_apply x R o]
  pointwise [rootE]
section
variable (D : FVec Ideal S8192x1024 .f32)
theorem wE_apply (R : Fin 8192) (C : Fin 1024) : wE g D (ix2 R C) = D (ix2 R C) * g (ix2 0 C) := by
  show D (ix2 R C) * tall g (ix2 R C) = _
  rw [tall_apply]
theorem wrE_apply (R : Fin 8192) (C : Fin 1024) : wrE x g D (ix2 R C) = D (ix2 R C) * g (ix2 0 C) * HR x R := by
  show wE g D (ix2 R C) * wide (rE x) (ix2 R C) = _
  rw [wE_apply, wide_apply, rE_apply]
theorem varE_apply (R : Fin 8192) (C : Fin 1024) :
    varE x g D (ix2 R C)
      = Ideal.div ((∑ i : Fin 1024, HC x R i * (D (ix2 R i) * g (ix2 0 i)))
          * (Ideal.ofBits .f32 0xBF000000#32 * Ideal.div (HR x R) (HE x R))) HW
        * (Ideal.ofBits .f32 0x40000000#32 * HC x R C) := by
  have h : varE x g D (ix2 R C) = spread (over (mulf (tallSum (mulf (cE x) (wE g D))) (rootE x))) (ix2 R C)
        * (Ideal.ofBits .f32 0x40000000#32 * cE x (ix2 R C)) := by
    pointwise [varE]
  have k : ∀ i, mulf (cE x) (wE g D) (ix2 R i) = HC x R i * (D (ix2 R i) * g (ix2 0 i)) := fun i => by
    show cE x (ix2 R i) * wE g D (ix2 R i) = _
    rw [cE_apply, wE_apply]
  have l : mulf (tallSum (mulf (cE x) (wE g D))) (rootE x) (ix2 R 0) = tallSum (mulf (cE x) (wE g D)) (ix2 R 0) * rootE x (ix2 R 0) := rfl
  rw [h, spread_apply, over_apply, l, tallSum_apply, rootE_apply, cE_apply]
  simp only [k]
theorem normE_apply (R : Fin 8192) (C : Fin 1024) :
    normE x g D (ix2 R C) = wrE x g D (ix2 R C) + varE x g D (ix2 R C)
        + Ideal.div ((∑ i : Fin 1024, -(wrE x g D (ix2 R i))) + ∑ i : Fin 1024, -(varE x g D (ix2 R i))) HW := by
  have h : normE x g D (ix2 R C) = wrE x g D (ix2 R C) + varE x g D (ix2 R C)
        + spread (over (addf (tallSum (Host.negf (wrE x g D))) (tallSum (Host.negf (varE x g D))))) (ix2 R C) := rfl
  have l : addf (tallSum (Host.negf (wrE x g D))) (tallSum (Host.negf (varE x g D))) (ix2 R 0)
    = tallSum (Host.negf (wrE x g D)) (ix2 R 0) + tallSum (Host.negf (varE x g D)) (ix2 R 0) := rfl
  rw [h, spread_apply, over_apply, l, tallSum_apply, tallSum_apply]
  rfl
end

/-! ## The gradient through the normalisation -/

theorem width_coe : HW = ((1024 : ℝ) : EReal) := by
  simp [HW, Ideal.ofBits, Ideal.ieee, -EReal.coe_mul]; norm_num
theorem root2_real : Real' (Ideal.ofBits .f32 0x3FB504F3#32) := by
  refine ⟨11863283 / 2 ^ 23, ?_⟩
  simp [Ideal.ofBits, Ideal.ieee, -EReal.coe_mul]; norm_num

section
variable (hx : ∀ i, Real' (x i)) (hg : ∀ i, Real' (g i)) (hw : ∀ i, Real' (w i)) (hwk : ∀ i, Real' (wk i)) (hdr : ∀ i, Real' (dr i))
  (hq : ∀ i, Real' (q i)) (hz : ∀ i, Real' (z i)) (hk : ∀ i, Real' (k i)) (hv : ∀ i, Real' (v i)) (hck : ∀ i, Real' (ck i)) (hcv : ∀ i, Real' (cv i))

include hx in
theorem real_c (R : Fin 8192) : ∃ (a : Fin 1024 → ℝ), ∀ C, HC x R C = ((a C - (∑ i, a i) / 1024 : ℝ) : EReal) := by
  have h : ∀ C, Real' (x (ix2 R C)) := fun C => hx _
  choose a ha using h
  refine ⟨a, fun C => ?_⟩
  simp only [HC, HMU, ha]
  rw [MixMath.sum_coe, width_coe, MixMath.div_coe _ _ (by norm_num), ← EReal.coe_sub]

include hx in
/-- The row normalised: centred values that sum to zero, and a positive number whose inverse root scales them. -/
theorem real_norm (R : Fin 8192) : ∃ (c : Fin 1024 → ℝ) (e : ℝ), 0 < e ∧ (∀ C, HC x R C = (c C : EReal)) ∧ ∑ C, c C = 0
    ∧ HE x R = (e : EReal) ∧ HR x R = (((Real.sqrt e)⁻¹ : ℝ) : EReal) := by
  obtain ⟨a, ha⟩ := real_c x hx R
  obtain ⟨ε, hε, he⟩ := MixMath.eps_coe
  set c : Fin 1024 → ℝ := fun C => a C - (∑ i, a i) / 1024 with hc
  have h1 : HE x R = (((∑ i, c i * c i) / 1024 + ε : ℝ) : EReal) := by
    simp only [HE, ha, ← EReal.coe_mul]
    rw [MixMath.sum_coe, width_coe, MixMath.div_coe _ _ (by norm_num), he, ← EReal.coe_add]
  have h0 : 0 < (∑ i, c i * c i) / 1024 + ε := by
    have : 0 ≤ ∑ i, c i * c i := Finset.sum_nonneg fun i _ => mul_self_nonneg _
    positivity
  refine ⟨c, _, h0, ha, MixMath.sum_centred 1024 (by norm_num) (by simp) a, h1, ?_⟩
  rw [HR, h1, MixMath.rsqrt_coe_pos _ h0]

theorem real_t (d : FVec Ideal S8192x256 .f32) (c : FVec Ideal S16x128x256 .f32) (hd : ∀ i, Real' (d i)) (hc : ∀ i, Real' (c i))
    (R : Fin 8192) (C : Fin 256) : Real' (HT d c R C) := by
  unfold HT
  split
  · refine (hd _).add ?_
    split
    · exact hc _
    · exact ⟨0, rfl⟩
  · exact hd _
include hw hwk hdr hq hz hk hv hck hcv in
theorem real_d (R : Fin 8192) (e : Fin 1024) : Real' (HD w wk dr q z k v ck cv R e) := by
  refine (((root2_real.mul (hdr _)).add (Real'.sum fun _ => (hq _).mul (hw _))).add (Real'.sum fun _ => (hz _).mul (hw _))).add
    (Real'.sum fun j => Real'.mul ?_ (hwk _))
  unfold HKV
  split
  · exact (real_t k ck hk hck _ _).add (real_t k ck hk hck _ _)
  · exact (real_t v cv hv hcv _ _).add (real_t v cv hv hcv _ _)

include hx hg hw hwk hdr hq hz hk hv hck hcv in
theorem dx_eq : dx x g w wk dr q z k v ck cv = H13 x g w wk dr q z k v ck cv := by
  funext i
  obtain ⟨R, C, rfl⟩ : ∃ (R : Fin 8192) (C : Fin 1024), i = ix2 R C := ⟨i 0, i 1, eq_ix2 (n0 := 8192) (n1 := 1024) i⟩
  rw [dx, normE_apply]
  simp only [wrE_apply, varE_apply, dE_apply]
  show _ = HR x R * (HD w wk dr q z k v ck cv R C * g (ix2 0 C)
    - Ideal.div (∑ e : Fin 1024, HD w wk dr q z k v ck cv R e * g (ix2 0 e)) HW
    - HX x R C * Ideal.div (∑ e : Fin 1024, HD w wk dr q z k v ck cv R e * g (ix2 0 e) * HX x R e) HW)
  simp only [HX]
  obtain ⟨c, e, he, hc, hc0, hE, hR⟩ := real_norm x hx R
  have h : ∀ i, Real' (HD w wk dr q z k v ck cv R i * g (ix2 0 i)) := fun i =>
    (real_d w wk dr q z k v ck cv hw hwk hdr hq hz hk hv hck hcv R i).mul (hg _)
  choose a ha using h
  simp only [ha, hc, hE, hR, width_coe, MixMath.two_coe, MixMath.neg_half_coe]
  have d0 : (1024 : ℝ) ≠ 0 := by norm_num
  simp only [← EReal.coe_mul, ← EReal.coe_neg, MixMath.sum_coe, MixMath.div_coe _ _ d0, MixMath.div_coe _ _ he.ne',
    ← EReal.coe_add, ← EReal.coe_sub]
  exact congrArg _ (MixMath.norm_backward 1024 d0 c a hc0 _ e (MixMath.inv_sqrt_sq e he) C).symm
end

end Cert.BgradRef
-- ==== Proof.BgradBlock.lean ====
/-
  The arrays the launch reads, and the block of each at a point of the grid, in the call's arguments.
-/
module

public import proofs.«01_k».proof.Proof.Gen.BgradIdeal.Frame
public import proofs.«01_k».proof.Proof.BgradRef
public import Idealize.ShloMosaic.Lib.Pipeline.ValueKit
public import Idealize.ShloMosaic.Lib.Pipeline.ReadBack
public import Idealize.ShloMosaic.Lib.Pipeline.CanonAppend

@[expose] public section

set_option maxRecDepth 16384

noncomputable section

namespace Cert.BgradKernel

open Cert.BgradIdeal Cert.BgradIdeal.Gen Cert.BgradTile Idealize.ShloMosaic Idealize.ShloMosaic.TcCoe Idealize.SL.Sem
open Cert.MixTile (canon_agree canon_agree' agree2 agree3 mem2 mem3)

variable (m : (ℓ : Loc nD τ sig) → Buf (Elt Ideal) ℓ) (c : Dev nD)

/-! ## The arguments -/

def aX : Vec Ideal S8192x1024 .f32 := m ((c : Thread nD τ).loc main_arg0)
def aG : Vec Ideal S1x1024 .f32 := m ((c : Thread nD τ).loc main_arg1)
def aB : Vec Ideal S1x1024 .f32 := m ((c : Thread nD τ).loc main_arg2)
def aW : Vec Ideal S1024x2048 .f32 := m ((c : Thread nD τ).loc main_arg3)
def aWk : Vec Ideal S1024x256 .f32 := m ((c : Thread nD τ).loc main_arg4)
def aDr : Vec Ideal S8192x1024 .f32 := m ((c : Thread nD τ).loc main_arg5)
def aQ : Vec Ideal S8192x1024 .f32 := m ((c : Thread nD τ).loc main_arg6)
def aZ : Vec Ideal S8192x1024 .f32 := m ((c : Thread nD τ).loc main_arg7)
def aK : Vec Ideal S8192x256 .f32 := m ((c : Thread nD τ).loc main_arg8)
def aV : Vec Ideal S8192x256 .f32 := m ((c : Thread nD τ).loc main_arg9)
def aCk : Vec Ideal S16x128x256 .f32 := m ((c : Thread nD τ).loc main_arg10)
def aCv : Vec Ideal S16x128x256 .f32 := m ((c : Thread nD τ).loc main_arg11)

set_option maxHeartbeats 1000000 in
theorem host_x : (V m c main_v15 : Vec Ideal S8192x1024 .f32) = BgradRef.xE (aX m c) := by
  show StableHlo.after hostOps0 _ _ = _
  after_results_simp
  rfl
theorem host_r : (V m c main_v13 : Vec Ideal S8192x1 .f32) = BgradRef.rE (aX m c) := by
  show StableHlo.after hostOps0 _ _ = _
  after_results_simp
  rfl
theorem host_q : (V m c main_v16 : Vec Ideal S8192x1024 .bf16) = aQ m c := by
  show StableHlo.after hostOps0 _ _ = _
  after_results_simp
  rfl
theorem host_z : (V m c main_v17 : Vec Ideal S8192x1024 .bf16) = aZ m c := by
  show StableHlo.after hostOps0 _ _ = _
  after_results_simp
  rfl
theorem host_w : (V m c main_v18 : Vec Ideal S1024x2048 .bf16) = aW m c := by
  show StableHlo.after hostOps0 _ _ = _
  after_results_simp
  rfl
theorem host_wk : (V m c main_v19 : Vec Ideal S1024x256 .bf16) = aWk m c := by
  show StableHlo.after hostOps0 _ _ = _
  after_results_simp
  rfl

/-! ## The blocks of a point -/

/-- The tile of a point. -/
def tn (t : Fin cfg0.N) : Fin 16 := ⟨t.val, t.isLt⟩

theorem coord : ∀ t : Fin cfg0.N, (grid0.coords t 0).val = t.val := by decide +kernel
theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![min (t.val + 1) 15, 0, 0] := by decide +kernel
theorem idx10 : ∀ t : Fin cfg0.N, win0_10.index t = ![min (t.val + 1) 15, 0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![t.val, 0] := by decide +kernel
theorem idx14 : ∀ t : Fin cfg0.N, win0_14.index t = ![0, 0] := by decide +kernel
theorem idx15 : ∀ t : Fin cfg0.N, win0_15.index t = ![0, 0] := by decide +kernel
theorem idx16 : ∀ t : Fin cfg0.N, win0_16.index t = ![0, 0, 0] := by decide +kernel
theorem idx17 : ∀ t : Fin cfg0.N, win0_17.index t = ![0, 0] := by decide +kernel

theorem blk0 (t : Fin cfg0.N) (r : Fin 512) (e : Fin 1024) :
    (iblk m c 0 t : Vec Ideal S512x1024 .f32) (ix2 r e) = HX (aX m c) (tileH (tn t) r) e := by
  have h : (iblk m c 0 t : Vec Ideal S512x1024 .f32) (ix2 r e) = (V m c main_v15 : Vec Ideal S8192x1024 .f32) (ix2 (tileH (tn t) r) e) := by
    blk_ext [iblk, tileH, tn, idx0 t] <;> omega
  rw [h, host_x]
  exact BgradRef.xE_apply _ _ _
theorem blk1 (t : Fin cfg0.N) (r : Fin 512) (o : Fin 1) :
    (iblk m c 1 t : Vec Ideal S512x1 .f32) (ix2 r o) = HR (aX m c) (tileH (tn t) r) := by
  have h : (iblk m c 1 t : Vec Ideal S512x1 .f32) (ix2 r o) = (V m c main_v13 : Vec Ideal S8192x1 .f32) (ix2 (tileH (tn t) r) o) := by
    blk_ext [iblk, tileH, tn, idx1 t] <;> omega
  rw [h, host_r]
  exact BgradRef.rE_apply _ _ _
theorem blk2 (t : Fin cfg0.N) : (iblk m c 2 t : Vec Ideal S1x1024 .f32) = aG m c := by
  funext i
  obtain ⟨o, e, rfl⟩ : ∃ (o : Fin 1) (e : Fin 1024), i = ix2 o e := ⟨i 0, i 1, eq_ix2 (n0 := 1) (n1 := 1024) i⟩
  have h : (iblk m c 2 t : Vec Ideal S1x1024 .f32) (ix2 o e) = (V m c main_arg1 : Vec Ideal S1x1024 .f32) (ix2 o e) := by
    blk_ext [iblk, idx2 t] <;> omega
  rw [h]
  exact congrFun (V_main_arg1 m c) _
theorem blk3 (t : Fin cfg0.N) : (iblk m c 3 t : Vec Ideal S1x1024 .f32) = aB m c := by
  funext i
  obtain ⟨o, e, rfl⟩ : ∃ (o : Fin 1) (e : Fin 1024), i = ix2 o e := ⟨i 0, i 1, eq_ix2 (n0 := 1) (n1 := 1024) i⟩
  have h : (iblk m c 3 t : Vec Ideal S1x1024 .f32) (ix2 o e) = (V m c main_arg2 : Vec Ideal S1x1024 .f32) (ix2 o e) := by
    blk_ext [iblk, idx3 t] <;> omega
  rw [h]
  exact congrFun (V_main_arg2 m c) _
theorem blk4 (t : Fin cfg0.N) (r : Fin 512) (e : Fin 1024) :
    (iblk m c 4 t : Vec Ideal S512x1024 .f32) (ix2 r e) = aDr m c (ix2 (tileH (tn t) r) e) := by
  have h : (iblk m c 4 t : Vec Ideal S512x1024 .f32) (ix2 r e) = (V m c main_arg5 : Vec Ideal S8192x1024 .f32) (ix2 (tileH (tn t) r) e) := by
    blk_ext [iblk, tileH, tn, idx4 t] <;> omega
  rw [h]
  exact congrFun (V_main_arg5 m c) _
theorem blk5 (t : Fin cfg0.N) (r : Fin 512) (e : Fin 1024) :
    (iblk m c 5 t : Vec Ideal S512x1024 .bf16) (ix2 r e) = aQ m c (ix2 (tileH (tn t) r) e) := by
  have h : (iblk m c 5 t : Vec Ideal S512x1024 .bf16) (ix2 r e) = (V m c main_v16 : Vec Ideal S8192x1024 .bf16) (ix2 (tileH (tn t) r) e) := by
    blk_ext [iblk, tileH, tn, idx5 t] <;> omega
  rw [h, host_q]
theorem blk6 (t : Fin cfg0.N) (r : Fin 512) (e : Fin 1024) :
    (iblk m c 6 t : Vec Ideal S512x1024 .bf16) (ix2 r e) = aZ m c (ix2 (tileH (tn t) r) e) := by
  have h : (iblk m c 6 t : Vec Ideal S512x1024 .bf16) (ix2 r e) = (V m c main_v17 : Vec Ideal S8192x1024 .bf16) (ix2 (tileH (tn t) r) e) := by
    blk_ext [iblk, tileH, tn, idx6 t] <;> omega
  rw [h, host_z]
theorem blk7 (t : Fin cfg0.N) (r : Fin 512) (C : Fin 256) :
    (iblk m c 7 t : Vec Ideal S512x256 .f32) (ix2 r C) = aK m c (ix2 (tileH (tn t) r) C) := by
  have h : (iblk m c 7 t : Vec Ideal S512x256 .f32) (ix2 r C) = (V m c main_arg8 : Vec Ideal S8192x256 .f32) (ix2 (tileH (tn t) r) C) := by
    blk_ext [iblk, tileH, tn, idx7 t] <;> omega
  rw [h]
  exact congrFun (V_main_arg8 m c) _
theorem blk8 (t : Fin cfg0.N) (r : Fin 512) (C : Fin 256) :
    (iblk m c 8 t : Vec Ideal S512x256 .f32) (ix2 r C) = aV m c (ix2 (tileH (tn t) r) C) := by
  have h : (iblk m c 8 t : Vec Ideal S512x256 .f32) (ix2 r C) = (V m c main_arg9 : Vec Ideal S8192x256 .f32) (ix2 (tileH (tn t) r) C) := by
    blk_ext [iblk, tileH, tn, idx8 t] <;> omega
  rw [h]
  exact congrFun (V_main_arg9 m c) _
theorem blk9 (t : Fin cfg0.N) (ht : (tn t).val < 15) (r : Fin 128) (C : Fin 256) :
    (iblk m c 9 t : Vec Ideal S1x128x256 .f32) (ix3 0 r C) = aCk m c (ix3 (nx (tn t) ht) r C) := by
  have h : (iblk m c 9 t : Vec Ideal S1x128x256 .f32) (ix3 0 r C) = (V m c main_arg10 : Vec Ideal S16x128x256 .f32) (ix3 (nx (tn t) ht) r C) := by
    have ht' : t.val < 15 := ht
    blk_ext [iblk, nx, tn, idx9 t] <;> omega
  rw [h]
  exact congrFun (V_main_arg10 m c) _
theorem blk10 (t : Fin cfg0.N) (ht : (tn t).val < 15) (r : Fin 128) (C : Fin 256) :
    (iblk m c 10 t : Vec Ideal S1x128x256 .f32) (ix3 0 r C) = aCv m c (ix3 (nx (tn t) ht) r C) := by
  have h : (iblk m c 10 t : Vec Ideal S1x128x256 .f32) (ix3 0 r C) = (V m c main_arg11 : Vec Ideal S16x128x256 .f32) (ix3 (nx (tn t) ht) r C) := by
    have ht' : t.val < 15 := ht
    blk_ext [iblk, nx, tn, idx10 t] <;> omega
  rw [h]
  exact congrFun (V_main_arg11 m c) _
theorem blk11 (t : Fin cfg0.N) (e : Fin 1024) (d : Fin 2048) :
    (iblk m c 11 t : Vec Ideal S1024x2048 .bf16) (ix2 e d) = aW m c (ix2 e d) := by
  have h : (iblk m c 11 t : Vec Ideal S1024x2048 .bf16) (ix2 e d) = (V m c main_v18 : Vec Ideal S1024x2048 .bf16) (ix2 e d) := by
    blk_ext [iblk, idx11 t] <;> omega
  rw [h, host_w]
theorem blk12 (t : Fin cfg0.N) (e : Fin 1024) (j : Fin 256) :
    (iblk m c 12 t : Vec Ideal S1024x256 .bf16) (ix2 e j) = aWk m c (ix2 e j) := by
  have h : (iblk m c 12 t : Vec Ideal S1024x256 .bf16) (ix2 e j) = (V m c main_v19 : Vec Ideal S1024x256 .bf16) (ix2 e j) := by
    blk_ext [iblk, idx12 t] <;> omega
  rw [h, host_wk]

end Cert.BgradKernel
-- ==== Proof.BgradKernel.lean ====
/-
  What the launch leaves in its blocks after each point: the gradient block of the point's tile, and the sums after one
  more tile.
-/
module

public import proofs.«01_k».proof.Proof.BgradBlock
public import Idealize.ShloMosaic.Lib.Pipeline.ValueKit
public import Idealize.ShloMosaic.Lib.Pipeline.ReadBack
public import Idealize.ShloMosaic.Lib.Pipeline.CanonAppend

@[expose] public section

set_option maxRecDepth 16384

noncomputable section

namespace Cert.BgradKernel

open Cert.BgradIdeal Cert.BgradIdeal.Gen Cert.BgradTile Idealize.ShloMosaic Idealize.ShloMosaic.TcCoe Idealize.SL.Sem
open Cert.MixTile (canon_agree canon_agree' agree2 agree3 mem2 mem3)

variable (m : (ℓ : Loc nD τ sig) → Buf (Elt Ideal) ℓ) (c : Dev nD)

/-! ## The values of a point -/

/-- A tile's first three chunks, and its last one. -/
def ld0 (Y : Vec Ideal S512x256 .f32) : Vec Ideal S384x256 .f32 :=
  View.ld Y (Rect.unit (s := S512x256) ![0, 0] ![384, 256] inb_S512x256_S384x256_0_0)
def ld1 (Y : Vec Ideal S512x256 .f32) : Vec Ideal S128x256 .f32 :=
  View.ld Y (Rect.unit (s := S512x256) ![384, 0] ![128, 256] inb_S512x256_S128x256_384_0)
/-- The columns of an array of 2048 columns by halves. -/
def ldc0 {e : EltTy} (Y : Vec Ideal S1024x2048 e) : Vec Ideal S1024x1024 e :=
  View.ld Y (Rect.unit (s := S1024x2048) ![0, 0] ![1024, 1024] inb_S1024x2048_S1024x1024_0_0)
def ldc1 {e : EltTy} (Y : Vec Ideal S1024x2048 e) : Vec Ideal S1024x1024 e :=
  View.ld Y (Rect.unit (s := S1024x2048) ![0, 1024] ![1024, 1024] inb_S1024x2048_S1024x1024_0_1024)

theorem ld0_apply (Y : Vec Ideal S512x256 .f32) (r : Fin 384) (C : Fin 256) : ld0 Y (ix2 r C) = Y (ix2 (lo3 r) C) :=
  View.ld_unit_apply_of Y _ _ _ _ _ fun a => by fin_cases a; exact (Nat.zero_add _).symm; exact (Nat.zero_add _).symm
theorem ld1_apply (Y : Vec Ideal S512x256 .f32) (r : Fin 128) (C : Fin 256) : ld1 Y (ix2 r C) = Y (ix2 (hi1 r) C) :=
  View.ld_unit_apply_of Y _ _ _ _ _ fun a => by fin_cases a; rfl; exact (Nat.zero_add _).symm
theorem ldc0_apply {e : EltTy} (Y : Vec Ideal S1024x2048 e) (i d : Fin 1024) : ldc0 Y (ix2 i d) = Y (ix2 i ⟨d.val, by omega⟩) :=
  View.ld_unit_apply_of Y _ _ _ _ _ fun a => by fin_cases a; exact (Nat.zero_add _).symm; exact (Nat.zero_add _).symm
theorem ldc1_apply {e : EltTy} (Y : Vec Ideal S1024x2048 e) (i d : Fin 1024) : ldc1 Y (ix2 i d) = Y (ix2 i ⟨1024 + d.val, by omega⟩) :=
  View.ld_unit_apply_of Y _ _ _ _ _ fun a => by fin_cases a; exact (Nat.zero_add _).symm; rfl

/-- The gradients of keys and values, the layer's input, and its gradient, of a point. -/
def kvT (t : Fin cfg0.N) : FVec Ideal S512x256 .bf16 :=
  kvV (grid0.coords t) (ld0 (iblk m c 7 t)) (iblk m c 9 t) (ld1 (iblk m c 7 t)) (ld0 (iblk m c 8 t)) (iblk m c 10 t) (ld1 (iblk m c 8 t))
def hT (t : Fin cfg0.N) : FVec Ideal S512x1024 .bf16 := k0_pay18 (F := Ideal) (iblk m c 0 t) (iblk m c 2 t) (iblk m c 3 t)
def dT (t : Fin cfg0.N) : FVec Ideal S512x1024 .f32 :=
  k0_pay25 (F := Ideal) (BitVec.ofNat 32 (grid0.coords t 0).val) k0_pay16 (k0_pay19 (F := Ideal) (iblk m c 5 t)) (k0_pay20 (F := Ideal) (iblk m c 6 t))
    (k0_pay22 (F := Ideal) (grid0.coords t) (ld0 (iblk m c 7 t)) (iblk m c 9 t) (ld1 (iblk m c 7 t)))
    (k0_pay23 (F := Ideal) (grid0.coords t) (ld0 (iblk m c 7 t)) (iblk m c 9 t) (ld1 (iblk m c 7 t)))
    (ld0 (iblk m c 8 t)) (iblk m c 10 t) (ld1 (iblk m c 8 t)) (iblk m c 4 t) (ldc0 (iblk m c 11 t)) (ldc1 (iblk m c 11 t)) (iblk m c 12 t)

/-- The arguments' keys and values gradients, and the gradient of the layer's input. -/
def AKV : Fin 8192 → Fin 256 → EReal := HKV (aK m c) (aV m c) (aCk m c) (aCv m c)
def AD : Fin 8192 → Fin 1024 → EReal := HD (aW m c) (aWk m c) (aDr m c) (aQ m c) (aZ m c) (aK m c) (aV m c) (aCk m c) (aCv m c)
def AH : Fin 8192 → Fin 1024 → EReal := HH (aX m c) (aG m c) (aB m c)

theorem kvT_apply (t : Fin cfg0.N) (r : Fin 512) (j : Fin 256) : kvT m c t (ix2 r j) = AKV m c (tileH (tn t) r) j :=
  kv_apply (aK m c) (aV m c) (aCk m c) (aCv m c) (tn t) (grid0.coords t) (coord t) _ _ _ _ _ _
    (fun r C => (ld0_apply _ r C).trans (blk7 m c t _ C)) (fun h r C => blk9 m c t h r C) (fun r C => (ld1_apply _ r C).trans (blk7 m c t _ C))
    (fun r C => (ld0_apply _ r C).trans (blk8 m c t _ C)) (fun h r C => blk10 m c t h r C) (fun r C => (ld1_apply _ r C).trans (blk8 m c t _ C)) r j
theorem hT_apply (t : Fin cfg0.N) (r : Fin 512) (e : Fin 1024) : hT m c t (ix2 r e) = AH m c (tileH (tn t) r) e := by
  unfold hT
  rw [blk2, blk3]
  exact h_apply (aX m c) (aG m c) (aB m c) (tn t) _ (blk0 m c t) r e
theorem dT_apply (t : Fin cfg0.N) (r : Fin 512) (e : Fin 1024) : dT m c t (ix2 r e) = AD m c (tileH (tn t) r) e :=
  d_apply (aW m c) (aWk m c) (aDr m c) (aQ m c) (aZ m c) (aK m c) (aV m c) (aCk m c) (aCv m c) (tn t) (kvT m c t) (kvT_apply m c t)
    _ _ _ _ _ _ (blk4 m c t) (blk5 m c t) (blk6 m c t) (fun e d => (ldc0_apply _ e d).trans (blk11 m c t _ _))
    (fun e d => (ldc1_apply _ e d).trans (blk11 m c t _ _)) (blk12 m c t) _ _ _ _ _ _ _ rfl r e

/-! ## The gradient block -/

theorem dr_t (t : Fin cfg0.N) (r : Fin 512) (e : Fin 1024) :
    k0_pay1 (F := Ideal) (k0_pay17 (F := Ideal) (iblk m c 0 t)) (dT m c t) (iblk m c 2 t) (iblk m c 1 t) (ix2 r e)
      = H13 (aX m c) (aG m c) (aW m c) (aWk m c) (aDr m c) (aQ m c) (aZ m c) (aK m c) (aV m c) (aCk m c) (aCv m c) (ix2 (tileH (tn t) r) e) := by
  rw [blk2]
  exact r_apply (aX m c) (aG m c) (aW m c) (aWk m c) (aDr m c) (aQ m c) (aZ m c) (aK m c) (aV m c) (aCk m c) (aCv m c) (tn t)
    (iblk m c 0 t) (dT m c t) (blk0 m c t) (dT_apply m c t) (iblk m c 1 t) (blk1 m c t) r e

theorem dr_out (t : Fin cfg0.N) (r : Fin 512) (e : Fin 1024) :
    (outsAt0 m c t.val t.isLt).1 (ix2 r e)
      = H13 (aX m c) (aG m c) (aW m c) (aWk m c) (aDr m c) (aQ m c) (aZ m c) (aK m c) (aV m c) (aCk m c) (aCv m c) (ix2 (tileH (tn t) r) e) := by
  by_cases h0 : t.val % 16 = 0
  · rw [outsAt0_A m c t h0 (by omega)]
    frame_out
    exact dr_t m c t r e
  by_cases h1 : t.val % 16 = 15
  · rw [outsAt0_C m c t h0 h1]
    frame_out
    exact dr_t m c t r e
  · rw [outsAt0_B m c t h0 h1]
    frame_out
    exact dr_t m c t r e

/-! ## The sums that grow from tile to tile -/

/-- One tile's part of each sum. -/
def TG (n : Fin 16) (e : Fin 1024) : EReal := ∑ r : Fin 512, AD m c (tileH n r) e * HX (aX m c) (tileH n r) e
def TB (n : Fin 16) (e : Fin 1024) : EReal := ∑ r : Fin 512, AD m c (tileH n r) e
def TI (n : Fin 16) (e : Fin 1024) (d : Fin 2048) : EReal := ∑ r : Fin 512, AH m c (tileH n r) e * HQZ (aQ m c) (aZ m c) (tileH n r) d
def TK (n : Fin 16) (e : Fin 1024) (j : Fin 256) : EReal := ∑ r : Fin 512, AH m c (tileH n r) e * AKV m c (tileH n r) j

theorem dg_t (t : Fin cfg0.N) (acc : Vec Ideal S1x1024 .f32) (o : Fin 1) (e : Fin 1024) :
    k0_pay29 (F := Ideal) (k0_pay17 (F := Ideal) (iblk m c 0 t)) (dT m c t) acc (ix2 o e) = acc (ix2 o e) + TG m c (tn t) e :=
  g_apply (aX m c) (aW m c) (aWk m c) (aDr m c) (aQ m c) (aZ m c) (aK m c) (aV m c) (aCk m c) (aCv m c) (tn t)
    (iblk m c 0 t) (dT m c t) (blk0 m c t) (dT_apply m c t) acc o e
theorem db_t (t : Fin cfg0.N) (acc : Vec Ideal S1x1024 .f32) (o : Fin 1) (e : Fin 1024) :
    k0_pay30 (F := Ideal) (dT m c t) acc (ix2 o e) = acc (ix2 o e) + TB m c (tn t) e :=
  b_apply (aW m c) (aWk m c) (aDr m c) (aQ m c) (aZ m c) (aK m c) (aV m c) (aCk m c) (aCv m c) (tn t) (dT m c t) (dT_apply m c t) acc o e
theorem kv_t (t : Fin cfg0.N) (acc : Vec Ideal S1024x256 .f32) (e : Fin 1024) (j : Fin 256) :
    k0_pay28 (F := Ideal) (hT m c t) (kvT m c t) acc (ix2 e j) = acc (ix2 e j) + TK m c (tn t) e j :=
  inkv_apply (aX m c) (aG m c) (aB m c) (aK m c) (aV m c) (aCk m c) (aCv m c) (tn t) (hT m c t) (kvT m c t) (hT_apply m c t) (kvT_apply m c t) acc e j

/-- The two stores of the sum that has queries' and gate's columns. -/
def inL (t : Fin cfg0.N) (acc : Vec Ideal S1024x2048 .f32) : List (View.Piece (Elt Ideal) S1024x2048 .f32) :=
  [⟨Rect.unit (s := S1024x2048) ![0, 1024] ![1024, 1024] inb_S1024x2048_S1024x1024_0_1024,
      k0_pay27 (F := Ideal) (hT m c t) (k0_pay20 (F := Ideal) (iblk m c 6 t)) (ldc1 acc)⟩,
    ⟨Rect.unit (s := S1024x2048) ![0, 0] ![1024, 1024] inb_S1024x2048_S1024x1024_0_0,
      k0_pay26 (F := Ideal) (hT m c t) (k0_pay19 (F := Ideal) (iblk m c 5 t)) (ldc0 acc)⟩]

theorem in_t (t : Fin cfg0.N) (acc : Vec Ideal S1024x2048 .f32) (L' : List (View.Piece (Elt Ideal) S1024x2048 .f32)) (e : Fin 1024) (d : Fin 2048) :
    View.canon (inL m c t acc ++ L') (ix2 e d) = acc (ix2 e d) + TI m c (tn t) e d := by
  refine canon_agree (e := .f32) (T := S1024x2048) _ (fun i => acc i + TI m c (tn t) (i 0) (i 1)) L' ?_ _ ?_
  · intro p hp
    rcases List.mem_cons.1 hp with rfl | hp
    · refine agree2 (e := .f32) (A := 1024) (B := 2048) (a := 1024) (b := 1024) ![0, 1024] inb_S1024x2048_S1024x1024_0_1024
        (k0_pay27 (F := Ideal) (hT m c t) (k0_pay20 (F := Ideal) (iblk m c 6 t)) (ldc1 acc)) (fun i => acc i + TI m c (tn t) (i 0) (i 1)) fun i j r C hr hC => ?_
      obtain rfl : r = i := Fin.ext (by simpa using hr)
      rw [show C = ⟨1024 + j.val, by omega⟩ from Fin.ext hC]
      show _ = acc (ix2 r ⟨1024 + j.val, by omega⟩) + ∑ R : Fin 512, AH m c (tileH (tn t) R) r * HQZ (aQ m c) (aZ m c) (tileH (tn t) R) ⟨1024 + j.val, by omega⟩
      have hz : ∀ R, HQZ (aQ m c) (aZ m c) R ⟨1024 + j.val, by omega⟩ = aZ m c (ix2 R j) := fun R =>
        (dif_neg (by show ¬1024 + j.val < 1024; omega)).trans (congrArg (fun i => aZ m c (ix2 R i)) (Fin.ext (by show 1024 + j.val - 1024 = j.val; omega)))
      simp only [hz]
      exact (in1_apply (aX m c) (aG m c) (aB m c) (aZ m c) (tn t) (hT m c t) (iblk m c 6 t) (hT_apply m c t) (blk6 m c t) (ldc1 acc) r j).trans
        (congrArg (· + _) (ldc1_apply acc r j))
    · obtain rfl := List.mem_singleton.1 hp
      refine agree2 (e := .f32) (A := 1024) (B := 2048) (a := 1024) (b := 1024) ![0, 0] inb_S1024x2048_S1024x1024_0_0
        (k0_pay26 (F := Ideal) (hT m c t) (k0_pay19 (F := Ideal) (iblk m c 5 t)) (ldc0 acc)) (fun i => acc i + TI m c (tn t) (i 0) (i 1)) fun i j r C hr hC => ?_
      obtain rfl : r = i := Fin.ext (by simpa using hr)
      rw [show C = ⟨j.val, by omega⟩ from Fin.ext (by simpa using hC)]
      show _ = acc (ix2 r ⟨j.val, by omega⟩) + ∑ R : Fin 512, AH m c (tileH (tn t) R) r * HQZ (aQ m c) (aZ m c) (tileH (tn t) R) ⟨j.val, by omega⟩
      have hz : ∀ R, HQZ (aQ m c) (aZ m c) R ⟨j.val, by omega⟩ = aQ m c (ix2 R j) := fun R => dif_pos j.isLt
      simp only [hz]
      exact (in0_apply (aX m c) (aG m c) (aB m c) (aQ m c) (tn t) (hT m c t) (iblk m c 5 t) (hT_apply m c t) (blk5 m c t) (ldc0 acc) r j).trans
        (congrArg (· + _) (ldc0_apply acc r j))
  · by_cases h : d.val < 1024
    · refine ⟨_, List.mem_cons_of_mem _ (List.mem_singleton.2 rfl), ?_⟩
      refine mem2 (A := 1024) (B := 2048) (a := 1024) (b := 1024) ![0, 0] inb_S1024x2048_S1024x1024_0_0 e d ?_ ?_
      · show 0 ≤ e.val ∧ e.val < 0 + 1024; omega
      · show 0 ≤ d.val ∧ d.val < 0 + 1024; omega
    · refine ⟨_, List.mem_cons_self, ?_⟩
      refine mem2 (A := 1024) (B := 2048) (a := 1024) (b := 1024) ![0, 1024] inb_S1024x2048_S1024x1024_0_1024 e d ?_ ?_
      · show 0 ≤ e.val ∧ e.val < 0 + 1024; omega
      · show 1024 ≤ d.val ∧ d.val < 1024 + 1024; omega

theorem dg_A (t : Fin cfg0.N) (h0 : t.val % 16 = 0) (h1 : ¬t.val % 16 = 15) (o : Fin 1) (e : Fin 1024) :
    (outsAt0 m c t.val t.isLt).2.1 (ix2 o e)
      = 0 + TG m c (tn t) e := by
  rw [outsAt0_A m c t h0 h1]
  frame_out
  refine (dg_t m c t _ o e).trans ?_
  rw [zero14]
theorem dg_B (t : Fin cfg0.N) (h0 : ¬t.val % 16 = 0) (h1 : ¬t.val % 16 = 15) (o : Fin 1) (e : Fin 1024) :
    (outsAt0 m c t.val t.isLt).2.1 (ix2 o e)
      = (outsAt0 m c (t.val - 1) (Nat.lt_of_le_of_lt (Nat.sub_le _ _) t.isLt)).2.1 (ix2 o e) + TG m c (tn t) e := by
  rw [outsAt0_B m c t h0 h1]
  frame_out
  exact dg_t m c t _ o e
theorem dg_C (t : Fin cfg0.N) (h0 : ¬t.val % 16 = 0) (h1 : t.val % 16 = 15) (o : Fin 1) (e : Fin 1024) :
    (outsAt0 m c t.val t.isLt).2.1 (ix2 o e)
      = (outsAt0 m c (t.val - 1) (Nat.lt_of_le_of_lt (Nat.sub_le _ _) t.isLt)).2.1 (ix2 o e) + TG m c (tn t) e := by
  rw [outsAt0_C m c t h0 h1]
  frame_out
  exact dg_t m c t _ o e

theorem db_A (t : Fin cfg0.N) (h0 : t.val % 16 = 0) (h1 : ¬t.val % 16 = 15) (o : Fin 1) (e : Fin 1024) :
    (outsAt0 m c t.val t.isLt).2.2.1 (ix2 o e)
      = 0 + TB m c (tn t) e := by
  rw [outsAt0_A m c t h0 h1]
  frame_out
  refine (db_t m c t _ o e).trans ?_
  rw [zero15]
theorem db_B (t : Fin cfg0.N) (h0 : ¬t.val % 16 = 0) (h1 : ¬t.val % 16 = 15) (o : Fin 1) (e : Fin 1024) :
    (outsAt0 m c t.val t.isLt).2.2.1 (ix2 o e)
      = (outsAt0 m c (t.val - 1) (Nat.lt_of_le_of_lt (Nat.sub_le _ _) t.isLt)).2.2.1 (ix2 o e) + TB m c (tn t) e := by
  rw [outsAt0_B m c t h0 h1]
  frame_out
  exact db_t m c t _ o e
theorem db_C (t : Fin cfg0.N) (h0 : ¬t.val % 16 = 0) (h1 : t.val % 16 = 15) (o : Fin 1) (e : Fin 1024) :
    (outsAt0 m c t.val t.isLt).2.2.1 (ix2 o e)
      = (outsAt0 m c (t.val - 1) (Nat.lt_of_le_of_lt (Nat.sub_le _ _) t.isLt)).2.2.1 (ix2 o e) + TB m c (tn t) e := by
  rw [outsAt0_C m c t h0 h1]
  frame_out
  exact db_t m c t _ o e

theorem kv_A (t : Fin cfg0.N) (h0 : t.val % 16 = 0) (h1 : ¬t.val % 16 = 15) (e : Fin 1024) (j : Fin 256) :
    (outsAt0 m c t.val t.isLt).2.2.2.2.2.2 (ix2 e j)
      = 0 + TK m c (tn t) e j := by
  rw [outsAt0_A m c t h0 h1]
  frame_out
  refine (kv_t m c t _ e j).trans ?_
  rw [zero13]
theorem kv_B (t : Fin cfg0.N) (h0 : ¬t.val % 16 = 0) (h1 : ¬t.val % 16 = 15) (e : Fin 1024) (j : Fin 256) :
    (outsAt0 m c t.val t.isLt).2.2.2.2.2.2 (ix2 e j)
      = (outsAt0 m c (t.val - 1) (Nat.lt_of_le_of_lt (Nat.sub_le _ _) t.isLt)).2.2.2.2.2.2 (ix2 e j) + TK m c (tn t) e j := by
  rw [outsAt0_B m c t h0 h1]
  frame_out
  rw [read_unread_whole]
  exact kv_t m c t _ e j
theorem kv_C (t : Fin cfg0.N) (h0 : ¬t.val % 16 = 0) (h1 : t.val % 16 = 15) (e : Fin 1024) (j : Fin 256) :
    (outsAt0 m c t.val t.isLt).2.2.2.2.2.2 (ix2 e j)
      = (outsAt0 m c (t.val - 1) (Nat.lt_of_le_of_lt (Nat.sub_le _ _) t.isLt)).2.2.2.2.2.2 (ix2 e j) + TK m c (tn t) e j := by
  rw [outsAt0_C m c t h0 h1]
  frame_out
  rw [read_unread_whole]
  exact kv_t m c t _ e j

theorem in_A (t : Fin cfg0.N) (h0 : t.val % 16 = 0) (h1 : ¬t.val % 16 = 15) (e : Fin 1024) (d : Fin 2048) :
    (outsAt0 m c t.val t.isLt).2.2.2.2.2.1 (ix2 e d)
      = 0 + TI m c (tn t) e d := by
  rw [outsAt0_A m c t h0 h1]
  frame_open
  simp (disch := decide) only [↓View.readCov_skip, ↓View.readCov_cons_toLoadRect, ↓View.readCov_fill]
  frame_out
  refine (in_t m c t (k0_pay12 (F := Ideal)) [_] e d).trans ?_
  rw [zero12]
theorem in_B (t : Fin cfg0.N) (h0 : ¬t.val % 16 = 0) (h1 : ¬t.val % 16 = 15) (e : Fin 1024) (d : Fin 2048) :
    (outsAt0 m c t.val t.isLt).2.2.2.2.2.1 (ix2 e d)
      = (outsAt0 m c (t.val - 1) (Nat.lt_of_le_of_lt (Nat.sub_le _ _) t.isLt)).2.2.2.2.2.1 (ix2 e d) + TI m c (tn t) e d := by
  rw [outsAt0_B m c t h0 h1]
  frame_out
  rw [read_unread_whole]
  exact in_t m c t _ [] e d
theorem in_C (t : Fin cfg0.N) (h0 : ¬t.val % 16 = 0) (h1 : t.val % 16 = 15) (e : Fin 1024) (d : Fin 2048) :
    (outsAt0 m c t.val t.isLt).2.2.2.2.2.1 (ix2 e d)
      = (outsAt0 m c (t.val - 1) (Nat.lt_of_le_of_lt (Nat.sub_le _ _) t.isLt)).2.2.2.2.2.1 (ix2 e d) + TI m c (tn t) e d := by
  rw [outsAt0_C m c t h0 h1]
  frame_out
  rw [read_unread_whole]
  exact in_t m c t _ [] e d

end Cert.BgradKernel
-- ==== Proof.BgradArr.lean ====
/-
  What the launch's five arrays hold at the end, and what the run leaves.
-/
module

public import proofs.«01_k».proof.Proof.BgradKernel
public import Idealize.ShloMosaic.Lib.Pipeline.Value

@[expose] public section

set_option maxRecDepth 16384

noncomputable section

namespace Cert.BgradKernel

open Cert.BgradIdeal Cert.BgradIdeal.Gen Cert.BgradTile Idealize.ShloMosaic Idealize.ShloMosaic.TcCoe Idealize.SL.Sem
open Cert.MixTile (canon_agree canon_agree' agree2 agree3 mem2 mem3)

/-! ## The copy of a sum in eight parts -/

theorem inbI (p : Fin 8) : ∀ a, (![512 * (p.val % 2), 512 * (p.val / 2)] : Fin 2 → Nat) a + S512x512.size a ≤ S1024x2048.size a := by
  intro a
  fin_cases a
  · show 512 * (p.val % 2) + 512 ≤ 1024; omega
  · show 512 * (p.val / 2) + 512 ≤ 2048; omega
theorem inbO (p : Fin 8) : ∀ a, (![p.val, 0, 0] : Fin 3 → Nat) a + S1x512x512.size a ≤ S8x512x512.size a := by
  intro a
  fin_cases a
  · show p.val + 1 ≤ 8; omega
  · show 0 + 512 ≤ 512; omega
  · show 0 + 512 ≤ 512; omega

/-- Part `p` of an array held in pieces. -/
def cutP (L : List (View.Piece (Elt Ideal) S1024x2048 .f32)) (p : Fin 8) : FVec Ideal S512x512 .f32 :=
  (View.whole cc0_scratch0).readCov L (Rect.unit (s := S1024x2048) ![512 * (p.val % 2), 512 * (p.val / 2)] S512x512.size (inbI p)).toLoadRect
theorem cutP_apply (L : List (View.Piece (Elt Ideal) S1024x2048 .f32)) (p : Fin 8) (i j : Fin 512) :
    cutP L p (ix2 i j) = View.canon L (ix2 (⟨512 * (p.val % 2) + i.val, by omega⟩ : Fin 1024) (⟨512 * (p.val / 2) + j.val, by omega⟩ : Fin 2048)) := by
  unfold cutP
  rw [View.readCov_eq_canon']
  have h : (Rect.unit (s := S1024x2048) ![512 * (p.val % 2), 512 * (p.val / 2)] S512x512.size (inbI p)).toLoadRect.idx (ix2 i j)
      = ix2 (⟨512 * (p.val % 2) + i.val, by omega⟩ : Fin 1024) (⟨512 * (p.val / 2) + j.val, by omega⟩ : Fin 2048) := by
    funext a; fin_cases a <;> exact Fin.ext (by simp [Rect.toLoadRect, LoadRect.idx])
  exact congrArg (View.canon L) h

def valP (L : List (View.Piece (Elt Ideal) S1024x2048 .f32)) (p : Fin 8) : FVec Ideal S1x512x512 .bf16 :=
  shapeCast S1x512x512 (truncf .bf16 (cutP L p) bitsLt_bf16_f32) shapeCasts_S512x512_S1x512x512
theorem valP_apply (L : List (View.Piece (Elt Ideal) S1024x2048 .f32)) (p : Fin 8) (o : Fin 1) (i j : Fin 512) :
    valP L p (ix3 o i j) = cutP L p (ix2 i j) := by
  pointwise [valP]

def partP (L : List (View.Piece (Elt Ideal) S1024x2048 .f32)) (p : Fin 8) : View.Piece (Elt Ideal) S8x512x512 .bf16 :=
  ⟨Rect.unit (s := S8x512x512) ![p.val, 0, 0] S1x512x512.size (inbO p), valP L p⟩
/-- The parts, latest first. -/
def parts8 : List (Fin 8) := [7, 6, 5, 4, 3, 2, 1, 0]
theorem mem_parts8 (p : Fin 8) : p ∈ parts8 := by revert p; decide

/-- The eight parts, each stored at its place. -/
theorem parts_out (L : List (View.Piece (Elt Ideal) S1024x2048 .f32)) (p : Fin 8) (i j : Fin 512) :
    View.canon (parts8.map (partP L)) (ix3 p i j)
      = View.canon L (ix2 (⟨512 * (p.val % 2) + i.val, by omega⟩ : Fin 1024) (⟨512 * (p.val / 2) + j.val, by omega⟩ : Fin 2048)) := by
  refine (canon_agree' (e := .bf16) (T := S8x512x512) _ (fun y => cutP L (y 0) (ix2 (y 1) (y 2))) ?_ _ ?_).trans (cutP_apply L p i j)
  · intro q hq
    obtain ⟨p, -, rfl⟩ := List.mem_map.1 hq
    refine agree3 (e := .bf16) (A := 8) (B := 512) (C := 512) (a := 1) (b := 512) (c := 512) ![p.val, 0, 0] (inbO p)
      (valP L p) (fun y => cutP L (y 0) (ix2 (y 1) (y 2))) fun x0 x1 x2 y0 y1 y2 h0 h1 h2 => ?_
    obtain rfl : x0 = 0 := Fin.ext (by omega)
    obtain rfl : y0 = p := Fin.ext h0
    obtain rfl : y1 = x1 := Fin.ext (by simpa using h1)
    obtain rfl : y2 = x2 := Fin.ext (by simpa using h2)
    exact valP_apply L y0 0 y1 y2
  · refine ⟨_, List.mem_map_of_mem (mem_parts8 p), ?_⟩
    refine mem3 (A := 8) (B := 512) (C := 512) (a := 1) (b := 512) (c := 512) ![p.val, 0, 0] (inbO p) p i j ?_ ?_ ?_
    · show p.val ≤ p.val ∧ p.val < p.val + 1; omega
    · show 0 ≤ i.val ∧ i.val < 0 + 512; omega
    · show 0 ≤ j.val ∧ j.val < 0 + 512; omega

variable (m : (ℓ : Loc nD τ sig) → Buf (Elt Ideal) ℓ) (ρ : Dev nD → PrngReg) (c : Dev nD)

/-- At the last point the two sums are written back as they stand. -/
theorem out16_C (t : Fin cfg0.N) (h0 : ¬t.val % 16 = 0) (h1 : t.val % 16 = 15) (p : Fin 8) (i j : Fin 512) :
    (outsAt0 m c t.val t.isLt).2.2.2.1 (ix3 p i j)
      = (outsAt0 m c t.val t.isLt).2.2.2.2.2.1 (ix2 (⟨512 * (p.val % 2) + i.val, by omega⟩ : Fin 1024) (⟨512 * (p.val / 2) + j.val, by omega⟩ : Fin 2048)) := by
  rw [in_C m c t h0 h1]
  rw [outsAt0_C m c t h0 h1]
  frame_out
  rw [read_unread_whole]
  refine (parts_out (inL m c t _) p i j).trans ?_
  exact in_t m c t _ [] _ _
theorem out17_C (t : Fin cfg0.N) (h0 : ¬t.val % 16 = 0) (h1 : t.val % 16 = 15) (e : Fin 1024) (j : Fin 256) :
    (outsAt0 m c t.val t.isLt).2.2.2.2.1 (ix2 e j) = (outsAt0 m c t.val t.isLt).2.2.2.2.2.2 (ix2 e j) := by
  rw [kv_C m c t h0 h1]
  rw [outsAt0_C m c t h0 h1]
  frame_out
  rw [read_unread_whole]
  exact kv_t m c t _ e j

/-! ## The sums over the tiles -/

/-- A sum that starts at the first point and grows by a term at each later one is, at the last, the sum of the terms. -/
theorem fold (f : (n : ℕ) → n < cfg0.N → EReal) (term : Fin cfg0.N → EReal)
    (hA : ∀ t : Fin cfg0.N, t.val % 16 = 0 → ¬t.val % 16 = 15 → f t.val t.isLt = 0 + term t)
    (hB : ∀ t : Fin cfg0.N, ¬t.val % 16 = 0 → ¬t.val % 16 = 15 →
      f t.val t.isLt = f (t.val - 1) (Nat.lt_of_le_of_lt (Nat.sub_le _ _) t.isLt) + term t)
    (hC : ∀ t : Fin cfg0.N, ¬t.val % 16 = 0 → t.val % 16 = 15 →
      f t.val t.isLt = f (t.val - 1) (Nat.lt_of_le_of_lt (Nat.sub_le _ _) t.isLt) + term t)
    (t : Fin cfg0.N) (ht : t.val % 16 = 15) : f t.val t.isLt = ∑ n : Fin 16, term n := by
  have e : t = (⟨15, by decide⟩ : Fin cfg0.N) := Fin.ext (by have h : t.val < 16 := t.isLt; show t.val = 15; omega)
  subst e
  exact (Pipeline.eq_sum_fin_of_reset_step_apply_last (ι := Unit) (fun n h _ => f n h) 16 (fun _ => 0) (fun t _ => term t)
    (fun t h _ => hA t h (by omega))
    (fun t h _ => if h1 : t.val % 16 = 15 then hC t h h1 else hB t h h1) (by decide) ⟨15, by decide⟩ (by decide) ()).trans (zero_add _)

/-- A sum over the tokens is the sum over the tiles of the sums over each. -/
theorem sum_rowsH (f : Fin 8192 → EReal) : ∑ R : Fin 8192, f R = ∑ n : Fin 16, ∑ r : Fin 512, f (tileH n r) := by
  rw [← Fintype.sum_prod_type' (f := fun (n : Fin 16) (r : Fin 512) => f (tileH n r))]
  refine (Fintype.sum_equiv (finProdFinEquiv (m := 16) (n := 512)) _ _ fun x => ?_).symm
  exact congrArg f (Fin.ext (by simp only [tileH, finProdFinEquiv]; show _ = x.2.val + 512 * x.1.val; omega))

theorem dg_sum (t : Fin cfg0.N) (ht : t.val % 16 = 15) (o : Fin 1) (e : Fin 1024) : (outsAt0 m c t.val t.isLt).2.1 (ix2 o e)
    = H14 (aX m c) (aW m c) (aWk m c) (aDr m c) (aQ m c) (aZ m c) (aK m c) (aV m c) (aCk m c) (aCv m c) (ix2 o e) :=
  (fold (fun n h => (outsAt0 m c n h).2.1 (ix2 o e)) (fun t => TG m c (tn t) e)
    (fun t h h1 => dg_A m c t h h1 o e) (fun t h h1 => dg_B m c t h h1 o e) (fun t h h1 => dg_C m c t h h1 o e) t ht).trans
    (sum_rowsH fun R => AD m c R e * HX (aX m c) R e).symm
theorem db_sum (t : Fin cfg0.N) (ht : t.val % 16 = 15) (o : Fin 1) (e : Fin 1024) : (outsAt0 m c t.val t.isLt).2.2.1 (ix2 o e)
    = H15 (aW m c) (aWk m c) (aDr m c) (aQ m c) (aZ m c) (aK m c) (aV m c) (aCk m c) (aCv m c) (ix2 o e) :=
  (fold (fun n h => (outsAt0 m c n h).2.2.1 (ix2 o e)) (fun t => TB m c (tn t) e)
    (fun t h h1 => db_A m c t h h1 o e) (fun t h h1 => db_B m c t h h1 o e) (fun t h h1 => db_C m c t h h1 o e) t ht).trans
    (sum_rowsH fun R => AD m c R e).symm
theorem in_sum (t : Fin cfg0.N) (ht : t.val % 16 = 15) (e : Fin 1024) (d : Fin 2048) : (outsAt0 m c t.val t.isLt).2.2.2.2.2.1 (ix2 e d)
    = HI (aX m c) (aG m c) (aB m c) (aQ m c) (aZ m c) e d :=
  (fold (fun n h => (outsAt0 m c n h).2.2.2.2.2.1 (ix2 e d)) (fun t => TI m c (tn t) e d)
    (fun t h h1 => in_A m c t h h1 e d) (fun t h h1 => in_B m c t h h1 e d) (fun t h h1 => in_C m c t h h1 e d) t ht).trans
    (sum_rowsH fun R => AH m c R e * HQZ (aQ m c) (aZ m c) R d).symm
theorem kv_sum (t : Fin cfg0.N) (ht : t.val % 16 = 15) (e : Fin 1024) (j : Fin 256) : (outsAt0 m c t.val t.isLt).2.2.2.2.2.2 (ix2 e j)
    = H17 (aX m c) (aG m c) (aB m c) (aK m c) (aV m c) (aCk m c) (aCv m c) (ix2 e j) :=
  (fold (fun n h => (outsAt0 m c n h).2.2.2.2.2.2 (ix2 e j)) (fun t => TK m c (tn t) e j)
    (fun t h h1 => kv_A m c t h h1 e j) (fun t h h1 => kv_B m c t h h1 e j) (fun t h h1 => kv_C m c t h h1 e j) t ht).trans
    (sum_rowsH fun R => AH m c R e * AKV m c R j).symm

/-! ## The arrays -/

theorem arr13 : (dats m 0 c).arrAt 13 cfg0.N
    = (H13 (aX m c) (aG m c) (aW m c) (aWk m c) (aDr m c) (aQ m c) (aZ m c) (aK m c) (aV m c) (aCk m c) (aCv m c) : Vec Ideal S8192x1024 .f32) := by
  refine (dats m 0 c).arrAt_eq_of_covers 13 _ (by decide +kernel) fun t hf y => ?_
  blk_simp
  rw [after0_13]
  obtain ⟨r, e, rfl⟩ : ∃ (r : Fin 512) (e : Fin 1024), y = ix2 r e := ⟨y 0, y 1, eq_ix2 (n0 := 512) (n1 := 1024) y⟩
  have em : (win0_13.blk t).view.emb (ix2 r e) = ix2 (tileH (tn t) r) e := by
    funext a; fin_cases a <;> apply Fin.ext <;> simp [tileH, tn, idx13 t]
    exact Nat.mul_comm _ _
  refine (dr_out m c t r e).trans ?_
  exact (congrArg (H13 (aX m c) (aG m c) (aW m c) (aWk m c) (aDr m c) (aQ m c) (aZ m c) (aK m c) (aV m c) (aCk m c) (aCv m c)) em).symm
theorem arr14 : (dats m 0 c).arrAt 14 cfg0.N
    = (H14 (aX m c) (aW m c) (aWk m c) (aDr m c) (aQ m c) (aZ m c) (aK m c) (aV m c) (aCk m c) (aCv m c) : Vec Ideal S1x1024 .f32) := by
  refine (dats m 0 c).arrAt_eq_of_covers 14 _ (by decide +kernel) fun t hf y => ?_
  have h1 := (flush0_14 t).mp hf
  blk_simp
  rw [after0_14]
  obtain ⟨o, e, rfl⟩ : ∃ (o : Fin 1) (e : Fin 1024), y = ix2 o e := ⟨y 0, y 1, eq_ix2 (n0 := 1) (n1 := 1024) y⟩
  have em : (win0_14.blk t).view.emb (ix2 o e) = ix2 o e := by
    funext a; fin_cases a <;> apply Fin.ext <;> simp [idx14 t]
  refine (dg_sum m c t h1 o e).trans ?_
  exact (congrArg (H14 (aX m c) (aW m c) (aWk m c) (aDr m c) (aQ m c) (aZ m c) (aK m c) (aV m c) (aCk m c) (aCv m c)) em).symm
theorem arr15 : (dats m 0 c).arrAt 15 cfg0.N
    = (H15 (aW m c) (aWk m c) (aDr m c) (aQ m c) (aZ m c) (aK m c) (aV m c) (aCk m c) (aCv m c) : Vec Ideal S1x1024 .f32) := by
  refine (dats m 0 c).arrAt_eq_of_covers 15 _ (by decide +kernel) fun t hf y => ?_
  have h1 := (flush0_15 t).mp hf
  blk_simp
  rw [after0_15]
  obtain ⟨o, e, rfl⟩ : ∃ (o : Fin 1) (e : Fin 1024), y = ix2 o e := ⟨y 0, y 1, eq_ix2 (n0 := 1) (n1 := 1024) y⟩
  have em : (win0_15.blk t).view.emb (ix2 o e) = ix2 o e := by
    funext a; fin_cases a <;> apply Fin.ext <;> simp [idx15 t]
  refine (db_sum m c t h1 o e).trans ?_
  exact (congrArg (H15 (aW m c) (aWk m c) (aDr m c) (aQ m c) (aZ m c) (aK m c) (aV m c) (aCk m c) (aCv m c)) em).symm
theorem arr16 : (dats m 0 c).arrAt 16 cfg0.N
    = (H16 (aX m c) (aG m c) (aB m c) (aQ m c) (aZ m c) : Vec Ideal S8x512x512 .bf16) := by
  refine (dats m 0 c).arrAt_eq_of_covers 16 _ (by decide +kernel) fun t hf y => ?_
  have h1 := (flush0_16 t).mp hf
  blk_simp
  rw [after0_16]
  obtain ⟨p, i, j, rfl⟩ : ∃ (p : Fin 8) (i j : Fin 512), y = ix3 p i j := ⟨y 0, y 1, y 2, eq_ix3 (n0 := 8) (n1 := 512) (n2 := 512) y⟩
  have em : (win0_16.blk t).view.emb (ix3 p i j) = ix3 p i j := by
    funext a; fin_cases a <;> apply Fin.ext <;> simp [idx16 t]
  refine (out16_C m c t (by omega) h1 p i j).trans ((in_sum m c t h1 _ _).trans ?_)
  exact (congrArg (H16 (aX m c) (aG m c) (aB m c) (aQ m c) (aZ m c)) em).symm
theorem arr17 : (dats m 0 c).arrAt 17 cfg0.N
    = (H17 (aX m c) (aG m c) (aB m c) (aK m c) (aV m c) (aCk m c) (aCv m c) : Vec Ideal S1024x256 .bf16) := by
  refine (dats m 0 c).arrAt_eq_of_covers 17 _ (by decide +kernel) fun t hf y => ?_
  have h1 := (flush0_17 t).mp hf
  blk_simp
  rw [after0_17]
  obtain ⟨e, j, rfl⟩ : ∃ (e : Fin 1024) (j : Fin 256), y = ix2 e j := ⟨y 0, y 1, eq_ix2 (n0 := 1024) (n1 := 256) y⟩
  have em : (win0_17.blk t).view.emb (ix2 e j) = ix2 e j := by
    funext a; fin_cases a <;> apply Fin.ext <;> simp [idx17 t]
  refine (out17_C m c t (by omega) h1 e j).trans ((kv_sum m c t h1 e j).trans ?_)
  exact (congrArg (H17 (aX m c) (aG m c) (aB m c) (aK m c) (aV m c) (aCk m c) (aCv m c)) em).symm

/-! ## The run -/

/-- An argument that no window stages stands after the run as it was launched. -/
theorem kept_rest (r : PUnit × MemSt nD τ sig (Elt Ideal)) (h : Pipeline.FramePost cfgs (dats m) 0 (V m) r) :
    r.2.mem ((c : Thread nD τ).loc main_arg0) = m ((c : Thread nD τ).loc main_arg0)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg6) = m ((c : Thread nD τ).loc main_arg6)
      ∧ r.2.mem ((c : Thread nD τ).loc main_arg7) = m ((c : Thread nD τ).loc main_arg7) :=
  ⟨((h c).2 main_arg0 (Pipeline.mem_restRefs_of main_arg0 (by decide) (by decide))).trans (V_main_arg0 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩
/-- So does one that an input window stages. -/
theorem kept_in (r : PUnit × MemSt nD τ sig (Elt Ideal)) (h : Pipeline.FramePost cfgs (dats m) 0 (V m) r) :
    r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg5) = m ((c : Thread nD τ).loc main_arg5)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  ⟨((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg5 m c))),
    ((h c).1 7).trans (((dats m 0 c).arrAt_in 7 rfl _).trans ((A_eq m c 7).trans (V_main_arg8 m c))),
    ((h c).1 8).trans (((dats m 0 c).arrAt_in 8 rfl _).trans ((A_eq m c 8).trans (V_main_arg9 m c))),
    ((h c).1 9).trans (((dats m 0 c).arrAt_in 9 rfl _).trans ((A_eq m c 9).trans (V_main_arg10 m c))),
    ((h c).1 10).trans (((dats m 0 c).arrAt_in 10 rfl _).trans ((A_eq m c 10).trans (V_main_arg11 m c)))⟩

end Cert.BgradKernel

end
-- ==== Proof.MixPre.lean ====
/-
  What the precondition says of an array: each of its elements is a real number.
-/
module

public import proofs.«01_k».proof.Proof.Gen.Pre_finite
public import proofs.«01_k».proof.Proof.MixRef
public import Idealize.ShloMosaic.Lib.ReduceAll

@[expose] public section

noncomputable section

namespace Cert.MixPre

open Idealize.ShloMosaic Cert.MixRef

/-- A number whose absolute value lies below another is real. -/
theorem real_of_lt (x y : EReal) (h : max x (-x) < y) : Real' x := by
  have h1 : x ≠ ⊤ := (lt_of_lt_of_le (lt_of_le_of_lt (le_max_left _ _) h) le_top).ne
  have h2 : x ≠ ⊥ := fun e => (lt_of_lt_of_le (lt_of_le_of_lt (le_max_right _ _) h) le_top).ne (by rw [e]; rfl)
  exact ⟨x.toReal, (EReal.coe_toReal h1 h2).symm⟩

instance : Subsingleton (Shape.Idx ⟨0, ![]⟩) := ⟨fun _ _ => funext fun a => a.elim0⟩

/-- An array all of whose elements lie below a bound in absolute value is an array of real numbers. -/
theorem real_of_all {s u : Shape} {axes : List (Fin s.rank)} (x : FVec Ideal s .f32) (b : FVec Ideal s .f32) (init : u.Idx → BitVec 1)
    (h : s.ReducesTo axes ⟨0, ![]⟩) (hu : 0 < u.numel) (e : Host.reduce IntOp.andi (cmpf .olt (Host.absf x) b) init h hu = fun _ => 1#1)
    (i : s.Idx) : Real' (x i) := by
  have h1 := Host.reduce_andi_all _ _ h hu (fun a => a.elim0) (congrFun e _) i
  have h2 : BitVec.ofBool (decide (max (x i) (-(x i)) < b i)) = 1#1 := h1
  refine real_of_lt (x i) (b i) ?_
  by_contra h3
  rw [decide_eq_false h3] at h2
  exact absurd h2 (by decide)

open Cert.Pre_finite Cert.Pre_finite.Gen

variable (x0 : FVec Ideal S8192x6144 .f32) (x1 : FVec Ideal S1x2048 .f32) (x2 : FVec Ideal S1x2048 .f32) (x3 : FVec Ideal S8x128x128 .f32) (x4 : FVec Ideal S8x128 .f32) (x5 : FVec Ideal S2048x1024 .f32) (x6 : FVec Ideal S8192x1024 .f32)

/-! The seven arrays of the condition, one after the other. -/

theorem real0 (h : (Cert.Pre_finite.fn (F := Ideal) x0 x1 x2 x3 x4 x5 x6).1 = fun _ => 1#1) (i : S8192x6144.Idx) : Real' (x0 i) := by
  simp only [fn, fn_part1] at h
  exact real_of_all x0 (broadcastInDim S8192x6144 ![] bcast_S_S8192x6144 (constant S_ .f32 0x7F800000#32)) (constantI S_ 1 1#1)
    reducesTo_S8192x6144_S_d0_1 h_S_ h i
theorem real1 (h : (Cert.Pre_finite.fn (F := Ideal) x0 x1 x2 x3 x4 x5 x6).2.1 = fun _ => 1#1) (i : S1x2048.Idx) : Real' (x1 i) := by
  simp only [fn, fn_part1] at h
  exact real_of_all x1 (broadcastInDim S1x2048 ![] bcast_S_S1x2048 (constant S_ .f32 0x7F800000#32)) (constantI S_ 1 1#1)
    reducesTo_S1x2048_S_d0_1 h_S_ h i
theorem real2 (h : (Cert.Pre_finite.fn (F := Ideal) x0 x1 x2 x3 x4 x5 x6).2.2.1 = fun _ => 1#1) (i : S1x2048.Idx) : Real' (x2 i) := by
  simp only [fn, fn_part1] at h
  exact real_of_all x2 (broadcastInDim S1x2048 ![] bcast_S_S1x2048 (constant S_ .f32 0x7F800000#32)) (constantI S_ 1 1#1)
    reducesTo_S1x2048_S_d0_1 h_S_ h i
theorem real3 (h : (Cert.Pre_finite.fn (F := Ideal) x0 x1 x2 x3 x4 x5 x6).2.2.2.1 = fun _ => 1#1) (i : S8x128x128.Idx) : Real' (x3 i) := by
  simp only [fn, fn_part1] at h
  exact real_of_all x3 (broadcastInDim S8x128x128 ![] bcast_S_S8x128x128 (constant S_ .f32 0x7F800000#32)) (constantI S_ 1 1#1)
    reducesTo_S8x128x128_S_d0_1_2 h_S_ h i
theorem real4 (h : (Cert.Pre_finite.fn (F := Ideal) x0 x1 x2 x3 x4 x5 x6).2.2.2.2.1 = fun _ => 1#1) (i : S8x128.Idx) : Real' (x4 i) := by
  simp only [fn, fn_part1] at h
  exact real_of_all x4 (broadcastInDim S8x128 ![] bcast_S_S8x128 (constant S_ .f32 0x7F800000#32)) (constantI S_ 1 1#1)
    reducesTo_S8x128_S_d0_1 h_S_ h i
theorem real5 (h : (Cert.Pre_finite.fn (F := Ideal) x0 x1 x2 x3 x4 x5 x6).2.2.2.2.2.1 = fun _ => 1#1) (i : S2048x1024.Idx) : Real' (x5 i) := by
  simp only [fn, fn_part1] at h
  exact real_of_all x5 (broadcastInDim S2048x1024 ![] bcast_S_S2048x1024 (constant S_ .f32 0x7F800000#32)) (constantI S_ 1 1#1)
    reducesTo_S2048x1024_S_d0_1 h_S_ h i
theorem real6 (h : (Cert.Pre_finite.fn (F := Ideal) x0 x1 x2 x3 x4 x5 x6).2.2.2.2.2.2 = fun _ => 1#1) (i : S8192x1024.Idx) : Real' (x6 i) := by
  simp only [fn, fn_part1] at h
  exact real_of_all x6 (broadcastInDim S8192x1024 ![] bcast_S_S8192x1024 (constant S_ .f32 0x7F800000#32)) (constantI S_ 1 1#1)
    reducesTo_S8192x1024_S_d0_1 h_S_ h i

end Cert.MixPre

end
-- ==== Proof.BgradEq.lean ====
/-
  The gradients of the second layer's projections: what the condition says of the arguments, and the launch and the
  reference leave the same arrays.
-/
module

public import proofs.«01_k».proof.Defs
public import proofs.«01_k».proof.Proof.BgradArr
public import proofs.«01_k».proof.Proof.MixPre
public import proofs.«01_k».proof.Proof.Gen.Bgrad
public import proofs.«01_k».proof.Proof.Gen.Pre_finite_bgrad
public import Idealize.ShloMosaic.Adequacy
public import Idealize.ShloMosaic.Init

@[expose] public section

set_option maxRecDepth 16384
set_option maxHeartbeats 4000000

noncomputable section

namespace Cert.BgradEq

open Idealize.ShloMosaic Idealize.ShloMosaic.TcCoe Idealize.SL.Sem

section
open Cert.Pre_finite_bgrad Cert.Pre_finite_bgrad.Gen
open Cert.MixRef (Real')
open Cert.MixPre (real_of_all)

variable (x0 : FVec Ideal S8192x1024 .f32)
  (x1 : FVec Ideal S1x1024 .f32)
  (x2 : FVec Ideal S1x1024 .f32)
  (x3 : FVec Ideal S1024x2048 .f32)
  (x4 : FVec Ideal S1024x256 .f32)
  (x5 : FVec Ideal S8192x1024 .f32)
  (x6 : FVec Ideal S8192x1024 .f32)
  (x7 : FVec Ideal S8192x1024 .f32)
  (x8 : FVec Ideal S8192x256 .f32)
  (x9 : FVec Ideal S8192x256 .f32)
  (x10 : FVec Ideal S16x128x256 .f32)
  (x11 : FVec Ideal S16x128x256 .f32)

/-! Each array of the condition but the third holds real numbers. -/

theorem real0 (h : (fn (F := Ideal) x0 x1 x2 x3 x4 x5 x6 x7 x8 x9 x10 x11).1 = fun _ => 1#1) (i : S8192x1024.Idx) : Real' (x0 i) := by
  simp only [fn, fn_part1, fn_part2] at h
  exact real_of_all x0 (broadcastInDim S8192x1024 ![] bcast_S_S8192x1024 (constant S_ .f32 0x7F800000#32)) (constantI S_ 1 1#1)
    reducesTo_S8192x1024_S_d0_1 h_S_ h i
theorem real1 (h : (fn (F := Ideal) x0 x1 x2 x3 x4 x5 x6 x7 x8 x9 x10 x11).2.1 = fun _ => 1#1) (i : S1x1024.Idx) : Real' (x1 i) := by
  simp only [fn, fn_part1, fn_part2] at h
  exact real_of_all x1 (broadcastInDim S1x1024 ![] bcast_S_S1x1024 (constant S_ .f32 0x7F800000#32)) (constantI S_ 1 1#1)
    reducesTo_S1x1024_S_d0_1 h_S_ h i
theorem real3 (h : (fn (F := Ideal) x0 x1 x2 x3 x4 x5 x6 x7 x8 x9 x10 x11).2.2.1 = fun _ => 1#1) (i : S1024x2048.Idx) : Real' (x3 i) := by
  simp only [fn, fn_part1, fn_part2] at h
  exact real_of_all x3 (broadcastInDim S1024x2048 ![] bcast_S_S1024x2048 (constant S_ .f32 0x7F800000#32)) (constantI S_ 1 1#1)
    reducesTo_S1024x2048_S_d0_1 h_S_ h i
theorem real4 (h : (fn (F := Ideal) x0 x1 x2 x3 x4 x5 x6 x7 x8 x9 x10 x11).2.2.2.1 = fun _ => 1#1) (i : S1024x256.Idx) : Real' (x4 i) := by
  simp only [fn, fn_part1, fn_part2] at h
  exact real_of_all x4 (broadcastInDim S1024x256 ![] bcast_S_S1024x256 (constant S_ .f32 0x7F800000#32)) (constantI S_ 1 1#1)
    reducesTo_S1024x256_S_d0_1 h_S_ h i
theorem real5 (h : (fn (F := Ideal) x0 x1 x2 x3 x4 x5 x6 x7 x8 x9 x10 x11).2.2.2.2.1 = fun _ => 1#1) (i : S8192x1024.Idx) : Real' (x5 i) := by
  simp only [fn, fn_part1, fn_part2] at h
  exact real_of_all x5 (broadcastInDim S8192x1024 ![] bcast_S_S8192x1024 (constant S_ .f32 0x7F800000#32)) (constantI S_ 1 1#1)
    reducesTo_S8192x1024_S_d0_1 h_S_ h i
theorem real6 (h : (fn (F := Ideal) x0 x1 x2 x3 x4 x5 x6 x7 x8 x9 x10 x11).2.2.2.2.2.1 = fun _ => 1#1) (i : S8192x1024.Idx) : Real' (x6 i) := by
  simp only [fn, fn_part1, fn_part2] at h
  exact real_of_all x6 (broadcastInDim S8192x1024 ![] bcast_S_S8192x1024 (constant S_ .f32 0x7F800000#32)) (constantI S_ 1 1#1)
    reducesTo_S8192x1024_S_d0_1 h_S_ h i
theorem real7 (h : (fn (F := Ideal) x0 x1 x2 x3 x4 x5 x6 x7 x8 x9 x10 x11).2.2.2.2.2.2.1 = fun _ => 1#1) (i : S8192x1024.Idx) : Real' (x7 i) := by
  simp only [fn, fn_part1, fn_part2] at h
  exact real_of_all x7 (broadcastInDim S8192x1024 ![] bcast_S_S8192x1024 (constant S_ .f32 0x7F800000#32)) (constantI S_ 1 1#1)
    reducesTo_S8192x1024_S_d0_1 h_S_ h i
theorem real8 (h : (fn (F := Ideal) x0 x1 x2 x3 x4 x5 x6 x7 x8 x9 x10 x11).2.2.2.2.2.2.2.1 = fun _ => 1#1) (i : S8192x256.Idx) : Real' (x8 i) := by
  simp only [fn, fn_part1, fn_part2] at h
  exact real_of_all x8 (broadcastInDim S8192x256 ![] bcast_S_S8192x256 (constant S_ .f32 0x7F800000#32)) (constantI S_ 1 1#1)
    reducesTo_S8192x256_S_d0_1 h_S_ h i
theorem real9 (h : (fn (F := Ideal) x0 x1 x2 x3 x4 x5 x6 x7 x8 x9 x10 x11).2.2.2.2.2.2.2.2.1 = fun _ => 1#1) (i : S8192x256.Idx) : Real' (x9 i) := by
  simp only [fn, fn_part1, fn_part2] at h
  exact real_of_all x9 (broadcastInDim S8192x256 ![] bcast_S_S8192x256 (constant S_ .f32 0x7F800000#32)) (constantI S_ 1 1#1)
    reducesTo_S8192x256_S_d0_1 h_S_ h i
theorem real10 (h : (fn (F := Ideal) x0 x1 x2 x3 x4 x5 x6 x7 x8 x9 x10 x11).2.2.2.2.2.2.2.2.2.1 = fun _ => 1#1) (i : S16x128x256.Idx) : Real' (x10 i) := by
  simp only [fn, fn_part1, fn_part2] at h
  exact real_of_all x10 (broadcastInDim S16x128x256 ![] bcast_S_S16x128x256 (constant S_ .f32 0x7F800000#32)) (constantI S_ 1 1#1)
    reducesTo_S16x128x256_S_d0_1_2 h_S_ h i
theorem real11 (h : (fn (F := Ideal) x0 x1 x2 x3 x4 x5 x6 x7 x8 x9 x10 x11).2.2.2.2.2.2.2.2.2.2 = fun _ => 1#1) (i : S16x128x256.Idx) : Real' (x11 i) := by
  simp only [fn, fn_part1, fn_part2] at h
  exact real_of_all x11 (broadcastInDim S16x128x256 ![] bcast_S_S16x128x256 (constant S_ .f32 0x7F800000#32)) (constantI S_ 1 1#1)
    reducesTo_S16x128x256_S_d0_1_2 h_S_ h i
end

theorem frame_ref : Cert.quiescent_BgradRefIdeal := fun m ρ _ =>
  (θ_run Cert.BgradRefIdeal.defs _ _).mono (fun r h => ⟨fun c => (h c).2.2.2.2.2, sem_eq_zero_of_no_sems (by decide) r.2⟩)
    (Cert.BgradRefIdeal.Value.run m ρ)

/-- The two printings of the launch define the same bodies. -/
theorem defs_eq : @Bgrad.defs Bits _ _ = @BgradIdeal.defs Bits _ _ := by
  have h : @Bgrad.defs₀ Bits _ _ = @BgradIdeal.defs₀ Bits _ _ := by
    unfold Bgrad.defs₀ BgradIdeal.defs₀
    congr 1
    funext l x
    match l, x with
    | 0, (t, s) => rfl
  exact congrArg (Pipeline.defs (Bgrad.pcfgs (F := Bits))) h

theorem frame : Cert.quiescent_Bgrad := by
  intro m ρ _
  have h := Cert.BgradIdeal.Gen.frame (F := Bits) m ρ
  have e := defs_eq
  revert h e
  generalize @BgradIdeal.defs Bits _ _ = d
  rintro h rfl
  exact h

theorem algebraic : Cert.algebraic_BgradIdeal_BgradRefIdeal_pre_finite_bgrad := by
  intro m ρ m' ρ' hpre hag
  refine ⟨fun c => (BgradTile.H13 (BgradKernel.aX m c) (BgradKernel.aG m c) (BgradKernel.aW m c) (BgradKernel.aWk m c) (BgradKernel.aDr m c) (BgradKernel.aQ m c) (BgradKernel.aZ m c) (BgradKernel.aK m c) (BgradKernel.aV m c) (BgradKernel.aCk m c) (BgradKernel.aCv m c) : Vec Ideal BgradIdeal.S8192x1024 .f32),
    fun c => (BgradTile.H14 (BgradKernel.aX m c) (BgradKernel.aW m c) (BgradKernel.aWk m c) (BgradKernel.aDr m c) (BgradKernel.aQ m c) (BgradKernel.aZ m c) (BgradKernel.aK m c) (BgradKernel.aV m c) (BgradKernel.aCk m c) (BgradKernel.aCv m c) : Vec Ideal BgradIdeal.S1x1024 .f32),
    fun c => (BgradTile.H15 (BgradKernel.aW m c) (BgradKernel.aWk m c) (BgradKernel.aDr m c) (BgradKernel.aQ m c) (BgradKernel.aZ m c) (BgradKernel.aK m c) (BgradKernel.aV m c) (BgradKernel.aCk m c) (BgradKernel.aCv m c) : Vec Ideal BgradIdeal.S1x1024 .f32),
    fun c => (BgradTile.H16 (BgradKernel.aX m c) (BgradKernel.aG m c) (BgradKernel.aB m c) (BgradKernel.aQ m c) (BgradKernel.aZ m c) : Vec Ideal BgradIdeal.S8x512x512 .bf16),
    fun c => (BgradTile.H17 (BgradKernel.aX m c) (BgradKernel.aG m c) (BgradKernel.aB m c) (BgradKernel.aK m c) (BgradKernel.aV m c) (BgradKernel.aCk m c) (BgradKernel.aCv m c) : Vec Ideal BgradIdeal.S1024x256 .bf16), ?_, ?_⟩
  · refine (θ_run Cert.BgradIdeal.defs _ _).mono (fun r h c => ?_) (Cert.BgradIdeal.Gen.run_main m ρ)
    obtain ⟨k0, k3, k4, k6, k7⟩ := BgradKernel.kept_rest m c r h
    obtain ⟨k1, k2, k5, k8, k9, k10, k11⟩ := BgradKernel.kept_in m c r h
    exact ⟨((h c).1 13).trans (BgradKernel.arr13 m c), ((h c).1 14).trans (BgradKernel.arr14 m c),
      ((h c).1 15).trans (BgradKernel.arr15 m c), ((h c).1 16).trans (BgradKernel.arr16 m c),
      ((h c).1 17).trans (BgradKernel.arr17 m c), k0, k1, k2, k3, k4, k5, k6, k7, k8, k9, k10, k11⟩
  · refine (θ_run Cert.BgradRefIdeal.defs _ _).mono (fun r h c => ?_) (Cert.BgradRefIdeal.Value.run m' ρ')
    obtain ⟨h0, h1, h2, h3, h4, hk⟩ := h c
    obtain ⟨e0, e1, e2, e3, e4, e5, e6, e7, e8, e9, e10, e11⟩ := hag c
    obtain ⟨f0, f1, f3, f4, f5, f6, f7, f8, f9, f10, f11⟩ := hpre c
    refine ⟨(h0.trans (BgradRef.dx_run m' c)).trans ?_, h1.trans ?_, h2.trans ?_, h3.trans ?_, h4.trans ?_, hk⟩
    · rw [e0, e1, e3, e4, e5, e6, e7, e8, e9, e10, e11]
      exact BgradRef.dx_eq _ _ _ _ _ _ _ _ _ _ _ (real0 _ _ _ _ _ _ _ _ _ _ _ _ f0) (real1 _ _ _ _ _ _ _ _ _ _ _ _ f1) (real3 _ _ _ _ _ _ _ _ _ _ _ _ f3) (real4 _ _ _ _ _ _ _ _ _ _ _ _ f4) (real5 _ _ _ _ _ _ _ _ _ _ _ _ f5) (real6 _ _ _ _ _ _ _ _ _ _ _ _ f6) (real7 _ _ _ _ _ _ _ _ _ _ _ _ f7) (real8 _ _ _ _ _ _ _ _ _ _ _ _ f8) (real9 _ _ _ _ _ _ _ _ _ _ _ _ f9) (real10 _ _ _ _ _ _ _ _ _ _ _ _ f10) (real11 _ _ _ _ _ _ _ _ _ _ _ _ f11)
    · rw [e0, e3, e4, e5, e6, e7, e8, e9, e10, e11]
      exact BgradRef.dg_eq _ _ _ _ _ _ _ _ _ _
    · rw [e3, e4, e5, e6, e7, e8, e9, e10, e11]
      exact BgradRef.db_eq _ _ _ _ _ _ _ _ _
    · rw [e0, e1, e2, e6, e7]
      exact BgradRef.parts_eq _ _ _ _ _
    · rw [e0, e1, e2, e8, e9, e10, e11]
      exact BgradRef.dkv_eq _ _ _ _ _ _ _

end Cert.BgradEq

end
-- ==== Proof.MixCases.lean ====
/-
  What the launch leaves in its blocks after each grid point: the gradient block of the point's own tile, and the sums
  after one more tile.
-/
module

public import proofs.«01_k».proof.Proof.MixBlock

@[expose] public section

set_option maxRecDepth 16384

noncomputable section

namespace Cert.MixTile

open Cert.MixIdeal Cert.MixIdeal.Gen Idealize.ShloMosaic Idealize.ShloMosaic.TcCoe Idealize.SL.Sem

variable (m : (ℓ : Loc nD τ sig) → Buf (Elt Ideal) ℓ) (c : Dev nD)

theorem zero_gw (C : Fin 2048) (e : Fin 1024) : k0_pay3 (F := Ideal) (ix2 C e) = (0 : EReal) := by unfold_payloads; pointwise
theorem zero_dws (g : Fin 8) (i s : Fin 128) : k0_pay4 (F := Ideal) (ix3 g i s) = (0 : EReal) := by unfold_payloads; pointwise
theorem zero_dbs (i l : Fin 128) : k0_pay5 (F := Ideal) (ix2 i l) = (0 : EReal) := by unfold_payloads; pointwise
theorem zero_dg (C : Fin 2048) : k0_pay6 (F := Ideal) (ix2 0 C) = (0 : EReal) := by unfold_payloads; pointwise
theorem zero_db (C : Fin 2048) : k0_pay7 (F := Ideal) (ix2 0 C) = (0 : EReal) := by unfold_payloads; pointwise

theorem dp_A (t : Fin cfg0.N) (h0 : t.val % 32 = 0) (h1 : ¬t.val % 32 = 31) (r : Fin 256) (Q : Fin 6144) :
    (outsAt0 m c t.val t.isLt).1 (ix2 r Q) = DP (iblk m c 0 t) (iblk m c 1 t) (iblk m c 2 t) (iblk m c 3 t) (iblk m c 5 t) (iblk m c 6 t) (iblk m c 7 t) (iblk m c 8 t) (iblk m c 9 t) (iblk m c 10 t) r Q := by
  rw [outsAt0_A m c t h0 h1]
  frame_out
  exact dp_apply (iblk m c 0 t) (iblk m c 1 t) (iblk m c 2 t) (iblk m c 3 t) (iblk m c 5 t) (iblk m c 6 t) (iblk m c 7 t) (iblk m c 8 t) (iblk m c 9 t) (iblk m c 10 t) r Q

theorem dp_B (t : Fin cfg0.N) (h0 : ¬t.val % 32 = 0) (h1 : ¬t.val % 32 = 31) (r : Fin 256) (Q : Fin 6144) :
    (outsAt0 m c t.val t.isLt).1 (ix2 r Q) = DP (iblk m c 0 t) (iblk m c 1 t) (iblk m c 2 t) (iblk m c 3 t) (iblk m c 5 t) (iblk m c 6 t) (iblk m c 7 t) (iblk m c 8 t) (iblk m c 9 t) (iblk m c 10 t) r Q := by
  rw [outsAt0_B m c t h0 h1]
  frame_out
  exact dp_apply (iblk m c 0 t) (iblk m c 1 t) (iblk m c 2 t) (iblk m c 3 t) (iblk m c 5 t) (iblk m c 6 t) (iblk m c 7 t) (iblk m c 8 t) (iblk m c 9 t) (iblk m c 10 t) r Q

theorem dp_C (t : Fin cfg0.N) (h0 : ¬t.val % 32 = 0) (h1 : t.val % 32 = 31) (r : Fin 256) (Q : Fin 6144) :
    (outsAt0 m c t.val t.isLt).1 (ix2 r Q) = DP (iblk m c 0 t) (iblk m c 1 t) (iblk m c 2 t) (iblk m c 3 t) (iblk m c 5 t) (iblk m c 6 t) (iblk m c 7 t) (iblk m c 8 t) (iblk m c 9 t) (iblk m c 10 t) r Q := by
  rw [outsAt0_C m c t h0 h1]
  frame_out
  exact dp_apply (iblk m c 0 t) (iblk m c 1 t) (iblk m c 2 t) (iblk m c 3 t) (iblk m c 5 t) (iblk m c 6 t) (iblk m c 7 t) (iblk m c 8 t) (iblk m c 9 t) (iblk m c 10 t) r Q

theorem dws_A (t : Fin cfg0.N) (h0 : t.val % 32 = 0) (h1 : ¬t.val % 32 = 31) (g : Fin 8) (i s : Fin 128) :
    (outsAt0 m c t.val t.isLt).2.2.1 (ix3 g i s) = 0 + TW (iblk m c 0 t) (iblk m c 1 t) (iblk m c 2 t) (iblk m c 3 t) (iblk m c 6 t) (iblk m c 7 t) (iblk m c 8 t) g i s := by
  rw [outsAt0_A m c t h0 h1]
  frame_open
  simp (disch := decide) only [↓View.readCov_skip, ↓View.readCov_cons_toLoadRect, ↓View.readCov_fill]
  frame_out
  refine (dws_block (iblk m c 0 t) (iblk m c 1 t) (iblk m c 2 t) (iblk m c 3 t) (iblk m c 6 t) (iblk m c 7 t) (iblk m c 8 t) (k0_pay4 (F := Ideal)) [_] g i s).trans ?_
  rw [zero_dws]

theorem dws_B (t : Fin cfg0.N) (h0 : ¬t.val % 32 = 0) (h1 : ¬t.val % 32 = 31) (g : Fin 8) (i s : Fin 128) :
    (outsAt0 m c t.val t.isLt).2.2.1 (ix3 g i s) = (outsAt0 m c (t.val - 1) (Nat.lt_of_le_of_lt (Nat.sub_le _ _) t.isLt)).2.2.1 (ix3 g i s) + TW (iblk m c 0 t) (iblk m c 1 t) (iblk m c 2 t) (iblk m c 3 t) (iblk m c 6 t) (iblk m c 7 t) (iblk m c 8 t) g i s := by
  rw [outsAt0_B m c t h0 h1]
  frame_out
  exact dws_block (iblk m c 0 t) (iblk m c 1 t) (iblk m c 2 t) (iblk m c 3 t) (iblk m c 6 t) (iblk m c 7 t) (iblk m c 8 t) _ [] g i s

theorem dws_C (t : Fin cfg0.N) (h0 : ¬t.val % 32 = 0) (h1 : t.val % 32 = 31) (g : Fin 8) (i s : Fin 128) :
    (outsAt0 m c t.val t.isLt).2.2.1 (ix3 g i s) = (outsAt0 m c (t.val - 1) (Nat.lt_of_le_of_lt (Nat.sub_le _ _) t.isLt)).2.2.1 (ix3 g i s) + TW (iblk m c 0 t) (iblk m c 1 t) (iblk m c 2 t) (iblk m c 3 t) (iblk m c 6 t) (iblk m c 7 t) (iblk m c 8 t) g i s := by
  rw [outsAt0_C m c t h0 h1]
  frame_out
  exact dws_block (iblk m c 0 t) (iblk m c 1 t) (iblk m c 2 t) (iblk m c 3 t) (iblk m c 6 t) (iblk m c 7 t) (iblk m c 8 t) _ [] g i s

theorem dbs_A (t : Fin cfg0.N) (h0 : t.val % 32 = 0) (h1 : ¬t.val % 32 = 31) (i l : Fin 128) :
    (outsAt0 m c t.val t.isLt).2.2.2.1 (ix2 i l) = 0 + TB (iblk m c 0 t) (iblk m c 1 t) (iblk m c 3 t) (iblk m c 6 t) i l := by
  rw [outsAt0_A m c t h0 h1]
  frame_out
  refine (dbs_block (iblk m c 0 t) (iblk m c 1 t) (iblk m c 2 t) (iblk m c 3 t) (iblk m c 6 t) (iblk m c 7 t) (iblk m c 8 t) _ i l).trans ?_
  rw [zero_dbs]

theorem dbs_B (t : Fin cfg0.N) (h0 : ¬t.val % 32 = 0) (h1 : ¬t.val % 32 = 31) (i l : Fin 128) :
    (outsAt0 m c t.val t.isLt).2.2.2.1 (ix2 i l) = (outsAt0 m c (t.val - 1) (Nat.lt_of_le_of_lt (Nat.sub_le _ _) t.isLt)).2.2.2.1 (ix2 i l) + TB (iblk m c 0 t) (iblk m c 1 t) (iblk m c 3 t) (iblk m c 6 t) i l := by
  rw [outsAt0_B m c t h0 h1]
  frame_out
  exact dbs_block (iblk m c 0 t) (iblk m c 1 t) (iblk m c 2 t) (iblk m c 3 t) (iblk m c 6 t) (iblk m c 7 t) (iblk m c 8 t) _ i l

theorem dbs_C (t : Fin cfg0.N) (h0 : ¬t.val % 32 = 0) (h1 : t.val % 32 = 31) (i l : Fin 128) :
    (outsAt0 m c t.val t.isLt).2.2.2.1 (ix2 i l) = (outsAt0 m c (t.val - 1) (Nat.lt_of_le_of_lt (Nat.sub_le _ _) t.isLt)).2.2.2.1 (ix2 i l) + TB (iblk m c 0 t) (iblk m c 1 t) (iblk m c 3 t) (iblk m c 6 t) i l := by
  rw [outsAt0_C m c t h0 h1]
  frame_out
  exact dbs_block (iblk m c 0 t) (iblk m c 1 t) (iblk m c 2 t) (iblk m c 3 t) (iblk m c 6 t) (iblk m c 7 t) (iblk m c 8 t) _ i l

theorem dg_A (t : Fin cfg0.N) (h0 : t.val % 32 = 0) (h1 : ¬t.val % 32 = 31) (C : Fin 2048) :
    (outsAt0 m c t.val t.isLt).2.2.2.2.1 (ix2 0 C) = 0 + TG (iblk m c 0 t) (iblk m c 1 t) (iblk m c 2 t) (iblk m c 3 t) (iblk m c 6 t) (iblk m c 9 t) C := by
  rw [outsAt0_A m c t h0 h1]
  frame_out
  refine (dg_block (iblk m c 0 t) (iblk m c 1 t) (iblk m c 2 t) (iblk m c 3 t) (iblk m c 6 t) (iblk m c 9 t) _ C).trans ?_
  rw [zero_dg]

theorem dg_B (t : Fin cfg0.N) (h0 : ¬t.val % 32 = 0) (h1 : ¬t.val % 32 = 31) (C : Fin 2048) :
    (outsAt0 m c t.val t.isLt).2.2.2.2.1 (ix2 0 C) = (outsAt0 m c (t.val - 1) (Nat.lt_of_le_of_lt (Nat.sub_le _ _) t.isLt)).2.2.2.2.1 (ix2 0 C) + TG (iblk m c 0 t) (iblk m c 1 t) (iblk m c 2 t) (iblk m c 3 t) (iblk m c 6 t) (iblk m c 9 t) C := by
  rw [outsAt0_B m c t h0 h1]
  frame_out
  exact dg_block (iblk m c 0 t) (iblk m c 1 t) (iblk m c 2 t) (iblk m c 3 t) (iblk m c 6 t) (iblk m c 9 t) _ C

theorem dg_C (t : Fin cfg0.N) (h0 : ¬t.val % 32 = 0) (h1 : t.val % 32 = 31) (C : Fin 2048) :
    (outsAt0 m c t.val t.isLt).2.2.2.2.1 (ix2 0 C) = (outsAt0 m c (t.val - 1) (Nat.lt_of_le_of_lt (Nat.sub_le _ _) t.isLt)).2.2.2.2.1 (ix2 0 C) + TG (iblk m c 0 t) (iblk m c 1 t) (iblk m c 2 t) (iblk m c 3 t) (iblk m c 6 t) (iblk m c 9 t) C := by
  rw [outsAt0_C m c t h0 h1]
  frame_out
  exact dg_block (iblk m c 0 t) (iblk m c 1 t) (iblk m c 2 t) (iblk m c 3 t) (iblk m c 6 t) (iblk m c 9 t) _ C

theorem db_A (t : Fin cfg0.N) (h0 : t.val % 32 = 0) (h1 : ¬t.val % 32 = 31) (C : Fin 2048) :
    (outsAt0 m c t.val t.isLt).2.2.2.2.2.1 (ix2 0 C) = 0 + TS (iblk m c 0 t) (iblk m c 1 t) (iblk m c 3 t) (iblk m c 6 t) (iblk m c 9 t) C := by
  rw [outsAt0_A m c t h0 h1]
  frame_out
  refine (db_block (iblk m c 0 t) (iblk m c 1 t) (iblk m c 3 t) (iblk m c 6 t) (iblk m c 9 t) _ C).trans ?_
  rw [zero_db]

theorem db_B (t : Fin cfg0.N) (h0 : ¬t.val % 32 = 0) (h1 : ¬t.val % 32 = 31) (C : Fin 2048) :
    (outsAt0 m c t.val t.isLt).2.2.2.2.2.1 (ix2 0 C) = (outsAt0 m c (t.val - 1) (Nat.lt_of_le_of_lt (Nat.sub_le _ _) t.isLt)).2.2.2.2.2.1 (ix2 0 C) + TS (iblk m c 0 t) (iblk m c 1 t) (iblk m c 3 t) (iblk m c 6 t) (iblk m c 9 t) C := by
  rw [outsAt0_B m c t h0 h1]
  frame_out
  exact db_block (iblk m c 0 t) (iblk m c 1 t) (iblk m c 3 t) (iblk m c 6 t) (iblk m c 9 t) _ C

theorem db_C (t : Fin cfg0.N) (h0 : ¬t.val % 32 = 0) (h1 : t.val % 32 = 31) (C : Fin 2048) :
    (outsAt0 m c t.val t.isLt).2.2.2.2.2.1 (ix2 0 C) = (outsAt0 m c (t.val - 1) (Nat.lt_of_le_of_lt (Nat.sub_le _ _) t.isLt)).2.2.2.2.2.1 (ix2 0 C) + TS (iblk m c 0 t) (iblk m c 1 t) (iblk m c 3 t) (iblk m c 6 t) (iblk m c 9 t) C := by
  rw [outsAt0_C m c t h0 h1]
  frame_out
  exact db_block (iblk m c 0 t) (iblk m c 1 t) (iblk m c 3 t) (iblk m c 6 t) (iblk m c 9 t) _ C

theorem gw_A (t : Fin cfg0.N) (h0 : t.val % 32 = 0) (h1 : ¬t.val % 32 = 31) (C : Fin 2048) (e : Fin 1024) :
    (outsAt0 m c t.val t.isLt).2.2.2.2.2.2 (ix2 C e) = 0 + TO (iblk m c 0 t) (iblk m c 4 t) C e := by
  rw [outsAt0_A m c t h0 h1]
  frame_open
  simp (disch := decide) only [↓View.readCov_skip, ↓View.readCov_cons_toLoadRect, ↓View.readCov_fill]
  frame_out
  refine (gw_block (iblk m c 0 t) (iblk m c 4 t) (k0_pay3 (F := Ideal)) [_] C e).trans ?_
  rw [zero_gw]

theorem gw_B (t : Fin cfg0.N) (h0 : ¬t.val % 32 = 0) (h1 : ¬t.val % 32 = 31) (C : Fin 2048) (e : Fin 1024) :
    (outsAt0 m c t.val t.isLt).2.2.2.2.2.2 (ix2 C e) = (outsAt0 m c (t.val - 1) (Nat.lt_of_le_of_lt (Nat.sub_le _ _) t.isLt)).2.2.2.2.2.2 (ix2 C e) + TO (iblk m c 0 t) (iblk m c 4 t) C e := by
  rw [outsAt0_B m c t h0 h1]
  frame_out
  rw [read_unread_whole]
  exact gw_block (iblk m c 0 t) (iblk m c 4 t) _ [] C e

theorem gw_C (t : Fin cfg0.N) (h0 : ¬t.val % 32 = 0) (h1 : t.val % 32 = 31) (C : Fin 2048) (e : Fin 1024) :
    (outsAt0 m c t.val t.isLt).2.2.2.2.2.2 (ix2 C e) = (outsAt0 m c (t.val - 1) (Nat.lt_of_le_of_lt (Nat.sub_le _ _) t.isLt)).2.2.2.2.2.2 (ix2 C e) + TO (iblk m c 0 t) (iblk m c 4 t) C e := by
  rw [outsAt0_C m c t h0 h1]
  frame_out
  rw [read_unread_whole]
  exact gw_block (iblk m c 0 t) (iblk m c 4 t) _ [] C e

end Cert.MixTile
-- ==== Proof.MixKernel.lean ====
/-
  The launch over the whole arrays: what each window's block holds of the arguments, the block's values as the closed
  form's, the sums folded over the tiles, and the six arrays at the end.
-/
module

public import proofs.«01_k».proof.Proof.MixStage
public import proofs.«01_k».proof.Proof.MixCases
public import Idealize.ShloMosaic.Lib.Pipeline.ValueKit
public import Idealize.ShloMosaic.Lib.Claim
public import proofs.«01_k».proof.Proof.Gen.MixIdeal.Value

@[expose] public section

set_option maxRecDepth 16384

noncomputable section

namespace Cert.MixKernel

open Cert.MixIdeal Cert.MixIdeal.Gen Cert.MixGlobal Cert.MixStage Cert.MixTile
open Idealize.ShloMosaic Idealize.ShloMosaic.TcCoe Idealize.SL.Sem

variable (m : (ℓ : Loc nD τ sig) → Buf (Elt Ideal) ℓ) (c : Dev nD)

/-- The arguments. -/
abbrev a0 : FVec Ideal S8192x6144 .f32 := m ((c.tc : Thread nD τ).loc main_arg0)
abbrev a1 : FVec Ideal S1x2048 .f32 := m ((c.tc : Thread nD τ).loc main_arg1)
abbrev a2 : FVec Ideal S1x2048 .f32 := m ((c.tc : Thread nD τ).loc main_arg2)
abbrev a3 : FVec Ideal S8x128x128 .f32 := m ((c.tc : Thread nD τ).loc main_arg3)
abbrev a4 : FVec Ideal S8x128 .f32 := m ((c.tc : Thread nD τ).loc main_arg4)
abbrev a5 : FVec Ideal S2048x1024 .f32 := m ((c.tc : Thread nD τ).loc main_arg5)
abbrev a6 : FVec Ideal S8192x1024 .f32 := m ((c.tc : Thread nD τ).loc main_arg6)

/-! ## What the host prepares -/

section
set_option maxHeartbeats 4000000

theorem host38 : (V m c main_v38 : Vec Ideal S8192x2048 .bf16) = truncf .bf16 (uE (a0 m c)) (by decide) := by
  show StableHlo.after [hostOps0, hostOps0_1, hostOps0_2, hostOps0_3, hostOps0_4, hostOps0_5, hostOps0_6].flatten _ _ = _
  simp only [List.flatten_cons, List.flatten_nil, List.append_nil, List.cons_append, List.nil_append]
  after_results_simp
  rfl
theorem host39 : (V m c main_v39 : Vec Ideal S8192x2048 .bf16) = truncf .bf16 (vhE (a0 m c)) (by decide) := by
  show StableHlo.after [hostOps0, hostOps0_1, hostOps0_2, hostOps0_3, hostOps0_4, hostOps0_5, hostOps0_6].flatten _ _ = _
  simp only [List.flatten_cons, List.flatten_nil, List.append_nil, List.cons_append, List.nil_append]
  after_results_simp
  rfl
theorem host40 : (V m c main_v40 : Vec Ideal S8192x2048 .bf16) = truncf .bf16 (zE (a0 m c)) (by decide) := by
  show StableHlo.after [hostOps0, hostOps0_1, hostOps0_2, hostOps0_3, hostOps0_4, hostOps0_5, hostOps0_6].flatten _ _ = _
  simp only [List.flatten_cons, List.flatten_nil, List.append_nil, List.cons_append, List.nil_append]
  after_results_simp
  rfl
theorem host41 : (V m c main_v41 : Vec Ideal S8192x2048 .bf16)
    = truncf .bf16 (yE (a0 m c) (a1 m c) (a2 m c) (a3 m c) (a4 m c)) (by decide) := by
  show StableHlo.after [hostOps0, hostOps0_1, hostOps0_2, hostOps0_3, hostOps0_4, hostOps0_5, hostOps0_6].flatten _ _ = _
  simp only [List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  rfl
theorem host16 : (V m c main_v16 : Vec Ideal S8192x1 .f32) = rE (a0 m c) := by
  show StableHlo.after [hostOps0, hostOps0_1, hostOps0_2, hostOps0_3, hostOps0_4, hostOps0_5, hostOps0_6].flatten _ _ = _
  simp only [List.flatten_cons, List.flatten_nil, List.append_nil, List.cons_append, List.nil_append]
  after_results_simp
  rfl
theorem host42 : (V m c main_v42 : Vec Ideal S2048x1024 .bf16) = truncf .bf16 (a5 m c) (by decide) := by
  show StableHlo.after [hostOps0, hostOps0_1, hostOps0_2, hostOps0_3, hostOps0_4, hostOps0_5, hostOps0_6].flatten _ _ = _
  simp only [List.flatten_cons, List.flatten_nil, List.append_nil, List.cons_append, List.nil_append]
  after_results_simp
theorem host43 : (V m c main_v43 : Vec Ideal S128x8 .f32) = transpose S128x8 [1, 0] (a4 m c) transposes_S8x128_S128x8_1_0 := by
  show StableHlo.after [hostOps0, hostOps0_1, hostOps0_2, hostOps0_3, hostOps0_4, hostOps0_5, hostOps0_6].flatten _ _ = _
  simp only [List.flatten_cons, List.flatten_nil, List.append_nil, List.cons_append, List.nil_append]
  after_results_simp
end

/-! ## What the blocks hold -/

/-- Row `r` of point `t`'s tile. -/
def tl (t : Fin cfg0.N) (r : Fin 256) : Fin 8192 := ⟨256 * t.val + r.val, by have : t.val < 32 := t.isLt; omega⟩

theorem idx (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![0, 0, 0]
    ∧ win0_10.index t = ![0, 0] ∧ win0_12.index t = ![t.val, 0] := by
  revert t; decide +kernel

variable (t : Fin cfg0.N)

theorem blk0 (r : Fin 256) (e : Fin 1024) :
    (iblk m c 0 t : Vec Ideal S256x1024 .f32) (ix2 r e) = a6 m c (ix2 (tl t r) e) := by
  blk_ext [iblk, V, tl, idx t] <;> omega
theorem blk1 (r : Fin 256) (C : Fin 2048) :
    (iblk m c 1 t : Vec Ideal S256x2048 .bf16) (ix2 r C) = GU (a0 m c) (tl t r) C := by
  have h : (iblk m c 1 t : Vec Ideal S256x2048 .bf16) (ix2 r C)
      = (V m c main_v38 : Vec Ideal S8192x2048 .bf16) (ix2 (tl t r) C) := by
    blk_ext [iblk, tl, idx t] <;> omega
  rw [h, host38]; exact uE_apply _ _ _
theorem blk2 (r : Fin 256) (C : Fin 2048) :
    (iblk m c 2 t : Vec Ideal S256x2048 .bf16) (ix2 r C) = GVH (a0 m c) (tl t r) C := by
  have h : (iblk m c 2 t : Vec Ideal S256x2048 .bf16) (ix2 r C)
      = (V m c main_v39 : Vec Ideal S8192x2048 .bf16) (ix2 (tl t r) C) := by
    blk_ext [iblk, tl, idx t] <;> omega
  rw [h, host39]; exact vhE_apply _ _ _
theorem blk3 (r : Fin 256) (C : Fin 2048) :
    (iblk m c 3 t : Vec Ideal S256x2048 .bf16) (ix2 r C) = GZ (a0 m c) (tl t r) C := by
  have h : (iblk m c 3 t : Vec Ideal S256x2048 .bf16) (ix2 r C)
      = (V m c main_v40 : Vec Ideal S8192x2048 .bf16) (ix2 (tl t r) C) := by
    blk_ext [iblk, tl, idx t] <;> omega
  rw [h, host40]; exact zE_apply _ _ _
theorem blk4 (r : Fin 256) (C : Fin 2048) :
    (iblk m c 4 t : Vec Ideal S256x2048 .bf16) (ix2 r C) = GY (a0 m c) (a1 m c) (a2 m c) (a3 m c) (a4 m c) (tl t r) C := by
  have h : (iblk m c 4 t : Vec Ideal S256x2048 .bf16) (ix2 r C)
      = (V m c main_v41 : Vec Ideal S8192x2048 .bf16) (ix2 (tl t r) C) := by
    blk_ext [iblk, tl, idx t] <;> omega
  rw [h, host41]; exact yE_apply _ _ _ _ _ _ _
theorem blk5 (r : Fin 256) : (iblk m c 5 t : Vec Ideal S256x1 .f32) (ix2 r 0) = GR (a0 m c) (tl t r) := by
  have h : (iblk m c 5 t : Vec Ideal S256x1 .f32) (ix2 r 0)
      = (V m c main_v16 : Vec Ideal S8192x1 .f32) (ix2 (tl t r) 0) := by
    blk_ext [iblk, tl, idx t] <;> omega
  rw [h, host16]; exact rE_apply _ _ _
theorem blk6 (C : Fin 2048) (e : Fin 1024) :
    (iblk m c 6 t : Vec Ideal S2048x1024 .bf16) (ix2 C e) = a5 m c (ix2 C e) := by
  have h : (iblk m c 6 t : Vec Ideal S2048x1024 .bf16) (ix2 C e)
      = (V m c main_v42 : Vec Ideal S2048x1024 .bf16) (ix2 C e) := by
    blk_ext [iblk, tl, idx t] <;> omega
  rw [h, host42]; rfl
theorem blk7 (C : Fin 2048) : (iblk m c 7 t : Vec Ideal S1x2048 .f32) (ix2 0 C) = a1 m c (ix2 0 C) := by
  blk_ext [iblk, V, idx t] <;> omega
theorem blk8 (C : Fin 2048) : (iblk m c 8 t : Vec Ideal S1x2048 .f32) (ix2 0 C) = a2 m c (ix2 0 C) := by
  blk_ext [iblk, V, idx t] <;> omega
theorem blk9 (g : Fin 8) (i s : Fin 128) : (iblk m c 9 t : Vec Ideal S8x128x128 .f32) (ix3 g i s) = a3 m c (ix3 g i s) := by
  blk_ext [iblk, V, idx t] <;> omega
theorem blk10 (i : Fin 128) (g : Fin 8) : (iblk m c 10 t : Vec Ideal S128x8 .f32) (ix2 i g) = a4 m c (ix2 g i) := by
  have h : (iblk m c 10 t : Vec Ideal S128x8 .f32) (ix2 i g) = (V m c main_v43 : Vec Ideal S128x8 .f32) (ix2 i g) := by
    blk_ext [iblk, tl, idx t] <;> omega
  rw [h, host43]; pointwise

/-! ## The block's values are the closed form's -/

/-- Chunk `k` of point `t`'s tile. -/
def ck (k : Fin 2) : Fin 64 := ⟨2 * t.val + k.val, by have : t.val < 32 := t.isLt; omega⟩

theorem tl_row (k : Fin 2) (i : Fin 128) : tl t (row k i) = rowG (ck t k) i :=
  Fin.ext (by simp only [tl, row, rowG, ck]; omega)
theorem chk_tl (r : Fin 256) : chk (tl t r) = ck t (chunkOf r) := Fin.ext (by simp only [chk, tl, ck, chunkOf]; omega)
theorem tok_tl (r : Fin 256) : tok (tl t r) = tokenOf r := Fin.ext (by simp only [tok, tl, tokenOf]; omega)
theorem row_chunk (r : Fin 256) : row (chunkOf r) (tokenOf r) = r := Fin.ext (by simp only [row, chunkOf, tokenOf]; omega)
theorem col_group (C : Fin 2048) : col (groupOf C) (laneOf C) = C := Fin.ext (by simp only [col, groupOf, laneOf]; omega)

theorem dy_eq (r : Fin 256) (C : Fin 2048) :
    DY (iblk m c 0 t) (iblk m c 6 t) r C = GDY (a5 m c) (a6 m c) (tl t r) C := by
  simp only [DY, blk0, blk6, GDY]
theorem low_eq (g : Fin 8) (i s : Fin 128) : LOW (iblk m c 9 t) g i s = GLOW (a3 m c) g i s := by
  simp only [LOW, blk9, GLOW]
theorem vn_eq (r : Fin 256) (C : Fin 2048) :
    VN (iblk m c 2 t) (iblk m c 7 t) (iblk m c 8 t) r C = GVN (a0 m c) (a1 m c) (a2 m c) (tl t r) C := by
  simp only [VN, blk2, blk7, blk8, GVN]
theorem s_eq (k : Fin 2) (i : Fin 128) (g : Fin 8) (d : Fin 256) :
    S (iblk m c 2 t) (iblk m c 7 t) (iblk m c 8 t) (iblk m c 9 t) (iblk m c 10 t) k i g d
      = GS (a0 m c) (a1 m c) (a2 m c) (a3 m c) (a4 m c) (rowG (ck t k) i) (col g d) := by
  have hg : grp (col g d) = g := grp_colG g d
  simp only [S, low_eq, vn_eq, blk10, GS, tl_row, chk_rowG, tok_rowG, hg]
theorem sz_eq (r : Fin 256) (C : Fin 2048) : SZ (iblk m c 3 t) r C = GSZ (a0 m c) (tl t r) C := by
  simp only [SZ, blk3, GSZ]
theorem ds_eq (r : Fin 256) (C : Fin 2048) :
    DS (iblk m c 0 t) (iblk m c 1 t) (iblk m c 3 t) (iblk m c 6 t) r C = GDS (a0 m c) (a5 m c) (a6 m c) (tl t r) C := by
  simp only [DS, dy_eq, sz_eq, blk1, GDS]
theorem du_eq (k : Fin 2) (i : Fin 128) (g : Fin 8) (d : Fin 256) :
    DU (iblk m c 0 t) (iblk m c 2 t) (iblk m c 3 t) (iblk m c 6 t) (iblk m c 7 t) (iblk m c 8 t) (iblk m c 9 t) (iblk m c 10 t) k i g d
      = GDU (a0 m c) (a1 m c) (a2 m c) (a3 m c) (a4 m c) (a5 m c) (a6 m c) (rowG (ck t k) i) (col g d) := by
  simp only [DU, dy_eq, sz_eq, s_eq, tl_row, GDU]
theorem dz_eq (k : Fin 2) (i : Fin 128) (g : Fin 8) (d : Fin 256) :
    DZ (iblk m c 0 t) (iblk m c 1 t) (iblk m c 2 t) (iblk m c 3 t) (iblk m c 6 t) (iblk m c 7 t) (iblk m c 8 t) (iblk m c 9 t) (iblk m c 10 t) k i g d
      = GDZ (a0 m c) (a1 m c) (a2 m c) (a3 m c) (a4 m c) (a5 m c) (a6 m c) (rowG (ck t k) i) (col g d) := by
  simp only [DZ, dy_eq, blk1, blk3, s_eq, tl_row, GDZ]
theorem dvn_eq (r : Fin 256) (C : Fin 2048) :
    DVNB (iblk m c 0 t) (iblk m c 1 t) (iblk m c 3 t) (iblk m c 6 t) (iblk m c 9 t) r C
      = GDVN (a0 m c) (a3 m c) (a5 m c) (a6 m c) (tl t r) C := by
  simp only [DVNB, DVN, low_eq, ds_eq, tl_row, col_group, GDVN, chk_tl, tok_tl]
  rfl
theorem dv_eq (r : Fin 256) (C : Fin 2048) :
    DV (iblk m c 0 t) (iblk m c 1 t) (iblk m c 2 t) (iblk m c 3 t) (iblk m c 5 t) (iblk m c 6 t) (iblk m c 7 t) (iblk m c 9 t) r C
      = GDV (a0 m c) (a1 m c) (a3 m c) (a5 m c) (a6 m c) (tl t r) C := by
  simp only [DV, dvn_eq, blk2, blk5, blk7, GDV, GW]
theorem dp_eq (r : Fin 256) (Q : Fin 6144) :
    DP (iblk m c 0 t) (iblk m c 1 t) (iblk m c 2 t) (iblk m c 3 t) (iblk m c 5 t) (iblk m c 6 t) (iblk m c 7 t) (iblk m c 8 t)
        (iblk m c 9 t) (iblk m c 10 t) r Q
      = O0 (a0 m c) (a1 m c) (a2 m c) (a3 m c) (a4 m c) (a5 m c) (a6 m c) (ix2 (tl t r) Q) := by
  have hr : rowG (ck t (chunkOf r)) (tokenOf r) = tl t r := by rw [← tl_row, row_chunk]
  simp only [DP, du_eq, dv_eq, dz_eq, hr, col_group]
  rfl

theorem tw_eq (g : Fin 8) (i s : Fin 128) :
    TW (iblk m c 0 t) (iblk m c 1 t) (iblk m c 2 t) (iblk m c 3 t) (iblk m c 6 t) (iblk m c 7 t) (iblk m c 8 t) g i s
      = if s.val ≤ i.val then
          (∑ d : Fin 256, GDS (a0 m c) (a5 m c) (a6 m c) (rowG (ck t 0) i) (colG g d)
            * GVN (a0 m c) (a1 m c) (a2 m c) (rowG (ck t 0) s) (colG g d))
          + ∑ d : Fin 256, GDS (a0 m c) (a5 m c) (a6 m c) (rowG (ck t 1) i) (colG g d)
            * GVN (a0 m c) (a1 m c) (a2 m c) (rowG (ck t 1) s) (colG g d) else 0 := by
  simp only [TW, ds_eq, vn_eq, tl_row]
  rfl
theorem tb_eq (i l : Fin 128) :
    TB (iblk m c 0 t) (iblk m c 1 t) (iblk m c 3 t) (iblk m c 6 t) i l
      = if h : l.val < 8 then (∑ d : Fin 256, GDS (a0 m c) (a5 m c) (a6 m c) (rowG (ck t 0) i) (colG ⟨l.val, h⟩ d))
          + ∑ d : Fin 256, GDS (a0 m c) (a5 m c) (a6 m c) (rowG (ck t 1) i) (colG ⟨l.val, h⟩ d) else 0 := by
  simp only [TB, ds_eq, tl_row]
  rfl
theorem tg_eq (C : Fin 2048) :
    TG (iblk m c 0 t) (iblk m c 1 t) (iblk m c 2 t) (iblk m c 3 t) (iblk m c 6 t) (iblk m c 9 t) C
      = ∑ r : Fin 256, GDVN (a0 m c) (a3 m c) (a5 m c) (a6 m c) (tl t r) C * GVH (a0 m c) (tl t r) C := by
  simp only [TG, dvn_eq, blk2]
theorem ts_eq (C : Fin 2048) :
    TS (iblk m c 0 t) (iblk m c 1 t) (iblk m c 3 t) (iblk m c 6 t) (iblk m c 9 t) C
      = ∑ r : Fin 256, GDVN (a0 m c) (a3 m c) (a5 m c) (a6 m c) (tl t r) C := by
  simp only [TS, dvn_eq]
theorem to_eq (C : Fin 2048) (e : Fin 1024) :
    TO (iblk m c 0 t) (iblk m c 4 t) C e
      = ∑ r : Fin 256, GY (a0 m c) (a1 m c) (a2 m c) (a3 m c) (a4 m c) (tl t r) C * a6 m c (ix2 (tl t r) e) := by
  simp only [TO, blk0, blk4]

end Cert.MixKernel
-- ==== Proof.MixArr.lean ====
/-
  The six arrays of the launch at its end: the sums over the 32 tiles folded, each tile's gradient block in its rows.
-/
module

public import proofs.«01_k».proof.Proof.MixKernel

@[expose] public section

set_option maxRecDepth 16384

noncomputable section

namespace Cert.MixKernel

open Cert.MixIdeal Cert.MixIdeal.Gen Cert.MixGlobal Cert.MixStage Cert.MixTile
open Idealize.ShloMosaic Idealize.ShloMosaic.TcCoe Idealize.SL.Sem

variable (m : (ℓ : Loc nD τ sig) → Buf (Elt Ideal) ℓ) (c : Dev nD)

/-- The last point. -/
def last : Fin cfg0.N := ⟨31, by decide⟩

/-- The scratch array read whole and rounded is the pieces laid on each other. -/
theorem read_back {κ : Kind} {sp : Space} (v : View sig κ sp S2048x1024 .f32) (L : List (View.Piece (Elt Ideal) S2048x1024 .f32)) (C : Fin 2048) (e : Fin 1024) :
    k0_pay2 (F := Ideal) (v.readCov L (Rect.unit (s := S2048x1024) ![0, 0] ![2048, 1024] inb_S2048x1024_S2048x1024_0_0).toLoadRect) (ix2 C e)
      = View.canon L (ix2 C e) := by
  show v.readCov L (Rect.unit (s := S2048x1024) ![0, 0] ![2048, 1024] inb_S2048x1024_S2048x1024_0_0).toLoadRect (ix2 C e) = _
  rw [View.readCov_eq_canon']
  have h : (Rect.unit (s := S2048x1024) ![0, 0] ![2048, 1024] inb_S2048x1024_S2048x1024_0_0).toLoadRect.idx (ix2 C e) = ix2 C e := by
    funext a; fin_cases a <;> exact Fin.ext (by simp [Rect.toLoadRect, LoadRect.idx])
  show View.canon _ ((Rect.unit (s := S2048x1024) ![0, 0] ![2048, 1024] inb_S2048x1024_S2048x1024_0_0).toLoadRect.idx (ix2 C e)) = _
  rw [h]

/-- At the last point the summed product is written back as it stands. -/
theorem gwb_C (t : Fin cfg0.N) (h0 : ¬t.val % 32 = 0) (h1 : t.val % 32 = 31) (C : Fin 2048) (e : Fin 1024) :
    (outsAt0 m c t.val t.isLt).2.1 (ix2 C e) = (outsAt0 m c t.val t.isLt).2.2.2.2.2.2 (ix2 C e) := by
  rw [gw_C m c t h0 h1]
  rw [outsAt0_C m c t h0 h1]
  frame_out
  rw [read_unread_whole]
  refine (read_back _ _ C e).trans ?_
  exact gw_block (iblk m c 0 t) (iblk m c 4 t) _ [] C e

/-! ## The folds -/

/-- A sum that starts at the first point and grows by a term at each later one is, at the last, the sum of the terms. -/
theorem fold (f : (n : ℕ) → n < cfg0.N → EReal) (term : Fin cfg0.N → EReal)
    (hA : ∀ t : Fin cfg0.N, t.val % 32 = 0 → f t.val t.isLt = 0 + term t)
    (hB : ∀ t : Fin cfg0.N, ¬t.val % 32 = 0 → ¬t.val % 32 = 31 →
      f t.val t.isLt = f (t.val - 1) (Nat.lt_of_le_of_lt (Nat.sub_le _ _) t.isLt) + term t)
    (hC : ∀ t : Fin cfg0.N, ¬t.val % 32 = 0 → t.val % 32 = 31 →
      f t.val t.isLt = f (t.val - 1) (Nat.lt_of_le_of_lt (Nat.sub_le _ _) t.isLt) + term t) :
    f last.val last.isLt = ∑ n : Fin 32, term n :=
  (Pipeline.eq_sum_fin_of_reset_step_apply_last (ι := Unit) (fun n h _ => f n h) 32 (fun _ => 0) (fun t _ => term t)
    (fun t h _ => hA t h)
    (fun t h _ => if h1 : t.val % 32 = 31 then hC t h h1 else hB t h h1) (by decide) last (by decide) ()).trans (zero_add _)

theorem mod_0 (t : Fin cfg0.N) (h : t.val % 32 = 0) : ¬t.val % 32 = 31 := by omega

theorem dws_fold (i : S8x128x128.Idx) : (outsAt0 m c last.val last.isLt).2.2.1 i
    = O2 (a0 m c) (a1 m c) (a2 m c) (a5 m c) (a6 m c) i := by
  obtain ⟨g, x, s, rfl⟩ : ∃ g x s, i = ix3 g x s := ⟨i 0, i 1, i 2, eq_ix3 i⟩
  have key := fold (fun n h => (outsAt0 m c n h).2.2.1 (ix3 g x s))
    (fun t => TW (iblk m c 0 t) (iblk m c 1 t) (iblk m c 2 t) (iblk m c 3 t) (iblk m c 6 t) (iblk m c 7 t) (iblk m c 8 t) g x s)
    (fun t h => dws_A m c t h (mod_0 t h) g x s) (fun t h h1 => dws_B m c t h h1 g x s)
    (fun t h h1 => dws_C m c t h h1 g x s)
  refine key.trans ?_
  refine (Finset.sum_congr rfl fun n _ => tw_eq m c n g x s).trans ?_
  show _ = if s.val ≤ x.val then _ else _
  split
  · exact (sum_chunks (fun q => ∑ d : Fin 256, GDS (a0 m c) (a5 m c) (a6 m c) (rowG q x) (colG g d)
      * GVN (a0 m c) (a1 m c) (a2 m c) (rowG q s) (colG g d))).symm
  · exact Finset.sum_const_zero

theorem dbs_fold (i : S128x128.Idx) : (outsAt0 m c last.val last.isLt).2.2.2.1 i
    = O3 (a0 m c) (a5 m c) (a6 m c) i := by
  obtain ⟨x, l, rfl⟩ : ∃ x l, i = ix2 x l := ⟨i 0, i 1, eq_ix2 i⟩
  have key := fold (fun n h => (outsAt0 m c n h).2.2.2.1 (ix2 x l))
    (fun t => TB (iblk m c 0 t) (iblk m c 1 t) (iblk m c 3 t) (iblk m c 6 t) x l)
    (fun t h => dbs_A m c t h (mod_0 t h) x l) (fun t h h1 => dbs_B m c t h h1 x l)
    (fun t h h1 => dbs_C m c t h h1 x l)
  refine key.trans ?_
  refine (Finset.sum_congr rfl fun n _ => tb_eq m c n x l).trans ?_
  show _ = if h : l.val < 8 then _ else _
  split
  · exact (sum_chunks (fun q => ∑ d : Fin 256, GDS (a0 m c) (a5 m c) (a6 m c) (rowG q x) (colG ⟨l.val, _⟩ d))).symm
  · exact Finset.sum_const_zero

theorem dg_fold (i : S1x2048.Idx) : (outsAt0 m c last.val last.isLt).2.2.2.2.1 i
    = O4 (a0 m c) (a3 m c) (a5 m c) (a6 m c) i := by
  obtain ⟨C, rfl⟩ : ∃ C : Fin 2048, i = ix2 (0 : Fin 1) C := ⟨i 1, (eq_ix2 (n0 := 1) (n1 := 2048) i).trans
    (congrArg (fun z : Fin 1 => ix2 z (i 1)) (Subsingleton.elim (α := Fin 1) (i 0) 0))⟩
  have key := fold (fun n h => (outsAt0 m c n h).2.2.2.2.1 (ix2 0 C))
    (fun t => TG (iblk m c 0 t) (iblk m c 1 t) (iblk m c 2 t) (iblk m c 3 t) (iblk m c 6 t) (iblk m c 9 t) C)
    (fun t h => dg_A m c t h (mod_0 t h) C) (fun t h h1 => dg_B m c t h h1 C)
    (fun t h h1 => dg_C m c t h h1 C)
  refine key.trans ?_
  refine (Finset.sum_congr rfl fun n _ => tg_eq m c n C).trans ?_
  exact (sum_rows fun R => GDVN (a0 m c) (a3 m c) (a5 m c) (a6 m c) R C * GVH (a0 m c) R C).symm

theorem db_fold (i : S1x2048.Idx) : (outsAt0 m c last.val last.isLt).2.2.2.2.2.1 i
    = O5 (a0 m c) (a3 m c) (a5 m c) (a6 m c) i := by
  obtain ⟨C, rfl⟩ : ∃ C : Fin 2048, i = ix2 (0 : Fin 1) C := ⟨i 1, (eq_ix2 (n0 := 1) (n1 := 2048) i).trans
    (congrArg (fun z : Fin 1 => ix2 z (i 1)) (Subsingleton.elim (α := Fin 1) (i 0) 0))⟩
  have key := fold (fun n h => (outsAt0 m c n h).2.2.2.2.2.1 (ix2 0 C))
    (fun t => TS (iblk m c 0 t) (iblk m c 1 t) (iblk m c 3 t) (iblk m c 6 t) (iblk m c 9 t) C)
    (fun t h => db_A m c t h (mod_0 t h) C) (fun t h h1 => db_B m c t h h1 C)
    (fun t h h1 => db_C m c t h h1 C)
  refine key.trans ?_
  refine (Finset.sum_congr rfl fun n _ => ts_eq m c n C).trans ?_
  exact (sum_rows fun R => GDVN (a0 m c) (a3 m c) (a5 m c) (a6 m c) R C).symm

theorem gw_fold (i : S2048x1024.Idx) : (outsAt0 m c last.val last.isLt).2.1 i
    = O1 (a0 m c) (a1 m c) (a2 m c) (a3 m c) (a4 m c) (a6 m c) i := by
  obtain ⟨C, e, rfl⟩ : ∃ C e, i = ix2 C e := ⟨i 0, i 1, eq_ix2 i⟩
  refine (gwb_C m c last (by decide) (by decide) C e).trans ?_
  have key := fold (fun n h => (outsAt0 m c n h).2.2.2.2.2.2 (ix2 C e))
    (fun t => TO (iblk m c 0 t) (iblk m c 4 t) C e)
    (fun t h => gw_A m c t h (mod_0 t h) C e) (fun t h h1 => gw_B m c t h h1 C e)
    (fun t h h1 => gw_C m c t h h1 C e)
  refine key.trans ?_
  refine (Finset.sum_congr rfl fun n _ => to_eq m c n C e).trans ?_
  exact (sum_rows fun R => GY (a0 m c) (a1 m c) (a2 m c) (a3 m c) (a4 m c) R C * a6 m c (ix2 R e)).symm

/-! ## The arrays -/

theorem idx12 : ∀ t, win0_12.index t = ![t.val, 0] := by decide +kernel

theorem arr_dp : (dats m 0 c).arrAt 12 cfg0.N
    = (O0 (a0 m c) (a1 m c) (a2 m c) (a3 m c) (a4 m c) (a5 m c) (a6 m c) : Vec Ideal S8192x6144 .bf16) := by
  refine (dats m 0 c).arrAt_eq_of_covers 12 _ (by decide +kernel) fun t hf y => ?_
  blk_simp
  rw [after0_12]
  obtain ⟨r, Q, rfl⟩ : ∃ (r : Fin 256) (Q : Fin 6144), y = ix2 r Q := ⟨y 0, y 1, eq_ix2 (n0 := 256) (n1 := 6144) y⟩
  have e : (win0_12.blk t).view.emb (ix2 r Q) = ix2 (tl t r) Q := by
    funext a; fin_cases a <;> apply Fin.ext <;> simp [tl, idx12 t]
    exact Nat.mul_comm _ _
  rw [e]
  refine Eq.trans ?_ (dp_eq m c t r Q)
  by_cases h0 : t.val % 32 = 0
  · exact dp_A m c t h0 (mod_0 t h0) r Q
  · by_cases h1 : t.val % 32 = 31
    · exact dp_C m c t h0 h1 r Q
    · exact dp_B m c t h0 h1 r Q

theorem arr_gw : (dats m 0 c).arrAt 13 cfg0.N
    = (O1 (a0 m c) (a1 m c) (a2 m c) (a3 m c) (a4 m c) (a6 m c) : Vec Ideal S2048x1024 .bf16) := by
  refine (dats m 0 c).arrAt_eq_of_after_last 13 last (by decide +kernel) _ fun j => ?_
  blk_simp
  rw [after0_13]
  exact gw_fold m c _

theorem arr_dws : (dats m 0 c).arrAt 14 cfg0.N
    = (O2 (a0 m c) (a1 m c) (a2 m c) (a5 m c) (a6 m c) : Vec Ideal S8x128x128 .f32) := by
  refine (dats m 0 c).arrAt_eq_of_after_last 14 last (by decide +kernel) _ fun j => ?_
  blk_simp
  rw [after0_14]
  exact dws_fold m c _

theorem arr_dbs : (dats m 0 c).arrAt 15 cfg0.N = (O3 (a0 m c) (a5 m c) (a6 m c) : Vec Ideal S128x128 .f32) := by
  refine (dats m 0 c).arrAt_eq_of_after_last 15 last (by decide +kernel) _ fun j => ?_
  blk_simp
  rw [after0_15]
  exact dbs_fold m c _

theorem arr_dg : (dats m 0 c).arrAt 16 cfg0.N = (O4 (a0 m c) (a3 m c) (a5 m c) (a6 m c) : Vec Ideal S1x2048 .f32) := by
  refine (dats m 0 c).arrAt_eq_of_after_last 16 last (by decide +kernel) _ fun j => ?_
  blk_simp
  rw [after0_16]
  exact dg_fold m c _

theorem arr_db : (dats m 0 c).arrAt 17 cfg0.N = (O5 (a0 m c) (a3 m c) (a5 m c) (a6 m c) : Vec Ideal S1x2048 .f32) := by
  refine (dats m 0 c).arrAt_eq_of_after_last 17 last (by decide +kernel) _ fun j => ?_
  blk_simp
  rw [after0_17]
  exact db_fold m c _

end Cert.MixKernel
-- ==== Proof.DxFrame.lean ====
/-
  The launch of the input's gradient with the four updates, run: what each output block holds after each grid point, the
  arrays at the end, the arguments unchanged.
-/
module

public import proofs.«01_k».proof.Proof.Gen.DxIdeal.Launch
public import proofs.«01_k».proof.Proof.Gen.DxIdeal.Skeleton
public import proofs.«01_k».proof.Proof.Gen.DxIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that none of the host's operations writes is as the memory has it. -/
theorem V_kept (c : Dev nD) {b : Ref sig .tc} (h : ∀ r ∈ [main_v0, main_v1, main_cst, main_v2], b ≠ r) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by simp))))

section

variable (c : Dev nD)

theorem V_main_arg0 : V m c main_arg0 = m ((c : Thread nD τ).loc main_arg0) := V_kept m c (by decide)
theorem V_main_arg1 : V m c main_arg1 = m ((c : Thread nD τ).loc main_arg1) := V_kept m c (by decide)
theorem V_main_arg2 : V m c main_arg2 = m ((c : Thread nD τ).loc main_arg2) := V_kept m c (by decide)
theorem V_main_arg3 : V m c main_arg3 = m ((c : Thread nD τ).loc main_arg3) := V_kept m c (by decide)
theorem V_main_arg4 : V m c main_arg4 = m ((c : Thread nD τ).loc main_arg4) := V_kept m c (by decide)
theorem V_main_arg5 : V m c main_arg5 = m ((c : Thread nD τ).loc main_arg5) := V_kept m c (by decide)
theorem V_main_arg6 : V m c main_arg6 = m ((c : Thread nD τ).loc main_arg6) := V_kept m c (by decide)
theorem V_main_arg7 : V m c main_arg7 = m ((c : Thread nD τ).loc main_arg7) := V_kept m c (by decide)
theorem V_main_arg8 : V m c main_arg8 = m ((c : Thread nD τ).loc main_arg8) := V_kept m c (by decide)
theorem V_main_arg9 : V m c main_arg9 = m ((c : Thread nD τ).loc main_arg9) := V_kept m c (by decide)
theorem V_main_arg10 : V m c main_arg10 = m ((c : Thread nD τ).loc main_arg10) := V_kept m c (by decide)
theorem V_main_arg11 : V m c main_arg11 = m ((c : Thread nD τ).loc main_arg11) := V_kept m c (by decide)
theorem V_main_arg12 : V m c main_arg12 = m ((c : Thread nD τ).loc main_arg12) := V_kept m c (by decide)
theorem V_main_arg13 : V m c main_arg13 = m ((c : Thread nD τ).loc main_arg13) := V_kept m c (by decide)
theorem V_main_arg14 : V m c main_arg14 = m ((c : Thread nD τ).loc main_arg14) := V_kept m c (by decide)
theorem V_main_arg15 : V m c main_arg15 = m ((c : Thread nD τ).loc main_arg15) := V_kept m c (by decide)
theorem V_main_arg16 : V m c main_arg16 = m ((c : Thread nD τ).loc main_arg16) := V_kept m c (by decide)
theorem V_main_arg17 : V m c main_arg17 = m ((c : Thread nD τ).loc main_arg17) := V_kept m c (by decide)
theorem V_main_arg18 : V m c main_arg18 = m ((c : Thread nD τ).loc main_arg18) := V_kept m c (by decide)
theorem V_main_arg19 : V m c main_arg19 = m ((c : Thread nD τ).loc main_arg19) := V_kept m c (by decide)

end

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 2220000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 0).trans (((dats 0 c).arrAt_in 0 rfl _).trans ((hA c 0).trans (V_main_arg2 m c))),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c)))⟩) h

abbrev r0_0 : Rect S512x1024 := Rect.unit (s := S512x1024) ![0, 0] S512x1024.size inb_S512x1024_S512x1024_0_0
abbrev r0_1 : Rect S512x6144 := Rect.unit (s := S512x6144) ![0, 0] S512x6144.size inb_S512x6144_S512x6144_0_0
abbrev r0_2 : Rect S1024x6144 := Rect.unit (s := S1024x6144) ![0, 0] S1024x6144.size inb_S1024x6144_S1024x6144_0_0
abbrev r0_3 : Rect S16x1024 := Rect.unit (s := S16x1024) ![0, 0] S16x1024.size inb_S16x1024_S16x1024_0_0
abbrev r0_4 : Rect S64x512 := Rect.unit (s := S64x512) ![0, 0] S64x512.size inb_S64x512_S64x512_0_0
abbrev r0_5 : Rect S16x256 := Rect.unit (s := S16x256) ![0, 0] S16x256.size inb_S16x256_S16x256_0_0
abbrev r0_6 : Rect S32x1024 := Rect.unit (s := S32x1024) ![0, 0] S32x1024.size inb_S32x1024_S32x1024_0_0

def k0_pay17 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : FVec F S16x1024 .f32 :=
  k0_pay5 (View.ld x5 r0_3) (View.ld x7 r0_3) -- `v26`
def k0_pay18 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : FVec F S64x512 .f32 :=
  k0_pay8 (View.ld x9 r0_4) (View.ld x10 r0_4) -- `v53`
def k0_pay19 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : FVec F S64x512 .f32 :=
  k0_pay9 (View.ld x9 r0_4) (View.ld x11 r0_4) -- `v59`
def k0_pay20 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : FVec F S16x256 .f32 :=
  k0_pay11 (View.ld x13 r0_5) (View.ld x14 r0_5) -- `v86`
def k0_pay21 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : FVec F S16x256 .f32 :=
  k0_pay12 (View.ld x15 r0_5) -- `v88`
def k0_pay22 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : FVec F S16x256 .f32 :=
  k0_pay13 (View.ld x13 r0_5) -- `v89`
def k0_pay23 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : FVec F S32x1024 .f32 :=
  k0_pay16 (View.ld x17 r0_6) (View.ld x18 r0_6) -- `v119`

def out0_20 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S512x1024 .f32 :=
  View.canon [⟨r0_0, k0_pay3 (View.ld x0 r0_0) (View.ld x1 r0_1) (View.ld x2 r0_2)⟩]

theorem cover0_20 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

def out0_21 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S16x1024 .f32 :=
  View.canon [⟨r0_3, View.ld x5 r0_3⟩]

theorem cover0_21 (p0 : Vec F S16x1024 .f32) (y : S16x1024.Idx) :
    ∃ pc ∈ ([⟨r0_3, p0⟩] : List (View.Piece (Elt F) S16x1024 .f32)), y ∈ pc.1.set :=
  View.cover_of_tiled [⟨r0_3, p0⟩] S16x1024.size (by rfl) y

def out0_22 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S16x1024 .f32 :=
  View.canon [⟨r0_3, k0_pay7 (View.ld x4 r0_3) (k0_pay17 x0 x1 x2 x3 x4 x5 x6 x7 x8 x9 x10 x11 x12 x13 x14 x15 x16 x17 x18 x19) (k0_pay6 (View.ld x5 r0_3) (View.ld x6 r0_3)) (Scalar.ofBits .f32 0x3C231ACC#32)⟩]

theorem cover0_22 (p0 : Vec F S16x1024 .f32) (y : S16x1024.Idx) :
    ∃ pc ∈ ([⟨r0_3, p0⟩] : List (View.Piece (Elt F) S16x1024 .f32)), y ∈ pc.1.set :=
  View.cover_of_tiled [⟨r0_3, p0⟩] S16x1024.size (by rfl) y

def out0_23 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S16x1024 .f32 :=
  View.canon [⟨r0_3, k0_pay4 (View.ld x5 r0_3) (View.ld x6 r0_3)⟩]

theorem cover0_23 (p0 : Vec F S16x1024 .f32) (y : S16x1024.Idx) :
    ∃ pc ∈ ([⟨r0_3, p0⟩] : List (View.Piece (Elt F) S16x1024 .f32)), y ∈ pc.1.set :=
  View.cover_of_tiled [⟨r0_3, p0⟩] S16x1024.size (by rfl) y

def out0_24 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S16x1024 .f32 :=
  View.canon [⟨r0_3, k0_pay17 x0 x1 x2 x3 x4 x5 x6 x7 x8 x9 x10 x11 x12 x13 x14 x15 x16 x17 x18 x19⟩]

theorem cover0_24 (p0 : Vec F S16x1024 .f32) (y : S16x1024.Idx) :
    ∃ pc ∈ ([⟨r0_3, p0⟩] : List (View.Piece (Elt F) S16x1024 .f32)), y ∈ pc.1.set :=
  View.cover_of_tiled [⟨r0_3, p0⟩] S16x1024.size (by rfl) y

def out0_25 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S64x512 .f32 :=
  View.canon [⟨r0_4, View.ld x9 r0_4⟩]

theorem cover0_25 (p0 : Vec F S64x512 .f32) (y : S64x512.Idx) :
    ∃ pc ∈ ([⟨r0_4, p0⟩] : List (View.Piece (Elt F) S64x512 .f32)), y ∈ pc.1.set :=
  View.cover_of_tiled [⟨r0_4, p0⟩] S64x512.size (by rfl) y

def out0_26 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S64x512 .f32 :=
  View.canon [⟨r0_4, k0_pay10 (View.ld x8 r0_4) (k0_pay18 x0 x1 x2 x3 x4 x5 x6 x7 x8 x9 x10 x11 x12 x13 x14 x15 x16 x17 x18 x19) (k0_pay19 x0 x1 x2 x3 x4 x5 x6 x7 x8 x9 x10 x11 x12 x13 x14 x15 x16 x17 x18 x19)⟩]

theorem cover0_26 (p0 : Vec F S64x512 .f32) (y : S64x512.Idx) :
    ∃ pc ∈ ([⟨r0_4, p0⟩] : List (View.Piece (Elt F) S64x512 .f32)), y ∈ pc.1.set :=
  View.cover_of_tiled [⟨r0_4, p0⟩] S64x512.size (by rfl) y

def out0_27 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S64x512 .f32 :=
  View.canon [⟨r0_4, k0_pay18 x0 x1 x2 x3 x4 x5 x6 x7 x8 x9 x10 x11 x12 x13 x14 x15 x16 x17 x18 x19⟩]

theorem cover0_27 (p0 : Vec F S64x512 .f32) (y : S64x512.Idx) :
    ∃ pc ∈ ([⟨r0_4, p0⟩] : List (View.Piece (Elt F) S64x512 .f32)), y ∈ pc.1.set :=
  View.cover_of_tiled [⟨r0_4, p0⟩] S64x512.size (by rfl) y

def out0_28 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S64x512 .f32 :=
  View.canon [⟨r0_4, k0_pay19 x0 x1 x2 x3 x4 x5 x6 x7 x8 x9 x10 x11 x12 x13 x14 x15 x16 x17 x18 x19⟩]

theorem cover0_28 (p0 : Vec F S64x512 .f32) (y : S64x512.Idx) :
    ∃ pc ∈ ([⟨r0_4, p0⟩] : List (View.Piece (Elt F) S64x512 .f32)), y ∈ pc.1.set :=
  View.cover_of_tiled [⟨r0_4, p0⟩] S64x512.size (by rfl) y

def out0_29 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S16x256 .f32 :=
  View.canon [⟨r0_5, View.ld x13 r0_5⟩]

theorem cover0_29 (p0 : Vec F S16x256 .f32) (y : S16x256.Idx) :
    ∃ pc ∈ ([⟨r0_5, p0⟩] : List (View.Piece (Elt F) S16x256 .f32)), y ∈ pc.1.set :=
  View.cover_of_tiled [⟨r0_5, p0⟩] S16x256.size (by rfl) y

def out0_30 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S16x256 .f32 :=
  View.canon [⟨r0_5, k0_pay15 (View.ld x12 r0_5) (k0_pay20 x0 x1 x2 x3 x4 x5 x6 x7 x8 x9 x10 x11 x12 x13 x14 x15 x16 x17 x18 x19) (k0_pay21 x0 x1 x2 x3 x4 x5 x6 x7 x8 x9 x10 x11 x12 x13 x14 x15 x16 x17 x18 x19) (k0_pay22 x0 x1 x2 x3 x4 x5 x6 x7 x8 x9 x10 x11 x12 x13 x14 x15 x16 x17 x18 x19)⟩]

theorem cover0_30 (p0 : Vec F S16x256 .f32) (y : S16x256.Idx) :
    ∃ pc ∈ ([⟨r0_5, p0⟩] : List (View.Piece (Elt F) S16x256 .f32)), y ∈ pc.1.set :=
  View.cover_of_tiled [⟨r0_5, p0⟩] S16x256.size (by rfl) y

def out0_31 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S16x256 .f32 :=
  View.canon [⟨r0_5, k0_pay20 x0 x1 x2 x3 x4 x5 x6 x7 x8 x9 x10 x11 x12 x13 x14 x15 x16 x17 x18 x19⟩]

theorem cover0_31 (p0 : Vec F S16x256 .f32) (y : S16x256.Idx) :
    ∃ pc ∈ ([⟨r0_5, p0⟩] : List (View.Piece (Elt F) S16x256 .f32)), y ∈ pc.1.set :=
  View.cover_of_tiled [⟨r0_5, p0⟩] S16x256.size (by rfl) y

def out0_32 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S16x256 .f32 :=
  View.canon [⟨r0_5, k0_pay14 (k0_pay21 x0 x1 x2 x3 x4 x5 x6 x7 x8 x9 x10 x11 x12 x13 x14 x15 x16 x17 x18 x19) (k0_pay22 x0 x1 x2 x3 x4 x5 x6 x7 x8 x9 x10 x11 x12 x13 x14 x15 x16 x17 x18 x19)⟩]

theorem cover0_32 (p0 : Vec F S16x256 .f32) (y : S16x256.Idx) :
    ∃ pc ∈ ([⟨r0_5, p0⟩] : List (View.Piece (Elt F) S16x256 .f32)), y ∈ pc.1.set :=
  View.cover_of_tiled [⟨r0_5, p0⟩] S16x256.size (by rfl) y

def out0_33 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S32x1024 .f32 :=
  View.canon [⟨r0_6, View.ld x17 r0_6⟩]

theorem cover0_33 (p0 : Vec F S32x1024 .f32) (y : S32x1024.Idx) :
    ∃ pc ∈ ([⟨r0_6, p0⟩] : List (View.Piece (Elt F) S32x1024 .f32)), y ∈ pc.1.set :=
  View.cover_of_tiled [⟨r0_6, p0⟩] S32x1024.size (by rfl) y

def out0_34 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S32x1024 .f32 :=
  View.canon [⟨r0_6, k0_pay2 (View.ld x16 r0_6) (View.ld x17 r0_6) (View.ld x19 r0_6) (k0_pay23 x0 x1 x2 x3 x4 x5 x6 x7 x8 x9 x10 x11 x12 x13 x14 x15 x16 x17 x18 x19)⟩]

theorem cover0_34 (p0 : Vec F S32x1024 .f32) (y : S32x1024.Idx) :
    ∃ pc ∈ ([⟨r0_6, p0⟩] : List (View.Piece (Elt F) S32x1024 .f32)), y ∈ pc.1.set :=
  View.cover_of_tiled [⟨r0_6, p0⟩] S32x1024.size (by rfl) y

def out0_35 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S32x1024 .f32 :=
  View.canon [⟨r0_6, k0_pay23 x0 x1 x2 x3 x4 x5 x6 x7 x8 x9 x10 x11 x12 x13 x14 x15 x16 x17 x18 x19⟩]

theorem cover0_35 (p0 : Vec F S32x1024 .f32) (y : S32x1024.Idx) :
    ∃ pc ∈ ([⟨r0_6, p0⟩] : List (View.Piece (Elt F) S32x1024 .f32)), y ∈ pc.1.set :=
  View.cover_of_tiled [⟨r0_6, p0⟩] S32x1024.size (by rfl) y

def out0_36 (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) : Vec F S32x1024 .f32 :=
  View.canon [⟨r0_6, k0_pay1 (View.ld x17 r0_6) (View.ld x19 r0_6)⟩]

theorem cover0_36 (p0 : Vec F S32x1024 .f32) (y : S32x1024.Idx) :
    ∃ pc ∈ ([⟨r0_6, p0⟩] : List (View.Piece (Elt F) S32x1024 .f32)), y ∈ pc.1.set :=
  View.cover_of_tiled [⟨r0_6, p0⟩] S32x1024.size (by rfl) y

set_option maxHeartbeats 1000000 in
theorem sound_kernel (c : Dev nD) (E : Set ℕ) (i : grid0.Coords) (arg1 : Memref sig .tc .vmem S512x1024 .f32) (harg1 : arg1.IsWhole) (arg2 : Memref sig .tc .vmem S512x6144 .bf16) (harg2 : arg2.IsWhole) (arg3 : Memref sig .tc .vmem S1024x6144 .bf16) (harg3 : arg3.IsWhole) (arg4 : Memref sig .tc .vmem S8x128 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S16x256 .f32) (harg13 : arg13.IsWhole) (arg14 : Memref sig .tc .vmem S16x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S512x1024 .f32) (harg21 : arg21.IsWhole) (arg22 : Memref sig .tc .vmem S16x1024 .f32) (harg22 : arg22.IsWhole) (arg23 : Memref sig .tc .vmem S16x1024 .f32) (harg23 : arg23.IsWhole) (arg24 : Memref sig .tc .vmem S16x1024 .f32) (harg24 : arg24.IsWhole) (arg25 : Memref sig .tc .vmem S16x1024 .f32) (harg25 : arg25.IsWhole) (arg26 : Memref sig .tc .vmem S64x512 .f32) (harg26 : arg26.IsWhole) (arg27 : Memref sig .tc .vmem S64x512 .f32) (harg27 : arg27.IsWhole) (arg28 : Memref sig .tc .vmem S64x512 .f32) (harg28 : arg28.IsWhole) (arg29 : Memref sig .tc .vmem S64x512 .f32) (harg29 : arg29.IsWhole) (arg30 : Memref sig .tc .vmem S16x256 .f32) (harg30 : arg30.IsWhole) (arg31 : Memref sig .tc .vmem S16x256 .f32) (harg31 : arg31.IsWhole) (arg32 : Memref sig .tc .vmem S16x256 .f32) (harg32 : arg32.IsWhole) (arg33 : Memref sig .tc .vmem S16x256 .f32) (harg33 : arg33.IsWhole) (arg34 : Memref sig .tc .vmem S32x1024 .f32) (harg34 : arg34.IsWhole) (arg35 : Memref sig .tc .vmem S32x1024 .f32) (harg35 : arg35.IsWhole) (arg36 : Memref sig .tc .vmem S32x1024 .f32) (harg36 : arg36.IsWhole) (arg37 : Memref sig .tc .vmem S32x1024 .f32) (harg37 : arg37.IsWhole)
    (x0 : Vec F S512x1024 .f32) (x1 : Vec F S512x6144 .bf16) (x2 : Vec F S1024x6144 .bf16) (x3 : Vec F S8x128 .f32) (x4 : Vec F S16x1024 .f32) (x5 : Vec F S16x1024 .f32) (x6 : Vec F S16x1024 .f32) (x7 : Vec F S16x1024 .f32) (x8 : Vec F S64x512 .f32) (x9 : Vec F S64x512 .f32) (x10 : Vec F S64x512 .f32) (x11 : Vec F S64x512 .f32) (x12 : Vec F S16x256 .f32) (x13 : Vec F S16x256 .f32) (x14 : Vec F S16x256 .f32) (x15 : Vec F S16x256 .f32) (x16 : Vec F S32x1024 .f32) (x17 : Vec F S32x1024 .f32) (x18 : Vec F S32x1024 .f32) (x19 : Vec F S32x1024 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out0_20 x0 x1 x2 x3 x4 x5 x6 x7 x8 x9 x10 x11 x12 x13 x14 x15 x16 x17 x18 x19) ∗ owns (c : Thread nD τ) arg22 fullShare (out0_21 x0 x1 x2 x3 x4 x5 x6 x7 x8 x9 x10 x11 x12 x13 x14 x15 x16 x17 x18 x19) ∗ owns (c : Thread nD τ) arg23 fullShare (out0_22 x0 x1 x2 x3 x4 x5 x6 x7 x8 x9 x10 x11 x12 x13 x14 x15 x16 x17 x18 x19) ∗ owns (c : Thread nD τ) arg24 fullShare (out0_23 x0 x1 x2 x3 x4 x5 x6 x7 x8 x9 x10 x11 x12 x13 x14 x15 x16 x17 x18 x19) ∗ owns (c : Thread nD τ) arg25 fullShare (out0_24 x0 x1 x2 x3 x4 x5 x6 x7 x8 x9 x10 x11 x12 x13 x14 x15 x16 x17 x18 x19) ∗ owns (c : Thread nD τ) arg26 fullShare (out0_25 x0 x1 x2 x3 x4 x5 x6 x7 x8 x9 x10 x11 x12 x13 x14 x15 x16 x17 x18 x19) ∗ owns (c : Thread nD τ) arg27 fullShare (out0_26 x0 x1 x2 x3 x4 x5 x6 x7 x8 x9 x10 x11 x12 x13 x14 x15 x16 x17 x18 x19) ∗ owns (c : Thread nD τ) arg28 fullShare (out0_27 x0 x1 x2 x3 x4 x5 x6 x7 x8 x9 x10 x11 x12 x13 x14 x15 x16 x17 x18 x19) ∗ owns (c : Thread nD τ) arg29 fullShare (out0_28 x0 x1 x2 x3 x4 x5 x6 x7 x8 x9 x10 x11 x12 x13 x14 x15 x16 x17 x18 x19) ∗ owns (c : Thread nD τ) arg30 fullShare (out0_29 x0 x1 x2 x3 x4 x5 x6 x7 x8 x9 x10 x11 x12 x13 x14 x15 x16 x17 x18 x19) ∗ owns (c : Thread nD τ) arg31 fullShare (out0_30 x0 x1 x2 x3 x4 x5 x6 x7 x8 x9 x10 x11 x12 x13 x14 x15 x16 x17 x18 x19) ∗ owns (c : Thread nD τ) arg32 fullShare (out0_31 x0 x1 x2 x3 x4 x5 x6 x7 x8 x9 x10 x11 x12 x13 x14 x15 x16 x17 x18 x19) ∗ owns (c : Thread nD τ) arg33 fullShare (out0_32 x0 x1 x2 x3 x4 x5 x6 x7 x8 x9 x10 x11 x12 x13 x14 x15 x16 x17 x18 x19) ∗ owns (c : Thread nD τ) arg34 fullShare (out0_33 x0 x1 x2 x3 x4 x5 x6 x7 x8 x9 x10 x11 x12 x13 x14 x15 x16 x17 x18 x19) ∗ owns (c : Thread nD τ) arg35 fullShare (out0_34 x0 x1 x2 x3 x4 x5 x6 x7 x8 x9 x10 x11 x12 x13 x14 x15 x16 x17 x18 x19) ∗ owns (c : Thread nD τ) arg36 fullShare (out0_35 x0 x1 x2 x3 x4 x5 x6 x7 x8 x9 x10 x11 x12 x13 x14 x15 x16 x17 x18 x19) ∗ owns (c : Thread nD τ) arg37 fullShare (out0_36 x0 x1 x2 x3 x4 x5 x6 x7 x8 x9 x10 x11 x12 x13 x14 x15 x16 x17 x18 x19)) -∗ K ⟨⟩))
      ⊢ wp frame (wpE (defs₀ (F := F)) Variants.none c none) E (cc0_layer_a_bwd_dx i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K := by
  simp only [cc0_layer_a_bwd_dx_eq_skeleton]; unfold cc0_layer_a_bwd_dx_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  isplitl [H34]
  · iexists _; isplitr
    swap; · iexact H34
    ipureintro
    refine (View.read_writes_eq_canon _ _ _ (cover0_34 _)).trans ?_
    rfl
  isplitl [H35]
  · iexists _; isplitr
    swap; · iexact H35
    ipureintro
    refine (View.read_writes_eq_canon _ _ _ (cover0_35 _)).trans ?_
    rfl
  iexists _; isplitr
  swap; · iexact H36
  ipureintro
  refine (View.read_writes_eq_canon _ _ _ (cover0_36 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨35, _⟩ => out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨36, _⟩ => out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 37, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

section

variable (c : Dev nD) (t : Fin cfg0.N)

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = iblk m c 14 t := by dsimp only [dats]
theorem after0_15 : (dats m 0 c).after 15 t = iblk m c 15 t := by dsimp only [dats]
theorem after0_16 : (dats m 0 c).after 16 t = iblk m c 16 t := by dsimp only [dats]
theorem after0_17 : (dats m 0 c).after 17 t = iblk m c 17 t := by dsimp only [dats]
theorem after0_18 : (dats m 0 c).after 18 t = iblk m c 18 t := by dsimp only [dats]
theorem after0_19 : (dats m 0 c).after 19 t = iblk m c 19 t := by dsimp only [dats]
theorem after0_20 : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_21 : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_22 : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_23 : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_24 : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_25 : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_26 : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_27 : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_28 : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_29 : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_30 : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_31 : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_32 : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_33 : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_34 : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_35 : (dats m 0 c).after 35 t = out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_36 : (dats m 0 c).after 36 t = out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d
theorem before0_5 (d) : (dats m 0 c).before 5 t d = iblk m c 5 t :=
  before0_5_of m (dats m 0 c) (A_eq m c 5) (after0_5 m c) t d
theorem before0_6 (d) : (dats m 0 c).before 6 t d = iblk m c 6 t :=
  before0_6_of m (dats m 0 c) (A_eq m c 6) (after0_6 m c) t d
theorem before0_7 (d) : (dats m 0 c).before 7 t d = iblk m c 7 t :=
  before0_7_of m (dats m 0 c) (A_eq m c 7) (after0_7 m c) t d
theorem before0_8 (d) : (dats m 0 c).before 8 t d = iblk m c 8 t :=
  before0_8_of m (dats m 0 c) (A_eq m c 8) (after0_8 m c) t d
theorem before0_9 (d) : (dats m 0 c).before 9 t d = iblk m c 9 t :=
  before0_9_of m (dats m 0 c) (A_eq m c 9) (after0_9 m c) t d
theorem before0_10 (d) : (dats m 0 c).before 10 t d = iblk m c 10 t :=
  before0_10_of m (dats m 0 c) (A_eq m c 10) (after0_10 m c) t d
theorem before0_11 (d) : (dats m 0 c).before 11 t d = iblk m c 11 t :=
  before0_11_of m (dats m 0 c) (A_eq m c 11) (after0_11 m c) t d
theorem before0_12 (d) : (dats m 0 c).before 12 t d = iblk m c 12 t :=
  before0_12_of m (dats m 0 c) (A_eq m c 12) (after0_12 m c) t d
theorem before0_13 (d) : (dats m 0 c).before 13 t d = iblk m c 13 t :=
  before0_13_of m (dats m 0 c) (A_eq m c 13) (after0_13 m c) t d
theorem before0_14 (d) : (dats m 0 c).before 14 t d = iblk m c 14 t :=
  before0_14_of m (dats m 0 c) (A_eq m c 14) (after0_14 m c) t d
theorem before0_15 (d) : (dats m 0 c).before 15 t d = iblk m c 15 t :=
  before0_15_of m (dats m 0 c) (A_eq m c 15) (after0_15 m c) t d
theorem before0_16 (d) : (dats m 0 c).before 16 t d = iblk m c 16 t :=
  before0_16_of m (dats m 0 c) (A_eq m c 16) (after0_16 m c) t d
theorem before0_17 (d) : (dats m 0 c).before 17 t d = iblk m c 17 t :=
  before0_17_of m (dats m 0 c) (A_eq m c 17) (after0_17 m c) t d
theorem before0_18 (d) : (dats m 0 c).before 18 t d = iblk m c 18 t :=
  before0_18_of m (dats m 0 c) (A_eq m c 18) (after0_18 m c) t d
theorem before0_19 (d) : (dats m 0 c).before 19 t d = iblk m c 19 t :=
  before0_19_of m (dats m 0 c) (A_eq m c 19) (after0_19 m c) t d

end

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  iintro ⟨H0, H1, H2, H3, H4, H5, H6, H7, H8, H9, H10, H11, H12, H13, H14, H15, H16, H17, H18, H19, H20, H21, H22, H23, H24, H25, H26, H27, H28, H29, H30, H31, H32, H33, H34, H35, H36⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.DxIdeal.Gen

end
-- ==== Proof.DxKernel.lean ====
/-
  The launch of the input's gradient with the four updates: every array at its end, as functions of the arguments. The
  sixteen points each hold one tile of tokens and one tile of rows of each weight.
-/
module

public import proofs.«01_k».proof.Proof.DxFrame
public import Idealize.ShloMosaic.Lib.Pointwise
public import Idealize.ShloMosaic.Lib.IdealHost
public import Idealize.ShloMosaic.Lib.Pipeline.ValueKit

@[expose] public section

set_option maxRecDepth 16384

noncomputable section

namespace Cert.DxKernel

open Cert.DxIdeal Cert.DxIdeal.Gen Idealize.ShloMosaic Idealize.ShloMosaic.TcCoe Idealize.SL.Sem

/-- A constant of the programs. -/
def K (b : BitVec 32) : EReal := Scalar.ofBits (F := Ideal) .f32 b

/-- The update of one element: the two running means, and the step. -/
def nm (g m : EReal) : EReal := K 0x3F666666#32 * m + K 0x3DCCCCCD#32 * g
def nv (g v : EReal) : EReal := K 0x3F7FBE77#32 * v + K 0x3A83126F#32 * (g * g)
def step (w g m v : EReal) : EReal :=
  K 0xBA83126F#32 * (Ideal.div (Ideal.div (nm g m) (K 0x3F26BD02#32))
    (Ideal.sqrt (Ideal.div (nv g v) (K 0x3C231ACC#32)) + K 0x322BCC77#32) + K 0x3C23D70A#32 * w)

variable {s : Shape}
def NM (g m : FVec Ideal s .f32) : FVec Ideal s .f32 := fun i => nm (g i) (m i)
def NV (g v : FVec Ideal s .f32) : FVec Ideal s .f32 := fun i => nv (g i) (v i)
def STEP (w g m v : FVec Ideal s .f32) : FVec Ideal s .f32 := fun i => step (w i) (g i) (m i) (v i)

/-- The input's gradient: through the residual sum and through the projection. -/
def DX (w : Vec Ideal S1024x6144 .f32) (dr : Vec Ideal S8192x1024 .f32) (dp : Vec Ideal S8192x6144 .f32) : Vec Ideal S8192x1024 .f32 := fun i =>
  K 0x3FB504F3#32 * dr i + ∑ q : Fin 6144, dp (ix2 (i 0) q) * w (ix2 (i 1) q)

variable (m : (ℓ : Loc nD τ sig) → Buf (Elt Ideal) ℓ) (c : Dev nD)

/-- Row `r` of point `t`'s tile of tokens, and of each weight. -/
def row (t : Fin cfg0.N) (r : Fin 512) : Fin 8192 := ⟨512 * t.val + r.val, by have : t.val < 16 := t.isLt; omega⟩
def row0 (t : Fin cfg0.N) (r : Fin 16) : Fin 256 := ⟨16 * t.val + r.val, by have : t.val < 16 := t.isLt; omega⟩
def row1 (t : Fin cfg0.N) (r : Fin 64) : Fin 1024 := ⟨64 * t.val + r.val, by have : t.val < 16 := t.isLt; omega⟩
def row2 (t : Fin cfg0.N) (r : Fin 16) : Fin 256 := ⟨16 * t.val + r.val, by have : t.val < 16 := t.isLt; omega⟩
def row3 (t : Fin cfg0.N) (r : Fin 32) : Fin 512 := ⟨32 * t.val + r.val, by have : t.val < 16 := t.isLt; omega⟩

/-- The arguments. -/
def a1 : Vec Ideal S1024x6144 .f32 := m ((c : Thread nD τ).loc main_arg1)
def a2 : Vec Ideal S8192x1024 .f32 := m ((c : Thread nD τ).loc main_arg2)
def a3 : Vec Ideal S8192x6144 .f32 := m ((c : Thread nD τ).loc main_arg3)
def a4 : Vec Ideal S256x1024 .f32 := m ((c : Thread nD τ).loc main_arg4)
def a5 : Vec Ideal S256x1024 .f32 := m ((c : Thread nD τ).loc main_arg5)
def a6 : Vec Ideal S256x1024 .f32 := m ((c : Thread nD τ).loc main_arg6)
def a7 : Vec Ideal S256x1024 .f32 := m ((c : Thread nD τ).loc main_arg7)
def a8 : Vec Ideal S1024x512 .f32 := m ((c : Thread nD τ).loc main_arg8)
def a9 : Vec Ideal S1024x512 .f32 := m ((c : Thread nD τ).loc main_arg9)
def a10 : Vec Ideal S1024x512 .f32 := m ((c : Thread nD τ).loc main_arg10)
def a11 : Vec Ideal S1024x512 .f32 := m ((c : Thread nD τ).loc main_arg11)
def a12 : Vec Ideal S256x256 .f32 := m ((c : Thread nD τ).loc main_arg12)
def a13 : Vec Ideal S256x256 .f32 := m ((c : Thread nD τ).loc main_arg13)
def a14 : Vec Ideal S256x256 .f32 := m ((c : Thread nD τ).loc main_arg14)
def a15 : Vec Ideal S256x256 .f32 := m ((c : Thread nD τ).loc main_arg15)
def a16 : Vec Ideal S512x1024 .f32 := m ((c : Thread nD τ).loc main_arg16)
def a17 : Vec Ideal S512x1024 .f32 := m ((c : Thread nD τ).loc main_arg17)
def a18 : Vec Ideal S512x1024 .f32 := m ((c : Thread nD τ).loc main_arg18)
def a19 : Vec Ideal S512x1024 .f32 := m ((c : Thread nD τ).loc main_arg19)

/-- The projection's weights and the gradient of the projection, rounded. -/
theorem host_p : (V m c main_v0 : Vec Ideal S8192x6144 .bf16) = a3 m c := by
  show StableHlo.after hostOps0 _ _ = _
  after_results_simp
  rfl
theorem host_w : (V m c main_v1 : Vec Ideal S1024x6144 .bf16) = a1 m c := by
  show StableHlo.after hostOps0 _ _ = _
  after_results_simp
  rfl

theorem idx0 : ∀ t : Fin cfg0.N, win0_0.index t = ![t.val, 0] := by decide +kernel
theorem idx1 : ∀ t : Fin cfg0.N, win0_1.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![t.val, 0] := by decide +kernel
theorem idx13 : ∀ t : Fin cfg0.N, win0_13.index t = ![t.val, 0] := by decide +kernel
theorem idx14 : ∀ t : Fin cfg0.N, win0_14.index t = ![t.val, 0] := by decide +kernel
theorem idx15 : ∀ t : Fin cfg0.N, win0_15.index t = ![t.val, 0] := by decide +kernel
theorem idx16 : ∀ t : Fin cfg0.N, win0_16.index t = ![t.val, 0] := by decide +kernel
theorem idx17 : ∀ t : Fin cfg0.N, win0_17.index t = ![t.val, 0] := by decide +kernel
theorem idx18 : ∀ t : Fin cfg0.N, win0_18.index t = ![t.val, 0] := by decide +kernel
theorem idx19 : ∀ t : Fin cfg0.N, win0_19.index t = ![t.val, 0] := by decide +kernel
theorem idx20 : ∀ t : Fin cfg0.N, win0_20.index t = ![t.val, 0] := by decide +kernel
theorem idx21 : ∀ t : Fin cfg0.N, win0_21.index t = ![t.val, 0] := by decide +kernel
theorem idx22 : ∀ t : Fin cfg0.N, win0_22.index t = ![t.val, 0] := by decide +kernel
theorem idx23 : ∀ t : Fin cfg0.N, win0_23.index t = ![t.val, 0] := by decide +kernel
theorem idx24 : ∀ t : Fin cfg0.N, win0_24.index t = ![t.val, 0] := by decide +kernel
theorem idx25 : ∀ t : Fin cfg0.N, win0_25.index t = ![t.val, 0] := by decide +kernel
theorem idx26 : ∀ t : Fin cfg0.N, win0_26.index t = ![t.val, 0] := by decide +kernel
theorem idx27 : ∀ t : Fin cfg0.N, win0_27.index t = ![t.val, 0] := by decide +kernel
theorem idx28 : ∀ t : Fin cfg0.N, win0_28.index t = ![t.val, 0] := by decide +kernel
theorem idx29 : ∀ t : Fin cfg0.N, win0_29.index t = ![t.val, 0] := by decide +kernel
theorem idx30 : ∀ t : Fin cfg0.N, win0_30.index t = ![t.val, 0] := by decide +kernel
theorem idx31 : ∀ t : Fin cfg0.N, win0_31.index t = ![t.val, 0] := by decide +kernel
theorem idx32 : ∀ t : Fin cfg0.N, win0_32.index t = ![t.val, 0] := by decide +kernel
theorem idx33 : ∀ t : Fin cfg0.N, win0_33.index t = ![t.val, 0] := by decide +kernel
theorem idx34 : ∀ t : Fin cfg0.N, win0_34.index t = ![t.val, 0] := by decide +kernel
theorem idx35 : ∀ t : Fin cfg0.N, win0_35.index t = ![t.val, 0] := by decide +kernel
theorem idx36 : ∀ t : Fin cfg0.N, win0_36.index t = ![t.val, 0] := by decide +kernel
theorem idx2 : ∀ t : Fin cfg0.N, win0_2.index t = ![0, 0] := by decide +kernel

variable (t : Fin cfg0.N)

theorem blk0 (r : Fin 512) (C : Fin 1024) : (iblk m c 0 t : Vec Ideal S512x1024 .f32) (ix2 r C) = a2 m c (ix2 (row t r) C) := by
  blk_ext [iblk, V, row, idx0 t] <;> omega
theorem blk1 (r : Fin 512) (C : Fin 6144) : (iblk m c 1 t : Vec Ideal S512x6144 .bf16) (ix2 r C) = a3 m c (ix2 (row t r) C) := by
  have h : (iblk m c 1 t : Vec Ideal S512x6144 .bf16) (ix2 r C) = (V m c main_v0 : Vec Ideal S8192x6144 .bf16) (ix2 (row t r) C) := by
    blk_ext [iblk, row, idx1 t] <;> omega
  rw [h, host_p]
theorem blk2 (r : Fin 1024) (C : Fin 6144) : (iblk m c 2 t : Vec Ideal S1024x6144 .bf16) (ix2 r C) = a1 m c (ix2 r C) := by
  have h : (iblk m c 2 t : Vec Ideal S1024x6144 .bf16) (ix2 r C) = (V m c main_v1 : Vec Ideal S1024x6144 .bf16) (ix2 r C) := by
    blk_ext [iblk, idx2 t]
  rw [h, host_w]
theorem blk4 (r : Fin 16) (C : Fin 1024) : (iblk m c 4 t : Vec Ideal S16x1024 .f32) (ix2 r C) = a4 m c (ix2 (row0 t r) C) := by
  blk_ext [iblk, V, row0, idx4 t] <;> omega
theorem blk5 (r : Fin 16) (C : Fin 1024) : (iblk m c 5 t : Vec Ideal S16x1024 .f32) (ix2 r C) = a5 m c (ix2 (row0 t r) C) := by
  blk_ext [iblk, V, row0, idx5 t] <;> omega
theorem blk6 (r : Fin 16) (C : Fin 1024) : (iblk m c 6 t : Vec Ideal S16x1024 .f32) (ix2 r C) = a6 m c (ix2 (row0 t r) C) := by
  blk_ext [iblk, V, row0, idx6 t] <;> omega
theorem blk7 (r : Fin 16) (C : Fin 1024) : (iblk m c 7 t : Vec Ideal S16x1024 .f32) (ix2 r C) = a7 m c (ix2 (row0 t r) C) := by
  blk_ext [iblk, V, row0, idx7 t] <;> omega
theorem blk8 (r : Fin 64) (C : Fin 512) : (iblk m c 8 t : Vec Ideal S64x512 .f32) (ix2 r C) = a8 m c (ix2 (row1 t r) C) := by
  blk_ext [iblk, V, row1, idx8 t] <;> omega
theorem blk9 (r : Fin 64) (C : Fin 512) : (iblk m c 9 t : Vec Ideal S64x512 .f32) (ix2 r C) = a9 m c (ix2 (row1 t r) C) := by
  blk_ext [iblk, V, row1, idx9 t] <;> omega
theorem blk10 (r : Fin 64) (C : Fin 512) : (iblk m c 10 t : Vec Ideal S64x512 .f32) (ix2 r C) = a10 m c (ix2 (row1 t r) C) := by
  blk_ext [iblk, V, row1, idx10 t] <;> omega
theorem blk11 (r : Fin 64) (C : Fin 512) : (iblk m c 11 t : Vec Ideal S64x512 .f32) (ix2 r C) = a11 m c (ix2 (row1 t r) C) := by
  blk_ext [iblk, V, row1, idx11 t] <;> omega
theorem blk12 (r : Fin 16) (C : Fin 256) : (iblk m c 12 t : Vec Ideal S16x256 .f32) (ix2 r C) = a12 m c (ix2 (row2 t r) C) := by
  blk_ext [iblk, V, row2, idx12 t] <;> omega
theorem blk13 (r : Fin 16) (C : Fin 256) : (iblk m c 13 t : Vec Ideal S16x256 .f32) (ix2 r C) = a13 m c (ix2 (row2 t r) C) := by
  blk_ext [iblk, V, row2, idx13 t] <;> omega
theorem blk14 (r : Fin 16) (C : Fin 256) : (iblk m c 14 t : Vec Ideal S16x256 .f32) (ix2 r C) = a14 m c (ix2 (row2 t r) C) := by
  blk_ext [iblk, V, row2, idx14 t] <;> omega
theorem blk15 (r : Fin 16) (C : Fin 256) : (iblk m c 15 t : Vec Ideal S16x256 .f32) (ix2 r C) = a15 m c (ix2 (row2 t r) C) := by
  blk_ext [iblk, V, row2, idx15 t] <;> omega
theorem blk16 (r : Fin 32) (C : Fin 1024) : (iblk m c 16 t : Vec Ideal S32x1024 .f32) (ix2 r C) = a16 m c (ix2 (row3 t r) C) := by
  blk_ext [iblk, V, row3, idx16 t] <;> omega
theorem blk17 (r : Fin 32) (C : Fin 1024) : (iblk m c 17 t : Vec Ideal S32x1024 .f32) (ix2 r C) = a17 m c (ix2 (row3 t r) C) := by
  blk_ext [iblk, V, row3, idx17 t] <;> omega
theorem blk18 (r : Fin 32) (C : Fin 1024) : (iblk m c 18 t : Vec Ideal S32x1024 .f32) (ix2 r C) = a18 m c (ix2 (row3 t r) C) := by
  blk_ext [iblk, V, row3, idx18 t] <;> omega
theorem blk19 (r : Fin 32) (C : Fin 1024) : (iblk m c 19 t : Vec Ideal S32x1024 .f32) (ix2 r C) = a19 m c (ix2 (row3 t r) C) := by
  blk_ext [iblk, V, row3, idx19 t] <;> omega

theorem dx_apply (x : Vec Ideal S512x1024 .f32) (p : Vec Ideal S512x6144 .bf16) (w : Vec Ideal S1024x6144 .bf16) (r : Fin 512) (C : Fin 1024) :
    k0_pay3 (F := Ideal) x p w (ix2 r C) = K 0x3FB504F3#32 * x (ix2 r C) + ∑ q : Fin 6144, p (ix2 r q) * w (ix2 C q) := by
  unfold_payloads; pointwise [K]

/-- What each output block holds. -/
theorem out20 (r : Fin 512) (C : Fin 1024) : (dats m 0 c).after 20 t (ix2 r C) = DX (a1 m c) (a2 m c) (a3 m c) (ix2 (row t r) C) := by
  rw [after0_20]
  frame_out
  refine (dx_apply _ _ _ r C).trans ?_
  simp only [blk0, blk1, blk2]
  rfl
theorem out21 (r : Fin 16) (C : Fin 1024) : (dats m 0 c).after 21 t (ix2 r C) = (a5 m c) (ix2 (row0 t r) C) := by
  rw [after0_21, out0_21]
  frame_out
  exact blk5 m c t r C
theorem out22 (r : Fin 16) (C : Fin 1024) : (dats m 0 c).after 22 t (ix2 r C) = (STEP (a4 m c) (a5 m c) (a6 m c) (a7 m c)) (ix2 (row0 t r) C) := by
  rw [after0_22, out0_22]
  unfold k0_pay17
  frame_out
  exact (by simp only [STEP, ← blk4, ← blk5, ← blk6, ← blk7]; rfl)
theorem out23 (r : Fin 16) (C : Fin 1024) : (dats m 0 c).after 23 t (ix2 r C) = (NM (a5 m c) (a6 m c)) (ix2 (row0 t r) C) := by
  rw [after0_23, out0_23]
  frame_out
  exact (by simp only [NM, ← blk5, ← blk6]; rfl)
theorem out24 (r : Fin 16) (C : Fin 1024) : (dats m 0 c).after 24 t (ix2 r C) = (NV (a5 m c) (a7 m c)) (ix2 (row0 t r) C) := by
  rw [after0_24, out0_24]
  unfold k0_pay17
  frame_out
  exact (by simp only [NV, ← blk5, ← blk7]; rfl)
theorem out25 (r : Fin 64) (C : Fin 512) : (dats m 0 c).after 25 t (ix2 r C) = (a9 m c) (ix2 (row1 t r) C) := by
  rw [after0_25, out0_25]
  frame_out
  exact blk9 m c t r C
theorem out26 (r : Fin 64) (C : Fin 512) : (dats m 0 c).after 26 t (ix2 r C) = (STEP (a8 m c) (a9 m c) (a10 m c) (a11 m c)) (ix2 (row1 t r) C) := by
  rw [after0_26, out0_26]
  unfold k0_pay19 k0_pay18
  frame_out
  exact (by simp only [STEP, ← blk8, ← blk9, ← blk10, ← blk11]; rfl)
theorem out27 (r : Fin 64) (C : Fin 512) : (dats m 0 c).after 27 t (ix2 r C) = (NM (a9 m c) (a10 m c)) (ix2 (row1 t r) C) := by
  rw [after0_27, out0_27]
  unfold k0_pay18
  frame_out
  exact (by simp only [NM, ← blk9, ← blk10]; rfl)
theorem out28 (r : Fin 64) (C : Fin 512) : (dats m 0 c).after 28 t (ix2 r C) = (NV (a9 m c) (a11 m c)) (ix2 (row1 t r) C) := by
  rw [after0_28, out0_28]
  unfold k0_pay19
  frame_out
  exact (by simp only [NV, ← blk9, ← blk11]; rfl)
theorem out29 (r : Fin 16) (C : Fin 256) : (dats m 0 c).after 29 t (ix2 r C) = (a13 m c) (ix2 (row2 t r) C) := by
  rw [after0_29, out0_29]
  frame_out
  exact blk13 m c t r C
theorem out30 (r : Fin 16) (C : Fin 256) : (dats m 0 c).after 30 t (ix2 r C) = (STEP (a12 m c) (a13 m c) (a14 m c) (a15 m c)) (ix2 (row2 t r) C) := by
  rw [after0_30, out0_30]
  unfold k0_pay22 k0_pay21 k0_pay20
  frame_out
  exact (by simp only [STEP, ← blk12, ← blk13, ← blk14, ← blk15]; rfl)
theorem out31 (r : Fin 16) (C : Fin 256) : (dats m 0 c).after 31 t (ix2 r C) = (NM (a13 m c) (a14 m c)) (ix2 (row2 t r) C) := by
  rw [after0_31, out0_31]
  unfold k0_pay20
  frame_out
  exact (by simp only [NM, ← blk13, ← blk14]; rfl)
theorem out32 (r : Fin 16) (C : Fin 256) : (dats m 0 c).after 32 t (ix2 r C) = (NV (a13 m c) (a15 m c)) (ix2 (row2 t r) C) := by
  rw [after0_32, out0_32]
  unfold k0_pay22 k0_pay21
  frame_out
  exact (by simp only [NV, ← blk13, ← blk15]; rfl)
theorem out33 (r : Fin 32) (C : Fin 1024) : (dats m 0 c).after 33 t (ix2 r C) = (a17 m c) (ix2 (row3 t r) C) := by
  rw [after0_33, out0_33]
  frame_out
  exact blk17 m c t r C
theorem out34 (r : Fin 32) (C : Fin 1024) : (dats m 0 c).after 34 t (ix2 r C) = (STEP (a16 m c) (a17 m c) (a18 m c) (a19 m c)) (ix2 (row3 t r) C) := by
  rw [after0_34, out0_34]
  unfold k0_pay23
  frame_out
  exact (by simp only [STEP, ← blk16, ← blk17, ← blk18, ← blk19]; rfl)
theorem out35 (r : Fin 32) (C : Fin 1024) : (dats m 0 c).after 35 t (ix2 r C) = (NM (a17 m c) (a18 m c)) (ix2 (row3 t r) C) := by
  rw [after0_35, out0_35]
  unfold k0_pay23
  frame_out
  exact (by simp only [NM, ← blk17, ← blk18]; rfl)
theorem out36 (r : Fin 32) (C : Fin 1024) : (dats m 0 c).after 36 t (ix2 r C) = (NV (a17 m c) (a19 m c)) (ix2 (row3 t r) C) := by
  rw [after0_36, out0_36]
  frame_out
  exact (by simp only [NV, ← blk17, ← blk19]; rfl)

/-- The arrays at the end. -/
theorem arr20 : (dats m 0 c).arrAt 20 cfg0.N = DX (a1 m c) (a2 m c) (a3 m c) := by
  refine (dats m 0 c).arrAt_eq_of_covers 20 _ (by decide +kernel) fun t hf y => ?_
  blk_simp
  obtain ⟨r, C, rfl⟩ : ∃ (r : Fin 512) (C : Fin 1024), y = ix2 r C := ⟨y 0, y 1, eq_ix2 (n0 := 512) (n1 := 1024) y⟩
  have e : (win0_20.blk t).view.emb (ix2 r C) = ix2 (row t r) C := by
    funext a; fin_cases a <;> apply Fin.ext <;> simp [row, idx20 t] <;> exact Nat.mul_comm _ _
  exact (out20 m c t r C).trans (congrArg (DX (a1 m c) (a2 m c) (a3 m c)) e).symm
theorem arr21 : (dats m 0 c).arrAt 21 cfg0.N = a5 m c := by
  refine (dats m 0 c).arrAt_eq_of_covers 21 _ (by decide +kernel) fun t hf y => ?_
  blk_simp
  obtain ⟨r, C, rfl⟩ : ∃ (r : Fin 16) (C : Fin 1024), y = ix2 r C := ⟨y 0, y 1, eq_ix2 (n0 := 16) (n1 := 1024) y⟩
  have e : (win0_21.blk t).view.emb (ix2 r C) = ix2 (row0 t r) C := by
    funext a; fin_cases a <;> apply Fin.ext <;> simp [row0, idx21 t] <;> exact Nat.mul_comm _ _
  exact (out21 m c t r C).trans (congrArg (a5 m c) e).symm
theorem arr22 : (dats m 0 c).arrAt 22 cfg0.N = STEP (a4 m c) (a5 m c) (a6 m c) (a7 m c) := by
  refine (dats m 0 c).arrAt_eq_of_covers 22 _ (by decide +kernel) fun t hf y => ?_
  blk_simp
  obtain ⟨r, C, rfl⟩ : ∃ (r : Fin 16) (C : Fin 1024), y = ix2 r C := ⟨y 0, y 1, eq_ix2 (n0 := 16) (n1 := 1024) y⟩
  have e : (win0_22.blk t).view.emb (ix2 r C) = ix2 (row0 t r) C := by
    funext a; fin_cases a <;> apply Fin.ext <;> simp [row0, idx22 t] <;> exact Nat.mul_comm _ _
  exact (out22 m c t r C).trans (congrArg (STEP (a4 m c) (a5 m c) (a6 m c) (a7 m c)) e).symm
theorem arr23 : (dats m 0 c).arrAt 23 cfg0.N = NM (a5 m c) (a6 m c) := by
  refine (dats m 0 c).arrAt_eq_of_covers 23 _ (by decide +kernel) fun t hf y => ?_
  blk_simp
  obtain ⟨r, C, rfl⟩ : ∃ (r : Fin 16) (C : Fin 1024), y = ix2 r C := ⟨y 0, y 1, eq_ix2 (n0 := 16) (n1 := 1024) y⟩
  have e : (win0_23.blk t).view.emb (ix2 r C) = ix2 (row0 t r) C := by
    funext a; fin_cases a <;> apply Fin.ext <;> simp [row0, idx23 t] <;> exact Nat.mul_comm _ _
  exact (out23 m c t r C).trans (congrArg (NM (a5 m c) (a6 m c)) e).symm
theorem arr24 : (dats m 0 c).arrAt 24 cfg0.N = NV (a5 m c) (a7 m c) := by
  refine (dats m 0 c).arrAt_eq_of_covers 24 _ (by decide +kernel) fun t hf y => ?_
  blk_simp
  obtain ⟨r, C, rfl⟩ : ∃ (r : Fin 16) (C : Fin 1024), y = ix2 r C := ⟨y 0, y 1, eq_ix2 (n0 := 16) (n1 := 1024) y⟩
  have e : (win0_24.blk t).view.emb (ix2 r C) = ix2 (row0 t r) C := by
    funext a; fin_cases a <;> apply Fin.ext <;> simp [row0, idx24 t] <;> exact Nat.mul_comm _ _
  exact (out24 m c t r C).trans (congrArg (NV (a5 m c) (a7 m c)) e).symm
theorem arr25 : (dats m 0 c).arrAt 25 cfg0.N = a9 m c := by
  refine (dats m 0 c).arrAt_eq_of_covers 25 _ (by decide +kernel) fun t hf y => ?_
  blk_simp
  obtain ⟨r, C, rfl⟩ : ∃ (r : Fin 64) (C : Fin 512), y = ix2 r C := ⟨y 0, y 1, eq_ix2 (n0 := 64) (n1 := 512) y⟩
  have e : (win0_25.blk t).view.emb (ix2 r C) = ix2 (row1 t r) C := by
    funext a; fin_cases a <;> apply Fin.ext <;> simp [row1, idx25 t] <;> exact Nat.mul_comm _ _
  exact (out25 m c t r C).trans (congrArg (a9 m c) e).symm
theorem arr26 : (dats m 0 c).arrAt 26 cfg0.N = STEP (a8 m c) (a9 m c) (a10 m c) (a11 m c) := by
  refine (dats m 0 c).arrAt_eq_of_covers 26 _ (by decide +kernel) fun t hf y => ?_
  blk_simp
  obtain ⟨r, C, rfl⟩ : ∃ (r : Fin 64) (C : Fin 512), y = ix2 r C := ⟨y 0, y 1, eq_ix2 (n0 := 64) (n1 := 512) y⟩
  have e : (win0_26.blk t).view.emb (ix2 r C) = ix2 (row1 t r) C := by
    funext a; fin_cases a <;> apply Fin.ext <;> simp [row1, idx26 t] <;> exact Nat.mul_comm _ _
  exact (out26 m c t r C).trans (congrArg (STEP (a8 m c) (a9 m c) (a10 m c) (a11 m c)) e).symm
theorem arr27 : (dats m 0 c).arrAt 27 cfg0.N = NM (a9 m c) (a10 m c) := by
  refine (dats m 0 c).arrAt_eq_of_covers 27 _ (by decide +kernel) fun t hf y => ?_
  blk_simp
  obtain ⟨r, C, rfl⟩ : ∃ (r : Fin 64) (C : Fin 512), y = ix2 r C := ⟨y 0, y 1, eq_ix2 (n0 := 64) (n1 := 512) y⟩
  have e : (win0_27.blk t).view.emb (ix2 r C) = ix2 (row1 t r) C := by
    funext a; fin_cases a <;> apply Fin.ext <;> simp [row1, idx27 t] <;> exact Nat.mul_comm _ _
  exact (out27 m c t r C).trans (congrArg (NM (a9 m c) (a10 m c)) e).symm
theorem arr28 : (dats m 0 c).arrAt 28 cfg0.N = NV (a9 m c) (a11 m c) := by
  refine (dats m 0 c).arrAt_eq_of_covers 28 _ (by decide +kernel) fun t hf y => ?_
  blk_simp
  obtain ⟨r, C, rfl⟩ : ∃ (r : Fin 64) (C : Fin 512), y = ix2 r C := ⟨y 0, y 1, eq_ix2 (n0 := 64) (n1 := 512) y⟩
  have e : (win0_28.blk t).view.emb (ix2 r C) = ix2 (row1 t r) C := by
    funext a; fin_cases a <;> apply Fin.ext <;> simp [row1, idx28 t] <;> exact Nat.mul_comm _ _
  exact (out28 m c t r C).trans (congrArg (NV (a9 m c) (a11 m c)) e).symm
theorem arr29 : (dats m 0 c).arrAt 29 cfg0.N = a13 m c := by
  refine (dats m 0 c).arrAt_eq_of_covers 29 _ (by decide +kernel) fun t hf y => ?_
  blk_simp
  obtain ⟨r, C, rfl⟩ : ∃ (r : Fin 16) (C : Fin 256), y = ix2 r C := ⟨y 0, y 1, eq_ix2 (n0 := 16) (n1 := 256) y⟩
  have e : (win0_29.blk t).view.emb (ix2 r C) = ix2 (row2 t r) C := by
    funext a; fin_cases a <;> apply Fin.ext <;> simp [row2, idx29 t] <;> exact Nat.mul_comm _ _
  exact (out29 m c t r C).trans (congrArg (a13 m c) e).symm
theorem arr30 : (dats m 0 c).arrAt 30 cfg0.N = STEP (a12 m c) (a13 m c) (a14 m c) (a15 m c) := by
  refine (dats m 0 c).arrAt_eq_of_covers 30 _ (by decide +kernel) fun t hf y => ?_
  blk_simp
  obtain ⟨r, C, rfl⟩ : ∃ (r : Fin 16) (C : Fin 256), y = ix2 r C := ⟨y 0, y 1, eq_ix2 (n0 := 16) (n1 := 256) y⟩
  have e : (win0_30.blk t).view.emb (ix2 r C) = ix2 (row2 t r) C := by
    funext a; fin_cases a <;> apply Fin.ext <;> simp [row2, idx30 t] <;> exact Nat.mul_comm _ _
  exact (out30 m c t r C).trans (congrArg (STEP (a12 m c) (a13 m c) (a14 m c) (a15 m c)) e).symm
theorem arr31 : (dats m 0 c).arrAt 31 cfg0.N = NM (a13 m c) (a14 m c) := by
  refine (dats m 0 c).arrAt_eq_of_covers 31 _ (by decide +kernel) fun t hf y => ?_
  blk_simp
  obtain ⟨r, C, rfl⟩ : ∃ (r : Fin 16) (C : Fin 256), y = ix2 r C := ⟨y 0, y 1, eq_ix2 (n0 := 16) (n1 := 256) y⟩
  have e : (win0_31.blk t).view.emb (ix2 r C) = ix2 (row2 t r) C := by
    funext a; fin_cases a <;> apply Fin.ext <;> simp [row2, idx31 t] <;> exact Nat.mul_comm _ _
  exact (out31 m c t r C).trans (congrArg (NM (a13 m c) (a14 m c)) e).symm
theorem arr32 : (dats m 0 c).arrAt 32 cfg0.N = NV (a13 m c) (a15 m c) := by
  refine (dats m 0 c).arrAt_eq_of_covers 32 _ (by decide +kernel) fun t hf y => ?_
  blk_simp
  obtain ⟨r, C, rfl⟩ : ∃ (r : Fin 16) (C : Fin 256), y = ix2 r C := ⟨y 0, y 1, eq_ix2 (n0 := 16) (n1 := 256) y⟩
  have e : (win0_32.blk t).view.emb (ix2 r C) = ix2 (row2 t r) C := by
    funext a; fin_cases a <;> apply Fin.ext <;> simp [row2, idx32 t] <;> exact Nat.mul_comm _ _
  exact (out32 m c t r C).trans (congrArg (NV (a13 m c) (a15 m c)) e).symm
theorem arr33 : (dats m 0 c).arrAt 33 cfg0.N = a17 m c := by
  refine (dats m 0 c).arrAt_eq_of_covers 33 _ (by decide +kernel) fun t hf y => ?_
  blk_simp
  obtain ⟨r, C, rfl⟩ : ∃ (r : Fin 32) (C : Fin 1024), y = ix2 r C := ⟨y 0, y 1, eq_ix2 (n0 := 32) (n1 := 1024) y⟩
  have e : (win0_33.blk t).view.emb (ix2 r C) = ix2 (row3 t r) C := by
    funext a; fin_cases a <;> apply Fin.ext <;> simp [row3, idx33 t] <;> exact Nat.mul_comm _ _
  exact (out33 m c t r C).trans (congrArg (a17 m c) e).symm
theorem arr34 : (dats m 0 c).arrAt 34 cfg0.N = STEP (a16 m c) (a17 m c) (a18 m c) (a19 m c) := by
  refine (dats m 0 c).arrAt_eq_of_covers 34 _ (by decide +kernel) fun t hf y => ?_
  blk_simp
  obtain ⟨r, C, rfl⟩ : ∃ (r : Fin 32) (C : Fin 1024), y = ix2 r C := ⟨y 0, y 1, eq_ix2 (n0 := 32) (n1 := 1024) y⟩
  have e : (win0_34.blk t).view.emb (ix2 r C) = ix2 (row3 t r) C := by
    funext a; fin_cases a <;> apply Fin.ext <;> simp [row3, idx34 t] <;> exact Nat.mul_comm _ _
  exact (out34 m c t r C).trans (congrArg (STEP (a16 m c) (a17 m c) (a18 m c) (a19 m c)) e).symm
theorem arr35 : (dats m 0 c).arrAt 35 cfg0.N = NM (a17 m c) (a18 m c) := by
  refine (dats m 0 c).arrAt_eq_of_covers 35 _ (by decide +kernel) fun t hf y => ?_
  blk_simp
  obtain ⟨r, C, rfl⟩ : ∃ (r : Fin 32) (C : Fin 1024), y = ix2 r C := ⟨y 0, y 1, eq_ix2 (n0 := 32) (n1 := 1024) y⟩
  have e : (win0_35.blk t).view.emb (ix2 r C) = ix2 (row3 t r) C := by
    funext a; fin_cases a <;> apply Fin.ext <;> simp [row3, idx35 t] <;> exact Nat.mul_comm _ _
  exact (out35 m c t r C).trans (congrArg (NM (a17 m c) (a18 m c)) e).symm
theorem arr36 : (dats m 0 c).arrAt 36 cfg0.N = NV (a17 m c) (a19 m c) := by
  refine (dats m 0 c).arrAt_eq_of_covers 36 _ (by decide +kernel) fun t hf y => ?_
  blk_simp
  obtain ⟨r, C, rfl⟩ : ∃ (r : Fin 32) (C : Fin 1024), y = ix2 r C := ⟨y 0, y 1, eq_ix2 (n0 := 32) (n1 := 1024) y⟩
  have e : (win0_36.blk t).view.emb (ix2 r C) = ix2 (row3 t r) C := by
    funext a; fin_cases a <;> apply Fin.ext <;> simp [row3, idx36 t] <;> exact Nat.mul_comm _ _
  exact (out36 m c t r C).trans (congrArg (NV (a17 m c) (a19 m c)) e).symm

end Cert.DxKernel
-- ==== Proof.DxEq.lean ====
/-
  The input's gradient and the four updates: the launch and the reference leave the same arrays.
-/
module

public import proofs.«01_k».proof.Defs
public import proofs.«01_k».proof.Proof.DxKernel
public import proofs.«01_k».proof.Proof.Gen.DxRefIdeal.Run
public import proofs.«01_k».proof.Proof.Gen.Dx
public import Idealize.ShloMosaic.Adequacy
public import Idealize.ShloMosaic.Init

@[expose] public section

set_option maxRecDepth 16384
set_option maxHeartbeats 8000000

noncomputable section

namespace Cert.DxEq

open Idealize.ShloMosaic Idealize.ShloMosaic.TcCoe Idealize.SL.Sem

section
open Cert.DxIdeal Cert.DxIdeal.Gen

/-- Every argument is as launched at the end. -/
theorem kept (m : (ℓ : Loc nD τ sig) → Buf (Elt Ideal) ℓ) (r : PUnit × MemSt nD τ sig (Elt Ideal))
    (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 0).trans (((dats m 0 c).arrAt_in 0 rfl _).trans ((A_eq m c 0).trans (V_main_arg2 m c))),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c))),
    ((h c).1 11).trans (((dats m 0 c).arrAt_in 11 rfl _).trans ((A_eq m c 11).trans (V_main_arg11 m c))),
    ((h c).1 12).trans (((dats m 0 c).arrAt_in 12 rfl _).trans ((A_eq m c 12).trans (V_main_arg12 m c))),
    ((h c).1 13).trans (((dats m 0 c).arrAt_in 13 rfl _).trans ((A_eq m c 13).trans (V_main_arg13 m c))),
    ((h c).1 14).trans (((dats m 0 c).arrAt_in 14 rfl _).trans ((A_eq m c 14).trans (V_main_arg14 m c))),
    ((h c).1 15).trans (((dats m 0 c).arrAt_in 15 rfl _).trans ((A_eq m c 15).trans (V_main_arg15 m c))),
    ((h c).1 16).trans (((dats m 0 c).arrAt_in 16 rfl _).trans ((A_eq m c 16).trans (V_main_arg16 m c))),
    ((h c).1 17).trans (((dats m 0 c).arrAt_in 17 rfl _).trans ((A_eq m c 17).trans (V_main_arg17 m c))),
    ((h c).1 18).trans (((dats m 0 c).arrAt_in 18 rfl _).trans ((A_eq m c 18).trans (V_main_arg18 m c))),
    ((h c).1 19).trans (((dats m 0 c).arrAt_in 19 rfl _).trans ((A_eq m c 19).trans (V_main_arg19 m c)))⟩
end

/-- The reference's gradient of the input. -/
theorem dx_eq (dp : FVec Ideal DxRefIdeal.S8192x6144 .f32) (w : FVec Ideal DxRefIdeal.S1024x6144 .f32) (dr : FVec Ideal DxRefIdeal.S8192x1024 .f32) :
    addf (Host.dotGeneral DxRefIdeal.dot_S8192x6144_S1024x6144_S8192x1024_1_1_0_0_n_n none dp w) (mulf (broadcastInDim DxRefIdeal.S8192x1024 ![] DxRefIdeal.Facts₀.bcast_S_S8192x1024 (constant DxRefIdeal.S_ .f32 0x3FB504F3#32)) dr)
      = DxKernel.DX w dr dp := by
  funext i
  obtain ⟨R, C, rfl⟩ : ∃ (R : Fin 8192) (C : Fin 1024), i = ix2 R C := ⟨i 0, i 1, eq_ix2 (n0 := 8192) (n1 := 1024) i⟩
  pointwise
  exact add_comm _ _

theorem frame_ref : Cert.quiescent_DxRefIdeal := fun m ρ _ =>
  (θ_run Cert.DxRefIdeal.defs _ _).mono (fun r h => ⟨fun c => (h c).2.2.2.2.2.2.2.2.2.2.2.2.2.2.2.2.2, sem_eq_zero_of_no_sems (by decide) r.2⟩)
    (Cert.DxRefIdeal.Value.run m ρ)

/-- The two printings of the launch define the same bodies. -/
theorem defs_eq : @Dx.defs Bits _ _ = @DxIdeal.defs Bits _ _ := by
  have h : @Dx.defs₀ Bits _ _ = @DxIdeal.defs₀ Bits _ _ := by
    unfold Dx.defs₀ DxIdeal.defs₀
    congr 1
    funext l x
    match l, x with
    | 0, (t, s) => rfl
  exact congrArg (Pipeline.defs (Dx.pcfgs (F := Bits))) h

theorem frame : Cert.quiescent_Dx := by
  intro m ρ _
  have h := Cert.DxIdeal.Gen.frame (F := Bits) m ρ
  have e := defs_eq
  revert h e
  generalize @DxIdeal.defs Bits _ _ = d
  rintro h rfl
  exact h

theorem algebraic : Cert.algebraic_DxIdeal_DxRefIdeal := by
  intro m ρ m' ρ' _ hag
  refine ⟨fun c => (DxKernel.DX (DxKernel.a1 m c) (DxKernel.a2 m c) (DxKernel.a3 m c) : Vec Ideal DxIdeal.S8192x1024 .f32),
    fun c => (DxKernel.a5 m c : Vec Ideal DxIdeal.S256x1024 .f32),
    fun c => (DxKernel.STEP (DxKernel.a4 m c) (DxKernel.a5 m c) (DxKernel.a6 m c) (DxKernel.a7 m c) : Vec Ideal DxIdeal.S256x1024 .f32),
    fun c => (DxKernel.NM (DxKernel.a5 m c) (DxKernel.a6 m c) : Vec Ideal DxIdeal.S256x1024 .f32),
    fun c => (DxKernel.NV (DxKernel.a5 m c) (DxKernel.a7 m c) : Vec Ideal DxIdeal.S256x1024 .f32),
    fun c => (DxKernel.a9 m c : Vec Ideal DxIdeal.S1024x512 .f32),
    fun c => (DxKernel.STEP (DxKernel.a8 m c) (DxKernel.a9 m c) (DxKernel.a10 m c) (DxKernel.a11 m c) : Vec Ideal DxIdeal.S1024x512 .f32),
    fun c => (DxKernel.NM (DxKernel.a9 m c) (DxKernel.a10 m c) : Vec Ideal DxIdeal.S1024x512 .f32),
    fun c => (DxKernel.NV (DxKernel.a9 m c) (DxKernel.a11 m c) : Vec Ideal DxIdeal.S1024x512 .f32),
    fun c => (DxKernel.a13 m c : Vec Ideal DxIdeal.S256x256 .f32),
    fun c => (DxKernel.STEP (DxKernel.a12 m c) (DxKernel.a13 m c) (DxKernel.a14 m c) (DxKernel.a15 m c) : Vec Ideal DxIdeal.S256x256 .f32),
    fun c => (DxKernel.NM (DxKernel.a13 m c) (DxKernel.a14 m c) : Vec Ideal DxIdeal.S256x256 .f32),
    fun c => (DxKernel.NV (DxKernel.a13 m c) (DxKernel.a15 m c) : Vec Ideal DxIdeal.S256x256 .f32),
    fun c => (DxKernel.a17 m c : Vec Ideal DxIdeal.S512x1024 .f32),
    fun c => (DxKernel.STEP (DxKernel.a16 m c) (DxKernel.a17 m c) (DxKernel.a18 m c) (DxKernel.a19 m c) : Vec Ideal DxIdeal.S512x1024 .f32),
    fun c => (DxKernel.NM (DxKernel.a17 m c) (DxKernel.a18 m c) : Vec Ideal DxIdeal.S512x1024 .f32),
    fun c => (DxKernel.NV (DxKernel.a17 m c) (DxKernel.a19 m c) : Vec Ideal DxIdeal.S512x1024 .f32), ?_, ?_⟩
  · refine (θ_run Cert.DxIdeal.defs _ _).mono (fun r h c => ?_) (Cert.DxIdeal.Gen.run_main m ρ)
    exact ⟨((h c).1 20).trans (DxKernel.arr20 m c),
      ((h c).1 21).trans (DxKernel.arr21 m c),
      ((h c).1 22).trans (DxKernel.arr22 m c),
      ((h c).1 23).trans (DxKernel.arr23 m c),
      ((h c).1 24).trans (DxKernel.arr24 m c),
      ((h c).1 25).trans (DxKernel.arr25 m c),
      ((h c).1 26).trans (DxKernel.arr26 m c),
      ((h c).1 27).trans (DxKernel.arr27 m c),
      ((h c).1 28).trans (DxKernel.arr28 m c),
      ((h c).1 29).trans (DxKernel.arr29 m c),
      ((h c).1 30).trans (DxKernel.arr30 m c),
      ((h c).1 31).trans (DxKernel.arr31 m c),
      ((h c).1 32).trans (DxKernel.arr32 m c),
      ((h c).1 33).trans (DxKernel.arr33 m c),
      ((h c).1 34).trans (DxKernel.arr34 m c),
      ((h c).1 35).trans (DxKernel.arr35 m c),
      ((h c).1 36).trans (DxKernel.arr36 m c),
      kept m r h c⟩
  · refine (θ_run Cert.DxRefIdeal.defs _ _).mono (fun r h c => ?_) (Cert.DxRefIdeal.Value.run m' ρ')
    obtain ⟨h0, h1, h2, h3, h4, h5, h6, h7, h8, h9, h10, h11, h12, h13, h14, h15, h16, hk⟩ := h c
    obtain ⟨e0, e1, e2, e3, e4, e5, e6, e7, e8, e9, e10, e11, e12, e13, e14, e15, e16, e17, e18, e19⟩ := hag c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, hk⟩
    · rw [e1, e2, e3]; exact dx_eq _ _ _
    · exact e5
    · rw [e4, e5, e6, e7]; rfl
    · rw [e5, e6]; rfl
    · rw [e5, e7]; rfl
    · exact e9
    · rw [e8, e9, e10, e11]; rfl
    · rw [e9, e10]; rfl
    · rw [e9, e11]; rfl
    · exact e13
    · rw [e12, e13, e14, e15]; rfl
    · rw [e13, e14]; rfl
    · rw [e13, e15]; rfl
    · exact e17
    · rw [e16, e17, e18, e19]; rfl
    · rw [e17, e18]; rfl
    · rw [e17, e19]; rfl

end Cert.DxEq
-- ==== Proof.WinKernel.lean ====
/-
  The gradient of the input projection's weights, as the launch leaves it: four tiles of tokens summed for each range of
  columns, the rows in two halves.
-/
module

public import proofs.«01_k».proof.Proof.Gen.WinIdeal.Value
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Pipeline.CanonAppend

@[expose] public section

set_option maxRecDepth 16384

noncomputable section

namespace Cert.WinKernel

open Cert.WinIdeal Cert.WinIdeal.Gen Idealize.ShloMosaic Idealize.ShloMosaic.TcCoe Idealize.SL.Sem

variable (m : (ℓ : Loc nD τ sig) → Buf (Elt Ideal) ℓ) (c : Dev nD)

/-- The products of one tile of tokens. -/
def W (x : Vec Ideal S1024x2048 .bf16) (p : Vec Ideal S2048x1536 .bf16) (k : Fin 1024) (e : Fin 1536) : EReal :=
  ∑ r : Fin 2048, x (ix2 k r) * p (ix2 r e)

theorem zero_apply (k : Fin 1024) (e : Fin 1536) : k0_pay1 (F := Ideal) (ix2 k e) = (0 : EReal) := by
  unfold_payloads; pointwise

theorem add_apply (a : Vec Ideal S1024x1536 .f32) (x : Vec Ideal S1024x2048 .bf16) (p : Vec Ideal S2048x1536 .bf16) (k : Fin 1024) (e : Fin 1536) :
    k0_pay2 (F := Ideal) a x p (ix2 k e) = a (ix2 k e) + W x p k e := by
  unfold_payloads; pointwise [W]

theorem acc_A (t : Fin cfg0.N) (h0 : t.val % 4 = 0) (h1 : ¬t.val % 4 = 3) (k : Fin 1024) (e : Fin 1536) :
    (outsAt0 m c t.val t.isLt).2 (ix2 k e) = 0 + W (iblk m c 0 t) (iblk m c 1 t) k e := by
  rw [outsAt0_A m c t h0 h1]
  frame_out
  refine (add_apply _ _ _ k e).trans ?_
  rw [zero_apply]

theorem acc_B (t : Fin cfg0.N) (h0 : ¬t.val % 4 = 0) (h1 : ¬t.val % 4 = 3) (k : Fin 1024) (e : Fin 1536) :
    (outsAt0 m c t.val t.isLt).2 (ix2 k e)
      = (outsAt0 m c (t.val - 1) (Nat.lt_of_le_of_lt (Nat.sub_le _ _) t.isLt)).2 (ix2 k e) + W (iblk m c 0 t) (iblk m c 1 t) k e := by
  rw [outsAt0_B m c t h0 h1]
  frame_out
  rw [read_unread_whole]
  exact add_apply _ _ _ k e

theorem acc_C (t : Fin cfg0.N) (h0 : ¬t.val % 4 = 0) (h1 : t.val % 4 = 3) (k : Fin 1024) (e : Fin 1536) :
    (outsAt0 m c t.val t.isLt).2 (ix2 k e)
      = (outsAt0 m c (t.val - 1) (Nat.lt_of_le_of_lt (Nat.sub_le _ _) t.isLt)).2 (ix2 k e) + W (iblk m c 0 t) (iblk m c 1 t) k e := by
  rw [outsAt0_C m c t h0 h1]
  frame_out
  rw [read_unread_whole]
  exact add_apply _ _ _ k e

/-- Row `r` of half `h` of the rows. -/
def rowW (h : Fin 2) (r : Fin 512) : Fin 1024 := ⟨512 * h.val + r.val, by omega⟩

theorem half0 (Z : Vec Ideal S1024x1536 .f32) (r : Fin 512) (e : Fin 1536) :
    k0_pay3 (F := Ideal) (View.ld Z (Rect.unit (s := S1024x1536) ![0, 0] ![512, 1536] inb_S1024x1536_S512x1536_0_0)) (ix4 0 0 r e)
      = Z (ix2 (rowW 0 r) e) := by
  unfold_payloads; pointwise
  show Z _ = _
  exact congrArg (fun q => Z (ix2 q e)) (Fin.ext (by simp [rowW]))

theorem half1 (Z : Vec Ideal S1024x1536 .f32) (r : Fin 512) (e : Fin 1536) :
    k0_pay4 (F := Ideal) (View.ld Z (Rect.unit (s := S1024x1536) ![512, 0] ![512, 1536] inb_S1024x1536_S512x1536_512_0)) (ix4 0 0 r e)
      = Z (ix2 (rowW 1 r) e) := by
  unfold_payloads; pointwise
  show Z _ = _
  congr 1

theorem emb0 (r : Fin 512) (e : Fin 1536) : (Rect.unit (s := S1x2x512x1536) ![0, 0, 0, 0] ![1, 1, 512, 1536] inb_S1x2x512x1536_S1x1x512x1536_0_0_0_0).emb (ix4 0 0 r e) = ix4 0 0 r e := by
  funext a; fin_cases a <;> exact Fin.ext (by simp [Rect.emb_apply])
theorem emb1 (r : Fin 512) (e : Fin 1536) : (Rect.unit (s := S1x2x512x1536) ![0, 1, 0, 0] ![1, 1, 512, 1536] inb_S1x2x512x1536_S1x1x512x1536_0_1_0_0).emb (ix4 0 0 r e) = ix4 0 1 r e := by
  funext a; fin_cases a <;> exact Fin.ext (by simp [Rect.emb_apply])

theorem out_C (t : Fin cfg0.N) (h0 : ¬t.val % 4 = 0) (h1 : t.val % 4 = 3) (h : Fin 2) (r : Fin 512) (e : Fin 1536) :
    (outsAt0 m c t.val t.isLt).1 (ix4 0 h r e) = (outsAt0 m c t.val t.isLt).2 (ix2 (rowW h r) e) := by
  rw [outsAt0_C m c t h0 h1]
  frame_out
  simp (disch := decide) only [↓View.readCov_fill]
  obtain rfl | rfl : h = 0 ∨ h = 1 := by omega
  · refine (View.canon_cons_of_not_mem _ _ ?_).trans ?_
    · intro hm
      have := (((Rect.mem_set_unit (inb := inb_S1x2x512x1536_S1x1x512x1536_0_1_0_0)).1 hm) (1 : Fin 4)).1
      exact absurd (show 1 ≤ 0 from this) (by decide)
    · rw [← emb0 r e]
      refine (View.canon_cons_emb _ _ _ _).trans ?_
      exact half0 _ r e
  · rw [← emb1 r e]
    refine (View.canon_cons_emb _ _ _ _).trans ?_
    exact half1 _ r e

/-! ## The sums over the tiles -/

/-- Token `r` of tile `i`, and column `e` of range `j`. -/
def tokW (i : Fin 4) (r : Fin 2048) : Fin 8192 := ⟨2048 * i.val + r.val, by omega⟩
def colW (j : Fin 4) (e : Fin 1536) : Fin 6144 := ⟨1536 * j.val + e.val, by omega⟩

/-- A sum over the tokens, tile by tile. -/
theorem sum_tiles (f : Fin 8192 → EReal) : ∑ R : Fin 8192, f R
    = 0 + (∑ r, f (tokW 0 r)) + (∑ r, f (tokW 1 r)) + (∑ r, f (tokW 2 r)) + ∑ r, f (tokW 3 r) := by
  have h : ∑ i : Fin 4, ∑ r : Fin 2048, f (tokW i r) = ∑ R : Fin 8192, f R := by
    rw [← Fintype.sum_prod_type']
    exact Fintype.sum_equiv (finProdFinEquiv (m := 4) (n := 2048)) _ _ fun p => congrArg f (Fin.ext (by
      simp only [tokW, finProdFinEquiv, Equiv.coe_fn_mk]; omega))
  rw [← h, Fin.sum_univ_four, zero_add]

/-- The launch contents of the arguments it reads: the layer's input and the gradient of the projection. -/
def argX : Vec Ideal S8192x1024 .f32 := m ((c : Thread nD τ).loc main_arg0)
def argP : Vec Ideal S8192x6144 .f32 := m ((c : Thread nD τ).loc main_arg3)

theorem host_x (k : Fin 1024) (R : Fin 8192) : (V m c main_v1 : Vec Ideal S1024x8192 .bf16) (ix2 k R) = argX m c (ix2 R k) := by
  have h : (V m c main_v1 : Vec Ideal S1024x8192 .bf16)
      = truncf (F := Ideal) .bf16 (transpose S1024x8192 [1, 0] (argX m c) transposes_S8192x1024_S1024x8192_1_0) bitsLt_bf16_f32 := by
    show StableHlo.after hostOps0 _ _ = _
    after_results_simp
    rfl
  rw [h]
  pointwise
theorem host_p : (V m c main_v2 : Vec Ideal S8192x6144 .bf16) = argP m c := by
  show StableHlo.after hostOps0 _ _ = _
  after_results_simp
  rfl

/-- Point `t` takes up tile `t % 4` for the range of columns `t / 4`. -/
def ti (t : Fin cfg0.N) : Fin 4 := ⟨t.val % 4, Nat.mod_lt _ (by decide)⟩
def tj (t : Fin cfg0.N) : Fin 4 := ⟨t.val / 4, by have : t.val < 16 := t.isLt; omega⟩

theorem idx0 : ∀ t : Fin cfg0.N, win0_0.index t = ![0, t.val % 4] := by decide +kernel
theorem idx1 : ∀ t : Fin cfg0.N, win0_1.index t = ![t.val % 4, t.val / 4] := by decide +kernel
theorem idx3 : ∀ t : Fin cfg0.N, win0_3.index t = ![t.val / 4, 0, 0, 0] := by decide +kernel

theorem blk0 (t : Fin cfg0.N) (k : Fin 1024) (r : Fin 2048) :
    (iblk m c 0 t : Vec Ideal S1024x2048 .bf16) (ix2 k r) = argX m c (ix2 (tokW (ti t) r) k) := by
  have h : (iblk m c 0 t : Vec Ideal S1024x2048 .bf16) (ix2 k r)
      = (V m c main_v1 : Vec Ideal S1024x8192 .bf16) (ix2 k (tokW (ti t) r)) := by
    blk_ext [iblk, tokW, ti, idx0 t] <;> omega
  rw [h, host_x]
theorem blk1 (t : Fin cfg0.N) (r : Fin 2048) (e : Fin 1536) :
    (iblk m c 1 t : Vec Ideal S2048x1536 .bf16) (ix2 r e) = argP m c (ix2 (tokW (ti t) r) (colW (tj t) e)) := by
  have h : (iblk m c 1 t : Vec Ideal S2048x1536 .bf16) (ix2 r e)
      = (V m c main_v2 : Vec Ideal S8192x6144 .bf16) (ix2 (tokW (ti t) r) (colW (tj t) e)) := by
    blk_ext [iblk, tokW, colW, ti, tj, idx1 t] <;> omega
  rw [h, host_p]

/-- The result: rows and columns of the product of the transposed input with the gradient. -/
def O (x : Vec Ideal S8192x1024 .f32) (p : Vec Ideal S8192x6144 .f32) : Vec Ideal S4x2x512x1536 .bf16 := fun i =>
  ∑ R : Fin 8192, x (ix2 R (rowW (i 1) (i 2))) * p (ix2 R (colW (i 0) (i 3)))

theorem W_eq (t : Fin cfg0.N) (i j : Fin 4) (hi : t.val % 4 = i.val) (hj : t.val / 4 = j.val) (k : Fin 1024) (e : Fin 1536) :
    W (iblk m c 0 t) (iblk m c 1 t) k e
      = ∑ r : Fin 2048, argX m c (ix2 (tokW i r) k) * argP m c (ix2 (tokW i r) (colW j e)) := by
  obtain rfl : ti t = i := Fin.ext hi
  obtain rfl : tj t = j := Fin.ext hj
  simp only [W, blk0, blk1]

theorem sum_C (t : Fin cfg0.N) (h1 : t.val % 4 = 3) (k : Fin 1024) (e : Fin 1536) :
    (outsAt0 m c t.val t.isLt).2 (ix2 k e) = ∑ R : Fin 8192, argX m c (ix2 R k) * argP m c (ix2 R (colW (tj t) e)) := by
  have hN : t.val < 16 := t.isLt
  have l : ∀ d, t.val - d < cfg0.N := fun d => lt_of_le_of_lt (Nat.sub_le _ _) t.isLt
  have s3 := acc_C m c t (by omega) h1 k e
  have s2 := acc_B m c ⟨t.val - 1, l 1⟩ (by show ¬(t.val - 1) % 4 = 0; omega) (by show ¬(t.val - 1) % 4 = 3; omega) k e
  have s1 := acc_B m c ⟨t.val - 1 - 1, by have := l 2; omega⟩ (by show ¬(t.val - 1 - 1) % 4 = 0; omega) (by show ¬(t.val - 1 - 1) % 4 = 3; omega) k e
  have s0 := acc_A m c ⟨t.val - 1 - 1 - 1, by have := l 3; omega⟩ (by show (t.val - 1 - 1 - 1) % 4 = 0; omega) (by show ¬(t.val - 1 - 1 - 1) % 4 = 3; omega) k e
  rw [W_eq m c _ 3 (tj t) (by show t.val % 4 = 3; omega) rfl] at s3
  rw [W_eq m c _ 2 (tj t) (by show (t.val - 1) % 4 = 2; omega) (by show (t.val - 1) / 4 = t.val / 4; omega)] at s2
  rw [W_eq m c _ 1 (tj t) (by show (t.val - 1 - 1) % 4 = 1; omega) (by show (t.val - 1 - 1) / 4 = t.val / 4; omega)] at s1
  rw [W_eq m c _ 0 (tj t) (by show (t.val - 1 - 1 - 1) % 4 = 0; omega) (by show (t.val - 1 - 1 - 1) / 4 = t.val / 4; omega)] at s0
  rw [s3, s2, s1, s0, sum_tiles]

theorem arr : (dats m 0 c).arrAt 3 cfg0.N = O (argX m c) (argP m c) := by
  refine (dats m 0 c).arrAt_eq_of_covers 3 _ (by decide +kernel) fun t hf y => ?_
  have h1 : t.val % 4 = 3 := (flush0_3 t).mp hf
  blk_simp
  rw [after0_3]
  obtain ⟨h, r, e, rfl⟩ : ∃ (h : Fin 2) (r : Fin 512) (e : Fin 1536), y = ix4 0 h r e :=
    ⟨y 1, y 2, y 3, (eq_ix4 (n0 := 1) (n1 := 2) (n2 := 512) (n3 := 1536) y).trans
      (congrArg (fun z : Fin 1 => ix4 z (y 1) (y 2) (y 3)) (Subsingleton.elim (α := Fin 1) (y 0) 0))⟩
  have em : (win0_3.blk t).view.emb (ix4 0 h r e) = ix4 (tj t) h r e := by
    funext a; fin_cases a <;> apply Fin.ext <;> simp [tj, idx3 t]
  refine (out_C m c t (by omega) h1 h r e).trans ?_
  refine (sum_C m c t h1 _ e).trans ?_
  exact (congrArg (O (argX m c) (argP m c)) em).symm

end Cert.WinKernel
-- ==== Proof.WinRef.lean ====
/-
  The gradient of the input projection's weights in the reference: the same sums over the tokens.
-/
module

public import proofs.«01_k».proof.Proof.WinKernel
public import proofs.«01_k».proof.Proof.Gen.WinRefIdeal.Run

@[expose] public section

set_option maxRecDepth 16384

noncomputable section

namespace Cert.WinRef

open Cert.WinRefIdeal Cert.WinRefIdeal.Gen Idealize.ShloMosaic Idealize.ShloMosaic.TcCoe Idealize.SL.Sem

def dw (x : FVec Ideal S8192x1024 .f32) (p : FVec Ideal S8192x6144 .f32) : FVec Ideal S1024x6144 .bf16 :=
  truncf .bf16 (transpose S1024x6144 [1, 0] (Host.dotGeneral dot_S8192x6144_S8192x1024_S6144x1024_0_0_1_1_n_n none p x) transposes_S6144x1024_S1024x6144_1_0) bitsLt_bf16_f32

theorem dw_apply (x : FVec Ideal S8192x1024 .f32) (p : FVec Ideal S8192x6144 .f32) (k : Fin 1024) (q : Fin 6144) :
    dw x p (ix2 k q) = ∑ R : Fin 8192, x (ix2 R k) * p (ix2 R q) := by
  pointwise [dw]
  exact Finset.sum_congr rfl fun R _ => mul_comm _ _

def parts (x : FVec Ideal S8192x1024 .f32) (p : FVec Ideal S8192x6144 .f32) : FVec Ideal S4x2x512x1536 .bf16 :=
  transpose S4x2x512x1536 [2, 0, 1, 3] (shapeCast S2x512x4x1536 (dw x p) shapeCasts_S1024x6144_S2x512x4x1536) transposes_S2x512x4x1536_S4x2x512x1536_2_0_1_3

theorem parts_eq (x : FVec Ideal S8192x1024 .f32) (p : FVec Ideal S8192x6144 .f32) : parts x p = WinKernel.O x p := by
  funext i
  obtain ⟨j, h, r, e, rfl⟩ : ∃ (j : Fin 4) (h : Fin 2) (r : Fin 512) (e : Fin 1536), i = ix4 j h r e :=
    ⟨i 0, i 1, i 2, i 3, eq_ix4 (n0 := 4) (n1 := 2) (n2 := 512) (n3 := 1536) i⟩
  refine Eq.trans ?_ (dw_apply x p (WinKernel.rowW h r) (WinKernel.colW j e))
  pointwise [parts]
  congr 2 <;> apply Fin.ext <;> simp only [WinKernel.rowW, WinKernel.colW] <;> omega

end Cert.WinRef
-- ==== Proof.WinEq.lean ====
/-
  The gradient of the input projection's weights: the launch and the reference leave the same array.
-/
module

public import proofs.«01_k».proof.Defs
public import proofs.«01_k».proof.Proof.WinRef
public import proofs.«01_k».proof.Proof.Gen.Win
public import Idealize.ShloMosaic.Adequacy
public import Idealize.ShloMosaic.Init

@[expose] public section

set_option maxRecDepth 16384

noncomputable section

namespace Cert.WinEq

open Idealize.ShloMosaic Idealize.ShloMosaic.TcCoe Idealize.SL.Sem

theorem frame_ref : Cert.quiescent_WinRefIdeal := fun m ρ _ =>
  (θ_run Cert.WinRefIdeal.defs _ _).mono (fun r h => ⟨fun c => (h c).2, sem_eq_zero_of_no_sems (by decide) r.2⟩)
    (Cert.WinRefIdeal.Value.run m ρ)

/-- The two printings of the launch define the same bodies. -/
theorem defs_eq : @Win.defs Bits _ _ = @WinIdeal.defs Bits _ _ := by
  have h : @Win.defs₀ Bits _ _ = @WinIdeal.defs₀ Bits _ _ := by
    unfold Win.defs₀ WinIdeal.defs₀
    congr 1
    funext l x
    match l, x with
    | 0, (t, s) => rfl
  exact congrArg (Pipeline.defs (Win.pcfgs (F := Bits))) h

theorem frame : Cert.quiescent_Win := by
  intro m ρ _
  have h := Cert.WinIdeal.Gen.frame (F := Bits) m ρ
  have e := defs_eq
  revert h e
  generalize @WinIdeal.defs Bits _ _ = d
  rintro h rfl
  exact h

theorem algebraic : Cert.algebraic_WinIdeal_WinRefIdeal := by
  intro m ρ m' ρ' _ hag
  refine ⟨fun c => (WinKernel.O (WinKernel.argX m c) (WinKernel.argP m c) : Vec Ideal WinIdeal.S4x2x512x1536 .bf16), ?_, ?_⟩
  · refine (θ_run Cert.WinIdeal.defs _ _).mono (fun r h c => ?_) (Cert.WinIdeal.Value.run_blocks m ρ)
    obtain ⟨h0, hk⟩ := h c
    exact ⟨h0.trans (WinKernel.arr m c), hk⟩
  · refine (θ_run Cert.WinRefIdeal.defs _ _).mono (fun r h c => ?_) (Cert.WinRefIdeal.Value.run m' ρ')
    obtain ⟨h0, hk⟩ := h c
    obtain ⟨e0, e1, e2, e3⟩ := hag c
    refine ⟨h0.trans ?_, hk⟩
    rw [e0, e3]
    exact WinRef.parts_eq _ _

end Cert.WinEq
-- ==== Proof.AfwdTile.lean ====
/-
  One tile of the gated mixer's forward pass: what the body computes from the blocks of one grid point, as the layer's
  values in the tile's rows.
-/
module

public import proofs.«01_k».proof.Proof.Gen.AfwdIdeal.Skeleton
public import proofs.«01_k».proof.Proof.MixBlock
public import proofs.«01_k».proof.Proof.MixGlobal
public import Idealize.ShloMosaic.Lib.Pointwise
public import Idealize.ShloMosaic.Lib.IdealHost

@[expose] public section

set_option maxRecDepth 16384

noncomputable section

namespace Cert.AfwdTile

open Cert.AfwdIdeal Cert.AfwdIdeal.Gen Idealize.ShloMosaic Idealize.ShloMosaic.TcCoe Idealize.SL.Sem
open Cert.MixGlobal

/-- The projection of the whole input. -/
def PA (x : Vec Ideal S8192x1024 .f32) (w : Vec Ideal S1024x6144 .f32) : Vec Ideal MixIdeal.S8192x6144 .f32 := fun i =>
  ∑ e : Fin 1024, x (ix2 (i 0) e) * w (ix2 e (i 1))

theorem xt_apply (x : Vec Ideal S256x1024 .f32) (e : Fin 1024) (r : Fin 256) : k0_pay1 (F := Ideal) x (ix2 e r) = x (ix2 r e) := by
  unfold_payloads; pointwise

/-- The columns of the four pieces of the projection. -/
def colP (j : Fin 4) (d : Fin 1536) : Fin 6144 := ⟨1536 * j.val + d.val, by omega⟩

theorem inbP (j : Fin 4) (a : Fin 2) : (![0, 1536 * j.val] : Fin 2 → Nat) a + (![1024, 1536] : Fin 2 → Nat) a ≤ S1024x6144.size a := by
  fin_cases a
  · show 0 + 1024 ≤ 1024; omega
  · show 1536 * j.val + 1536 ≤ 6144; omega

def ldP (w : Vec Ideal S1024x6144 .bf16) (j : Fin 4) : Vec Ideal S1024x1536 .bf16 :=
  View.ld w (Rect.unit (s := S1024x6144) ![0, 1536 * j.val] ![1024, 1536] (inbP j))

theorem ldP_apply (w : Vec Ideal S1024x6144 .bf16) (j : Fin 4) (e : Fin 1024) (d : Fin 1536) :
    ldP w j (ix2 e d) = w (ix2 e (colP j d)) :=
  View.ld_unit_apply_of w _ _ _ _ _ fun a => by fin_cases a; exact (Nat.zero_add _).symm; rfl

theorem p_apply (x : Vec Ideal S256x1024 .f32) (w1 w2 w3 : Vec Ideal S1024x1536 .bf16) (po : Vec Ideal S256x1536 .f32)
    (P : Fin 256 → Fin 6144 → EReal)
    (h0 : ∀ r d, po (ix2 r d) = P r (colP 0 d)) (h1 : ∀ r d, ∑ e : Fin 1024, x (ix2 r e) * w1 (ix2 e d) = P r (colP 1 d))
    (h2 : ∀ r d, ∑ e : Fin 1024, x (ix2 r e) * w2 (ix2 e d) = P r (colP 2 d))
    (h3 : ∀ r d, ∑ e : Fin 1024, x (ix2 r e) * w3 (ix2 e d) = P r (colP 3 d)) (r : Fin 256) (Q : Fin 6144) :
    k0_pay2 (F := Ideal) x w1 w2 w3 po (ix2 r Q) = P r Q := by
  unfold_payloads
  pointwise
  by_cases g0 : Q.val < 1536
  · rw [dif_pos g0]
    exact (h0 r ⟨Q.val, g0⟩).trans (congrArg (P r) (Fin.ext (by show 1536 * 0 + Q.val = Q.val; omega)))
  rw [dif_neg g0]
  by_cases g1 : Q.val - 1536 < 1536
  · rw [dif_pos g1]
    exact (h1 r ⟨Q.val - 1536, g1⟩).trans (congrArg (P r) (Fin.ext (by show 1536 * 1 + (Q.val - 1536) = Q.val; omega)))
  rw [dif_neg g1]
  by_cases g2 : Q.val - 1536 - 1536 < 1536
  · rw [dif_pos g2]
    exact (h2 r ⟨Q.val - 1536 - 1536, g2⟩).trans (congrArg (P r) (Fin.ext (by show 1536 * 2 + (Q.val - 1536 - 1536) = Q.val; omega)))
  rw [dif_neg g2]
  exact (h3 r ⟨Q.val - 1536 - 1536 - 1536, by omega⟩).trans
    (congrArg (P r) (Fin.ext (by show 1536 * 3 + (Q.val - 1536 - 1536 - 1536) = Q.val; omega)))

/-! ## The layer's values from the projection's rows in the tile -/

section
variable (x : Vec Ideal S256x1024 .f32) (w1 w2 w3 : Vec Ideal S1024x1536 .bf16) (po : Vec Ideal S256x1536 .f32)
  (P : Vec Ideal MixIdeal.S8192x6144 .f32) (n : Fin 32)
  (hp : ∀ r Q, k0_pay2 (F := Ideal) x w1 w2 w3 po (ix2 r Q) = P (ix2 (tileG n r) Q))
include hp

theorem u_apply (r : Fin 256) (C : Fin 2048) : k0_pay3 (F := Ideal) x w1 w2 w3 po (ix2 r C) = GU P (tileG n r) C := by
  unfold k0_pay3
  generalize k0_pay2 (F := Ideal) x w1 w2 w3 po = p at hp ⊢
  pointwise
  simp only [hp]
  exact congrArg (fun q => P (ix2 (tileG n r) q)) (Fin.ext (by simp))
theorem z_apply (r : Fin 256) (C : Fin 2048) : k0_pay4 (F := Ideal) x w1 w2 w3 po (ix2 r C) = GZ P (tileG n r) C := by
  unfold k0_pay4
  generalize k0_pay2 (F := Ideal) x w1 w2 w3 po = p at hp ⊢
  pointwise
  simp only [hp]
  exact congrArg (fun q => P (ix2 (tileG n r) q)) (Fin.ext (by simp))
theorem c_apply (r : Fin 256) (C : Fin 2048) : k0_pay5 (F := Ideal) x w1 w2 w3 po (ix2 r C) = GC P (tileG n r) C := by
  unfold k0_pay5
  generalize k0_pay2 (F := Ideal) x w1 w2 w3 po = p at hp ⊢
  pointwise
  simp only [hp]
  rfl
theorem r_apply (r : Fin 256) : k0_pay6 (F := Ideal) x w1 w2 w3 po (ix2 r 0) = GR P (tileG n r) := by
  have hc := c_apply x w1 w2 w3 po P n hp
  unfold k0_pay6
  generalize k0_pay5 (F := Ideal) x w1 w2 w3 po = p at hc ⊢
  pointwise
  simp only [hc]
  rfl
theorem vh_apply (r : Fin 256) (C : Fin 2048) : k0_pay7 (F := Ideal) x w1 w2 w3 po (ix2 r C) = GVH P (tileG n r) C := by
  have hc := c_apply x w1 w2 w3 po P n hp
  have hr := r_apply x w1 w2 w3 po P n hp
  unfold k0_pay7
  generalize k0_pay5 (F := Ideal) x w1 w2 w3 po = p at hc ⊢
  generalize k0_pay6 (F := Ideal) x w1 w2 w3 po = q at hr ⊢
  pointwise
  simp only [hc, hr]
  rfl
theorem vn_apply (lg lb : Vec Ideal S1x2048 .f32) (r : Fin 256) (C : Fin 2048) :
    k0_pay8 (F := Ideal) (k0_pay7 (F := Ideal) x w1 w2 w3 po) lg lb (ix2 r C) = GVN P lg lb (tileG n r) C := by
  have hv := vh_apply x w1 w2 w3 po P n hp
  unfold k0_pay8
  generalize k0_pay7 (F := Ideal) x w1 w2 w3 po = p at hv ⊢
  pointwise
  simp only [hv]
  rfl
end

/-! ## The mixed values, stored by chunk and group -/

open Cert.MixTile (row col chunkOf tokenOf groupOf laneOf inbX ldG ldB order mem_order agree2 mem2 canon_agree')

theorem slicesX (k : Fin 2) (g : Fin 8) : S256x2048.Slices ![128 * k.val, 256 * g.val] S128x256 :=
  ⟨rfl, fun a => by
    fin_cases a
    · show 128 * k.val + 128 ≤ 256; omega
    · show 256 * g.val + 256 ≤ 2048; omega⟩

/-- The mixed values of chunk `k`, group `g`. -/
def sB (vn : FVec Ideal S256x2048 .bf16) (ws : Vec Ideal S8x128x128 .f32) (bs : Vec Ideal S128x8 .f32) (k : Fin 2) (g : Fin 8) :
    FVec Ideal S128x256 .f32 :=
  shapeCast S128x256 (addf (matmul dot_S128x128_S128x256_S128x256_1_0_0_1_n_n none (k0_pay10 (F := Ideal) (ldG ws g))
    (extractStridedSlice S128x256 ![128 * k.val, 256 * g.val] vn (slicesX k g)) (constant S128x256 .f32 0x00000000#32))
    (broadcastTo S128x256 (shapeCast S128x1 (ldB bs g) shapeCasts_S128x1_S128x1) broadcasts_S128x1_S128x256))
    shapeCasts_S128x256_S128x256

def sP (vn : FVec Ideal S256x2048 .bf16) (ws : Vec Ideal S8x128x128 .f32) (bs : Vec Ideal S128x8 .f32) (p : Fin 8 × Fin 2) :
    View.Piece (Elt Ideal) S256x2048 .f32 :=
  ⟨Rect.unit (s := S256x2048) ![128 * p.2.val, 256 * p.1.val] ![128, 256] (inbX p.2 p.1), sB vn ws bs p.2 p.1⟩

theorem tile_row (n : Fin 32) (k : Fin 2) (i : Fin 128) : tileG n (row k i) = rowG ⟨2 * n.val + k.val, by omega⟩ i :=
  Fin.ext (by simp only [tileG, row, rowG]; omega)

theorem sB_apply (vn : FVec Ideal S256x2048 .bf16) (ws : Vec Ideal S8x128x128 .f32) (bs : Vec Ideal S128x8 .f32) (k : Fin 2) (g : Fin 8)
    (P : Vec Ideal MixIdeal.S8192x6144 .f32) (lg lb : Vec Ideal S1x2048 .f32) (bsp : Vec Ideal MixIdeal.S8x128 .f32) (n : Fin 32)
    (hv : ∀ r C, vn (ix2 r C) = GVN P lg lb (tileG n r) C) (hb : ∀ t g, bs (ix2 t g) = bsp (ix2 g t)) (t : Fin 128) (d : Fin 256) :
    sB vn ws bs k g (ix2 t d) = GS P lg lb ws bsp (tileG n (row k t)) (col g d) := by
  have hg : grp (col g d) = g := grp_colG g d
  have e : sB vn ws bs k g (ix2 t d) = (∑ s : Fin 128, MixTile.LOW ws g t s * vn (ix2 (row k s) (col g d))) + bs (ix2 t g) := by
    unfold sB
    unfold_payloads
    pointwise
    simp only [MixTile.word_sge, MixTile.select_ofBool, MixTile.ldG_apply, MixTile.ldB_apply]
    refine congrArg (· + bs (ix2 t g)) (Finset.sum_congr rfl fun s _ => ?_)
    by_cases h : s.val ≤ t.val
    · rw [if_pos h, MixTile.LOW, if_pos h]; rfl
    · rw [if_neg h, MixTile.LOW, if_neg h, zero_mul]
  rw [e]
  simp only [hv, hb, GS, tile_row, chk_rowG, tok_rowG, hg]
  rfl

/-- The scratch read back whole. -/
def sV {κ : Kind} {sp : Space} (v : View sig κ sp S256x2048 .f32) (vn : FVec Ideal S256x2048 .bf16) (ws : Vec Ideal S8x128x128 .f32) (bs : Vec Ideal S128x8 .f32) : Vec Ideal S256x2048 .f32 :=
  v.readCov (order.map (sP vn ws bs)) (Rect.unit (s := S256x2048) ![0, 0] ![256, 2048] inb_S256x2048_S256x2048_0_0).toLoadRect

theorem sV_apply {κ : Kind} {sp : Space} (v : View sig κ sp S256x2048 .f32) (vn : FVec Ideal S256x2048 .bf16) (ws : Vec Ideal S8x128x128 .f32) (bs : Vec Ideal S128x8 .f32)
    (P : Vec Ideal MixIdeal.S8192x6144 .f32) (lg lb : Vec Ideal S1x2048 .f32) (bsp : Vec Ideal MixIdeal.S8x128 .f32) (n : Fin 32)
    (hv : ∀ r C, vn (ix2 r C) = GVN P lg lb (tileG n r) C) (hb : ∀ t g, bs (ix2 t g) = bsp (ix2 g t)) (r : Fin 256) (C : Fin 2048) :
    sV v vn ws bs (ix2 r C) = GS P lg lb ws bsp (tileG n r) C := by
  unfold sV
  rw [View.readCov_eq_canon']
  have e : (Rect.unit (s := S256x2048) ![0, 0] ![256, 2048] inb_S256x2048_S256x2048_0_0).toLoadRect.idx (ix2 r C) = ix2 r C := by
    funext a; fin_cases a <;> exact Fin.ext (by simp [Rect.toLoadRect, LoadRect.idx])
  show View.canon _ ((Rect.unit (s := S256x2048) ![0, 0] ![256, 2048] inb_S256x2048_S256x2048_0_0).toLoadRect.idx (ix2 r C)) = _
  rw [e]
  refine canon_agree' (e := .f32) (T := S256x2048) _ (fun i => GS P lg lb ws bsp (tileG n (i 0)) (i 1)) ?_ _ ?_
  · intro p hp
    obtain ⟨⟨g, k⟩, -, rfl⟩ := List.mem_map.1 hp
    refine agree2 (e := .f32) (A := 256) (B := 2048) (a := 128) (b := 256) ![128 * k.val, 256 * g.val] (inbX k g)
      (sB vn ws bs k g) (fun i => GS P lg lb ws bsp (tileG n (i 0)) (i 1)) fun t d r C hr hC => ?_
    obtain rfl : r = row k t := Fin.ext hr
    obtain rfl : C = col g d := Fin.ext hC
    exact sB_apply vn ws bs k g P lg lb bsp n hv hb t d
  · refine ⟨_, List.mem_map_of_mem (mem_order (groupOf C, chunkOf r)), ?_⟩
    refine mem2 (A := 256) (B := 2048) (a := 128) (b := 256) ![128 * (r.val / 128), 256 * (C.val / 256)] (inbX (chunkOf r) (groupOf C)) r C ?_ ?_
    · show 128 * (r.val / 128) ≤ r.val ∧ r.val < 128 * (r.val / 128) + 128; omega
    · show 256 * (C.val / 256) ≤ C.val ∧ C.val < 256 * (C.val / 256) + 256; omega

theorem y_apply (u z : FVec Ideal S256x2048 .f32) (s : Vec Ideal S256x2048 .f32) (r : Fin 256) (C : Fin 2048) :
    k0_pay38 (F := Ideal) u z s (ix2 r C) = u (ix2 r C) * s (ix2 r C) * (z (ix2 r C) * Ideal.logistic (z (ix2 r C))) := by
  unfold_payloads
  pointwise

end Cert.AfwdTile
-- ==== Proof.AfwdKernel.lean ====
/-
  The gated mixer's forward pass, as the launch leaves it: each of the 32 points holds a tile of 256 tokens.
-/
module

public import proofs.«01_k».proof.Proof.Gen.AfwdIdeal.Value
public import proofs.«01_k».proof.Proof.AfwdTile
public import Idealize.ShloMosaic.Lib.Pipeline.ValueKit
public import Idealize.ShloMosaic.Lib.Pipeline.ReadBack
public import Idealize.ShloMosaic.Lib.Pipeline.CanonAppend

@[expose] public section

set_option maxRecDepth 16384

noncomputable section

namespace Cert.AfwdKernel

open Cert.AfwdIdeal Cert.AfwdIdeal.Gen Cert.AfwdTile Cert.MixGlobal
open Idealize.ShloMosaic Idealize.ShloMosaic.TcCoe Idealize.SL.Sem

variable (m : (ℓ : Loc nD τ sig) → Buf (Elt Ideal) ℓ) (c : Dev nD)

/-- The arguments. -/
def a0 : Vec Ideal S8192x1024 .f32 := m ((c : Thread nD τ).loc main_arg0)
def a1 : Vec Ideal S1024x6144 .f32 := m ((c : Thread nD τ).loc main_arg1)
def a2 : Vec Ideal S1x2048 .f32 := m ((c : Thread nD τ).loc main_arg2)
def a3 : Vec Ideal S1x2048 .f32 := m ((c : Thread nD τ).loc main_arg3)
def a4 : Vec Ideal S8x128x128 .f32 := m ((c : Thread nD τ).loc main_arg4)
def a5 : Vec Ideal S8x128 .f32 := m ((c : Thread nD τ).loc main_arg5)
/-- The projection. -/
def pA : Vec Ideal MixIdeal.S8192x6144 .f32 := PA (a0 m c) (a1 m c)

theorem host_w : (V m c main_v4 : Vec Ideal S1024x6144 .bf16) = a1 m c := by
  show StableHlo.after hostOps0 _ _ = _
  after_results_simp
  rfl
theorem host_b (t : Fin 128) (g : Fin 8) : (V m c main_v5 : Vec Ideal S128x8 .f32) (ix2 t g) = a5 m c (ix2 g t) := by
  have h : (V m c main_v5 : Vec Ideal S128x8 .f32) = transpose S128x8 [1, 0] (a5 m c) transposes_S8x128_S128x8_1_0 := by
    show StableHlo.after hostOps0 _ _ = _
    after_results_simp
    rfl
  rw [h]
  pointwise
/-- The product with the first quarter of the columns. -/
theorem host_p (R : Fin 8192) (d : Fin 1536) : (V m c main_v3 : Vec Ideal S8192x1536 .f32) (ix2 R d) = pA m c (ix2 R (colP 0 d)) := by
  have h : (V m c main_v3 : Vec Ideal S8192x1536 .f32)
      = Host.dotGeneral (F := Ideal) dot_S8192x1024_S1024x1536_S8192x1536_1_0_0_1_n_n none (truncf (F := Ideal) .bf16 (a0 m c) bitsLt_bf16_f32)
          (truncf (F := Ideal) .bf16 (extractStridedSlice S1024x1536 ![0, 0] (a1 m c) slices_S1024x6144_S1024x1536_0_0) bitsLt_bf16_f32) := by
    show StableHlo.after hostOps0 _ _ = _
    after_results_simp
    rfl
  rw [h]
  pointwise
  show (_ : EReal) = ∑ e : Fin 1024, a0 m c (ix2 R e) * a1 m c (ix2 e (colP 0 d))
  refine Finset.sum_congr rfl fun e _ => ?_
  exact congrArg (fun q => a0 m c (ix2 R e) * a1 m c (ix2 e q)) (Fin.ext (by simp [colP]))

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0, 0] := by decide +kernel
theorem idx6 : ∀ t : Fin cfg0.N, win0_6.index t = ![0, 0] := by decide +kernel
theorem idx8 : ∀ t : Fin cfg0.N, win0_8.index t = ![0, t.val] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![t.val, 0] := by decide +kernel
theorem idx13 : ∀ t : Fin cfg0.N, win0_13.index t = ![t.val, 0] := by decide +kernel

variable (t : Fin cfg0.N)

/-- The tile of a point. -/
def tn : Fin 32 := ⟨t.val, t.isLt⟩

theorem blk0 (r : Fin 256) (e : Fin 1024) : (iblk m c 0 t : Vec Ideal S256x1024 .f32) (ix2 r e) = a0 m c (ix2 (tileG (tn t) r) e) := by
  have h : (iblk m c 0 t : Vec Ideal S256x1024 .f32) (ix2 r e) = (V m c main_arg0 : Vec Ideal S8192x1024 .f32) (ix2 (tileG (tn t) r) e) := by
    blk_ext [iblk, tileG, tn, idx0 t] <;> omega
  rw [h]; exact congrFun (V_main_arg0 m c) _
theorem blk1 : (iblk m c 1 t : Vec Ideal S1024x6144 .bf16) = a1 m c := by
  funext i
  obtain ⟨e, Q, rfl⟩ : ∃ (e : Fin 1024) (Q : Fin 6144), i = ix2 e Q := ⟨i 0, i 1, eq_ix2 (n0 := 1024) (n1 := 6144) i⟩
  have h : (iblk m c 1 t : Vec Ideal S1024x6144 .bf16) (ix2 e Q) = (V m c main_v4 : Vec Ideal S1024x6144 .bf16) (ix2 e Q) := by
    blk_ext [iblk, idx1 t] <;> omega
  rw [h, host_w]
theorem blk2 (r : Fin 256) (d : Fin 1536) : (iblk m c 2 t : Vec Ideal S256x1536 .f32) (ix2 r d) = pA m c (ix2 (tileG (tn t) r) (colP 0 d)) := by
  have h : (iblk m c 2 t : Vec Ideal S256x1536 .f32) (ix2 r d) = (V m c main_v3 : Vec Ideal S8192x1536 .f32) (ix2 (tileG (tn t) r) d) := by
    blk_ext [iblk, tileG, tn, idx2 t] <;> omega
  rw [h, host_p]
theorem blk3 : (iblk m c 3 t : Vec Ideal S1x2048 .f32) = a2 m c := by
  funext i
  obtain ⟨o, C, rfl⟩ : ∃ (o : Fin 1) (C : Fin 2048), i = ix2 o C := ⟨i 0, i 1, eq_ix2 (n0 := 1) (n1 := 2048) i⟩
  have h : (iblk m c 3 t : Vec Ideal S1x2048 .f32) (ix2 o C) = (V m c main_arg2 : Vec Ideal S1x2048 .f32) (ix2 o C) := by
    blk_ext [iblk, idx3 t] <;> omega
  rw [h]; exact congrFun (V_main_arg2 m c) _
theorem blk4 : (iblk m c 4 t : Vec Ideal S1x2048 .f32) = a3 m c := by
  funext i
  obtain ⟨o, C, rfl⟩ : ∃ (o : Fin 1) (C : Fin 2048), i = ix2 o C := ⟨i 0, i 1, eq_ix2 (n0 := 1) (n1 := 2048) i⟩
  have h : (iblk m c 4 t : Vec Ideal S1x2048 .f32) (ix2 o C) = (V m c main_arg3 : Vec Ideal S1x2048 .f32) (ix2 o C) := by
    blk_ext [iblk, idx4 t] <;> omega
  rw [h]; exact congrFun (V_main_arg3 m c) _
theorem blk5 : (iblk m c 5 t : Vec Ideal S8x128x128 .f32) = a4 m c := by
  funext i
  obtain ⟨g, u, s, rfl⟩ : ∃ (g : Fin 8) (u s : Fin 128), i = ix3 g u s := ⟨i 0, i 1, i 2, eq_ix3 (n0 := 8) (n1 := 128) (n2 := 128) i⟩
  have h : (iblk m c 5 t : Vec Ideal S8x128x128 .f32) (ix3 g u s) = (V m c main_arg4 : Vec Ideal S8x128x128 .f32) (ix3 g u s) := by
    blk_ext [iblk, idx5 t] <;> omega
  rw [h]; exact congrFun (V_main_arg4 m c) _
theorem blk6 (u : Fin 128) (g : Fin 8) : (iblk m c 6 t : Vec Ideal S128x8 .f32) (ix2 u g) = a5 m c (ix2 g u) := by
  have h : (iblk m c 6 t : Vec Ideal S128x8 .f32) (ix2 u g) = (V m c main_v5 : Vec Ideal S128x8 .f32) (ix2 u g) := by
    blk_ext [iblk, idx6 t] <;> omega
  rw [h, host_b]

/-- The projection's tile as the body holds it. -/
theorem p_tile (r : Fin 256) (Q : Fin 6144) :
    k0_pay2 (F := Ideal) (iblk m c 0 t) (ldP (iblk m c 1 t) 1) (ldP (iblk m c 1 t) 2) (ldP (iblk m c 1 t) 3) (iblk m c 2 t) (ix2 r Q)
      = pA m c (ix2 (tileG (tn t) r) Q) :=
  p_apply _ _ _ _ _ (fun r Q => pA m c (ix2 (tileG (tn t) r) Q)) (fun r d => blk2 m c t r d)
    (fun r d => by simp only [ldP_apply, blk0, blk1]; rfl) (fun r d => by simp only [ldP_apply, blk0, blk1]; rfl)
    (fun r d => by simp only [ldP_apply, blk0, blk1]; rfl) r Q

theorem out8 (e : Fin 1024) (r : Fin 256) : (outsAt0 m c t).1 (ix2 e r) = a0 m c (ix2 (tileG (tn t) r) e) := by
  unfold outsAt0
  frame_out
  refine (xt_apply (iblk m c 0 t) e r).trans (blk0 m c t r e)
theorem out9 (r : Fin 256) (C : Fin 2048) : (outsAt0 m c t).2.1 (ix2 r C) = GU (pA m c) (tileG (tn t) r) C := by
  unfold outsAt0
  frame_out
  exact u_apply _ _ _ _ _ _ _ (p_tile m c t) r C
theorem out10 (r : Fin 256) (C : Fin 2048) : (outsAt0 m c t).2.2.1 (ix2 r C) = GVH (pA m c) (tileG (tn t) r) C := by
  unfold outsAt0
  frame_out
  exact vh_apply _ _ _ _ _ _ _ (p_tile m c t) r C
theorem out11 (r : Fin 256) (C : Fin 2048) : (outsAt0 m c t).2.2.2.1 (ix2 r C) = GZ (pA m c) (tileG (tn t) r) C := by
  unfold outsAt0
  frame_out
  exact z_apply _ _ _ _ _ _ _ (p_tile m c t) r C
theorem out12 (r : Fin 256) : (outsAt0 m c t).2.2.2.2.1 (ix2 r 0) = GR (pA m c) (tileG (tn t) r) := by
  unfold outsAt0
  frame_out
  exact r_apply _ _ _ _ _ _ _ (p_tile m c t) r
theorem out13 (r : Fin 256) (C : Fin 2048) : (outsAt0 m c t).2.2.2.2.2 (ix2 r C)
    = GY (pA m c) (a2 m c) (a3 m c) (a4 m c) (a5 m c) (tileG (tn t) r) C := by
  unfold outsAt0
  frame_out
  refine (y_apply (k0_pay3 (F := Ideal) (iblk m c 0 t) (ldP (iblk m c 1 t) 1) (ldP (iblk m c 1 t) 2) (ldP (iblk m c 1 t) 3) (iblk m c 2 t))
    (k0_pay4 (F := Ideal) (iblk m c 0 t) (ldP (iblk m c 1 t) 1) (ldP (iblk m c 1 t) 2) (ldP (iblk m c 1 t) 3) (iblk m c 2 t))
    (sV _ (k0_pay8 (F := Ideal) (k0_pay7 (F := Ideal) (iblk m c 0 t) (ldP (iblk m c 1 t) 1) (ldP (iblk m c 1 t) 2) (ldP (iblk m c 1 t) 3) (iblk m c 2 t))
      (iblk m c 3 t) (iblk m c 4 t)) (iblk m c 5 t) (iblk m c 6 t)) r C).trans ?_
  rw [u_apply _ _ _ _ _ _ _ (p_tile m c t) r C, z_apply _ _ _ _ _ _ _ (p_tile m c t) r C,
    sV_apply _ _ _ _ (pA m c) (iblk m c 3 t) (iblk m c 4 t) (a5 m c) (tn t)
      (vn_apply _ _ _ _ _ _ _ (p_tile m c t) _ _) (blk6 m c t) r C, blk3, blk4, blk5]
  rfl

/-- The results. -/
def XT (x : Vec Ideal S8192x1024 .f32) : Vec Ideal S1024x8192 .bf16 := fun i => x (ix2 (i 1) (i 0))
def UA (P : Vec Ideal MixIdeal.S8192x6144 .f32) : Vec Ideal S8192x2048 .bf16 := fun i => GU P (i 0) (i 1)
def VHA (P : Vec Ideal MixIdeal.S8192x6144 .f32) : Vec Ideal S8192x2048 .bf16 := fun i => GVH P (i 0) (i 1)
def ZA (P : Vec Ideal MixIdeal.S8192x6144 .f32) : Vec Ideal S8192x2048 .bf16 := fun i => GZ P (i 0) (i 1)
def RA (P : Vec Ideal MixIdeal.S8192x6144 .f32) : Vec Ideal S8192x1 .f32 := fun i => GR P (i 0)
def YA (P : Vec Ideal MixIdeal.S8192x6144 .f32) (lg lb : Vec Ideal S1x2048 .f32) (ws : Vec Ideal S8x128x128 .f32) (bsp : Vec Ideal S8x128 .f32) :
    Vec Ideal S8192x2048 .bf16 := fun i => GY P lg lb ws bsp (i 0) (i 1)

/-- The arrays at the end. -/
theorem arr8 : (dats m 0 c).arrAt 8 cfg0.N = XT (a0 m c) := by
  refine (dats m 0 c).arrAt_eq_of_covers 8 _ (by decide +kernel) fun t hf y => ?_
  blk_simp
  rw [after0_8]
  obtain ⟨e, r, rfl⟩ : ∃ (e : Fin 1024) (r : Fin 256), y = ix2 e r := ⟨y 0, y 1, eq_ix2 (n0 := 1024) (n1 := 256) y⟩
  have h : (win0_8.blk t).view.emb (ix2 e r) = ix2 e (tileG (tn t) r) := by
    funext a; fin_cases a <;> apply Fin.ext <;> simp [tileG, tn, idx8 t] <;> exact Nat.mul_comm _ _
  exact (out8 m c t e r).trans (congrArg (XT (a0 m c)) h).symm
theorem arr9 : (dats m 0 c).arrAt 9 cfg0.N = UA (pA m c) := by
  refine (dats m 0 c).arrAt_eq_of_covers 9 _ (by decide +kernel) fun t hf y => ?_
  blk_simp
  rw [after0_9]
  obtain ⟨r, C, rfl⟩ : ∃ (r : Fin 256) (C : Fin 2048), y = ix2 r C := ⟨y 0, y 1, eq_ix2 (n0 := 256) (n1 := 2048) y⟩
  have h : (win0_9.blk t).view.emb (ix2 r C) = ix2 (tileG (tn t) r) C := by
    funext a; fin_cases a <;> apply Fin.ext <;> simp [tileG, tn, idx9 t] <;> exact Nat.mul_comm _ _
  exact (out9 m c t r C).trans (congrArg (UA (pA m c)) h).symm
theorem arr10 : (dats m 0 c).arrAt 10 cfg0.N = VHA (pA m c) := by
  refine (dats m 0 c).arrAt_eq_of_covers 10 _ (by decide +kernel) fun t hf y => ?_
  blk_simp
  rw [after0_10]
  obtain ⟨r, C, rfl⟩ : ∃ (r : Fin 256) (C : Fin 2048), y = ix2 r C := ⟨y 0, y 1, eq_ix2 (n0 := 256) (n1 := 2048) y⟩
  have h : (win0_10.blk t).view.emb (ix2 r C) = ix2 (tileG (tn t) r) C := by
    funext a; fin_cases a <;> apply Fin.ext <;> simp [tileG, tn, idx10 t] <;> exact Nat.mul_comm _ _
  exact (out10 m c t r C).trans (congrArg (VHA (pA m c)) h).symm
theorem arr11 : (dats m 0 c).arrAt 11 cfg0.N = ZA (pA m c) := by
  refine (dats m 0 c).arrAt_eq_of_covers 11 _ (by decide +kernel) fun t hf y => ?_
  blk_simp
  rw [after0_11]
  obtain ⟨r, C, rfl⟩ : ∃ (r : Fin 256) (C : Fin 2048), y = ix2 r C := ⟨y 0, y 1, eq_ix2 (n0 := 256) (n1 := 2048) y⟩
  have h : (win0_11.blk t).view.emb (ix2 r C) = ix2 (tileG (tn t) r) C := by
    funext a; fin_cases a <;> apply Fin.ext <;> simp [tileG, tn, idx11 t] <;> exact Nat.mul_comm _ _
  exact (out11 m c t r C).trans (congrArg (ZA (pA m c)) h).symm
theorem arr13 : (dats m 0 c).arrAt 13 cfg0.N = YA (pA m c) (a2 m c) (a3 m c) (a4 m c) (a5 m c) := by
  refine (dats m 0 c).arrAt_eq_of_covers 13 _ (by decide +kernel) fun t hf y => ?_
  blk_simp
  rw [after0_13]
  obtain ⟨r, C, rfl⟩ : ∃ (r : Fin 256) (C : Fin 2048), y = ix2 r C := ⟨y 0, y 1, eq_ix2 (n0 := 256) (n1 := 2048) y⟩
  have h : (win0_13.blk t).view.emb (ix2 r C) = ix2 (tileG (tn t) r) C := by
    funext a; fin_cases a <;> apply Fin.ext <;> simp [tileG, tn, idx13 t] <;> exact Nat.mul_comm _ _
  exact (out13 m c t r C).trans (congrArg (YA (pA m c) (a2 m c) (a3 m c) (a4 m c) (a5 m c)) h).symm
theorem arr12 : (dats m 0 c).arrAt 12 cfg0.N = RA (pA m c) := by
  refine (dats m 0 c).arrAt_eq_of_covers 12 _ (by decide +kernel) fun t hf y => ?_
  blk_simp
  rw [after0_12]
  obtain ⟨r, rfl⟩ : ∃ (r : Fin 256), y = ix2 r 0 :=
    ⟨y 0, (eq_ix2 (n0 := 256) (n1 := 1) y).trans (congrArg (ix2 (n0 := 256) (n1 := 1) (y 0)) (Subsingleton.elim (α := Fin 1) (y 1) 0))⟩
  have h : (win0_12.blk t).view.emb (ix2 r 0) = ix2 (tileG (tn t) r) 0 := by
    funext a; fin_cases a <;> apply Fin.ext <;> simp [tileG, tn, idx12 t] <;> exact Nat.mul_comm _ _
  exact (out12 m c t r).trans (congrArg (RA (pA m c)) h).symm

end Cert.AfwdKernel
-- ==== Proof.AfwdEq.lean ====
/-
  The gated mixer's forward pass: the launch and the reference leave the same arrays.
-/
module

public import proofs.«01_k».proof.Defs
public import proofs.«01_k».proof.Proof.AfwdKernel
public import proofs.«01_k».proof.Proof.MixStage
public import proofs.«01_k».proof.Proof.Gen.AfwdRefIdeal.Run
public import proofs.«01_k».proof.Proof.Gen.Afwd
public import Idealize.ShloMosaic.Adequacy
public import Idealize.ShloMosaic.Init

@[expose] public section

set_option maxRecDepth 16384
set_option maxHeartbeats 4000000

noncomputable section

namespace Cert.AfwdEq

open Idealize.ShloMosaic Idealize.ShloMosaic.TcCoe Idealize.SL.Sem

section
open Cert.AfwdRefIdeal Cert.AfwdRefIdeal.Gen Cert.MixGlobal Cert.AfwdTile

variable (x : FVec Ideal S8192x1024 .f32) (w : FVec Ideal S1024x6144 .f32)

/-- The reference's projection. -/
def dotA : FVec Ideal S8192x6144 .f32 := Host.dotGeneral dot_S8192x1024_S1024x6144_S8192x6144_1_0_0_1_n_n none x w

theorem dotA_eq : dotA x w = PA x w := by
  funext i
  obtain ⟨R, Q, rfl⟩ : ∃ (R : Fin 8192) (Q : Fin 6144), i = ix2 R Q := ⟨i 0, i 1, eq_ix2 (n0 := 8192) (n1 := 6144) i⟩
  unfold dotA
  pointwise
  rfl

theorem xt_eq : truncf (F := Ideal) .bf16 (transpose S1024x8192 [1, 0] x transposes_S8192x1024_S1024x8192_1_0) bitsLt_bf16_f32 = AfwdKernel.XT x := by
  funext i
  obtain ⟨e, R, rfl⟩ : ∃ (e : Fin 1024) (R : Fin 8192), i = ix2 e R := ⟨i 0, i 1, eq_ix2 (n0 := 1024) (n1 := 8192) i⟩
  pointwise
  rfl
variable (P : FVec Ideal MixRefIdeal.S8192x6144 .f32)
theorem u_eq : (MixStage.uE P : FVec Ideal S8192x2048 .f32) = AfwdKernel.UA P := by
  funext i
  obtain ⟨R, C, rfl⟩ : ∃ (R : Fin 8192) (C : Fin 2048), i = ix2 R C := ⟨i 0, i 1, eq_ix2 (n0 := 8192) (n1 := 2048) i⟩
  exact MixStage.uE_apply P R C
theorem vh_eq : (MixStage.vhE P : FVec Ideal S8192x2048 .f32) = AfwdKernel.VHA P := by
  funext i
  obtain ⟨R, C, rfl⟩ : ∃ (R : Fin 8192) (C : Fin 2048), i = ix2 R C := ⟨i 0, i 1, eq_ix2 (n0 := 8192) (n1 := 2048) i⟩
  exact MixStage.vhE_apply P R C
theorem z_eq : (MixStage.zE P : FVec Ideal S8192x2048 .f32) = AfwdKernel.ZA P := by
  funext i
  obtain ⟨R, C, rfl⟩ : ∃ (R : Fin 8192) (C : Fin 2048), i = ix2 R C := ⟨i 0, i 1, eq_ix2 (n0 := 8192) (n1 := 2048) i⟩
  exact MixStage.zE_apply P R C
theorem r_eq : (MixStage.rE P : FVec Ideal S8192x1 .f32) = AfwdKernel.RA P := by
  funext i
  obtain ⟨R, o, rfl⟩ : ∃ (R : Fin 8192) (o : Fin 1), i = ix2 R o := ⟨i 0, i 1, eq_ix2 (n0 := 8192) (n1 := 1) i⟩
  exact MixStage.rE_apply P R o
theorem y_eq (lg lb : FVec Ideal MixRefIdeal.S1x2048 .f32) (ws : FVec Ideal MixRefIdeal.S8x128x128 .f32) (bsp : FVec Ideal MixRefIdeal.S8x128 .f32) :
    (MixStage.yE P lg lb ws bsp : FVec Ideal S8192x2048 .f32) = AfwdKernel.YA P lg lb ws bsp := by
  funext i
  obtain ⟨R, C, rfl⟩ : ∃ (R : Fin 8192) (C : Fin 2048), i = ix2 R C := ⟨i 0, i 1, eq_ix2 (n0 := 8192) (n1 := 2048) i⟩
  exact MixStage.yE_apply P lg lb ws bsp R C

/-- The reference's gated product is the mixer's of its projection. -/
theorem res_eq (m : (ℓ : Loc nD τ sig) → Buf (Elt Ideal) ℓ) (c : Dev nD) :
    Cert.AfwdRefIdeal.Value.res_main_v46 m c = MixStage.yE (dotA (m ((c.tc : Thread nD τ).loc main_arg0)) (m ((c.tc : Thread nD τ).loc main_arg1)))
      (m ((c.tc : Thread nD τ).loc main_arg2)) (m ((c.tc : Thread nD τ).loc main_arg3)) (m ((c.tc : Thread nD τ).loc main_arg4)) (m ((c.tc : Thread nD τ).loc main_arg5)) := by
  unfold Cert.AfwdRefIdeal.Value.res_main_v46
  rfl
end

theorem frame_ref : Cert.quiescent_AfwdRefIdeal := fun m ρ _ =>
  (θ_run Cert.AfwdRefIdeal.defs _ _).mono (fun r h => ⟨fun c => (h c).2.2.2.2.2.2, sem_eq_zero_of_no_sems (by decide) r.2⟩)
    (Cert.AfwdRefIdeal.Value.run m ρ)

/-- The two printings of the launch define the same bodies. -/
theorem defs_eq : @Afwd.defs Bits _ _ = @AfwdIdeal.defs Bits _ _ := by
  have h : @Afwd.defs₀ Bits _ _ = @AfwdIdeal.defs₀ Bits _ _ := by
    unfold Afwd.defs₀ AfwdIdeal.defs₀
    congr 1
    funext l x
    match l, x with
    | 0, (t, s) => rfl
  exact congrArg (Pipeline.defs (Afwd.pcfgs (F := Bits))) h

theorem frame : Cert.quiescent_Afwd := by
  intro m ρ _
  have h := Cert.AfwdIdeal.Gen.frame (F := Bits) m ρ
  have e := defs_eq
  revert h e
  generalize @AfwdIdeal.defs Bits _ _ = d
  rintro h rfl
  exact h

theorem algebraic : Cert.algebraic_AfwdIdeal_AfwdRefIdeal := by
  intro m ρ m' ρ' _ hag
  refine ⟨fun c => (AfwdKernel.XT (AfwdKernel.a0 m c) : Vec Ideal AfwdIdeal.S1024x8192 .bf16),
    fun c => (AfwdKernel.UA (AfwdKernel.pA m c) : Vec Ideal AfwdIdeal.S8192x2048 .bf16),
    fun c => (AfwdKernel.VHA (AfwdKernel.pA m c) : Vec Ideal AfwdIdeal.S8192x2048 .bf16),
    fun c => (AfwdKernel.ZA (AfwdKernel.pA m c) : Vec Ideal AfwdIdeal.S8192x2048 .bf16),
    fun c => (AfwdKernel.RA (AfwdKernel.pA m c) : Vec Ideal AfwdIdeal.S8192x1 .f32),
    fun c => (AfwdKernel.YA (AfwdKernel.pA m c) (AfwdKernel.a2 m c) (AfwdKernel.a3 m c) (AfwdKernel.a4 m c) (AfwdKernel.a5 m c) : Vec Ideal AfwdIdeal.S8192x2048 .bf16), ?_, ?_⟩
  · refine (θ_run Cert.AfwdIdeal.defs _ _).mono (fun r h c => ?_) (Cert.AfwdIdeal.Value.run_blocks m ρ)
    obtain ⟨h0, h1, h2, h3, h4, h5, hk⟩ := h c
    exact ⟨h0.trans (AfwdKernel.arr8 m c), h1.trans (AfwdKernel.arr9 m c), h2.trans (AfwdKernel.arr10 m c),
      h3.trans (AfwdKernel.arr11 m c), h4.trans (AfwdKernel.arr12 m c), h5.trans (AfwdKernel.arr13 m c), hk⟩
  · refine (θ_run Cert.AfwdRefIdeal.defs _ _).mono (fun r h c => ?_) (Cert.AfwdRefIdeal.Value.run m' ρ')
    obtain ⟨h0, h1, h2, h3, h4, h5, hk⟩ := h c
    obtain ⟨e0, e1, e2, e3, e4, e5⟩ := hag c
    have ep : dotA (m' ((c.tc : Thread AfwdRefIdeal.nD AfwdRefIdeal.τ).loc AfwdRefIdeal.main_arg0)) (m' ((c.tc : Thread AfwdRefIdeal.nD AfwdRefIdeal.τ).loc AfwdRefIdeal.main_arg1))
        = AfwdKernel.pA m c := by
      rw [e0, e1]; exact dotA_eq _ _
    refine ⟨h0.trans ?_, h1.trans ?_, h2.trans ?_, h3.trans ?_, h4.trans ?_, (h5.trans (res_eq m' c)).trans ?_, hk⟩
    · rw [e0]; exact xt_eq _
    · exact (congrArg MixStage.uE ep).trans (u_eq _)
    · exact (congrArg MixStage.vhE ep).trans (vh_eq _)
    · exact (congrArg MixStage.zE ep).trans (z_eq _)
    · exact (congrArg MixStage.rE ep).trans (r_eq _)
    · rw [ep, e2, e3, e4, e5]; exact y_eq _ _ _ _ _

end Cert.AfwdEq
-- ==== Proof.BprojTile.lean ====
/-
  One point of the second layer's projections: what the body computes from its blocks, as the layer's values in the rows.
-/
module

public import proofs.«01_k».proof.Proof.Gen.BprojIdeal.Skeleton
public import proofs.«01_k».proof.Proof.MixBlock
public import Idealize.ShloMosaic.Lib.Pointwise
public import Idealize.ShloMosaic.Lib.IdealHost
public import Idealize.ShloMosaic.Lib.KernelVsHost

@[expose] public section

set_option maxRecDepth 16384

noncomputable section

namespace Cert.BprojTile

open Cert.BprojIdeal Cert.BprojIdeal.Gen Idealize.ShloMosaic Idealize.ShloMosaic.TcCoe Idealize.SL.Sem

/-! ## The layer's values -/

section
variable (x : Vec Ideal S8192x1024 .f32) (y : Vec Ideal S8192x2048 .f32) (wo : Vec Ideal S2048x1024 .f32)
  (g b : Vec Ideal S1x1024 .f32) (w : Vec Ideal S1024x2048 .f32) (wk : Vec Ideal S1024x256 .f32)

/-- The width of a row, as the programs write it. -/
def BW : EReal := Ideal.ofBits .f32 0x44800000#32
/-- The residual sum, its mean, the centred value, the inverse root of the variance, the normalised value. -/
def BR (R : Fin 8192) (e : Fin 1024) : EReal :=
  Ideal.ofBits .f32 0x3FB504F3#32 * x (ix2 R e) + ∑ j : Fin 2048, y (ix2 R j) * wo (ix2 j e)
def BC (R : Fin 8192) (e : Fin 1024) : EReal := BR x y wo R e - Ideal.div (∑ i : Fin 1024, BR x y wo R i) BW
def BS (R : Fin 8192) : EReal :=
  Ideal.rsqrt (Ideal.div (∑ i : Fin 1024, BC x y wo R i * BC x y wo R i) BW + Ideal.ofBits .f32 0x3727C5AC#32)
def BX (R : Fin 8192) (e : Fin 1024) : EReal := BC x y wo R e * BS x y wo R
/-- The layer's input, and its products with the two projections. -/
def BH (R : Fin 8192) (e : Fin 1024) : EReal := BX x y wo R e * g (ix2 0 e) + b (ix2 0 e)
def BP (R : Fin 8192) (d : Fin 2048) : EReal := ∑ e : Fin 1024, BH x y wo g b R e * w (ix2 e d)
def BK (R : Fin 8192) (d : Fin 256) : EReal := ∑ e : Fin 1024, BH x y wo g b R e * wk (ix2 e d)
/-- The results. -/
def R7 : Vec Ideal S8192x1024 .f32 := fun i => BX x y wo (i 0) (i 1)
def R8 : Vec Ideal S8192x1 .f32 := fun i => BS x y wo (i 0)
def R9 : Vec Ideal S8192x1024 .bf16 := fun i =>
  BP x y wo g b w (i 0) ⟨(i 1).val, (i 1).isLt.trans (by decide)⟩ * Ideal.ofBits .f32 0x3E000000#32
def R10 : Vec Ideal S8192x1024 .bf16 := fun i => BP x y wo g b w (i 0) ⟨1024 + (i 1).val, Nat.add_lt_add_left (i 1).isLt 1024⟩
/-- The column of a key or value part that column `j` of the doubled array holds. -/
def colK (o : Nat) (ho : o ≤ 128) (j : Fin 256) : Fin 256 := ⟨o + (64 * (j.val / 128) + j.val % 64), by omega⟩
def R11 : Vec Ideal S8192x256 .bf16 := fun i => BK x y wo g b wk (i 0) (colK 0 (by decide) (i 1))
def R12 : Vec Ideal S8192x256 .bf16 := fun i => BK x y wo g b wk (i 0) (colK 128 (by decide) (i 1))
end

/-! ## Half a block -/

/-- The rotation by half the lanes. -/
theorem roll_apply (v : FVec Ideal S512x128 .f32) (r : Fin 512) (j : Fin 128) :
    dynamicRotate 1 64#32 none v rotates_S512x128_d1 (ix2 r j) = v (ix2 r ⟨(j.val + 64) % 128, by omega⟩) :=
  dynamicRotate_apply _ _ _ _ _ _ fun a => by
    fin_cases a
    · rfl
    · show (j.val + 64) % 128 = (j.val + 128 - 64 % 128) % 128
      omega

theorem word_slt (j : Fin 128) : IntOp.cmpi .slt (BitVec.ofNat 32 j.val) 64#32 = BitVec.ofBool (decide (j.val < 64)) := by
  revert j; decide

theorem mask_apply (r : Fin 512) (j : Fin 128) : k0_pay13 (ix2 r j) = BitVec.ofBool (decide (j.val < 64)) := by
  rw [← word_slt]
  unfold_payloads
  pointwise

/-- The two selections: the first head's columns twice, and the second head's. -/
theorem sel0 (v : FVec Ideal S512x128 .f32) (r : Fin 512) (j : Fin 128) :
    select k0_pay13 v (dynamicRotate 1 64#32 none v rotates_S512x128_d1) (ix2 r j) = v (ix2 r ⟨j.val % 64, by omega⟩) := by
  show Scalar.select (k0_pay13 (ix2 r j)) (v (ix2 r j)) (dynamicRotate 1 64#32 none v rotates_S512x128_d1 (ix2 r j)) = _
  rw [mask_apply, MixTile.select_ofBool, roll_apply]
  split
  · exact congrArg (fun q => v (ix2 r q)) (Fin.ext (by show j.val = j.val % 64; omega))
  · exact congrArg (fun q => v (ix2 r q)) (Fin.ext (by show (j.val + 64) % 128 = j.val % 64; omega))
theorem sel1 (v : FVec Ideal S512x128 .f32) (r : Fin 512) (j : Fin 128) :
    select k0_pay13 (dynamicRotate 1 64#32 none v rotates_S512x128_d1) v (ix2 r j) = v (ix2 r ⟨64 + j.val % 64, by omega⟩) := by
  show Scalar.select (k0_pay13 (ix2 r j)) (dynamicRotate 1 64#32 none v rotates_S512x128_d1 (ix2 r j)) (v (ix2 r j)) = _
  rw [mask_apply, MixTile.select_ofBool, roll_apply]
  split
  · exact congrArg (fun q => v (ix2 r q)) (Fin.ext (by show (j.val + 64) % 128 = 64 + j.val % 64; omega))
  · exact congrArg (fun q => v (ix2 r q)) (Fin.ext (by show j.val = 64 + j.val % 64; omega))

section
variable (x : Vec Ideal S8192x1024 .f32) (y : Vec Ideal S8192x2048 .f32) (wo : Vec Ideal S2048x1024 .f32)
  (g b : Vec Ideal S1x1024 .f32) (w : Vec Ideal S1024x2048 .f32) (wk : Vec Ideal S1024x256 .f32)
  (y0 : Vec Ideal S512x2048 .bf16) (w0 : Vec Ideal S2048x1024 .bf16) (x0 : Vec Ideal S512x1024 .f32) (ρ : Fin 512 → Fin 8192)
  (hy : ∀ r j, y0 (ix2 r j) = y (ix2 (ρ r) j)) (hw : ∀ j e, w0 (ix2 j e) = wo (ix2 j e)) (hx : ∀ r e, x0 (ix2 r e) = x (ix2 (ρ r) e))

include hy hw hx in
theorem c_apply (r : Fin 512) (e : Fin 1024) : k0_pay4 (F := Ideal) y0 w0 x0 (ix2 r e) = BC x y wo (ρ r) e := by
  unfold k0_pay4
  pointwise
  simp only [hy, hw, hx]
  rfl
include hy hw hx in
theorem s_apply (r : Fin 512) (o : Fin 1) : k0_pay5 (F := Ideal) y0 w0 x0 (ix2 r o) = BS x y wo (ρ r) := by
  have hc := c_apply x y wo y0 w0 x0 ρ hy hw hx
  unfold k0_pay5
  generalize k0_pay4 (F := Ideal) y0 w0 x0 = p at hc ⊢
  pointwise
  simp only [hc]
  rfl
include hy hw hx in
theorem x_apply (r : Fin 512) (e : Fin 1024) : k0_pay6 (F := Ideal) y0 w0 x0 (ix2 r e) = BX x y wo (ρ r) e := by
  have hc := c_apply x y wo y0 w0 x0 ρ hy hw hx
  have hs := s_apply x y wo y0 w0 x0 ρ hy hw hx
  unfold k0_pay6
  generalize k0_pay4 (F := Ideal) y0 w0 x0 = p at hc ⊢
  generalize k0_pay5 (F := Ideal) y0 w0 x0 = q at hs ⊢
  pointwise
  simp only [hc, hs]
  rfl

variable (xh : FVec Ideal S512x1024 .f32) (hxh : ∀ r e, xh (ix2 r e) = BX x y wo (ρ r) e)
include hxh
theorem h_apply (r : Fin 512) (e : Fin 1024) : k0_pay7 (F := Ideal) xh g b (ix2 r e) = BH x y wo g b (ρ r) e := by
  unfold k0_pay7
  pointwise
  simp only [hxh]
  rfl
theorem q_apply (v : Vec Ideal S1024x1024 .bf16) (hv : ∀ e d, v (ix2 e d) = w (ix2 e ⟨d.val, by omega⟩)) (r : Fin 512) (d : Fin 1024) :
    k0_pay8 (F := Ideal) xh g b v (ix2 r d) = R9 x y wo g b w (ix2 (ρ r) d) := by
  have hh := h_apply x y wo g b ρ xh hxh
  unfold k0_pay8
  generalize k0_pay7 (F := Ideal) xh g b = p at hh ⊢
  pointwise
  simp only [hh, hv]
  rfl
theorem z_apply (v : Vec Ideal S1024x1024 .bf16) (hv : ∀ e d, v (ix2 e d) = w (ix2 e ⟨1024 + d.val, by omega⟩)) (r : Fin 512) (d : Fin 1024) :
    k0_pay9 (F := Ideal) xh g b v (ix2 r d) = R10 x y wo g b w (ix2 (ρ r) d) := by
  have hh := h_apply x y wo g b ρ xh hxh
  unfold k0_pay9
  generalize k0_pay7 (F := Ideal) xh g b = p at hh ⊢
  pointwise
  simp only [hh, hv]
  rfl
variable (v : Vec Ideal S1024x256 .bf16) (hv : ∀ e d, v (ix2 e d) = wk (ix2 e d))
include hv
theorem kv_apply (r : Fin 512) (d : Fin 256) : k0_pay10 (F := Ideal) xh g b v (ix2 r d) = BK x y wo g b wk (ρ r) d := by
  have hh := h_apply x y wo g b ρ xh hxh
  unfold k0_pay10
  generalize k0_pay7 (F := Ideal) xh g b = p at hh ⊢
  pointwise
  simp only [hh, hv]
  rfl
theorem kpart_apply (r : Fin 512) (d : Fin 128) : k0_pay11 (F := Ideal) xh g b v (ix2 r d) = BK x y wo g b wk (ρ r) ⟨d.val, by omega⟩ := by
  have hk := kv_apply x y wo g b wk ρ xh hxh v hv
  unfold k0_pay11
  generalize k0_pay10 (F := Ideal) xh g b v = p at hk ⊢
  pointwise
  simp only [hk]
theorem vpart_apply (r : Fin 512) (d : Fin 128) : k0_pay15 (F := Ideal) xh g b v (ix2 r d) = BK x y wo g b wk (ρ r) ⟨128 + d.val, by omega⟩ := by
  have hk := kv_apply x y wo g b wk ρ xh hxh v hv
  unfold k0_pay15
  generalize k0_pay10 (F := Ideal) xh g b v = p at hk ⊢
  pointwise
  simp only [hk]
theorem k0_apply (r : Fin 512) (j : Fin 128) :
    k0_pay20 (F := Ideal) xh g b v (ix2 r j) = R11 x y wo g b wk (ix2 (ρ r) ⟨j.val, by omega⟩) :=
  (sel0 (k0_pay11 (F := Ideal) xh g b v) r j).trans ((kpart_apply x y wo g b wk ρ xh hxh v hv r _).trans
    (congrArg (BK x y wo g b wk (ρ r)) (Fin.ext (by show j.val % 64 = 0 + (64 * (j.val / 128) + j.val % 64); omega))))
theorem k1_apply (r : Fin 512) (j : Fin 128) :
    k0_pay21 (F := Ideal) (k0_pay14 (F := Ideal) xh g b v) (ix2 r j) = R11 x y wo g b wk (ix2 (ρ r) ⟨128 + j.val, by omega⟩) :=
  (sel1 (k0_pay11 (F := Ideal) xh g b v) r j).trans ((kpart_apply x y wo g b wk ρ xh hxh v hv r _).trans
    (congrArg (BK x y wo g b wk (ρ r)) (Fin.ext (by show 64 + j.val % 64 = 0 + (64 * ((128 + j.val) / 128) + (128 + j.val) % 64); omega))))
theorem v0_apply (r : Fin 512) (j : Fin 128) :
    k0_pay22 (F := Ideal) (k0_pay18 (F := Ideal) xh g b v) (ix2 r j) = R12 x y wo g b wk (ix2 (ρ r) ⟨j.val, by omega⟩) :=
  (sel0 (k0_pay15 (F := Ideal) xh g b v) r j).trans ((vpart_apply x y wo g b wk ρ xh hxh v hv r _).trans
    (congrArg (BK x y wo g b wk (ρ r)) (Fin.ext (by show 128 + j.val % 64 = 128 + (64 * (j.val / 128) + j.val % 64); omega))))
theorem v1_apply (r : Fin 512) (j : Fin 128) :
    k0_pay23 (F := Ideal) (k0_pay19 (F := Ideal) xh g b v) (ix2 r j) = R12 x y wo g b wk (ix2 (ρ r) ⟨128 + j.val, by omega⟩) :=
  (sel1 (k0_pay15 (F := Ideal) xh g b v) r j).trans ((vpart_apply x y wo g b wk ρ xh hxh v hv r _).trans
    (congrArg (BK x y wo g b wk (ρ r)) (Fin.ext (by show 128 + (64 + j.val % 64) = 128 + (64 * ((128 + j.val) / 128) + (128 + j.val) % 64); omega))))
end

end Cert.BprojTile
-- ==== Proof.BprojKernel.lean ====
/-
  The second layer's projections, as the launch leaves them: each of the eight points holds 1024 tokens, in two halves.
-/
module

public import proofs.«01_k».proof.Proof.Gen.BprojIdeal.Value
public import proofs.«01_k».proof.Proof.BprojTile
public import Idealize.ShloMosaic.Lib.Pipeline.ValueKit
public import Idealize.ShloMosaic.Lib.Pipeline.ReadBack
public import Idealize.ShloMosaic.Lib.Pipeline.CanonAppend

@[expose] public section

set_option maxRecDepth 16384
set_option maxHeartbeats 1000000

noncomputable section

namespace Cert.BprojKernel

open Cert.BprojIdeal Cert.BprojIdeal.Gen Cert.BprojTile
open Cert.MixTile (canon_agree' agree2)
open Idealize.ShloMosaic Idealize.ShloMosaic.TcCoe Idealize.SL.Sem

/-- A point's token; the rows of its two halves and the columns of a head's pair; the tokens of the halves. -/
def tileB (n : Fin 8) (r : Fin 1024) : Fin 8192 := ⟨1024 * n.val + r.val, by omega⟩
def loB (r : Fin 512) : Fin 1024 := ⟨r.val, by omega⟩
def hiB (r : Fin 512) : Fin 1024 := ⟨512 + r.val, by omega⟩
def loC (j : Fin 128) : Fin 256 := ⟨j.val, by omega⟩
def hiC (j : Fin 128) : Fin 256 := ⟨128 + j.val, by omega⟩
def lowB (n : Fin 8) (r : Fin 512) : Fin 8192 := tileB n (loB r)
def highB (n : Fin 8) (r : Fin 512) : Fin 8192 := tileB n (hiB r)

/-! ## What the body leaves, from its blocks -/

section
variable (x : Vec Ideal S8192x1024 .f32) (y : Vec Ideal S8192x2048 .f32) (wo : Vec Ideal S2048x1024 .f32)
  (g b : Vec Ideal S1x1024 .f32) (w : Vec Ideal S1024x2048 .f32) (wk : Vec Ideal S1024x256 .f32)
  (x0 : Vec Ideal S1024x1024 .f32) (x1 : Vec Ideal S1024x2048 .bf16) (x2 : Vec Ideal S2048x1024 .bf16)
  (x3 x4 : Vec Ideal S1x1024 .f32) (x5 : Vec Ideal S1024x2048 .bf16) (x6 : Vec Ideal S1024x256 .bf16) (n : Fin 8)
  (h0 : ∀ r e, x0 (ix2 r e) = x (ix2 (tileB n r) e)) (h1 : ∀ r j, x1 (ix2 r j) = y (ix2 (tileB n r) j))
  (h2 : ∀ j e, x2 (ix2 j e) = wo (ix2 j e)) (h3 : x3 = g) (h4 : x4 = b)
  (h5 : ∀ e d, x5 (ix2 e d) = w (ix2 e d)) (h6 : ∀ e d, x6 (ix2 e d) = wk (ix2 e d))

theorem ld_row (z : Vec Ideal S1x1024 .f32) : View.ld z r0_5 = z := by
  funext i
  obtain ⟨o, C, rfl⟩ : ∃ (o : Fin 1) (C : Fin 1024), i = ix2 o C := ⟨i 0, i 1, eq_ix2 (n0 := 1) (n1 := 1024) i⟩
  exact View.ld_unit_apply_of z _ _ _ _ _ fun a => by fin_cases a <;> exact (Nat.zero_add _).symm
include h1 in
theorem ld_y0 (r : Fin 512) (j : Fin 2048) : View.ld x1 r0_0 (ix2 r j) = y (ix2 (lowB n r) j) :=
  (View.ld_unit_apply_of x1 _ _ _ _ (ix2 ⟨r.val, by omega⟩ j) fun a => by fin_cases a <;> exact (Nat.zero_add _).symm).trans (h1 _ _)
include h1 in
theorem ld_y1 (r : Fin 512) (j : Fin 2048) : View.ld x1 r0_2 (ix2 r j) = y (ix2 (highB n r) j) :=
  (View.ld_unit_apply_of x1 _ _ _ _ (ix2 ⟨512 + r.val, by omega⟩ j) fun a => by fin_cases a; rfl; exact (Nat.zero_add _).symm).trans (h1 _ _)
include h0 in
theorem ld_x0 (r : Fin 512) (e : Fin 1024) : View.ld x0 r0_3 (ix2 r e) = x (ix2 (lowB n r) e) :=
  (View.ld_unit_apply_of x0 _ _ _ _ (ix2 ⟨r.val, by omega⟩ e) fun a => by fin_cases a <;> exact (Nat.zero_add _).symm).trans (h0 _ _)
include h0 in
theorem ld_x1 (r : Fin 512) (e : Fin 1024) : View.ld x0 r0_11 (ix2 r e) = x (ix2 (highB n r) e) :=
  (View.ld_unit_apply_of x0 _ _ _ _ (ix2 ⟨512 + r.val, by omega⟩ e) fun a => by fin_cases a; rfl; exact (Nat.zero_add _).symm).trans (h0 _ _)
include h2 in
theorem ld_wo (j : Fin 2048) (e : Fin 1024) : View.ld x2 r0_1 (ix2 j e) = wo (ix2 j e) :=
  (View.ld_unit_apply_of x2 _ _ _ _ (ix2 j e) fun a => by fin_cases a <;> exact (Nat.zero_add _).symm).trans (h2 _ _)
include h5 in
theorem ld_w0 (e d : Fin 1024) : View.ld x5 r0_6 (ix2 e d) = w (ix2 e ⟨d.val, by omega⟩) :=
  (View.ld_unit_apply_of x5 _ _ _ _ (ix2 e ⟨d.val, by omega⟩) fun a => by fin_cases a <;> exact (Nat.zero_add _).symm).trans (h5 _ _)
include h5 in
theorem ld_w1 (e d : Fin 1024) : View.ld x5 r0_7 (ix2 e d) = w (ix2 e ⟨1024 + d.val, by omega⟩) :=
  (View.ld_unit_apply_of x5 _ _ _ _ (ix2 e ⟨1024 + d.val, by omega⟩) fun a => by fin_cases a; exact (Nat.zero_add _).symm; rfl).trans (h5 _ _)
include h6 in
theorem ld_wk (e : Fin 1024) (d : Fin 256) : View.ld x6 r0_8 (ix2 e d) = wk (ix2 e d) :=
  (View.ld_unit_apply_of x6 _ _ _ _ (ix2 e d) fun a => by fin_cases a <;> exact (Nat.zero_add _).symm).trans (h6 _ _)

/-- The normalised rows of the two halves. -/
def xlow : FVec Ideal S512x1024 .f32 := k0_pay6 (F := Ideal) (View.ld x1 r0_0) (View.ld x2 r0_1) (View.ld x0 r0_3)
def xhigh : FVec Ideal S512x1024 .f32 := k0_pay6 (F := Ideal) (View.ld x1 r0_2) (View.ld x2 r0_1) (View.ld x0 r0_11)
include h0 h1 h2 in
theorem xlow_apply (r : Fin 512) (e : Fin 1024) : xlow x0 x1 x2 (ix2 r e) = BX x y wo (lowB n r) e :=
  x_apply x y wo _ _ _ (lowB n) (ld_y0 y x1 n h1) (ld_wo wo x2 h2) (ld_x0 x x0 n h0) r e
include h0 h1 h2 in
theorem xhigh_apply (r : Fin 512) (e : Fin 1024) : xhigh x0 x1 x2 (ix2 r e) = BX x y wo (highB n r) e :=
  x_apply x y wo _ _ _ (highB n) (ld_y1 y x1 n h1) (ld_wo wo x2 h2) (ld_x1 x x0 n h0) r e

include h0 h1 h2 in
theorem out7 (r : Fin 1024) (C : Fin 1024) : out0_7 (F := Ideal) x0 x1 x2 x3 x4 x5 x6 (ix2 r C) = R7 x y wo (ix2 (tileB n r) C) := by
  unfold out0_7
  refine canon_agree' (e := .f32) (T := S1024x1024) _ (fun i => R7 x y wo (ix2 (tileB n (i 0)) (i 1))) ?_ _ (cover0_7 _ _ _)
  intro p hp
  simp only [List.mem_cons, List.not_mem_nil, or_false] at hp
  rcases hp with rfl | rfl
  · refine agree2 (e := .f32) (A := 1024) (B := 1024) (a := 512) (b := 1024) ![512, 0] inb_S1024x1024_S512x1024_512_0 _ (fun i => R7 x y wo (ix2 (tileB n (i 0)) (i 1))) fun t d r C hr hC => ?_
    obtain rfl : r = hiB t := Fin.ext (hr)
    obtain rfl : d = C := Fin.ext (hC.trans (Nat.zero_add _)).symm
    exact xhigh_apply x y wo x0 x1 x2 n h0 h1 h2 t d
  · refine agree2 (e := .f32) (A := 1024) (B := 1024) (a := 512) (b := 1024) ![0, 0] inb_S1024x1024_S512x1024_0_0 _ (fun i => R7 x y wo (ix2 (tileB n (i 0)) (i 1))) fun t d r C hr hC => ?_
    obtain rfl : r = loB t := Fin.ext (hr.trans (Nat.zero_add _))
    obtain rfl : d = C := Fin.ext (hC.trans (Nat.zero_add _)).symm
    exact xlow_apply x y wo x0 x1 x2 n h0 h1 h2 t d
include h0 h1 h2 in
theorem out8 (r : Fin 1024) (C : Fin 1) : out0_8 (F := Ideal) x0 x1 x2 x3 x4 x5 x6 (ix2 r C) = R8 x y wo (ix2 (tileB n r) C) := by
  unfold out0_8
  refine canon_agree' (e := .f32) (T := S1024x1) _ (fun i => R8 x y wo (ix2 (tileB n (i 0)) (i 1))) ?_ _ (cover0_8 _ _ _)
  intro p hp
  simp only [List.mem_cons, List.not_mem_nil, or_false] at hp
  rcases hp with rfl | rfl
  · refine agree2 (e := .f32) (A := 1024) (B := 1) (a := 512) (b := 1) ![512, 0] inb_S1024x1_S512x1_512_0 _ (fun i => R8 x y wo (ix2 (tileB n (i 0)) (i 1))) fun t d r C hr hC => ?_
    obtain rfl : r = hiB t := Fin.ext (hr)
    obtain rfl : d = C := Fin.ext (hC.trans (Nat.zero_add _)).symm
    exact s_apply x y wo _ _ _ (highB n) (ld_y1 y x1 n h1) (ld_wo wo x2 h2) (ld_x1 x x0 n h0) t d
  · refine agree2 (e := .f32) (A := 1024) (B := 1) (a := 512) (b := 1) ![0, 0] inb_S1024x1_S512x1_0_0 _ (fun i => R8 x y wo (ix2 (tileB n (i 0)) (i 1))) fun t d r C hr hC => ?_
    obtain rfl : r = loB t := Fin.ext (hr.trans (Nat.zero_add _))
    obtain rfl : d = C := Fin.ext (hC.trans (Nat.zero_add _)).symm
    exact s_apply x y wo _ _ _ (lowB n) (ld_y0 y x1 n h1) (ld_wo wo x2 h2) (ld_x0 x x0 n h0) t d
include h0 h1 h2 h3 h4 h5 in
theorem out9 (r : Fin 1024) (C : Fin 1024) : out0_9 (F := Ideal) x0 x1 x2 x3 x4 x5 x6 (ix2 r C) = R9 x y wo g b w (ix2 (tileB n r) C) := by
  subst h3 h4
  unfold out0_9
  unfold k0_pay44
  simp only [ld_row]
  refine canon_agree' (e := .bf16) (T := S1024x1024) _ (fun i => R9 x y wo x3 x4 w (ix2 (tileB n (i 0)) (i 1))) ?_ _ (cover0_9 _ _ _)
  intro p hp
  simp only [List.mem_cons, List.not_mem_nil, or_false] at hp
  rcases hp with rfl | rfl
  · refine agree2 (e := .bf16) (A := 1024) (B := 1024) (a := 512) (b := 1024) ![512, 0] inb_S1024x1024_S512x1024_512_0 _ (fun i => R9 x y wo x3 x4 w (ix2 (tileB n (i 0)) (i 1))) fun t d r C hr hC => ?_
    obtain rfl : r = hiB t := Fin.ext (hr)
    obtain rfl : d = C := Fin.ext (hC.trans (Nat.zero_add _)).symm
    exact q_apply x y wo x3 x4 w (highB n) (xhigh x0 x1 x2) (xhigh_apply x y wo x0 x1 x2 n h0 h1 h2) _ (ld_w0 w x5 h5) t d
  · refine agree2 (e := .bf16) (A := 1024) (B := 1024) (a := 512) (b := 1024) ![0, 0] inb_S1024x1024_S512x1024_0_0 _ (fun i => R9 x y wo x3 x4 w (ix2 (tileB n (i 0)) (i 1))) fun t d r C hr hC => ?_
    obtain rfl : r = loB t := Fin.ext (hr.trans (Nat.zero_add _))
    obtain rfl : d = C := Fin.ext (hC.trans (Nat.zero_add _)).symm
    exact q_apply x y wo x3 x4 w (lowB n) (xlow x0 x1 x2) (xlow_apply x y wo x0 x1 x2 n h0 h1 h2) _ (ld_w0 w x5 h5) t d
include h0 h1 h2 h3 h4 h5 in
theorem out10 (r : Fin 1024) (C : Fin 1024) : out0_10 (F := Ideal) x0 x1 x2 x3 x4 x5 x6 (ix2 r C) = R10 x y wo g b w (ix2 (tileB n r) C) := by
  subst h3 h4
  unfold out0_10
  unfold k0_pay44
  simp only [ld_row]
  refine canon_agree' (e := .bf16) (T := S1024x1024) _ (fun i => R10 x y wo x3 x4 w (ix2 (tileB n (i 0)) (i 1))) ?_ _ (cover0_10 _ _ _)
  intro p hp
  simp only [List.mem_cons, List.not_mem_nil, or_false] at hp
  rcases hp with rfl | rfl
  · refine agree2 (e := .bf16) (A := 1024) (B := 1024) (a := 512) (b := 1024) ![512, 0] inb_S1024x1024_S512x1024_512_0 _ (fun i => R10 x y wo x3 x4 w (ix2 (tileB n (i 0)) (i 1))) fun t d r C hr hC => ?_
    obtain rfl : r = hiB t := Fin.ext (hr)
    obtain rfl : d = C := Fin.ext (hC.trans (Nat.zero_add _)).symm
    exact z_apply x y wo x3 x4 w (highB n) (xhigh x0 x1 x2) (xhigh_apply x y wo x0 x1 x2 n h0 h1 h2) _ (ld_w1 w x5 h5) t d
  · refine agree2 (e := .bf16) (A := 1024) (B := 1024) (a := 512) (b := 1024) ![0, 0] inb_S1024x1024_S512x1024_0_0 _ (fun i => R10 x y wo x3 x4 w (ix2 (tileB n (i 0)) (i 1))) fun t d r C hr hC => ?_
    obtain rfl : r = loB t := Fin.ext (hr.trans (Nat.zero_add _))
    obtain rfl : d = C := Fin.ext (hC.trans (Nat.zero_add _)).symm
    exact z_apply x y wo x3 x4 w (lowB n) (xlow x0 x1 x2) (xlow_apply x y wo x0 x1 x2 n h0 h1 h2) _ (ld_w1 w x5 h5) t d
include h0 h1 h2 h3 h4 h6 in
theorem out11 (r : Fin 1024) (C : Fin 256) : out0_11 (F := Ideal) x0 x1 x2 x3 x4 x5 x6 (ix2 r C) = R11 x y wo g b wk (ix2 (tileB n r) C) := by
  subst h3 h4
  unfold out0_11
  unfold k0_pay44
  simp only [ld_row]
  refine canon_agree' (e := .bf16) (T := S1024x256) _ (fun i => R11 x y wo x3 x4 wk (ix2 (tileB n (i 0)) (i 1))) ?_ _ (cover0_11 _ _ _ _ _)
  intro p hp
  simp only [List.mem_cons, List.not_mem_nil, or_false] at hp
  rcases hp with rfl | rfl | rfl | rfl
  · refine agree2 (e := .bf16) (A := 1024) (B := 256) (a := 512) (b := 128) ![512, 128] inb_S1024x256_S512x128_512_128 _ (fun i => R11 x y wo x3 x4 wk (ix2 (tileB n (i 0)) (i 1))) fun t d r C hr hC => ?_
    obtain rfl : r = hiB t := Fin.ext (hr)
    obtain rfl : C = hiC d := Fin.ext hC
    exact k1_apply x y wo x3 x4 wk (highB n) (xhigh x0 x1 x2) (xhigh_apply x y wo x0 x1 x2 n h0 h1 h2) _ (ld_wk wk x6 h6) t d
  · refine agree2 (e := .bf16) (A := 1024) (B := 256) (a := 512) (b := 128) ![512, 0] inb_S1024x256_S512x128_512_0 _ (fun i => R11 x y wo x3 x4 wk (ix2 (tileB n (i 0)) (i 1))) fun t d r C hr hC => ?_
    obtain rfl : r = hiB t := Fin.ext (hr)
    obtain rfl : C = loC d := Fin.ext (hC.trans (Nat.zero_add _))
    exact k0_apply x y wo x3 x4 wk (highB n) (xhigh x0 x1 x2) (xhigh_apply x y wo x0 x1 x2 n h0 h1 h2) _ (ld_wk wk x6 h6) t d
  · refine agree2 (e := .bf16) (A := 1024) (B := 256) (a := 512) (b := 128) ![0, 128] inb_S1024x256_S512x128_0_128 _ (fun i => R11 x y wo x3 x4 wk (ix2 (tileB n (i 0)) (i 1))) fun t d r C hr hC => ?_
    obtain rfl : r = loB t := Fin.ext (hr.trans (Nat.zero_add _))
    obtain rfl : C = hiC d := Fin.ext hC
    exact k1_apply x y wo x3 x4 wk (lowB n) (xlow x0 x1 x2) (xlow_apply x y wo x0 x1 x2 n h0 h1 h2) _ (ld_wk wk x6 h6) t d
  · refine agree2 (e := .bf16) (A := 1024) (B := 256) (a := 512) (b := 128) ![0, 0] inb_S1024x256_S512x128_0_0 _ (fun i => R11 x y wo x3 x4 wk (ix2 (tileB n (i 0)) (i 1))) fun t d r C hr hC => ?_
    obtain rfl : r = loB t := Fin.ext (hr.trans (Nat.zero_add _))
    obtain rfl : C = loC d := Fin.ext (hC.trans (Nat.zero_add _))
    exact k0_apply x y wo x3 x4 wk (lowB n) (xlow x0 x1 x2) (xlow_apply x y wo x0 x1 x2 n h0 h1 h2) _ (ld_wk wk x6 h6) t d
include h0 h1 h2 h3 h4 h6 in
theorem out12 (r : Fin 1024) (C : Fin 256) : out0_12 (F := Ideal) x0 x1 x2 x3 x4 x5 x6 (ix2 r C) = R12 x y wo g b wk (ix2 (tileB n r) C) := by
  subst h3 h4
  unfold out0_12
  unfold k0_pay44
  simp only [ld_row]
  refine canon_agree' (e := .bf16) (T := S1024x256) _ (fun i => R12 x y wo x3 x4 wk (ix2 (tileB n (i 0)) (i 1))) ?_ _ (cover0_12 _ _ _ _ _)
  intro p hp
  simp only [List.mem_cons, List.not_mem_nil, or_false] at hp
  rcases hp with rfl | rfl | rfl | rfl
  · refine agree2 (e := .bf16) (A := 1024) (B := 256) (a := 512) (b := 128) ![512, 128] inb_S1024x256_S512x128_512_128 _ (fun i => R12 x y wo x3 x4 wk (ix2 (tileB n (i 0)) (i 1))) fun t d r C hr hC => ?_
    obtain rfl : r = hiB t := Fin.ext (hr)
    obtain rfl : C = hiC d := Fin.ext hC
    exact v1_apply x y wo x3 x4 wk (highB n) (xhigh x0 x1 x2) (xhigh_apply x y wo x0 x1 x2 n h0 h1 h2) _ (ld_wk wk x6 h6) t d
  · refine agree2 (e := .bf16) (A := 1024) (B := 256) (a := 512) (b := 128) ![512, 0] inb_S1024x256_S512x128_512_0 _ (fun i => R12 x y wo x3 x4 wk (ix2 (tileB n (i 0)) (i 1))) fun t d r C hr hC => ?_
    obtain rfl : r = hiB t := Fin.ext (hr)
    obtain rfl : C = loC d := Fin.ext (hC.trans (Nat.zero_add _))
    exact v0_apply x y wo x3 x4 wk (highB n) (xhigh x0 x1 x2) (xhigh_apply x y wo x0 x1 x2 n h0 h1 h2) _ (ld_wk wk x6 h6) t d
  · refine agree2 (e := .bf16) (A := 1024) (B := 256) (a := 512) (b := 128) ![0, 128] inb_S1024x256_S512x128_0_128 _ (fun i => R12 x y wo x3 x4 wk (ix2 (tileB n (i 0)) (i 1))) fun t d r C hr hC => ?_
    obtain rfl : r = loB t := Fin.ext (hr.trans (Nat.zero_add _))
    obtain rfl : C = hiC d := Fin.ext hC
    exact v1_apply x y wo x3 x4 wk (lowB n) (xlow x0 x1 x2) (xlow_apply x y wo x0 x1 x2 n h0 h1 h2) _ (ld_wk wk x6 h6) t d
  · refine agree2 (e := .bf16) (A := 1024) (B := 256) (a := 512) (b := 128) ![0, 0] inb_S1024x256_S512x128_0_0 _ (fun i => R12 x y wo x3 x4 wk (ix2 (tileB n (i 0)) (i 1))) fun t d r C hr hC => ?_
    obtain rfl : r = loB t := Fin.ext (hr.trans (Nat.zero_add _))
    obtain rfl : C = loC d := Fin.ext (hC.trans (Nat.zero_add _))
    exact v0_apply x y wo x3 x4 wk (lowB n) (xlow x0 x1 x2) (xlow_apply x y wo x0 x1 x2 n h0 h1 h2) _ (ld_wk wk x6 h6) t d
end

/-! ## The launch -/

variable (m : (ℓ : Loc nD τ sig) → Buf (Elt Ideal) ℓ) (c : Dev nD)

/-- The arguments. -/
def a0 : Vec Ideal S8192x1024 .f32 := m ((c : Thread nD τ).loc main_arg0)
def a1 : Vec Ideal S8192x2048 .f32 := m ((c : Thread nD τ).loc main_arg1)
def a2 : Vec Ideal S2048x1024 .f32 := m ((c : Thread nD τ).loc main_arg2)
def a3 : Vec Ideal S1x1024 .f32 := m ((c : Thread nD τ).loc main_arg3)
def a4 : Vec Ideal S1x1024 .f32 := m ((c : Thread nD τ).loc main_arg4)
def a5 : Vec Ideal S1024x2048 .f32 := m ((c : Thread nD τ).loc main_arg5)
def a6 : Vec Ideal S1024x256 .f32 := m ((c : Thread nD τ).loc main_arg6)

theorem host_v0 : (V m c main_v0 : Vec Ideal S8192x2048 .bf16) = a1 m c := by
  show StableHlo.after hostOps0 _ _ = _
  after_results_simp
  rfl
theorem host_v1 : (V m c main_v1 : Vec Ideal S2048x1024 .bf16) = a2 m c := by
  show StableHlo.after hostOps0 _ _ = _
  after_results_simp
  rfl
theorem host_v2 : (V m c main_v2 : Vec Ideal S1024x2048 .bf16) = a5 m c := by
  show StableHlo.after hostOps0 _ _ = _
  after_results_simp
  rfl
theorem host_v3 : (V m c main_v3 : Vec Ideal S1024x256 .bf16) = a6 m c := by
  show StableHlo.after hostOps0 _ _ = _
  after_results_simp
  rfl

theorem idx0 : ∀ t : Fin cfg0.N, win0_0.index t = ![t.val, 0] := by decide +kernel
theorem idx1 : ∀ t : Fin cfg0.N, win0_1.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![t.val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel

variable (t : Fin cfg0.N)
/-- The block of a point. -/
def tn : Fin 8 := ⟨t.val, t.isLt⟩

theorem blk0 (r e : Fin 1024) : (iblk m c 0 t : Vec Ideal S1024x1024 .f32) (ix2 r e) = a0 m c (ix2 (tileB (tn t) r) e) := by
  have h : (iblk m c 0 t : Vec Ideal S1024x1024 .f32) (ix2 r e) = (V m c main_arg0 : Vec Ideal S8192x1024 .f32) (ix2 (tileB (tn t) r) e) := by
    blk_ext [iblk, tileB, tn, idx0 t] <;> omega
  rw [h]; exact congrFun (V_main_arg0 m c) _
theorem blk1 (r : Fin 1024) (j : Fin 2048) : (iblk m c 1 t : Vec Ideal S1024x2048 .bf16) (ix2 r j) = a1 m c (ix2 (tileB (tn t) r) j) := by
  have h : (iblk m c 1 t : Vec Ideal S1024x2048 .bf16) (ix2 r j) = (V m c main_v0 : Vec Ideal S8192x2048 .bf16) (ix2 (tileB (tn t) r) j) := by
    blk_ext [iblk, tileB, tn, idx1 t] <;> omega
  rw [h, host_v0]
theorem blk2 (p : Fin 2048) (q : Fin 1024) : (iblk m c 2 t : Vec Ideal S2048x1024 .bf16) (ix2 p q) = a2 m c (ix2 p q) := by
  have h : (iblk m c 2 t : Vec Ideal S2048x1024 .bf16) (ix2 p q) = (V m c main_v1 : Vec Ideal S2048x1024 .bf16) (ix2 p q) := by
    blk_ext [iblk, idx2 t] <;> omega
  rw [h, host_v1]
theorem blk5 (p : Fin 1024) (q : Fin 2048) : (iblk m c 5 t : Vec Ideal S1024x2048 .bf16) (ix2 p q) = a5 m c (ix2 p q) := by
  have h : (iblk m c 5 t : Vec Ideal S1024x2048 .bf16) (ix2 p q) = (V m c main_v2 : Vec Ideal S1024x2048 .bf16) (ix2 p q) := by
    blk_ext [iblk, idx5 t] <;> omega
  rw [h, host_v2]
theorem blk6 (p : Fin 1024) (q : Fin 256) : (iblk m c 6 t : Vec Ideal S1024x256 .bf16) (ix2 p q) = a6 m c (ix2 p q) := by
  have h : (iblk m c 6 t : Vec Ideal S1024x256 .bf16) (ix2 p q) = (V m c main_v3 : Vec Ideal S1024x256 .bf16) (ix2 p q) := by
    blk_ext [iblk, idx6 t] <;> omega
  rw [h, host_v3]
theorem blk3 : (iblk m c 3 t : Vec Ideal S1x1024 .f32) = a3 m c := by
  funext i
  obtain ⟨o, C, rfl⟩ : ∃ (o : Fin 1) (C : Fin 1024), i = ix2 o C := ⟨i 0, i 1, eq_ix2 (n0 := 1) (n1 := 1024) i⟩
  have h : (iblk m c 3 t : Vec Ideal S1x1024 .f32) (ix2 o C) = (V m c main_arg3 : Vec Ideal S1x1024 .f32) (ix2 o C) := by
    blk_ext [iblk, idx3 t] <;> omega
  rw [h]; exact congrFun (V_main_arg3 m c) _
theorem blk4 : (iblk m c 4 t : Vec Ideal S1x1024 .f32) = a4 m c := by
  funext i
  obtain ⟨o, C, rfl⟩ : ∃ (o : Fin 1) (C : Fin 1024), i = ix2 o C := ⟨i 0, i 1, eq_ix2 (n0 := 1) (n1 := 1024) i⟩
  have h : (iblk m c 4 t : Vec Ideal S1x1024 .f32) (ix2 o C) = (V m c main_arg4 : Vec Ideal S1x1024 .f32) (ix2 o C) := by
    blk_ext [iblk, idx4 t] <;> omega
  rw [h]; exact congrFun (V_main_arg4 m c) _

/-- The arrays at the end. -/
theorem arr7 : (dats m 0 c).arrAt 7 cfg0.N = R7 (a0 m c) (a1 m c) (a2 m c) := by
  refine (dats m 0 c).arrAt_eq_of_covers 7 _ (by decide +kernel) fun t hf y => ?_
  blk_simp
  rw [after0_7]
  obtain ⟨r, C, rfl⟩ : ∃ (r : Fin 1024) (C : Fin 1024), y = ix2 r C := ⟨y 0, y 1, eq_ix2 (n0 := 1024) (n1 := 1024) y⟩
  have h : (win0_7.blk t).view.emb (ix2 r C) = ix2 (tileB (tn t) r) C := by
    funext a; fin_cases a <;> apply Fin.ext <;> simp [tileB, tn, idx7 t] <;> exact Nat.mul_comm _ _
  exact (out7 (a0 m c) (a1 m c) (a2 m c) _ _ _ _ _ _ _ (tn t) (blk0 m c t) (blk1 m c t) (blk2 m c t) r C).trans (congrArg (R7 (a0 m c) (a1 m c) (a2 m c)) h).symm
theorem arr8 : (dats m 0 c).arrAt 8 cfg0.N = R8 (a0 m c) (a1 m c) (a2 m c) := by
  refine (dats m 0 c).arrAt_eq_of_covers 8 _ (by decide +kernel) fun t hf y => ?_
  blk_simp
  rw [after0_8]
  obtain ⟨r, C, rfl⟩ : ∃ (r : Fin 1024) (C : Fin 1), y = ix2 r C := ⟨y 0, y 1, eq_ix2 (n0 := 1024) (n1 := 1) y⟩
  have h : (win0_8.blk t).view.emb (ix2 r C) = ix2 (tileB (tn t) r) C := by
    funext a; fin_cases a <;> apply Fin.ext <;> simp [tileB, tn, idx8 t] <;> exact Nat.mul_comm _ _
  exact (out8 (a0 m c) (a1 m c) (a2 m c) _ _ _ _ _ _ _ (tn t) (blk0 m c t) (blk1 m c t) (blk2 m c t) r C).trans (congrArg (R8 (a0 m c) (a1 m c) (a2 m c)) h).symm
theorem arr9 : (dats m 0 c).arrAt 9 cfg0.N = R9 (a0 m c) (a1 m c) (a2 m c) (a3 m c) (a4 m c) (a5 m c) := by
  refine (dats m 0 c).arrAt_eq_of_covers 9 _ (by decide +kernel) fun t hf y => ?_
  blk_simp
  rw [after0_9]
  obtain ⟨r, C, rfl⟩ : ∃ (r : Fin 1024) (C : Fin 1024), y = ix2 r C := ⟨y 0, y 1, eq_ix2 (n0 := 1024) (n1 := 1024) y⟩
  have h : (win0_9.blk t).view.emb (ix2 r C) = ix2 (tileB (tn t) r) C := by
    funext a; fin_cases a <;> apply Fin.ext <;> simp [tileB, tn, idx9 t] <;> exact Nat.mul_comm _ _
  exact (out9 (a0 m c) (a1 m c) (a2 m c) (a3 m c) (a4 m c) (a5 m c) _ _ _ _ _ _ _ (tn t) (blk0 m c t) (blk1 m c t) (blk2 m c t) (blk3 m c t) (blk4 m c t) (blk5 m c t) r C).trans (congrArg (R9 (a0 m c) (a1 m c) (a2 m c) (a3 m c) (a4 m c) (a5 m c)) h).symm
theorem arr10 : (dats m 0 c).arrAt 10 cfg0.N = R10 (a0 m c) (a1 m c) (a2 m c) (a3 m c) (a4 m c) (a5 m c) := by
  refine (dats m 0 c).arrAt_eq_of_covers 10 _ (by decide +kernel) fun t hf y => ?_
  blk_simp
  rw [after0_10]
  obtain ⟨r, C, rfl⟩ : ∃ (r : Fin 1024) (C : Fin 1024), y = ix2 r C := ⟨y 0, y 1, eq_ix2 (n0 := 1024) (n1 := 1024) y⟩
  have h : (win0_10.blk t).view.emb (ix2 r C) = ix2 (tileB (tn t) r) C := by
    funext a; fin_cases a <;> apply Fin.ext <;> simp [tileB, tn, idx10 t] <;> exact Nat.mul_comm _ _
  exact (out10 (a0 m c) (a1 m c) (a2 m c) (a3 m c) (a4 m c) (a5 m c) _ _ _ _ _ _ _ (tn t) (blk0 m c t) (blk1 m c t) (blk2 m c t) (blk3 m c t) (blk4 m c t) (blk5 m c t) r C).trans (congrArg (R10 (a0 m c) (a1 m c) (a2 m c) (a3 m c) (a4 m c) (a5 m c)) h).symm
theorem arr11 : (dats m 0 c).arrAt 11 cfg0.N = R11 (a0 m c) (a1 m c) (a2 m c) (a3 m c) (a4 m c) (a6 m c) := by
  refine (dats m 0 c).arrAt_eq_of_covers 11 _ (by decide +kernel) fun t hf y => ?_
  blk_simp
  rw [after0_11]
  obtain ⟨r, C, rfl⟩ : ∃ (r : Fin 1024) (C : Fin 256), y = ix2 r C := ⟨y 0, y 1, eq_ix2 (n0 := 1024) (n1 := 256) y⟩
  have h : (win0_11.blk t).view.emb (ix2 r C) = ix2 (tileB (tn t) r) C := by
    funext a; fin_cases a <;> apply Fin.ext <;> simp [tileB, tn, idx11 t] <;> exact Nat.mul_comm _ _
  exact (out11 (a0 m c) (a1 m c) (a2 m c) (a3 m c) (a4 m c) (a6 m c) _ _ _ _ _ _ _ (tn t) (blk0 m c t) (blk1 m c t) (blk2 m c t) (blk3 m c t) (blk4 m c t) (blk6 m c t) r C).trans (congrArg (R11 (a0 m c) (a1 m c) (a2 m c) (a3 m c) (a4 m c) (a6 m c)) h).symm
theorem arr12 : (dats m 0 c).arrAt 12 cfg0.N = R12 (a0 m c) (a1 m c) (a2 m c) (a3 m c) (a4 m c) (a6 m c) := by
  refine (dats m 0 c).arrAt_eq_of_covers 12 _ (by decide +kernel) fun t hf y => ?_
  blk_simp
  rw [after0_12]
  obtain ⟨r, C, rfl⟩ : ∃ (r : Fin 1024) (C : Fin 256), y = ix2 r C := ⟨y 0, y 1, eq_ix2 (n0 := 1024) (n1 := 256) y⟩
  have h : (win0_12.blk t).view.emb (ix2 r C) = ix2 (tileB (tn t) r) C := by
    funext a; fin_cases a <;> apply Fin.ext <;> simp [tileB, tn, idx12 t] <;> exact Nat.mul_comm _ _
  exact (out12 (a0 m c) (a1 m c) (a2 m c) (a3 m c) (a4 m c) (a6 m c) _ _ _ _ _ _ _ (tn t) (blk0 m c t) (blk1 m c t) (blk2 m c t) (blk3 m c t) (blk4 m c t) (blk6 m c t) r C).trans (congrArg (R12 (a0 m c) (a1 m c) (a2 m c) (a3 m c) (a4 m c) (a6 m c)) h).symm

end Cert.BprojKernel
-- ==== Proof.BprojEq.lean ====
/-
  The projections of the second layer: the launch and the reference leave the same arrays.
-/
module

public import proofs.«01_k».proof.Defs
public import proofs.«01_k».proof.Proof.BprojKernel
public import proofs.«01_k».proof.Proof.Gen.BprojRefIdeal.Run
public import proofs.«01_k».proof.Proof.Gen.Bproj
public import Idealize.ShloMosaic.Adequacy
public import Idealize.ShloMosaic.Init

@[expose] public section

set_option maxRecDepth 16384
set_option maxHeartbeats 4000000

noncomputable section

namespace Cert.BprojEq

open Idealize.ShloMosaic Idealize.ShloMosaic.TcCoe Idealize.SL.Sem

section
open Cert.BprojRefIdeal Cert.BprojRefIdeal.Gen Cert.BprojTile

variable (x : FVec Ideal S8192x1024 .f32) (y : FVec Ideal S8192x2048 .f32) (wo : FVec Ideal S2048x1024 .f32)
  (g b : FVec Ideal S1x1024 .f32) (w : FVec Ideal S1024x2048 .f32) (wk : FVec Ideal S1024x256 .f32)

/-! The reference's values, in its order. -/

def meanE (z : FVec Ideal S8192x1024 .f32) : FVec Ideal S8192x1 .f32 :=
  Host.divf (broadcastInDim S8192x1 ![0] bcast_S8192_S8192x1_0
    (Host.reduceAdd z (constant S_ .f32 0x00000000#32) reducesTo_S8192x1024_S8192_d1 h_S_))
    (broadcastInDim S8192x1 ![] bcast_S_S8192x1 (constant S_ .f32 0x44800000#32))
def wide (z : FVec Ideal S8192x1 .f32) : FVec Ideal S8192x1024 .f32 :=
  broadcastInDim S8192x1024 ![0, 1] bcast_S8192x1_S8192x1024_0_1 z
def tall (z : FVec Ideal S1x1024 .f32) : FVec Ideal S8192x1024 .f32 :=
  broadcastInDim S8192x1024 ![0, 1] bcast_S1x1024_S8192x1024_0_1 z
def resE : FVec Ideal S8192x1024 .f32 :=
  addf (mulf (broadcastInDim S8192x1024 ![] bcast_S_S8192x1024 (constant S_ .f32 0x3FB504F3#32)) x)
    (Host.dotGeneral dot_S8192x2048_S2048x1024_S8192x1024_1_0_0_1_n_n none y wo)
def cE : FVec Ideal S8192x1024 .f32 := subf (resE x y wo) (wide (meanE (resE x y wo)))
def sE : FVec Ideal S8192x1 .f32 :=
  Host.rsqrt (addf (meanE (mulf (cE x y wo) (cE x y wo))) (broadcastInDim S8192x1 ![] bcast_S_S8192x1 (constant S_ .f32 0x3727C5AC#32)))
def xE : FVec Ideal S8192x1024 .f32 := mulf (cE x y wo) (wide (sE x y wo))
def hE : FVec Ideal S8192x1024 .f32 := addf (mulf (xE x y wo) (tall g)) (tall b)
def pE : FVec Ideal S8192x2048 .f32 := Host.dotGeneral dot_S8192x1024_S1024x2048_S8192x2048_1_0_0_1_n_n none (hE x y wo g b) w
def kvE : FVec Ideal S8192x256 .f32 := Host.dotGeneral dot_S8192x1024_S1024x256_S8192x256_1_0_0_1_n_n none (hE x y wo g b) wk
def qE : FVec Ideal S8192x1024 .bf16 :=
  truncf (F := Ideal) .bf16 (mulf (extractStridedSlice S8192x1024 ![0, 0] (pE x y wo g b w) slices_S8192x2048_S8192x1024_0_0)
    (broadcastInDim S8192x1024 ![] bcast_S_S8192x1024 (constant S_ .f32 0x3E000000#32))) bitsLt_bf16_f32
def zE : FVec Ideal S8192x1024 .bf16 :=
  truncf (F := Ideal) .bf16 (extractStridedSlice S8192x1024 ![0, 1024] (pE x y wo g b w) slices_S8192x2048_S8192x1024_0_1024) bitsLt_bf16_f32
/-- Each head's columns twice. -/
def twiceE (z : FVec Ideal S8192x128 .f32) : FVec Ideal S8192x256 .bf16 :=
  truncf (F := Ideal) .bf16 (shapeCast _ (broadcastInDim S8192x2x2x64 ![0, 1, 2, 3] bcast_S8192x2x1x64_S8192x2x2x64_0_1_2_3
    (shapeCast _ z shapeCasts_S8192x128_S8192x2x1x64)) shapeCasts_S8192x2x2x64_S8192x256) bitsLt_bf16_f32
def kE : FVec Ideal S8192x256 .bf16 := twiceE (extractStridedSlice S8192x128 ![0, 0] (kvE x y wo g b wk) slices_S8192x256_S8192x128_0_0)
def vE : FVec Ideal S8192x256 .bf16 := twiceE (extractStridedSlice S8192x128 ![0, 128] (kvE x y wo g b wk) slices_S8192x256_S8192x128_0_128)

/-! Each at an index. -/

theorem meanE_apply (z : FVec Ideal S8192x1024 .f32) (R : Fin 8192) (o : Fin 1) :
    meanE z (ix2 R o) = Ideal.div (∑ i : Fin 1024, z (ix2 R i)) BW := by
  pointwise [meanE]
  rfl
theorem wide_apply (z : FVec Ideal S8192x1 .f32) (R : Fin 8192) (C : Fin 1024) : wide z (ix2 R C) = z (ix2 R 0) := by
  pointwise [wide]
theorem tall_apply (z : FVec Ideal S1x1024 .f32) (R : Fin 8192) (C : Fin 1024) : tall z (ix2 R C) = z (ix2 0 C) := by
  pointwise [tall]
theorem resE_apply (R : Fin 8192) (e : Fin 1024) : resE x y wo (ix2 R e) = BR x y wo R e := by
  pointwise [resE]
  rfl
theorem cE_apply (R : Fin 8192) (e : Fin 1024) : cE x y wo (ix2 R e) = BC x y wo R e := by
  show resE x y wo (ix2 R e) - wide (meanE (resE x y wo)) (ix2 R e) = _
  rw [wide_apply, meanE_apply, resE_apply]; simp only [resE_apply]; rfl
theorem sE_apply (R : Fin 8192) (o : Fin 1) : sE x y wo (ix2 R o) = BS x y wo R := by
  have h : sE x y wo (ix2 R o) = Ideal.rsqrt (meanE (mulf (cE x y wo) (cE x y wo)) (ix2 R o) + Ideal.ofBits .f32 0x3727C5AC#32) := by
    pointwise [sE]
  rw [h, meanE_apply]
  have k : ∀ i, mulf (cE x y wo) (cE x y wo) (ix2 R i) = BC x y wo R i * BC x y wo R i := fun i => by
    show cE x y wo (ix2 R i) * cE x y wo (ix2 R i) = _
    rw [cE_apply]
  simp only [k]; rfl
theorem xE_apply (R : Fin 8192) (e : Fin 1024) : xE x y wo (ix2 R e) = BX x y wo R e := by
  show cE x y wo (ix2 R e) * wide (sE x y wo) (ix2 R e) = _
  rw [wide_apply, sE_apply, cE_apply]; rfl
theorem hE_apply (R : Fin 8192) (e : Fin 1024) : hE x y wo g b (ix2 R e) = BH x y wo g b R e := by
  show xE x y wo (ix2 R e) * tall g (ix2 R e) + tall b (ix2 R e) = _
  rw [tall_apply, tall_apply, xE_apply]; rfl
theorem pE_apply (R : Fin 8192) (d : Fin 2048) : pE x y wo g b w (ix2 R d) = BP x y wo g b w R d := by
  have hh := hE_apply x y wo g b
  unfold pE
  generalize hE x y wo g b = p at hh ⊢
  pointwise
  simp only [hh]; rfl
theorem kvE_apply (R : Fin 8192) (d : Fin 256) : kvE x y wo g b wk (ix2 R d) = BK x y wo g b wk R d := by
  have hh := hE_apply x y wo g b
  unfold kvE
  generalize hE x y wo g b = p at hh ⊢
  pointwise
  simp only [hh]; rfl
theorem twiceE_apply (z : FVec Ideal S8192x128 .f32) (R : Fin 8192) (j : Fin 256) :
    twiceE z (ix2 R j) = z (ix2 R ⟨64 * (j.val / 128) + j.val % 64, by omega⟩) := by
  pointwise [twiceE]
  refine congrArg z ?_
  congr 1 <;> apply Fin.ext <;> simp <;> omega

theorem x_eq : xE x y wo = R7 x y wo := by
  funext i
  obtain ⟨R, C, rfl⟩ : ∃ (R : Fin 8192) (C : Fin 1024), i = ix2 R C := ⟨i 0, i 1, eq_ix2 (n0 := 8192) (n1 := 1024) i⟩
  exact xE_apply x y wo R C
theorem s_eq : sE x y wo = R8 x y wo := by
  funext i
  obtain ⟨R, o, rfl⟩ : ∃ (R : Fin 8192) (o : Fin 1), i = ix2 R o := ⟨i 0, i 1, eq_ix2 (n0 := 8192) (n1 := 1) i⟩
  exact sE_apply x y wo R o
theorem q_eq : qE x y wo g b w = R9 x y wo g b w := by
  funext i
  obtain ⟨R, C, rfl⟩ : ∃ (R : Fin 8192) (C : Fin 1024), i = ix2 R C := ⟨i 0, i 1, eq_ix2 (n0 := 8192) (n1 := 1024) i⟩
  have hp := pE_apply x y wo g b w
  unfold qE
  generalize pE x y wo g b w = p at hp ⊢
  pointwise
  simp only [hp]; rfl
theorem z_eq : zE x y wo g b w = R10 x y wo g b w := by
  funext i
  obtain ⟨R, C, rfl⟩ : ∃ (R : Fin 8192) (C : Fin 1024), i = ix2 R C := ⟨i 0, i 1, eq_ix2 (n0 := 8192) (n1 := 1024) i⟩
  have hp := pE_apply x y wo g b w
  unfold zE
  generalize pE x y wo g b w = p at hp ⊢
  pointwise
  simp only [hp]; rfl
theorem kpart_apply (R : Fin 8192) (d : Fin 128) :
    extractStridedSlice S8192x128 ![0, 0] (kvE x y wo g b wk) slices_S8192x256_S8192x128_0_0 (ix2 R d) = BK x y wo g b wk R ⟨0 + d.val, by omega⟩ := by
  have hp := kvE_apply x y wo g b wk
  generalize kvE x y wo g b wk = p at hp ⊢
  pointwise
  simp only [hp]
theorem vpart_apply (R : Fin 8192) (d : Fin 128) :
    extractStridedSlice S8192x128 ![0, 128] (kvE x y wo g b wk) slices_S8192x256_S8192x128_0_128 (ix2 R d) = BK x y wo g b wk R ⟨128 + d.val, by omega⟩ := by
  have hp := kvE_apply x y wo g b wk
  generalize kvE x y wo g b wk = p at hp ⊢
  pointwise
  simp only [hp]
theorem k_eq : kE x y wo g b wk = R11 x y wo g b wk := by
  funext i
  obtain ⟨R, C, rfl⟩ : ∃ (R : Fin 8192) (C : Fin 256), i = ix2 R C := ⟨i 0, i 1, eq_ix2 (n0 := 8192) (n1 := 256) i⟩
  exact (twiceE_apply _ R C).trans (kpart_apply x y wo g b wk R _)
theorem v_eq : vE x y wo g b wk = R12 x y wo g b wk := by
  funext i
  obtain ⟨R, C, rfl⟩ : ∃ (R : Fin 8192) (C : Fin 256), i = ix2 R C := ⟨i 0, i 1, eq_ix2 (n0 := 8192) (n1 := 256) i⟩
  exact (twiceE_apply _ R C).trans (vpart_apply x y wo g b wk R _)
end

theorem frame_ref : Cert.quiescent_BprojRefIdeal := fun m ρ _ =>
  (θ_run Cert.BprojRefIdeal.defs _ _).mono (fun r h => ⟨fun c => (h c).2.2.2.2.2.2, sem_eq_zero_of_no_sems (by decide) r.2⟩)
    (Cert.BprojRefIdeal.Value.run m ρ)

/-- The two printings of the launch define the same bodies. -/
theorem defs_eq : @Bproj.defs Bits _ _ = @BprojIdeal.defs Bits _ _ := by
  have h : @Bproj.defs₀ Bits _ _ = @BprojIdeal.defs₀ Bits _ _ := by
    unfold Bproj.defs₀ BprojIdeal.defs₀
    congr 1
    funext l x
    match l, x with
    | 0, (t, s) => rfl
  exact congrArg (Pipeline.defs (Bproj.pcfgs (F := Bits))) h

theorem frame : Cert.quiescent_Bproj := by
  intro m ρ _
  have h := Cert.BprojIdeal.Gen.frame (F := Bits) m ρ
  have e := defs_eq
  revert h e
  generalize @BprojIdeal.defs Bits _ _ = d
  rintro h rfl
  exact h

theorem algebraic : Cert.algebraic_BprojIdeal_BprojRefIdeal := by
  intro m ρ m' ρ' _ hag
  refine ⟨fun c => (BprojTile.R7 (BprojKernel.a0 m c) (BprojKernel.a1 m c) (BprojKernel.a2 m c) : Vec Ideal BprojIdeal.S8192x1024 .f32),
    fun c => (BprojTile.R8 (BprojKernel.a0 m c) (BprojKernel.a1 m c) (BprojKernel.a2 m c) : Vec Ideal BprojIdeal.S8192x1 .f32),
    fun c => (BprojTile.R9 (BprojKernel.a0 m c) (BprojKernel.a1 m c) (BprojKernel.a2 m c) (BprojKernel.a3 m c) (BprojKernel.a4 m c) (BprojKernel.a5 m c) : Vec Ideal BprojIdeal.S8192x1024 .bf16),
    fun c => (BprojTile.R10 (BprojKernel.a0 m c) (BprojKernel.a1 m c) (BprojKernel.a2 m c) (BprojKernel.a3 m c) (BprojKernel.a4 m c) (BprojKernel.a5 m c) : Vec Ideal BprojIdeal.S8192x1024 .bf16),
    fun c => (BprojTile.R11 (BprojKernel.a0 m c) (BprojKernel.a1 m c) (BprojKernel.a2 m c) (BprojKernel.a3 m c) (BprojKernel.a4 m c) (BprojKernel.a6 m c) : Vec Ideal BprojIdeal.S8192x256 .bf16),
    fun c => (BprojTile.R12 (BprojKernel.a0 m c) (BprojKernel.a1 m c) (BprojKernel.a2 m c) (BprojKernel.a3 m c) (BprojKernel.a4 m c) (BprojKernel.a6 m c) : Vec Ideal BprojIdeal.S8192x256 .bf16), ?_, ?_⟩
  · refine (θ_run Cert.BprojIdeal.defs _ _).mono (fun r h c => ?_) (Cert.BprojIdeal.Value.run_blocks m ρ)
    obtain ⟨h0, h1, h2, h3, h4, h5, hk⟩ := h c
    exact ⟨h0.trans (BprojKernel.arr7 m c), h1.trans (BprojKernel.arr8 m c), h2.trans (BprojKernel.arr9 m c),
      h3.trans (BprojKernel.arr10 m c), h4.trans (BprojKernel.arr11 m c), h5.trans (BprojKernel.arr12 m c), hk⟩
  · refine (θ_run Cert.BprojRefIdeal.defs _ _).mono (fun r h c => ?_) (Cert.BprojRefIdeal.Value.run m' ρ')
    obtain ⟨h0, h1, h2, h3, h4, h5, hk⟩ := h c
    obtain ⟨e0, e1, e2, e3, e4, e5, e6⟩ := hag c
    refine ⟨h0.trans ?_, h1.trans ?_, h2.trans ?_, h3.trans ?_, h4.trans ?_, h5.trans ?_, hk⟩
    · rw [e0, e1, e2]; exact x_eq _ _ _
    · rw [e0, e1, e2]; exact s_eq _ _ _
    · rw [e0, e1, e2, e3, e4, e5]; exact q_eq _ _ _ _ _ _
    · rw [e0, e1, e2, e3, e4, e5]; exact z_eq _ _ _ _ _ _
    · rw [e0, e1, e2, e3, e4, e6]; exact k_eq _ _ _ _ _ _
    · rw [e0, e1, e2, e3, e4, e6]; exact v_eq _ _ _ _ _ _

end Cert.BprojEq
-- ==== Proof.AdamEq.lean ====
/-
  The optimiser's call for the first layer's input projection: eight blocks of rows, each updated element by element.
-/
module

public import proofs.«01_k».proof.Defs
public import proofs.«01_k».proof.Proof.Gen.Adam
public import proofs.«01_k».proof.Proof.Gen.AdamIdeal.Value
public import proofs.«01_k».proof.Proof.Gen.AdamRefIdeal.Run
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.AdamEq

open Idealize.ShloMosaic Idealize.ShloMosaic.TcCoe Idealize.SL.Sem

/-- A constant of the programs. -/
def K (b : BitVec 32) : EReal := Scalar.ofBits (F := Ideal) .f32 b

/-- The update of one element: the two running means, and the step. -/
def nm (g m : EReal) : EReal := K 0x3F666666#32 * m + K 0x3DCCCCCD#32 * g
def nv (g v : EReal) : EReal := K 0x3F7FBE77#32 * v + K 0x3A83126F#32 * (g * g)
def step (w g m v : EReal) : EReal :=
  K 0xBA83126F#32 * (Ideal.div (Ideal.div (nm g m) (K 0x3F26BD02#32))
    (Ideal.sqrt (Ideal.div (nv g v) (K 0x3C231ACC#32)) + K 0x322BCC77#32) + K 0x3C23D70A#32 * w)

section
variable {s : Shape}
def NM (g m : FVec Ideal s .f32) : FVec Ideal s .f32 := fun i => nm (g i) (m i)
def NV (g v : FVec Ideal s .f32) : FVec Ideal s .f32 := fun i => nv (g i) (v i)
def STEP (w g m v : FVec Ideal s .f32) : FVec Ideal s .f32 := fun i => step (w i) (g i) (m i) (v i)
end

section
open Cert.AdamIdeal Cert.AdamIdeal.Gen

variable (m : (ℓ : Loc nD τ sig) → Buf (Elt Ideal) ℓ) (c : Dev nD)

/-- Row `r` of point `t`'s block. -/
def row (t : Fin cfg0.N) (r : Fin 128) : Fin 1024 := ⟨128 * t.val + r.val, by have : t.val < 8 := t.isLt; omega⟩

/-- The parameter, its gradient and its two running means. -/
def a0 : Vec Ideal S1024x1536 .f32 := m ((c : Thread nD τ).loc main_arg0)
def a1 : Vec Ideal S1024x1536 .f32 := m ((c : Thread nD τ).loc main_arg1)
def a2 : Vec Ideal S1024x1536 .f32 := m ((c : Thread nD τ).loc main_arg2)
def a3 : Vec Ideal S1024x1536 .f32 := m ((c : Thread nD τ).loc main_arg3)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel

variable (t : Fin cfg0.N)

theorem blk0 (r : Fin 128) (C : Fin 1536) : (iblk m c 0 t : Vec Ideal S128x1536 .f32) (ix2 r C) = a0 m c (ix2 (row t r) C) := by
  blk_ext [iblk, V, row, idx0 t] <;> omega
theorem blk1 (r : Fin 128) (C : Fin 1536) : (iblk m c 1 t : Vec Ideal S128x1536 .f32) (ix2 r C) = a1 m c (ix2 (row t r) C) := by
  blk_ext [iblk, V, row, idx1 t] <;> omega
theorem blk2 (r : Fin 128) (C : Fin 1536) : (iblk m c 2 t : Vec Ideal S128x1536 .f32) (ix2 r C) = a2 m c (ix2 (row t r) C) := by
  blk_ext [iblk, V, row, idx2 t] <;> omega
theorem blk3 (r : Fin 128) (C : Fin 1536) : (iblk m c 3 t : Vec Ideal S128x1536 .f32) (ix2 r C) = a3 m c (ix2 (row t r) C) := by
  blk_ext [iblk, V, row, idx3 t] <;> omega

theorem out4 (r : Fin 128) (C : Fin 1536) : (dats m 0 c).after 4 t (ix2 r C) = (a1 m c) (ix2 (row t r) C) := by
  rw [after0_4, out0_4]
  frame_out
  exact blk1 m c t r C
theorem arr4 : (dats m 0 c).arrAt 4 cfg0.N = a1 m c := by
  refine (dats m 0 c).arrAt_eq_of_covers 4 _ (by decide +kernel) fun t hf y => ?_
  blk_simp
  obtain ⟨r, C, rfl⟩ : ∃ (r : Fin 128) (C : Fin 1536), y = ix2 r C := ⟨y 0, y 1, eq_ix2 (n0 := 128) (n1 := 1536) y⟩
  have e : (win0_4.blk t).view.emb (ix2 r C) = ix2 (row t r) C := by
    funext a; fin_cases a <;> apply Fin.ext <;> simp [row, idx4 t] <;> exact Nat.mul_comm _ _
  exact (out4 m c t r C).trans (congrArg (a1 m c) e).symm
theorem out5 (r : Fin 128) (C : Fin 1536) : (dats m 0 c).after 5 t (ix2 r C) = (STEP (a0 m c) (a1 m c) (a2 m c) (a3 m c)) (ix2 (row t r) C) := by
  rw [after0_5, out0_5]
  frame_out
  exact (by simp only [STEP, ← blk0, ← blk1, ← blk2, ← blk3]; rfl)
theorem arr5 : (dats m 0 c).arrAt 5 cfg0.N = STEP (a0 m c) (a1 m c) (a2 m c) (a3 m c) := by
  refine (dats m 0 c).arrAt_eq_of_covers 5 _ (by decide +kernel) fun t hf y => ?_
  blk_simp
  obtain ⟨r, C, rfl⟩ : ∃ (r : Fin 128) (C : Fin 1536), y = ix2 r C := ⟨y 0, y 1, eq_ix2 (n0 := 128) (n1 := 1536) y⟩
  have e : (win0_5.blk t).view.emb (ix2 r C) = ix2 (row t r) C := by
    funext a; fin_cases a <;> apply Fin.ext <;> simp [row, idx5 t] <;> exact Nat.mul_comm _ _
  exact (out5 m c t r C).trans (congrArg (STEP (a0 m c) (a1 m c) (a2 m c) (a3 m c)) e).symm
theorem out6 (r : Fin 128) (C : Fin 1536) : (dats m 0 c).after 6 t (ix2 r C) = (NM (a1 m c) (a2 m c)) (ix2 (row t r) C) := by
  rw [after0_6, out0_6]
  frame_out
  exact (by simp only [NM, ← blk1, ← blk2]; rfl)
theorem arr6 : (dats m 0 c).arrAt 6 cfg0.N = NM (a1 m c) (a2 m c) := by
  refine (dats m 0 c).arrAt_eq_of_covers 6 _ (by decide +kernel) fun t hf y => ?_
  blk_simp
  obtain ⟨r, C, rfl⟩ : ∃ (r : Fin 128) (C : Fin 1536), y = ix2 r C := ⟨y 0, y 1, eq_ix2 (n0 := 128) (n1 := 1536) y⟩
  have e : (win0_6.blk t).view.emb (ix2 r C) = ix2 (row t r) C := by
    funext a; fin_cases a <;> apply Fin.ext <;> simp [row, idx6 t] <;> exact Nat.mul_comm _ _
  exact (out6 m c t r C).trans (congrArg (NM (a1 m c) (a2 m c)) e).symm
theorem out7 (r : Fin 128) (C : Fin 1536) : (dats m 0 c).after 7 t (ix2 r C) = (NV (a1 m c) (a3 m c)) (ix2 (row t r) C) := by
  rw [after0_7, out0_7]
  frame_out
  exact (by simp only [NV, ← blk1, ← blk3]; rfl)
theorem arr7 : (dats m 0 c).arrAt 7 cfg0.N = NV (a1 m c) (a3 m c) := by
  refine (dats m 0 c).arrAt_eq_of_covers 7 _ (by decide +kernel) fun t hf y => ?_
  blk_simp
  obtain ⟨r, C, rfl⟩ : ∃ (r : Fin 128) (C : Fin 1536), y = ix2 r C := ⟨y 0, y 1, eq_ix2 (n0 := 128) (n1 := 1536) y⟩
  have e : (win0_7.blk t).view.emb (ix2 r C) = ix2 (row t r) C := by
    funext a; fin_cases a <;> apply Fin.ext <;> simp [row, idx7 t] <;> exact Nat.mul_comm _ _
  exact (out7 m c t r C).trans (congrArg (NV (a1 m c) (a3 m c)) e).symm

end

theorem frame_ref : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run m ρ)

/-- The two printings of the launch define the same bodies. -/
theorem defs_eq : @Adam.defs Bits _ _ = @AdamIdeal.defs Bits _ _ := by
  have h : @Adam.defs₀ Bits _ _ = @AdamIdeal.defs₀ Bits _ _ := by
    unfold Adam.defs₀ AdamIdeal.defs₀
    congr 1
    funext l x
    match l, x with
    | 0, (t, s) => rfl
  exact congrArg (Pipeline.defs (Adam.pcfgs (F := Bits))) h

theorem frame : Cert.quiescent_Adam := by
  intro m ρ _
  have h := Cert.AdamIdeal.Gen.frame (F := Bits) m ρ
  have e := defs_eq
  revert h e
  generalize @AdamIdeal.defs Bits _ _ = d
  rintro h rfl
  exact h

theorem algebraic : Cert.algebraic_AdamIdeal_AdamRefIdeal := by
  intro m ρ m' ρ' _ hag
  refine ⟨fun c => (a1 m c : Vec Ideal AdamIdeal.S1024x1536 .f32),
    fun c => (STEP (a0 m c) (a1 m c) (a2 m c) (a3 m c) : Vec Ideal AdamIdeal.S1024x1536 .f32),
    fun c => (NM (a1 m c) (a2 m c) : Vec Ideal AdamIdeal.S1024x1536 .f32),
    fun c => (NV (a1 m c) (a3 m c) : Vec Ideal AdamIdeal.S1024x1536 .f32), ?_, ?_⟩
  · refine (θ_run Cert.AdamIdeal.defs _ _).mono (fun r h c => ?_) (Cert.AdamIdeal.Value.run_blocks m ρ)
    obtain ⟨h0, h1, h2, h3, hk⟩ := h c
    exact ⟨h0.trans (arr4 m c), h1.trans (arr5 m c), h2.trans (arr6 m c), h3.trans (arr7 m c), hk⟩
  · refine (θ_run Cert.AdamRefIdeal.defs _ _).mono (fun r h c => ?_) (Cert.AdamRefIdeal.Value.run m' ρ')
    obtain ⟨h0, h1, h2, h3, hk⟩ := h c
    obtain ⟨e0, e1, e2, e3⟩ := hag c
    refine ⟨h0.trans ?_, h1.trans ?_, h2.trans ?_, h3.trans ?_, hk⟩
    · exact e1
    · rw [e0, e1, e2, e3]; rfl
    · rw [e1, e2]; rfl
    · rw [e1, e3]; rfl

end Cert.AdamEq
-- ==== Proof.SmallOut.lean ====
/-
  The optimiser's call for the small parameters: what its body leaves in each output, as the pieces it stores.
-/
module

public import proofs.«01_k».proof.Proof.Gen.SmallIdeal.Frame.Runs
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.SmallIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev rW0 : Rect S1128x128 := Rect.unit (s := S1128x128) ![1120, 0] S1x1.size inb_S1128x128_S1x1_1120_0
abbrev rW1 : Rect S1x1 := Rect.unit (s := S1x1) ![0, 0] S1x1.size inb_S1x1_S1x1_0_0
abbrev rV1_0 (v : BitVec 32) (h : k0_chk1 v) : Rect S1128x128 := Rect.unit (s := S1128x128) (k0_off1 v 0#32) S1x128.size (k0_off1_inb v h 0)
abbrev rV1_1 (v : BitVec 32) (h : k0_chk1 v) : Rect S1128x128 := Rect.unit (s := S1128x128) (k0_off1 v 1#32) S1x128.size (k0_off1_inb v h 1)
abbrev rV1_2 (v : BitVec 32) (h : k0_chk1 v) : Rect S1128x128 := Rect.unit (s := S1128x128) (k0_off1 v 2#32) S1x128.size (k0_off1_inb v h 2)
abbrev rV1_3 (v : BitVec 32) (h : k0_chk1 v) : Rect S1128x128 := Rect.unit (s := S1128x128) (k0_off1 v 3#32) S1x128.size (k0_off1_inb v h 3)
abbrev rW6 : Rect S1x512 := Rect.unit (s := S1x512) ![0, 0] S1x512.size inb_S1x512_S1x512_0_0
abbrev rV2_0 (v : BitVec 32) (h : k0_chk2 v) : Rect S1128x128 := Rect.unit (s := S1128x128) (k0_off2 v 0#32) S1x128.size (k0_off2_inb v h 0)
abbrev rV2_1 (v : BitVec 32) (h : k0_chk2 v) : Rect S1128x128 := Rect.unit (s := S1128x128) (k0_off2 v 1#32) S1x128.size (k0_off2_inb v h 1)
abbrev rV2_2 (v : BitVec 32) (h : k0_chk2 v) : Rect S1128x128 := Rect.unit (s := S1128x128) (k0_off2 v 2#32) S1x128.size (k0_off2_inb v h 2)
abbrev rV2_3 (v : BitVec 32) (h : k0_chk2 v) : Rect S1128x128 := Rect.unit (s := S1128x128) (k0_off2 v 3#32) S1x128.size (k0_off2_inb v h 3)
abbrev rW11 : Rect S1128x128 := Rect.unit (s := S1128x128) ![0, 0] S1024x128.size inb_S1128x128_S1024x128_0_0
abbrev rW12 : Rect S1024x128 := Rect.unit (s := S1024x128) ![0, 0] S1024x128.size inb_S1024x128_S1024x128_0_0
abbrev rW13 : Rect S1128x128 := Rect.unit (s := S1128x128) ![1024, 0] S8x128.size inb_S1128x128_S8x128_1024_0
abbrev rW14 : Rect S8x128 := Rect.unit (s := S8x128) ![0, 0] S8x128.size inb_S8x128_S8x128_0_0
abbrev rW15 : Rect S1128x128 := Rect.unit (s := S1128x128) ![1032, 0] S1x16.size inb_S1128x128_S1x16_1032_0
abbrev rW16 : Rect S1x16 := Rect.unit (s := S1x16) ![0, 0] S1x16.size inb_S1x16_S1x16_0_0
abbrev rW17 : Rect S1128x128 := Rect.unit (s := S1128x128) ![1040, 0] S16x32.size inb_S1128x128_S16x32_1040_0
abbrev rW18 : Rect S16x32 := Rect.unit (s := S16x32) ![0, 0] S16x32.size inb_S16x32_S16x32_0_0
abbrev rW19 : Rect S1128x128 := Rect.unit (s := S1128x128) ![1056, 0] S1x128.size inb_S1128x128_S1x128_1056_0
abbrev rW20 : Rect S1128x128 := Rect.unit (s := S1128x128) ![1057, 0] S1x128.size inb_S1128x128_S1x128_1057_0
abbrev rW21 : Rect S1128x128 := Rect.unit (s := S1128x128) ![1058, 0] S1x128.size inb_S1128x128_S1x128_1058_0
abbrev rW22 : Rect S1128x128 := Rect.unit (s := S1128x128) ![1059, 0] S1x128.size inb_S1128x128_S1x128_1059_0
abbrev rW23 : Rect S1128x128 := Rect.unit (s := S1128x128) ![1060, 0] S1x128.size inb_S1128x128_S1x128_1060_0
abbrev rW24 : Rect S1128x128 := Rect.unit (s := S1128x128) ![1061, 0] S1x128.size inb_S1128x128_S1x128_1061_0
abbrev rW25 : Rect S1128x128 := Rect.unit (s := S1128x128) ![1062, 0] S1x128.size inb_S1128x128_S1x128_1062_0
abbrev rW26 : Rect S1128x128 := Rect.unit (s := S1128x128) ![1063, 0] S1x128.size inb_S1128x128_S1x128_1063_0
abbrev rW27 : Rect S1128x128 := Rect.unit (s := S1128x128) ![1064, 0] S1x128.size inb_S1128x128_S1x128_1064_0
abbrev rW28 : Rect S1128x128 := Rect.unit (s := S1128x128) ![1065, 0] S1x128.size inb_S1128x128_S1x128_1065_0
abbrev rW29 : Rect S1128x128 := Rect.unit (s := S1128x128) ![1066, 0] S1x128.size inb_S1128x128_S1x128_1066_0
abbrev rW30 : Rect S1128x128 := Rect.unit (s := S1128x128) ![1067, 0] S1x128.size inb_S1128x128_S1x128_1067_0
abbrev rW31 : Rect S1128x128 := Rect.unit (s := S1128x128) ![1068, 0] S1x128.size inb_S1128x128_S1x128_1068_0
abbrev rW32 : Rect S1128x128 := Rect.unit (s := S1128x128) ![1069, 0] S1x128.size inb_S1128x128_S1x128_1069_0
abbrev rW33 : Rect S1128x128 := Rect.unit (s := S1128x128) ![1070, 0] S1x128.size inb_S1128x128_S1x128_1070_0
abbrev rW34 : Rect S1128x128 := Rect.unit (s := S1128x128) ![1071, 0] S1x128.size inb_S1128x128_S1x128_1071_0
abbrev rW35 : Rect S2x1024 := Rect.unit (s := S2x1024) ![0, 0] S1x1024.size inb_S2x1024_S1x1024_0_0
abbrev rW36 : Rect S2x1024 := Rect.unit (s := S2x1024) ![1, 0] S1x1024.size inb_S2x1024_S1x1024_1_0
abbrev rW37 : Rect S1128x128 := Rect.unit (s := S1128x128) ![1072, 0] S1x128.size inb_S1128x128_S1x128_1072_0
abbrev rW38 : Rect S1128x128 := Rect.unit (s := S1128x128) ![1073, 0] S1x128.size inb_S1128x128_S1x128_1073_0
abbrev rW39 : Rect S1128x128 := Rect.unit (s := S1128x128) ![1074, 0] S1x128.size inb_S1128x128_S1x128_1074_0
abbrev rW40 : Rect S1128x128 := Rect.unit (s := S1128x128) ![1075, 0] S1x128.size inb_S1128x128_S1x128_1075_0
abbrev rW41 : Rect S1128x128 := Rect.unit (s := S1128x128) ![1076, 0] S1x128.size inb_S1128x128_S1x128_1076_0
abbrev rW42 : Rect S1128x128 := Rect.unit (s := S1128x128) ![1077, 0] S1x128.size inb_S1128x128_S1x128_1077_0
abbrev rW43 : Rect S1128x128 := Rect.unit (s := S1128x128) ![1078, 0] S1x128.size inb_S1128x128_S1x128_1078_0
abbrev rW44 : Rect S1128x128 := Rect.unit (s := S1128x128) ![1079, 0] S1x128.size inb_S1128x128_S1x128_1079_0
abbrev rW45 : Rect S1128x128 := Rect.unit (s := S1128x128) ![1080, 0] S1x128.size inb_S1128x128_S1x128_1080_0
abbrev rW46 : Rect S1128x128 := Rect.unit (s := S1128x128) ![1081, 0] S1x128.size inb_S1128x128_S1x128_1081_0
abbrev rW47 : Rect S1128x128 := Rect.unit (s := S1128x128) ![1082, 0] S1x128.size inb_S1128x128_S1x128_1082_0
abbrev rW48 : Rect S1128x128 := Rect.unit (s := S1128x128) ![1083, 0] S1x128.size inb_S1128x128_S1x128_1083_0
abbrev rW49 : Rect S1128x128 := Rect.unit (s := S1128x128) ![1084, 0] S1x128.size inb_S1128x128_S1x128_1084_0
abbrev rW50 : Rect S1128x128 := Rect.unit (s := S1128x128) ![1085, 0] S1x128.size inb_S1128x128_S1x128_1085_0
abbrev rW51 : Rect S1128x128 := Rect.unit (s := S1128x128) ![1086, 0] S1x128.size inb_S1128x128_S1x128_1086_0
abbrev rW52 : Rect S1128x128 := Rect.unit (s := S1128x128) ![1087, 0] S1x128.size inb_S1128x128_S1x128_1087_0

/-- The word that the body reads. -/
def wrd (x1 : Vec F S1 .i32) : BitVec 32 := View.ld x1 (Rect.unit (s := S1) ![0] S1.size inb_S1_S1_0) (Shape.Idx.first (numel1_S1.symm ▸ Nat.one_pos))

def out26 (v : BitVec 32) (h : k0_chk1 v) (x0 : Vec F S1128x128 .f32) : Vec F S1x512 .f32 :=
  View.canon [⟨rW6, (k0_pay1 (View.ld x0 (rV1_0 v h)) (View.ld x0 (rV1_1 v h)) (View.ld x0 (rV1_2 v h)) (View.ld x0 (rV1_3 v h)))⟩]
def out27 (v : BitVec 32) (h : k0_chk1 v) (x0 : Vec F S1128x128 .f32) (x2 : Vec F S1x512 .f32) (x3 : Vec F S1x512 .f32) (x4 : Vec F S1x512 .f32) : Vec F S1x512 .f32 :=
  View.canon [⟨rW6, (k0_pay5 (k0_pay1 (View.ld x0 (rV1_0 v h)) (View.ld x0 (rV1_1 v h)) (View.ld x0 (rV1_2 v h)) (View.ld x0 (rV1_3 v h))) (View.ld x2 rW6) (View.ld x4 rW6) (k0_pay2 (View.ld x3 rW6)) (Scalar.ofBits .f32 0x3DCCCCCD#32))⟩]
def out28 (v : BitVec 32) (h : k0_chk1 v) (x0 : Vec F S1128x128 .f32) (x3 : Vec F S1x512 .f32) : Vec F S1x512 .f32 :=
  View.canon [⟨rW6, (k0_pay3 (k0_pay1 (View.ld x0 (rV1_0 v h)) (View.ld x0 (rV1_1 v h)) (View.ld x0 (rV1_2 v h)) (View.ld x0 (rV1_3 v h))) (k0_pay2 (View.ld x3 rW6)) (Scalar.ofBits .f32 0x3DCCCCCD#32))⟩]
def out29 (v : BitVec 32) (h : k0_chk1 v) (x0 : Vec F S1128x128 .f32) (x4 : Vec F S1x512 .f32) : Vec F S1x512 .f32 :=
  View.canon [⟨rW6, (k0_pay4 (k0_pay1 (View.ld x0 (rV1_0 v h)) (View.ld x0 (rV1_1 v h)) (View.ld x0 (rV1_2 v h)) (View.ld x0 (rV1_3 v h))) (View.ld x4 rW6))⟩]
def out30 (v : BitVec 32) (h : k0_chk2 v) (x0 : Vec F S1128x128 .f32) : Vec F S1x512 .f32 :=
  View.canon [⟨rW6, (k0_pay6 (View.ld x0 (rV2_0 v h)) (View.ld x0 (rV2_1 v h)) (View.ld x0 (rV2_2 v h)) (View.ld x0 (rV2_3 v h)))⟩]
def out31 (v : BitVec 32) (h : k0_chk2 v) (x0 : Vec F S1128x128 .f32) (x5 : Vec F S1x512 .f32) (x6 : Vec F S1x512 .f32) (x7 : Vec F S1x512 .f32) : Vec F S1x512 .f32 :=
  View.canon [⟨rW6, (k0_pay10 (k0_pay9 (View.ld x0 (rV2_0 v h)) (View.ld x0 (rV2_1 v h)) (View.ld x0 (rV2_2 v h)) (View.ld x0 (rV2_3 v h)) (View.ld x5 rW6) (View.ld x6 rW6) (View.ld x7 rW6)))⟩]
def out32 (v : BitVec 32) (h : k0_chk2 v) (x0 : Vec F S1128x128 .f32) (x6 : Vec F S1x512 .f32) : Vec F S1x512 .f32 :=
  View.canon [⟨rW6, (k0_pay7 (View.ld x0 (rV2_0 v h)) (View.ld x0 (rV2_1 v h)) (View.ld x0 (rV2_2 v h)) (View.ld x0 (rV2_3 v h)) (View.ld x6 rW6))⟩]
def out33 (v : BitVec 32) (h : k0_chk2 v) (x0 : Vec F S1128x128 .f32) (x7 : Vec F S1x512 .f32) : Vec F S1x512 .f32 :=
  View.canon [⟨rW6, (k0_pay8 (View.ld x0 (rV2_0 v h)) (View.ld x0 (rV2_1 v h)) (View.ld x0 (rV2_2 v h)) (View.ld x0 (rV2_3 v h)) (View.ld x7 rW6))⟩]
def out34 (x0 : Vec F S1128x128 .f32) : Vec F S1024x128 .f32 :=
  View.canon [⟨rW12, (View.ld x0 rW11)⟩]
def out35 (x0 : Vec F S1128x128 .f32) (x8 : Vec F S1024x128 .f32) (x9 : Vec F S1024x128 .f32) (x10 : Vec F S1024x128 .f32) : Vec F S1024x128 .f32 :=
  View.canon [⟨rW12, (k0_pay15 (k0_pay13 (View.ld x0 rW11) (View.ld x9 rW12) (View.ld x10 rW12)) (k0_pay14 (View.ld x8 rW12)))⟩]
def out36 (x0 : Vec F S1128x128 .f32) (x9 : Vec F S1024x128 .f32) : Vec F S1024x128 .f32 :=
  View.canon [⟨rW12, (k0_pay11 (View.ld x0 rW11) (View.ld x9 rW12))⟩]
def out37 (x0 : Vec F S1128x128 .f32) (x10 : Vec F S1024x128 .f32) : Vec F S1024x128 .f32 :=
  View.canon [⟨rW12, (k0_pay12 (View.ld x0 rW11) (View.ld x10 rW12))⟩]
def out38 (x0 : Vec F S1128x128 .f32) : Vec F S8x128 .f32 :=
  View.canon [⟨rW14, (View.ld x0 rW13)⟩]
def out39 (x0 : Vec F S1128x128 .f32) (x11 : Vec F S8x128 .f32) (x12 : Vec F S8x128 .f32) (x13 : Vec F S8x128 .f32) : Vec F S8x128 .f32 :=
  View.canon [⟨rW14, (k0_pay20 (View.ld x11 rW14) (k0_pay18 (View.ld x0 rW13) (View.ld x12 rW14) (View.ld x13 rW14)) (k0_pay19 (F := F)))⟩]
def out40 (x0 : Vec F S1128x128 .f32) (x12 : Vec F S8x128 .f32) : Vec F S8x128 .f32 :=
  View.canon [⟨rW14, (k0_pay16 (View.ld x0 rW13) (View.ld x12 rW14))⟩]
def out41 (x0 : Vec F S1128x128 .f32) (x13 : Vec F S8x128 .f32) : Vec F S8x128 .f32 :=
  View.canon [⟨rW14, (k0_pay17 (View.ld x0 rW13) (View.ld x13 rW14))⟩]
def out42 (x0 : Vec F S1128x128 .f32) : Vec F S1x16 .f32 :=
  View.canon [⟨rW16, (View.ld x0 rW15)⟩]
def out43 (x0 : Vec F S1128x128 .f32) (x14 : Vec F S1x16 .f32) (x15 : Vec F S1x16 .f32) (x16 : Vec F S1x16 .f32) : Vec F S1x16 .f32 :=
  View.canon [⟨rW16, (k0_pay24 (View.ld x14 rW16) (k0_pay23 (View.ld x0 rW15) (View.ld x15 rW16) (View.ld x16 rW16)) (Scalar.ofBits .f32 0x3C23D70A#32))⟩]
def out44 (x0 : Vec F S1128x128 .f32) (x15 : Vec F S1x16 .f32) : Vec F S1x16 .f32 :=
  View.canon [⟨rW16, (k0_pay21 (View.ld x0 rW15) (View.ld x15 rW16))⟩]
def out45 (x0 : Vec F S1128x128 .f32) (x16 : Vec F S1x16 .f32) : Vec F S1x16 .f32 :=
  View.canon [⟨rW16, (k0_pay22 (View.ld x0 rW15) (View.ld x16 rW16))⟩]
def out46 (x0 : Vec F S1128x128 .f32) : Vec F S16x32 .f32 :=
  View.canon [⟨rW18, (View.ld x0 rW17)⟩]
def out47 (x0 : Vec F S1128x128 .f32) (x17 : Vec F S16x32 .f32) (x18 : Vec F S16x32 .f32) (x19 : Vec F S16x32 .f32) : Vec F S16x32 .f32 :=
  View.canon [⟨rW18, (k0_pay28 (View.ld x17 rW18) (k0_pay27 (View.ld x0 rW17) (View.ld x18 rW18) (View.ld x19 rW18)))⟩]
def out48 (x0 : Vec F S1128x128 .f32) (x18 : Vec F S16x32 .f32) : Vec F S16x32 .f32 :=
  View.canon [⟨rW18, (k0_pay25 (View.ld x0 rW17) (View.ld x18 rW18))⟩]
def out49 (x0 : Vec F S1128x128 .f32) (x19 : Vec F S16x32 .f32) : Vec F S16x32 .f32 :=
  View.canon [⟨rW18, (k0_pay26 (View.ld x0 rW17) (View.ld x19 rW18))⟩]
def out50 (x0 : Vec F S1128x128 .f32) : Vec F S2x1024 .f32 :=
  View.canon [⟨rW36, (k0_pay30 (View.ld x0 rW27) (View.ld x0 rW28) (View.ld x0 rW29) (View.ld x0 rW30) (View.ld x0 rW31) (View.ld x0 rW32) (View.ld x0 rW33) (View.ld x0 rW34))⟩, ⟨rW35, (k0_pay29 (View.ld x0 rW19) (View.ld x0 rW20) (View.ld x0 rW21) (View.ld x0 rW22) (View.ld x0 rW23) (View.ld x0 rW24) (View.ld x0 rW25) (View.ld x0 rW26))⟩]
def out51 (x0 : Vec F S1128x128 .f32) (x20 : Vec F S2x1024 .f32) (x21 : Vec F S2x1024 .f32) (x22 : Vec F S2x1024 .f32) : Vec F S2x1024 .f32 :=
  View.canon [⟨rW36, (k0_pay36 (k0_pay30 (View.ld x0 rW27) (View.ld x0 rW28) (View.ld x0 rW29) (View.ld x0 rW30) (View.ld x0 rW31) (View.ld x0 rW32) (View.ld x0 rW33) (View.ld x0 rW34)) (View.ld x20 rW36) (View.ld x21 rW36) (View.ld x22 rW36))⟩, ⟨rW35, (k0_pay33 (k0_pay29 (View.ld x0 rW19) (View.ld x0 rW20) (View.ld x0 rW21) (View.ld x0 rW22) (View.ld x0 rW23) (View.ld x0 rW24) (View.ld x0 rW25) (View.ld x0 rW26)) (View.ld x20 rW35) (View.ld x21 rW35) (View.ld x22 rW35))⟩]
def out52 (x0 : Vec F S1128x128 .f32) (x21 : Vec F S2x1024 .f32) : Vec F S2x1024 .f32 :=
  View.canon [⟨rW36, (k0_pay34 (k0_pay30 (View.ld x0 rW27) (View.ld x0 rW28) (View.ld x0 rW29) (View.ld x0 rW30) (View.ld x0 rW31) (View.ld x0 rW32) (View.ld x0 rW33) (View.ld x0 rW34)) (View.ld x21 rW36))⟩, ⟨rW35, (k0_pay31 (k0_pay29 (View.ld x0 rW19) (View.ld x0 rW20) (View.ld x0 rW21) (View.ld x0 rW22) (View.ld x0 rW23) (View.ld x0 rW24) (View.ld x0 rW25) (View.ld x0 rW26)) (View.ld x21 rW35))⟩]
def out53 (x0 : Vec F S1128x128 .f32) (x22 : Vec F S2x1024 .f32) : Vec F S2x1024 .f32 :=
  View.canon [⟨rW36, (k0_pay35 (k0_pay30 (View.ld x0 rW27) (View.ld x0 rW28) (View.ld x0 rW29) (View.ld x0 rW30) (View.ld x0 rW31) (View.ld x0 rW32) (View.ld x0 rW33) (View.ld x0 rW34)) (View.ld x22 rW36))⟩, ⟨rW35, (k0_pay32 (k0_pay29 (View.ld x0 rW19) (View.ld x0 rW20) (View.ld x0 rW21) (View.ld x0 rW22) (View.ld x0 rW23) (View.ld x0 rW24) (View.ld x0 rW25) (View.ld x0 rW26)) (View.ld x22 rW35))⟩]
def out54 (x0 : Vec F S1128x128 .f32) : Vec F S2x1024 .f32 :=
  View.canon [⟨rW36, (k0_pay38 (View.ld x0 rW45) (View.ld x0 rW46) (View.ld x0 rW47) (View.ld x0 rW48) (View.ld x0 rW49) (View.ld x0 rW50) (View.ld x0 rW51) (View.ld x0 rW52))⟩, ⟨rW35, (k0_pay37 (View.ld x0 rW37) (View.ld x0 rW38) (View.ld x0 rW39) (View.ld x0 rW40) (View.ld x0 rW41) (View.ld x0 rW42) (View.ld x0 rW43) (View.ld x0 rW44))⟩]
def out55 (x0 : Vec F S1128x128 .f32) (x23 : Vec F S2x1024 .f32) (x24 : Vec F S2x1024 .f32) (x25 : Vec F S2x1024 .f32) : Vec F S2x1024 .f32 :=
  View.canon [⟨rW36, (k0_pay44 (k0_pay38 (View.ld x0 rW45) (View.ld x0 rW46) (View.ld x0 rW47) (View.ld x0 rW48) (View.ld x0 rW49) (View.ld x0 rW50) (View.ld x0 rW51) (View.ld x0 rW52)) (View.ld x23 rW36) (View.ld x24 rW36) (View.ld x25 rW36))⟩, ⟨rW35, (k0_pay41 (k0_pay37 (View.ld x0 rW37) (View.ld x0 rW38) (View.ld x0 rW39) (View.ld x0 rW40) (View.ld x0 rW41) (View.ld x0 rW42) (View.ld x0 rW43) (View.ld x0 rW44)) (View.ld x23 rW35) (View.ld x24 rW35) (View.ld x25 rW35))⟩]
def out56 (x0 : Vec F S1128x128 .f32) (x24 : Vec F S2x1024 .f32) : Vec F S2x1024 .f32 :=
  View.canon [⟨rW36, (k0_pay42 (k0_pay38 (View.ld x0 rW45) (View.ld x0 rW46) (View.ld x0 rW47) (View.ld x0 rW48) (View.ld x0 rW49) (View.ld x0 rW50) (View.ld x0 rW51) (View.ld x0 rW52)) (View.ld x24 rW36))⟩, ⟨rW35, (k0_pay39 (k0_pay37 (View.ld x0 rW37) (View.ld x0 rW38) (View.ld x0 rW39) (View.ld x0 rW40) (View.ld x0 rW41) (View.ld x0 rW42) (View.ld x0 rW43) (View.ld x0 rW44)) (View.ld x24 rW35))⟩]
def out57 (x0 : Vec F S1128x128 .f32) (x25 : Vec F S2x1024 .f32) : Vec F S2x1024 .f32 :=
  View.canon [⟨rW36, (k0_pay43 (k0_pay38 (View.ld x0 rW45) (View.ld x0 rW46) (View.ld x0 rW47) (View.ld x0 rW48) (View.ld x0 rW49) (View.ld x0 rW50) (View.ld x0 rW51) (View.ld x0 rW52)) (View.ld x25 rW36))⟩, ⟨rW35, (k0_pay40 (k0_pay37 (View.ld x0 rW37) (View.ld x0 rW38) (View.ld x0 rW39) (View.ld x0 rW40) (View.ld x0 rW41) (View.ld x0 rW42) (View.ld x0 rW43) (View.ld x0 rW44)) (View.ld x25 rW35))⟩]
def out58 (x0 : Vec F S1128x128 .f32) : Vec F S1x1 .f32 :=
  View.canon [⟨rW1, (View.ld x0 rW0)⟩]
theorem coverS1x512 (p0 : Vec F S1x512 .f32) (y : S1x512.Idx) :
    ∃ pc ∈ ([⟨rW6, p0⟩] : List (View.Piece (Elt F) S1x512 .f32)), y ∈ pc.1.set :=
  View.cover_of_tiled [⟨rW6, p0⟩] S1x512.size (by rfl) y
theorem coverS1024x128 (p0 : Vec F S1024x128 .f32) (y : S1024x128.Idx) :
    ∃ pc ∈ ([⟨rW12, p0⟩] : List (View.Piece (Elt F) S1024x128 .f32)), y ∈ pc.1.set :=
  View.cover_of_tiled [⟨rW12, p0⟩] S1024x128.size (by rfl) y
theorem coverS8x128 (p0 : Vec F S8x128 .f32) (y : S8x128.Idx) :
    ∃ pc ∈ ([⟨rW14, p0⟩] : List (View.Piece (Elt F) S8x128 .f32)), y ∈ pc.1.set :=
  View.cover_of_tiled [⟨rW14, p0⟩] S8x128.size (by rfl) y
theorem coverS1x16 (p0 : Vec F S1x16 .f32) (y : S1x16.Idx) :
    ∃ pc ∈ ([⟨rW16, p0⟩] : List (View.Piece (Elt F) S1x16 .f32)), y ∈ pc.1.set :=
  View.cover_of_tiled [⟨rW16, p0⟩] S1x16.size (by rfl) y
theorem coverS16x32 (p0 : Vec F S16x32 .f32) (y : S16x32.Idx) :
    ∃ pc ∈ ([⟨rW18, p0⟩] : List (View.Piece (Elt F) S16x32 .f32)), y ∈ pc.1.set :=
  View.cover_of_tiled [⟨rW18, p0⟩] S16x32.size (by rfl) y
theorem coverS2x1024 (p0 : Vec F S1x1024 .f32) (p1 : Vec F S1x1024 .f32) (y : S2x1024.Idx) :
    ∃ pc ∈ ([⟨rW36, p0⟩, ⟨rW35, p1⟩] : List (View.Piece (Elt F) S2x1024 .f32)), y ∈ pc.1.set :=
  View.cover_of_tiled [⟨rW36, p0⟩, ⟨rW35, p1⟩] S1x1024.size (by rfl) y
theorem coverS1x1 (p0 : Vec F S1x1 .f32) (y : S1x1.Idx) :
    ∃ pc ∈ ([⟨rW1, p0⟩] : List (View.Piece (Elt F) S1x1 .f32)), y ∈ pc.1.set :=
  View.cover_of_tiled [⟨rW1, p0⟩] S1x1.size (by rfl) y

end Cert.SmallIdeal.Gen

end
-- ==== Proof.SmallHyps.lean ====
/-
  The optimiser's call for the small parameters: the word that says which shard the device holds is zero.
-/
module

public import proofs.«01_k».proof.Proof.Gen.SmallIdeal.Frame.Runs
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384
set_option maxHeartbeats 4000000

noncomputable section

namespace Cert.SmallHyps

open Cert.SmallIdeal Cert.SmallIdeal.Gen Idealize.ShloMosaic Idealize.ShloMosaic.TcCoe Idealize.SL.Sem

variable {F : FTy → Type} [FloatOps F]
variable (m : (ℓ : Loc nD τ sig) → Buf (Elt F) ℓ) (c : Dev nD)

/-- The word as the launch finds it. -/
theorem host_word : (V m c main_v0 : Vec F S1 .i32) = fun _ => 0#32 := by
  show StableHlo.after hostOps0 _ _ = _
  after_results_simp
  rfl

theorem chk1 : k0_chk1 0#32 := by unfold k0_chk1; decide +kernel
theorem chk2 : k0_chk2 0#32 := by unfold k0_chk2; decide +kernel

end Cert.SmallHyps
-- ==== Proof.SmallVal.lean ====
/-
  The optimiser's call for the small parameters: each output as a function of the arrays. The gradient of a parameter is
  read off the packed sum, and the update of AdamEq is made of it element by element.
-/
module

public import proofs.«01_k».proof.Proof.SmallOut
public import proofs.«01_k».proof.Proof.SmallHyps
public import proofs.«01_k».proof.Proof.AdamEq
public import proofs.«01_k».proof.Proof.Gen.SmallRefIdeal.Run
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384
set_option maxHeartbeats 4000000

noncomputable section

namespace Cert.SmallVal

open Cert.SmallIdeal Cert.SmallIdeal.Gen Idealize.ShloMosaic Idealize.ShloMosaic.TcCoe Idealize.SL.Sem
open Cert.AdamEq (NM NV STEP)

/-- One row of the packed sum. -/
def prow (X : Vec Ideal S1128x128 .f32) (b : ℕ) (h : b < 1128) : Vec Ideal S1x128 .f32 :=
  fun i => X (ix2 ⟨b, h⟩ ⟨(i 1).val, (i 1).isLt⟩)

theorem ldrow (X : Vec Ideal S1128x128 .f32) (off : Fin 2 → ℕ) (b : ℕ) (hb : b < 1128) (h0 : off 0 = b) (h1 : off 1 = 0)
    (inb) : (View.ld X (Rect.unit (s := S1128x128) off S1x128.size inb) : Vec Ideal S1x128 .f32) = prow X b hb :=
  funext fun i => View.ld_unit_apply_of X _ _ _ i _ (by
    have hi : (i 0).val < 1 := (i 0).isLt
    have hi0 : (i 0).val = 0 := by omega
    intro a; fin_cases a
    · show b = off 0 + (i 0).val
      rw [h0, hi0]; rfl
    · show (i 1).val = off 1 + (i 1).val
      rw [h1]; omega)

theorem cat4 (f : Fin 4 → S1x128.Idx → EReal) :
    concatenate S1x512 1 [⟨S1x128, f 0⟩, ⟨S1x128, f 1⟩, ⟨S1x128, f 2⟩, ⟨S1x128, f 3⟩] concatenates_S1x128_S1x128_S1x128_S1x128_S1x512_d1
      = fun j => f ⟨(j 1).val / 128, by have : (j 1).val < 512 := (j 1).isLt; omega⟩ (ix2 0 ⟨(j 1).val % 128, by omega⟩) :=
  funext fun j => concatenate_ofFn_apply 1 f concatenates_S1x128_S1x128_S1x128_S1x128_S1x512_d1 rfl 128 rfl j _ rfl _ rfl (fun b hb => by
    have h0 : (j 0).val < 1 := (j 0).isLt
    fin_cases b
    · show 0 = (j 0).val
      omega
    · exact absurd rfl hb)

theorem cat8 (f : Fin 8 → S1x128.Idx → EReal) :
    concatenate S1x1024 1 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩]
        concatenates_S1x128_S1x128_S1x128_S1x128_S1x128_S1x128_S1x128_S1x128_S1x1024_d1
      = fun j => f ⟨(j 1).val / 128, by have : (j 1).val < 1024 := (j 1).isLt; omega⟩ (ix2 0 ⟨(j 1).val % 128, by omega⟩) :=
  funext fun j => concatenate_ofFn_apply 1 f concatenates_S1x128_S1x128_S1x128_S1x128_S1x128_S1x128_S1x128_S1x128_S1x1024_d1 rfl 128 rfl j _ rfl _ rfl (fun b hb => by
    have h0 : (j 0).val < 1 := (j 0).isLt
    fin_cases b
    · show 0 = (j 0).val
      omega
    · exact absurd rfl hb)

/-- The gradient of parameter 0, in the packed sum. -/
def G0 (X : Vec Ideal S1128x128 .f32) : Vec Ideal S1x512 .f32 :=
  fun j => X (ix2 ⟨1088 + (j 1).val / 128, by have h0 : (j 0).val < 1 := (j 0).isLt; have h1 : (j 1).val < 512 := (j 1).isLt; omega⟩ ⟨(j 1).val % 128, by have h0 : (j 0).val < 1 := (j 0).isLt; have h1 : (j 1).val < 512 := (j 1).isLt; omega⟩)

theorem hG0 (x0 : Vec Ideal S1128x128 .f32) : (concatenate S1x512 1 [⟨S1x128, (View.ld x0 (rV1_0 0#32 SmallHyps.chk1) : Vec Ideal S1x128 .f32)⟩, ⟨S1x128, (View.ld x0 (rV1_1 0#32 SmallHyps.chk1) : Vec Ideal S1x128 .f32)⟩, ⟨S1x128, (View.ld x0 (rV1_2 0#32 SmallHyps.chk1) : Vec Ideal S1x128 .f32)⟩, ⟨S1x128, (View.ld x0 (rV1_3 0#32 SmallHyps.chk1) : Vec Ideal S1x128 .f32)⟩] concatenates_S1x128_S1x128_S1x128_S1x128_S1x512_d1 : Vec Ideal S1x512 .f32) = G0 x0 := by
  rw [show (View.ld x0 (rV1_0 0#32 SmallHyps.chk1) : Vec Ideal S1x128 .f32) = prow x0 1088 (by decide) from ldrow x0 _ _ _ (by decide +kernel) (by decide +kernel) _]
  rw [show (View.ld x0 (rV1_1 0#32 SmallHyps.chk1) : Vec Ideal S1x128 .f32) = prow x0 1089 (by decide) from ldrow x0 _ _ _ (by decide +kernel) (by decide +kernel) _]
  rw [show (View.ld x0 (rV1_2 0#32 SmallHyps.chk1) : Vec Ideal S1x128 .f32) = prow x0 1090 (by decide) from ldrow x0 _ _ _ (by decide +kernel) (by decide +kernel) _]
  rw [show (View.ld x0 (rV1_3 0#32 SmallHyps.chk1) : Vec Ideal S1x128 .f32) = prow x0 1091 (by decide) from ldrow x0 _ _ _ (by decide +kernel) (by decide +kernel) _]
  exact cat4 fun n : Fin 4 => prow x0 (1088 + n.val) (by omega)

theorem val26 (x0 : Vec Ideal S1128x128 .f32) : out26 0#32 SmallHyps.chk1 x0 = G0 x0 := by
  refine (View.canon_cons_unit_lit _ _ _ (by decide)).trans ?_
  show (concatenate S1x512 1 [⟨S1x128, View.ld x0 (rV1_0 0#32 SmallHyps.chk1)⟩, ⟨S1x128, View.ld x0 (rV1_1 0#32 SmallHyps.chk1)⟩, ⟨S1x128, View.ld x0 (rV1_2 0#32 SmallHyps.chk1)⟩, ⟨S1x128, View.ld x0 (rV1_3 0#32 SmallHyps.chk1)⟩] concatenates_S1x128_S1x128_S1x128_S1x128_S1x512_d1) = _
  rw [hG0]

theorem val27 (x0 : Vec Ideal S1128x128 .f32) (x2 : Vec Ideal S1x512 .f32) (x3 : Vec Ideal S1x512 .f32) (x4 : Vec Ideal S1x512 .f32) : out27 0#32 SmallHyps.chk1 x0 x2 x3 x4 = STEP x2 (G0 x0) x3 x4 := by
  refine (View.canon_cons_unit_lit _ _ _ (by decide)).trans ?_
  show STEP (View.ld x2 rW6) (concatenate S1x512 1 [⟨S1x128, View.ld x0 (rV1_0 0#32 SmallHyps.chk1)⟩, ⟨S1x128, View.ld x0 (rV1_1 0#32 SmallHyps.chk1)⟩, ⟨S1x128, View.ld x0 (rV1_2 0#32 SmallHyps.chk1)⟩, ⟨S1x128, View.ld x0 (rV1_3 0#32 SmallHyps.chk1)⟩] concatenates_S1x128_S1x128_S1x128_S1x128_S1x512_d1) (View.ld x3 rW6) (View.ld x4 rW6) = _
  rw [hG0, show (View.ld x2 rW6 : Vec Ideal S1x512 .f32) = x2 from View.ld_unit_lit _ _ (by decide), show (View.ld x3 rW6 : Vec Ideal S1x512 .f32) = x3 from View.ld_unit_lit _ _ (by decide), show (View.ld x4 rW6 : Vec Ideal S1x512 .f32) = x4 from View.ld_unit_lit _ _ (by decide)]

theorem val28 (x0 : Vec Ideal S1128x128 .f32) (x3 : Vec Ideal S1x512 .f32) : out28 0#32 SmallHyps.chk1 x0 x3 = NM (G0 x0) x3 := by
  refine (View.canon_cons_unit_lit _ _ _ (by decide)).trans ?_
  show NM (concatenate S1x512 1 [⟨S1x128, View.ld x0 (rV1_0 0#32 SmallHyps.chk1)⟩, ⟨S1x128, View.ld x0 (rV1_1 0#32 SmallHyps.chk1)⟩, ⟨S1x128, View.ld x0 (rV1_2 0#32 SmallHyps.chk1)⟩, ⟨S1x128, View.ld x0 (rV1_3 0#32 SmallHyps.chk1)⟩] concatenates_S1x128_S1x128_S1x128_S1x128_S1x512_d1) (View.ld x3 rW6) = _
  rw [hG0, show (View.ld x3 rW6 : Vec Ideal S1x512 .f32) = x3 from View.ld_unit_lit _ _ (by decide)]

theorem val29 (x0 : Vec Ideal S1128x128 .f32) (x4 : Vec Ideal S1x512 .f32) : out29 0#32 SmallHyps.chk1 x0 x4 = NV (G0 x0) x4 := by
  refine (View.canon_cons_unit_lit _ _ _ (by decide)).trans ?_
  show NV (concatenate S1x512 1 [⟨S1x128, View.ld x0 (rV1_0 0#32 SmallHyps.chk1)⟩, ⟨S1x128, View.ld x0 (rV1_1 0#32 SmallHyps.chk1)⟩, ⟨S1x128, View.ld x0 (rV1_2 0#32 SmallHyps.chk1)⟩, ⟨S1x128, View.ld x0 (rV1_3 0#32 SmallHyps.chk1)⟩] concatenates_S1x128_S1x128_S1x128_S1x128_S1x512_d1) (View.ld x4 rW6) = _
  rw [hG0, show (View.ld x4 rW6 : Vec Ideal S1x512 .f32) = x4 from View.ld_unit_lit _ _ (by decide)]

/-- The gradient of parameter 1, in the packed sum. -/
def G1 (X : Vec Ideal S1128x128 .f32) : Vec Ideal S1x512 .f32 :=
  fun j => X (ix2 ⟨1104 + (j 1).val / 128, by have h0 : (j 0).val < 1 := (j 0).isLt; have h1 : (j 1).val < 512 := (j 1).isLt; omega⟩ ⟨(j 1).val % 128, by have h0 : (j 0).val < 1 := (j 0).isLt; have h1 : (j 1).val < 512 := (j 1).isLt; omega⟩)

theorem hG1 (x0 : Vec Ideal S1128x128 .f32) : (concatenate S1x512 1 [⟨S1x128, (View.ld x0 (rV2_0 0#32 SmallHyps.chk2) : Vec Ideal S1x128 .f32)⟩, ⟨S1x128, (View.ld x0 (rV2_1 0#32 SmallHyps.chk2) : Vec Ideal S1x128 .f32)⟩, ⟨S1x128, (View.ld x0 (rV2_2 0#32 SmallHyps.chk2) : Vec Ideal S1x128 .f32)⟩, ⟨S1x128, (View.ld x0 (rV2_3 0#32 SmallHyps.chk2) : Vec Ideal S1x128 .f32)⟩] concatenates_S1x128_S1x128_S1x128_S1x128_S1x512_d1 : Vec Ideal S1x512 .f32) = G1 x0 := by
  rw [show (View.ld x0 (rV2_0 0#32 SmallHyps.chk2) : Vec Ideal S1x128 .f32) = prow x0 1104 (by decide) from ldrow x0 _ _ _ (by decide +kernel) (by decide +kernel) _]
  rw [show (View.ld x0 (rV2_1 0#32 SmallHyps.chk2) : Vec Ideal S1x128 .f32) = prow x0 1105 (by decide) from ldrow x0 _ _ _ (by decide +kernel) (by decide +kernel) _]
  rw [show (View.ld x0 (rV2_2 0#32 SmallHyps.chk2) : Vec Ideal S1x128 .f32) = prow x0 1106 (by decide) from ldrow x0 _ _ _ (by decide +kernel) (by decide +kernel) _]
  rw [show (View.ld x0 (rV2_3 0#32 SmallHyps.chk2) : Vec Ideal S1x128 .f32) = prow x0 1107 (by decide) from ldrow x0 _ _ _ (by decide +kernel) (by decide +kernel) _]
  exact cat4 fun n : Fin 4 => prow x0 (1104 + n.val) (by omega)

theorem val30 (x0 : Vec Ideal S1128x128 .f32) : out30 0#32 SmallHyps.chk2 x0 = G1 x0 := by
  refine (View.canon_cons_unit_lit _ _ _ (by decide)).trans ?_
  show (concatenate S1x512 1 [⟨S1x128, View.ld x0 (rV2_0 0#32 SmallHyps.chk2)⟩, ⟨S1x128, View.ld x0 (rV2_1 0#32 SmallHyps.chk2)⟩, ⟨S1x128, View.ld x0 (rV2_2 0#32 SmallHyps.chk2)⟩, ⟨S1x128, View.ld x0 (rV2_3 0#32 SmallHyps.chk2)⟩] concatenates_S1x128_S1x128_S1x128_S1x128_S1x512_d1) = _
  rw [hG1]

theorem val31 (x0 : Vec Ideal S1128x128 .f32) (x5 : Vec Ideal S1x512 .f32) (x6 : Vec Ideal S1x512 .f32) (x7 : Vec Ideal S1x512 .f32) : out31 0#32 SmallHyps.chk2 x0 x5 x6 x7 = STEP x5 (G1 x0) x6 x7 := by
  refine (View.canon_cons_unit_lit _ _ _ (by decide)).trans ?_
  show STEP (View.ld x5 rW6) (concatenate S1x512 1 [⟨S1x128, View.ld x0 (rV2_0 0#32 SmallHyps.chk2)⟩, ⟨S1x128, View.ld x0 (rV2_1 0#32 SmallHyps.chk2)⟩, ⟨S1x128, View.ld x0 (rV2_2 0#32 SmallHyps.chk2)⟩, ⟨S1x128, View.ld x0 (rV2_3 0#32 SmallHyps.chk2)⟩] concatenates_S1x128_S1x128_S1x128_S1x128_S1x512_d1) (View.ld x6 rW6) (View.ld x7 rW6) = _
  rw [hG1, show (View.ld x5 rW6 : Vec Ideal S1x512 .f32) = x5 from View.ld_unit_lit _ _ (by decide), show (View.ld x6 rW6 : Vec Ideal S1x512 .f32) = x6 from View.ld_unit_lit _ _ (by decide), show (View.ld x7 rW6 : Vec Ideal S1x512 .f32) = x7 from View.ld_unit_lit _ _ (by decide)]

theorem val32 (x0 : Vec Ideal S1128x128 .f32) (x6 : Vec Ideal S1x512 .f32) : out32 0#32 SmallHyps.chk2 x0 x6 = NM (G1 x0) x6 := by
  refine (View.canon_cons_unit_lit _ _ _ (by decide)).trans ?_
  show NM (concatenate S1x512 1 [⟨S1x128, View.ld x0 (rV2_0 0#32 SmallHyps.chk2)⟩, ⟨S1x128, View.ld x0 (rV2_1 0#32 SmallHyps.chk2)⟩, ⟨S1x128, View.ld x0 (rV2_2 0#32 SmallHyps.chk2)⟩, ⟨S1x128, View.ld x0 (rV2_3 0#32 SmallHyps.chk2)⟩] concatenates_S1x128_S1x128_S1x128_S1x128_S1x512_d1) (View.ld x6 rW6) = _
  rw [hG1, show (View.ld x6 rW6 : Vec Ideal S1x512 .f32) = x6 from View.ld_unit_lit _ _ (by decide)]

theorem val33 (x0 : Vec Ideal S1128x128 .f32) (x7 : Vec Ideal S1x512 .f32) : out33 0#32 SmallHyps.chk2 x0 x7 = NV (G1 x0) x7 := by
  refine (View.canon_cons_unit_lit _ _ _ (by decide)).trans ?_
  show NV (concatenate S1x512 1 [⟨S1x128, View.ld x0 (rV2_0 0#32 SmallHyps.chk2)⟩, ⟨S1x128, View.ld x0 (rV2_1 0#32 SmallHyps.chk2)⟩, ⟨S1x128, View.ld x0 (rV2_2 0#32 SmallHyps.chk2)⟩, ⟨S1x128, View.ld x0 (rV2_3 0#32 SmallHyps.chk2)⟩] concatenates_S1x128_S1x128_S1x128_S1x128_S1x512_d1) (View.ld x7 rW6) = _
  rw [hG1, show (View.ld x7 rW6 : Vec Ideal S1x512 .f32) = x7 from View.ld_unit_lit _ _ (by decide)]

/-- The gradient of parameter 2, in the packed sum. -/
def G2 (X : Vec Ideal S1128x128 .f32) : Vec Ideal S1024x128 .f32 :=
  fun j => X (ix2 ⟨0 + (j 0).val, by have h0 : (j 0).val < 1024 := (j 0).isLt; have h1 : (j 1).val < 128 := (j 1).isLt; omega⟩ ⟨(j 1).val, by have h0 : (j 0).val < 1024 := (j 0).isLt; have h1 : (j 1).val < 128 := (j 1).isLt; omega⟩)

theorem hG2 (x0 : Vec Ideal S1128x128 .f32) : (View.ld x0 rW11 : Vec Ideal S1024x128 .f32) = G2 x0 :=
  funext fun j => View.ld_unit_apply_of x0 _ _ _ j _ (by intro a; fin_cases a <;> simp)

theorem val34 (x0 : Vec Ideal S1128x128 .f32) : out34 x0 = G2 x0 := by
  refine (View.canon_cons_unit_lit _ _ _ (by decide)).trans ?_
  show (View.ld x0 rW11) = _
  rw [hG2]

theorem val35 (x0 : Vec Ideal S1128x128 .f32) (x8 : Vec Ideal S1024x128 .f32) (x9 : Vec Ideal S1024x128 .f32) (x10 : Vec Ideal S1024x128 .f32) : out35 x0 x8 x9 x10 = STEP x8 (G2 x0) x9 x10 := by
  refine (View.canon_cons_unit_lit _ _ _ (by decide)).trans ?_
  show STEP (View.ld x8 rW12) (View.ld x0 rW11) (View.ld x9 rW12) (View.ld x10 rW12) = _
  rw [hG2, show (View.ld x8 rW12 : Vec Ideal S1024x128 .f32) = x8 from View.ld_unit_lit _ _ (by decide), show (View.ld x9 rW12 : Vec Ideal S1024x128 .f32) = x9 from View.ld_unit_lit _ _ (by decide), show (View.ld x10 rW12 : Vec Ideal S1024x128 .f32) = x10 from View.ld_unit_lit _ _ (by decide)]

theorem val36 (x0 : Vec Ideal S1128x128 .f32) (x9 : Vec Ideal S1024x128 .f32) : out36 x0 x9 = NM (G2 x0) x9 := by
  refine (View.canon_cons_unit_lit _ _ _ (by decide)).trans ?_
  show NM (View.ld x0 rW11) (View.ld x9 rW12) = _
  rw [hG2, show (View.ld x9 rW12 : Vec Ideal S1024x128 .f32) = x9 from View.ld_unit_lit _ _ (by decide)]

theorem val37 (x0 : Vec Ideal S1128x128 .f32) (x10 : Vec Ideal S1024x128 .f32) : out37 x0 x10 = NV (G2 x0) x10 := by
  refine (View.canon_cons_unit_lit _ _ _ (by decide)).trans ?_
  show NV (View.ld x0 rW11) (View.ld x10 rW12) = _
  rw [hG2, show (View.ld x10 rW12 : Vec Ideal S1024x128 .f32) = x10 from View.ld_unit_lit _ _ (by decide)]

/-- The gradient of parameter 3, in the packed sum. -/
def G3 (X : Vec Ideal S1128x128 .f32) : Vec Ideal S8x128 .f32 :=
  fun j => X (ix2 ⟨1024 + (j 0).val, by have h0 : (j 0).val < 8 := (j 0).isLt; have h1 : (j 1).val < 128 := (j 1).isLt; omega⟩ ⟨(j 1).val, by have h0 : (j 0).val < 8 := (j 0).isLt; have h1 : (j 1).val < 128 := (j 1).isLt; omega⟩)

theorem hG3 (x0 : Vec Ideal S1128x128 .f32) : (View.ld x0 rW13 : Vec Ideal S8x128 .f32) = G3 x0 :=
  funext fun j => View.ld_unit_apply_of x0 _ _ _ j _ (by intro a; fin_cases a <;> simp)

theorem val38 (x0 : Vec Ideal S1128x128 .f32) : out38 x0 = G3 x0 := by
  refine (View.canon_cons_unit_lit _ _ _ (by decide)).trans ?_
  show (View.ld x0 rW13) = _
  rw [hG3]

theorem val39 (x0 : Vec Ideal S1128x128 .f32) (x11 : Vec Ideal S8x128 .f32) (x12 : Vec Ideal S8x128 .f32) (x13 : Vec Ideal S8x128 .f32) : out39 x0 x11 x12 x13 = STEP x11 (G3 x0) x12 x13 := by
  refine (View.canon_cons_unit_lit _ _ _ (by decide)).trans ?_
  show STEP (View.ld x11 rW14) (View.ld x0 rW13) (View.ld x12 rW14) (View.ld x13 rW14) = _
  rw [hG3, show (View.ld x11 rW14 : Vec Ideal S8x128 .f32) = x11 from View.ld_unit_lit _ _ (by decide), show (View.ld x12 rW14 : Vec Ideal S8x128 .f32) = x12 from View.ld_unit_lit _ _ (by decide), show (View.ld x13 rW14 : Vec Ideal S8x128 .f32) = x13 from View.ld_unit_lit _ _ (by decide)]

theorem val40 (x0 : Vec Ideal S1128x128 .f32) (x12 : Vec Ideal S8x128 .f32) : out40 x0 x12 = NM (G3 x0) x12 := by
  refine (View.canon_cons_unit_lit _ _ _ (by decide)).trans ?_
  show NM (View.ld x0 rW13) (View.ld x12 rW14) = _
  rw [hG3, show (View.ld x12 rW14 : Vec Ideal S8x128 .f32) = x12 from View.ld_unit_lit _ _ (by decide)]

theorem val41 (x0 : Vec Ideal S1128x128 .f32) (x13 : Vec Ideal S8x128 .f32) : out41 x0 x13 = NV (G3 x0) x13 := by
  refine (View.canon_cons_unit_lit _ _ _ (by decide)).trans ?_
  show NV (View.ld x0 rW13) (View.ld x13 rW14) = _
  rw [hG3, show (View.ld x13 rW14 : Vec Ideal S8x128 .f32) = x13 from View.ld_unit_lit _ _ (by decide)]

/-- The gradient of parameter 4, in the packed sum. -/
def G4 (X : Vec Ideal S1128x128 .f32) : Vec Ideal S1x16 .f32 :=
  fun j => X (ix2 ⟨1032 + (j 0).val, by have h0 : (j 0).val < 1 := (j 0).isLt; have h1 : (j 1).val < 16 := (j 1).isLt; omega⟩ ⟨(j 1).val, by have h0 : (j 0).val < 1 := (j 0).isLt; have h1 : (j 1).val < 16 := (j 1).isLt; omega⟩)

theorem hG4 (x0 : Vec Ideal S1128x128 .f32) : (View.ld x0 rW15 : Vec Ideal S1x16 .f32) = G4 x0 :=
  funext fun j => View.ld_unit_apply_of x0 _ _ _ j _ (by intro a; fin_cases a <;> simp)

theorem val42 (x0 : Vec Ideal S1128x128 .f32) : out42 x0 = G4 x0 := by
  refine (View.canon_cons_unit_lit _ _ _ (by decide)).trans ?_
  show (View.ld x0 rW15) = _
  rw [hG4]

theorem val43 (x0 : Vec Ideal S1128x128 .f32) (x14 : Vec Ideal S1x16 .f32) (x15 : Vec Ideal S1x16 .f32) (x16 : Vec Ideal S1x16 .f32) : out43 x0 x14 x15 x16 = STEP x14 (G4 x0) x15 x16 := by
  refine (View.canon_cons_unit_lit _ _ _ (by decide)).trans ?_
  show STEP (View.ld x14 rW16) (View.ld x0 rW15) (View.ld x15 rW16) (View.ld x16 rW16) = _
  rw [hG4, show (View.ld x14 rW16 : Vec Ideal S1x16 .f32) = x14 from View.ld_unit_lit _ _ (by decide), show (View.ld x15 rW16 : Vec Ideal S1x16 .f32) = x15 from View.ld_unit_lit _ _ (by decide), show (View.ld x16 rW16 : Vec Ideal S1x16 .f32) = x16 from View.ld_unit_lit _ _ (by decide)]

theorem val44 (x0 : Vec Ideal S1128x128 .f32) (x15 : Vec Ideal S1x16 .f32) : out44 x0 x15 = NM (G4 x0) x15 := by
  refine (View.canon_cons_unit_lit _ _ _ (by decide)).trans ?_
  show NM (View.ld x0 rW15) (View.ld x15 rW16) = _
  rw [hG4, show (View.ld x15 rW16 : Vec Ideal S1x16 .f32) = x15 from View.ld_unit_lit _ _ (by decide)]

theorem val45 (x0 : Vec Ideal S1128x128 .f32) (x16 : Vec Ideal S1x16 .f32) : out45 x0 x16 = NV (G4 x0) x16 := by
  refine (View.canon_cons_unit_lit _ _ _ (by decide)).trans ?_
  show NV (View.ld x0 rW15) (View.ld x16 rW16) = _
  rw [hG4, show (View.ld x16 rW16 : Vec Ideal S1x16 .f32) = x16 from View.ld_unit_lit _ _ (by decide)]

/-- The gradient of parameter 5, in the packed sum. -/
def G5 (X : Vec Ideal S1128x128 .f32) : Vec Ideal S16x32 .f32 :=
  fun j => X (ix2 ⟨1040 + (j 0).val, by have h0 : (j 0).val < 16 := (j 0).isLt; have h1 : (j 1).val < 32 := (j 1).isLt; omega⟩ ⟨(j 1).val, by have h0 : (j 0).val < 16 := (j 0).isLt; have h1 : (j 1).val < 32 := (j 1).isLt; omega⟩)

theorem hG5 (x0 : Vec Ideal S1128x128 .f32) : (View.ld x0 rW17 : Vec Ideal S16x32 .f32) = G5 x0 :=
  funext fun j => View.ld_unit_apply_of x0 _ _ _ j _ (by intro a; fin_cases a <;> simp)

theorem val46 (x0 : Vec Ideal S1128x128 .f32) : out46 x0 = G5 x0 := by
  refine (View.canon_cons_unit_lit _ _ _ (by decide)).trans ?_
  show (View.ld x0 rW17) = _
  rw [hG5]

theorem val47 (x0 : Vec Ideal S1128x128 .f32) (x17 : Vec Ideal S16x32 .f32) (x18 : Vec Ideal S16x32 .f32) (x19 : Vec Ideal S16x32 .f32) : out47 x0 x17 x18 x19 = STEP x17 (G5 x0) x18 x19 := by
  refine (View.canon_cons_unit_lit _ _ _ (by decide)).trans ?_
  show STEP (View.ld x17 rW18) (View.ld x0 rW17) (View.ld x18 rW18) (View.ld x19 rW18) = _
  rw [hG5, show (View.ld x17 rW18 : Vec Ideal S16x32 .f32) = x17 from View.ld_unit_lit _ _ (by decide), show (View.ld x18 rW18 : Vec Ideal S16x32 .f32) = x18 from View.ld_unit_lit _ _ (by decide), show (View.ld x19 rW18 : Vec Ideal S16x32 .f32) = x19 from View.ld_unit_lit _ _ (by decide)]

theorem val48 (x0 : Vec Ideal S1128x128 .f32) (x18 : Vec Ideal S16x32 .f32) : out48 x0 x18 = NM (G5 x0) x18 := by
  refine (View.canon_cons_unit_lit _ _ _ (by decide)).trans ?_
  show NM (View.ld x0 rW17) (View.ld x18 rW18) = _
  rw [hG5, show (View.ld x18 rW18 : Vec Ideal S16x32 .f32) = x18 from View.ld_unit_lit _ _ (by decide)]

theorem val49 (x0 : Vec Ideal S1128x128 .f32) (x19 : Vec Ideal S16x32 .f32) : out49 x0 x19 = NV (G5 x0) x19 := by
  refine (View.canon_cons_unit_lit _ _ _ (by decide)).trans ?_
  show NV (View.ld x0 rW17) (View.ld x19 rW18) = _
  rw [hG5, show (View.ld x19 rW18 : Vec Ideal S16x32 .f32) = x19 from View.ld_unit_lit _ _ (by decide)]

/-- The gradient of parameter 6, in the packed sum. -/
def G6 (X : Vec Ideal S1128x128 .f32) : Vec Ideal S2x1024 .f32 :=
  fun j => X (ix2 ⟨1056 + (8 * (j 0).val + (j 1).val / 128), by have h0 : (j 0).val < 2 := (j 0).isLt; have h1 : (j 1).val < 1024 := (j 1).isLt; omega⟩ ⟨(j 1).val % 128, by have h0 : (j 0).val < 2 := (j 0).isLt; have h1 : (j 1).val < 1024 := (j 1).isLt; omega⟩)

theorem hG6_0 (x0 : Vec Ideal S1128x128 .f32) : (concatenate S1x1024 1 [⟨S1x128, (View.ld x0 rW19 : Vec Ideal S1x128 .f32)⟩, ⟨S1x128, (View.ld x0 rW20 : Vec Ideal S1x128 .f32)⟩, ⟨S1x128, (View.ld x0 rW21 : Vec Ideal S1x128 .f32)⟩, ⟨S1x128, (View.ld x0 rW22 : Vec Ideal S1x128 .f32)⟩, ⟨S1x128, (View.ld x0 rW23 : Vec Ideal S1x128 .f32)⟩, ⟨S1x128, (View.ld x0 rW24 : Vec Ideal S1x128 .f32)⟩, ⟨S1x128, (View.ld x0 rW25 : Vec Ideal S1x128 .f32)⟩, ⟨S1x128, (View.ld x0 rW26 : Vec Ideal S1x128 .f32)⟩] concatenates_S1x128_S1x128_S1x128_S1x128_S1x128_S1x128_S1x128_S1x128_S1x1024_d1 : Vec Ideal S1x1024 .f32) = View.ld (G6 x0) rW35 := by
  rw [show (View.ld x0 rW19 : Vec Ideal S1x128 .f32) = prow x0 1056 (by decide) from ldrow x0 _ _ _ rfl rfl _]
  rw [show (View.ld x0 rW20 : Vec Ideal S1x128 .f32) = prow x0 1057 (by decide) from ldrow x0 _ _ _ rfl rfl _]
  rw [show (View.ld x0 rW21 : Vec Ideal S1x128 .f32) = prow x0 1058 (by decide) from ldrow x0 _ _ _ rfl rfl _]
  rw [show (View.ld x0 rW22 : Vec Ideal S1x128 .f32) = prow x0 1059 (by decide) from ldrow x0 _ _ _ rfl rfl _]
  rw [show (View.ld x0 rW23 : Vec Ideal S1x128 .f32) = prow x0 1060 (by decide) from ldrow x0 _ _ _ rfl rfl _]
  rw [show (View.ld x0 rW24 : Vec Ideal S1x128 .f32) = prow x0 1061 (by decide) from ldrow x0 _ _ _ rfl rfl _]
  rw [show (View.ld x0 rW25 : Vec Ideal S1x128 .f32) = prow x0 1062 (by decide) from ldrow x0 _ _ _ rfl rfl _]
  rw [show (View.ld x0 rW26 : Vec Ideal S1x128 .f32) = prow x0 1063 (by decide) from ldrow x0 _ _ _ rfl rfl _]
  refine (cat8 fun n : Fin 8 => prow x0 (1056 + n.val) (by omega)).trans (funext fun j => ?_)
  have h0 : (j 0).val < 1 := (j 0).isLt
  have h1 : (j 1).val < 1024 := (j 1).isLt
  refine ((View.ld_unit_apply_of (G6 x0) _ _ _ j (ix2 ⟨0, by omega⟩ ⟨(j 1).val, h1⟩) (by intro a; fin_cases a <;> simp <;> omega)).trans ?_).symm
  exact congrArg x0 (by funext a; fin_cases a <;> apply Fin.ext <;> simp [ix2] <;> omega)

theorem hG6_1 (x0 : Vec Ideal S1128x128 .f32) : (concatenate S1x1024 1 [⟨S1x128, (View.ld x0 rW27 : Vec Ideal S1x128 .f32)⟩, ⟨S1x128, (View.ld x0 rW28 : Vec Ideal S1x128 .f32)⟩, ⟨S1x128, (View.ld x0 rW29 : Vec Ideal S1x128 .f32)⟩, ⟨S1x128, (View.ld x0 rW30 : Vec Ideal S1x128 .f32)⟩, ⟨S1x128, (View.ld x0 rW31 : Vec Ideal S1x128 .f32)⟩, ⟨S1x128, (View.ld x0 rW32 : Vec Ideal S1x128 .f32)⟩, ⟨S1x128, (View.ld x0 rW33 : Vec Ideal S1x128 .f32)⟩, ⟨S1x128, (View.ld x0 rW34 : Vec Ideal S1x128 .f32)⟩] concatenates_S1x128_S1x128_S1x128_S1x128_S1x128_S1x128_S1x128_S1x128_S1x1024_d1 : Vec Ideal S1x1024 .f32) = View.ld (G6 x0) rW36 := by
  rw [show (View.ld x0 rW27 : Vec Ideal S1x128 .f32) = prow x0 1064 (by decide) from ldrow x0 _ _ _ rfl rfl _]
  rw [show (View.ld x0 rW28 : Vec Ideal S1x128 .f32) = prow x0 1065 (by decide) from ldrow x0 _ _ _ rfl rfl _]
  rw [show (View.ld x0 rW29 : Vec Ideal S1x128 .f32) = prow x0 1066 (by decide) from ldrow x0 _ _ _ rfl rfl _]
  rw [show (View.ld x0 rW30 : Vec Ideal S1x128 .f32) = prow x0 1067 (by decide) from ldrow x0 _ _ _ rfl rfl _]
  rw [show (View.ld x0 rW31 : Vec Ideal S1x128 .f32) = prow x0 1068 (by decide) from ldrow x0 _ _ _ rfl rfl _]
  rw [show (View.ld x0 rW32 : Vec Ideal S1x128 .f32) = prow x0 1069 (by decide) from ldrow x0 _ _ _ rfl rfl _]
  rw [show (View.ld x0 rW33 : Vec Ideal S1x128 .f32) = prow x0 1070 (by decide) from ldrow x0 _ _ _ rfl rfl _]
  rw [show (View.ld x0 rW34 : Vec Ideal S1x128 .f32) = prow x0 1071 (by decide) from ldrow x0 _ _ _ rfl rfl _]
  refine (cat8 fun n : Fin 8 => prow x0 (1064 + n.val) (by omega)).trans (funext fun j => ?_)
  have h0 : (j 0).val < 1 := (j 0).isLt
  have h1 : (j 1).val < 1024 := (j 1).isLt
  refine ((View.ld_unit_apply_of (G6 x0) _ _ _ j (ix2 ⟨1, by omega⟩ ⟨(j 1).val, h1⟩) (by intro a; fin_cases a <;> simp <;> omega)).trans ?_).symm
  exact congrArg x0 (by funext a; fin_cases a <;> apply Fin.ext <;> simp [ix2] <;> omega)

theorem val50 (x0 : Vec Ideal S1128x128 .f32) : out50 x0 = G6 x0 := by
  funext y
  refine View.canon_apply_of_pieces (Val := Elt Ideal) (e := .f32) (G6 x0) _ ?_ y (coverS2x1024 _ _ y)
  intro p hp
  simp only [List.mem_cons, List.not_mem_nil, or_false] at hp
  rcases hp with rfl | rfl <;> intro j
  · show ((concatenate S1x1024 1 [⟨S1x128, View.ld x0 rW27⟩, ⟨S1x128, View.ld x0 rW28⟩, ⟨S1x128, View.ld x0 rW29⟩, ⟨S1x128, View.ld x0 rW30⟩, ⟨S1x128, View.ld x0 rW31⟩, ⟨S1x128, View.ld x0 rW32⟩, ⟨S1x128, View.ld x0 rW33⟩, ⟨S1x128, View.ld x0 rW34⟩] concatenates_S1x128_S1x128_S1x128_S1x128_S1x128_S1x128_S1x128_S1x128_S1x1024_d1)) j = _
    rw [hG6_1]; rfl
  · show ((concatenate S1x1024 1 [⟨S1x128, View.ld x0 rW19⟩, ⟨S1x128, View.ld x0 rW20⟩, ⟨S1x128, View.ld x0 rW21⟩, ⟨S1x128, View.ld x0 rW22⟩, ⟨S1x128, View.ld x0 rW23⟩, ⟨S1x128, View.ld x0 rW24⟩, ⟨S1x128, View.ld x0 rW25⟩, ⟨S1x128, View.ld x0 rW26⟩] concatenates_S1x128_S1x128_S1x128_S1x128_S1x128_S1x128_S1x128_S1x128_S1x1024_d1)) j = _
    rw [hG6_0]; rfl

theorem val51 (x0 : Vec Ideal S1128x128 .f32) (x20 : Vec Ideal S2x1024 .f32) (x21 : Vec Ideal S2x1024 .f32) (x22 : Vec Ideal S2x1024 .f32) : out51 x0 x20 x21 x22 = STEP x20 (G6 x0) x21 x22 := by
  funext y
  refine View.canon_apply_of_pieces (Val := Elt Ideal) (e := .f32) (STEP x20 (G6 x0) x21 x22) _ ?_ y (coverS2x1024 _ _ y)
  intro p hp
  simp only [List.mem_cons, List.not_mem_nil, or_false] at hp
  rcases hp with rfl | rfl <;> intro j
  · show (STEP (View.ld x20 rW36) (concatenate S1x1024 1 [⟨S1x128, View.ld x0 rW27⟩, ⟨S1x128, View.ld x0 rW28⟩, ⟨S1x128, View.ld x0 rW29⟩, ⟨S1x128, View.ld x0 rW30⟩, ⟨S1x128, View.ld x0 rW31⟩, ⟨S1x128, View.ld x0 rW32⟩, ⟨S1x128, View.ld x0 rW33⟩, ⟨S1x128, View.ld x0 rW34⟩] concatenates_S1x128_S1x128_S1x128_S1x128_S1x128_S1x128_S1x128_S1x128_S1x1024_d1) (View.ld x21 rW36) (View.ld x22 rW36)) j = _
    rw [hG6_1]; rfl
  · show (STEP (View.ld x20 rW35) (concatenate S1x1024 1 [⟨S1x128, View.ld x0 rW19⟩, ⟨S1x128, View.ld x0 rW20⟩, ⟨S1x128, View.ld x0 rW21⟩, ⟨S1x128, View.ld x0 rW22⟩, ⟨S1x128, View.ld x0 rW23⟩, ⟨S1x128, View.ld x0 rW24⟩, ⟨S1x128, View.ld x0 rW25⟩, ⟨S1x128, View.ld x0 rW26⟩] concatenates_S1x128_S1x128_S1x128_S1x128_S1x128_S1x128_S1x128_S1x128_S1x1024_d1) (View.ld x21 rW35) (View.ld x22 rW35)) j = _
    rw [hG6_0]; rfl

theorem val52 (x0 : Vec Ideal S1128x128 .f32) (x21 : Vec Ideal S2x1024 .f32) : out52 x0 x21 = NM (G6 x0) x21 := by
  funext y
  refine View.canon_apply_of_pieces (Val := Elt Ideal) (e := .f32) (NM (G6 x0) x21) _ ?_ y (coverS2x1024 _ _ y)
  intro p hp
  simp only [List.mem_cons, List.not_mem_nil, or_false] at hp
  rcases hp with rfl | rfl <;> intro j
  · show (NM (concatenate S1x1024 1 [⟨S1x128, View.ld x0 rW27⟩, ⟨S1x128, View.ld x0 rW28⟩, ⟨S1x128, View.ld x0 rW29⟩, ⟨S1x128, View.ld x0 rW30⟩, ⟨S1x128, View.ld x0 rW31⟩, ⟨S1x128, View.ld x0 rW32⟩, ⟨S1x128, View.ld x0 rW33⟩, ⟨S1x128, View.ld x0 rW34⟩] concatenates_S1x128_S1x128_S1x128_S1x128_S1x128_S1x128_S1x128_S1x128_S1x1024_d1) (View.ld x21 rW36)) j = _
    rw [hG6_1]; rfl
  · show (NM (concatenate S1x1024 1 [⟨S1x128, View.ld x0 rW19⟩, ⟨S1x128, View.ld x0 rW20⟩, ⟨S1x128, View.ld x0 rW21⟩, ⟨S1x128, View.ld x0 rW22⟩, ⟨S1x128, View.ld x0 rW23⟩, ⟨S1x128, View.ld x0 rW24⟩, ⟨S1x128, View.ld x0 rW25⟩, ⟨S1x128, View.ld x0 rW26⟩] concatenates_S1x128_S1x128_S1x128_S1x128_S1x128_S1x128_S1x128_S1x128_S1x1024_d1) (View.ld x21 rW35)) j = _
    rw [hG6_0]; rfl

theorem val53 (x0 : Vec Ideal S1128x128 .f32) (x22 : Vec Ideal S2x1024 .f32) : out53 x0 x22 = NV (G6 x0) x22 := by
  funext y
  refine View.canon_apply_of_pieces (Val := Elt Ideal) (e := .f32) (NV (G6 x0) x22) _ ?_ y (coverS2x1024 _ _ y)
  intro p hp
  simp only [List.mem_cons, List.not_mem_nil, or_false] at hp
  rcases hp with rfl | rfl <;> intro j
  · show (NV (concatenate S1x1024 1 [⟨S1x128, View.ld x0 rW27⟩, ⟨S1x128, View.ld x0 rW28⟩, ⟨S1x128, View.ld x0 rW29⟩, ⟨S1x128, View.ld x0 rW30⟩, ⟨S1x128, View.ld x0 rW31⟩, ⟨S1x128, View.ld x0 rW32⟩, ⟨S1x128, View.ld x0 rW33⟩, ⟨S1x128, View.ld x0 rW34⟩] concatenates_S1x128_S1x128_S1x128_S1x128_S1x128_S1x128_S1x128_S1x128_S1x1024_d1) (View.ld x22 rW36)) j = _
    rw [hG6_1]; rfl
  · show (NV (concatenate S1x1024 1 [⟨S1x128, View.ld x0 rW19⟩, ⟨S1x128, View.ld x0 rW20⟩, ⟨S1x128, View.ld x0 rW21⟩, ⟨S1x128, View.ld x0 rW22⟩, ⟨S1x128, View.ld x0 rW23⟩, ⟨S1x128, View.ld x0 rW24⟩, ⟨S1x128, View.ld x0 rW25⟩, ⟨S1x128, View.ld x0 rW26⟩] concatenates_S1x128_S1x128_S1x128_S1x128_S1x128_S1x128_S1x128_S1x128_S1x1024_d1) (View.ld x22 rW35)) j = _
    rw [hG6_0]; rfl

/-- The gradient of parameter 7, in the packed sum. -/
def G7 (X : Vec Ideal S1128x128 .f32) : Vec Ideal S2x1024 .f32 :=
  fun j => X (ix2 ⟨1072 + (8 * (j 0).val + (j 1).val / 128), by have h0 : (j 0).val < 2 := (j 0).isLt; have h1 : (j 1).val < 1024 := (j 1).isLt; omega⟩ ⟨(j 1).val % 128, by have h0 : (j 0).val < 2 := (j 0).isLt; have h1 : (j 1).val < 1024 := (j 1).isLt; omega⟩)

theorem hG7_0 (x0 : Vec Ideal S1128x128 .f32) : (concatenate S1x1024 1 [⟨S1x128, (View.ld x0 rW37 : Vec Ideal S1x128 .f32)⟩, ⟨S1x128, (View.ld x0 rW38 : Vec Ideal S1x128 .f32)⟩, ⟨S1x128, (View.ld x0 rW39 : Vec Ideal S1x128 .f32)⟩, ⟨S1x128, (View.ld x0 rW40 : Vec Ideal S1x128 .f32)⟩, ⟨S1x128, (View.ld x0 rW41 : Vec Ideal S1x128 .f32)⟩, ⟨S1x128, (View.ld x0 rW42 : Vec Ideal S1x128 .f32)⟩, ⟨S1x128, (View.ld x0 rW43 : Vec Ideal S1x128 .f32)⟩, ⟨S1x128, (View.ld x0 rW44 : Vec Ideal S1x128 .f32)⟩] concatenates_S1x128_S1x128_S1x128_S1x128_S1x128_S1x128_S1x128_S1x128_S1x1024_d1 : Vec Ideal S1x1024 .f32) = View.ld (G7 x0) rW35 := by
  rw [show (View.ld x0 rW37 : Vec Ideal S1x128 .f32) = prow x0 1072 (by decide) from ldrow x0 _ _ _ rfl rfl _]
  rw [show (View.ld x0 rW38 : Vec Ideal S1x128 .f32) = prow x0 1073 (by decide) from ldrow x0 _ _ _ rfl rfl _]
  rw [show (View.ld x0 rW39 : Vec Ideal S1x128 .f32) = prow x0 1074 (by decide) from ldrow x0 _ _ _ rfl rfl _]
  rw [show (View.ld x0 rW40 : Vec Ideal S1x128 .f32) = prow x0 1075 (by decide) from ldrow x0 _ _ _ rfl rfl _]
  rw [show (View.ld x0 rW41 : Vec Ideal S1x128 .f32) = prow x0 1076 (by decide) from ldrow x0 _ _ _ rfl rfl _]
  rw [show (View.ld x0 rW42 : Vec Ideal S1x128 .f32) = prow x0 1077 (by decide) from ldrow x0 _ _ _ rfl rfl _]
  rw [show (View.ld x0 rW43 : Vec Ideal S1x128 .f32) = prow x0 1078 (by decide) from ldrow x0 _ _ _ rfl rfl _]
  rw [show (View.ld x0 rW44 : Vec Ideal S1x128 .f32) = prow x0 1079 (by decide) from ldrow x0 _ _ _ rfl rfl _]
  refine (cat8 fun n : Fin 8 => prow x0 (1072 + n.val) (by omega)).trans (funext fun j => ?_)
  have h0 : (j 0).val < 1 := (j 0).isLt
  have h1 : (j 1).val < 1024 := (j 1).isLt
  refine ((View.ld_unit_apply_of (G7 x0) _ _ _ j (ix2 ⟨0, by omega⟩ ⟨(j 1).val, h1⟩) (by intro a; fin_cases a <;> simp <;> omega)).trans ?_).symm
  exact congrArg x0 (by funext a; fin_cases a <;> apply Fin.ext <;> simp [ix2] <;> omega)

theorem hG7_1 (x0 : Vec Ideal S1128x128 .f32) : (concatenate S1x1024 1 [⟨S1x128, (View.ld x0 rW45 : Vec Ideal S1x128 .f32)⟩, ⟨S1x128, (View.ld x0 rW46 : Vec Ideal S1x128 .f32)⟩, ⟨S1x128, (View.ld x0 rW47 : Vec Ideal S1x128 .f32)⟩, ⟨S1x128, (View.ld x0 rW48 : Vec Ideal S1x128 .f32)⟩, ⟨S1x128, (View.ld x0 rW49 : Vec Ideal S1x128 .f32)⟩, ⟨S1x128, (View.ld x0 rW50 : Vec Ideal S1x128 .f32)⟩, ⟨S1x128, (View.ld x0 rW51 : Vec Ideal S1x128 .f32)⟩, ⟨S1x128, (View.ld x0 rW52 : Vec Ideal S1x128 .f32)⟩] concatenates_S1x128_S1x128_S1x128_S1x128_S1x128_S1x128_S1x128_S1x128_S1x1024_d1 : Vec Ideal S1x1024 .f32) = View.ld (G7 x0) rW36 := by
  rw [show (View.ld x0 rW45 : Vec Ideal S1x128 .f32) = prow x0 1080 (by decide) from ldrow x0 _ _ _ rfl rfl _]
  rw [show (View.ld x0 rW46 : Vec Ideal S1x128 .f32) = prow x0 1081 (by decide) from ldrow x0 _ _ _ rfl rfl _]
  rw [show (View.ld x0 rW47 : Vec Ideal S1x128 .f32) = prow x0 1082 (by decide) from ldrow x0 _ _ _ rfl rfl _]
  rw [show (View.ld x0 rW48 : Vec Ideal S1x128 .f32) = prow x0 1083 (by decide) from ldrow x0 _ _ _ rfl rfl _]
  rw [show (View.ld x0 rW49 : Vec Ideal S1x128 .f32) = prow x0 1084 (by decide) from ldrow x0 _ _ _ rfl rfl _]
  rw [show (View.ld x0 rW50 : Vec Ideal S1x128 .f32) = prow x0 1085 (by decide) from ldrow x0 _ _ _ rfl rfl _]
  rw [show (View.ld x0 rW51 : Vec Ideal S1x128 .f32) = prow x0 1086 (by decide) from ldrow x0 _ _ _ rfl rfl _]
  rw [show (View.ld x0 rW52 : Vec Ideal S1x128 .f32) = prow x0 1087 (by decide) from ldrow x0 _ _ _ rfl rfl _]
  refine (cat8 fun n : Fin 8 => prow x0 (1080 + n.val) (by omega)).trans (funext fun j => ?_)
  have h0 : (j 0).val < 1 := (j 0).isLt
  have h1 : (j 1).val < 1024 := (j 1).isLt
  refine ((View.ld_unit_apply_of (G7 x0) _ _ _ j (ix2 ⟨1, by omega⟩ ⟨(j 1).val, h1⟩) (by intro a; fin_cases a <;> simp <;> omega)).trans ?_).symm
  exact congrArg x0 (by funext a; fin_cases a <;> apply Fin.ext <;> simp [ix2] <;> omega)

theorem val54 (x0 : Vec Ideal S1128x128 .f32) : out54 x0 = G7 x0 := by
  funext y
  refine View.canon_apply_of_pieces (Val := Elt Ideal) (e := .f32) (G7 x0) _ ?_ y (coverS2x1024 _ _ y)
  intro p hp
  simp only [List.mem_cons, List.not_mem_nil, or_false] at hp
  rcases hp with rfl | rfl <;> intro j
  · show ((concatenate S1x1024 1 [⟨S1x128, View.ld x0 rW45⟩, ⟨S1x128, View.ld x0 rW46⟩, ⟨S1x128, View.ld x0 rW47⟩, ⟨S1x128, View.ld x0 rW48⟩, ⟨S1x128, View.ld x0 rW49⟩, ⟨S1x128, View.ld x0 rW50⟩, ⟨S1x128, View.ld x0 rW51⟩, ⟨S1x128, View.ld x0 rW52⟩] concatenates_S1x128_S1x128_S1x128_S1x128_S1x128_S1x128_S1x128_S1x128_S1x1024_d1)) j = _
    rw [hG7_1]; rfl
  · show ((concatenate S1x1024 1 [⟨S1x128, View.ld x0 rW37⟩, ⟨S1x128, View.ld x0 rW38⟩, ⟨S1x128, View.ld x0 rW39⟩, ⟨S1x128, View.ld x0 rW40⟩, ⟨S1x128, View.ld x0 rW41⟩, ⟨S1x128, View.ld x0 rW42⟩, ⟨S1x128, View.ld x0 rW43⟩, ⟨S1x128, View.ld x0 rW44⟩] concatenates_S1x128_S1x128_S1x128_S1x128_S1x128_S1x128_S1x128_S1x128_S1x1024_d1)) j = _
    rw [hG7_0]; rfl

theorem val55 (x0 : Vec Ideal S1128x128 .f32) (x23 : Vec Ideal S2x1024 .f32) (x24 : Vec Ideal S2x1024 .f32) (x25 : Vec Ideal S2x1024 .f32) : out55 x0 x23 x24 x25 = STEP x23 (G7 x0) x24 x25 := by
  funext y
  refine View.canon_apply_of_pieces (Val := Elt Ideal) (e := .f32) (STEP x23 (G7 x0) x24 x25) _ ?_ y (coverS2x1024 _ _ y)
  intro p hp
  simp only [List.mem_cons, List.not_mem_nil, or_false] at hp
  rcases hp with rfl | rfl <;> intro j
  · show (STEP (View.ld x23 rW36) (concatenate S1x1024 1 [⟨S1x128, View.ld x0 rW45⟩, ⟨S1x128, View.ld x0 rW46⟩, ⟨S1x128, View.ld x0 rW47⟩, ⟨S1x128, View.ld x0 rW48⟩, ⟨S1x128, View.ld x0 rW49⟩, ⟨S1x128, View.ld x0 rW50⟩, ⟨S1x128, View.ld x0 rW51⟩, ⟨S1x128, View.ld x0 rW52⟩] concatenates_S1x128_S1x128_S1x128_S1x128_S1x128_S1x128_S1x128_S1x128_S1x1024_d1) (View.ld x24 rW36) (View.ld x25 rW36)) j = _
    rw [hG7_1]; rfl
  · show (STEP (View.ld x23 rW35) (concatenate S1x1024 1 [⟨S1x128, View.ld x0 rW37⟩, ⟨S1x128, View.ld x0 rW38⟩, ⟨S1x128, View.ld x0 rW39⟩, ⟨S1x128, View.ld x0 rW40⟩, ⟨S1x128, View.ld x0 rW41⟩, ⟨S1x128, View.ld x0 rW42⟩, ⟨S1x128, View.ld x0 rW43⟩, ⟨S1x128, View.ld x0 rW44⟩] concatenates_S1x128_S1x128_S1x128_S1x128_S1x128_S1x128_S1x128_S1x128_S1x1024_d1) (View.ld x24 rW35) (View.ld x25 rW35)) j = _
    rw [hG7_0]; rfl

theorem val56 (x0 : Vec Ideal S1128x128 .f32) (x24 : Vec Ideal S2x1024 .f32) : out56 x0 x24 = NM (G7 x0) x24 := by
  funext y
  refine View.canon_apply_of_pieces (Val := Elt Ideal) (e := .f32) (NM (G7 x0) x24) _ ?_ y (coverS2x1024 _ _ y)
  intro p hp
  simp only [List.mem_cons, List.not_mem_nil, or_false] at hp
  rcases hp with rfl | rfl <;> intro j
  · show (NM (concatenate S1x1024 1 [⟨S1x128, View.ld x0 rW45⟩, ⟨S1x128, View.ld x0 rW46⟩, ⟨S1x128, View.ld x0 rW47⟩, ⟨S1x128, View.ld x0 rW48⟩, ⟨S1x128, View.ld x0 rW49⟩, ⟨S1x128, View.ld x0 rW50⟩, ⟨S1x128, View.ld x0 rW51⟩, ⟨S1x128, View.ld x0 rW52⟩] concatenates_S1x128_S1x128_S1x128_S1x128_S1x128_S1x128_S1x128_S1x128_S1x1024_d1) (View.ld x24 rW36)) j = _
    rw [hG7_1]; rfl
  · show (NM (concatenate S1x1024 1 [⟨S1x128, View.ld x0 rW37⟩, ⟨S1x128, View.ld x0 rW38⟩, ⟨S1x128, View.ld x0 rW39⟩, ⟨S1x128, View.ld x0 rW40⟩, ⟨S1x128, View.ld x0 rW41⟩, ⟨S1x128, View.ld x0 rW42⟩, ⟨S1x128, View.ld x0 rW43⟩, ⟨S1x128, View.ld x0 rW44⟩] concatenates_S1x128_S1x128_S1x128_S1x128_S1x128_S1x128_S1x128_S1x128_S1x1024_d1) (View.ld x24 rW35)) j = _
    rw [hG7_0]; rfl

theorem val57 (x0 : Vec Ideal S1128x128 .f32) (x25 : Vec Ideal S2x1024 .f32) : out57 x0 x25 = NV (G7 x0) x25 := by
  funext y
  refine View.canon_apply_of_pieces (Val := Elt Ideal) (e := .f32) (NV (G7 x0) x25) _ ?_ y (coverS2x1024 _ _ y)
  intro p hp
  simp only [List.mem_cons, List.not_mem_nil, or_false] at hp
  rcases hp with rfl | rfl <;> intro j
  · show (NV (concatenate S1x1024 1 [⟨S1x128, View.ld x0 rW45⟩, ⟨S1x128, View.ld x0 rW46⟩, ⟨S1x128, View.ld x0 rW47⟩, ⟨S1x128, View.ld x0 rW48⟩, ⟨S1x128, View.ld x0 rW49⟩, ⟨S1x128, View.ld x0 rW50⟩, ⟨S1x128, View.ld x0 rW51⟩, ⟨S1x128, View.ld x0 rW52⟩] concatenates_S1x128_S1x128_S1x128_S1x128_S1x128_S1x128_S1x128_S1x128_S1x1024_d1) (View.ld x25 rW36)) j = _
    rw [hG7_1]; rfl
  · show (NV (concatenate S1x1024 1 [⟨S1x128, View.ld x0 rW37⟩, ⟨S1x128, View.ld x0 rW38⟩, ⟨S1x128, View.ld x0 rW39⟩, ⟨S1x128, View.ld x0 rW40⟩, ⟨S1x128, View.ld x0 rW41⟩, ⟨S1x128, View.ld x0 rW42⟩, ⟨S1x128, View.ld x0 rW43⟩, ⟨S1x128, View.ld x0 rW44⟩] concatenates_S1x128_S1x128_S1x128_S1x128_S1x128_S1x128_S1x128_S1x128_S1x1024_d1) (View.ld x25 rW35)) j = _
    rw [hG7_0]; rfl

/-- The loss, in the packed sum. -/
def LOSS (X : Vec Ideal S1128x128 .f32) : Vec Ideal S1x1 .f32 :=
  fun j => X (ix2 ⟨1120 + (j 0).val, by have h0 : (j 0).val < 1 := (j 0).isLt; omega⟩ ⟨(j 1).val, by have h1 : (j 1).val < 1 := (j 1).isLt; omega⟩)

theorem val58 (x0 : Vec Ideal S1128x128 .f32) : out58 x0 = LOSS x0 := by
  refine (View.canon_cons_unit_lit _ _ _ (by decide)).trans ?_
  exact funext fun j => View.ld_unit_apply_of x0 _ _ _ j _ (by intro a; fin_cases a <;> simp)

end Cert.SmallVal

end
-- ==== Proof.SmallRun.lean ====
/-
  The optimiser's call for the small parameters: the body run.
-/
module

public import proofs.«01_k».proof.Proof.SmallOut

@[expose] public section

set_option maxRecDepth 16384

noncomputable section

namespace Cert.SmallIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 20000000 in
/-- The body run: the inputs as they were, each output at its pieces. -/
theorem sound_kernel (c : Dev nD) (E : Set ℕ) (arg0 : Memref sig .tc .vmem S1128x128 .f32) (harg0 : arg0.IsWhole) (arg1 : Memref sig .tc .smem S1 .i32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S1x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S16x32 .f32) (harg17 : arg17.IsWhole) (arg18 : Memref sig .tc .vmem S16x32 .f32) (harg18 : arg18.IsWhole) (arg19 : Memref sig .tc .vmem S16x32 .f32) (harg19 : arg19.IsWhole) (arg20 : Memref sig .tc .vmem S2x1024 .f32) (harg20 : arg20.IsWhole) (arg21 : Memref sig .tc .vmem S2x1024 .f32) (harg21 : arg21.IsWhole) (arg22 : Memref sig .tc .vmem S2x1024 .f32) (harg22 : arg22.IsWhole) (arg23 : Memref sig .tc .vmem S2x1024 .f32) (harg23 : arg23.IsWhole) (arg24 : Memref sig .tc .vmem S2x1024 .f32) (harg24 : arg24.IsWhole) (arg25 : Memref sig .tc .vmem S2x1024 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S1x512 .f32) (harg30 : arg30.IsWhole) (arg31 : Memref sig .tc .vmem S1x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1024x128 .f32) (harg34 : arg34.IsWhole) (arg35 : Memref sig .tc .vmem S1024x128 .f32) (harg35 : arg35.IsWhole) (arg36 : Memref sig .tc .vmem S1024x128 .f32) (harg36 : arg36.IsWhole) (arg37 : Memref sig .tc .vmem S1024x128 .f32) (harg37 : arg37.IsWhole) (arg38 : Memref sig .tc .vmem S8x128 .f32) (harg38 : arg38.IsWhole) (arg39 : Memref sig .tc .vmem S8x128 .f32) (harg39 : arg39.IsWhole) (arg40 : Memref sig .tc .vmem S8x128 .f32) (harg40 : arg40.IsWhole) (arg41 : Memref sig .tc .vmem S8x128 .f32) (harg41 : arg41.IsWhole) (arg42 : Memref sig .tc .vmem S1x16 .f32) (harg42 : arg42.IsWhole) (arg43 : Memref sig .tc .vmem S1x16 .f32) (harg43 : arg43.IsWhole) (arg44 : Memref sig .tc .vmem S1x16 .f32) (harg44 : arg44.IsWhole) (arg45 : Memref sig .tc .vmem S1x16 .f32) (harg45 : arg45.IsWhole) (arg46 : Memref sig .tc .vmem S16x32 .f32) (harg46 : arg46.IsWhole) (arg47 : Memref sig .tc .vmem S16x32 .f32) (harg47 : arg47.IsWhole) (arg48 : Memref sig .tc .vmem S16x32 .f32) (harg48 : arg48.IsWhole) (arg49 : Memref sig .tc .vmem S16x32 .f32) (harg49 : arg49.IsWhole) (arg50 : Memref sig .tc .vmem S2x1024 .f32) (harg50 : arg50.IsWhole) (arg51 : Memref sig .tc .vmem S2x1024 .f32) (harg51 : arg51.IsWhole) (arg52 : Memref sig .tc .vmem S2x1024 .f32) (harg52 : arg52.IsWhole) (arg53 : Memref sig .tc .vmem S2x1024 .f32) (harg53 : arg53.IsWhole) (arg54 : Memref sig .tc .vmem S2x1024 .f32) (harg54 : arg54.IsWhole) (arg55 : Memref sig .tc .vmem S2x1024 .f32) (harg55 : arg55.IsWhole) (arg56 : Memref sig .tc .vmem S2x1024 .f32) (harg56 : arg56.IsWhole) (arg57 : Memref sig .tc .vmem S2x1024 .f32) (harg57 : arg57.IsWhole) (arg58 : Memref sig .tc .vmem S1x1 .f32) (harg58 : arg58.IsWhole)
    (x0 : Vec F S1128x128 .f32) (x1 : Vec F S1 .i32) (x2 : Vec F S1x512 .f32) (x3 : Vec F S1x512 .f32) (x4 : Vec F S1x512 .f32) (x5 : Vec F S1x512 .f32) (x6 : Vec F S1x512 .f32) (x7 : Vec F S1x512 .f32) (x8 : Vec F S1024x128 .f32) (x9 : Vec F S1024x128 .f32) (x10 : Vec F S1024x128 .f32) (x11 : Vec F S8x128 .f32) (x12 : Vec F S8x128 .f32) (x13 : Vec F S8x128 .f32) (x14 : Vec F S1x16 .f32) (x15 : Vec F S1x16 .f32) (x16 : Vec F S1x16 .f32) (x17 : Vec F S16x32 .f32) (x18 : Vec F S16x32 .f32) (x19 : Vec F S16x32 .f32) (x20 : Vec F S2x1024 .f32) (x21 : Vec F S2x1024 .f32) (x22 : Vec F S2x1024 .f32) (x23 : Vec F S2x1024 .f32) (x24 : Vec F S2x1024 .f32) (x25 : Vec F S2x1024 .f32)
    (v : BitVec 32) (hv : wrd x1 = v) (h1 : k0_chk1 v) (h2 : k0_chk2 v) (K : PUnit → sProp (MT nD τ sig Unit (Elt F) ℕ (UR sig nD τ) ℕ)) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare (out26 v h1 x0) ∗ owns (c : Thread nD τ) arg27 fullShare (out27 v h1 x0 x2 x3 x4) ∗ owns (c : Thread nD τ) arg28 fullShare (out28 v h1 x0 x3) ∗ owns (c : Thread nD τ) arg29 fullShare (out29 v h1 x0 x4) ∗ owns (c : Thread nD τ) arg30 fullShare (out30 v h2 x0) ∗ owns (c : Thread nD τ) arg31 fullShare (out31 v h2 x0 x5 x6 x7) ∗ owns (c : Thread nD τ) arg32 fullShare (out32 v h2 x0 x6) ∗ owns (c : Thread nD τ) arg33 fullShare (out33 v h2 x0 x7) ∗ owns (c : Thread nD τ) arg34 fullShare (out34 x0) ∗ owns (c : Thread nD τ) arg35 fullShare (out35 x0 x8 x9 x10) ∗ owns (c : Thread nD τ) arg36 fullShare (out36 x0 x9) ∗ owns (c : Thread nD τ) arg37 fullShare (out37 x0 x10) ∗ owns (c : Thread nD τ) arg38 fullShare (out38 x0) ∗ owns (c : Thread nD τ) arg39 fullShare (out39 x0 x11 x12 x13) ∗ owns (c : Thread nD τ) arg40 fullShare (out40 x0 x12) ∗ owns (c : Thread nD τ) arg41 fullShare (out41 x0 x13) ∗ owns (c : Thread nD τ) arg42 fullShare (out42 x0) ∗ owns (c : Thread nD τ) arg43 fullShare (out43 x0 x14 x15 x16) ∗ owns (c : Thread nD τ) arg44 fullShare (out44 x0 x15) ∗ owns (c : Thread nD τ) arg45 fullShare (out45 x0 x16) ∗ owns (c : Thread nD τ) arg46 fullShare (out46 x0) ∗ owns (c : Thread nD τ) arg47 fullShare (out47 x0 x17 x18 x19) ∗ owns (c : Thread nD τ) arg48 fullShare (out48 x0 x18) ∗ owns (c : Thread nD τ) arg49 fullShare (out49 x0 x19) ∗ owns (c : Thread nD τ) arg50 fullShare (out50 x0) ∗ owns (c : Thread nD τ) arg51 fullShare (out51 x0 x20 x21 x22) ∗ owns (c : Thread nD τ) arg52 fullShare (out52 x0 x21) ∗ owns (c : Thread nD τ) arg53 fullShare (out53 x0 x22) ∗ owns (c : Thread nD τ) arg54 fullShare (out54 x0) ∗ owns (c : Thread nD τ) arg55 fullShare (out55 x0 x23 x24 x25) ∗ owns (c : Thread nD τ) arg56 fullShare (out56 x0 x24) ∗ owns (c : Thread nD τ) arg57 fullShare (out57 x0 x25) ∗ owns (c : Thread nD τ) arg58 fullShare (out58 x0)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58) K := by
  simp only [cc0_adamw_small_eq_skeleton]; unfold cc0_adamw_small_skel
  simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, Hk⟩
  subst hv hf0 hf1 hf2 hf3 hf4 hf5 hf6 hf7 hf8 hf9 hf10 hf11 hf12 hf13 hf14 hf15 hf16 hf17 hf18 hf19 hf20 hf21 hf22 hf23 hf24 hf25
  have k0_hw1 : k0_chk1 (arg1.view.readAt (Elt F) (Rect.unit (s := S1) ![0] S1.size inb_S1_S1_0).toLoadRect f1 (Shape.Idx.first (numel1_S1.symm ▸ Nat.one_pos))) := h1
  have k0_hw2 : k0_chk2 (arg1.view.readAt (Elt F) (Rect.unit (s := S1) ![0] S1.size inb_S1_S1_0).toLoadRect f1 (Shape.Idx.first (numel1_S1.symm ▸ Nat.one_pos))) := h2
  sl_exec (disch := first | sl_exact k0_hw1 | sl_exact k0_hw2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists _; isplitr
    swap; · iexact H26
    ipureintro
    refine (View.read_writes_eq_canon _ _ _ (coverS1x512 _)).trans ?_
    rfl
  isplitl [H27]
  · iexists _; isplitr
    swap; · iexact H27
    ipureintro
    refine (View.read_writes_eq_canon _ _ _ (coverS1x512 _)).trans ?_
    rfl
  isplitl [H28]
  · iexists _; isplitr
    swap; · iexact H28
    ipureintro
    refine (View.read_writes_eq_canon _ _ _ (coverS1x512 _)).trans ?_
    rfl
  isplitl [H29]
  · iexists _; isplitr
    swap; · iexact H29
    ipureintro
    refine (View.read_writes_eq_canon _ _ _ (coverS1x512 _)).trans ?_
    rfl
  isplitl [H30]
  · iexists _; isplitr
    swap; · iexact H30
    ipureintro
    refine (View.read_writes_eq_canon _ _ _ (coverS1x512 _)).trans ?_
    rfl
  isplitl [H31]
  · iexists _; isplitr
    swap; · iexact H31
    ipureintro
    refine (View.read_writes_eq_canon _ _ _ (coverS1x512 _)).trans ?_
    rfl
  isplitl [H32]
  · iexists _; isplitr
    swap; · iexact H32
    ipureintro
    refine (View.read_writes_eq_canon _ _ _ (coverS1x512 _)).trans ?_
    rfl
  isplitl [H33]
  · iexists _; isplitr
    swap; · iexact H33
    ipureintro
    refine (View.read_writes_eq_canon _ _ _ (coverS1x512 _)).trans ?_
    rfl
  isplitl [H34]
  · iexists _; isplitr
    swap; · iexact H34
    ipureintro
    refine (View.read_writes_eq_canon _ _ _ (coverS1024x128 _)).trans ?_
    rfl
  isplitl [H35]
  · iexists _; isplitr
    swap; · iexact H35
    ipureintro
    refine (View.read_writes_eq_canon _ _ _ (coverS1024x128 _)).trans ?_
    rfl
  isplitl [H36]
  · iexists _; isplitr
    swap; · iexact H36
    ipureintro
    refine (View.read_writes_eq_canon _ _ _ (coverS1024x128 _)).trans ?_
    rfl
  isplitl [H37]
  · iexists _; isplitr
    swap; · iexact H37
    ipureintro
    refine (View.read_writes_eq_canon _ _ _ (coverS1024x128 _)).trans ?_
    rfl
  isplitl [H38]
  · iexists _; isplitr
    swap; · iexact H38
    ipureintro
    refine (View.read_writes_eq_canon _ _ _ (coverS8x128 _)).trans ?_
    rfl
  isplitl [H39]
  · iexists _; isplitr
    swap; · iexact H39
    ipureintro
    refine (View.read_writes_eq_canon _ _ _ (coverS8x128 _)).trans ?_
    rfl
  isplitl [H40]
  · iexists _; isplitr
    swap; · iexact H40
    ipureintro
    refine (View.read_writes_eq_canon _ _ _ (coverS8x128 _)).trans ?_
    rfl
  isplitl [H41]
  · iexists _; isplitr
    swap; · iexact H41
    ipureintro
    refine (View.read_writes_eq_canon _ _ _ (coverS8x128 _)).trans ?_
    rfl
  isplitl [H42]
  · iexists _; isplitr
    swap; · iexact H42
    ipureintro
    refine (View.read_writes_eq_canon _ _ _ (coverS1x16 _)).trans ?_
    rfl
  isplitl [H43]
  · iexists _; isplitr
    swap; · iexact H43
    ipureintro
    refine (View.read_writes_eq_canon _ _ _ (coverS1x16 _)).trans ?_
    rfl
  isplitl [H44]
  · iexists _; isplitr
    swap; · iexact H44
    ipureintro
    refine (View.read_writes_eq_canon _ _ _ (coverS1x16 _)).trans ?_
    rfl
  isplitl [H45]
  · iexists _; isplitr
    swap; · iexact H45
    ipureintro
    refine (View.read_writes_eq_canon _ _ _ (coverS1x16 _)).trans ?_
    rfl
  isplitl [H46]
  · iexists _; isplitr
    swap; · iexact H46
    ipureintro
    refine (View.read_writes_eq_canon _ _ _ (coverS16x32 _)).trans ?_
    rfl
  isplitl [H47]
  · iexists _; isplitr
    swap; · iexact H47
    ipureintro
    refine (View.read_writes_eq_canon _ _ _ (coverS16x32 _)).trans ?_
    rfl
  isplitl [H48]
  · iexists _; isplitr
    swap; · iexact H48
    ipureintro
    refine (View.read_writes_eq_canon _ _ _ (coverS16x32 _)).trans ?_
    rfl
  isplitl [H49]
  · iexists _; isplitr
    swap; · iexact H49
    ipureintro
    refine (View.read_writes_eq_canon _ _ _ (coverS16x32 _)).trans ?_
    rfl
  isplitl [H50]
  · iexists _; isplitr
    swap; · iexact H50
    ipureintro
    refine (View.read_writes_eq_canon _ _ _ (coverS2x1024 _ _)).trans ?_
    rfl
  isplitl [H51]
  · iexists _; isplitr
    swap; · iexact H51
    ipureintro
    refine (View.read_writes_eq_canon _ _ _ (coverS2x1024 _ _)).trans ?_
    rfl
  isplitl [H52]
  · iexists _; isplitr
    swap; · iexact H52
    ipureintro
    refine (View.read_writes_eq_canon _ _ _ (coverS2x1024 _ _)).trans ?_
    rfl
  isplitl [H53]
  · iexists _; isplitr
    swap; · iexact H53
    ipureintro
    refine (View.read_writes_eq_canon _ _ _ (coverS2x1024 _ _)).trans ?_
    rfl
  isplitl [H54]
  · iexists _; isplitr
    swap; · iexact H54
    ipureintro
    refine (View.read_writes_eq_canon _ _ _ (coverS2x1024 _ _)).trans ?_
    rfl
  isplitl [H55]
  · iexists _; isplitr
    swap; · iexact H55
    ipureintro
    refine (View.read_writes_eq_canon _ _ _ (coverS2x1024 _ _)).trans ?_
    rfl
  isplitl [H56]
  · iexists _; isplitr
    swap; · iexact H56
    ipureintro
    refine (View.read_writes_eq_canon _ _ _ (coverS2x1024 _ _)).trans ?_
    rfl
  isplitl [H57]
  · iexists _; isplitr
    swap; · iexact H57
    ipureintro
    refine (View.read_writes_eq_canon _ _ _ (coverS2x1024 _ _)).trans ?_
    rfl
  iexists _; isplitr
  swap; · iexact H58
  ipureintro
  refine (View.read_writes_eq_canon _ _ _ (coverS1x1 _)).trans ?_
  rfl

end Cert.SmallIdeal.Gen

end
-- ==== Proof.SmallBody.lean ====
/-
  The optimiser's call for the small parameters: its frame, the word of the shard being zero.
-/
module

public import proofs.«01_k».proof.Proof.SmallRun
public import proofs.«01_k».proof.Proof.SmallHyps

@[expose] public section

set_option maxRecDepth 16384

noncomputable section

namespace Cert.SmallIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The word of the block is zero. -/
theorem wrd_iblk (c : Dev nD) (t : Fin cfg0.N) : wrd (iblk m c 1 t) = 0#32 :=
  congrFun (SmallHyps.host_word m c) _

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (out26 0#32 SmallHyps.chk1 (iblk m c 0 t))
    | ⟨27, _⟩ => (out27 0#32 SmallHyps.chk1 (iblk m c 0 t) (iblk m c 2 t) (iblk m c 3 t) (iblk m c 4 t))
    | ⟨28, _⟩ => (out28 0#32 SmallHyps.chk1 (iblk m c 0 t) (iblk m c 3 t))
    | ⟨29, _⟩ => (out29 0#32 SmallHyps.chk1 (iblk m c 0 t) (iblk m c 4 t))
    | ⟨30, _⟩ => (out30 0#32 SmallHyps.chk2 (iblk m c 0 t))
    | ⟨31, _⟩ => (out31 0#32 SmallHyps.chk2 (iblk m c 0 t) (iblk m c 5 t) (iblk m c 6 t) (iblk m c 7 t))
    | ⟨32, _⟩ => (out32 0#32 SmallHyps.chk2 (iblk m c 0 t) (iblk m c 6 t))
    | ⟨33, _⟩ => (out33 0#32 SmallHyps.chk2 (iblk m c 0 t) (iblk m c 7 t))
    | ⟨34, _⟩ => (out34 (iblk m c 0 t))
    | ⟨35, _⟩ => (out35 (iblk m c 0 t) (iblk m c 8 t) (iblk m c 9 t) (iblk m c 10 t))
    | ⟨36, _⟩ => (out36 (iblk m c 0 t) (iblk m c 9 t))
    | ⟨37, _⟩ => (out37 (iblk m c 0 t) (iblk m c 10 t))
    | ⟨38, _⟩ => (out38 (iblk m c 0 t))
    | ⟨39, _⟩ => (out39 (iblk m c 0 t) (iblk m c 11 t) (iblk m c 12 t) (iblk m c 13 t))
    | ⟨40, _⟩ => (out40 (iblk m c 0 t) (iblk m c 12 t))
    | ⟨41, _⟩ => (out41 (iblk m c 0 t) (iblk m c 13 t))
    | ⟨42, _⟩ => (out42 (iblk m c 0 t))
    | ⟨43, _⟩ => (out43 (iblk m c 0 t) (iblk m c 14 t) (iblk m c 15 t) (iblk m c 16 t))
    | ⟨44, _⟩ => (out44 (iblk m c 0 t) (iblk m c 15 t))
    | ⟨45, _⟩ => (out45 (iblk m c 0 t) (iblk m c 16 t))
    | ⟨46, _⟩ => (out46 (iblk m c 0 t))
    | ⟨47, _⟩ => (out47 (iblk m c 0 t) (iblk m c 17 t) (iblk m c 18 t) (iblk m c 19 t))
    | ⟨48, _⟩ => (out48 (iblk m c 0 t) (iblk m c 18 t))
    | ⟨49, _⟩ => (out49 (iblk m c 0 t) (iblk m c 19 t))
    | ⟨50, _⟩ => (out50 (iblk m c 0 t))
    | ⟨51, _⟩ => (out51 (iblk m c 0 t) (iblk m c 20 t) (iblk m c 21 t) (iblk m c 22 t))
    | ⟨52, _⟩ => (out52 (iblk m c 0 t) (iblk m c 21 t))
    | ⟨53, _⟩ => (out53 (iblk m c 0 t) (iblk m c 22 t))
    | ⟨54, _⟩ => (out54 (iblk m c 0 t))
    | ⟨55, _⟩ => (out55 (iblk m c 0 t) (iblk m c 23 t) (iblk m c 24 t) (iblk m c 25 t))
    | ⟨56, _⟩ => (out56 (iblk m c 0 t) (iblk m c 24 t))
    | ⟨57, _⟩ => (out57 (iblk m c 0 t) (iblk m c 25 t))
    | ⟨58, _⟩ => (out58 (iblk m c 0 t))
    | ⟨_ + 59, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

section

variable (c : Dev nD) (t : Fin cfg0.N)

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = iblk m c 14 t := by dsimp only [dats]
theorem after0_15 : (dats m 0 c).after 15 t = iblk m c 15 t := by dsimp only [dats]
theorem after0_16 : (dats m 0 c).after 16 t = iblk m c 16 t := by dsimp only [dats]
theorem after0_17 : (dats m 0 c).after 17 t = iblk m c 17 t := by dsimp only [dats]
theorem after0_18 : (dats m 0 c).after 18 t = iblk m c 18 t := by dsimp only [dats]
theorem after0_19 : (dats m 0 c).after 19 t = iblk m c 19 t := by dsimp only [dats]
theorem after0_20 : (dats m 0 c).after 20 t = iblk m c 20 t := by dsimp only [dats]
theorem after0_21 : (dats m 0 c).after 21 t = iblk m c 21 t := by dsimp only [dats]
theorem after0_22 : (dats m 0 c).after 22 t = iblk m c 22 t := by dsimp only [dats]
theorem after0_23 : (dats m 0 c).after 23 t = iblk m c 23 t := by dsimp only [dats]
theorem after0_24 : (dats m 0 c).after 24 t = iblk m c 24 t := by dsimp only [dats]
theorem after0_25 : (dats m 0 c).after 25 t = iblk m c 25 t := by dsimp only [dats]
theorem after0_26 : (dats m 0 c).after 26 t = (out26 0#32 SmallHyps.chk1 (iblk m c 0 t)) := by dsimp only [dats]
theorem after0_27 : (dats m 0 c).after 27 t = (out27 0#32 SmallHyps.chk1 (iblk m c 0 t) (iblk m c 2 t) (iblk m c 3 t) (iblk m c 4 t)) := by dsimp only [dats]
theorem after0_28 : (dats m 0 c).after 28 t = (out28 0#32 SmallHyps.chk1 (iblk m c 0 t) (iblk m c 3 t)) := by dsimp only [dats]
theorem after0_29 : (dats m 0 c).after 29 t = (out29 0#32 SmallHyps.chk1 (iblk m c 0 t) (iblk m c 4 t)) := by dsimp only [dats]
theorem after0_30 : (dats m 0 c).after 30 t = (out30 0#32 SmallHyps.chk2 (iblk m c 0 t)) := by dsimp only [dats]
theorem after0_31 : (dats m 0 c).after 31 t = (out31 0#32 SmallHyps.chk2 (iblk m c 0 t) (iblk m c 5 t) (iblk m c 6 t) (iblk m c 7 t)) := by dsimp only [dats]
theorem after0_32 : (dats m 0 c).after 32 t = (out32 0#32 SmallHyps.chk2 (iblk m c 0 t) (iblk m c 6 t)) := by dsimp only [dats]
theorem after0_33 : (dats m 0 c).after 33 t = (out33 0#32 SmallHyps.chk2 (iblk m c 0 t) (iblk m c 7 t)) := by dsimp only [dats]
theorem after0_34 : (dats m 0 c).after 34 t = (out34 (iblk m c 0 t)) := by dsimp only [dats]
theorem after0_35 : (dats m 0 c).after 35 t = (out35 (iblk m c 0 t) (iblk m c 8 t) (iblk m c 9 t) (iblk m c 10 t)) := by dsimp only [dats]
theorem after0_36 : (dats m 0 c).after 36 t = (out36 (iblk m c 0 t) (iblk m c 9 t)) := by dsimp only [dats]
theorem after0_37 : (dats m 0 c).after 37 t = (out37 (iblk m c 0 t) (iblk m c 10 t)) := by dsimp only [dats]
theorem after0_38 : (dats m 0 c).after 38 t = (out38 (iblk m c 0 t)) := by dsimp only [dats]
theorem after0_39 : (dats m 0 c).after 39 t = (out39 (iblk m c 0 t) (iblk m c 11 t) (iblk m c 12 t) (iblk m c 13 t)) := by dsimp only [dats]
theorem after0_40 : (dats m 0 c).after 40 t = (out40 (iblk m c 0 t) (iblk m c 12 t)) := by dsimp only [dats]
theorem after0_41 : (dats m 0 c).after 41 t = (out41 (iblk m c 0 t) (iblk m c 13 t)) := by dsimp only [dats]
theorem after0_42 : (dats m 0 c).after 42 t = (out42 (iblk m c 0 t)) := by dsimp only [dats]
theorem after0_43 : (dats m 0 c).after 43 t = (out43 (iblk m c 0 t) (iblk m c 14 t) (iblk m c 15 t) (iblk m c 16 t)) := by dsimp only [dats]
theorem after0_44 : (dats m 0 c).after 44 t = (out44 (iblk m c 0 t) (iblk m c 15 t)) := by dsimp only [dats]
theorem after0_45 : (dats m 0 c).after 45 t = (out45 (iblk m c 0 t) (iblk m c 16 t)) := by dsimp only [dats]
theorem after0_46 : (dats m 0 c).after 46 t = (out46 (iblk m c 0 t)) := by dsimp only [dats]
theorem after0_47 : (dats m 0 c).after 47 t = (out47 (iblk m c 0 t) (iblk m c 17 t) (iblk m c 18 t) (iblk m c 19 t)) := by dsimp only [dats]
theorem after0_48 : (dats m 0 c).after 48 t = (out48 (iblk m c 0 t) (iblk m c 18 t)) := by dsimp only [dats]
theorem after0_49 : (dats m 0 c).after 49 t = (out49 (iblk m c 0 t) (iblk m c 19 t)) := by dsimp only [dats]
theorem after0_50 : (dats m 0 c).after 50 t = (out50 (iblk m c 0 t)) := by dsimp only [dats]
theorem after0_51 : (dats m 0 c).after 51 t = (out51 (iblk m c 0 t) (iblk m c 20 t) (iblk m c 21 t) (iblk m c 22 t)) := by dsimp only [dats]
theorem after0_52 : (dats m 0 c).after 52 t = (out52 (iblk m c 0 t) (iblk m c 21 t)) := by dsimp only [dats]
theorem after0_53 : (dats m 0 c).after 53 t = (out53 (iblk m c 0 t) (iblk m c 22 t)) := by dsimp only [dats]
theorem after0_54 : (dats m 0 c).after 54 t = (out54 (iblk m c 0 t)) := by dsimp only [dats]
theorem after0_55 : (dats m 0 c).after 55 t = (out55 (iblk m c 0 t) (iblk m c 23 t) (iblk m c 24 t) (iblk m c 25 t)) := by dsimp only [dats]
theorem after0_56 : (dats m 0 c).after 56 t = (out56 (iblk m c 0 t) (iblk m c 24 t)) := by dsimp only [dats]
theorem after0_57 : (dats m 0 c).after 57 t = (out57 (iblk m c 0 t) (iblk m c 25 t)) := by dsimp only [dats]
theorem after0_58 : (dats m 0 c).after 58 t = (out58 (iblk m c 0 t)) := by dsimp only [dats]

theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d
theorem before0_5 (d) : (dats m 0 c).before 5 t d = iblk m c 5 t :=
  before0_5_of m (dats m 0 c) (A_eq m c 5) (after0_5 m c) t d
theorem before0_6 (d) : (dats m 0 c).before 6 t d = iblk m c 6 t :=
  before0_6_of m (dats m 0 c) (A_eq m c 6) (after0_6 m c) t d
theorem before0_7 (d) : (dats m 0 c).before 7 t d = iblk m c 7 t :=
  before0_7_of m (dats m 0 c) (A_eq m c 7) (after0_7 m c) t d
theorem before0_8 (d) : (dats m 0 c).before 8 t d = iblk m c 8 t :=
  before0_8_of m (dats m 0 c) (A_eq m c 8) (after0_8 m c) t d
theorem before0_9 (d) : (dats m 0 c).before 9 t d = iblk m c 9 t :=
  before0_9_of m (dats m 0 c) (A_eq m c 9) (after0_9 m c) t d
theorem before0_10 (d) : (dats m 0 c).before 10 t d = iblk m c 10 t :=
  before0_10_of m (dats m 0 c) (A_eq m c 10) (after0_10 m c) t d
theorem before0_11 (d) : (dats m 0 c).before 11 t d = iblk m c 11 t :=
  before0_11_of m (dats m 0 c) (A_eq m c 11) (after0_11 m c) t d
theorem before0_12 (d) : (dats m 0 c).before 12 t d = iblk m c 12 t :=
  before0_12_of m (dats m 0 c) (A_eq m c 12) (after0_12 m c) t d
theorem before0_13 (d) : (dats m 0 c).before 13 t d = iblk m c 13 t :=
  before0_13_of m (dats m 0 c) (A_eq m c 13) (after0_13 m c) t d
theorem before0_14 (d) : (dats m 0 c).before 14 t d = iblk m c 14 t :=
  before0_14_of m (dats m 0 c) (A_eq m c 14) (after0_14 m c) t d
theorem before0_15 (d) : (dats m 0 c).before 15 t d = iblk m c 15 t :=
  before0_15_of m (dats m 0 c) (A_eq m c 15) (after0_15 m c) t d
theorem before0_16 (d) : (dats m 0 c).before 16 t d = iblk m c 16 t :=
  before0_16_of m (dats m 0 c) (A_eq m c 16) (after0_16 m c) t d
theorem before0_17 (d) : (dats m 0 c).before 17 t d = iblk m c 17 t :=
  before0_17_of m (dats m 0 c) (A_eq m c 17) (after0_17 m c) t d
theorem before0_18 (d) : (dats m 0 c).before 18 t d = iblk m c 18 t :=
  before0_18_of m (dats m 0 c) (A_eq m c 18) (after0_18 m c) t d
theorem before0_19 (d) : (dats m 0 c).before 19 t d = iblk m c 19 t :=
  before0_19_of m (dats m 0 c) (A_eq m c 19) (after0_19 m c) t d
theorem before0_20 (d) : (dats m 0 c).before 20 t d = iblk m c 20 t :=
  before0_20_of m (dats m 0 c) (A_eq m c 20) (after0_20 m c) t d
theorem before0_21 (d) : (dats m 0 c).before 21 t d = iblk m c 21 t :=
  before0_21_of m (dats m 0 c) (A_eq m c 21) (after0_21 m c) t d
theorem before0_22 (d) : (dats m 0 c).before 22 t d = iblk m c 22 t :=
  before0_22_of m (dats m 0 c) (A_eq m c 22) (after0_22 m c) t d
theorem before0_23 (d) : (dats m 0 c).before 23 t d = iblk m c 23 t :=
  before0_23_of m (dats m 0 c) (A_eq m c 23) (after0_23 m c) t d
theorem before0_24 (d) : (dats m 0 c).before 24 t d = iblk m c 24 t :=
  before0_24_of m (dats m 0 c) (A_eq m c 24) (after0_24 m c) t d
theorem before0_25 (d) : (dats m 0 c).before 25 t d = iblk m c 25 t :=
  before0_25_of m (dats m 0 c) (A_eq m c 25) (after0_25 m c) t d

end

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d))
    ∗ (∃ d, owns (c : Thread nD τ) (ms0_38 t) fullShare ((dats m 0 c).before 38 t d))
    ∗ (∃ d, owns (c : Thread nD τ) (ms0_39 t) fullShare ((dats m 0 c).before 39 t d))
    ∗ (∃ d, owns (c : Thread nD τ) (ms0_40 t) fullShare ((dats m 0 c).before 40 t d))
    ∗ (∃ d, owns (c : Thread nD τ) (ms0_41 t) fullShare ((dats m 0 c).before 41 t d))
    ∗ (∃ d, owns (c : Thread nD τ) (ms0_42 t) fullShare ((dats m 0 c).before 42 t d))
    ∗ (∃ d, owns (c : Thread nD τ) (ms0_43 t) fullShare ((dats m 0 c).before 43 t d))
    ∗ (∃ d, owns (c : Thread nD τ) (ms0_44 t) fullShare ((dats m 0 c).before 44 t d))
    ∗ (∃ d, owns (c : Thread nD τ) (ms0_45 t) fullShare ((dats m 0 c).before 45 t d))
    ∗ (∃ d, owns (c : Thread nD τ) (ms0_46 t) fullShare ((dats m 0 c).before 46 t d))
    ∗ (∃ d, owns (c : Thread nD τ) (ms0_47 t) fullShare ((dats m 0 c).before 47 t d))
    ∗ (∃ d, owns (c : Thread nD τ) (ms0_48 t) fullShare ((dats m 0 c).before 48 t d))
    ∗ (∃ d, owns (c : Thread nD τ) (ms0_49 t) fullShare ((dats m 0 c).before 49 t d))
    ∗ (∃ d, owns (c : Thread nD τ) (ms0_50 t) fullShare ((dats m 0 c).before 50 t d))
    ∗ (∃ d, owns (c : Thread nD τ) (ms0_51 t) fullShare ((dats m 0 c).before 51 t d))
    ∗ (∃ d, owns (c : Thread nD τ) (ms0_52 t) fullShare ((dats m 0 c).before 52 t d))
    ∗ (∃ d, owns (c : Thread nD τ) (ms0_53 t) fullShare ((dats m 0 c).before 53 t d))
    ∗ (∃ d, owns (c : Thread nD τ) (ms0_54 t) fullShare ((dats m 0 c).before 54 t d))
    ∗ (∃ d, owns (c : Thread nD τ) (ms0_55 t) fullShare ((dats m 0 c).before 55 t d))
    ∗ (∃ d, owns (c : Thread nD τ) (ms0_56 t) fullShare ((dats m 0 c).before 56 t d))
    ∗ (∃ d, owns (c : Thread nD τ) (ms0_57 t) fullShare ((dats m 0 c).before 57 t d))
    ∗ (∃ d, owns (c : Thread nD τ) (ms0_58 t) fullShare ((dats m 0 c).before 58 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t)
    ∗ owns (c : Thread nD τ) (ms0_38 t) fullShare ((dats m 0 c).after 38 t)
    ∗ owns (c : Thread nD τ) (ms0_39 t) fullShare ((dats m 0 c).after 39 t)
    ∗ owns (c : Thread nD τ) (ms0_40 t) fullShare ((dats m 0 c).after 40 t)
    ∗ owns (c : Thread nD τ) (ms0_41 t) fullShare ((dats m 0 c).after 41 t)
    ∗ owns (c : Thread nD τ) (ms0_42 t) fullShare ((dats m 0 c).after 42 t)
    ∗ owns (c : Thread nD τ) (ms0_43 t) fullShare ((dats m 0 c).after 43 t)
    ∗ owns (c : Thread nD τ) (ms0_44 t) fullShare ((dats m 0 c).after 44 t)
    ∗ owns (c : Thread nD τ) (ms0_45 t) fullShare ((dats m 0 c).after 45 t)
    ∗ owns (c : Thread nD τ) (ms0_46 t) fullShare ((dats m 0 c).after 46 t)
    ∗ owns (c : Thread nD τ) (ms0_47 t) fullShare ((dats m 0 c).after 47 t)
    ∗ owns (c : Thread nD τ) (ms0_48 t) fullShare ((dats m 0 c).after 48 t)
    ∗ owns (c : Thread nD τ) (ms0_49 t) fullShare ((dats m 0 c).after 49 t)
    ∗ owns (c : Thread nD τ) (ms0_50 t) fullShare ((dats m 0 c).after 50 t)
    ∗ owns (c : Thread nD τ) (ms0_51 t) fullShare ((dats m 0 c).after 51 t)
    ∗ owns (c : Thread nD τ) (ms0_52 t) fullShare ((dats m 0 c).after 52 t)
    ∗ owns (c : Thread nD τ) (ms0_53 t) fullShare ((dats m 0 c).after 53 t)
    ∗ owns (c : Thread nD τ) (ms0_54 t) fullShare ((dats m 0 c).after 54 t)
    ∗ owns (c : Thread nD τ) (ms0_55 t) fullShare ((dats m 0 c).after 55 t)
    ∗ owns (c : Thread nD τ) (ms0_56 t) fullShare ((dats m 0 c).after 56 t)
    ∗ owns (c : Thread nD τ) (ms0_57 t) fullShare ((dats m 0 c).after 57 t)
    ∗ owns (c : Thread nD τ) (ms0_58 t) fullShare ((dats m 0 c).after 58 t))

set_option maxHeartbeats 20000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57, after0_58]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) 0#32 (wrd_iblk m c t) SmallHyps.chk1 SmallHyps.chk2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  iexact H58

end Cert.SmallIdeal.Gen

end
-- ==== Proof.SmallArr.lean ====
/-
  The optimiser's call for the small parameters: what its arrays hold at the end.
-/
module

public import proofs.«01_k».proof.Proof.SmallVal
public import proofs.«01_k».proof.Proof.SmallBody

@[expose] public section

set_option maxRecDepth 16384
set_option maxHeartbeats 4000000

noncomputable section

namespace Cert.SmallEq

open Idealize.ShloMosaic Idealize.ShloMosaic.TcCoe Idealize.SL.Sem
open Cert.AdamEq (NM NV STEP)
open Cert.SmallVal

open Cert.SmallIdeal Cert.SmallIdeal.Gen

variable (m : (ℓ : Loc nD τ sig) → Buf (Elt Ideal) ℓ) (c : Dev nD)

/-- The packed sum, and the parameters with their running means. -/
def a0 : Vec Ideal S1128x128 .f32 := m ((c : Thread nD τ).loc main_arg0)
def a1 : Vec Ideal S1x512 .f32 := m ((c : Thread nD τ).loc main_arg1)
def a2 : Vec Ideal S1x512 .f32 := m ((c : Thread nD τ).loc main_arg2)
def a3 : Vec Ideal S1x512 .f32 := m ((c : Thread nD τ).loc main_arg3)
def a4 : Vec Ideal S1x512 .f32 := m ((c : Thread nD τ).loc main_arg4)
def a5 : Vec Ideal S1x512 .f32 := m ((c : Thread nD τ).loc main_arg5)
def a6 : Vec Ideal S1x512 .f32 := m ((c : Thread nD τ).loc main_arg6)
def a7 : Vec Ideal S1024x128 .f32 := m ((c : Thread nD τ).loc main_arg7)
def a8 : Vec Ideal S1024x128 .f32 := m ((c : Thread nD τ).loc main_arg8)
def a9 : Vec Ideal S1024x128 .f32 := m ((c : Thread nD τ).loc main_arg9)
def a10 : Vec Ideal S8x128 .f32 := m ((c : Thread nD τ).loc main_arg10)
def a11 : Vec Ideal S8x128 .f32 := m ((c : Thread nD τ).loc main_arg11)
def a12 : Vec Ideal S8x128 .f32 := m ((c : Thread nD τ).loc main_arg12)
def a13 : Vec Ideal S1x16 .f32 := m ((c : Thread nD τ).loc main_arg13)
def a14 : Vec Ideal S1x16 .f32 := m ((c : Thread nD τ).loc main_arg14)
def a15 : Vec Ideal S1x16 .f32 := m ((c : Thread nD τ).loc main_arg15)
def a16 : Vec Ideal S16x32 .f32 := m ((c : Thread nD τ).loc main_arg16)
def a17 : Vec Ideal S16x32 .f32 := m ((c : Thread nD τ).loc main_arg17)
def a18 : Vec Ideal S16x32 .f32 := m ((c : Thread nD τ).loc main_arg18)
def a19 : Vec Ideal S2x1024 .f32 := m ((c : Thread nD τ).loc main_arg19)
def a20 : Vec Ideal S2x1024 .f32 := m ((c : Thread nD τ).loc main_arg20)
def a21 : Vec Ideal S2x1024 .f32 := m ((c : Thread nD τ).loc main_arg21)
def a22 : Vec Ideal S2x1024 .f32 := m ((c : Thread nD τ).loc main_arg22)
def a23 : Vec Ideal S2x1024 .f32 := m ((c : Thread nD τ).loc main_arg23)
def a24 : Vec Ideal S2x1024 .f32 := m ((c : Thread nD τ).loc main_arg24)

section

variable (t : Fin cfg0.N) (a : Fin 2)

theorem idx0 : win0_0.index t a = 0 := rfl
theorem idx2 : win0_2.index t a = 0 := rfl
theorem idx3 : win0_3.index t a = 0 := rfl
theorem idx4 : win0_4.index t a = 0 := rfl
theorem idx5 : win0_5.index t a = 0 := rfl
theorem idx6 : win0_6.index t a = 0 := rfl
theorem idx7 : win0_7.index t a = 0 := rfl
theorem idx8 : win0_8.index t a = 0 := rfl
theorem idx9 : win0_9.index t a = 0 := rfl
theorem idx10 : win0_10.index t a = 0 := rfl
theorem idx11 : win0_11.index t a = 0 := rfl
theorem idx12 : win0_12.index t a = 0 := rfl
theorem idx13 : win0_13.index t a = 0 := rfl
theorem idx14 : win0_14.index t a = 0 := rfl
theorem idx15 : win0_15.index t a = 0 := rfl
theorem idx16 : win0_16.index t a = 0 := rfl
theorem idx17 : win0_17.index t a = 0 := rfl
theorem idx18 : win0_18.index t a = 0 := rfl
theorem idx19 : win0_19.index t a = 0 := rfl
theorem idx20 : win0_20.index t a = 0 := rfl
theorem idx21 : win0_21.index t a = 0 := rfl
theorem idx22 : win0_22.index t a = 0 := rfl
theorem idx23 : win0_23.index t a = 0 := rfl
theorem idx24 : win0_24.index t a = 0 := rfl
theorem idx25 : win0_25.index t a = 0 := rfl
theorem idx26 : win0_26.index t a = 0 := rfl
theorem idx27 : win0_27.index t a = 0 := rfl
theorem idx28 : win0_28.index t a = 0 := rfl
theorem idx29 : win0_29.index t a = 0 := rfl
theorem idx30 : win0_30.index t a = 0 := rfl
theorem idx31 : win0_31.index t a = 0 := rfl
theorem idx32 : win0_32.index t a = 0 := rfl
theorem idx33 : win0_33.index t a = 0 := rfl
theorem idx34 : win0_34.index t a = 0 := rfl
theorem idx35 : win0_35.index t a = 0 := rfl
theorem idx36 : win0_36.index t a = 0 := rfl
theorem idx37 : win0_37.index t a = 0 := rfl
theorem idx38 : win0_38.index t a = 0 := rfl
theorem idx39 : win0_39.index t a = 0 := rfl
theorem idx40 : win0_40.index t a = 0 := rfl
theorem idx41 : win0_41.index t a = 0 := rfl
theorem idx42 : win0_42.index t a = 0 := rfl
theorem idx43 : win0_43.index t a = 0 := rfl
theorem idx44 : win0_44.index t a = 0 := rfl
theorem idx45 : win0_45.index t a = 0 := rfl
theorem idx46 : win0_46.index t a = 0 := rfl
theorem idx47 : win0_47.index t a = 0 := rfl
theorem idx48 : win0_48.index t a = 0 := rfl
theorem idx49 : win0_49.index t a = 0 := rfl
theorem idx50 : win0_50.index t a = 0 := rfl
theorem idx51 : win0_51.index t a = 0 := rfl
theorem idx52 : win0_52.index t a = 0 := rfl
theorem idx53 : win0_53.index t a = 0 := rfl
theorem idx54 : win0_54.index t a = 0 := rfl
theorem idx55 : win0_55.index t a = 0 := rfl
theorem idx56 : win0_56.index t a = 0 := rfl
theorem idx57 : win0_57.index t a = 0 := rfl
theorem idx58 : win0_58.index t a = 0 := rfl

end

variable (t : Fin cfg0.N)

theorem blk0 : (iblk m c 0 t : Vec Ideal S1128x128 .f32) = a0 m c := by
  funext y
  obtain ⟨r, C, rfl⟩ : ∃ (r : Fin 1128) (C : Fin 128), y = ix2 r C := ⟨y 0, y 1, eq_ix2 (n0 := 1128) (n1 := 128) y⟩
  refine Eq.trans ?_ (congrFun (V_main_arg0 m c) _)
  blk_ext [iblk, idx0 t]
theorem blk2 : (iblk m c 2 t : Vec Ideal S1x512 .f32) = a1 m c := by
  funext y
  obtain ⟨r, C, rfl⟩ : ∃ (r : Fin 1) (C : Fin 512), y = ix2 r C := ⟨y 0, y 1, eq_ix2 (n0 := 1) (n1 := 512) y⟩
  refine Eq.trans ?_ (congrFun (V_main_arg1 m c) _)
  blk_ext [iblk, idx2 t]
theorem blk3 : (iblk m c 3 t : Vec Ideal S1x512 .f32) = a2 m c := by
  funext y
  obtain ⟨r, C, rfl⟩ : ∃ (r : Fin 1) (C : Fin 512), y = ix2 r C := ⟨y 0, y 1, eq_ix2 (n0 := 1) (n1 := 512) y⟩
  refine Eq.trans ?_ (congrFun (V_main_arg2 m c) _)
  blk_ext [iblk, idx3 t]
theorem blk4 : (iblk m c 4 t : Vec Ideal S1x512 .f32) = a3 m c := by
  funext y
  obtain ⟨r, C, rfl⟩ : ∃ (r : Fin 1) (C : Fin 512), y = ix2 r C := ⟨y 0, y 1, eq_ix2 (n0 := 1) (n1 := 512) y⟩
  refine Eq.trans ?_ (congrFun (V_main_arg3 m c) _)
  blk_ext [iblk, idx4 t]
theorem blk5 : (iblk m c 5 t : Vec Ideal S1x512 .f32) = a4 m c := by
  funext y
  obtain ⟨r, C, rfl⟩ : ∃ (r : Fin 1) (C : Fin 512), y = ix2 r C := ⟨y 0, y 1, eq_ix2 (n0 := 1) (n1 := 512) y⟩
  refine Eq.trans ?_ (congrFun (V_main_arg4 m c) _)
  blk_ext [iblk, idx5 t]
theorem blk6 : (iblk m c 6 t : Vec Ideal S1x512 .f32) = a5 m c := by
  funext y
  obtain ⟨r, C, rfl⟩ : ∃ (r : Fin 1) (C : Fin 512), y = ix2 r C := ⟨y 0, y 1, eq_ix2 (n0 := 1) (n1 := 512) y⟩
  refine Eq.trans ?_ (congrFun (V_main_arg5 m c) _)
  blk_ext [iblk, idx6 t]
theorem blk7 : (iblk m c 7 t : Vec Ideal S1x512 .f32) = a6 m c := by
  funext y
  obtain ⟨r, C, rfl⟩ : ∃ (r : Fin 1) (C : Fin 512), y = ix2 r C := ⟨y 0, y 1, eq_ix2 (n0 := 1) (n1 := 512) y⟩
  refine Eq.trans ?_ (congrFun (V_main_arg6 m c) _)
  blk_ext [iblk, idx7 t]
theorem blk8 : (iblk m c 8 t : Vec Ideal S1024x128 .f32) = a7 m c := by
  funext y
  obtain ⟨r, C, rfl⟩ : ∃ (r : Fin 1024) (C : Fin 128), y = ix2 r C := ⟨y 0, y 1, eq_ix2 (n0 := 1024) (n1 := 128) y⟩
  refine Eq.trans ?_ (congrFun (V_main_arg7 m c) _)
  blk_ext [iblk, idx8 t]
theorem blk9 : (iblk m c 9 t : Vec Ideal S1024x128 .f32) = a8 m c := by
  funext y
  obtain ⟨r, C, rfl⟩ : ∃ (r : Fin 1024) (C : Fin 128), y = ix2 r C := ⟨y 0, y 1, eq_ix2 (n0 := 1024) (n1 := 128) y⟩
  refine Eq.trans ?_ (congrFun (V_main_arg8 m c) _)
  blk_ext [iblk, idx9 t]
theorem blk10 : (iblk m c 10 t : Vec Ideal S1024x128 .f32) = a9 m c := by
  funext y
  obtain ⟨r, C, rfl⟩ : ∃ (r : Fin 1024) (C : Fin 128), y = ix2 r C := ⟨y 0, y 1, eq_ix2 (n0 := 1024) (n1 := 128) y⟩
  refine Eq.trans ?_ (congrFun (V_main_arg9 m c) _)
  blk_ext [iblk, idx10 t]
theorem blk11 : (iblk m c 11 t : Vec Ideal S8x128 .f32) = a10 m c := by
  funext y
  obtain ⟨r, C, rfl⟩ : ∃ (r : Fin 8) (C : Fin 128), y = ix2 r C := ⟨y 0, y 1, eq_ix2 (n0 := 8) (n1 := 128) y⟩
  refine Eq.trans ?_ (congrFun (V_main_arg10 m c) _)
  blk_ext [iblk, idx11 t]
theorem blk12 : (iblk m c 12 t : Vec Ideal S8x128 .f32) = a11 m c := by
  funext y
  obtain ⟨r, C, rfl⟩ : ∃ (r : Fin 8) (C : Fin 128), y = ix2 r C := ⟨y 0, y 1, eq_ix2 (n0 := 8) (n1 := 128) y⟩
  refine Eq.trans ?_ (congrFun (V_main_arg11 m c) _)
  blk_ext [iblk, idx12 t]
theorem blk13 : (iblk m c 13 t : Vec Ideal S8x128 .f32) = a12 m c := by
  funext y
  obtain ⟨r, C, rfl⟩ : ∃ (r : Fin 8) (C : Fin 128), y = ix2 r C := ⟨y 0, y 1, eq_ix2 (n0 := 8) (n1 := 128) y⟩
  refine Eq.trans ?_ (congrFun (V_main_arg12 m c) _)
  blk_ext [iblk, idx13 t]
theorem blk14 : (iblk m c 14 t : Vec Ideal S1x16 .f32) = a13 m c := by
  funext y
  obtain ⟨r, C, rfl⟩ : ∃ (r : Fin 1) (C : Fin 16), y = ix2 r C := ⟨y 0, y 1, eq_ix2 (n0 := 1) (n1 := 16) y⟩
  refine Eq.trans ?_ (congrFun (V_main_arg13 m c) _)
  blk_ext [iblk, idx14 t]
theorem blk15 : (iblk m c 15 t : Vec Ideal S1x16 .f32) = a14 m c := by
  funext y
  obtain ⟨r, C, rfl⟩ : ∃ (r : Fin 1) (C : Fin 16), y = ix2 r C := ⟨y 0, y 1, eq_ix2 (n0 := 1) (n1 := 16) y⟩
  refine Eq.trans ?_ (congrFun (V_main_arg14 m c) _)
  blk_ext [iblk, idx15 t]
theorem blk16 : (iblk m c 16 t : Vec Ideal S1x16 .f32) = a15 m c := by
  funext y
  obtain ⟨r, C, rfl⟩ : ∃ (r : Fin 1) (C : Fin 16), y = ix2 r C := ⟨y 0, y 1, eq_ix2 (n0 := 1) (n1 := 16) y⟩
  refine Eq.trans ?_ (congrFun (V_main_arg15 m c) _)
  blk_ext [iblk, idx16 t]
theorem blk17 : (iblk m c 17 t : Vec Ideal S16x32 .f32) = a16 m c := by
  funext y
  obtain ⟨r, C, rfl⟩ : ∃ (r : Fin 16) (C : Fin 32), y = ix2 r C := ⟨y 0, y 1, eq_ix2 (n0 := 16) (n1 := 32) y⟩
  refine Eq.trans ?_ (congrFun (V_main_arg16 m c) _)
  blk_ext [iblk, idx17 t]
theorem blk18 : (iblk m c 18 t : Vec Ideal S16x32 .f32) = a17 m c := by
  funext y
  obtain ⟨r, C, rfl⟩ : ∃ (r : Fin 16) (C : Fin 32), y = ix2 r C := ⟨y 0, y 1, eq_ix2 (n0 := 16) (n1 := 32) y⟩
  refine Eq.trans ?_ (congrFun (V_main_arg17 m c) _)
  blk_ext [iblk, idx18 t]
theorem blk19 : (iblk m c 19 t : Vec Ideal S16x32 .f32) = a18 m c := by
  funext y
  obtain ⟨r, C, rfl⟩ : ∃ (r : Fin 16) (C : Fin 32), y = ix2 r C := ⟨y 0, y 1, eq_ix2 (n0 := 16) (n1 := 32) y⟩
  refine Eq.trans ?_ (congrFun (V_main_arg18 m c) _)
  blk_ext [iblk, idx19 t]
theorem blk20 : (iblk m c 20 t : Vec Ideal S2x1024 .f32) = a19 m c := by
  funext y
  obtain ⟨r, C, rfl⟩ : ∃ (r : Fin 2) (C : Fin 1024), y = ix2 r C := ⟨y 0, y 1, eq_ix2 (n0 := 2) (n1 := 1024) y⟩
  refine Eq.trans ?_ (congrFun (V_main_arg19 m c) _)
  blk_ext [iblk, idx20 t]
theorem blk21 : (iblk m c 21 t : Vec Ideal S2x1024 .f32) = a20 m c := by
  funext y
  obtain ⟨r, C, rfl⟩ : ∃ (r : Fin 2) (C : Fin 1024), y = ix2 r C := ⟨y 0, y 1, eq_ix2 (n0 := 2) (n1 := 1024) y⟩
  refine Eq.trans ?_ (congrFun (V_main_arg20 m c) _)
  blk_ext [iblk, idx21 t]
theorem blk22 : (iblk m c 22 t : Vec Ideal S2x1024 .f32) = a21 m c := by
  funext y
  obtain ⟨r, C, rfl⟩ : ∃ (r : Fin 2) (C : Fin 1024), y = ix2 r C := ⟨y 0, y 1, eq_ix2 (n0 := 2) (n1 := 1024) y⟩
  refine Eq.trans ?_ (congrFun (V_main_arg21 m c) _)
  blk_ext [iblk, idx22 t]
theorem blk23 : (iblk m c 23 t : Vec Ideal S2x1024 .f32) = a22 m c := by
  funext y
  obtain ⟨r, C, rfl⟩ : ∃ (r : Fin 2) (C : Fin 1024), y = ix2 r C := ⟨y 0, y 1, eq_ix2 (n0 := 2) (n1 := 1024) y⟩
  refine Eq.trans ?_ (congrFun (V_main_arg22 m c) _)
  blk_ext [iblk, idx23 t]
theorem blk24 : (iblk m c 24 t : Vec Ideal S2x1024 .f32) = a23 m c := by
  funext y
  obtain ⟨r, C, rfl⟩ : ∃ (r : Fin 2) (C : Fin 1024), y = ix2 r C := ⟨y 0, y 1, eq_ix2 (n0 := 2) (n1 := 1024) y⟩
  refine Eq.trans ?_ (congrFun (V_main_arg23 m c) _)
  blk_ext [iblk, idx24 t]
theorem blk25 : (iblk m c 25 t : Vec Ideal S2x1024 .f32) = a24 m c := by
  funext y
  obtain ⟨r, C, rfl⟩ : ∃ (r : Fin 2) (C : Fin 1024), y = ix2 r C := ⟨y 0, y 1, eq_ix2 (n0 := 2) (n1 := 1024) y⟩
  refine Eq.trans ?_ (congrFun (V_main_arg24 m c) _)
  blk_ext [iblk, idx25 t]
theorem arr26 : (dats m 0 c).arrAt 26 cfg0.N = G0 (a0 m c) := by
  refine (dats m 0 c).arrAt_eq_of_covers 26 _ (by decide +kernel) fun t hf y => ?_
  blk_simp
  have e : (win0_26.blk t).view.emb y = y := by
    funext a; fin_cases a <;> apply Fin.ext <;> simp [idx26 t]
  rw [after0_26, blk0, val26]
  exact (congrArg (G0 (a0 m c)) e).symm
theorem arr27 : (dats m 0 c).arrAt 27 cfg0.N = STEP (a1 m c) (G0 (a0 m c)) (a2 m c) (a3 m c) := by
  refine (dats m 0 c).arrAt_eq_of_covers 27 _ (by decide +kernel) fun t hf y => ?_
  blk_simp
  have e : (win0_27.blk t).view.emb y = y := by
    funext a; fin_cases a <;> apply Fin.ext <;> simp [idx27 t]
  rw [after0_27, blk0, blk2, blk3, blk4, val27]
  exact (congrArg (STEP (a1 m c) (G0 (a0 m c)) (a2 m c) (a3 m c)) e).symm
theorem arr28 : (dats m 0 c).arrAt 28 cfg0.N = NM (G0 (a0 m c)) (a2 m c) := by
  refine (dats m 0 c).arrAt_eq_of_covers 28 _ (by decide +kernel) fun t hf y => ?_
  blk_simp
  have e : (win0_28.blk t).view.emb y = y := by
    funext a; fin_cases a <;> apply Fin.ext <;> simp [idx28 t]
  rw [after0_28, blk0, blk3, val28]
  exact (congrArg (NM (G0 (a0 m c)) (a2 m c)) e).symm
theorem arr29 : (dats m 0 c).arrAt 29 cfg0.N = NV (G0 (a0 m c)) (a3 m c) := by
  refine (dats m 0 c).arrAt_eq_of_covers 29 _ (by decide +kernel) fun t hf y => ?_
  blk_simp
  have e : (win0_29.blk t).view.emb y = y := by
    funext a; fin_cases a <;> apply Fin.ext <;> simp [idx29 t]
  rw [after0_29, blk0, blk4, val29]
  exact (congrArg (NV (G0 (a0 m c)) (a3 m c)) e).symm
theorem arr30 : (dats m 0 c).arrAt 30 cfg0.N = G1 (a0 m c) := by
  refine (dats m 0 c).arrAt_eq_of_covers 30 _ (by decide +kernel) fun t hf y => ?_
  blk_simp
  have e : (win0_30.blk t).view.emb y = y := by
    funext a; fin_cases a <;> apply Fin.ext <;> simp [idx30 t]
  rw [after0_30, blk0, val30]
  exact (congrArg (G1 (a0 m c)) e).symm
theorem arr31 : (dats m 0 c).arrAt 31 cfg0.N = STEP (a4 m c) (G1 (a0 m c)) (a5 m c) (a6 m c) := by
  refine (dats m 0 c).arrAt_eq_of_covers 31 _ (by decide +kernel) fun t hf y => ?_
  blk_simp
  have e : (win0_31.blk t).view.emb y = y := by
    funext a; fin_cases a <;> apply Fin.ext <;> simp [idx31 t]
  rw [after0_31, blk0, blk5, blk6, blk7, val31]
  exact (congrArg (STEP (a4 m c) (G1 (a0 m c)) (a5 m c) (a6 m c)) e).symm
theorem arr32 : (dats m 0 c).arrAt 32 cfg0.N = NM (G1 (a0 m c)) (a5 m c) := by
  refine (dats m 0 c).arrAt_eq_of_covers 32 _ (by decide +kernel) fun t hf y => ?_
  blk_simp
  have e : (win0_32.blk t).view.emb y = y := by
    funext a; fin_cases a <;> apply Fin.ext <;> simp [idx32 t]
  rw [after0_32, blk0, blk6, val32]
  exact (congrArg (NM (G1 (a0 m c)) (a5 m c)) e).symm
theorem arr33 : (dats m 0 c).arrAt 33 cfg0.N = NV (G1 (a0 m c)) (a6 m c) := by
  refine (dats m 0 c).arrAt_eq_of_covers 33 _ (by decide +kernel) fun t hf y => ?_
  blk_simp
  have e : (win0_33.blk t).view.emb y = y := by
    funext a; fin_cases a <;> apply Fin.ext <;> simp [idx33 t]
  rw [after0_33, blk0, blk7, val33]
  exact (congrArg (NV (G1 (a0 m c)) (a6 m c)) e).symm
theorem arr34 : (dats m 0 c).arrAt 34 cfg0.N = G2 (a0 m c) := by
  refine (dats m 0 c).arrAt_eq_of_covers 34 _ (by decide +kernel) fun t hf y => ?_
  blk_simp
  have e : (win0_34.blk t).view.emb y = y := by
    funext a; fin_cases a <;> apply Fin.ext <;> simp [idx34 t]
  rw [after0_34, blk0, val34]
  exact (congrArg (G2 (a0 m c)) e).symm
theorem arr35 : (dats m 0 c).arrAt 35 cfg0.N = STEP (a7 m c) (G2 (a0 m c)) (a8 m c) (a9 m c) := by
  refine (dats m 0 c).arrAt_eq_of_covers 35 _ (by decide +kernel) fun t hf y => ?_
  blk_simp
  have e : (win0_35.blk t).view.emb y = y := by
    funext a; fin_cases a <;> apply Fin.ext <;> simp [idx35 t]
  rw [after0_35, blk0, blk8, blk9, blk10, val35]
  exact (congrArg (STEP (a7 m c) (G2 (a0 m c)) (a8 m c) (a9 m c)) e).symm
theorem arr36 : (dats m 0 c).arrAt 36 cfg0.N = NM (G2 (a0 m c)) (a8 m c) := by
  refine (dats m 0 c).arrAt_eq_of_covers 36 _ (by decide +kernel) fun t hf y => ?_
  blk_simp
  have e : (win0_36.blk t).view.emb y = y := by
    funext a; fin_cases a <;> apply Fin.ext <;> simp [idx36 t]
  rw [after0_36, blk0, blk9, val36]
  exact (congrArg (NM (G2 (a0 m c)) (a8 m c)) e).symm
theorem arr37 : (dats m 0 c).arrAt 37 cfg0.N = NV (G2 (a0 m c)) (a9 m c) := by
  refine (dats m 0 c).arrAt_eq_of_covers 37 _ (by decide +kernel) fun t hf y => ?_
  blk_simp
  have e : (win0_37.blk t).view.emb y = y := by
    funext a; fin_cases a <;> apply Fin.ext <;> simp [idx37 t]
  rw [after0_37, blk0, blk10, val37]
  exact (congrArg (NV (G2 (a0 m c)) (a9 m c)) e).symm
theorem arr38 : (dats m 0 c).arrAt 38 cfg0.N = G3 (a0 m c) := by
  refine (dats m 0 c).arrAt_eq_of_covers 38 _ (by decide +kernel) fun t hf y => ?_
  blk_simp
  have e : (win0_38.blk t).view.emb y = y := by
    funext a; fin_cases a <;> apply Fin.ext <;> simp [idx38 t]
  rw [after0_38, blk0, val38]
  exact (congrArg (G3 (a0 m c)) e).symm
theorem arr39 : (dats m 0 c).arrAt 39 cfg0.N = STEP (a10 m c) (G3 (a0 m c)) (a11 m c) (a12 m c) := by
  refine (dats m 0 c).arrAt_eq_of_covers 39 _ (by decide +kernel) fun t hf y => ?_
  blk_simp
  have e : (win0_39.blk t).view.emb y = y := by
    funext a; fin_cases a <;> apply Fin.ext <;> simp [idx39 t]
  rw [after0_39, blk0, blk11, blk12, blk13, val39]
  exact (congrArg (STEP (a10 m c) (G3 (a0 m c)) (a11 m c) (a12 m c)) e).symm
theorem arr40 : (dats m 0 c).arrAt 40 cfg0.N = NM (G3 (a0 m c)) (a11 m c) := by
  refine (dats m 0 c).arrAt_eq_of_covers 40 _ (by decide +kernel) fun t hf y => ?_
  blk_simp
  have e : (win0_40.blk t).view.emb y = y := by
    funext a; fin_cases a <;> apply Fin.ext <;> simp [idx40 t]
  rw [after0_40, blk0, blk12, val40]
  exact (congrArg (NM (G3 (a0 m c)) (a11 m c)) e).symm
theorem arr41 : (dats m 0 c).arrAt 41 cfg0.N = NV (G3 (a0 m c)) (a12 m c) := by
  refine (dats m 0 c).arrAt_eq_of_covers 41 _ (by decide +kernel) fun t hf y => ?_
  blk_simp
  have e : (win0_41.blk t).view.emb y = y := by
    funext a; fin_cases a <;> apply Fin.ext <;> simp [idx41 t]
  rw [after0_41, blk0, blk13, val41]
  exact (congrArg (NV (G3 (a0 m c)) (a12 m c)) e).symm
theorem arr42 : (dats m 0 c).arrAt 42 cfg0.N = G4 (a0 m c) := by
  refine (dats m 0 c).arrAt_eq_of_covers 42 _ (by decide +kernel) fun t hf y => ?_
  blk_simp
  have e : (win0_42.blk t).view.emb y = y := by
    funext a; fin_cases a <;> apply Fin.ext <;> simp [idx42 t]
  rw [after0_42, blk0, val42]
  exact (congrArg (G4 (a0 m c)) e).symm
theorem arr43 : (dats m 0 c).arrAt 43 cfg0.N = STEP (a13 m c) (G4 (a0 m c)) (a14 m c) (a15 m c) := by
  refine (dats m 0 c).arrAt_eq_of_covers 43 _ (by decide +kernel) fun t hf y => ?_
  blk_simp
  have e : (win0_43.blk t).view.emb y = y := by
    funext a; fin_cases a <;> apply Fin.ext <;> simp [idx43 t]
  rw [after0_43, blk0, blk14, blk15, blk16, val43]
  exact (congrArg (STEP (a13 m c) (G4 (a0 m c)) (a14 m c) (a15 m c)) e).symm
theorem arr44 : (dats m 0 c).arrAt 44 cfg0.N = NM (G4 (a0 m c)) (a14 m c) := by
  refine (dats m 0 c).arrAt_eq_of_covers 44 _ (by decide +kernel) fun t hf y => ?_
  blk_simp
  have e : (win0_44.blk t).view.emb y = y := by
    funext a; fin_cases a <;> apply Fin.ext <;> simp [idx44 t]
  rw [after0_44, blk0, blk15, val44]
  exact (congrArg (NM (G4 (a0 m c)) (a14 m c)) e).symm
theorem arr45 : (dats m 0 c).arrAt 45 cfg0.N = NV (G4 (a0 m c)) (a15 m c) := by
  refine (dats m 0 c).arrAt_eq_of_covers 45 _ (by decide +kernel) fun t hf y => ?_
  blk_simp
  have e : (win0_45.blk t).view.emb y = y := by
    funext a; fin_cases a <;> apply Fin.ext <;> simp [idx45 t]
  rw [after0_45, blk0, blk16, val45]
  exact (congrArg (NV (G4 (a0 m c)) (a15 m c)) e).symm
theorem arr46 : (dats m 0 c).arrAt 46 cfg0.N = G5 (a0 m c) := by
  refine (dats m 0 c).arrAt_eq_of_covers 46 _ (by decide +kernel) fun t hf y => ?_
  blk_simp
  have e : (win0_46.blk t).view.emb y = y := by
    funext a; fin_cases a <;> apply Fin.ext <;> simp [idx46 t]
  rw [after0_46, blk0, val46]
  exact (congrArg (G5 (a0 m c)) e).symm
theorem arr47 : (dats m 0 c).arrAt 47 cfg0.N = STEP (a16 m c) (G5 (a0 m c)) (a17 m c) (a18 m c) := by
  refine (dats m 0 c).arrAt_eq_of_covers 47 _ (by decide +kernel) fun t hf y => ?_
  blk_simp
  have e : (win0_47.blk t).view.emb y = y := by
    funext a; fin_cases a <;> apply Fin.ext <;> simp [idx47 t]
  rw [after0_47, blk0, blk17, blk18, blk19, val47]
  exact (congrArg (STEP (a16 m c) (G5 (a0 m c)) (a17 m c) (a18 m c)) e).symm
theorem arr48 : (dats m 0 c).arrAt 48 cfg0.N = NM (G5 (a0 m c)) (a17 m c) := by
  refine (dats m 0 c).arrAt_eq_of_covers 48 _ (by decide +kernel) fun t hf y => ?_
  blk_simp
  have e : (win0_48.blk t).view.emb y = y := by
    funext a; fin_cases a <;> apply Fin.ext <;> simp [idx48 t]
  rw [after0_48, blk0, blk18, val48]
  exact (congrArg (NM (G5 (a0 m c)) (a17 m c)) e).symm
theorem arr49 : (dats m 0 c).arrAt 49 cfg0.N = NV (G5 (a0 m c)) (a18 m c) := by
  refine (dats m 0 c).arrAt_eq_of_covers 49 _ (by decide +kernel) fun t hf y => ?_
  blk_simp
  have e : (win0_49.blk t).view.emb y = y := by
    funext a; fin_cases a <;> apply Fin.ext <;> simp [idx49 t]
  rw [after0_49, blk0, blk19, val49]
  exact (congrArg (NV (G5 (a0 m c)) (a18 m c)) e).symm
theorem arr50 : (dats m 0 c).arrAt 50 cfg0.N = G6 (a0 m c) := by
  refine (dats m 0 c).arrAt_eq_of_covers 50 _ (by decide +kernel) fun t hf y => ?_
  blk_simp
  have e : (win0_50.blk t).view.emb y = y := by
    funext a; fin_cases a <;> apply Fin.ext <;> simp [idx50 t]
  rw [after0_50, blk0, val50]
  exact (congrArg (G6 (a0 m c)) e).symm
theorem arr51 : (dats m 0 c).arrAt 51 cfg0.N = STEP (a19 m c) (G6 (a0 m c)) (a20 m c) (a21 m c) := by
  refine (dats m 0 c).arrAt_eq_of_covers 51 _ (by decide +kernel) fun t hf y => ?_
  blk_simp
  have e : (win0_51.blk t).view.emb y = y := by
    funext a; fin_cases a <;> apply Fin.ext <;> simp [idx51 t]
  rw [after0_51, blk0, blk20, blk21, blk22, val51]
  exact (congrArg (STEP (a19 m c) (G6 (a0 m c)) (a20 m c) (a21 m c)) e).symm
theorem arr52 : (dats m 0 c).arrAt 52 cfg0.N = NM (G6 (a0 m c)) (a20 m c) := by
  refine (dats m 0 c).arrAt_eq_of_covers 52 _ (by decide +kernel) fun t hf y => ?_
  blk_simp
  have e : (win0_52.blk t).view.emb y = y := by
    funext a; fin_cases a <;> apply Fin.ext <;> simp [idx52 t]
  rw [after0_52, blk0, blk21, val52]
  exact (congrArg (NM (G6 (a0 m c)) (a20 m c)) e).symm
theorem arr53 : (dats m 0 c).arrAt 53 cfg0.N = NV (G6 (a0 m c)) (a21 m c) := by
  refine (dats m 0 c).arrAt_eq_of_covers 53 _ (by decide +kernel) fun t hf y => ?_
  blk_simp
  have e : (win0_53.blk t).view.emb y = y := by
    funext a; fin_cases a <;> apply Fin.ext <;> simp [idx53 t]
  rw [after0_53, blk0, blk22, val53]
  exact (congrArg (NV (G6 (a0 m c)) (a21 m c)) e).symm
theorem arr54 : (dats m 0 c).arrAt 54 cfg0.N = G7 (a0 m c) := by
  refine (dats m 0 c).arrAt_eq_of_covers 54 _ (by decide +kernel) fun t hf y => ?_
  blk_simp
  have e : (win0_54.blk t).view.emb y = y := by
    funext a; fin_cases a <;> apply Fin.ext <;> simp [idx54 t]
  rw [after0_54, blk0, val54]
  exact (congrArg (G7 (a0 m c)) e).symm
theorem arr55 : (dats m 0 c).arrAt 55 cfg0.N = STEP (a22 m c) (G7 (a0 m c)) (a23 m c) (a24 m c) := by
  refine (dats m 0 c).arrAt_eq_of_covers 55 _ (by decide +kernel) fun t hf y => ?_
  blk_simp
  have e : (win0_55.blk t).view.emb y = y := by
    funext a; fin_cases a <;> apply Fin.ext <;> simp [idx55 t]
  rw [after0_55, blk0, blk23, blk24, blk25, val55]
  exact (congrArg (STEP (a22 m c) (G7 (a0 m c)) (a23 m c) (a24 m c)) e).symm
theorem arr56 : (dats m 0 c).arrAt 56 cfg0.N = NM (G7 (a0 m c)) (a23 m c) := by
  refine (dats m 0 c).arrAt_eq_of_covers 56 _ (by decide +kernel) fun t hf y => ?_
  blk_simp
  have e : (win0_56.blk t).view.emb y = y := by
    funext a; fin_cases a <;> apply Fin.ext <;> simp [idx56 t]
  rw [after0_56, blk0, blk24, val56]
  exact (congrArg (NM (G7 (a0 m c)) (a23 m c)) e).symm
theorem arr57 : (dats m 0 c).arrAt 57 cfg0.N = NV (G7 (a0 m c)) (a24 m c) := by
  refine (dats m 0 c).arrAt_eq_of_covers 57 _ (by decide +kernel) fun t hf y => ?_
  blk_simp
  have e : (win0_57.blk t).view.emb y = y := by
    funext a; fin_cases a <;> apply Fin.ext <;> simp [idx57 t]
  rw [after0_57, blk0, blk25, val57]
  exact (congrArg (NV (G7 (a0 m c)) (a24 m c)) e).symm
theorem arr58 : (dats m 0 c).arrAt 58 cfg0.N = LOSS (a0 m c) := by
  refine (dats m 0 c).arrAt_eq_of_covers 58 _ (by decide +kernel) fun t hf y => ?_
  blk_simp
  have e : (win0_58.blk t).view.emb y = y := by
    funext a; fin_cases a <;> apply Fin.ext <;> simp [idx58 t]
  rw [after0_58, blk0, val58]
  exact (congrArg (LOSS (a0 m c)) e).symm

end Cert.SmallEq

end
-- ==== Proof.SmallRef.lean ====
/-
  The reference of the optimiser's call for the small parameters: its gradients are those of SmallVal.
-/
module

public import proofs.«01_k».proof.Proof.SmallVal

@[expose] public section

set_option maxRecDepth 16384
set_option maxHeartbeats 4000000

noncomputable section

namespace Cert.SmallVal

open Cert.SmallRefIdeal Cert.SmallRefIdeal.Value Idealize.ShloMosaic Idealize.ShloMosaic.TcCoe Idealize.SL.Sem

variable (V0 : Valuation τ sig (Elt Ideal))

theorem ref0 : (res_main_v2 V0 : Vec Ideal S1x512 .f32) = G0 (V0 (Proc.devRef .tc main_arg0)) := by
  funext j
  have h0 : (j 0).val < 1 := (j 0).isLt
  have h1 : (j 1).val < 512 := (j 1).isLt
  unfold res_main_v2
  refine (extractStridedSlice_apply _ _ _ j (ix2 (n0 := 1) (n1 := 2048) 0 ⟨(j 1).val, by omega⟩) (by intro a; fin_cases a <;> simp <;> omega)).trans ?_
  refine (shapeCast_apply _ _ _ (ix2 (n0 := 16) (n1 := 128) ⟨(j 1).val / 128, by omega⟩ ⟨(j 1).val % 128, by omega⟩) (by
    refine (Shape.rowMajor_val_two _).trans (Eq.trans ?_ (Shape.rowMajor_val_two (d := ![1, 2048]) _).symm)
    simp
    omega)).trans ?_
  exact extractStridedSlice_apply _ _ _ _ _ (by intro a; fin_cases a <;> simp)

theorem ref1 : (res_main_v29 V0 : Vec Ideal S1x512 .f32) = G1 (V0 (Proc.devRef .tc main_arg0)) := by
  funext j
  have h0 : (j 0).val < 1 := (j 0).isLt
  have h1 : (j 1).val < 512 := (j 1).isLt
  unfold res_main_v29
  refine (extractStridedSlice_apply _ _ _ j (ix2 (n0 := 1) (n1 := 2048) 0 ⟨(j 1).val, by omega⟩) (by intro a; fin_cases a <;> simp <;> omega)).trans ?_
  refine (shapeCast_apply _ _ _ (ix2 (n0 := 16) (n1 := 128) ⟨(j 1).val / 128, by omega⟩ ⟨(j 1).val % 128, by omega⟩) (by
    refine (Shape.rowMajor_val_two _).trans (Eq.trans ?_ (Shape.rowMajor_val_two (d := ![1, 2048]) _).symm)
    simp
    omega)).trans ?_
  exact extractStridedSlice_apply _ _ _ _ _ (by intro a; fin_cases a <;> simp)

theorem ref2 : (res_main_v54 V0 : Vec Ideal S1024x128 .f32) = G2 (V0 (Proc.devRef .tc main_arg0)) := by
  funext j
  have h0 : (j 0).val < 1024 := (j 0).isLt
  have h1 : (j 1).val < 128 := (j 1).isLt
  unfold res_main_v54
  exact extractStridedSlice_apply _ _ _ j _ (by intro a; fin_cases a <;> simp)

theorem ref3 : (res_main_v79 V0 : Vec Ideal S8x128 .f32) = G3 (V0 (Proc.devRef .tc main_arg0)) := by
  funext j
  have h0 : (j 0).val < 8 := (j 0).isLt
  have h1 : (j 1).val < 128 := (j 1).isLt
  unfold res_main_v79
  exact extractStridedSlice_apply _ _ _ j _ (by intro a; fin_cases a <;> simp)

theorem ref4 : (res_main_v104 V0 : Vec Ideal S1x16 .f32) = G4 (V0 (Proc.devRef .tc main_arg0)) := by
  funext j
  have h0 : (j 0).val < 1 := (j 0).isLt
  have h1 : (j 1).val < 16 := (j 1).isLt
  unfold res_main_v104
  exact extractStridedSlice_apply _ _ _ j _ (by intro a; fin_cases a <;> simp)

theorem ref5 : (res_main_v129 V0 : Vec Ideal S16x32 .f32) = G5 (V0 (Proc.devRef .tc main_arg0)) := by
  funext j
  have h0 : (j 0).val < 16 := (j 0).isLt
  have h1 : (j 1).val < 32 := (j 1).isLt
  unfold res_main_v129
  exact extractStridedSlice_apply _ _ _ j _ (by intro a; fin_cases a <;> simp)

theorem ref6 : (res_main_v155 V0 : Vec Ideal S2x1024 .f32) = G6 (V0 (Proc.devRef .tc main_arg0)) := by
  funext j
  have h0 : (j 0).val < 2 := (j 0).isLt
  have h1 : (j 1).val < 1024 := (j 1).isLt
  unfold res_main_v155
  refine (shapeCast_apply _ _ _ (ix2 (n0 := 16) (n1 := 128) ⟨8 * (j 0).val + (j 1).val / 128, by omega⟩ ⟨(j 1).val % 128, by omega⟩) (by
    refine (Shape.rowMajor_val_two _).trans (Eq.trans ?_ (Shape.rowMajor_val_two (d := ![2, 1024]) _).symm)
    simp
    omega)).trans ?_
  exact extractStridedSlice_apply _ _ _ _ _ (by intro a; fin_cases a <;> simp)

theorem ref7 : (res_main_v181 V0 : Vec Ideal S2x1024 .f32) = G7 (V0 (Proc.devRef .tc main_arg0)) := by
  funext j
  have h0 : (j 0).val < 2 := (j 0).isLt
  have h1 : (j 1).val < 1024 := (j 1).isLt
  unfold res_main_v181
  refine (shapeCast_apply _ _ _ (ix2 (n0 := 16) (n1 := 128) ⟨8 * (j 0).val + (j 1).val / 128, by omega⟩ ⟨(j 1).val % 128, by omega⟩) (by
    refine (Shape.rowMajor_val_two _).trans (Eq.trans ?_ (Shape.rowMajor_val_two (d := ![2, 1024]) _).symm)
    simp
    omega)).trans ?_
  exact extractStridedSlice_apply _ _ _ _ _ (by intro a; fin_cases a <;> simp)

end Cert.SmallVal

end
-- ==== Proof.SmallFrame.lean ====
/-
  The optimiser's call for the small parameters: the run of the launch and the frame.
-/
module

public import proofs.«01_k».proof.Proof.SmallBody

@[expose] public section

set_option maxRecDepth 16384

noncomputable section

namespace Cert.SmallIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl (by unfold bodyPre; exact .rfl) fun _ => by unfold bodyPost; exact .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  θ_run_and (unchanged m ρ) ((θ_run defs _ _).mono (fun _ h => h.2) (run_main_quiescent m ρ))

end Cert.SmallIdeal.Gen

end
-- ==== Proof.SmallKept.lean ====
/-
  The optimiser's call for the small parameters: its arguments end as launched.
-/
module

public import proofs.«01_k».proof.Proof.SmallBody

@[expose] public section

set_option maxRecDepth 16384
set_option maxHeartbeats 4000000

noncomputable section

namespace Cert.SmallEq

open Idealize.ShloMosaic Idealize.ShloMosaic.TcCoe Idealize.SL.Sem

section
open Cert.SmallIdeal Cert.SmallIdeal.Gen

/-- Every argument is as launched at the end. -/
theorem kept (m : (ℓ : Loc nD τ sig) → Buf (Elt Ideal) ℓ) (r : PUnit × MemSt nD τ sig (Elt Ideal))
    (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  ⟨((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c))),
    ((h c).1 5).trans (((dats m 0 c).arrAt_in 5 rfl _).trans ((A_eq m c 5).trans (V_main_arg4 m c))),
    ((h c).1 6).trans (((dats m 0 c).arrAt_in 6 rfl _).trans ((A_eq m c 6).trans (V_main_arg5 m c))),
    ((h c).1 7).trans (((dats m 0 c).arrAt_in 7 rfl _).trans ((A_eq m c 7).trans (V_main_arg6 m c))),
    ((h c).1 8).trans (((dats m 0 c).arrAt_in 8 rfl _).trans ((A_eq m c 8).trans (V_main_arg7 m c))),
    ((h c).1 9).trans (((dats m 0 c).arrAt_in 9 rfl _).trans ((A_eq m c 9).trans (V_main_arg8 m c))),
    ((h c).1 10).trans (((dats m 0 c).arrAt_in 10 rfl _).trans ((A_eq m c 10).trans (V_main_arg9 m c))),
    ((h c).1 11).trans (((dats m 0 c).arrAt_in 11 rfl _).trans ((A_eq m c 11).trans (V_main_arg10 m c))),
    ((h c).1 12).trans (((dats m 0 c).arrAt_in 12 rfl _).trans ((A_eq m c 12).trans (V_main_arg11 m c))),
    ((h c).1 13).trans (((dats m 0 c).arrAt_in 13 rfl _).trans ((A_eq m c 13).trans (V_main_arg12 m c))),
    ((h c).1 14).trans (((dats m 0 c).arrAt_in 14 rfl _).trans ((A_eq m c 14).trans (V_main_arg13 m c))),
    ((h c).1 15).trans (((dats m 0 c).arrAt_in 15 rfl _).trans ((A_eq m c 15).trans (V_main_arg14 m c))),
    ((h c).1 16).trans (((dats m 0 c).arrAt_in 16 rfl _).trans ((A_eq m c 16).trans (V_main_arg15 m c))),
    ((h c).1 17).trans (((dats m 0 c).arrAt_in 17 rfl _).trans ((A_eq m c 17).trans (V_main_arg16 m c))),
    ((h c).1 18).trans (((dats m 0 c).arrAt_in 18 rfl _).trans ((A_eq m c 18).trans (V_main_arg17 m c))),
    ((h c).1 19).trans (((dats m 0 c).arrAt_in 19 rfl _).trans ((A_eq m c 19).trans (V_main_arg18 m c))),
    ((h c).1 20).trans (((dats m 0 c).arrAt_in 20 rfl _).trans ((A_eq m c 20).trans (V_main_arg19 m c))),
    ((h c).1 21).trans (((dats m 0 c).arrAt_in 21 rfl _).trans ((A_eq m c 21).trans (V_main_arg20 m c))),
    ((h c).1 22).trans (((dats m 0 c).arrAt_in 22 rfl _).trans ((A_eq m c 22).trans (V_main_arg21 m c))),
    ((h c).1 23).trans (((dats m 0 c).arrAt_in 23 rfl _).trans ((A_eq m c 23).trans (V_main_arg22 m c))),
    ((h c).1 24).trans (((dats m 0 c).arrAt_in 24 rfl _).trans ((A_eq m c 24).trans (V_main_arg23 m c))),
    ((h c).1 25).trans (((dats m 0 c).arrAt_in 25 rfl _).trans ((A_eq m c 25).trans (V_main_arg24 m c)))⟩
end

end Cert.SmallEq

end
-- ==== Proof.SmallEq.lean ====
/-
  The optimiser's call for the small parameters: its value claim.
-/
module

public import proofs.«01_k».proof.Defs
public import proofs.«01_k».proof.Proof.SmallArr
public import proofs.«01_k».proof.Proof.SmallRef
public import proofs.«01_k».proof.Proof.SmallFrame
public import proofs.«01_k».proof.Proof.SmallKept
public import Idealize.ShloMosaic.Adequacy
public import Idealize.ShloMosaic.Init

@[expose] public section

set_option maxRecDepth 16384
set_option maxHeartbeats 4000000

noncomputable section

namespace Cert.SmallEq

open Idealize.ShloMosaic Idealize.ShloMosaic.TcCoe Idealize.SL.Sem
open Cert.AdamEq (NM NV STEP)
open Cert.SmallVal

theorem algebraic : Cert.algebraic_SmallIdeal_SmallRefIdeal := by
  intro m ρ m' ρ' _ hag
  refine ⟨fun c => (G0 (a0 m c) : Vec Ideal SmallIdeal.S1x512 .f32),
    fun c => (STEP (a1 m c) (G0 (a0 m c)) (a2 m c) (a3 m c) : Vec Ideal SmallIdeal.S1x512 .f32),
    fun c => (NM (G0 (a0 m c)) (a2 m c) : Vec Ideal SmallIdeal.S1x512 .f32),
    fun c => (NV (G0 (a0 m c)) (a3 m c) : Vec Ideal SmallIdeal.S1x512 .f32),
    fun c => (G1 (a0 m c) : Vec Ideal SmallIdeal.S1x512 .f32),
    fun c => (STEP (a4 m c) (G1 (a0 m c)) (a5 m c) (a6 m c) : Vec Ideal SmallIdeal.S1x512 .f32),
    fun c => (NM (G1 (a0 m c)) (a5 m c) : Vec Ideal SmallIdeal.S1x512 .f32),
    fun c => (NV (G1 (a0 m c)) (a6 m c) : Vec Ideal SmallIdeal.S1x512 .f32),
    fun c => (G2 (a0 m c) : Vec Ideal SmallIdeal.S1024x128 .f32),
    fun c => (STEP (a7 m c) (G2 (a0 m c)) (a8 m c) (a9 m c) : Vec Ideal SmallIdeal.S1024x128 .f32),
    fun c => (NM (G2 (a0 m c)) (a8 m c) : Vec Ideal SmallIdeal.S1024x128 .f32),
    fun c => (NV (G2 (a0 m c)) (a9 m c) : Vec Ideal SmallIdeal.S1024x128 .f32),
    fun c => (G3 (a0 m c) : Vec Ideal SmallIdeal.S8x128 .f32),
    fun c => (STEP (a10 m c) (G3 (a0 m c)) (a11 m c) (a12 m c) : Vec Ideal SmallIdeal.S8x128 .f32),
    fun c => (NM (G3 (a0 m c)) (a11 m c) : Vec Ideal SmallIdeal.S8x128 .f32),
    fun c => (NV (G3 (a0 m c)) (a12 m c) : Vec Ideal SmallIdeal.S8x128 .f32),
    fun c => (G4 (a0 m c) : Vec Ideal SmallIdeal.S1x16 .f32),
    fun c => (STEP (a13 m c) (G4 (a0 m c)) (a14 m c) (a15 m c) : Vec Ideal SmallIdeal.S1x16 .f32),
    fun c => (NM (G4 (a0 m c)) (a14 m c) : Vec Ideal SmallIdeal.S1x16 .f32),
    fun c => (NV (G4 (a0 m c)) (a15 m c) : Vec Ideal SmallIdeal.S1x16 .f32),
    fun c => (G5 (a0 m c) : Vec Ideal SmallIdeal.S16x32 .f32),
    fun c => (STEP (a16 m c) (G5 (a0 m c)) (a17 m c) (a18 m c) : Vec Ideal SmallIdeal.S16x32 .f32),
    fun c => (NM (G5 (a0 m c)) (a17 m c) : Vec Ideal SmallIdeal.S16x32 .f32),
    fun c => (NV (G5 (a0 m c)) (a18 m c) : Vec Ideal SmallIdeal.S16x32 .f32),
    fun c => (G6 (a0 m c) : Vec Ideal SmallIdeal.S2x1024 .f32),
    fun c => (STEP (a19 m c) (G6 (a0 m c)) (a20 m c) (a21 m c) : Vec Ideal SmallIdeal.S2x1024 .f32),
    fun c => (NM (G6 (a0 m c)) (a20 m c) : Vec Ideal SmallIdeal.S2x1024 .f32),
    fun c => (NV (G6 (a0 m c)) (a21 m c) : Vec Ideal SmallIdeal.S2x1024 .f32),
    fun c => (G7 (a0 m c) : Vec Ideal SmallIdeal.S2x1024 .f32),
    fun c => (STEP (a22 m c) (G7 (a0 m c)) (a23 m c) (a24 m c) : Vec Ideal SmallIdeal.S2x1024 .f32),
    fun c => (NM (G7 (a0 m c)) (a23 m c) : Vec Ideal SmallIdeal.S2x1024 .f32),
    fun c => (NV (G7 (a0 m c)) (a24 m c) : Vec Ideal SmallIdeal.S2x1024 .f32),
    fun c => (LOSS (a0 m c) : Vec Ideal SmallIdeal.S1x1 .f32), ?_, ?_⟩
  · refine (θ_run Cert.SmallIdeal.defs _ _).mono (fun r h c => ?_) (Cert.SmallIdeal.Gen.run_main m ρ)
    exact ⟨((h c).1 26).trans (arr26 m c), ((h c).1 27).trans (arr27 m c), ((h c).1 28).trans (arr28 m c), ((h c).1 29).trans (arr29 m c), ((h c).1 30).trans (arr30 m c), ((h c).1 31).trans (arr31 m c), ((h c).1 32).trans (arr32 m c), ((h c).1 33).trans (arr33 m c), ((h c).1 34).trans (arr34 m c), ((h c).1 35).trans (arr35 m c), ((h c).1 36).trans (arr36 m c), ((h c).1 37).trans (arr37 m c), ((h c).1 38).trans (arr38 m c), ((h c).1 39).trans (arr39 m c), ((h c).1 40).trans (arr40 m c), ((h c).1 41).trans (arr41 m c), ((h c).1 42).trans (arr42 m c), ((h c).1 43).trans (arr43 m c), ((h c).1 44).trans (arr44 m c), ((h c).1 45).trans (arr45 m c), ((h c).1 46).trans (arr46 m c), ((h c).1 47).trans (arr47 m c), ((h c).1 48).trans (arr48 m c), ((h c).1 49).trans (arr49 m c), ((h c).1 50).trans (arr50 m c), ((h c).1 51).trans (arr51 m c), ((h c).1 52).trans (arr52 m c), ((h c).1 53).trans (arr53 m c), ((h c).1 54).trans (arr54 m c), ((h c).1 55).trans (arr55 m c), ((h c).1 56).trans (arr56 m c), ((h c).1 57).trans (arr57 m c), ((h c).1 58).trans (arr58 m c), kept m r h c⟩
  · refine (θ_run Cert.SmallRefIdeal.defs _ _).mono (fun r h c => ?_) (Cert.SmallRefIdeal.Value.run m' ρ')
    obtain ⟨h26, h27, h28, h29, h30, h31, h32, h33, h34, h35, h36, h37, h38, h39, h40, h41, h42, h43, h44, h45, h46, h47, h48, h49, h50, h51, h52, h53, h54, h55, h56, h57, h58, hk⟩ := h c
    obtain ⟨e0, e1, e2, e3, e4, e5, e6, e7, e8, e9, e10, e11, e12, e13, e14, e15, e16, e17, e18, e19, e20, e21, e22, e23, e24⟩ := hag c
    have g0 := (ref0 (StableHlo.launchContents m' c)).trans (congrArg G0 e0)
    have g1 := (ref1 (StableHlo.launchContents m' c)).trans (congrArg G1 e0)
    have g2 := (ref2 (StableHlo.launchContents m' c)).trans (congrArg G2 e0)
    have g3 := (ref3 (StableHlo.launchContents m' c)).trans (congrArg G3 e0)
    have g4 := (ref4 (StableHlo.launchContents m' c)).trans (congrArg G4 e0)
    have g5 := (ref5 (StableHlo.launchContents m' c)).trans (congrArg G5 e0)
    have g6 := (ref6 (StableHlo.launchContents m' c)).trans (congrArg G6 e0)
    have g7 := (ref7 (StableHlo.launchContents m' c)).trans (congrArg G7 e0)
    refine ⟨h26.trans ?_, h27.trans ?_, h28.trans ?_, h29.trans ?_, h30.trans ?_, h31.trans ?_, h32.trans ?_, h33.trans ?_, h34.trans ?_, h35.trans ?_, h36.trans ?_, h37.trans ?_, h38.trans ?_, h39.trans ?_, h40.trans ?_, h41.trans ?_, h42.trans ?_, h43.trans ?_, h44.trans ?_, h45.trans ?_, h46.trans ?_, h47.trans ?_, h48.trans ?_, h49.trans ?_, h50.trans ?_, h51.trans ?_, h52.trans ?_, h53.trans ?_, h54.trans ?_, h55.trans ?_, h56.trans ?_, h57.trans ?_, h58.trans ?_, hk⟩
    · exact g0
    · rw [g0, show StableHlo.launchContents m' c (Proc.devRef .tc SmallRefIdeal.main_arg1) = a1 m c from e1, show StableHlo.launchContents m' c (Proc.devRef .tc SmallRefIdeal.main_arg2) = a2 m c from e2, show StableHlo.launchContents m' c (Proc.devRef .tc SmallRefIdeal.main_arg3) = a3 m c from e3]; rfl
    · rw [g0, show StableHlo.launchContents m' c (Proc.devRef .tc SmallRefIdeal.main_arg2) = a2 m c from e2]; rfl
    · rw [g0, show StableHlo.launchContents m' c (Proc.devRef .tc SmallRefIdeal.main_arg3) = a3 m c from e3]; rfl
    · exact g1
    · rw [g1, show StableHlo.launchContents m' c (Proc.devRef .tc SmallRefIdeal.main_arg4) = a4 m c from e4, show StableHlo.launchContents m' c (Proc.devRef .tc SmallRefIdeal.main_arg5) = a5 m c from e5, show StableHlo.launchContents m' c (Proc.devRef .tc SmallRefIdeal.main_arg6) = a6 m c from e6]; rfl
    · rw [g1, show StableHlo.launchContents m' c (Proc.devRef .tc SmallRefIdeal.main_arg5) = a5 m c from e5]; rfl
    · rw [g1, show StableHlo.launchContents m' c (Proc.devRef .tc SmallRefIdeal.main_arg6) = a6 m c from e6]; rfl
    · exact g2
    · rw [g2, show StableHlo.launchContents m' c (Proc.devRef .tc SmallRefIdeal.main_arg7) = a7 m c from e7, show StableHlo.launchContents m' c (Proc.devRef .tc SmallRefIdeal.main_arg8) = a8 m c from e8, show StableHlo.launchContents m' c (Proc.devRef .tc SmallRefIdeal.main_arg9) = a9 m c from e9]; rfl
    · rw [g2, show StableHlo.launchContents m' c (Proc.devRef .tc SmallRefIdeal.main_arg8) = a8 m c from e8]; rfl
    · rw [g2, show StableHlo.launchContents m' c (Proc.devRef .tc SmallRefIdeal.main_arg9) = a9 m c from e9]; rfl
    · exact g3
    · rw [g3, show StableHlo.launchContents m' c (Proc.devRef .tc SmallRefIdeal.main_arg10) = a10 m c from e10, show StableHlo.launchContents m' c (Proc.devRef .tc SmallRefIdeal.main_arg11) = a11 m c from e11, show StableHlo.launchContents m' c (Proc.devRef .tc SmallRefIdeal.main_arg12) = a12 m c from e12]; rfl
    · rw [g3, show StableHlo.launchContents m' c (Proc.devRef .tc SmallRefIdeal.main_arg11) = a11 m c from e11]; rfl
    · rw [g3, show StableHlo.launchContents m' c (Proc.devRef .tc SmallRefIdeal.main_arg12) = a12 m c from e12]; rfl
    · exact g4
    · rw [g4, show StableHlo.launchContents m' c (Proc.devRef .tc SmallRefIdeal.main_arg13) = a13 m c from e13, show StableHlo.launchContents m' c (Proc.devRef .tc SmallRefIdeal.main_arg14) = a14 m c from e14, show StableHlo.launchContents m' c (Proc.devRef .tc SmallRefIdeal.main_arg15) = a15 m c from e15]; rfl
    · rw [g4, show StableHlo.launchContents m' c (Proc.devRef .tc SmallRefIdeal.main_arg14) = a14 m c from e14]; rfl
    · rw [g4, show StableHlo.launchContents m' c (Proc.devRef .tc SmallRefIdeal.main_arg15) = a15 m c from e15]; rfl
    · exact g5
    · rw [g5, show StableHlo.launchContents m' c (Proc.devRef .tc SmallRefIdeal.main_arg16) = a16 m c from e16, show StableHlo.launchContents m' c (Proc.devRef .tc SmallRefIdeal.main_arg17) = a17 m c from e17, show StableHlo.launchContents m' c (Proc.devRef .tc SmallRefIdeal.main_arg18) = a18 m c from e18]; rfl
    · rw [g5, show StableHlo.launchContents m' c (Proc.devRef .tc SmallRefIdeal.main_arg17) = a17 m c from e17]; rfl
    · rw [g5, show StableHlo.launchContents m' c (Proc.devRef .tc SmallRefIdeal.main_arg18) = a18 m c from e18]; rfl
    · exact g6
    · rw [g6, show StableHlo.launchContents m' c (Proc.devRef .tc SmallRefIdeal.main_arg19) = a19 m c from e19, show StableHlo.launchContents m' c (Proc.devRef .tc SmallRefIdeal.main_arg20) = a20 m c from e20, show StableHlo.launchContents m' c (Proc.devRef .tc SmallRefIdeal.main_arg21) = a21 m c from e21]; rfl
    · rw [g6, show StableHlo.launchContents m' c (Proc.devRef .tc SmallRefIdeal.main_arg20) = a20 m c from e20]; rfl
    · rw [g6, show StableHlo.launchContents m' c (Proc.devRef .tc SmallRefIdeal.main_arg21) = a21 m c from e21]; rfl
    · exact g7
    · rw [g7, show StableHlo.launchContents m' c (Proc.devRef .tc SmallRefIdeal.main_arg22) = a22 m c from e22, show StableHlo.launchContents m' c (Proc.devRef .tc SmallRefIdeal.main_arg23) = a23 m c from e23, show StableHlo.launchContents m' c (Proc.devRef .tc SmallRefIdeal.main_arg24) = a24 m c from e24]; rfl
    · rw [g7, show StableHlo.launchContents m' c (Proc.devRef .tc SmallRefIdeal.main_arg23) = a23 m c from e23]; rfl
    · rw [g7, show StableHlo.launchContents m' c (Proc.devRef .tc SmallRefIdeal.main_arg24) = a24 m c from e24]; rfl
    · rw [show StableHlo.launchContents m' c (Proc.devRef .tc SmallRefIdeal.main_arg0) = a0 m c from e0]
      exact funext fun j => extractStridedSlice_apply _ _ _ j _ (by intro a; fin_cases a <;> simp)

end Cert.SmallEq

end
-- ==== Proof.SmallClaims.lean ====
/-
  The optimiser's call for the small parameters: its frames.
-/
module

public import proofs.«01_k».proof.Defs
public import proofs.«01_k».proof.Proof.SmallVal
public import proofs.«01_k».proof.Proof.SmallFrame
public import proofs.«01_k».proof.Proof.Gen.Small
public import Idealize.ShloMosaic.Adequacy
public import Idealize.ShloMosaic.Init

@[expose] public section

set_option maxRecDepth 16384
set_option maxHeartbeats 4000000

noncomputable section

namespace Cert.SmallEq

open Idealize.ShloMosaic Idealize.ShloMosaic.TcCoe Idealize.SL.Sem
open Cert.AdamEq (NM NV STEP)
open Cert.SmallVal

theorem frame_ref : Cert.quiescent_SmallRefIdeal := fun m ρ _ =>
  (θ_run Cert.SmallRefIdeal.defs _ _).mono (fun r h => ⟨fun c => (h c).2.2.2.2.2.2.2.2.2.2.2.2.2.2.2.2.2.2.2.2.2.2.2.2.2.2.2.2.2.2.2.2.2, sem_eq_zero_of_no_sems (by decide) r.2⟩)
    (Cert.SmallRefIdeal.Value.run m ρ)

/-- The two printings of the launch define the same bodies. -/
theorem defs_eq : @Small.defs Bits _ _ = @SmallIdeal.defs Bits _ _ := by
  have h : @Small.defs₀ Bits _ _ = @SmallIdeal.defs₀ Bits _ _ := by
    unfold Small.defs₀ SmallIdeal.defs₀
    congr 1
    funext l x
    match l, x with
    | 0, (t, s) => rfl
  exact congrArg (Pipeline.defs (Small.pcfgs (F := Bits))) h

theorem frame : Cert.quiescent_Small := by
  intro m ρ _
  have h := Cert.SmallIdeal.Gen.frame (F := Bits) m ρ
  have e := defs_eq
  revert h e
  generalize @SmallIdeal.defs Bits _ _ = d
  rintro h rfl
  exact h

end Cert.SmallEq

end
-- ==== Proof.lean ====
/-
  The certificate: the runs of the kernel and of the reference, and the equation of their results.
-/
module

public import proofs.«01_k».proof.Defs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal.Value
public import proofs.«01_k».proof.Proof.Gen.MixRefIdeal.Run
public import proofs.«01_k».proof.Proof.Gen.Dx
public import proofs.«01_k».proof.Proof.Gen.DxIdeal.Launch
public import proofs.«01_k».proof.Proof.Gen.DxIdeal.Skeleton
public import proofs.«01_k».proof.Proof.Gen.DxIdeal.Points
public import proofs.«01_k».proof.Proof.Gen.DxRefIdeal.Run
public import proofs.«01_k».proof.Proof.Gen.Win
public import proofs.«01_k».proof.Proof.Gen.WinIdeal.Value
public import proofs.«01_k».proof.Proof.Gen.WinRefIdeal.Run
public import proofs.«01_k».proof.Proof.Gen.Afwd
public import proofs.«01_k».proof.Proof.Gen.AfwdIdeal.Value
public import proofs.«01_k».proof.Proof.Gen.AfwdRefIdeal.Run
public import proofs.«01_k».proof.Proof.Gen.Bproj
public import proofs.«01_k».proof.Proof.Gen.BprojIdeal.Value
public import proofs.«01_k».proof.Proof.Gen.BprojRefIdeal.Run
public import proofs.«01_k».proof.Proof.Gen.Bgrad
public import proofs.«01_k».proof.Proof.BgradEq
public import proofs.«01_k».proof.Proof.Gen.BgradRefIdeal.Run
public import proofs.«01_k».proof.Proof.Gen.Pre_finite
public import proofs.«01_k».proof.Proof.Gen.Pre_finite_bgrad
public import proofs.«01_k».proof.Proof.MixArr
public import proofs.«01_k».proof.Proof.MixPre
public import proofs.«01_k».proof.Proof.DxEq
public import proofs.«01_k».proof.Proof.WinEq
public import proofs.«01_k».proof.Proof.AfwdEq
public import proofs.«01_k».proof.Proof.BprojEq
public import proofs.«01_k».proof.Proof.Gen.Adam
public import proofs.«01_k».proof.Proof.AdamEq
public import proofs.«01_k».proof.Proof.Gen.AdamIdeal.Value
public import proofs.«01_k».proof.Proof.Gen.AdamRefIdeal.Run
public import proofs.«01_k».proof.Proof.Gen.Small
public import proofs.«01_k».proof.Proof.SmallEq
public import proofs.«01_k».proof.Proof.SmallClaims
public import proofs.«01_k».proof.Proof.Gen.SmallRefIdeal.Run
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs, its arguments kept, and declares no counter. -/
theorem frame_MixRef : Cert.quiescent_MixRefIdeal := fun m ρ _ =>
  (θ_run Cert.MixRefIdeal.defs _ _).mono (fun r h => ⟨fun c => (h c).2.2.2.2.2.2, sem_eq_zero_of_no_sems (by decide) r.2⟩)
    (Cert.MixRefIdeal.Value.run m ρ)

/-- The six results of the kernel and of the reference are the same functions of the arguments. -/
theorem algebraic_Mix : Cert.algebraic_MixIdeal_MixRefIdeal_pre_finite := by
  intro m ρ m' ρ' hpre hag
  refine ⟨fun c => (Cert.MixGlobal.O0 (MixKernel.a0 m c) (MixKernel.a1 m c) (MixKernel.a2 m c) (MixKernel.a3 m c) (MixKernel.a4 m c) (MixKernel.a5 m c) (MixKernel.a6 m c) : Vec Ideal MixIdeal.S8192x6144 .bf16),
    fun c => (Cert.MixGlobal.O1 (MixKernel.a0 m c) (MixKernel.a1 m c) (MixKernel.a2 m c) (MixKernel.a3 m c) (MixKernel.a4 m c) (MixKernel.a6 m c) : Vec Ideal MixIdeal.S2048x1024 .bf16),
    fun c => (Cert.MixGlobal.O2 (MixKernel.a0 m c) (MixKernel.a1 m c) (MixKernel.a2 m c) (MixKernel.a5 m c) (MixKernel.a6 m c) : Vec Ideal MixIdeal.S8x128x128 .f32),
    fun c => (Cert.MixGlobal.O3 (MixKernel.a0 m c) (MixKernel.a5 m c) (MixKernel.a6 m c) : Vec Ideal MixIdeal.S128x128 .f32),
    fun c => (Cert.MixGlobal.O4 (MixKernel.a0 m c) (MixKernel.a3 m c) (MixKernel.a5 m c) (MixKernel.a6 m c) : Vec Ideal MixIdeal.S1x2048 .f32),
    fun c => (Cert.MixGlobal.O5 (MixKernel.a0 m c) (MixKernel.a3 m c) (MixKernel.a5 m c) (MixKernel.a6 m c) : Vec Ideal MixIdeal.S1x2048 .f32), ?_, ?_⟩
  · refine (θ_run Cert.MixIdeal.defs _ _).mono (fun r h c => ?_) (Cert.MixIdeal.Value.run_blocks m ρ)
    obtain ⟨h0, h1, h2, h3, h4, h5, h6⟩ := h c
    exact ⟨h0.trans (MixKernel.arr_dp m c), h1.trans (MixKernel.arr_gw m c), h2.trans (MixKernel.arr_dws m c),
      h3.trans (MixKernel.arr_dbs m c), h4.trans (MixKernel.arr_dg m c), h5.trans (MixKernel.arr_db m c), h6⟩
  · refine (θ_run Cert.MixRefIdeal.defs _ _).mono (fun r h c => ?_) (Cert.MixRefIdeal.Value.run m' ρ')
    obtain ⟨h0, h1, h2, h3, h4, h5, h6⟩ := h c
    obtain ⟨e0, e1, e2, e3, e4, e5, e6⟩ := hag c
    obtain ⟨f0, f1, f2, f3, f4, f5, f6⟩ := hpre c
    refine ⟨(h0.trans (MixRef.dp_eq m' c)).trans ?_, (h1.trans (MixRef.gw_eq m' c)).trans ?_, h2.trans ?_, h3.trans ?_, h4.trans ?_, h5.trans ?_, h6⟩
    · rw [e0, e1, e2, e3, e4, e5, e6]
      funext i
      obtain ⟨R, Q, rfl⟩ : ∃ (R : Fin 8192) (Q : Fin 6144), i = ix2 R Q := ⟨i 0, i 1, eq_ix2 (n0 := 8192) (n1 := 6144) i⟩
      exact MixRef.dp_apply _ _ _ _ _ _ _ (MixPre.real0 _ _ _ _ _ _ _ f0) (MixPre.real1 _ _ _ _ _ _ _ f1)
        (MixPre.real2 _ _ _ _ _ _ _ f2) (MixPre.real3 _ _ _ _ _ _ _ f3) (MixPre.real4 _ _ _ _ _ _ _ f4)
        (MixPre.real5 _ _ _ _ _ _ _ f5) (MixPre.real6 _ _ _ _ _ _ _ f6) R Q
    · rw [e0, e1, e2, e3, e4, e6]
      funext i
      obtain ⟨C, e, rfl⟩ : ∃ (C : Fin 2048) (e : Fin 1024), i = ix2 C e := ⟨i 0, i 1, eq_ix2 (n0 := 2048) (n1 := 1024) i⟩
      exact MixRef.gw_apply _ _ _ _ _ _ C e
    · rw [e0, e1, e2, e5, e6]
      funext i
      obtain ⟨g, t, s, rfl⟩ : ∃ (g : Fin 8) (t s : Fin 128), i = ix3 g t s := ⟨i 0, i 1, i 2, eq_ix3 (n0 := 8) (n1 := 128) (n2 := 128) i⟩
      exact MixRef.dws_apply _ _ _ _ _ g t s
    · rw [e0, e5, e6]
      funext i
      obtain ⟨t, l, rfl⟩ : ∃ (t l : Fin 128), i = ix2 t l := ⟨i 0, i 1, eq_ix2 (n0 := 128) (n1 := 128) i⟩
      exact MixRef.dbs_apply _ _ _ t l
    · rw [e0, e3, e5, e6]
      funext i
      obtain ⟨o, C, rfl⟩ : ∃ (o : Fin 1) (C : Fin 2048), i = ix2 o C := ⟨i 0, i 1, eq_ix2 (n0 := 1) (n1 := 2048) i⟩
      exact MixRef.dg_apply _ _ _ _ C o
    · rw [e0, e3, e5, e6]
      funext i
      obtain ⟨o, C, rfl⟩ : ∃ (o : Fin 1) (C : Fin 2048), i = ix2 o C := ⟨i 0, i 1, eq_ix2 (n0 := 1) (n1 := 2048) i⟩
      exact MixRef.db_apply _ _ _ _ C o

theorem claim : Cert.Claim :=
  ⟨Cert.Mix.Gen.facts, Cert.MixIdeal.Gen.facts, Cert.MixRefIdeal.Gen.facts, Cert.Dx.Gen.facts,
    Cert.DxIdeal.Gen.facts, Cert.DxRefIdeal.Gen.facts, Cert.Win.Gen.facts, Cert.WinIdeal.Gen.facts,
    Cert.WinRefIdeal.Gen.facts, Cert.Afwd.Gen.facts, Cert.AfwdIdeal.Gen.facts, Cert.AfwdRefIdeal.Gen.facts,
    Cert.Bproj.Gen.facts, Cert.BprojIdeal.Gen.facts, Cert.BprojRefIdeal.Gen.facts, Cert.Bgrad.Gen.facts,
    Cert.BgradIdeal.Gen.facts, Cert.BgradRefIdeal.Gen.facts, Cert.Adam.Gen.facts, Cert.AdamIdeal.Gen.facts,
    Cert.AdamRefIdeal.Gen.facts, Cert.Small.Gen.facts, Cert.SmallIdeal.Gen.facts, Cert.SmallRefIdeal.Gen.facts,
    Cert.Pre_finite.Gen.facts, Cert.Pre_finite_bgrad.Gen.facts,
    fun m ρ _ => Cert.Mix.Gen.frame m ρ, fun m ρ _ => Cert.MixIdeal.Gen.frame m ρ,
    fun m ρ _ => Cert.MixIdeal.Gen.frame m ρ, frame_MixRef, fun m ρ _ => frame_MixRef m ρ trivial, DxEq.frame,
    fun m ρ _ => Cert.DxIdeal.Gen.frame m ρ, DxEq.frame_ref, WinEq.frame, fun m ρ _ => Cert.WinIdeal.Gen.frame m ρ,
    WinEq.frame_ref, AfwdEq.frame, fun m ρ _ => Cert.AfwdIdeal.Gen.frame m ρ, AfwdEq.frame_ref, BprojEq.frame,
    fun m ρ _ => Cert.BprojIdeal.Gen.frame m ρ, BprojEq.frame_ref,
    BgradEq.frame, fun m ρ _ => Cert.BgradIdeal.Gen.frame m ρ, fun m ρ _ => Cert.BgradIdeal.Gen.frame m ρ,
    BgradEq.frame_ref, fun m ρ _ => BgradEq.frame_ref m ρ trivial,
    AdamEq.frame, fun m ρ _ => Cert.AdamIdeal.Gen.frame m ρ, AdamEq.frame_ref,
    SmallEq.frame, fun m ρ _ => Cert.SmallIdeal.Gen.frame m ρ, SmallEq.frame_ref,
    trivial, algebraic_Mix, trivial, DxEq.algebraic, trivial, WinEq.algebraic, trivial, AfwdEq.algebraic, trivial,
    BprojEq.algebraic, trivial, BgradEq.algebraic, trivial, AdamEq.algebraic,
    trivial, SmallEq.algebraic⟩

end Cert.Proof

end
